-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpIdeal_inp_finite [hPre_inp_finite : Cert.Pre_inp_finite.Facts] (m : (ℓ : Loc Cert.InpIdeal.nD Cert.InpIdeal.τ Cert.InpIdeal.sig) → Buf (Elt Ideal) ℓ) : Prop :=
  ∀ c : Dev Cert.InpIdeal.nD,
    (Cert.Pre_inp_finite.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5))) = (fun _ => 1#1)

def Pre_InpReferenceIdeal (m : (ℓ : Loc Cert.InpReferenceIdeal.nD Cert.InpReferenceIdeal.τ Cert.InpReferenceIdeal.sig) → Buf (Elt Ideal) ℓ) : Prop :=
  True

def Pre_InpReferenceIdeal_inp_finite [hPre_inp_finite : Cert.Pre_inp_finite.Facts] (m : (ℓ : Loc Cert.InpReferenceIdeal.nD Cert.InpReferenceIdeal.τ Cert.InpReferenceIdeal.sig) → Buf (Elt Ideal) ℓ) : Prop :=
  ∀ c : Dev Cert.InpReferenceIdeal.nD,
    (Cert.Pre_inp_finite.fn (F := Ideal) (m ((c.tc : Thread Cert.InpReferenceIdeal.nD Cert.InpReferenceIdeal.τ).loc Cert.InpReferenceIdeal.main_arg0)) (m ((c.tc : Thread Cert.InpReferenceIdeal.nD Cert.InpReferenceIdeal.τ).loc Cert.InpReferenceIdeal.main_arg1)) (m ((c.tc : Thread Cert.InpReferenceIdeal.nD Cert.InpReferenceIdeal.τ).loc Cert.InpReferenceIdeal.main_arg2)) (m ((c.tc : Thread Cert.InpReferenceIdeal.nD Cert.InpReferenceIdeal.τ).loc Cert.InpReferenceIdeal.main_arg3)) (m ((c.tc : Thread Cert.InpReferenceIdeal.nD Cert.InpReferenceIdeal.τ).loc Cert.InpReferenceIdeal.main_arg4)) (m ((c.tc : Thread Cert.InpReferenceIdeal.nD Cert.InpReferenceIdeal.τ).loc Cert.InpReferenceIdeal.main_arg5))) = (fun _ => 1#1)

def Pre_InpNext (m : (ℓ : Loc Cert.InpNext.nD Cert.InpNext.τ Cert.InpNext.sig) → Buf (Elt Bits) ℓ) : Prop :=
  True

def Pre_InpNextIdeal (m : (ℓ : Loc Cert.InpNextIdeal.nD Cert.InpNextIdeal.τ Cert.InpNextIdeal.sig) → Buf (Elt Ideal) ℓ) : Prop :=
  True

def Pre_InpNextIdeal_inp_next_finite [hPre_inp_next_finite : Cert.Pre_inp_next_finite.Facts] (m : (ℓ : Loc Cert.InpNextIdeal.nD Cert.InpNextIdeal.τ Cert.InpNextIdeal.sig) → Buf (Elt Ideal) ℓ) : Prop :=
  ∀ c : Dev Cert.InpNextIdeal.nD,
    (Cert.Pre_inp_next_finite.fn (F := Ideal) (m ((c.tc : Thread Cert.InpNextIdeal.nD Cert.InpNextIdeal.τ).loc Cert.InpNextIdeal.main_arg0)) (m ((c.tc : Thread Cert.InpNextIdeal.nD Cert.InpNextIdeal.τ).loc Cert.InpNextIdeal.main_arg1)) (m ((c.tc : Thread Cert.InpNextIdeal.nD Cert.InpNextIdeal.τ).loc Cert.InpNextIdeal.main_arg2)) (m ((c.tc : Thread Cert.InpNextIdeal.nD Cert.InpNextIdeal.τ).loc Cert.InpNextIdeal.main_arg3)) (m ((c.tc : Thread Cert.InpNextIdeal.nD Cert.InpNextIdeal.τ).loc Cert.InpNextIdeal.main_arg4))) = (fun _ => 1#1)

def Pre_InpNextReferenceIdeal (m : (ℓ : Loc Cert.InpNextReferenceIdeal.nD Cert.InpNextReferenceIdeal.τ Cert.InpNextReferenceIdeal.sig) → Buf (Elt Ideal) ℓ) : Prop :=
  True

def Pre_InpNextReferenceIdeal_inp_next_finite [hPre_inp_next_finite : Cert.Pre_inp_next_finite.Facts] (m : (ℓ : Loc Cert.InpNextReferenceIdeal.nD Cert.InpNextReferenceIdeal.τ Cert.InpNextReferenceIdeal.sig) → Buf (Elt Ideal) ℓ) : Prop :=
  ∀ c : Dev Cert.InpNextReferenceIdeal.nD,
    (Cert.Pre_inp_next_finite.fn (F := Ideal) (m ((c.tc : Thread Cert.InpNextReferenceIdeal.nD Cert.InpNextReferenceIdeal.τ).loc Cert.InpNextReferenceIdeal.main_arg0)) (m ((c.tc : Thread Cert.InpNextReferenceIdeal.nD Cert.InpNextReferenceIdeal.τ).loc Cert.InpNextReferenceIdeal.main_arg1)) (m ((c.tc : Thread Cert.InpNextReferenceIdeal.nD Cert.InpNextReferenceIdeal.τ).loc Cert.InpNextReferenceIdeal.main_arg2)) (m ((c.tc : Thread Cert.InpNextReferenceIdeal.nD Cert.InpNextReferenceIdeal.τ).loc Cert.InpNextReferenceIdeal.main_arg3)) (m ((c.tc : Thread Cert.InpNextReferenceIdeal.nD Cert.InpNextReferenceIdeal.τ).loc Cert.InpNextReferenceIdeal.main_arg4))) = (fun _ => 1#1)

def Pre_NextKernel (m : (ℓ : Loc Cert.NextKernel.nD Cert.NextKernel.τ Cert.NextKernel.sig) → Buf (Elt Bits) ℓ) : Prop :=
  True

def Pre_NextKernelIdeal (m : (ℓ : Loc Cert.NextKernelIdeal.nD Cert.NextKernelIdeal.τ Cert.NextKernelIdeal.sig) → Buf (Elt Ideal) ℓ) : Prop :=
  True

def Pre_NextKernelIdeal_finite [hPre_finite : Cert.Pre_finite.Facts] (m : (ℓ : Loc Cert.NextKernelIdeal.nD Cert.NextKernelIdeal.τ Cert.NextKernelIdeal.sig) → Buf (Elt Ideal) ℓ) : Prop :=
  ∀ c : Dev Cert.NextKernelIdeal.nD,
    (Cert.Pre_finite.fn (F := Ideal) (m ((c.tc : Thread Cert.NextKernelIdeal.nD Cert.NextKernelIdeal.τ).loc Cert.NextKernelIdeal.main_arg0)) (m ((c.tc : Thread Cert.NextKernelIdeal.nD Cert.NextKernelIdeal.τ).loc Cert.NextKernelIdeal.main_arg1)) (m ((c.tc : Thread Cert.NextKernelIdeal.nD Cert.NextKernelIdeal.τ).loc Cert.NextKernelIdeal.main_arg2)) (m ((c.tc : Thread Cert.NextKernelIdeal.nD Cert.NextKernelIdeal.τ).loc Cert.NextKernelIdeal.main_arg3)) (m ((c.tc : Thread Cert.NextKernelIdeal.nD Cert.NextKernelIdeal.τ).loc Cert.NextKernelIdeal.main_arg4)) (m ((c.tc : Thread Cert.NextKernelIdeal.nD Cert.NextKernelIdeal.τ).loc Cert.NextKernelIdeal.main_arg5)) (m ((c.tc : Thread Cert.NextKernelIdeal.nD Cert.NextKernelIdeal.τ).loc Cert.NextKernelIdeal.main_arg6))) = (fun _ => 1#1)

def Pre_NextReferenceIdeal (m : (ℓ : Loc Cert.NextReferenceIdeal.nD Cert.NextReferenceIdeal.τ Cert.NextReferenceIdeal.sig) → Buf (Elt Ideal) ℓ) : Prop :=
  True

def Pre_NextReferenceIdeal_finite [hPre_finite : Cert.Pre_finite.Facts] (m : (ℓ : Loc Cert.NextReferenceIdeal.nD Cert.NextReferenceIdeal.τ Cert.NextReferenceIdeal.sig) → Buf (Elt Ideal) ℓ) : Prop :=
  ∀ c : Dev Cert.NextReferenceIdeal.nD,
    (Cert.Pre_finite.fn (F := Ideal) (m ((c.tc : Thread Cert.NextReferenceIdeal.nD Cert.NextReferenceIdeal.τ).loc Cert.NextReferenceIdeal.main_arg0)) (m ((c.tc : Thread Cert.NextReferenceIdeal.nD Cert.NextReferenceIdeal.τ).loc Cert.NextReferenceIdeal.main_arg1)) (m ((c.tc : Thread Cert.NextReferenceIdeal.nD Cert.NextReferenceIdeal.τ).loc Cert.NextReferenceIdeal.main_arg2)) (m ((c.tc : Thread Cert.NextReferenceIdeal.nD Cert.NextReferenceIdeal.τ).loc Cert.NextReferenceIdeal.main_arg3)) (m ((c.tc : Thread Cert.NextReferenceIdeal.nD Cert.NextReferenceIdeal.τ).loc Cert.NextReferenceIdeal.main_arg4)) (m ((c.tc : Thread Cert.NextReferenceIdeal.nD Cert.NextReferenceIdeal.τ).loc Cert.NextReferenceIdeal.main_arg5)) (m ((c.tc : Thread Cert.NextReferenceIdeal.nD Cert.NextReferenceIdeal.τ).loc Cert.NextReferenceIdeal.main_arg6))) = (fun _ => 1#1)

def Pre_MixNext (m : (ℓ : Loc Cert.MixNext.nD Cert.MixNext.τ Cert.MixNext.sig) → Buf (Elt Bits) ℓ) : Prop :=
  True

def Pre_MixNextIdeal (m : (ℓ : Loc Cert.MixNextIdeal.nD Cert.MixNextIdeal.τ Cert.MixNextIdeal.sig) → Buf (Elt Ideal) ℓ) : Prop :=
  True

def Pre_MixNextReferenceIdeal (m : (ℓ : Loc Cert.MixNextReferenceIdeal.nD Cert.MixNextReferenceIdeal.τ Cert.MixNextReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5))
      ∧ r.2.sem = fun _ => 0)

def quiescent_InpIdeal_pre_inp_finite [hInpIdeal : Cert.InpIdeal.Facts] [hPre_inp_finite : Cert.Pre_inp_finite.Facts] : Prop :=
  ∀ (m : (ℓ : Loc Cert.InpIdeal.nD Cert.InpIdeal.τ Cert.InpIdeal.sig) → Buf (Elt Ideal) ℓ) (g : Dev Cert.InpIdeal.nD → PrngReg), Pre_InpIdeal_inp_finite m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5))
      ∧ r.2.sem = fun _ => 0)

def quiescent_InpReferenceIdeal [hInpReferenceIdeal : Cert.InpReferenceIdeal.Facts] : Prop :=
  ∀ (m : (ℓ : Loc Cert.InpReferenceIdeal.nD Cert.InpReferenceIdeal.τ Cert.InpReferenceIdeal.sig) → Buf (Elt Ideal) ℓ) (g : Dev Cert.InpReferenceIdeal.nD → PrngReg), Pre_InpReferenceIdeal m →
    θ_run (Cert.InpReferenceIdeal.defs (F := Ideal)) (onTc (τ := Cert.InpReferenceIdeal.τ) (Cert.InpReferenceIdeal.main (F := Ideal))) ⟨m, fun _ => 0, g⟩ (fun r => (∀ c : Dev Cert.InpReferenceIdeal.nD,
      r.2.mem ((c.tc : Thread Cert.InpReferenceIdeal.nD Cert.InpReferenceIdeal.τ).loc Cert.InpReferenceIdeal.main_arg0) = m ((c.tc : Thread Cert.InpReferenceIdeal.nD Cert.InpReferenceIdeal.τ).loc Cert.InpReferenceIdeal.main_arg0)
      ∧ r.2.mem ((c.tc : Thread Cert.InpReferenceIdeal.nD Cert.InpReferenceIdeal.τ).loc Cert.InpReferenceIdeal.main_arg1) = m ((c.tc : Thread Cert.InpReferenceIdeal.nD Cert.InpReferenceIdeal.τ).loc Cert.InpReferenceIdeal.main_arg1)
      ∧ r.2.mem ((c.tc : Thread Cert.InpReferenceIdeal.nD Cert.InpReferenceIdeal.τ).loc Cert.InpReferenceIdeal.main_arg2) = m ((c.tc : Thread Cert.InpReferenceIdeal.nD Cert.InpReferenceIdeal.τ).loc Cert.InpReferenceIdeal.main_arg2)
      ∧ r.2.mem ((c.tc : Thread Cert.InpReferenceIdeal.nD Cert.InpReferenceIdeal.τ).loc Cert.InpReferenceIdeal.main_arg3) = m ((c.tc : Thread Cert.InpReferenceIdeal.nD Cert.InpReferenceIdeal.τ).loc Cert.InpReferenceIdeal.main_arg3)
      ∧ r.2.mem ((c.tc : Thread Cert.InpReferenceIdeal.nD Cert.InpReferenceIdeal.τ).loc Cert.InpReferenceIdeal.main_arg4) = m ((c.tc : Thread Cert.InpReferenceIdeal.nD Cert.InpReferenceIdeal.τ).loc Cert.InpReferenceIdeal.main_arg4)
      ∧ r.2.mem ((c.tc : Thread Cert.InpReferenceIdeal.nD Cert.InpReferenceIdeal.τ).loc Cert.InpReferenceIdeal.main_arg5) = m ((c.tc : Thread Cert.InpReferenceIdeal.nD Cert.InpReferenceIdeal.τ).loc Cert.InpReferenceIdeal.main_arg5))
      ∧ r.2.sem = fun _ => 0)

def quiescent_InpReferenceIdeal_pre_inp_finite [hInpReferenceIdeal : Cert.InpReferenceIdeal.Facts] [hPre_inp_finite : Cert.Pre_inp_finite.Facts] : Prop :=
  ∀ (m : (ℓ : Loc Cert.InpReferenceIdeal.nD Cert.InpReferenceIdeal.τ Cert.InpReferenceIdeal.sig) → Buf (Elt Ideal) ℓ) (g : Dev Cert.InpReferenceIdeal.nD → PrngReg), Pre_InpReferenceIdeal_inp_finite m →
    θ_run (Cert.InpReferenceIdeal.defs (F := Ideal)) (onTc (τ := Cert.InpReferenceIdeal.τ) (Cert.InpReferenceIdeal.main (F := Ideal))) ⟨m, fun _ => 0, g⟩ (fun r => (∀ c : Dev Cert.InpReferenceIdeal.nD,
      r.2.mem ((c.tc : Thread Cert.InpReferenceIdeal.nD Cert.InpReferenceIdeal.τ).loc Cert.InpReferenceIdeal.main_arg0) = m ((c.tc : Thread Cert.InpReferenceIdeal.nD Cert.InpReferenceIdeal.τ).loc Cert.InpReferenceIdeal.main_arg0)
      ∧ r.2.mem ((c.tc : Thread Cert.InpReferenceIdeal.nD Cert.InpReferenceIdeal.τ).loc Cert.InpReferenceIdeal.main_arg1) = m ((c.tc : Thread Cert.InpReferenceIdeal.nD Cert.InpReferenceIdeal.τ).loc Cert.InpReferenceIdeal.main_arg1)
      ∧ r.2.mem ((c.tc : Thread Cert.InpReferenceIdeal.nD Cert.InpReferenceIdeal.τ).loc Cert.InpReferenceIdeal.main_arg2) = m ((c.tc : Thread Cert.InpReferenceIdeal.nD Cert.InpReferenceIdeal.τ).loc Cert.InpReferenceIdeal.main_arg2)
      ∧ r.2.mem ((c.tc : Thread Cert.InpReferenceIdeal.nD Cert.InpReferenceIdeal.τ).loc Cert.InpReferenceIdeal.main_arg3) = m ((c.tc : Thread Cert.InpReferenceIdeal.nD Cert.InpReferenceIdeal.τ).loc Cert.InpReferenceIdeal.main_arg3)
      ∧ r.2.mem ((c.tc : Thread Cert.InpReferenceIdeal.nD Cert.InpReferenceIdeal.τ).loc Cert.InpReferenceIdeal.main_arg4) = m ((c.tc : Thread Cert.InpReferenceIdeal.nD Cert.InpReferenceIdeal.τ).loc Cert.InpReferenceIdeal.main_arg4)
      ∧ r.2.mem ((c.tc : Thread Cert.InpReferenceIdeal.nD Cert.InpReferenceIdeal.τ).loc Cert.InpReferenceIdeal.main_arg5) = m ((c.tc : Thread Cert.InpReferenceIdeal.nD Cert.InpReferenceIdeal.τ).loc Cert.InpReferenceIdeal.main_arg5))
      ∧ r.2.sem = fun _ => 0)

def quiescent_InpNext [hInpNext : Cert.InpNext.Facts] : Prop :=
  ∀ (m : (ℓ : Loc Cert.InpNext.nD Cert.InpNext.τ Cert.InpNext.sig) → Buf (Elt Bits) ℓ) (g : Dev Cert.InpNext.nD → PrngReg), Pre_InpNext m →
    θ_run (Cert.InpNext.defs (F := Bits)) (onTc (τ := Cert.InpNext.τ) (Cert.InpNext.main (F := Bits))) ⟨m, fun _ => 0, g⟩ (fun r => (∀ c : Dev Cert.InpNext.nD,
      r.2.mem ((c.tc : Thread Cert.InpNext.nD Cert.InpNext.τ).loc Cert.InpNext.main_arg0) = m ((c.tc : Thread Cert.InpNext.nD Cert.InpNext.τ).loc Cert.InpNext.main_arg0)
      ∧ r.2.mem ((c.tc : Thread Cert.InpNext.nD Cert.InpNext.τ).loc Cert.InpNext.main_arg1) = m ((c.tc : Thread Cert.InpNext.nD Cert.InpNext.τ).loc Cert.InpNext.main_arg1)
      ∧ r.2.mem ((c.tc : Thread Cert.InpNext.nD Cert.InpNext.τ).loc Cert.InpNext.main_arg2) = m ((c.tc : Thread Cert.InpNext.nD Cert.InpNext.τ).loc Cert.InpNext.main_arg2)
      ∧ r.2.mem ((c.tc : Thread Cert.InpNext.nD Cert.InpNext.τ).loc Cert.InpNext.main_arg3) = m ((c.tc : Thread Cert.InpNext.nD Cert.InpNext.τ).loc Cert.InpNext.main_arg3)
      ∧ r.2.mem ((c.tc : Thread Cert.InpNext.nD Cert.InpNext.τ).loc Cert.InpNext.main_arg4) = m ((c.tc : Thread Cert.InpNext.nD Cert.InpNext.τ).loc Cert.InpNext.main_arg4))
      ∧ r.2.sem = fun _ => 0)

def quiescent_InpNextIdeal [hInpNextIdeal : Cert.InpNextIdeal.Facts] : Prop :=
  ∀ (m : (ℓ : Loc Cert.InpNextIdeal.nD Cert.InpNextIdeal.τ Cert.InpNextIdeal.sig) → Buf (Elt Ideal) ℓ) (g : Dev Cert.InpNextIdeal.nD → PrngReg), Pre_InpNextIdeal m →
    θ_run (Cert.InpNextIdeal.defs (F := Ideal)) (onTc (τ := Cert.InpNextIdeal.τ) (Cert.InpNextIdeal.main (F := Ideal))) ⟨m, fun _ => 0, g⟩ (fun r => (∀ c : Dev Cert.InpNextIdeal.nD,
      r.2.mem ((c.tc : Thread Cert.InpNextIdeal.nD Cert.InpNextIdeal.τ).loc Cert.InpNextIdeal.main_arg0) = m ((c.tc : Thread Cert.InpNextIdeal.nD Cert.InpNextIdeal.τ).loc Cert.InpNextIdeal.main_arg0)
      ∧ r.2.mem ((c.tc : Thread Cert.InpNextIdeal.nD Cert.InpNextIdeal.τ).loc Cert.InpNextIdeal.main_arg1) = m ((c.tc : Thread Cert.InpNextIdeal.nD Cert.InpNextIdeal.τ).loc Cert.InpNextIdeal.main_arg1)
      ∧ r.2.mem ((c.tc : Thread Cert.InpNextIdeal.nD Cert.InpNextIdeal.τ).loc Cert.InpNextIdeal.main_arg2) = m ((c.tc : Thread Cert.InpNextIdeal.nD Cert.InpNextIdeal.τ).loc Cert.InpNextIdeal.main_arg2)
      ∧ r.2.mem ((c.tc : Thread Cert.InpNextIdeal.nD Cert.InpNextIdeal.τ).loc Cert.InpNextIdeal.main_arg3) = m ((c.tc : Thread Cert.InpNextIdeal.nD Cert.InpNextIdeal.τ).loc Cert.InpNextIdeal.main_arg3)
      ∧ r.2.mem ((c.tc : Thread Cert.InpNextIdeal.nD Cert.InpNextIdeal.τ).loc Cert.InpNextIdeal.main_arg4) = m ((c.tc : Thread Cert.InpNextIdeal.nD Cert.InpNextIdeal.τ).loc Cert.InpNextIdeal.main_arg4))
      ∧ r.2.sem = fun _ => 0)

def quiescent_InpNextIdeal_pre_inp_next_finite [hInpNextIdeal : Cert.InpNextIdeal.Facts] [hPre_inp_next_finite : Cert.Pre_inp_next_finite.Facts] : Prop :=
  ∀ (m : (ℓ : Loc Cert.InpNextIdeal.nD Cert.InpNextIdeal.τ Cert.InpNextIdeal.sig) → Buf (Elt Ideal) ℓ) (g : Dev Cert.InpNextIdeal.nD → PrngReg), Pre_InpNextIdeal_inp_next_finite m →
    θ_run (Cert.InpNextIdeal.defs (F := Ideal)) (onTc (τ := Cert.InpNextIdeal.τ) (Cert.InpNextIdeal.main (F := Ideal))) ⟨m, fun _ => 0, g⟩ (fun r => (∀ c : Dev Cert.InpNextIdeal.nD,
      r.2.mem ((c.tc : Thread Cert.InpNextIdeal.nD Cert.InpNextIdeal.τ).loc Cert.InpNextIdeal.main_arg0) = m ((c.tc : Thread Cert.InpNextIdeal.nD Cert.InpNextIdeal.τ).loc Cert.InpNextIdeal.main_arg0)
      ∧ r.2.mem ((c.tc : Thread Cert.InpNextIdeal.nD Cert.InpNextIdeal.τ).loc Cert.InpNextIdeal.main_arg1) = m ((c.tc : Thread Cert.InpNextIdeal.nD Cert.InpNextIdeal.τ).loc Cert.InpNextIdeal.main_arg1)
      ∧ r.2.mem ((c.tc : Thread Cert.InpNextIdeal.nD Cert.InpNextIdeal.τ).loc Cert.InpNextIdeal.main_arg2) = m ((c.tc : Thread Cert.InpNextIdeal.nD Cert.InpNextIdeal.τ).loc Cert.InpNextIdeal.main_arg2)
      ∧ r.2.mem ((c.tc : Thread Cert.InpNextIdeal.nD Cert.InpNextIdeal.τ).loc Cert.InpNextIdeal.main_arg3) = m ((c.tc : Thread Cert.InpNextIdeal.nD Cert.InpNextIdeal.τ).loc Cert.InpNextIdeal.main_arg3)
      ∧ r.2.mem ((c.tc : Thread Cert.InpNextIdeal.nD Cert.InpNextIdeal.τ).loc Cert.InpNextIdeal.main_arg4) = m ((c.tc : Thread Cert.InpNextIdeal.nD Cert.InpNextIdeal.τ).loc Cert.InpNextIdeal.main_arg4))
      ∧ r.2.sem = fun _ => 0)

def quiescent_InpNextReferenceIdeal [hInpNextReferenceIdeal : Cert.InpNextReferenceIdeal.Facts] : Prop :=
  ∀ (m : (ℓ : Loc Cert.InpNextReferenceIdeal.nD Cert.InpNextReferenceIdeal.τ Cert.InpNextReferenceIdeal.sig) → Buf (Elt Ideal) ℓ) (g : Dev Cert.InpNextReferenceIdeal.nD → PrngReg), Pre_InpNextReferenceIdeal m →
    θ_run (Cert.InpNextReferenceIdeal.defs (F := Ideal)) (onTc (τ := Cert.InpNextReferenceIdeal.τ) (Cert.InpNextReferenceIdeal.main (F := Ideal))) ⟨m, fun _ => 0, g⟩ (fun r => (∀ c : Dev Cert.InpNextReferenceIdeal.nD,
      r.2.mem ((c.tc : Thread Cert.InpNextReferenceIdeal.nD Cert.InpNextReferenceIdeal.τ).loc Cert.InpNextReferenceIdeal.main_arg0) = m ((c.tc : Thread Cert.InpNextReferenceIdeal.nD Cert.InpNextReferenceIdeal.τ).loc Cert.InpNextReferenceIdeal.main_arg0)
      ∧ r.2.mem ((c.tc : Thread Cert.InpNextReferenceIdeal.nD Cert.InpNextReferenceIdeal.τ).loc Cert.InpNextReferenceIdeal.main_arg1) = m ((c.tc : Thread Cert.InpNextReferenceIdeal.nD Cert.InpNextReferenceIdeal.τ).loc Cert.InpNextReferenceIdeal.main_arg1)
      ∧ r.2.mem ((c.tc : Thread Cert.InpNextReferenceIdeal.nD Cert.InpNextReferenceIdeal.τ).loc Cert.InpNextReferenceIdeal.main_arg2) = m ((c.tc : Thread Cert.InpNextReferenceIdeal.nD Cert.InpNextReferenceIdeal.τ).loc Cert.InpNextReferenceIdeal.main_arg2)
      ∧ r.2.mem ((c.tc : Thread Cert.InpNextReferenceIdeal.nD Cert.InpNextReferenceIdeal.τ).loc Cert.InpNextReferenceIdeal.main_arg3) = m ((c.tc : Thread Cert.InpNextReferenceIdeal.nD Cert.InpNextReferenceIdeal.τ).loc Cert.InpNextReferenceIdeal.main_arg3)
      ∧ r.2.mem ((c.tc : Thread Cert.InpNextReferenceIdeal.nD Cert.InpNextReferenceIdeal.τ).loc Cert.InpNextReferenceIdeal.main_arg4) = m ((c.tc : Thread Cert.InpNextReferenceIdeal.nD Cert.InpNextReferenceIdeal.τ).loc Cert.InpNextReferenceIdeal.main_arg4))
      ∧ r.2.sem = fun _ => 0)

def quiescent_InpNextReferenceIdeal_pre_inp_next_finite [hInpNextReferenceIdeal : Cert.InpNextReferenceIdeal.Facts] [hPre_inp_next_finite : Cert.Pre_inp_next_finite.Facts] : Prop :=
  ∀ (m : (ℓ : Loc Cert.InpNextReferenceIdeal.nD Cert.InpNextReferenceIdeal.τ Cert.InpNextReferenceIdeal.sig) → Buf (Elt Ideal) ℓ) (g : Dev Cert.InpNextReferenceIdeal.nD → PrngReg), Pre_InpNextReferenceIdeal_inp_next_finite m →
    θ_run (Cert.InpNextReferenceIdeal.defs (F := Ideal)) (onTc (τ := Cert.InpNextReferenceIdeal.τ) (Cert.InpNextReferenceIdeal.main (F := Ideal))) ⟨m, fun _ => 0, g⟩ (fun r => (∀ c : Dev Cert.InpNextReferenceIdeal.nD,
      r.2.mem ((c.tc : Thread Cert.InpNextReferenceIdeal.nD Cert.InpNextReferenceIdeal.τ).loc Cert.InpNextReferenceIdeal.main_arg0) = m ((c.tc : Thread Cert.InpNextReferenceIdeal.nD Cert.InpNextReferenceIdeal.τ).loc Cert.InpNextReferenceIdeal.main_arg0)
      ∧ r.2.mem ((c.tc : Thread Cert.InpNextReferenceIdeal.nD Cert.InpNextReferenceIdeal.τ).loc Cert.InpNextReferenceIdeal.main_arg1) = m ((c.tc : Thread Cert.InpNextReferenceIdeal.nD Cert.InpNextReferenceIdeal.τ).loc Cert.InpNextReferenceIdeal.main_arg1)
      ∧ r.2.mem ((c.tc : Thread Cert.InpNextReferenceIdeal.nD Cert.InpNextReferenceIdeal.τ).loc Cert.InpNextReferenceIdeal.main_arg2) = m ((c.tc : Thread Cert.InpNextReferenceIdeal.nD Cert.InpNextReferenceIdeal.τ).loc Cert.InpNextReferenceIdeal.main_arg2)
      ∧ r.2.mem ((c.tc : Thread Cert.InpNextReferenceIdeal.nD Cert.InpNextReferenceIdeal.τ).loc Cert.InpNextReferenceIdeal.main_arg3) = m ((c.tc : Thread Cert.InpNextReferenceIdeal.nD Cert.InpNextReferenceIdeal.τ).loc Cert.InpNextReferenceIdeal.main_arg3)
      ∧ r.2.mem ((c.tc : Thread Cert.InpNextReferenceIdeal.nD Cert.InpNextReferenceIdeal.τ).loc Cert.InpNextReferenceIdeal.main_arg4) = m ((c.tc : Thread Cert.InpNextReferenceIdeal.nD Cert.InpNextReferenceIdeal.τ).loc Cert.InpNextReferenceIdeal.main_arg4))
      ∧ r.2.sem = fun _ => 0)

def quiescent_NextKernel [hNextKernel : Cert.NextKernel.Facts] : Prop :=
  ∀ (m : (ℓ : Loc Cert.NextKernel.nD Cert.NextKernel.τ Cert.NextKernel.sig) → Buf (Elt Bits) ℓ) (g : Dev Cert.NextKernel.nD → PrngReg), Pre_NextKernel m →
    θ_run (Cert.NextKernel.defs (F := Bits)) (onTc (τ := Cert.NextKernel.τ) (Cert.NextKernel.main (F := Bits))) ⟨m, fun _ => 0, g⟩ (fun r => (∀ c : Dev Cert.NextKernel.nD,
      r.2.mem ((c.tc : Thread Cert.NextKernel.nD Cert.NextKernel.τ).loc Cert.NextKernel.main_arg0) = m ((c.tc : Thread Cert.NextKernel.nD Cert.NextKernel.τ).loc Cert.NextKernel.main_arg0)
      ∧ r.2.mem ((c.tc : Thread Cert.NextKernel.nD Cert.NextKernel.τ).loc Cert.NextKernel.main_arg1) = m ((c.tc : Thread Cert.NextKernel.nD Cert.NextKernel.τ).loc Cert.NextKernel.main_arg1)
      ∧ r.2.mem ((c.tc : Thread Cert.NextKernel.nD Cert.NextKernel.τ).loc Cert.NextKernel.main_arg2) = m ((c.tc : Thread Cert.NextKernel.nD Cert.NextKernel.τ).loc Cert.NextKernel.main_arg2)
      ∧ r.2.mem ((c.tc : Thread Cert.NextKernel.nD Cert.NextKernel.τ).loc Cert.NextKernel.main_arg3) = m ((c.tc : Thread Cert.NextKernel.nD Cert.NextKernel.τ).loc Cert.NextKernel.main_arg3)
      ∧ r.2.mem ((c.tc : Thread Cert.NextKernel.nD Cert.NextKernel.τ).loc Cert.NextKernel.main_arg4) = m ((c.tc : Thread Cert.NextKernel.nD Cert.NextKernel.τ).loc Cert.NextKernel.main_arg4)
      ∧ r.2.mem ((c.tc : Thread Cert.NextKernel.nD Cert.NextKernel.τ).loc Cert.NextKernel.main_arg5) = m ((c.tc : Thread Cert.NextKernel.nD Cert.NextKernel.τ).loc Cert.NextKernel.main_arg5)
      ∧ r.2.mem ((c.tc : Thread Cert.NextKernel.nD Cert.NextKernel.τ).loc Cert.NextKernel.main_arg6) = m ((c.tc : Thread Cert.NextKernel.nD Cert.NextKernel.τ).loc Cert.NextKernel.main_arg6))
      ∧ r.2.sem = fun _ => 0)

def quiescent_NextKernelIdeal [hNextKernelIdeal : Cert.NextKernelIdeal.Facts] : Prop :=
  ∀ (m : (ℓ : Loc Cert.NextKernelIdeal.nD Cert.NextKernelIdeal.τ Cert.NextKernelIdeal.sig) → Buf (Elt Ideal) ℓ) (g : Dev Cert.NextKernelIdeal.nD → PrngReg), Pre_NextKernelIdeal m →
    θ_run (Cert.NextKernelIdeal.defs (F := Ideal)) (onTc (τ := Cert.NextKernelIdeal.τ) (Cert.NextKernelIdeal.main (F := Ideal))) ⟨m, fun _ => 0, g⟩ (fun r => (∀ c : Dev Cert.NextKernelIdeal.nD,
      r.2.mem ((c.tc : Thread Cert.NextKernelIdeal.nD Cert.NextKernelIdeal.τ).loc Cert.NextKernelIdeal.main_arg0) = m ((c.tc : Thread Cert.NextKernelIdeal.nD Cert.NextKernelIdeal.τ).loc Cert.NextKernelIdeal.main_arg0)
      ∧ r.2.mem ((c.tc : Thread Cert.NextKernelIdeal.nD Cert.NextKernelIdeal.τ).loc Cert.NextKernelIdeal.main_arg1) = m ((c.tc : Thread Cert.NextKernelIdeal.nD Cert.NextKernelIdeal.τ).loc Cert.NextKernelIdeal.main_arg1)
      ∧ r.2.mem ((c.tc : Thread Cert.NextKernelIdeal.nD Cert.NextKernelIdeal.τ).loc Cert.NextKernelIdeal.main_arg2) = m ((c.tc : Thread Cert.NextKernelIdeal.nD Cert.NextKernelIdeal.τ).loc Cert.NextKernelIdeal.main_arg2)
      ∧ r.2.mem ((c.tc : Thread Cert.NextKernelIdeal.nD Cert.NextKernelIdeal.τ).loc Cert.NextKernelIdeal.main_arg3) = m ((c.tc : Thread Cert.NextKernelIdeal.nD Cert.NextKernelIdeal.τ).loc Cert.NextKernelIdeal.main_arg3)
      ∧ r.2.mem ((c.tc : Thread Cert.NextKernelIdeal.nD Cert.NextKernelIdeal.τ).loc Cert.NextKernelIdeal.main_arg4) = m ((c.tc : Thread Cert.NextKernelIdeal.nD Cert.NextKernelIdeal.τ).loc Cert.NextKernelIdeal.main_arg4)
      ∧ r.2.mem ((c.tc : Thread Cert.NextKernelIdeal.nD Cert.NextKernelIdeal.τ).loc Cert.NextKernelIdeal.main_arg5) = m ((c.tc : Thread Cert.NextKernelIdeal.nD Cert.NextKernelIdeal.τ).loc Cert.NextKernelIdeal.main_arg5)
      ∧ r.2.mem ((c.tc : Thread Cert.NextKernelIdeal.nD Cert.NextKernelIdeal.τ).loc Cert.NextKernelIdeal.main_arg6) = m ((c.tc : Thread Cert.NextKernelIdeal.nD Cert.NextKernelIdeal.τ).loc Cert.NextKernelIdeal.main_arg6))
      ∧ r.2.sem = fun _ => 0)

def quiescent_NextKernelIdeal_pre_finite [hNextKernelIdeal : Cert.NextKernelIdeal.Facts] [hPre_finite : Cert.Pre_finite.Facts] : Prop :=
  ∀ (m : (ℓ : Loc Cert.NextKernelIdeal.nD Cert.NextKernelIdeal.τ Cert.NextKernelIdeal.sig) → Buf (Elt Ideal) ℓ) (g : Dev Cert.NextKernelIdeal.nD → PrngReg), Pre_NextKernelIdeal_finite m →
    θ_run (Cert.NextKernelIdeal.defs (F := Ideal)) (onTc (τ := Cert.NextKernelIdeal.τ) (Cert.NextKernelIdeal.main (F := Ideal))) ⟨m, fun _ => 0, g⟩ (fun r => (∀ c : Dev Cert.NextKernelIdeal.nD,
      r.2.mem ((c.tc : Thread Cert.NextKernelIdeal.nD Cert.NextKernelIdeal.τ).loc Cert.NextKernelIdeal.main_arg0) = m ((c.tc : Thread Cert.NextKernelIdeal.nD Cert.NextKernelIdeal.τ).loc Cert.NextKernelIdeal.main_arg0)
      ∧ r.2.mem ((c.tc : Thread Cert.NextKernelIdeal.nD Cert.NextKernelIdeal.τ).loc Cert.NextKernelIdeal.main_arg1) = m ((c.tc : Thread Cert.NextKernelIdeal.nD Cert.NextKernelIdeal.τ).loc Cert.NextKernelIdeal.main_arg1)
      ∧ r.2.mem ((c.tc : Thread Cert.NextKernelIdeal.nD Cert.NextKernelIdeal.τ).loc Cert.NextKernelIdeal.main_arg2) = m ((c.tc : Thread Cert.NextKernelIdeal.nD Cert.NextKernelIdeal.τ).loc Cert.NextKernelIdeal.main_arg2)
      ∧ r.2.mem ((c.tc : Thread Cert.NextKernelIdeal.nD Cert.NextKernelIdeal.τ).loc Cert.NextKernelIdeal.main_arg3) = m ((c.tc : Thread Cert.NextKernelIdeal.nD Cert.NextKernelIdeal.τ).loc Cert.NextKernelIdeal.main_arg3)
      ∧ r.2.mem ((c.tc : Thread Cert.NextKernelIdeal.nD Cert.NextKernelIdeal.τ).loc Cert.NextKernelIdeal.main_arg4) = m ((c.tc : Thread Cert.NextKernelIdeal.nD Cert.NextKernelIdeal.τ).loc Cert.NextKernelIdeal.main_arg4)
      ∧ r.2.mem ((c.tc : Thread Cert.NextKernelIdeal.nD Cert.NextKernelIdeal.τ).loc Cert.NextKernelIdeal.main_arg5) = m ((c.tc : Thread Cert.NextKernelIdeal.nD Cert.NextKernelIdeal.τ).loc Cert.NextKernelIdeal.main_arg5)
      ∧ r.2.mem ((c.tc : Thread Cert.NextKernelIdeal.nD Cert.NextKernelIdeal.τ).loc Cert.NextKernelIdeal.main_arg6) = m ((c.tc : Thread Cert.NextKernelIdeal.nD Cert.NextKernelIdeal.τ).loc Cert.NextKernelIdeal.main_arg6))
      ∧ r.2.sem = fun _ => 0)

def quiescent_NextReferenceIdeal [hNextReferenceIdeal : Cert.NextReferenceIdeal.Facts] : Prop :=
  ∀ (m : (ℓ : Loc Cert.NextReferenceIdeal.nD Cert.NextReferenceIdeal.τ Cert.NextReferenceIdeal.sig) → Buf (Elt Ideal) ℓ) (g : Dev Cert.NextReferenceIdeal.nD → PrngReg), Pre_NextReferenceIdeal m →
    θ_run (Cert.NextReferenceIdeal.defs (F := Ideal)) (onTc (τ := Cert.NextReferenceIdeal.τ) (Cert.NextReferenceIdeal.main (F := Ideal))) ⟨m, fun _ => 0, g⟩ (fun r => (∀ c : Dev Cert.NextReferenceIdeal.nD,
      r.2.mem ((c.tc : Thread Cert.NextReferenceIdeal.nD Cert.NextReferenceIdeal.τ).loc Cert.NextReferenceIdeal.main_arg0) = m ((c.tc : Thread Cert.NextReferenceIdeal.nD Cert.NextReferenceIdeal.τ).loc Cert.NextReferenceIdeal.main_arg0)
      ∧ r.2.mem ((c.tc : Thread Cert.NextReferenceIdeal.nD Cert.NextReferenceIdeal.τ).loc Cert.NextReferenceIdeal.main_arg1) = m ((c.tc : Thread Cert.NextReferenceIdeal.nD Cert.NextReferenceIdeal.τ).loc Cert.NextReferenceIdeal.main_arg1)
      ∧ r.2.mem ((c.tc : Thread Cert.NextReferenceIdeal.nD Cert.NextReferenceIdeal.τ).loc Cert.NextReferenceIdeal.main_arg2) = m ((c.tc : Thread Cert.NextReferenceIdeal.nD Cert.NextReferenceIdeal.τ).loc Cert.NextReferenceIdeal.main_arg2)
      ∧ r.2.mem ((c.tc : Thread Cert.NextReferenceIdeal.nD Cert.NextReferenceIdeal.τ).loc Cert.NextReferenceIdeal.main_arg3) = m ((c.tc : Thread Cert.NextReferenceIdeal.nD Cert.NextReferenceIdeal.τ).loc Cert.NextReferenceIdeal.main_arg3)
      ∧ r.2.mem ((c.tc : Thread Cert.NextReferenceIdeal.nD Cert.NextReferenceIdeal.τ).loc Cert.NextReferenceIdeal.main_arg4) = m ((c.tc : Thread Cert.NextReferenceIdeal.nD Cert.NextReferenceIdeal.τ).loc Cert.NextReferenceIdeal.main_arg4)
      ∧ r.2.mem ((c.tc : Thread Cert.NextReferenceIdeal.nD Cert.NextReferenceIdeal.τ).loc Cert.NextReferenceIdeal.main_arg5) = m ((c.tc : Thread Cert.NextReferenceIdeal.nD Cert.NextReferenceIdeal.τ).loc Cert.NextReferenceIdeal.main_arg5)
      ∧ r.2.mem ((c.tc : Thread Cert.NextReferenceIdeal.nD Cert.NextReferenceIdeal.τ).loc Cert.NextReferenceIdeal.main_arg6) = m ((c.tc : Thread Cert.NextReferenceIdeal.nD Cert.NextReferenceIdeal.τ).loc Cert.NextReferenceIdeal.main_arg6))
      ∧ r.2.sem = fun _ => 0)

def quiescent_NextReferenceIdeal_pre_finite [hNextReferenceIdeal : Cert.NextReferenceIdeal.Facts] [hPre_finite : Cert.Pre_finite.Facts] : Prop :=
  ∀ (m : (ℓ : Loc Cert.NextReferenceIdeal.nD Cert.NextReferenceIdeal.τ Cert.NextReferenceIdeal.sig) → Buf (Elt Ideal) ℓ) (g : Dev Cert.NextReferenceIdeal.nD → PrngReg), Pre_NextReferenceIdeal_finite m →
    θ_run (Cert.NextReferenceIdeal.defs (F := Ideal)) (onTc (τ := Cert.NextReferenceIdeal.τ) (Cert.NextReferenceIdeal.main (F := Ideal))) ⟨m, fun _ => 0, g⟩ (fun r => (∀ c : Dev Cert.NextReferenceIdeal.nD,
      r.2.mem ((c.tc : Thread Cert.NextReferenceIdeal.nD Cert.NextReferenceIdeal.τ).loc Cert.NextReferenceIdeal.main_arg0) = m ((c.tc : Thread Cert.NextReferenceIdeal.nD Cert.NextReferenceIdeal.τ).loc Cert.NextReferenceIdeal.main_arg0)
      ∧ r.2.mem ((c.tc : Thread Cert.NextReferenceIdeal.nD Cert.NextReferenceIdeal.τ).loc Cert.NextReferenceIdeal.main_arg1) = m ((c.tc : Thread Cert.NextReferenceIdeal.nD Cert.NextReferenceIdeal.τ).loc Cert.NextReferenceIdeal.main_arg1)
      ∧ r.2.mem ((c.tc : Thread Cert.NextReferenceIdeal.nD Cert.NextReferenceIdeal.τ).loc Cert.NextReferenceIdeal.main_arg2) = m ((c.tc : Thread Cert.NextReferenceIdeal.nD Cert.NextReferenceIdeal.τ).loc Cert.NextReferenceIdeal.main_arg2)
      ∧ r.2.mem ((c.tc : Thread Cert.NextReferenceIdeal.nD Cert.NextReferenceIdeal.τ).loc Cert.NextReferenceIdeal.main_arg3) = m ((c.tc : Thread Cert.NextReferenceIdeal.nD Cert.NextReferenceIdeal.τ).loc Cert.NextReferenceIdeal.main_arg3)
      ∧ r.2.mem ((c.tc : Thread Cert.NextReferenceIdeal.nD Cert.NextReferenceIdeal.τ).loc Cert.NextReferenceIdeal.main_arg4) = m ((c.tc : Thread Cert.NextReferenceIdeal.nD Cert.NextReferenceIdeal.τ).loc Cert.NextReferenceIdeal.main_arg4)
      ∧ r.2.mem ((c.tc : Thread Cert.NextReferenceIdeal.nD Cert.NextReferenceIdeal.τ).loc Cert.NextReferenceIdeal.main_arg5) = m ((c.tc : Thread Cert.NextReferenceIdeal.nD Cert.NextReferenceIdeal.τ).loc Cert.NextReferenceIdeal.main_arg5)
      ∧ r.2.mem ((c.tc : Thread Cert.NextReferenceIdeal.nD Cert.NextReferenceIdeal.τ).loc Cert.NextReferenceIdeal.main_arg6) = m ((c.tc : Thread Cert.NextReferenceIdeal.nD Cert.NextReferenceIdeal.τ).loc Cert.NextReferenceIdeal.main_arg6))
      ∧ r.2.sem = fun _ => 0)

def quiescent_MixNext [hMixNext : Cert.MixNext.Facts] : Prop :=
  ∀ (m : (ℓ : Loc Cert.MixNext.nD Cert.MixNext.τ Cert.MixNext.sig) → Buf (Elt Bits) ℓ) (g : Dev Cert.MixNext.nD → PrngReg), Pre_MixNext m →
    θ_run (Cert.MixNext.defs (F := Bits)) (onTc (τ := Cert.MixNext.τ) (Cert.MixNext.main (F := Bits))) ⟨m, fun _ => 0, g⟩ (fun r => (∀ c : Dev Cert.MixNext.nD,
      r.2.mem ((c.tc : Thread Cert.MixNext.nD Cert.MixNext.τ).loc Cert.MixNext.main_arg0) = m ((c.tc : Thread Cert.MixNext.nD Cert.MixNext.τ).loc Cert.MixNext.main_arg0)
      ∧ r.2.mem ((c.tc : Thread Cert.MixNext.nD Cert.MixNext.τ).loc Cert.MixNext.main_arg1) = m ((c.tc : Thread Cert.MixNext.nD Cert.MixNext.τ).loc Cert.MixNext.main_arg1)
      ∧ r.2.mem ((c.tc : Thread Cert.MixNext.nD Cert.MixNext.τ).loc Cert.MixNext.main_arg2) = m ((c.tc : Thread Cert.MixNext.nD Cert.MixNext.τ).loc Cert.MixNext.main_arg2)
      ∧ r.2.mem ((c.tc : Thread Cert.MixNext.nD Cert.MixNext.τ).loc Cert.MixNext.main_arg3) = m ((c.tc : Thread Cert.MixNext.nD Cert.MixNext.τ).loc Cert.MixNext.main_arg3)
      ∧ r.2.mem ((c.tc : Thread Cert.MixNext.nD Cert.MixNext.τ).loc Cert.MixNext.main_arg4) = m ((c.tc : Thread Cert.MixNext.nD Cert.MixNext.τ).loc Cert.MixNext.main_arg4)
      ∧ r.2.mem ((c.tc : Thread Cert.MixNext.nD Cert.MixNext.τ).loc Cert.MixNext.main_arg5) = m ((c.tc : Thread Cert.MixNext.nD Cert.MixNext.τ).loc Cert.MixNext.main_arg5)
      ∧ r.2.mem ((c.tc : Thread Cert.MixNext.nD Cert.MixNext.τ).loc Cert.MixNext.main_arg6) = m ((c.tc : Thread Cert.MixNext.nD Cert.MixNext.τ).loc Cert.MixNext.main_arg6)
      ∧ r.2.mem ((c.tc : Thread Cert.MixNext.nD Cert.MixNext.τ).loc Cert.MixNext.main_arg7) = m ((c.tc : Thread Cert.MixNext.nD Cert.MixNext.τ).loc Cert.MixNext.main_arg7)
      ∧ r.2.mem ((c.tc : Thread Cert.MixNext.nD Cert.MixNext.τ).loc Cert.MixNext.main_arg8) = m ((c.tc : Thread Cert.MixNext.nD Cert.MixNext.τ).loc Cert.MixNext.main_arg8)
      ∧ r.2.mem ((c.tc : Thread Cert.MixNext.nD Cert.MixNext.τ).loc Cert.MixNext.main_arg9) = m ((c.tc : Thread Cert.MixNext.nD Cert.MixNext.τ).loc Cert.MixNext.main_arg9))
      ∧ r.2.sem = fun _ => 0)

def quiescent_MixNextIdeal [hMixNextIdeal : Cert.MixNextIdeal.Facts] : Prop :=
  ∀ (m : (ℓ : Loc Cert.MixNextIdeal.nD Cert.MixNextIdeal.τ Cert.MixNextIdeal.sig) → Buf (Elt Ideal) ℓ) (g : Dev Cert.MixNextIdeal.nD → PrngReg), Pre_MixNextIdeal m →
    θ_run (Cert.MixNextIdeal.defs (F := Ideal)) (onTc (τ := Cert.MixNextIdeal.τ) (Cert.MixNextIdeal.main (F := Ideal))) ⟨m, fun _ => 0, g⟩ (fun r => (∀ c : Dev Cert.MixNextIdeal.nD,
      r.2.mem ((c.tc : Thread Cert.MixNextIdeal.nD Cert.MixNextIdeal.τ).loc Cert.MixNextIdeal.main_arg0) = m ((c.tc : Thread Cert.MixNextIdeal.nD Cert.MixNextIdeal.τ).loc Cert.MixNextIdeal.main_arg0)
      ∧ r.2.mem ((c.tc : Thread Cert.MixNextIdeal.nD Cert.MixNextIdeal.τ).loc Cert.MixNextIdeal.main_arg1) = m ((c.tc : Thread Cert.MixNextIdeal.nD Cert.MixNextIdeal.τ).loc Cert.MixNextIdeal.main_arg1)
      ∧ r.2.mem ((c.tc : Thread Cert.MixNextIdeal.nD Cert.MixNextIdeal.τ).loc Cert.MixNextIdeal.main_arg2) = m ((c.tc : Thread Cert.MixNextIdeal.nD Cert.MixNextIdeal.τ).loc Cert.MixNextIdeal.main_arg2)
      ∧ r.2.mem ((c.tc : Thread Cert.MixNextIdeal.nD Cert.MixNextIdeal.τ).loc Cert.MixNextIdeal.main_arg3) = m ((c.tc : Thread Cert.MixNextIdeal.nD Cert.MixNextIdeal.τ).loc Cert.MixNextIdeal.main_arg3)
      ∧ r.2.mem ((c.tc : Thread Cert.MixNextIdeal.nD Cert.MixNextIdeal.τ).loc Cert.MixNextIdeal.main_arg4) = m ((c.tc : Thread Cert.MixNextIdeal.nD Cert.MixNextIdeal.τ).loc Cert.MixNextIdeal.main_arg4)
      ∧ r.2.mem ((c.tc : Thread Cert.MixNextIdeal.nD Cert.MixNextIdeal.τ).loc Cert.MixNextIdeal.main_arg5) = m ((c.tc : Thread Cert.MixNextIdeal.nD Cert.MixNextIdeal.τ).loc Cert.MixNextIdeal.main_arg5)
      ∧ r.2.mem ((c.tc : Thread Cert.MixNextIdeal.nD Cert.MixNextIdeal.τ).loc Cert.MixNextIdeal.main_arg6) = m ((c.tc : Thread Cert.MixNextIdeal.nD Cert.MixNextIdeal.τ).loc Cert.MixNextIdeal.main_arg6)
      ∧ r.2.mem ((c.tc : Thread Cert.MixNextIdeal.nD Cert.MixNextIdeal.τ).loc Cert.MixNextIdeal.main_arg7) = m ((c.tc : Thread Cert.MixNextIdeal.nD Cert.MixNextIdeal.τ).loc Cert.MixNextIdeal.main_arg7)
      ∧ r.2.mem ((c.tc : Thread Cert.MixNextIdeal.nD Cert.MixNextIdeal.τ).loc Cert.MixNextIdeal.main_arg8) = m ((c.tc : Thread Cert.MixNextIdeal.nD Cert.MixNextIdeal.τ).loc Cert.MixNextIdeal.main_arg8)
      ∧ r.2.mem ((c.tc : Thread Cert.MixNextIdeal.nD Cert.MixNextIdeal.τ).loc Cert.MixNextIdeal.main_arg9) = m ((c.tc : Thread Cert.MixNextIdeal.nD Cert.MixNextIdeal.τ).loc Cert.MixNextIdeal.main_arg9))
      ∧ r.2.sem = fun _ => 0)

def quiescent_MixNextReferenceIdeal [hMixNextReferenceIdeal : Cert.MixNextReferenceIdeal.Facts] : Prop :=
  ∀ (m : (ℓ : Loc Cert.MixNextReferenceIdeal.nD Cert.MixNextReferenceIdeal.τ Cert.MixNextReferenceIdeal.sig) → Buf (Elt Ideal) ℓ) (g : Dev Cert.MixNextReferenceIdeal.nD → PrngReg), Pre_MixNextReferenceIdeal m →
    θ_run (Cert.MixNextReferenceIdeal.defs (F := Ideal)) (onTc (τ := Cert.MixNextReferenceIdeal.τ) (Cert.MixNextReferenceIdeal.main (F := Ideal))) ⟨m, fun _ => 0, g⟩ (fun r => (∀ c : Dev Cert.MixNextReferenceIdeal.nD,
      r.2.mem ((c.tc : Thread Cert.MixNextReferenceIdeal.nD Cert.MixNextReferenceIdeal.τ).loc Cert.MixNextReferenceIdeal.main_arg0) = m ((c.tc : Thread Cert.MixNextReferenceIdeal.nD Cert.MixNextReferenceIdeal.τ).loc Cert.MixNextReferenceIdeal.main_arg0)
      ∧ r.2.mem ((c.tc : Thread Cert.MixNextReferenceIdeal.nD Cert.MixNextReferenceIdeal.τ).loc Cert.MixNextReferenceIdeal.main_arg1) = m ((c.tc : Thread Cert.MixNextReferenceIdeal.nD Cert.MixNextReferenceIdeal.τ).loc Cert.MixNextReferenceIdeal.main_arg1)
      ∧ r.2.mem ((c.tc : Thread Cert.MixNextReferenceIdeal.nD Cert.MixNextReferenceIdeal.τ).loc Cert.MixNextReferenceIdeal.main_arg2) = m ((c.tc : Thread Cert.MixNextReferenceIdeal.nD Cert.MixNextReferenceIdeal.τ).loc Cert.MixNextReferenceIdeal.main_arg2)
      ∧ r.2.mem ((c.tc : Thread Cert.MixNextReferenceIdeal.nD Cert.MixNextReferenceIdeal.τ).loc Cert.MixNextReferenceIdeal.main_arg3) = m ((c.tc : Thread Cert.MixNextReferenceIdeal.nD Cert.MixNextReferenceIdeal.τ).loc Cert.MixNextReferenceIdeal.main_arg3)
      ∧ r.2.mem ((c.tc : Thread Cert.MixNextReferenceIdeal.nD Cert.MixNextReferenceIdeal.τ).loc Cert.MixNextReferenceIdeal.main_arg4) = m ((c.tc : Thread Cert.MixNextReferenceIdeal.nD Cert.MixNextReferenceIdeal.τ).loc Cert.MixNextReferenceIdeal.main_arg4)
      ∧ r.2.mem ((c.tc : Thread Cert.MixNextReferenceIdeal.nD Cert.MixNextReferenceIdeal.τ).loc Cert.MixNextReferenceIdeal.main_arg5) = m ((c.tc : Thread Cert.MixNextReferenceIdeal.nD Cert.MixNextReferenceIdeal.τ).loc Cert.MixNextReferenceIdeal.main_arg5)
      ∧ r.2.mem ((c.tc : Thread Cert.MixNextReferenceIdeal.nD Cert.MixNextReferenceIdeal.τ).loc Cert.MixNextReferenceIdeal.main_arg6) = m ((c.tc : Thread Cert.MixNextReferenceIdeal.nD Cert.MixNextReferenceIdeal.τ).loc Cert.MixNextReferenceIdeal.main_arg6)
      ∧ r.2.mem ((c.tc : Thread Cert.MixNextReferenceIdeal.nD Cert.MixNextReferenceIdeal.τ).loc Cert.MixNextReferenceIdeal.main_arg7) = m ((c.tc : Thread Cert.MixNextReferenceIdeal.nD Cert.MixNextReferenceIdeal.τ).loc Cert.MixNextReferenceIdeal.main_arg7)
      ∧ r.2.mem ((c.tc : Thread Cert.MixNextReferenceIdeal.nD Cert.MixNextReferenceIdeal.τ).loc Cert.MixNextReferenceIdeal.main_arg8) = m ((c.tc : Thread Cert.MixNextReferenceIdeal.nD Cert.MixNextReferenceIdeal.τ).loc Cert.MixNextReferenceIdeal.main_arg8)
      ∧ r.2.mem ((c.tc : Thread Cert.MixNextReferenceIdeal.nD Cert.MixNextReferenceIdeal.τ).loc Cert.MixNextReferenceIdeal.main_arg9) = m ((c.tc : Thread Cert.MixNextReferenceIdeal.nD Cert.MixNextReferenceIdeal.τ).loc Cert.MixNextReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v10) = v0 c
          ∧ r.2.mem ((c.tc : Thread Cert.FfnReferenceIdeal.nD Cert.FfnReferenceIdeal.τ).loc Cert.FfnReferenceIdeal.main_v24) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v6_0)) (v1 : (c : Dev Cert.MixIdeal.nD) → Buf (Elt Ideal) ((c.tc : Thread Cert.MixIdeal.nD Cert.MixIdeal.τ).loc Cert.MixIdeal.main_v6_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v6_0) = v0 c
          ∧ r.2.mem ((c.tc : Thread Cert.MixIdeal.nD Cert.MixIdeal.τ).loc Cert.MixIdeal.main_v6_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v26) = v0 c
          ∧ r.2.mem ((c.tc : Thread Cert.MixReferenceIdeal.nD Cert.MixReferenceIdeal.τ).loc Cert.MixReferenceIdeal.main_v40) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_Inp_InpIdeal : Prop :=
  True

def algebraic_InpIdeal_InpReferenceIdeal_pre_inp_finite [hInpIdeal : Cert.InpIdeal.Facts] [hInpReferenceIdeal : Cert.InpReferenceIdeal.Facts] [hPre_inp_finite : Cert.Pre_inp_finite.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpReferenceIdeal.nD Cert.InpReferenceIdeal.τ Cert.InpReferenceIdeal.sig) → Buf (Elt Ideal) ℓ) (g' : Dev Cert.InpReferenceIdeal.nD → PrngReg), Pre_InpIdeal_inp_finite m →
    (∀ c : Dev Cert.InpIdeal.nD,
      m' ((c.tc : Thread Cert.InpReferenceIdeal.nD Cert.InpReferenceIdeal.τ).loc Cert.InpReferenceIdeal.main_arg0) = m ((c.tc : Thread Cert.InpIdeal.nD Cert.InpIdeal.τ).loc Cert.InpIdeal.main_arg0)
      ∧ m' ((c.tc : Thread Cert.InpReferenceIdeal.nD Cert.InpReferenceIdeal.τ).loc Cert.InpReferenceIdeal.main_arg1) = m ((c.tc : Thread Cert.InpIdeal.nD Cert.InpIdeal.τ).loc Cert.InpIdeal.main_arg1)
      ∧ m' ((c.tc : Thread Cert.InpReferenceIdeal.nD Cert.InpReferenceIdeal.τ).loc Cert.InpReferenceIdeal.main_arg2) = m ((c.tc : Thread Cert.InpIdeal.nD Cert.InpIdeal.τ).loc Cert.InpIdeal.main_arg2)
      ∧ m' ((c.tc : Thread Cert.InpReferenceIdeal.nD Cert.InpReferenceIdeal.τ).loc Cert.InpReferenceIdeal.main_arg3) = m ((c.tc : Thread Cert.InpIdeal.nD Cert.InpIdeal.τ).loc Cert.InpIdeal.main_arg3)
      ∧ m' ((c.tc : Thread Cert.InpReferenceIdeal.nD Cert.InpReferenceIdeal.τ).loc Cert.InpReferenceIdeal.main_arg4) = m ((c.tc : Thread Cert.InpIdeal.nD Cert.InpIdeal.τ).loc Cert.InpIdeal.main_arg4)
      ∧ m' ((c.tc : Thread Cert.InpReferenceIdeal.nD Cert.InpReferenceIdeal.τ).loc Cert.InpReferenceIdeal.main_arg5) = m ((c.tc : Thread Cert.InpIdeal.nD Cert.InpIdeal.τ).loc Cert.InpIdeal.main_arg5)) →
    ∃ (v0 : (c : Dev Cert.InpIdeal.nD) → Buf (Elt Ideal) ((c.tc : Thread Cert.InpIdeal.nD Cert.InpIdeal.τ).loc Cert.InpIdeal.main_v59_0)) (v1 : (c : Dev Cert.InpIdeal.nD) → Buf (Elt Ideal) ((c.tc : Thread Cert.InpIdeal.nD Cert.InpIdeal.τ).loc Cert.InpIdeal.main_v59_1)) (v2 : (c : Dev Cert.InpIdeal.nD) → Buf (Elt Ideal) ((c.tc : Thread Cert.InpIdeal.nD Cert.InpIdeal.τ).loc Cert.InpIdeal.main_v59_2)) (v3 : (c : Dev Cert.InpIdeal.nD) → Buf (Elt Ideal) ((c.tc : Thread Cert.InpIdeal.nD Cert.InpIdeal.τ).loc Cert.InpIdeal.main_v59_3)) (v4 : (c : Dev Cert.InpIdeal.nD) → Buf (Elt Ideal) ((c.tc : Thread Cert.InpIdeal.nD Cert.InpIdeal.τ).loc Cert.InpIdeal.main_v59_4)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v59_0) = v0 c
          ∧ r.2.mem ((c.tc : Thread Cert.InpIdeal.nD Cert.InpIdeal.τ).loc Cert.InpIdeal.main_v59_1) = v1 c
          ∧ r.2.mem ((c.tc : Thread Cert.InpIdeal.nD Cert.InpIdeal.τ).loc Cert.InpIdeal.main_v59_2) = v2 c
          ∧ r.2.mem ((c.tc : Thread Cert.InpIdeal.nD Cert.InpIdeal.τ).loc Cert.InpIdeal.main_v59_3) = v3 c
          ∧ r.2.mem ((c.tc : Thread Cert.InpIdeal.nD Cert.InpIdeal.τ).loc Cert.InpIdeal.main_v59_4) = v4 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5))
      ∧ θ_run (Cert.InpReferenceIdeal.defs (F := Ideal)) (onTc (τ := Cert.InpReferenceIdeal.τ) (Cert.InpReferenceIdeal.main (F := Ideal))) ⟨m', fun _ => 0, g'⟩ (fun r => ∀ c : Dev Cert.InpReferenceIdeal.nD,
          r.2.mem ((c.tc : Thread Cert.InpReferenceIdeal.nD Cert.InpReferenceIdeal.τ).loc Cert.InpReferenceIdeal.main_v100) = v0 c
          ∧ r.2.mem ((c.tc : Thread Cert.InpReferenceIdeal.nD Cert.InpReferenceIdeal.τ).loc Cert.InpReferenceIdeal.main_v103) = v1 c
          ∧ r.2.mem ((c.tc : Thread Cert.InpReferenceIdeal.nD Cert.InpReferenceIdeal.τ).loc Cert.InpReferenceIdeal.main_v117) = v2 c
          ∧ r.2.mem ((c.tc : Thread Cert.InpReferenceIdeal.nD Cert.InpReferenceIdeal.τ).loc Cert.InpReferenceIdeal.main_v119) = v3 c
          ∧ r.2.mem ((c.tc : Thread Cert.InpReferenceIdeal.nD Cert.InpReferenceIdeal.τ).loc Cert.InpReferenceIdeal.main_v121) = v4 c
          ∧ r.2.mem ((c.tc : Thread Cert.InpReferenceIdeal.nD Cert.InpReferenceIdeal.τ).loc Cert.InpReferenceIdeal.main_arg0) = m' ((c.tc : Thread Cert.InpReferenceIdeal.nD Cert.InpReferenceIdeal.τ).loc Cert.InpReferenceIdeal.main_arg0)
          ∧ r.2.mem ((c.tc : Thread Cert.InpReferenceIdeal.nD Cert.InpReferenceIdeal.τ).loc Cert.InpReferenceIdeal.main_arg1) = m' ((c.tc : Thread Cert.InpReferenceIdeal.nD Cert.InpReferenceIdeal.τ).loc Cert.InpReferenceIdeal.main_arg1)
          ∧ r.2.mem ((c.tc : Thread Cert.InpReferenceIdeal.nD Cert.InpReferenceIdeal.τ).loc Cert.InpReferenceIdeal.main_arg2) = m' ((c.tc : Thread Cert.InpReferenceIdeal.nD Cert.InpReferenceIdeal.τ).loc Cert.InpReferenceIdeal.main_arg2)
          ∧ r.2.mem ((c.tc : Thread Cert.InpReferenceIdeal.nD Cert.InpReferenceIdeal.τ).loc Cert.InpReferenceIdeal.main_arg3) = m' ((c.tc : Thread Cert.InpReferenceIdeal.nD Cert.InpReferenceIdeal.τ).loc Cert.InpReferenceIdeal.main_arg3)
          ∧ r.2.mem ((c.tc : Thread Cert.InpReferenceIdeal.nD Cert.InpReferenceIdeal.τ).loc Cert.InpReferenceIdeal.main_arg4) = m' ((c.tc : Thread Cert.InpReferenceIdeal.nD Cert.InpReferenceIdeal.τ).loc Cert.InpReferenceIdeal.main_arg4)
          ∧ r.2.mem ((c.tc : Thread Cert.InpReferenceIdeal.nD Cert.InpReferenceIdeal.τ).loc Cert.InpReferenceIdeal.main_arg5) = m' ((c.tc : Thread Cert.InpReferenceIdeal.nD Cert.InpReferenceIdeal.τ).loc Cert.InpReferenceIdeal.main_arg5))

def preserves_InpNext_InpNextIdeal : Prop :=
  True

def algebraic_InpNextIdeal_InpNextReferenceIdeal_pre_inp_next_finite [hInpNextIdeal : Cert.InpNextIdeal.Facts] [hInpNextReferenceIdeal : Cert.InpNextReferenceIdeal.Facts] [hPre_inp_next_finite : Cert.Pre_inp_next_finite.Facts] : Prop :=
  ∀ (m : (ℓ : Loc Cert.InpNextIdeal.nD Cert.InpNextIdeal.τ Cert.InpNextIdeal.sig) → Buf (Elt Ideal) ℓ) (g : Dev Cert.InpNextIdeal.nD → PrngReg)
    (m' : (ℓ : Loc Cert.InpNextReferenceIdeal.nD Cert.InpNextReferenceIdeal.τ Cert.InpNextReferenceIdeal.sig) → Buf (Elt Ideal) ℓ) (g' : Dev Cert.InpNextReferenceIdeal.nD → PrngReg), Pre_InpNextIdeal_inp_next_finite m →
    (∀ c : Dev Cert.InpNextIdeal.nD,
      m' ((c.tc : Thread Cert.InpNextReferenceIdeal.nD Cert.InpNextReferenceIdeal.τ).loc Cert.InpNextReferenceIdeal.main_arg0) = m ((c.tc : Thread Cert.InpNextIdeal.nD Cert.InpNextIdeal.τ).loc Cert.InpNextIdeal.main_arg0)
      ∧ m' ((c.tc : Thread Cert.InpNextReferenceIdeal.nD Cert.InpNextReferenceIdeal.τ).loc Cert.InpNextReferenceIdeal.main_arg1) = m ((c.tc : Thread Cert.InpNextIdeal.nD Cert.InpNextIdeal.τ).loc Cert.InpNextIdeal.main_arg1)
      ∧ m' ((c.tc : Thread Cert.InpNextReferenceIdeal.nD Cert.InpNextReferenceIdeal.τ).loc Cert.InpNextReferenceIdeal.main_arg2) = m ((c.tc : Thread Cert.InpNextIdeal.nD Cert.InpNextIdeal.τ).loc Cert.InpNextIdeal.main_arg2)
      ∧ m' ((c.tc : Thread Cert.InpNextReferenceIdeal.nD Cert.InpNextReferenceIdeal.τ).loc Cert.InpNextReferenceIdeal.main_arg3) = m ((c.tc : Thread Cert.InpNextIdeal.nD Cert.InpNextIdeal.τ).loc Cert.InpNextIdeal.main_arg3)
      ∧ m' ((c.tc : Thread Cert.InpNextReferenceIdeal.nD Cert.InpNextReferenceIdeal.τ).loc Cert.InpNextReferenceIdeal.main_arg4) = m ((c.tc : Thread Cert.InpNextIdeal.nD Cert.InpNextIdeal.τ).loc Cert.InpNextIdeal.main_arg4)) →
    ∃ (v0 : (c : Dev Cert.InpNextIdeal.nD) → Buf (Elt Ideal) ((c.tc : Thread Cert.InpNextIdeal.nD Cert.InpNextIdeal.τ).loc Cert.InpNextIdeal.main_v58_0)) (v1 : (c : Dev Cert.InpNextIdeal.nD) → Buf (Elt Ideal) ((c.tc : Thread Cert.InpNextIdeal.nD Cert.InpNextIdeal.τ).loc Cert.InpNextIdeal.main_v58_1)) (v2 : (c : Dev Cert.InpNextIdeal.nD) → Buf (Elt Ideal) ((c.tc : Thread Cert.InpNextIdeal.nD Cert.InpNextIdeal.τ).loc Cert.InpNextIdeal.main_v58_2)) (v3 : (c : Dev Cert.InpNextIdeal.nD) → Buf (Elt Ideal) ((c.tc : Thread Cert.InpNextIdeal.nD Cert.InpNextIdeal.τ).loc Cert.InpNextIdeal.main_v58_3)) (v4 : (c : Dev Cert.InpNextIdeal.nD) → Buf (Elt Ideal) ((c.tc : Thread Cert.InpNextIdeal.nD Cert.InpNextIdeal.τ).loc Cert.InpNextIdeal.main_v58_4)),
      θ_run (Cert.InpNextIdeal.defs (F := Ideal)) (onTc (τ := Cert.InpNextIdeal.τ) (Cert.InpNextIdeal.main (F := Ideal))) ⟨m, fun _ => 0, g⟩ (fun r => ∀ c : Dev Cert.InpNextIdeal.nD,
          r.2.mem ((c.tc : Thread Cert.InpNextIdeal.nD Cert.InpNextIdeal.τ).loc Cert.InpNextIdeal.main_v58_0) = v0 c
          ∧ r.2.mem ((c.tc : Thread Cert.InpNextIdeal.nD Cert.InpNextIdeal.τ).loc Cert.InpNextIdeal.main_v58_1) = v1 c
          ∧ r.2.mem ((c.tc : Thread Cert.InpNextIdeal.nD Cert.InpNextIdeal.τ).loc Cert.InpNextIdeal.main_v58_2) = v2 c
          ∧ r.2.mem ((c.tc : Thread Cert.InpNextIdeal.nD Cert.InpNextIdeal.τ).loc Cert.InpNextIdeal.main_v58_3) = v3 c
          ∧ r.2.mem ((c.tc : Thread Cert.InpNextIdeal.nD Cert.InpNextIdeal.τ).loc Cert.InpNextIdeal.main_v58_4) = v4 c
          ∧ r.2.mem ((c.tc : Thread Cert.InpNextIdeal.nD Cert.InpNextIdeal.τ).loc Cert.InpNextIdeal.main_arg0) = m ((c.tc : Thread Cert.InpNextIdeal.nD Cert.InpNextIdeal.τ).loc Cert.InpNextIdeal.main_arg0)
          ∧ r.2.mem ((c.tc : Thread Cert.InpNextIdeal.nD Cert.InpNextIdeal.τ).loc Cert.InpNextIdeal.main_arg1) = m ((c.tc : Thread Cert.InpNextIdeal.nD Cert.InpNextIdeal.τ).loc Cert.InpNextIdeal.main_arg1)
          ∧ r.2.mem ((c.tc : Thread Cert.InpNextIdeal.nD Cert.InpNextIdeal.τ).loc Cert.InpNextIdeal.main_arg2) = m ((c.tc : Thread Cert.InpNextIdeal.nD Cert.InpNextIdeal.τ).loc Cert.InpNextIdeal.main_arg2)
          ∧ r.2.mem ((c.tc : Thread Cert.InpNextIdeal.nD Cert.InpNextIdeal.τ).loc Cert.InpNextIdeal.main_arg3) = m ((c.tc : Thread Cert.InpNextIdeal.nD Cert.InpNextIdeal.τ).loc Cert.InpNextIdeal.main_arg3)
          ∧ r.2.mem ((c.tc : Thread Cert.InpNextIdeal.nD Cert.InpNextIdeal.τ).loc Cert.InpNextIdeal.main_arg4) = m ((c.tc : Thread Cert.InpNextIdeal.nD Cert.InpNextIdeal.τ).loc Cert.InpNextIdeal.main_arg4))
      ∧ θ_run (Cert.InpNextReferenceIdeal.defs (F := Ideal)) (onTc (τ := Cert.InpNextReferenceIdeal.τ) (Cert.InpNextReferenceIdeal.main (F := Ideal))) ⟨m', fun _ => 0, g'⟩ (fun r => ∀ c : Dev Cert.InpNextReferenceIdeal.nD,
          r.2.mem ((c.tc : Thread Cert.InpNextReferenceIdeal.nD Cert.InpNextReferenceIdeal.τ).loc Cert.InpNextReferenceIdeal.main_v86) = v0 c
          ∧ r.2.mem ((c.tc : Thread Cert.InpNextReferenceIdeal.nD Cert.InpNextReferenceIdeal.τ).loc Cert.InpNextReferenceIdeal.main_v89) = v1 c
          ∧ r.2.mem ((c.tc : Thread Cert.InpNextReferenceIdeal.nD Cert.InpNextReferenceIdeal.τ).loc Cert.InpNextReferenceIdeal.main_v103) = v2 c
          ∧ r.2.mem ((c.tc : Thread Cert.InpNextReferenceIdeal.nD Cert.InpNextReferenceIdeal.τ).loc Cert.InpNextReferenceIdeal.main_v105) = v3 c
          ∧ r.2.mem ((c.tc : Thread Cert.InpNextReferenceIdeal.nD Cert.InpNextReferenceIdeal.τ).loc Cert.InpNextReferenceIdeal.main_v107) = v4 c
          ∧ r.2.mem ((c.tc : Thread Cert.InpNextReferenceIdeal.nD Cert.InpNextReferenceIdeal.τ).loc Cert.InpNextReferenceIdeal.main_arg0) = m' ((c.tc : Thread Cert.InpNextReferenceIdeal.nD Cert.InpNextReferenceIdeal.τ).loc Cert.InpNextReferenceIdeal.main_arg0)
          ∧ r.2.mem ((c.tc : Thread Cert.InpNextReferenceIdeal.nD Cert.InpNextReferenceIdeal.τ).loc Cert.InpNextReferenceIdeal.main_arg1) = m' ((c.tc : Thread Cert.InpNextReferenceIdeal.nD Cert.InpNextReferenceIdeal.τ).loc Cert.InpNextReferenceIdeal.main_arg1)
          ∧ r.2.mem ((c.tc : Thread Cert.InpNextReferenceIdeal.nD Cert.InpNextReferenceIdeal.τ).loc Cert.InpNextReferenceIdeal.main_arg2) = m' ((c.tc : Thread Cert.InpNextReferenceIdeal.nD Cert.InpNextReferenceIdeal.τ).loc Cert.InpNextReferenceIdeal.main_arg2)
          ∧ r.2.mem ((c.tc : Thread Cert.InpNextReferenceIdeal.nD Cert.InpNextReferenceIdeal.τ).loc Cert.InpNextReferenceIdeal.main_arg3) = m' ((c.tc : Thread Cert.InpNextReferenceIdeal.nD Cert.InpNextReferenceIdeal.τ).loc Cert.InpNextReferenceIdeal.main_arg3)
          ∧ r.2.mem ((c.tc : Thread Cert.InpNextReferenceIdeal.nD Cert.InpNextReferenceIdeal.τ).loc Cert.InpNextReferenceIdeal.main_arg4) = m' ((c.tc : Thread Cert.InpNextReferenceIdeal.nD Cert.InpNextReferenceIdeal.τ).loc Cert.InpNextReferenceIdeal.main_arg4))

def preserves_NextKernel_NextKernelIdeal : Prop :=
  True

def algebraic_NextKernelIdeal_NextReferenceIdeal_pre_finite [hNextKernelIdeal : Cert.NextKernelIdeal.Facts] [hNextReferenceIdeal : Cert.NextReferenceIdeal.Facts] [hPre_finite : Cert.Pre_finite.Facts] : Prop :=
  ∀ (m : (ℓ : Loc Cert.NextKernelIdeal.nD Cert.NextKernelIdeal.τ Cert.NextKernelIdeal.sig) → Buf (Elt Ideal) ℓ) (g : Dev Cert.NextKernelIdeal.nD → PrngReg)
    (m' : (ℓ : Loc Cert.NextReferenceIdeal.nD Cert.NextReferenceIdeal.τ Cert.NextReferenceIdeal.sig) → Buf (Elt Ideal) ℓ) (g' : Dev Cert.NextReferenceIdeal.nD → PrngReg), Pre_NextKernelIdeal_finite m →
    (∀ c : Dev Cert.NextKernelIdeal.nD,
      m' ((c.tc : Thread Cert.NextReferenceIdeal.nD Cert.NextReferenceIdeal.τ).loc Cert.NextReferenceIdeal.main_arg0) = m ((c.tc : Thread Cert.NextKernelIdeal.nD Cert.NextKernelIdeal.τ).loc Cert.NextKernelIdeal.main_arg0)
      ∧ m' ((c.tc : Thread Cert.NextReferenceIdeal.nD Cert.NextReferenceIdeal.τ).loc Cert.NextReferenceIdeal.main_arg1) = m ((c.tc : Thread Cert.NextKernelIdeal.nD Cert.NextKernelIdeal.τ).loc Cert.NextKernelIdeal.main_arg1)
      ∧ m' ((c.tc : Thread Cert.NextReferenceIdeal.nD Cert.NextReferenceIdeal.τ).loc Cert.NextReferenceIdeal.main_arg2) = m ((c.tc : Thread Cert.NextKernelIdeal.nD Cert.NextKernelIdeal.τ).loc Cert.NextKernelIdeal.main_arg2)
      ∧ m' ((c.tc : Thread Cert.NextReferenceIdeal.nD Cert.NextReferenceIdeal.τ).loc Cert.NextReferenceIdeal.main_arg3) = m ((c.tc : Thread Cert.NextKernelIdeal.nD Cert.NextKernelIdeal.τ).loc Cert.NextKernelIdeal.main_arg3)
      ∧ m' ((c.tc : Thread Cert.NextReferenceIdeal.nD Cert.NextReferenceIdeal.τ).loc Cert.NextReferenceIdeal.main_arg4) = m ((c.tc : Thread Cert.NextKernelIdeal.nD Cert.NextKernelIdeal.τ).loc Cert.NextKernelIdeal.main_arg4)
      ∧ m' ((c.tc : Thread Cert.NextReferenceIdeal.nD Cert.NextReferenceIdeal.τ).loc Cert.NextReferenceIdeal.main_arg5) = m ((c.tc : Thread Cert.NextKernelIdeal.nD Cert.NextKernelIdeal.τ).loc Cert.NextKernelIdeal.main_arg5)
      ∧ m' ((c.tc : Thread Cert.NextReferenceIdeal.nD Cert.NextReferenceIdeal.τ).loc Cert.NextReferenceIdeal.main_arg6) = m ((c.tc : Thread Cert.NextKernelIdeal.nD Cert.NextKernelIdeal.τ).loc Cert.NextKernelIdeal.main_arg6)) →
    ∃ (v0 : (c : Dev Cert.NextKernelIdeal.nD) → Buf (Elt Ideal) ((c.tc : Thread Cert.NextKernelIdeal.nD Cert.NextKernelIdeal.τ).loc Cert.NextKernelIdeal.main_v33)),
      θ_run (Cert.NextKernelIdeal.defs (F := Ideal)) (onTc (τ := Cert.NextKernelIdeal.τ) (Cert.NextKernelIdeal.main (F := Ideal))) ⟨m, fun _ => 0, g⟩ (fun r => ∀ c : Dev Cert.NextKernelIdeal.nD,
          r.2.mem ((c.tc : Thread Cert.NextKernelIdeal.nD Cert.NextKernelIdeal.τ).loc Cert.NextKernelIdeal.main_v33) = v0 c
          ∧ r.2.mem ((c.tc : Thread Cert.NextKernelIdeal.nD Cert.NextKernelIdeal.τ).loc Cert.NextKernelIdeal.main_arg0) = m ((c.tc : Thread Cert.NextKernelIdeal.nD Cert.NextKernelIdeal.τ).loc Cert.NextKernelIdeal.main_arg0)
          ∧ r.2.mem ((c.tc : Thread Cert.NextKernelIdeal.nD Cert.NextKernelIdeal.τ).loc Cert.NextKernelIdeal.main_arg1) = m ((c.tc : Thread Cert.NextKernelIdeal.nD Cert.NextKernelIdeal.τ).loc Cert.NextKernelIdeal.main_arg1)
          ∧ r.2.mem ((c.tc : Thread Cert.NextKernelIdeal.nD Cert.NextKernelIdeal.τ).loc Cert.NextKernelIdeal.main_arg2) = m ((c.tc : Thread Cert.NextKernelIdeal.nD Cert.NextKernelIdeal.τ).loc Cert.NextKernelIdeal.main_arg2)
          ∧ r.2.mem ((c.tc : Thread Cert.NextKernelIdeal.nD Cert.NextKernelIdeal.τ).loc Cert.NextKernelIdeal.main_arg3) = m ((c.tc : Thread Cert.NextKernelIdeal.nD Cert.NextKernelIdeal.τ).loc Cert.NextKernelIdeal.main_arg3)
          ∧ r.2.mem ((c.tc : Thread Cert.NextKernelIdeal.nD Cert.NextKernelIdeal.τ).loc Cert.NextKernelIdeal.main_arg4) = m ((c.tc : Thread Cert.NextKernelIdeal.nD Cert.NextKernelIdeal.τ).loc Cert.NextKernelIdeal.main_arg4)
          ∧ r.2.mem ((c.tc : Thread Cert.NextKernelIdeal.nD Cert.NextKernelIdeal.τ).loc Cert.NextKernelIdeal.main_arg5) = m ((c.tc : Thread Cert.NextKernelIdeal.nD Cert.NextKernelIdeal.τ).loc Cert.NextKernelIdeal.main_arg5)
          ∧ r.2.mem ((c.tc : Thread Cert.NextKernelIdeal.nD Cert.NextKernelIdeal.τ).loc Cert.NextKernelIdeal.main_arg6) = m ((c.tc : Thread Cert.NextKernelIdeal.nD Cert.NextKernelIdeal.τ).loc Cert.NextKernelIdeal.main_arg6))
      ∧ θ_run (Cert.NextReferenceIdeal.defs (F := Ideal)) (onTc (τ := Cert.NextReferenceIdeal.τ) (Cert.NextReferenceIdeal.main (F := Ideal))) ⟨m', fun _ => 0, g'⟩ (fun r => ∀ c : Dev Cert.NextReferenceIdeal.nD,
          r.2.mem ((c.tc : Thread Cert.NextReferenceIdeal.nD Cert.NextReferenceIdeal.τ).loc Cert.NextReferenceIdeal.main_v70) = v0 c
          ∧ r.2.mem ((c.tc : Thread Cert.NextReferenceIdeal.nD Cert.NextReferenceIdeal.τ).loc Cert.NextReferenceIdeal.main_arg0) = m' ((c.tc : Thread Cert.NextReferenceIdeal.nD Cert.NextReferenceIdeal.τ).loc Cert.NextReferenceIdeal.main_arg0)
          ∧ r.2.mem ((c.tc : Thread Cert.NextReferenceIdeal.nD Cert.NextReferenceIdeal.τ).loc Cert.NextReferenceIdeal.main_arg1) = m' ((c.tc : Thread Cert.NextReferenceIdeal.nD Cert.NextReferenceIdeal.τ).loc Cert.NextReferenceIdeal.main_arg1)
          ∧ r.2.mem ((c.tc : Thread Cert.NextReferenceIdeal.nD Cert.NextReferenceIdeal.τ).loc Cert.NextReferenceIdeal.main_arg2) = m' ((c.tc : Thread Cert.NextReferenceIdeal.nD Cert.NextReferenceIdeal.τ).loc Cert.NextReferenceIdeal.main_arg2)
          ∧ r.2.mem ((c.tc : Thread Cert.NextReferenceIdeal.nD Cert.NextReferenceIdeal.τ).loc Cert.NextReferenceIdeal.main_arg3) = m' ((c.tc : Thread Cert.NextReferenceIdeal.nD Cert.NextReferenceIdeal.τ).loc Cert.NextReferenceIdeal.main_arg3)
          ∧ r.2.mem ((c.tc : Thread Cert.NextReferenceIdeal.nD Cert.NextReferenceIdeal.τ).loc Cert.NextReferenceIdeal.main_arg4) = m' ((c.tc : Thread Cert.NextReferenceIdeal.nD Cert.NextReferenceIdeal.τ).loc Cert.NextReferenceIdeal.main_arg4)
          ∧ r.2.mem ((c.tc : Thread Cert.NextReferenceIdeal.nD Cert.NextReferenceIdeal.τ).loc Cert.NextReferenceIdeal.main_arg5) = m' ((c.tc : Thread Cert.NextReferenceIdeal.nD Cert.NextReferenceIdeal.τ).loc Cert.NextReferenceIdeal.main_arg5)
          ∧ r.2.mem ((c.tc : Thread Cert.NextReferenceIdeal.nD Cert.NextReferenceIdeal.τ).loc Cert.NextReferenceIdeal.main_arg6) = m' ((c.tc : Thread Cert.NextReferenceIdeal.nD Cert.NextReferenceIdeal.τ).loc Cert.NextReferenceIdeal.main_arg6))

def preserves_MixNext_MixNextIdeal : Prop :=
  True

def algebraic_MixNextIdeal_MixNextReferenceIdeal [hMixNextIdeal : Cert.MixNextIdeal.Facts] [hMixNextReferenceIdeal : Cert.MixNextReferenceIdeal.Facts] : Prop :=
  ∀ (m : (ℓ : Loc Cert.MixNextIdeal.nD Cert.MixNextIdeal.τ Cert.MixNextIdeal.sig) → Buf (Elt Ideal) ℓ) (g : Dev Cert.MixNextIdeal.nD → PrngReg)
    (m' : (ℓ : Loc Cert.MixNextReferenceIdeal.nD Cert.MixNextReferenceIdeal.τ Cert.MixNextReferenceIdeal.sig) → Buf (Elt Ideal) ℓ) (g' : Dev Cert.MixNextReferenceIdeal.nD → PrngReg), Pre_MixNextIdeal m →
    (∀ c : Dev Cert.MixNextIdeal.nD,
      m' ((c.tc : Thread Cert.MixNextReferenceIdeal.nD Cert.MixNextReferenceIdeal.τ).loc Cert.MixNextReferenceIdeal.main_arg0) = m ((c.tc : Thread Cert.MixNextIdeal.nD Cert.MixNextIdeal.τ).loc Cert.MixNextIdeal.main_arg0)
      ∧ m' ((c.tc : Thread Cert.MixNextReferenceIdeal.nD Cert.MixNextReferenceIdeal.τ).loc Cert.MixNextReferenceIdeal.main_arg1) = m ((c.tc : Thread Cert.MixNextIdeal.nD Cert.MixNextIdeal.τ).loc Cert.MixNextIdeal.main_arg1)
      ∧ m' ((c.tc : Thread Cert.MixNextReferenceIdeal.nD Cert.MixNextReferenceIdeal.τ).loc Cert.MixNextReferenceIdeal.main_arg2) = m ((c.tc : Thread Cert.MixNextIdeal.nD Cert.MixNextIdeal.τ).loc Cert.MixNextIdeal.main_arg2)
      ∧ m' ((c.tc : Thread Cert.MixNextReferenceIdeal.nD Cert.MixNextReferenceIdeal.τ).loc Cert.MixNextReferenceIdeal.main_arg3) = m ((c.tc : Thread Cert.MixNextIdeal.nD Cert.MixNextIdeal.τ).loc Cert.MixNextIdeal.main_arg3)
      ∧ m' ((c.tc : Thread Cert.MixNextReferenceIdeal.nD Cert.MixNextReferenceIdeal.τ).loc Cert.MixNextReferenceIdeal.main_arg4) = m ((c.tc : Thread Cert.MixNextIdeal.nD Cert.MixNextIdeal.τ).loc Cert.MixNextIdeal.main_arg4)
      ∧ m' ((c.tc : Thread Cert.MixNextReferenceIdeal.nD Cert.MixNextReferenceIdeal.τ).loc Cert.MixNextReferenceIdeal.main_arg5) = m ((c.tc : Thread Cert.MixNextIdeal.nD Cert.MixNextIdeal.τ).loc Cert.MixNextIdeal.main_arg5)
      ∧ m' ((c.tc : Thread Cert.MixNextReferenceIdeal.nD Cert.MixNextReferenceIdeal.τ).loc Cert.MixNextReferenceIdeal.main_arg6) = m ((c.tc : Thread Cert.MixNextIdeal.nD Cert.MixNextIdeal.τ).loc Cert.MixNextIdeal.main_arg6)
      ∧ m' ((c.tc : Thread Cert.MixNextReferenceIdeal.nD Cert.MixNextReferenceIdeal.τ).loc Cert.MixNextReferenceIdeal.main_arg7) = m ((c.tc : Thread Cert.MixNextIdeal.nD Cert.MixNextIdeal.τ).loc Cert.MixNextIdeal.main_arg7)
      ∧ m' ((c.tc : Thread Cert.MixNextReferenceIdeal.nD Cert.MixNextReferenceIdeal.τ).loc Cert.MixNextReferenceIdeal.main_arg8) = m ((c.tc : Thread Cert.MixNextIdeal.nD Cert.MixNextIdeal.τ).loc Cert.MixNextIdeal.main_arg8)
      ∧ m' ((c.tc : Thread Cert.MixNextReferenceIdeal.nD Cert.MixNextReferenceIdeal.τ).loc Cert.MixNextReferenceIdeal.main_arg9) = m ((c.tc : Thread Cert.MixNextIdeal.nD Cert.MixNextIdeal.τ).loc Cert.MixNextIdeal.main_arg9)) →
    ∃ (v0 : (c : Dev Cert.MixNextIdeal.nD) → Buf (Elt Ideal) ((c.tc : Thread Cert.MixNextIdeal.nD Cert.MixNextIdeal.τ).loc Cert.MixNextIdeal.main_v18_0)) (v1 : (c : Dev Cert.MixNextIdeal.nD) → Buf (Elt Ideal) ((c.tc : Thread Cert.MixNextIdeal.nD Cert.MixNextIdeal.τ).loc Cert.MixNextIdeal.main_v18_1)),
      θ_run (Cert.MixNextIdeal.defs (F := Ideal)) (onTc (τ := Cert.MixNextIdeal.τ) (Cert.MixNextIdeal.main (F := Ideal))) ⟨m, fun _ => 0, g⟩ (fun r => ∀ c : Dev Cert.MixNextIdeal.nD,
          r.2.mem ((c.tc : Thread Cert.MixNextIdeal.nD Cert.MixNextIdeal.τ).loc Cert.MixNextIdeal.main_v18_0) = v0 c
          ∧ r.2.mem ((c.tc : Thread Cert.MixNextIdeal.nD Cert.MixNextIdeal.τ).loc Cert.MixNextIdeal.main_v18_1) = v1 c
          ∧ r.2.mem ((c.tc : Thread Cert.MixNextIdeal.nD Cert.MixNextIdeal.τ).loc Cert.MixNextIdeal.main_arg0) = m ((c.tc : Thread Cert.MixNextIdeal.nD Cert.MixNextIdeal.τ).loc Cert.MixNextIdeal.main_arg0)
          ∧ r.2.mem ((c.tc : Thread Cert.MixNextIdeal.nD Cert.MixNextIdeal.τ).loc Cert.MixNextIdeal.main_arg1) = m ((c.tc : Thread Cert.MixNextIdeal.nD Cert.MixNextIdeal.τ).loc Cert.MixNextIdeal.main_arg1)
          ∧ r.2.mem ((c.tc : Thread Cert.MixNextIdeal.nD Cert.MixNextIdeal.τ).loc Cert.MixNextIdeal.main_arg2) = m ((c.tc : Thread Cert.MixNextIdeal.nD Cert.MixNextIdeal.τ).loc Cert.MixNextIdeal.main_arg2)
          ∧ r.2.mem ((c.tc : Thread Cert.MixNextIdeal.nD Cert.MixNextIdeal.τ).loc Cert.MixNextIdeal.main_arg3) = m ((c.tc : Thread Cert.MixNextIdeal.nD Cert.MixNextIdeal.τ).loc Cert.MixNextIdeal.main_arg3)
          ∧ r.2.mem ((c.tc : Thread Cert.MixNextIdeal.nD Cert.MixNextIdeal.τ).loc Cert.MixNextIdeal.main_arg4) = m ((c.tc : Thread Cert.MixNextIdeal.nD Cert.MixNextIdeal.τ).loc Cert.MixNextIdeal.main_arg4)
          ∧ r.2.mem ((c.tc : Thread Cert.MixNextIdeal.nD Cert.MixNextIdeal.τ).loc Cert.MixNextIdeal.main_arg5) = m ((c.tc : Thread Cert.MixNextIdeal.nD Cert.MixNextIdeal.τ).loc Cert.MixNextIdeal.main_arg5)
          ∧ r.2.mem ((c.tc : Thread Cert.MixNextIdeal.nD Cert.MixNextIdeal.τ).loc Cert.MixNextIdeal.main_arg6) = m ((c.tc : Thread Cert.MixNextIdeal.nD Cert.MixNextIdeal.τ).loc Cert.MixNextIdeal.main_arg6)
          ∧ r.2.mem ((c.tc : Thread Cert.MixNextIdeal.nD Cert.MixNextIdeal.τ).loc Cert.MixNextIdeal.main_arg7) = m ((c.tc : Thread Cert.MixNextIdeal.nD Cert.MixNextIdeal.τ).loc Cert.MixNextIdeal.main_arg7)
          ∧ r.2.mem ((c.tc : Thread Cert.MixNextIdeal.nD Cert.MixNextIdeal.τ).loc Cert.MixNextIdeal.main_arg8) = m ((c.tc : Thread Cert.MixNextIdeal.nD Cert.MixNextIdeal.τ).loc Cert.MixNextIdeal.main_arg8)
          ∧ r.2.mem ((c.tc : Thread Cert.MixNextIdeal.nD Cert.MixNextIdeal.τ).loc Cert.MixNextIdeal.main_arg9) = m ((c.tc : Thread Cert.MixNextIdeal.nD Cert.MixNextIdeal.τ).loc Cert.MixNextIdeal.main_arg9))
      ∧ θ_run (Cert.MixNextReferenceIdeal.defs (F := Ideal)) (onTc (τ := Cert.MixNextReferenceIdeal.τ) (Cert.MixNextReferenceIdeal.main (F := Ideal))) ⟨m', fun _ => 0, g'⟩ (fun r => ∀ c : Dev Cert.MixNextReferenceIdeal.nD,
          r.2.mem ((c.tc : Thread Cert.MixNextReferenceIdeal.nD Cert.MixNextReferenceIdeal.τ).loc Cert.MixNextReferenceIdeal.main_v26) = v0 c
          ∧ r.2.mem ((c.tc : Thread Cert.MixNextReferenceIdeal.nD Cert.MixNextReferenceIdeal.τ).loc Cert.MixNextReferenceIdeal.main_v39) = v1 c
          ∧ r.2.mem ((c.tc : Thread Cert.MixNextReferenceIdeal.nD Cert.MixNextReferenceIdeal.τ).loc Cert.MixNextReferenceIdeal.main_arg0) = m' ((c.tc : Thread Cert.MixNextReferenceIdeal.nD Cert.MixNextReferenceIdeal.τ).loc Cert.MixNextReferenceIdeal.main_arg0)
          ∧ r.2.mem ((c.tc : Thread Cert.MixNextReferenceIdeal.nD Cert.MixNextReferenceIdeal.τ).loc Cert.MixNextReferenceIdeal.main_arg1) = m' ((c.tc : Thread Cert.MixNextReferenceIdeal.nD Cert.MixNextReferenceIdeal.τ).loc Cert.MixNextReferenceIdeal.main_arg1)
          ∧ r.2.mem ((c.tc : Thread Cert.MixNextReferenceIdeal.nD Cert.MixNextReferenceIdeal.τ).loc Cert.MixNextReferenceIdeal.main_arg2) = m' ((c.tc : Thread Cert.MixNextReferenceIdeal.nD Cert.MixNextReferenceIdeal.τ).loc Cert.MixNextReferenceIdeal.main_arg2)
          ∧ r.2.mem ((c.tc : Thread Cert.MixNextReferenceIdeal.nD Cert.MixNextReferenceIdeal.τ).loc Cert.MixNextReferenceIdeal.main_arg3) = m' ((c.tc : Thread Cert.MixNextReferenceIdeal.nD Cert.MixNextReferenceIdeal.τ).loc Cert.MixNextReferenceIdeal.main_arg3)
          ∧ r.2.mem ((c.tc : Thread Cert.MixNextReferenceIdeal.nD Cert.MixNextReferenceIdeal.τ).loc Cert.MixNextReferenceIdeal.main_arg4) = m' ((c.tc : Thread Cert.MixNextReferenceIdeal.nD Cert.MixNextReferenceIdeal.τ).loc Cert.MixNextReferenceIdeal.main_arg4)
          ∧ r.2.mem ((c.tc : Thread Cert.MixNextReferenceIdeal.nD Cert.MixNextReferenceIdeal.τ).loc Cert.MixNextReferenceIdeal.main_arg5) = m' ((c.tc : Thread Cert.MixNextReferenceIdeal.nD Cert.MixNextReferenceIdeal.τ).loc Cert.MixNextReferenceIdeal.main_arg5)
          ∧ r.2.mem ((c.tc : Thread Cert.MixNextReferenceIdeal.nD Cert.MixNextReferenceIdeal.τ).loc Cert.MixNextReferenceIdeal.main_arg6) = m' ((c.tc : Thread Cert.MixNextReferenceIdeal.nD Cert.MixNextReferenceIdeal.τ).loc Cert.MixNextReferenceIdeal.main_arg6)
          ∧ r.2.mem ((c.tc : Thread Cert.MixNextReferenceIdeal.nD Cert.MixNextReferenceIdeal.τ).loc Cert.MixNextReferenceIdeal.main_arg7) = m' ((c.tc : Thread Cert.MixNextReferenceIdeal.nD Cert.MixNextReferenceIdeal.τ).loc Cert.MixNextReferenceIdeal.main_arg7)
          ∧ r.2.mem ((c.tc : Thread Cert.MixNextReferenceIdeal.nD Cert.MixNextReferenceIdeal.τ).loc Cert.MixNextReferenceIdeal.main_arg8) = m' ((c.tc : Thread Cert.MixNextReferenceIdeal.nD Cert.MixNextReferenceIdeal.τ).loc Cert.MixNextReferenceIdeal.main_arg8)
          ∧ r.2.mem ((c.tc : Thread Cert.MixNextReferenceIdeal.nD Cert.MixNextReferenceIdeal.τ).loc Cert.MixNextReferenceIdeal.main_arg9) = m' ((c.tc : Thread Cert.MixNextReferenceIdeal.nD Cert.MixNextReferenceIdeal.τ).loc Cert.MixNextReferenceIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hInp : Cert.Inp.Facts) (hInpIdeal : Cert.InpIdeal.Facts) (hInpReferenceIdeal : Cert.InpReferenceIdeal.Facts) (hInpNext : Cert.InpNext.Facts) (hInpNextIdeal : Cert.InpNextIdeal.Facts) (hInpNextReferenceIdeal : Cert.InpNextReferenceIdeal.Facts) (hNextKernel : Cert.NextKernel.Facts) (hNextKernelIdeal : Cert.NextKernelIdeal.Facts) (hNextReferenceIdeal : Cert.NextReferenceIdeal.Facts) (hMixNext : Cert.MixNext.Facts) (hMixNextIdeal : Cert.MixNextIdeal.Facts) (hMixNextReferenceIdeal : Cert.MixNextReferenceIdeal.Facts) (hPre_finite : Cert.Pre_finite.Facts) (hPre_inp_finite : Cert.Pre_inp_finite.Facts) (hPre_inp_next_finite : Cert.Pre_inp_next_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixReferenceIdeal (hMixReferenceIdeal := hMixReferenceIdeal)
    ∧ quiescent_Inp (hInp := hInp)
    ∧ quiescent_InpIdeal (hInpIdeal := hInpIdeal)
    ∧ quiescent_InpIdeal_pre_inp_finite (hInpIdeal := hInpIdeal) (hPre_inp_finite := hPre_inp_finite)
    ∧ quiescent_InpReferenceIdeal (hInpReferenceIdeal := hInpReferenceIdeal)
    ∧ quiescent_InpReferenceIdeal_pre_inp_finite (hInpReferenceIdeal := hInpReferenceIdeal) (hPre_inp_finite := hPre_inp_finite)
    ∧ quiescent_InpNext (hInpNext := hInpNext)
    ∧ quiescent_InpNextIdeal (hInpNextIdeal := hInpNextIdeal)
    ∧ quiescent_InpNextIdeal_pre_inp_next_finite (hInpNextIdeal := hInpNextIdeal) (hPre_inp_next_finite := hPre_inp_next_finite)
    ∧ quiescent_InpNextReferenceIdeal (hInpNextReferenceIdeal := hInpNextReferenceIdeal)
    ∧ quiescent_InpNextReferenceIdeal_pre_inp_next_finite (hInpNextReferenceIdeal := hInpNextReferenceIdeal) (hPre_inp_next_finite := hPre_inp_next_finite)
    ∧ quiescent_NextKernel (hNextKernel := hNextKernel)
    ∧ quiescent_NextKernelIdeal (hNextKernelIdeal := hNextKernelIdeal)
    ∧ quiescent_NextKernelIdeal_pre_finite (hNextKernelIdeal := hNextKernelIdeal) (hPre_finite := hPre_finite)
    ∧ quiescent_NextReferenceIdeal (hNextReferenceIdeal := hNextReferenceIdeal)
    ∧ quiescent_NextReferenceIdeal_pre_finite (hNextReferenceIdeal := hNextReferenceIdeal) (hPre_finite := hPre_finite)
    ∧ quiescent_MixNext (hMixNext := hMixNext)
    ∧ quiescent_MixNextIdeal (hMixNextIdeal := hMixNextIdeal)
    ∧ quiescent_MixNextReferenceIdeal (hMixNextReferenceIdeal := hMixNextReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Mix_MixIdeal
    ∧ algebraic_MixIdeal_MixReferenceIdeal (hMixIdeal := hMixIdeal) (hMixReferenceIdeal := hMixReferenceIdeal)
    ∧ preserves_Inp_InpIdeal
    ∧ algebraic_InpIdeal_InpReferenceIdeal_pre_inp_finite (hInpIdeal := hInpIdeal) (hInpReferenceIdeal := hInpReferenceIdeal) (hPre_inp_finite := hPre_inp_finite)
    ∧ preserves_InpNext_InpNextIdeal
    ∧ algebraic_InpNextIdeal_InpNextReferenceIdeal_pre_inp_next_finite (hInpNextIdeal := hInpNextIdeal) (hInpNextReferenceIdeal := hInpNextReferenceIdeal) (hPre_inp_next_finite := hPre_inp_next_finite)
    ∧ preserves_NextKernel_NextKernelIdeal
    ∧ algebraic_NextKernelIdeal_NextReferenceIdeal_pre_finite (hNextKernelIdeal := hNextKernelIdeal) (hNextReferenceIdeal := hNextReferenceIdeal) (hPre_finite := hPre_finite)
    ∧ preserves_MixNext_MixNextIdeal
    ∧ algebraic_MixNextIdeal_MixNextReferenceIdeal (hMixNextIdeal := hMixNextIdeal) (hMixNextReferenceIdeal := hMixNextReferenceIdeal)
-- ==== Pre_finite.lean ====
abbrev S4x8192x4x2x64 : Shape := ⟨5, ![4, 8192, 4, 2, 64]⟩
abbrev S4x8192x4x128 : Shape := ⟨4, ![4, 8192, 4, 128]⟩
abbrev S64 : Shape := ⟨1, ![64]⟩
abbrev S4x64 : Shape := ⟨2, ![4, 64]⟩
abbrev S128 : Shape := ⟨1, ![128]⟩
abbrev S_ : Shape := ⟨0, ![]⟩

class Facts : Prop where
  bcast_S_S4x8192x4x2x64 : S_.BroadcastsInDim S4x8192x4x2x64 (![] : Fin 0 → Fin S4x8192x4x2x64.rank)
  reducesTo_S4x8192x4x2x64_S_d0_1_2_3_4 : S4x8192x4x2x64.ReducesTo [0, 1, 2, 3, 4] S_
  h_S_ : 0 < S_.numel
  bcast_S_S4x8192x4x128 : S_.BroadcastsInDim S4x8192x4x128 (![] : Fin 0 → Fin S4x8192x4x128.rank)
  reducesTo_S4x8192x4x128_S_d0_1_2_3 : S4x8192x4x128.ReducesTo [0, 1, 2, 3] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S4x8192x4x2x64 .f32) (main_arg1 : FVec F S4x8192x4x2x64 .f32) (main_arg2 : FVec F S4x8192x4x128 .f32) (main_arg3 : FVec F S64 .f32) (main_arg4 : FVec F S64 .f32) (main_arg5 : FVec F S4x64 .f32) (main_arg6 : FVec F S128 .f32) : IVec S_ 1 :=
  let main_v0 : FVec F S4x8192x4x2x64 .f32 := Host.absf main_arg0
  let main_cst : FVec F S_ .f32 := constant S_ .f32 0x7F800000#32
  let main_v1 : FVec F S4x8192x4x2x64 .f32 := broadcastInDim S4x8192x4x2x64 ![] bcast_S_S4x8192x4x2x64 main_cst
  let main_v2 : IVec S4x8192x4x2x64 1 := cmpf .olt main_v0 main_v1
  let main_c : IVec S_ 1 := constantI S_ 1 1#1
  let main_v3 : IVec S_ 1 := (fun x v => Host.reduce IntOp.andi x v reducesTo_S4x8192x4x2x64_S_d0_1_2_3_4 h_S_) main_v2 main_c
  let main_v4 : FVec F S4x8192x4x2x64 .f32 := Host.absf main_arg1
  let main_cst_0 : FVec F S_ .f32 := constant S_ .f32 0x7F800000#32
  let main_v5 : FVec F S4x8192x4x2x64 .f32 := broadcastInDim S4x8192x4x2x64 ![] bcast_S_S4x8192x4x2x64 main_cst_0
  let main_v6 : IVec S4x8192x4x2x64 1 := cmpf .olt main_v4 main_v5
  let main_c_1 : IVec S_ 1 := constantI S_ 1 1#1
  let main_v7 : IVec S_ 1 := (fun x v => Host.reduce IntOp.andi x v reducesTo_S4x8192x4x2x64_S_d0_1_2_3_4 h_S_) main_v6 main_c_1
  let main_v8 : IVec S_ 1 := andi main_v3 main_v7
  let main_v9 : FVec F S4x8192x4x128 .f32 := Host.absf main_arg2
  let main_cst_2 : FVec F S_ .f32 := constant S_ .f32 0x7F800000#32
  let main_v10 : FVec F S4x8192x4x128 .f32 := broadcastInDim S4x8192x4x128 ![] bcast_S_S4x8192x4x128 main_cst_2
  let main_v11 : IVec S4x8192x4x128 1 := cmpf .olt main_v9 main_v10
  let main_c_3 : IVec S_ 1 := constantI S_ 1 1#1
  let main_v12 : IVec S_ 1 := (fun x v => Host.reduce IntOp.andi x v reducesTo_S4x8192x4x128_S_d0_1_2_3 h_S_) main_v11 main_c_3
  let main_v13 : IVec S_ 1 := andi main_v8 main_v12
  let main_v14 : FVec F S4x64 .f32 := Host.absf main_arg5
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Pre_inp_finite.lean ====
abbrev S32768x1024 : Shape := ⟨2, ![32768, 1024]⟩
abbrev S32768 : Shape := ⟨1, ![32768]⟩
abbrev S1024x5640 : Shape := ⟨2, ![1024, 5640]⟩
abbrev S64 : Shape := ⟨1, ![64]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x5640 : S_.BroadcastsInDim S1024x5640 (![] : Fin 0 → Fin S1024x5640.rank)
  reducesTo_S1024x5640_S_d0_1 : S1024x5640.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : IVec S32768 32) (main_arg2 : FVec F S1024x5640 .f32) (main_arg3 : FVec F S64 .f32) (main_arg4 : FVec F S64 .f32) (main_arg5 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x5640 .f32 := Host.absf main_arg2
  let main_cst_0 : FVec F S_ .f32 := constant S_ .f32 0x7F800000#32
  let main_v5 : FVec F S1024x5640 .f32 := broadcastInDim S1024x5640 ![] bcast_S_S1024x5640 main_cst_0
  let main_v6 : IVec S1024x5640 1 := cmpf .olt main_v4 main_v5
  let main_c_1 : IVec S_ 1 := constantI S_ 1 1#1
  let main_v7 : IVec S_ 1 := (fun x v => Host.reduce IntOp.andi x v reducesTo_S1024x5640_S_d0_1 h_S_) main_v6 main_c_1
  let main_v8 : IVec S_ 1 := andi main_v3 main_v7
  let main_v9 : FVec F S1024 .f32 := Host.absf main_arg5
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_inp_next_finite.lean ====
abbrev S32768x1024 : Shape := ⟨2, ![32768, 1024]⟩
abbrev S32768 : Shape := ⟨1, ![32768]⟩
abbrev S1024x5640 : Shape := ⟨2, ![1024, 5640]⟩
abbrev S64 : Shape := ⟨1, ![64]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x5640 : S_.BroadcastsInDim S1024x5640 (![] : Fin 0 → Fin S1024x5640.rank)
  reducesTo_S1024x5640_S_d0_1 : S1024x5640.ReducesTo [0, 1] S_

variable [Facts]

def fn {F : FTy → Type} [FloatOps F] (main_arg0 : FVec F S32768x1024 .bf16) (main_arg1 : IVec S32768 32) (main_arg2 : FVec F S1024x5640 .f32) (main_arg3 : FVec F S64 .f32) (main_arg4 : FVec F S64 .f32) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S1024x5640 .f32 := Host.absf main_arg2
  let main_cst_0 : FVec F S_ .f32 := constant S_ .f32 0x7F800000#32
  let main_v6 : FVec F S1024x5640 .f32 := broadcastInDim S1024x5640 ![] bcast_S_S1024x5640 main_cst_0
  let main_v7 : IVec S1024x5640 1 := cmpf .olt main_v5 main_v6
  let main_c_1 : IVec S_ 1 := constantI S_ 1 1#1
  let main_v8 : IVec S_ 1 := (fun x v => Host.reduce IntOp.andi x v reducesTo_S1024x5640_S_d0_1 h_S_) main_v7 main_c_1
  let main_v9 : IVec S_ 1 := andi main_v4 main_v8
  main_v9
-- ==== Kernel.lean ====
abbrev S4x8192x4x2x64 : Shape := ⟨5, ![4, 8192, 4, 2, 64]⟩
abbrev S4x8192x4x128 : Shape := ⟨4, ![4, 8192, 4, 128]⟩
abbrev S64 : Shape := ⟨1, ![64]⟩
abbrev S4x64 : Shape := ⟨2, ![4, 64]⟩
abbrev S128 : Shape := ⟨1, ![128]⟩
abbrev S36 : Shape := ⟨1, ![36]⟩
abbrev S_ : Shape := ⟨0, ![]⟩
abbrev S1x4x8192x4x2x64 : Shape := ⟨6, ![1, 4, 8192, 4, 2, 64]⟩
abbrev S2x4x8192x4x2x64 : Shape := ⟨6, ![2, 4, 8192, 4, 2, 64]⟩
abbrev S2x32768x512 : Shape := ⟨3, ![2, 32768, 512]⟩
abbrev S32768x512 : Shape := ⟨2, ![32768, 512]⟩
abbrev S4x8192x4x256 : Shape := ⟨4, ![4, 8192, 4, 256]⟩
abbrev S32768x1024 : Shape := ⟨2, ![32768, 1024]⟩
abbrev S1 : Shape := ⟨1, ![1]⟩
abbrev S1x128 : Shape := ⟨2, ![1, 128]⟩
abbrev S2x1024x512 : Shape := ⟨3, ![2, 1024, 512]⟩
abbrev S1024x512 : Shape := ⟨2, ![1024, 512]⟩
abbrev S1024x1024 : Shape := ⟨2, ![1024, 1024]⟩
abbrev S4x2048x1 : Shape := ⟨3, ![4, 2048, 1]⟩
abbrev S4x2048x256 : Shape := ⟨3, ![4, 2048, 256]⟩
abbrev S2x1024x128 : Shape := ⟨3, ![2, 1024, 128]⟩
abbrev S2048x128 : Shape := ⟨2, ![2048, 128]⟩
abbrev S256x128 : Shape := ⟨2, ![256, 128]⟩
abbrev S256x256 : Shape := ⟨2, ![256, 256]⟩
abbrev S2048x256 : Shape := ⟨2, ![2048, 256]⟩
abbrev S1x2048x256 : Shape := ⟨3, ![1, 2048, 256]⟩
abbrev S1x1024x256 : Shape := ⟨3, ![1, 1024, 256]⟩
abbrev S1024x256 : Shape := ⟨2, ![1024, 256]⟩
abbrev S2x768x128 : Shape := ⟨3, ![2, 768, 128]⟩
abbrev S1536x128 : Shape := ⟨2, ![1536, 128]⟩
abbrev S1536x256 : Shape := ⟨2, ![1536, 256]⟩
abbrev S1x768x256 : Shape := ⟨3, ![1, 768, 256]⟩
abbrev S768x256 : Shape := ⟨2, ![768, 256]⟩
abbrev S2x512x128 : Shape := ⟨3, ![2, 512, 128]⟩
abbrev S1024x128 : Shape := ⟨2, ![1024, 128]⟩
abbrev S1x512x256 : Shape := ⟨3, ![1, 512, 256]⟩
abbrev S512x256 : Shape := ⟨2, ![512, 256]⟩
abbrev S2x256x128 : Shape := ⟨3, ![2, 256, 128]⟩
abbrev S512x128 : Shape := ⟨2, ![512, 128]⟩
abbrev S1x256x256 : Shape := ⟨3, ![1, 256, 256]⟩
abbrev S2048x1024 : Shape := ⟨2, ![2048, 1024]⟩
abbrev S1x2048x1 : Shape := ⟨3, ![1, 2048, 1]⟩
abbrev S2048x1 : Shape := ⟨2, ![2048, 1]⟩
abbrev S2048 : Shape := ⟨1, ![2048]⟩
abbrev S1x64 : Shape := ⟨2, ![1, 64]⟩
abbrev S1x1 : Shape := ⟨2, ![1, 1]⟩
abbrev S1x1024x128 : Shape := ⟨3, ![1, 1024, 128]⟩
abbrev S1024 : Shape := ⟨1, ![1024]⟩
abbrev S1024x1 : Shape := ⟨2, ![1024, 1]⟩

abbrev nBuf : Space → Nat
  | .hbm => 50
  | .vmem => 12
  | .smem => 4
  | _ => 0

abbrev bufTy : (tb : Table) → Fin (tcTables nBuf tb) → BufTy
  | .hbm, ⟨0, _⟩ => ⟨S4x8192x4x2x64, .f32⟩
  | .hbm, ⟨1, _⟩ => ⟨S4x8192x4x2x64, .f32⟩
  | .hbm, ⟨2, _⟩ => ⟨S4x8192x4x128, .f32⟩
  | .hbm, ⟨3, _⟩ => ⟨S64, .f32⟩
  | .hbm, ⟨4, _⟩ => ⟨S64, .f32⟩
  | .hbm, ⟨5, _⟩ => ⟨S4x64, .f32⟩
  | .hbm, ⟨6, _⟩ => ⟨S128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x8192x4x2x64, .f32⟩
  | .hbm, ⟨12, _⟩ => ⟨S4x8192x4x2x64, .f32⟩
  | .hbm, ⟨13, _⟩ => ⟨S4x8192x4x2x64, .i32⟩
  | .hbm, ⟨14, _⟩ => ⟨S_, .i32⟩
  | .hbm, ⟨15, _⟩ => ⟨S4x8192x4x2x64, .i32⟩
  | .hbm, ⟨16, _⟩ => ⟨S4x8192x4x2x64, .i1⟩
  | .hbm, ⟨17, _⟩ => ⟨S_, .f32⟩
  | .hbm, ⟨18, _⟩ => ⟨S4x8192x4x2x64, .f32⟩
  | .hbm, ⟨19, _⟩ => ⟨S4x8192x4x2x64, .f32⟩
  | .hbm, ⟨20, _⟩ => ⟨S4x8192x4x2x64, .f32⟩
  | .hbm, ⟨21, _⟩ => ⟨S1x4x8192x4x2x64, .f32⟩
  | .hbm, ⟨22, _⟩ => ⟨S1x4x8192x4x2x64, .f32⟩
  | .hbm, ⟨23, _⟩ => ⟨S2x4x8192x4x2x64, .f32⟩
  | .hbm, ⟨24, _⟩ => ⟨S2x4x8192x4x2x64, .bf16⟩
  | .hbm, ⟨25, _⟩ => ⟨S2x32768x512, .bf16⟩
  | .hbm, ⟨26, _⟩ => ⟨S4x8192x4x2x64, .bf16⟩
  | .hbm, ⟨27, _⟩ => ⟨S32768x512, .bf16⟩
  | .hbm, ⟨28, _⟩ => ⟨S_, .bf16⟩
  | .hbm, ⟨29, _⟩ => ⟨S4x8192x4x128, .bf16⟩
  | .hbm, ⟨30, _⟩ => ⟨S4x8192x4x128, .bf16⟩
  | .hbm, ⟨31, _⟩ => ⟨S4x8192x4x256, .bf16⟩
  | .hbm, ⟨32, _⟩ => ⟨S32768x1024, .bf16⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .i32⟩
  | .hbm, ⟨47, _⟩ => ⟨S1, .f32⟩
  | .hbm, ⟨48, _⟩ => ⟨S1x128, .f32⟩
  | .hbm, ⟨49, _⟩ => ⟨S32768x512, .bf16⟩
  | .local _ .vmem, ⟨0, _⟩ => ⟨S2x1024x512, .bf16⟩
  | .local _ .vmem, ⟨1, _⟩ => ⟨S2x1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S4x64, .f32⟩
  | .local _ .vmem, ⟨7, _⟩ => ⟨S1x128, .f32⟩
  | .local _ .vmem, ⟨8, _⟩ => ⟨S1024x512, .bf16⟩
  | .local _ .vmem, ⟨9, _⟩ => ⟨S1024x512, .bf16⟩
  | .local _ .vmem, ⟨10, _⟩ => ⟨S4x2048x1, .f32⟩
  | .local _ .vmem, ⟨11, _⟩ => ⟨S4x2048x256, .f32⟩
  | .local _ .smem, ⟨0, _⟩ => ⟨S36, .i32⟩
  | .local _ .smem, ⟨1, _⟩ => ⟨S36, .i32⟩
  | .local _ .smem, ⟨2, _⟩ => ⟨S1, .i32⟩
  | .local _ .smem, ⟨3, _⟩ => ⟨S1, .f32⟩
  | _, _ => ⟨S4x8192x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c : Ref sig .tc := ⟨.smem, 0, rfl⟩
abbrev main_c_0 : Ref sig .tc := ⟨.smem, 1, rfl⟩
abbrev main_v30 : Ref sig .tc := ⟨.smem, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 36], ![false, false]⟩

abbrev pre0 : Pipeline.Prefetch sig := ⟨3, ![main_c.idx, main_c_0.idx, main_v30.idx], fun | 0 => main_c.names | 1 => main_c_0.names | 2 => main_v30.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
@[reducible] def k0_t1_loop : Scf.Loop 32 :=
  let c0_i32_8 : BitVec 32 := 0#32
  let c4_i32 : BitVec 32 := 4#32
  let v27 : BitVec 32 := Scalar.addi c0_i32_8 c4_i32
  let c1_i32_9 : BitVec 32 := 1#32
  ⟨c0_i32_8, v27, c1_i32_9⟩
def k0_mult1 (k0_t1 : Fin k0_t1_loop.trips) : BitVec 32 :=
  let c0_i32_8 : BitVec 32 := 0#32
  let c1_i32_9 : BitVec 32 := 1#32
  let arg14 : BitVec 32 := Scf.iv c0_i32_8 c1_i32_9 k0_t1
  let c128_i32 : BitVec 32 := 128#32
  let v28 : BitVec 32 := Scalar.muli arg14 c128_i32
  v28
def k0_mult2 (k0_t1 : Fin k0_t1_loop.trips) : BitVec 32 :=
  let c0_i32_8 : BitVec 32 := 0#32
  let c1_i32_9 : BitVec 32 := 1#32
  let arg14 : BitVec 32 := Scf.iv c0_i32_8 c1_i32_9 k0_t1
  let c2_i32 : BitVec 32 := 2#32
  let v30 : BitVec 32 := Scalar.muli arg14 c2_i32
  let c128_i32_11 : BitVec 32 := 128#32
  let v31 : BitVec 32 := Scalar.muli v30 c128_i32_11
  v31
def k0_off2 (k0_t1 : Fin k0_t1_loop.trips) : Fin 3 → Nat :=
  let c0_12 : Index := 0#32
  let c0_13 : Index := 0#32
  let c0_i32_8 : BitVec 32 := 0#32
  let c1_i32_9 : BitVec 32 := 1#32
  let arg14 : BitVec 32 := Scf.iv c0_i32_8 c1_i32_9 k0_t1
  let c128_i32 : BitVec 32 := 128#32
  let v28 : BitVec 32 := Scalar.muli arg14 c128_i32
  let v29 : BitVec 32 := v28
  let v33 : Index := Scalar.indexCast v29
  ![0, 0, v33.toNat]
def k0_off3 (k0_t1 : Fin k0_t1_loop.trips) : Fin 2 → Nat :=
  let c0_15 : Index := 0#32
  let c0_i32_8 : BitVec 32 := 0#32
  let c1_i32_9 : BitVec 32 := 1#32
  let arg14 : BitVec 32 := Scf.iv c0_i32_8 c1_i32_9 k0_t1
  let c128_i32 : BitVec 32 := 128#32
  let v28 : BitVec 32 := Scalar.muli arg14 c128_i32
  let v29 : BitVec 32 := v28
  let v38 : Index := Scalar.indexCast v29
  ![0, v38.toNat]
def k0_off4 (k0_t1 : Fin k0_t1_loop.trips) : Fin 2 → Nat :=
  let c0_16 : Index := 0#32
  let c0_i32_8 : BitVec 32 := 0#32
  let c1_i32_9 : BitVec 32 := 1#32
  let arg14 : BitVec 32 := Scf.iv c0_i32_8 c1_i32_9 k0_t1
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v41 : Index := Scalar.indexCast v32
  ![0, v41.toNat]
def k0_off5 (k0_t1 : Fin k0_t1_loop.trips) : Fin 3 → Nat :=
  let c0_i32_8 : BitVec 32 := 0#32
  let c1_i32_9 : BitVec 32 := 1#32
  let arg14 : BitVec 32 := Scf.iv c0_i32_8 c1_i32_9 k0_t1
  let v45 : Index := Scalar.indexCast arg14
  let c0_17 : Index := 0#32
  let c0_18 : Index := 0#32
  ![v45.toNat, 0, 0]
def k0_off6 (k0_t1 : Fin k0_t1_loop.trips) : Fin 2 → Nat :=
  let c256 : Index := 256#32
  let c0_i32_8 : BitVec 32 := 0#32
  let c1_i32_9 : BitVec 32 := 1#32
  let arg14 : BitVec 32 := Scf.iv c0_i32_8 c1_i32_9 k0_t1
  let c128_i32 : BitVec 32 := 128#32
  let v28 : BitVec 32 := Scalar.muli arg14 c128_i32
  let v29 : BitVec 32 := v28
  let v58 : Index := Scalar.indexCast v29
  ![256, v58.toNat]
def k0_off7 (k0_t1 : Fin k0_t1_loop.trips) : Fin 2 → Nat :=
  let c256_22 : Index := 256#32
  let c0_i32_8 : BitVec 32 := 0#32
  let c1_i32_9 : BitVec 32 := 1#32
  let arg14 : BitVec 32 := Scf.iv c0_i32_8 c1_i32_9 k0_t1
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v61 : Index := Scalar.indexCast v32
  ![256, v61.toNat]
def k0_off8 (k0_t1 : Fin k0_t1_loop.trips) : Fin 2 → Nat :=
  let c512 : Index := 512#32
  let c0_i32_8 : BitVec 32 := 0#32
  let c1_i32_9 : BitVec 32 := 1#32
  let arg14 : BitVec 32 := Scf.iv c0_i32_8 c1_i32_9 k0_t1
  let c128_i32 : BitVec 32 := 128#32
  let v28 : BitVec 32 := Scalar.muli arg14 c128_i32
  let v29 : BitVec 32 := v28
  let v78 : Index := Scalar.indexCast v29
  ![512, v78.toNat]
def k0_off9 (k0_t1 : Fin k0_t1_loop.trips) : Fin 2 → Nat :=
  let c512_29 : Index := 512#32
  let c0_i32_8 : BitVec 32 := 0#32
  let c1_i32_9 : BitVec 32 := 1#32
  let arg14 : BitVec 32 := Scf.iv c0_i32_8 c1_i32_9 k0_t1
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v81 : Index := Scalar.indexCast v32
  ![512, v81.toNat]
def k0_off10 (k0_t1 : Fin k0_t1_loop.trips) : Fin 2 → Nat :=
  let c768 : Index := 768#32
  let c0_i32_8 : BitVec 32 := 0#32
  let c1_i32_9 : BitVec 32 := 1#32
  let arg14 : BitVec 32 := Scf.iv c0_i32_8 c1_i32_9 k0_t1
  let c128_i32 : BitVec 32 := 128#32
  let v28 : BitVec 32 := Scalar.muli arg14 c128_i32
  let v29 : BitVec 32 := v28
  let v98 : Index := Scalar.indexCast v29
  ![768, v98.toNat]
def k0_off11 (k0_t1 : Fin k0_t1_loop.trips) : Fin 2 → Nat :=
  let c768_36 : Index := 768#32
  let c0_i32_8 : BitVec 32 := 0#32
  let c1_i32_9 : BitVec 32 := 1#32
  let arg14 : BitVec 32 := Scf.iv c0_i32_8 c1_i32_9 k0_t1
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v101 : Index := Scalar.indexCast v32
  ![768, v101.toNat]
@[reducible] def k0_t2_loop : Scf.Loop 32 :=
  let c0_i32_8 : BitVec 32 := 0#32
  let c4_i32 : BitVec 32 := 4#32
  let v27 : BitVec 32 := Scalar.addi c0_i32_8 c4_i32
  let c1_i32_9 : BitVec 32 := 1#32
  ⟨c0_i32_8, v27, c1_i32_9⟩
def k0_mult3 (k0_t2 : Fin k0_t2_loop.trips) : BitVec 32 :=
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  v28
def k0_mult4 (k0_t2 : Fin k0_t2_loop.trips) : BitVec 32 :=
  let c0_i32_8 : BitVec 32 := 0#32
  let c1_i32_9 : BitVec 32 := 1#32
  let arg14 : BitVec 32 := Scf.iv c0_i32_8 c1_i32_9 k0_t2
  let c2_i32 : BitVec 32 := 2#32
  let v30 : BitVec 32 := Scalar.muli arg14 c2_i32
  let c128_i32_11 : BitVec 32 := 128#32
  let v31 : BitVec 32 := Scalar.muli v30 c128_i32_11
  v31
def k0_off12 (k0_t2 : Fin k0_t2_loop.trips) : Fin 2 → Nat :=
  let c0_13 : Index := 0#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v34 : Index := Scalar.indexCast v29
  ![0, v34.toNat]
def k0_off13 (k0_t2 : Fin k0_t2_loop.trips) : Fin 2 → Nat :=
  let c0_14 : Index := 0#32
  let c0_i32_8 : BitVec 32 := 0#32
  let c1_i32_9 : BitVec 32 := 1#32
  let arg14 : BitVec 32 := Scf.iv c0_i32_8 c1_i32_9 k0_t2
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v37 : Index := Scalar.indexCast v32
  ![0, v37.toNat]
def k0_off14 (k0_t2 : Fin k0_t2_loop.trips) : Fin 3 → Nat :=
  let c0_15 : Index := 0#32
  let c0_16 : Index := 0#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v40 : Index := Scalar.indexCast v29
  ![0, 0, v40.toNat]
def k0_off15 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v60 : Index := Scalar.indexCast arg14
  let c0_20 : Index := 0#32
  let c0_21 : Index := 0#32
  ![v60.toNat, 0, 0]
def k0_off16 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v69 : Index := Scalar.indexCast arg14
  let c1024 : Index := 1024#32
  let c0_24 : Index := 0#32
  ![v69.toNat, 1024, 0]
def k0_off17 (k0_t2 : Fin k0_t2_loop.trips) : Fin 2 → Nat :=
  let c256 : Index := 256#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v78 : Index := Scalar.indexCast v29
  ![256, v78.toNat]
def k0_off18 (k0_t2 : Fin k0_t2_loop.trips) : Fin 2 → Nat :=
  let c256_27 : Index := 256#32
  let c0_i32_8 : BitVec 32 := 0#32
  let c1_i32_9 : BitVec 32 := 1#32
  let arg14 : BitVec 32 := Scf.iv c0_i32_8 c1_i32_9 k0_t2
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v81 : Index := Scalar.indexCast v32
  ![256, v81.toNat]
def k0_off19 (k0_t2 : Fin k0_t2_loop.trips) : Fin 3 → Nat :=
  let c0_28 : Index := 0#32
  let c256_29 : Index := 256#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v84 : Index := Scalar.indexCast v29
  ![0, 256, v84.toNat]
def k0_off20 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v104 : Index := Scalar.indexCast arg14
  let c256_34 : Index := 256#32
  let c0_35 : Index := 0#32
  ![v104.toNat, 256, 0]
def k0_off21 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v113 : Index := Scalar.indexCast arg14
  let c1280 : Index := 1280#32
  let c0_38 : Index := 0#32
  ![v113.toNat, 1280, 0]
def k0_off22 (k0_t2 : Fin k0_t2_loop.trips) : Fin 2 → Nat :=
  let c512 : Index := 512#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v122 : Index := Scalar.indexCast v29
  ![512, v122.toNat]
def k0_off23 (k0_t2 : Fin k0_t2_loop.trips) : Fin 2 → Nat :=
  let c512_41 : Index := 512#32
  let c0_i32_8 : BitVec 32 := 0#32
  let c1_i32_9 : BitVec 32 := 1#32
  let arg14 : BitVec 32 := Scf.iv c0_i32_8 c1_i32_9 k0_t2
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v125 : Index := Scalar.indexCast v32
  ![512, v125.toNat]
def k0_off24 (k0_t2 : Fin k0_t2_loop.trips) : Fin 3 → Nat :=
  let c0_42 : Index := 0#32
  let c512_43 : Index := 512#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v128 : Index := Scalar.indexCast v29
  ![0, 512, v128.toNat]
def k0_off25 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v148 : Index := Scalar.indexCast arg14
  let c512_48 : Index := 512#32
  let c0_49 : Index := 0#32
  ![v148.toNat, 512, 0]
def k0_off26 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v157 : Index := Scalar.indexCast arg14
  let c1536 : Index := 1536#32
  let c0_52 : Index := 0#32
  ![v157.toNat, 1536, 0]
def k0_off27 (k0_t2 : Fin k0_t2_loop.trips) : Fin 2 → Nat :=
  let c768 : Index := 768#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v166 : Index := Scalar.indexCast v29
  ![768, v166.toNat]
def k0_off28 (k0_t2 : Fin k0_t2_loop.trips) : Fin 2 → Nat :=
  let c768_55 : Index := 768#32
  let c0_i32_8 : BitVec 32 := 0#32
  let c1_i32_9 : BitVec 32 := 1#32
  let arg14 : BitVec 32 := Scf.iv c0_i32_8 c1_i32_9 k0_t2
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v169 : Index := Scalar.indexCast v32
  ![768, v169.toNat]
def k0_off29 (k0_t2 : Fin k0_t2_loop.trips) : Fin 3 → Nat :=
  let c0_56 : Index := 0#32
  let c768_57 : Index := 768#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v172 : Index := Scalar.indexCast v29
  ![0, 768, v172.toNat]
def k0_off30 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v192 : Index := Scalar.indexCast arg14
  let c768_62 : Index := 768#32
  let c0_63 : Index := 0#32
  ![v192.toNat, 768, 0]
def k0_off31 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v201 : Index := Scalar.indexCast arg14
  let c1792 : Index := 1792#32
  let c0_66 : Index := 0#32
  ![v201.toNat, 1792, 0]
@[reducible] def k0_t3_loop : Scf.Loop 32 :=
  let c0_i32_8 : BitVec 32 := 0#32
  let c4_i32 : BitVec 32 := 4#32
  let v27 : BitVec 32 := Scalar.addi c0_i32_8 c4_i32
  let c1_i32_9 : BitVec 32 := 1#32
  ⟨c0_i32_8, v27, c1_i32_9⟩
def k0_mult5 (k0_t3 : Fin k0_t3_loop.trips) : BitVec 32 :=
  let c0_i32_8 : BitVec 32 := 0#32
  let c1_i32_9 : BitVec 32 := 1#32
  let arg14 : BitVec 32 := Scf.iv c0_i32_8 c1_i32_9 k0_t3
  let c128_i32 : BitVec 32 := 128#32
  let v28 : BitVec 32 := Scalar.muli arg14 c128_i32
  v28
def k0_mult6 (k0_t3 : Fin k0_t3_loop.trips) : BitVec 32 :=
  let c0_i32_8 : BitVec 32 := 0#32
  let c1_i32_9 : BitVec 32 := 1#32
  let arg14 : BitVec 32 := Scf.iv c0_i32_8 c1_i32_9 k0_t3
  let c2_i32 : BitVec 32 := 2#32
  let v30 : BitVec 32 := Scalar.muli arg14 c2_i32
  let c128_i32_11 : BitVec 32 := 128#32
  let v31 : BitVec 32 := Scalar.muli v30 c128_i32_11
  v31
def k0_off32 (k0_t3 : Fin k0_t3_loop.trips) : Fin 3 → Nat :=
  let c0_12 : Index := 0#32
  let c0_13 : Index := 0#32
  let c0_i32_8 : BitVec 32 := 0#32
  let c1_i32_9 : BitVec 32 := 1#32
  let arg14 : BitVec 32 := Scf.iv c0_i32_8 c1_i32_9 k0_t3
  let c128_i32 : BitVec 32 := 128#32
  let v28 : BitVec 32 := Scalar.muli arg14 c128_i32
  let v29 : BitVec 32 := v28
  let v33 : Index := Scalar.indexCast v29
  ![0, 0, v33.toNat]
def k0_off33 (k0_t3 : Fin k0_t3_loop.trips) : Fin 2 → Nat :=
  let c0_14 : Index := 0#32
  let c0_i32_8 : BitVec 32 := 0#32
  let c1_i32_9 : BitVec 32 := 1#32
  let arg14 : BitVec 32 := Scf.iv c0_i32_8 c1_i32_9 k0_t3
  let c128_i32 : BitVec 32 := 128#32
  let v28 : BitVec 32 := Scalar.muli arg14 c128_i32
  let v29 : BitVec 32 := v28
  let v37 : Index := Scalar.indexCast v29
  ![0, v37.toNat]
def k0_off34 (k0_t3 : Fin k0_t3_loop.trips) : Fin 3 → Nat :=
  let c0_i32_8 : BitVec 32 := 0#32
  let c1_i32_9 : BitVec 32 := 1#32
  let arg14 : BitVec 32 := Scf.iv c0_i32_8 c1_i32_9 k0_t3
  let v41 : Index := Scalar.indexCast arg14
  let c0_15 : Index := 0#32
  let c0_16 : Index := 0#32
  ![v41.toNat, 0, 0]
def k0_off35 (k0_t3 : Fin k0_t3_loop.trips) : Fin 3 → Nat :=
  let c0_i32_8 : BitVec 32 := 0#32
  let c1_i32_9 : BitVec 32 := 1#32
  let arg14 : BitVec 32 := Scf.iv c0_i32_8 c1_i32_9 k0_t3
  let v52 : Index := Scalar.indexCast arg14
  let c0_18 : Index := 0#32
  let c0_19 : Index := 0#32
  ![v52.toNat, 0, 0]
def k0_off36 (k0_t3 : Fin k0_t3_loop.trips) : Fin 2 → Nat :=
  let c0_20 : Index := 0#32
  let c0_i32_8 : BitVec 32 := 0#32
  let c1_i32_9 : BitVec 32 := 1#32
  let arg14 : BitVec 32 := Scf.iv c0_i32_8 c1_i32_9 k0_t3
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v58 : Index := Scalar.indexCast v32
  ![0, v58.toNat]
@[reducible] def k0_t4_loop : Scf.Loop 32 :=
  let c0_i32_8 : BitVec 32 := 0#32
  let c4_i32 : BitVec 32 := 4#32
  let v27 : BitVec 32 := Scalar.addi c0_i32_8 c4_i32
  let c1_i32_9 : BitVec 32 := 1#32
  ⟨c0_i32_8, v27, c1_i32_9⟩
def k0_mult7 (k0_t4 : Fin k0_t4_loop.trips) : BitVec 32 :=
  let c0_i32_8 : BitVec 32 := 0#32
  let c1_i32_9 : BitVec 32 := 1#32
  let arg14 : BitVec 32 := Scf.iv c0_i32_8 c1_i32_9 k0_t4
  let c128_i32 : BitVec 32 := 128#32
  let v28 : BitVec 32 := Scalar.muli arg14 c128_i32
  v28
def k0_mult8 (k0_t4 : Fin k0_t4_loop.trips) : BitVec 32 :=
  let c0_i32_8 : BitVec 32 := 0#32
  let c1_i32_9 : BitVec 32 := 1#32
  let arg14 : BitVec 32 := Scf.iv c0_i32_8 c1_i32_9 k0_t4
  let c2_i32 : BitVec 32 := 2#32
  let v30 : BitVec 32 := Scalar.muli arg14 c2_i32
  let c128_i32_11 : BitVec 32 := 128#32
  let v31 : BitVec 32 := Scalar.muli v30 c128_i32_11
  v31
def k0_off37 (k0_t4 : Fin k0_t4_loop.trips) : Fin 3 → Nat :=
  let c0_12 : Index := 0#32
  let c0_13 : Index := 0#32
  let c0_i32_8 : BitVec 32 := 0#32
  let c1_i32_9 : BitVec 32 := 1#32
  let arg14 : BitVec 32 := Scf.iv c0_i32_8 c1_i32_9 k0_t4
  let c128_i32 : BitVec 32 := 128#32
  let v28 : BitVec 32 := Scalar.muli arg14 c128_i32
  let v29 : BitVec 32 := v28
  let v33 : Index := Scalar.indexCast v29
  ![0, 0, v33.toNat]
def k0_off38 (k0_t4 : Fin k0_t4_loop.trips) : Fin 2 → Nat :=
  let c0_14 : Index := 0#32
  let c0_i32_8 : BitVec 32 := 0#32
  let c1_i32_9 : BitVec 32 := 1#32
  let arg14 : BitVec 32 := Scf.iv c0_i32_8 c1_i32_9 k0_t4
  let c128_i32 : BitVec 32 := 128#32
  let v28 : BitVec 32 := Scalar.muli arg14 c128_i32
  let v29 : BitVec 32 := v28
  let v37 : Index := Scalar.indexCast v29
  ![0, v37.toNat]
def k0_off39 (k0_t4 : Fin k0_t4_loop.trips) : Fin 3 → Nat :=
  let c0_i32_8 : BitVec 32 := 0#32
  let c1_i32_9 : BitVec 32 := 1#32
  let arg14 : BitVec 32 := Scf.iv c0_i32_8 c1_i32_9 k0_t4
  let v53 : Index := Scalar.indexCast arg14
  let c0_18 : Index := 0#32
  let c0_19 : Index := 0#32
  ![v53.toNat, 0, 0]
def k0_off40 (k0_t4 : Fin k0_t4_loop.trips) : Fin 3 → Nat :=
  let c0_i32_8 : BitVec 32 := 0#32
  let c1_i32_9 : BitVec 32 := 1#32
  let arg14 : BitVec 32 := Scf.iv c0_i32_8 c1_i32_9 k0_t4
  let v64 : Index := Scalar.indexCast arg14
  let c0_21 : Index := 0#32
  let c0_22 : Index := 0#32
  ![v64.toNat, 0, 0]
def k0_off41 (k0_t4 : Fin k0_t4_loop.trips) : Fin 2 → Nat :=
  let c0_23 : Index := 0#32
  let c0_i32_8 : BitVec 32 := 0#32
  let c1_i32_9 : BitVec 32 := 1#32
  let arg14 : BitVec 32 := Scf.iv c0_i32_8 c1_i32_9 k0_t4
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v70 : Index := Scalar.indexCast v32
  ![0, v70.toNat]
def k0_cond6 (v1 : BitVec 32) (v3 : BitVec 32) : BitVec 1 :=
  let v6 : BitVec 1 := Scalar.cmpi .eq v3 v1
  let v25 : BitVec 32 := Scalar.extui v6
  let c0_i32_7 : BitVec 32 := 0#32
  let v26 : BitVec 1 := Scalar.cmpi .ne v25 c0_i32_7
  v26

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let v2 : Index := Scalar.indexCast arg1
  let v3 : BitVec 32 := pf.at 1 (Rect.unit (s := S36) ![v2.toNat] S1.size (k0_off1_inb i)) numel1_S1
  let c8_i32 : BitVec 32 := 8#32
  let v4 : BitVec 32 := Scalar.muli arg0 c8_i32
  let v5 : BitVec 32 := Scalar.addi v4 v1
  let c0_i32 : BitVec 32 := 0#32
  let c0_i32_0 : BitVec 32 := 0#32
  let c0_i32_1 : BitVec 32 := 0#32
  ![c0_i32.toNat, v5.toNat, c0_i32_0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let v2 : Index := Scalar.indexCast arg1
  let v3 : BitVec 32 := pf.at 1 (Rect.unit (s := S36) ![v2.toNat] S1.size (k0_off1_inb i)) numel1_S1
  let c8_i32 : BitVec 32 := 8#32
  let v4 : BitVec 32 := Scalar.muli arg0 c8_i32
  let v5 : BitVec 32 := Scalar.addi v4 v3
  let c0_i32 : BitVec 32 := 0#32
  let c0_i32_0 : BitVec 32 := 0#32
  ![v5.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let v2 : Index := Scalar.indexCast arg1
  let v3 : BitVec 32 := pf.at 1 (Rect.unit (s := S36) ![v2.toNat] S1.size (k0_off1_inb i)) numel1_S1
  let c8_i32 : BitVec 32 := 8#32
  let v4 : BitVec 32 := Scalar.muli arg0 c8_i32
  let v5 : BitVec 32 := Scalar.addi v4 v3
  let c0_i32 : BitVec 32 := 0#32
  let c0_i32_0 : BitVec 32 := 0#32
  ![v5.toNat, c0_i32.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let v2 : Index := Scalar.indexCast arg1
  let v3 : BitVec 32 := pf.at 1 (Rect.unit (s := S36) ![v2.toNat] S1.size (k0_off1_inb i)) numel1_S1
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let v2 : Index := Scalar.indexCast arg1
  let v3 : BitVec 32 := pf.at 1 (Rect.unit (s := S36) ![v2.toNat] S1.size (k0_off1_inb i)) numel1_S1
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let v2 : Index := Scalar.indexCast arg1
  let v3 : BitVec 32 := pf.at 1 (Rect.unit (s := S36) ![v2.toNat] S1.size (k0_off1_inb i)) numel1_S1
  let c8_i32 : BitVec 32 := 8#32
  let v4 : BitVec 32 := Scalar.muli arg0 c8_i32
  let v5 : BitVec 32 := Scalar.addi v4 v1
  let c0_i32 : BitVec 32 := 0#32
  let c0_i32_0 : BitVec 32 := 0#32
  ![v5.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x8192x4x2x64 : Shape := ⟨5, ![4, 8192, 4, 2, 64]⟩
abbrev S4x8192x4x128 : Shape := ⟨4, ![4, 8192, 4, 128]⟩
abbrev S64 : Shape := ⟨1, ![64]⟩
abbrev S4x64 : Shape := ⟨2, ![4, 64]⟩
abbrev S128 : Shape := ⟨1, ![128]⟩
abbrev S1x64 : Shape := ⟨2, ![1, 64]⟩
abbrev S_ : Shape := ⟨0, ![]⟩
abbrev S4x4x2x8192x8192 : Shape := ⟨5, ![4, 4, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x4x2x8192 : Shape := ⟨4, ![4, 4, 2, 8192]⟩
abbrev S4x4x2x8192x1 : Shape := ⟨5, ![4, 4, 2, 8192, 1]⟩
abbrev S4x4x1x8192x8192 : Shape := ⟨5, ![4, 4, 1, 8192, 8192]⟩
abbrev S4x4x8192x8192 : Shape := ⟨4, ![4, 4, 8192, 8192]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S32768x512 : Shape := ⟨2, ![32768, 512]⟩

abbrev nBuf : Space → Nat
  | .hbm => 93
  | .vmem => 0
  | .smem => 0
  | _ => 0

abbrev bufTy : (tb : Table) → Fin (tcTables nBuf tb) → BufTy
  | .hbm, ⟨0, _⟩ => ⟨S4x8192x4x2x64, .f32⟩
  | .hbm, ⟨1, _⟩ => ⟨S4x8192x4x2x64, .f32⟩
  | .hbm, ⟨2, _⟩ => ⟨S4x8192x4x128, .f32⟩
  | .hbm, ⟨3, _⟩ => ⟨S64, .f32⟩
  | .hbm, ⟨4, _⟩ => ⟨S64, .f32⟩
  | .hbm, ⟨5, _⟩ => ⟨S4x64, .f32⟩
  | .hbm, ⟨6, _⟩ => ⟨S128, .f32⟩
  | .hbm, ⟨7, _⟩ => ⟨S4x8192x4x2x64, .bf16⟩
  | .hbm, ⟨8, _⟩ => ⟨S4x8192x4x2x64, .bf16⟩
  | .hbm, ⟨9, _⟩ => ⟨S4x8192x4x128, .bf16⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x4x2x8192x8192, .f32⟩
  | .hbm, ⟨30, _⟩ => ⟨S_, .f32⟩
  | .hbm, ⟨31, _⟩ => ⟨S4x4x2x8192x8192, .f32⟩
  | .hbm, ⟨32, _⟩ => ⟨S4x4x2x8192x8192, .f32⟩
  | .hbm, ⟨33, _⟩ => ⟨S8192, .i32⟩
  | .hbm, ⟨34, _⟩ => ⟨S1x8192, .i32⟩
  | .hbm, ⟨35, _⟩ => ⟨S8192x1, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S_, .f32⟩
  | .hbm, ⟨41, _⟩ => ⟨S4x4x2x8192x8192, .i1⟩
  | .hbm, ⟨42, _⟩ => ⟨S4x4x2x8192x8192, .f32⟩
  | .hbm, ⟨43, _⟩ => ⟨S4x4x2x8192x8192, .f32⟩
  | .hbm, ⟨44, _⟩ => ⟨S_, .f32⟩
  | .hbm, ⟨45, _⟩ => ⟨S4x4x2x8192, .f32⟩
  | .hbm, ⟨46, _⟩ => ⟨S_, .f32⟩
  | .hbm, ⟨47, _⟩ => ⟨S4x4x2x8192, .f32⟩
  | .hbm, ⟨48, _⟩ => ⟨S4x4x2x8192, .f32⟩
  | .hbm, ⟨49, _⟩ => ⟨S4x4x2x8192x1, .f32⟩
  | .hbm, ⟨50, _⟩ => ⟨S4x4x2x8192x8192, .f32⟩
  | .hbm, ⟨51, _⟩ => ⟨S4x4x2x8192x8192, .f32⟩
  | .hbm, ⟨52, _⟩ => ⟨S4x4x2x8192x8192, .f32⟩
  | .hbm, ⟨53, _⟩ => ⟨S_, .f32⟩
  | .hbm, ⟨54, _⟩ => ⟨S4x4x2x8192, .f32⟩
  | .hbm, ⟨55, _⟩ => ⟨S4x4x2x8192x1, .f32⟩
  | .hbm, ⟨56, _⟩ => ⟨S4x4x2x8192x8192, .f32⟩
  | .hbm, ⟨57, _⟩ => ⟨S4x4x2x8192x8192, .f32⟩
  | .hbm, ⟨58, _⟩ => ⟨S4x4x1x8192x8192, .f32⟩
  | .hbm, ⟨59, _⟩ => ⟨S4x4x8192x8192, .f32⟩
  | .hbm, ⟨60, _⟩ => ⟨S4x4x1x8192x8192, .f32⟩
  | .hbm, ⟨61, _⟩ => ⟨S4x4x8192x8192, .f32⟩
  | .hbm, ⟨62, _⟩ => ⟨S4x4x8192x8192, .f32⟩
  | .hbm, ⟨63, _⟩ => ⟨S4x4x8192x8192, .f32⟩
  | .hbm, ⟨64, _⟩ => ⟨S4x4x8192x8192, .f32⟩
  | .hbm, ⟨65, _⟩ => ⟨S4x4x8192x8192, .bf16⟩
  | .hbm, ⟨66, _⟩ => ⟨S4x4x128x8192, .f32⟩
  | .hbm, ⟨67, _⟩ => ⟨S4x8192x4x128, .f32⟩
  | .hbm, ⟨68, _⟩ => ⟨S4x8192x4x128, .bf16⟩
  | .hbm, ⟨69, _⟩ => ⟨S4x8192x4x128, .f32⟩
  | .hbm, ⟨70, _⟩ => ⟨S4x8192x4x128, .f32⟩
  | .hbm, ⟨71, _⟩ => ⟨S_, .f32⟩
  | .hbm, ⟨72, _⟩ => ⟨S4x8192x4, .f32⟩
  | .hbm, ⟨73, _⟩ => ⟨S4x8192x4x1, .f32⟩
  | .hbm, ⟨74, _⟩ => ⟨S_, .f32⟩
  | .hbm, ⟨75, _⟩ => ⟨S4x8192x4x1, .f32⟩
  | .hbm, ⟨76, _⟩ => ⟨S4x8192x4x1, .f32⟩
  | .hbm, ⟨77, _⟩ => ⟨S_, .f32⟩
  | .hbm, ⟨78, _⟩ => ⟨S4x8192x4x1, .f32⟩
  | .hbm, ⟨79, _⟩ => ⟨S4x8192x4x1, .f32⟩
  | .hbm, ⟨80, _⟩ => ⟨S4x8192x4x1, .f32⟩
  | .hbm, ⟨81, _⟩ => ⟨S4x8192x4x128, .f32⟩
  | .hbm, ⟨82, _⟩ => ⟨S4x8192x4x128, .f32⟩
  | .hbm, ⟨83, _⟩ => ⟨S1x1x1x128, .f32⟩
  | .hbm, ⟨84, _⟩ => ⟨S4x8192x4x128, .f32⟩
  | .hbm, ⟨85, _⟩ => ⟨S4x8192x4x128, .f32⟩
  | .hbm, ⟨86, _⟩ => ⟨S4x8192x4x128, .bf16⟩
  | .hbm, ⟨87, _⟩ => ⟨S4x8192x4x128, .f32⟩
  | .hbm, ⟨88, _⟩ => ⟨S_, .f32⟩
  | .hbm, ⟨89, _⟩ => ⟨S4x8192x4x128, .f32⟩
  | .hbm, ⟨90, _⟩ => ⟨S4x8192x4x128, .f32⟩
  | .hbm, ⟨91, _⟩ => ⟨S4x8192x4x128, .bf16⟩
  | .hbm, ⟨92, _⟩ => ⟨S32768x512, .bf16⟩
  | _, _ => ⟨S4x8192x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_10 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== Ffn.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32768x1024, .bf16⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S32768x1024, .f32⟩
  | .hbm, ⟨10, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S32768x5632 : Shape := ⟨2, ![32768, 5632]⟩
abbrev S32768x2816 : Shape := ⟨2, ![32768, 2816]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32768x1024, .bf16⟩
  | .hbm, ⟨6, _⟩ => ⟨S1024x5632, .bf16⟩
  | .hbm, ⟨7, _⟩ => ⟨S2816x1024, .bf16⟩
  | .hbm, ⟨8, _⟩ => ⟨S32768x5632, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S32768x2816, .f32⟩
  | .hbm, ⟨13, _⟩ => ⟨S_, .f32⟩
  | .hbm, ⟨14, _⟩ => ⟨S32768x2816, .f32⟩
  | .hbm, ⟨15, _⟩ => ⟨S32768x2816, .f32⟩
  | .hbm, ⟨16, _⟩ => ⟨S_, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x2816, .bf16⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Mix.lean ====
abbrev S32768x512 : Shape := ⟨2, ![32768, 512]⟩
abbrev S32768x5632 : Shape := ⟨2, ![32768, 5632]⟩
abbrev S32768x1024 : Shape := ⟨2, ![32768, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 18
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x5632, .f32⟩
  | .hbm, ⟨3, _⟩ => ⟨S32768x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S32768x512, .bf16⟩
  | .hbm, ⟨9, _⟩ => ⟨S32768x512, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S1x1024, .f32⟩
  | .hbm, ⟨14, _⟩ => ⟨S32768x1024, .f32⟩
  | .hbm, ⟨15, _⟩ => ⟨S32768x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixReferenceIdeal.lean ====
abbrev S32768x512 : Shape := ⟨2, ![32768, 512]⟩
abbrev S32768x5632 : Shape := ⟨2, ![32768, 5632]⟩
abbrev S32768x1024 : Shape := ⟨2, ![32768, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x5632, .f32⟩
  | .hbm, ⟨3, _⟩ => ⟨S32768x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S32768x1024, .f32⟩
  | .hbm, ⟨9, _⟩ => ⟨S32768x1024, .f32⟩
  | .hbm, ⟨10, _⟩ => ⟨S32768x512, .bf16⟩
  | .hbm, ⟨11, _⟩ => ⟨S512x1024, .bf16⟩
  | .hbm, ⟨12, _⟩ => ⟨S32768x1024, .f32⟩
  | .hbm, ⟨13, _⟩ => ⟨S32768x512, .bf16⟩
  | .hbm, ⟨14, _⟩ => ⟨S512x1024, .bf16⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .bf16⟩
  | .hbm, ⟨36, _⟩ => ⟨S1024x1024, .bf16⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | .hbm, ⟨55, _⟩ => ⟨S32768x1024, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Inp.lean ====
abbrev S32768x1024 : Shape := ⟨2, ![32768, 1024]⟩
abbrev S32768 : Shape := ⟨1, ![32768]⟩
abbrev S1024x5640 : Shape := ⟨2, ![1024, 5640]⟩
abbrev S64 : Shape := ⟨1, ![64]⟩
abbrev S1024 : Shape := ⟨1, ![1024]⟩
abbrev S1024x2048 : Shape := ⟨2, ![1024, 2048]⟩
abbrev S1024x3584 : Shape := ⟨2, ![1024, 3584]⟩
abbrev S1024x5632 : Shape := ⟨2, ![1024, 5632]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S128 : Shape := ⟨1, ![128]⟩
abbrev S32768x1 : Shape := ⟨2, ![32768, 1]⟩
abbrev S1x128 : Shape := ⟨2, ![1, 128]⟩
abbrev S32768x128 : Shape := ⟨2, ![32768, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S1x1024 : Shape := ⟨2, ![1, 1024]⟩
abbrev S32768x5632 : Shape := ⟨2, ![32768, 5632]⟩
abbrev S2x32768x512 : Shape := ⟨3, ![2, 32768, 512]⟩
abbrev S32768x512 : Shape := ⟨2, ![32768, 512]⟩
abbrev S512x1024 : Shape := ⟨2, ![512, 1024]⟩
abbrev S512x128 : Shape := ⟨2, ![512, 128]⟩
abbrev S512x5632 : Shape := ⟨2, ![512, 5632]⟩
abbrev S2x512x512 : Shape := ⟨3, ![2, 512, 512]⟩
abbrev S512x2048 : Shape := ⟨2, ![512, 2048]⟩
abbrev S1024x1536 : Shape := ⟨2, ![1024, 1536]⟩
abbrev S512x1536 : Shape := ⟨2, ![512, 1536]⟩
abbrev S1x512x512 : Shape := ⟨3, ![1, 512, 512]⟩

abbrev nBuf : Space → Nat
  | .hbm => 149
  | .vmem => 24
  | .smem => 0
  | _ => 0

abbrev hbmTy0_0 (i : Nat) : BufTy := match i % 128 with
  | 0 => ⟨S32768x1024, .f32⟩
  | 1 => ⟨S32768, .i32⟩
  | 2 => ⟨S1024x5640, .f32⟩
  | 3 => ⟨S64, .f32⟩
  | 4 => ⟨S64, .f32⟩
  | 5 => ⟨S1024, .f32⟩
  | 6 => ⟨S1024x2048, .f32⟩
  | 7 => ⟨S1024x3584, .f32⟩
  | 8 => ⟨S1024x5632, .f32⟩
  | 9 => ⟨S1024x5632, .bf16⟩
  | 10 => ⟨S_, .f32⟩
  | 11 => ⟨S1024x128, .f32⟩
  | 12 => ⟨S1024x8, .f32⟩
  | 13 => ⟨S_, .i32⟩
  | 14 => ⟨S1, .i32⟩
  | 15 => ⟨S1024x128, .f32⟩
  | 16 => ⟨S1024x128, .bf16⟩
  | 17 => ⟨S128, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S128, .i32⟩
  | 25 => ⟨S128, .i32⟩
  | 26 => ⟨S_, .i32⟩
  | 27 => ⟨S128, .i32⟩
  | 28 => ⟨S128, .i1⟩
  | 29 => ⟨S_, .i32⟩
  | 30 => ⟨S128, .i32⟩
  | 31 => ⟨S128, .i1⟩
  | 32 => ⟨S_, .i32⟩
  | 33 => ⟨S_, .i1⟩
  | 34 => ⟨S128, .i1⟩
  | 35 => ⟨S128, .i1⟩
  | 36 => ⟨S128, .i1⟩
  | 37 => ⟨S128, .i32⟩
  | 38 => ⟨S128, .i32⟩
  | 39 => ⟨S128, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S128, .i32⟩
  | 47 => ⟨S128, .i32⟩
  | 48 => ⟨S_, .i32⟩
  | 49 => ⟨S128, .i32⟩
  | 50 => ⟨S128, .i1⟩
  | 51 => ⟨S_, .i32⟩
  | 52 => ⟨S128, .i32⟩
  | 53 => ⟨S128, .i1⟩
  | 54 => ⟨S_, .i32⟩
  | 55 => ⟨S_, .i1⟩
  | 56 => ⟨S128, .i1⟩
  | 57 => ⟨S128, .i1⟩
  | 58 => ⟨S128, .i1⟩
  | 59 => ⟨S128, .i32⟩
  | 60 => ⟨S128, .i32⟩
  | 61 => ⟨S128, .i32⟩
  | 62 => ⟨S128, .f32⟩
  | 63 => ⟨S_, .f32⟩
  | 64 => ⟨S128, .f32⟩
  | 65 => ⟨S128, .f32⟩
  | 66 => ⟨S128, .f32⟩
  | 67 => ⟨S128, .f32⟩
  | 68 => ⟨S_, .f32⟩
  | 69 => ⟨S128, .f32⟩
  | 70 => ⟨S128, .f32⟩
  | 71 => ⟨S_, .f32⟩
  | 72 => ⟨S128, .f32⟩
  | 73 => ⟨S128, .f32⟩
  | 74 => ⟨S_, .i32⟩
  | 75 => ⟨S128, .i32⟩
  | 76 => ⟨S128, .i1⟩
  | 77 => ⟨S_, .f32⟩
  | 78 => ⟨S_, .f32⟩
  | 79 => ⟨S128, .f32⟩
  | 80 => ⟨S128, .f32⟩
  | 81 => ⟨S32768, .f32⟩
  | 82 => ⟨S32768x1, .f32⟩
  | 83 => ⟨S1x128, .f32⟩
  | 84 => ⟨S32768x128, .f32⟩
  | 85 => ⟨S32768x128, .f32⟩
  | 86 => ⟨S32768x128, .f32⟩
  | 87 => ⟨S32768x128, .f32⟩
  | 88 => ⟨S32768x128, .f32⟩
  | 89 => ⟨S_, .i32⟩
  | 90 => ⟨S128, .i32⟩
  | 91 => ⟨S128, .i1⟩
  | 92 => ⟨S32768x128, .f32⟩
  | 93 => ⟨S_, .f32⟩
  | 94 => ⟨S_, .f32⟩
  | 95 => ⟨S32768x128, .i1⟩
  | 96 => ⟨S32768x128, .f32⟩
  | 97 => ⟨S32768x128, .f32⟩
  | 98 => ⟨S_, .i32⟩
  | 99 => ⟨S128, .i32⟩
  | 100 => ⟨S128, .i1⟩
  | 101 => ⟨S_, .i32⟩
  | 102 => ⟨S128, .i32⟩
  | 103 => ⟨S128, .i1⟩
  | 104 => ⟨S128, .i1⟩
  | 105 => ⟨S_, .f32⟩
  | 106 => ⟨S_, .f32⟩
  | 107 => ⟨S32768x128, .i1⟩
  | 108 => ⟨S32768x128, .f32⟩
  | 109 => ⟨S32768x128, .f32⟩
  | 110 => ⟨S512, .i32⟩
  | 111 => ⟨S_, .i32⟩
  | 112 => ⟨S_, .i32⟩
  | 113 => ⟨S512, .i32⟩
  | 114 => ⟨S512, .i32⟩
  | 115 => ⟨S512, .i32⟩
  | 116 => ⟨S_, .i32⟩
  | 117 => ⟨S512, .i32⟩
  | 118 => ⟨S512, .i1⟩
  | 119 => ⟨S512, .i32⟩
  | 120 => ⟨S512, .i32⟩
  | 121 => ⟨S_, .i32⟩
  | 122 => ⟨S512, .i32⟩
  | 123 => ⟨S512, .i1⟩
  | 124 => ⟨S512, .i1⟩
  | 125 => ⟨S_, .i32⟩
  | 126 => ⟨S512, .i32⟩
  | 127 => ⟨S512, .i32⟩
  | _ => ⟨S32768x1024, .f32⟩

abbrev hbmTy0_1 (i : Nat) : BufTy := match i % 128 with
  | 0 => ⟨S512, .i32⟩
  | 1 => ⟨S512x1, .i32⟩
  | 2 => ⟨S1x512, .i32⟩
  | 3 => ⟨S512x512, .i32⟩
  | 4 => ⟨S512x512, .i32⟩
  | 5 => ⟨S512x512, .i1⟩
  | 6 => ⟨S512x512, .bf16⟩
  | 7 => ⟨S1x64, .f32⟩
  | 8 => ⟨S8x64, .f32⟩
  | 9 => ⟨S512, .f32⟩
  | 10 => ⟨S1x512, .f32⟩
  | 11 => ⟨S1x64, .f32⟩
  | 12 => ⟨S8x64, .f32⟩
  | 13 => ⟨S512, .f32⟩
  | 14 => ⟨S1x512, .f32⟩
  | 15 => ⟨S1x1024, .f32⟩
  | 16 => ⟨S32768x5632, .f32⟩
  | 17 => ⟨S32768x128, .f32⟩
  | 18 => ⟨S2x32768x512, .bf16⟩
  | 19 => ⟨S32768x512, .bf16⟩
  | 20 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S1024x128, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x512, .f32⟩
  | .local _ .vmem, ⟨12, _⟩ => ⟨S1x512, .f32⟩
  | .local _ .vmem, ⟨13, _⟩ => ⟨S512x512, .bf16⟩
  | .local _ .vmem, ⟨14, _⟩ => ⟨S512x5632, .f32⟩
  | .local _ .vmem, ⟨15, _⟩ => ⟨S512x5632, .f32⟩
  | .local _ .vmem, ⟨16, _⟩ => ⟨S512x128, .f32⟩
  | .local _ .vmem, ⟨17, _⟩ => ⟨S512x128, .f32⟩
  | .local _ .vmem, ⟨18, _⟩ => ⟨S2x512x512, .bf16⟩
  | .local _ .vmem, ⟨19, _⟩ => ⟨S2x512x512, .bf16⟩
  | .local _ .vmem, ⟨20, _⟩ => ⟨S512x512, .bf16⟩
  | .local _ .vmem, ⟨21, _⟩ => ⟨S512x512, .bf16⟩
  | .local _ .vmem, ⟨22, _⟩ => ⟨S512x1024, .bf16⟩
  | .local _ .vmem, ⟨23, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v10 : Ref sig .tc := ⟨.hbm, 39, rfl⟩
abbrev main_c_1 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v11 : Ref sig .tc := ⟨.hbm, 61, rfl⟩
abbrev main_v12 : Ref sig .tc := ⟨.hbm, 62, rfl⟩
abbrev main_cst_2 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_cst_3 : Ref sig .tc := ⟨.hbm, 68, rfl⟩
abbrev main_v17 : Ref sig .tc := ⟨.hbm, 69, rfl⟩
abbrev main_v18 : Ref sig .tc := ⟨.hbm, 70, rfl⟩
abbrev main_cst_4 : Ref sig .tc := ⟨.hbm, 71, rfl⟩
abbrev main_v19 : Ref sig .tc := ⟨.hbm, 72, rfl⟩
abbrev main_v20 : Ref sig .tc := ⟨.hbm, 73, rfl⟩
abbrev main_c_5 : Ref sig .tc := ⟨.hbm, 74, rfl⟩
abbrev main_v21 : Ref sig .tc := ⟨.hbm, 75, rfl⟩
abbrev main_v22 : Ref sig .tc := ⟨.hbm, 76, rfl⟩
abbrev main_cst_6 : Ref sig .tc := ⟨.hbm, 77, rfl⟩
abbrev main_call2_v0 : Ref sig .tc := ⟨.hbm, 78, rfl⟩
abbrev main_call2_v1 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_c_7 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_cst_8 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v35 : Ref sig .tc := ⟨.hbm, 97, rfl⟩
abbrev main_c_9 : Ref sig .tc := ⟨.hbm, 98, rfl⟩
abbrev main_v36 : Ref sig .tc := ⟨.hbm, 99, rfl⟩
abbrev main_v37 : Ref sig .tc := ⟨.hbm, 100, rfl⟩
abbrev main_c_10 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_cst_11 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v41 : Ref sig .tc := ⟨.hbm, 109, rfl⟩
abbrev main_v42 : Ref sig .tc := ⟨.hbm, 110, rfl⟩
abbrev main_c_12 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_call5_v5 : Ref sig .tc := ⟨.hbm, 117, rfl⟩
abbrev main_call5_v6 : Ref sig .tc := ⟨.hbm, 118, rfl⟩
abbrev main_call5_v7 : Ref sig .tc := ⟨.hbm, 119, rfl⟩
abbrev main_call5_v8 : Ref sig .tc := ⟨.hbm, 120, rfl⟩
abbrev main_call5_c : Ref sig .tc := ⟨.hbm, 121, rfl⟩
abbrev main_call5_v9 : Ref sig .tc := ⟨.hbm, 122, rfl⟩
abbrev main_call5_v10 : Ref sig .tc := ⟨.hbm, 123, rfl⟩
abbrev main_call5_v11 : Ref sig .tc := ⟨.hbm, 124, rfl⟩
abbrev main_call5_c_0 : Ref sig .tc := ⟨.hbm, 125, rfl⟩
abbrev main_call5_v12 : Ref sig .tc := ⟨.hbm, 126, rfl⟩
abbrev main_call5_v13 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59_0 : Ref sig .tc := ⟨.hbm, 144, rfl⟩
abbrev main_v59_1 : Ref sig .tc := ⟨.hbm, 145, rfl⟩
abbrev main_v59_2 : Ref sig .tc := ⟨.hbm, 146, rfl⟩
abbrev main_v59_3 : Ref sig .tc := ⟨.hbm, 147, rfl⟩
abbrev main_v59_4 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InpReferenceIdeal.lean ====
abbrev S32768x1024 : Shape := ⟨2, ![32768, 1024]⟩
abbrev S32768 : Shape := ⟨1, ![32768]⟩
abbrev S1024x5640 : Shape := ⟨2, ![1024, 5640]⟩
abbrev S64 : Shape := ⟨1, ![64]⟩
abbrev S1024 : Shape := ⟨1, ![1024]⟩
abbrev S_ : Shape := ⟨0, ![]⟩
abbrev S32768x1 : Shape := ⟨2, ![32768, 1]⟩
abbrev S1x1024 : Shape := ⟨2, ![1, 1024]⟩
abbrev S32768x5640 : Shape := ⟨2, ![32768, 5640]⟩
abbrev S8 : Shape := ⟨1, ![8]⟩
abbrev S1x8 : Shape := ⟨2, ![1, 8]⟩
abbrev S32768x8 : Shape := ⟨2, ![32768, 8]⟩
abbrev S32768x1x1x8 : Shape := ⟨4, ![32768, 1, 1, 8]⟩
abbrev S32768x512 : Shape := ⟨2, ![32768, 512]⟩
abbrev S32768x4x2x64 : Shape := ⟨4, ![32768, 4, 2, 64]⟩
abbrev S32768x4x2 : Shape := ⟨3, ![32768, 4, 2]⟩
abbrev S32768x4x2x1 : Shape := ⟨4, ![32768, 4, 2, 1]⟩
abbrev S1x1x1x64 : Shape := ⟨4, ![1, 1, 1, 64]⟩
abbrev S32768x4x2x8 : Shape := ⟨4, ![32768, 4, 2, 8]⟩
abbrev S32768x4x2x48 : Shape := ⟨4, ![32768, 4, 2, 48]⟩
abbrev S32768x4x128 : Shape := ⟨3, ![32768, 4, 128]⟩
abbrev S32768x2048 : Shape := ⟨2, ![32768, 2048]⟩
abbrev S32768x3584 : Shape := ⟨2, ![32768, 3584]⟩
abbrev S32768x5632 : Shape := ⟨2, ![32768, 5632]⟩
abbrev S32768x120 : Shape := ⟨2, ![32768, 120]⟩
abbrev S32768x128 : Shape := ⟨2, ![32768, 128]⟩
abbrev S32768x4x64 : Shape := ⟨3, ![32768, 4, 64]⟩
abbrev S32768x4x1x64 : Shape := ⟨4, ![32768, 4, 1, 64]⟩
abbrev S1x32768x4x128 : Shape := ⟨4, ![1, 32768, 4, 128]⟩
abbrev S2x32768x4x128 : Shape := ⟨4, ![2, 32768, 4, 128]⟩
abbrev S32768x4x256 : Shape := ⟨3, ![32768, 4, 256]⟩
abbrev S2x32768x512 : Shape := ⟨3, ![2, 32768, 512]⟩

abbrev nBuf : Space → Nat
  | .hbm => 145
  | .vmem => 0
  | .smem => 0
  | _ => 0

abbrev hbmTy0_0 (i : Nat) : BufTy := match i % 128 with
  | 0 => ⟨S32768x1024, .f32⟩
  | 1 => ⟨S32768, .i32⟩
  | 2 => ⟨S1024x5640, .f32⟩
  | 3 => ⟨S64, .f32⟩
  | 4 => ⟨S64, .f32⟩
  | 5 => ⟨S1024, .f32⟩
  | 6 => ⟨S32768x1024, .f32⟩
  | 7 => ⟨S_, .f32⟩
  | 8 => ⟨S32768, .f32⟩
  | 9 => ⟨S32768x1, .f32⟩
  | 10 => ⟨S_, .f32⟩
  | 11 => ⟨S32768x1, .f32⟩
  | 12 => ⟨S32768x1, .f32⟩
  | 13 => ⟨S_, .f32⟩
  | 14 => ⟨S32768x1, .f32⟩
  | 15 => ⟨S32768x1, .f32⟩
  | 16 => ⟨S32768x1, .f32⟩
  | 17 => ⟨S32768x1024, .f32⟩
  | 18 => ⟨S32768x1024, .f32⟩
  | 19 => ⟨S1x1024, .f32⟩
  | 20 => ⟨S32768x1024, .f32⟩
  | 21 => ⟨S32768x1024, .f32⟩
  | 22 => ⟨S32768x1024, .bf16⟩
  | 23 => ⟨S1024x5640, .bf16⟩
  | 24 => ⟨S32768x5640, .f32⟩
  | 25 => ⟨S8, .f32⟩
  | 26 => ⟨S_, .f32⟩
  | 27 => ⟨S8, .f32⟩
  | 28 => ⟨S8, .f32⟩
  | 29 => ⟨S_, .f32⟩
  | 30 => ⟨S8, .f32⟩
  | 31 => ⟨S8, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S32768, .f32⟩
  | 40 => ⟨S32768x1, .f32⟩
  | 41 => ⟨S1x8, .f32⟩
  | 42 => ⟨S32768x8, .f32⟩
  | 43 => ⟨S32768x8, .f32⟩
  | 44 => ⟨S32768x8, .f32⟩
  | 45 => ⟨S32768x8, .f32⟩
  | 46 => ⟨S32768x1x1x8, .f32⟩
  | 47 => ⟨S32768x8, .f32⟩
  | 48 => ⟨S32768x1x1x8, .f32⟩
  | 49 => ⟨S32768x512, .f32⟩
  | 50 => ⟨S32768x4x2x64, .f32⟩
  | 51 => ⟨S32768x4x2x64, .f32⟩
  | 52 => ⟨S_, .f32⟩
  | 53 => ⟨S32768x4x2, .f32⟩
  | 54 => ⟨S32768x4x2x1, .f32⟩
  | 55 => ⟨S_, .f32⟩
  | 56 => ⟨S32768x4x2x1, .f32⟩
  | 57 => ⟨S32768x4x2x1, .f32⟩
  | 58 => ⟨S_, .f32⟩
  | 59 => ⟨S32768x4x2x1, .f32⟩
  | 60 => ⟨S32768x4x2x1, .f32⟩
  | 61 => ⟨S32768x4x2x1, .f32⟩
  | 62 => ⟨S32768x4x2x64, .f32⟩
  | 63 => ⟨S32768x4x2x64, .f32⟩
  | 64 => ⟨S1x1x1x64, .f32⟩
  | 65 => ⟨S32768x4x2x64, .f32⟩
  | 66 => ⟨S32768x4x2x64, .f32⟩
  | 67 => ⟨S32768x4x2x8, .f32⟩
  | 68 => ⟨S32768x4x2x8, .f32⟩
  | 69 => ⟨S32768x4x2x48, .f32⟩
  | 70 => ⟨S32768x4x2x8, .f32⟩
  | 71 => ⟨S32768x4x2x8, .f32⟩
  | 72 => ⟨S32768x4x2x8, .f32⟩
  | 73 => ⟨S32768x4x2x8, .f32⟩
  | 74 => ⟨S32768x4x2x8, .f32⟩
  | 75 => ⟨S32768x4x2x8, .f32⟩
  | 76 => ⟨S32768x4x2x8, .f32⟩
  | 77 => ⟨S32768x4x2x8, .f32⟩
  | 78 => ⟨S32768x4x2x8, .f32⟩
  | 79 => ⟨S32768x4x2x8, .f32⟩
  | 80 => ⟨S32768x4x2x64, .f32⟩
  | 81 => ⟨S_, .f32⟩
  | 82 => ⟨S32768x4x2x64, .f32⟩
  | 83 => ⟨S32768x4x2x64, .f32⟩
  | 84 => ⟨S32768x512, .f32⟩
  | 85 => ⟨S32768x4x2x64, .f32⟩
  | 86 => ⟨S32768x4x2x64, .f32⟩
  | 87 => ⟨S_, .f32⟩
  | 88 => ⟨S32768x4x2, .f32⟩
  | 89 => ⟨S32768x4x2x1, .f32⟩
  | 90 => ⟨S_, .f32⟩
  | 91 => ⟨S32768x4x2x1, .f32⟩
  | 92 => ⟨S32768x4x2x1, .f32⟩
  | 93 => ⟨S_, .f32⟩
  | 94 => ⟨S32768x4x2x1, .f32⟩
  | 95 => ⟨S32768x4x2x1, .f32⟩
  | 96 => ⟨S32768x4x2x1, .f32⟩
  | 97 => ⟨S32768x4x2x64, .f32⟩
  | 98 => ⟨S32768x4x2x64, .f32⟩
  | 99 => ⟨S1x1x1x64, .f32⟩
  | 100 => ⟨S32768x4x2x64, .f32⟩
  | 101 => ⟨S32768x4x2x64, .f32⟩
  | 102 => ⟨S32768x4x2x8, .f32⟩
  | 103 => ⟨S32768x4x2x8, .f32⟩
  | 104 => ⟨S32768x4x2x48, .f32⟩
  | 105 => ⟨S32768x4x2x8, .f32⟩
  | 106 => ⟨S32768x4x2x8, .f32⟩
  | 107 => ⟨S32768x4x2x8, .f32⟩
  | 108 => ⟨S32768x4x2x8, .f32⟩
  | 109 => ⟨S32768x4x2x8, .f32⟩
  | 110 => ⟨S32768x4x2x8, .f32⟩
  | 111 => ⟨S32768x4x2x8, .f32⟩
  | 112 => ⟨S32768x4x2x8, .f32⟩
  | 113 => ⟨S32768x4x2x8, .f32⟩
  | 114 => ⟨S32768x4x2x8, .f32⟩
  | 115 => ⟨S32768x4x2x64, .f32⟩
  | 116 => ⟨S32768x512, .f32⟩
  | 117 => ⟨S32768x4x128, .f32⟩
  | 118 => ⟨S32768x2048, .f32⟩
  | 119 => ⟨S32768x3584, .f32⟩
  | 120 => ⟨S32768x5632, .f32⟩
  | 121 => ⟨S32768x8, .f32⟩
  | 122 => ⟨S_, .f32⟩
  | 123 => ⟨S32768x120, .f32⟩
  | 124 => ⟨S32768x128, .f32⟩
  | 125 => ⟨S_, .f32⟩
  | 126 => ⟨S32768x4x64, .f32⟩
  | 127 => ⟨S32768x4x1x64, .f32⟩
  | _ => ⟨S32768x1024, .f32⟩

abbrev hbmTy0_1 (i : Nat) : BufTy := match i % 128 with
  | 0 => ⟨S32768x4x64, .f32⟩
  | 1 => ⟨S32768x4x128, .f32⟩
  | 2 => ⟨S32768x4x1x64, .f32⟩
  | 3 => ⟨S32768x4x64, .f32⟩
  | 4 => ⟨S32768x4x128, .f32⟩
  | 5 => ⟨S1x32768x4x128, .f32⟩
  | 6 => ⟨S1x32768x4x128, .f32⟩
  | 7 => ⟨S2x32768x4x128, .f32⟩
  | 8 => ⟨S_, .f32⟩
  | 9 => ⟨S32768x4x128, .f32⟩
  | 10 => ⟨S32768x4x256, .f32⟩
  | 11 => ⟨S2x32768x512, .f32⟩
  | 12 => ⟨S2x32768x512, .bf16⟩
  | 13 => ⟨S32768x512, .f32⟩
  | 14 => ⟨S32768x512, .bf16⟩
  | 15 => ⟨S32768x1024, .f32⟩
  | 16 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_cst_11 : Ref sig .tc := ⟨.hbm, 90, rfl⟩
abbrev main_v72 : Ref sig .tc := ⟨.hbm, 91, rfl⟩
abbrev main_v73 : Ref sig .tc := ⟨.hbm, 92, rfl⟩
abbrev main_cst_12 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_13 : Ref sig .tc := ⟨.hbm, 122, rfl⟩
abbrev main_v102 : Ref sig .tc := ⟨.hbm, 123, rfl⟩
abbrev main_v103 : Ref sig .tc := ⟨.hbm, 124, rfl⟩
abbrev main_cst_14 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_15 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩

abbrev nD : Nat := 1
abbrev τ : Topo := Topo.v7x

variable {F : FTy → Type} [FloatOps F]
-- ==== InpNext.lean ====
abbrev S32768x1024 : Shape := ⟨2, ![32768, 1024]⟩
abbrev S32768 : Shape := ⟨1, ![32768]⟩
abbrev S1024x5640 : Shape := ⟨2, ![1024, 5640]⟩
abbrev S64 : Shape := ⟨1, ![64]⟩
abbrev S1024x2048 : Shape := ⟨2, ![1024, 2048]⟩
abbrev S1024x3584 : Shape := ⟨2, ![1024, 3584]⟩
abbrev S1024x5632 : Shape := ⟨2, ![1024, 5632]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S128 : Shape := ⟨1, ![128]⟩
abbrev S32768x1 : Shape := ⟨2, ![32768, 1]⟩
abbrev S1x128 : Shape := ⟨2, ![1, 128]⟩
abbrev S32768x128 : Shape := ⟨2, ![32768, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S32768x5632 : Shape := ⟨2, ![32768, 5632]⟩
abbrev S2x32768x512 : Shape := ⟨3, ![2, 32768, 512]⟩
abbrev S32768x512 : Shape := ⟨2, ![32768, 512]⟩
abbrev S512x1024 : Shape := ⟨2, ![512, 1024]⟩
abbrev S512x128 : Shape := ⟨2, ![512, 128]⟩
abbrev S512x5632 : Shape := ⟨2, ![512, 5632]⟩
abbrev S2x512x512 : Shape := ⟨3, ![2, 512, 512]⟩
abbrev S512x2048 : Shape := ⟨2, ![512, 2048]⟩
abbrev S1024x1536 : Shape := ⟨2, ![1024, 1536]⟩
abbrev S512x1536 : Shape := ⟨2, ![512, 1536]⟩
abbrev S1x512x512 : Shape := ⟨3, ![1, 512, 512]⟩

abbrev nBuf : Space → Nat
  | .hbm => 147
  | .vmem => 23
  | .smem => 0
  | _ => 0

abbrev hbmTy0_0 (i : Nat) : BufTy := match i % 128 with
  | 0 => ⟨S32768x1024, .bf16⟩
  | 1 => ⟨S32768, .i32⟩
  | 2 => ⟨S1024x5640, .f32⟩
  | 3 => ⟨S64, .f32⟩
  | 4 => ⟨S64, .f32⟩
  | 5 => ⟨S1024x2048, .f32⟩
  | 6 => ⟨S1024x3584, .f32⟩
  | 7 => ⟨S1024x5632, .f32⟩
  | 8 => ⟨S1024x5632, .bf16⟩
  | 9 => ⟨S_, .f32⟩
  | 10 => ⟨S1024x128, .f32⟩
  | 11 => ⟨S1024x8, .f32⟩
  | 12 => ⟨S_, .i32⟩
  | 13 => ⟨S1, .i32⟩
  | 14 => ⟨S1024x128, .f32⟩
  | 15 => ⟨S1024x128, .bf16⟩
  | 16 => ⟨S128, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S128, .i32⟩
  | 24 => ⟨S128, .i32⟩
  | 25 => ⟨S_, .i32⟩
  | 26 => ⟨S128, .i32⟩
  | 27 => ⟨S128, .i1⟩
  | 28 => ⟨S_, .i32⟩
  | 29 => ⟨S128, .i32⟩
  | 30 => ⟨S128, .i1⟩
  | 31 => ⟨S_, .i32⟩
  | 32 => ⟨S_, .i1⟩
  | 33 => ⟨S128, .i1⟩
  | 34 => ⟨S128, .i1⟩
  | 35 => ⟨S128, .i1⟩
  | 36 => ⟨S128, .i32⟩
  | 37 => ⟨S128, .i32⟩
  | 38 => ⟨S128, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S128, .i32⟩
  | 46 => ⟨S128, .i32⟩
  | 47 => ⟨S_, .i32⟩
  | 48 => ⟨S128, .i32⟩
  | 49 => ⟨S128, .i1⟩
  | 50 => ⟨S_, .i32⟩
  | 51 => ⟨S128, .i32⟩
  | 52 => ⟨S128, .i1⟩
  | 53 => ⟨S_, .i32⟩
  | 54 => ⟨S_, .i1⟩
  | 55 => ⟨S128, .i1⟩
  | 56 => ⟨S128, .i1⟩
  | 57 => ⟨S128, .i1⟩
  | 58 => ⟨S128, .i32⟩
  | 59 => ⟨S128, .i32⟩
  | 60 => ⟨S128, .i32⟩
  | 61 => ⟨S128, .f32⟩
  | 62 => ⟨S_, .f32⟩
  | 63 => ⟨S128, .f32⟩
  | 64 => ⟨S128, .f32⟩
  | 65 => ⟨S128, .f32⟩
  | 66 => ⟨S128, .f32⟩
  | 67 => ⟨S_, .f32⟩
  | 68 => ⟨S128, .f32⟩
  | 69 => ⟨S128, .f32⟩
  | 70 => ⟨S_, .f32⟩
  | 71 => ⟨S128, .f32⟩
  | 72 => ⟨S128, .f32⟩
  | 73 => ⟨S_, .i32⟩
  | 74 => ⟨S128, .i32⟩
  | 75 => ⟨S128, .i1⟩
  | 76 => ⟨S_, .f32⟩
  | 77 => ⟨S_, .f32⟩
  | 78 => ⟨S128, .f32⟩
  | 79 => ⟨S128, .f32⟩
  | 80 => ⟨S32768, .f32⟩
  | 81 => ⟨S32768x1, .f32⟩
  | 82 => ⟨S1x128, .f32⟩
  | 83 => ⟨S32768x128, .f32⟩
  | 84 => ⟨S32768x128, .f32⟩
  | 85 => ⟨S32768x128, .f32⟩
  | 86 => ⟨S32768x128, .f32⟩
  | 87 => ⟨S32768x128, .f32⟩
  | 88 => ⟨S_, .i32⟩
  | 89 => ⟨S128, .i32⟩
  | 90 => ⟨S128, .i1⟩
  | 91 => ⟨S32768x128, .f32⟩
  | 92 => ⟨S_, .f32⟩
  | 93 => ⟨S_, .f32⟩
  | 94 => ⟨S32768x128, .i1⟩
  | 95 => ⟨S32768x128, .f32⟩
  | 96 => ⟨S32768x128, .f32⟩
  | 97 => ⟨S_, .i32⟩
  | 98 => ⟨S128, .i32⟩
  | 99 => ⟨S128, .i1⟩
  | 100 => ⟨S_, .i32⟩
  | 101 => ⟨S128, .i32⟩
  | 102 => ⟨S128, .i1⟩
  | 103 => ⟨S128, .i1⟩
  | 104 => ⟨S_, .f32⟩
  | 105 => ⟨S_, .f32⟩
  | 106 => ⟨S32768x128, .i1⟩
  | 107 => ⟨S32768x128, .f32⟩
  | 108 => ⟨S32768x128, .f32⟩
  | 109 => ⟨S512, .i32⟩
  | 110 => ⟨S_, .i32⟩
  | 111 => ⟨S_, .i32⟩
  | 112 => ⟨S512, .i32⟩
  | 113 => ⟨S512, .i32⟩
  | 114 => ⟨S512, .i32⟩
  | 115 => ⟨S_, .i32⟩
  | 116 => ⟨S512, .i32⟩
  | 117 => ⟨S512, .i1⟩
  | 118 => ⟨S512, .i32⟩
  | 119 => ⟨S512, .i32⟩
  | 120 => ⟨S_, .i32⟩
  | 121 => ⟨S512, .i32⟩
  | 122 => ⟨S512, .i1⟩
  | 123 => ⟨S512, .i1⟩
  | 124 => ⟨S_, .i32⟩
  | 125 => ⟨S512, .i32⟩
  | 126 => ⟨S512, .i32⟩
  | 127 => ⟨S512, .i32⟩
  | _ => ⟨S32768x1024, .bf16⟩

abbrev hbmTy0_1 (i : Nat) : BufTy := match i % 128 with
  | 0 => ⟨S512x1, .i32⟩
  | 1 => ⟨S1x512, .i32⟩
  | 2 => ⟨S512x512, .i32⟩
  | 3 => ⟨S512x512, .i32⟩
  | 4 => ⟨S512x512, .i1⟩
  | 5 => ⟨S512x512, .bf16⟩
  | 6 => ⟨S1x64, .f32⟩
  | 7 => ⟨S8x64, .f32⟩
  | 8 => ⟨S512, .f32⟩
  | 9 => ⟨S1x512, .f32⟩
  | 10 => ⟨S1x64, .f32⟩
  | 11 => ⟨S8x64, .f32⟩
  | 12 => ⟨S512, .f32⟩
  | 13 => ⟨S1x512, .f32⟩
  | 14 => ⟨S32768x5632, .f32⟩
  | 15 => ⟨S32768x128, .f32⟩
  | 16 => ⟨S2x32768x512, .bf16⟩
  | 17 => ⟨S32768x512, .bf16⟩
  | 18 => ⟨S32768x1024, .bf16⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1024x5632, .bf16⟩
  | .local _ .vmem, ⟨3, _⟩ => ⟨S1024x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x5632, .f32⟩
  | .local _ .vmem, ⟨14, _⟩ => ⟨S512x5632, .f32⟩
  | .local _ .vmem, ⟨15, _⟩ => ⟨S512x128, .f32⟩
  | .local _ .vmem, ⟨16, _⟩ => ⟨S512x128, .f32⟩
  | .local _ .vmem, ⟨17, _⟩ => ⟨S2x512x512, .bf16⟩
  | .local _ .vmem, ⟨18, _⟩ => ⟨S2x512x512, .bf16⟩
  | .local _ .vmem, ⟨19, _⟩ => ⟨S512x512, .bf16⟩
  | .local _ .vmem, ⟨20, _⟩ => ⟨S512x512, .bf16⟩
  | .local _ .vmem, ⟨21, _⟩ => ⟨S512x1024, .bf16⟩
  | .local _ .vmem, ⟨22, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v10 : Ref sig .tc := ⟨.hbm, 38, rfl⟩
abbrev main_c_1 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_v5 : Ref sig .tc := ⟨.hbm, 48, rfl⟩
abbrev main_call1_v6 : Ref sig .tc := ⟨.hbm, 49, rfl⟩
abbrev main_call1_c_2 : Ref sig .tc := ⟨.hbm, 50, rfl⟩
abbrev main_call1_v7 : Ref sig .tc := ⟨.hbm, 51, rfl⟩
abbrev main_call1_v8 : Ref sig .tc := ⟨.hbm, 52, rfl⟩
abbrev main_call1_c_3 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v11 : Ref sig .tc := ⟨.hbm, 60, rfl⟩
abbrev main_v12 : Ref sig .tc := ⟨.hbm, 61, rfl⟩
abbrev main_cst_2 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_cst_3 : Ref sig .tc := ⟨.hbm, 67, rfl⟩
abbrev main_v17 : Ref sig .tc := ⟨.hbm, 68, rfl⟩
abbrev main_v18 : Ref sig .tc := ⟨.hbm, 69, rfl⟩
abbrev main_cst_4 : Ref sig .tc := ⟨.hbm, 70, rfl⟩
abbrev main_v19 : Ref sig .tc := ⟨.hbm, 71, rfl⟩
abbrev main_v20 : Ref sig .tc := ⟨.hbm, 72, rfl⟩
abbrev main_c_5 : Ref sig .tc := ⟨.hbm, 73, rfl⟩
abbrev main_v21 : Ref sig .tc := ⟨.hbm, 74, rfl⟩
abbrev main_v22 : Ref sig .tc := ⟨.hbm, 75, rfl⟩
abbrev main_cst_6 : Ref sig .tc := ⟨.hbm, 76, rfl⟩
abbrev main_call2_v0 : Ref sig .tc := ⟨.hbm, 77, rfl⟩
abbrev main_call2_v1 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_c_7 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_8 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v35 : Ref sig .tc := ⟨.hbm, 96, rfl⟩
abbrev main_c_9 : Ref sig .tc := ⟨.hbm, 97, rfl⟩
abbrev main_v36 : Ref sig .tc := ⟨.hbm, 98, rfl⟩
abbrev main_v37 : Ref sig .tc := ⟨.hbm, 99, rfl⟩
abbrev main_c_10 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_cst_11 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_v41 : Ref sig .tc := ⟨.hbm, 108, rfl⟩
abbrev main_v42 : Ref sig .tc := ⟨.hbm, 109, rfl⟩
abbrev main_c_12 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_v5 : Ref sig .tc := ⟨.hbm, 116, rfl⟩
abbrev main_call5_v6 : Ref sig .tc := ⟨.hbm, 117, rfl⟩
abbrev main_call5_v7 : Ref sig .tc := ⟨.hbm, 118, rfl⟩
abbrev main_call5_v8 : Ref sig .tc := ⟨.hbm, 119, rfl⟩
abbrev main_call5_c : Ref sig .tc := ⟨.hbm, 120, rfl⟩
abbrev main_call5_v9 : Ref sig .tc := ⟨.hbm, 121, rfl⟩
abbrev main_call5_v10 : Ref sig .tc := ⟨.hbm, 122, rfl⟩
abbrev main_call5_v11 : Ref sig .tc := ⟨.hbm, 123, rfl⟩
abbrev main_call5_c_0 : Ref sig .tc := ⟨.hbm, 124, rfl⟩
abbrev main_call5_v12 : Ref sig .tc := ⟨.hbm, 125, rfl⟩
abbrev main_call5_v13 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58_0 : Ref sig .tc := ⟨.hbm, 142, rfl⟩
abbrev main_v58_1 : Ref sig .tc := ⟨.hbm, 143, rfl⟩
abbrev main_v58_2 : Ref sig .tc := ⟨.hbm, 144, rfl⟩
abbrev main_v58_3 : Ref sig .tc := ⟨.hbm, 145, rfl⟩
abbrev main_v58_4 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InpNextReferenceIdeal.lean ====
abbrev S32768x1024 : Shape := ⟨2, ![32768, 1024]⟩
abbrev S32768 : Shape := ⟨1, ![32768]⟩
abbrev S1024x5640 : Shape := ⟨2, ![1024, 5640]⟩
abbrev S64 : Shape := ⟨1, ![64]⟩
abbrev S32768x5640 : Shape := ⟨2, ![32768, 5640]⟩
abbrev S8 : Shape := ⟨1, ![8]⟩
abbrev S_ : Shape := ⟨0, ![]⟩
abbrev S32768x1 : Shape := ⟨2, ![32768, 1]⟩
abbrev S1x8 : Shape := ⟨2, ![1, 8]⟩
abbrev S32768x8 : Shape := ⟨2, ![32768, 8]⟩
abbrev S32768x1x1x8 : Shape := ⟨4, ![32768, 1, 1, 8]⟩
abbrev S32768x512 : Shape := ⟨2, ![32768, 512]⟩
abbrev S32768x4x2x64 : Shape := ⟨4, ![32768, 4, 2, 64]⟩
abbrev S32768x4x2 : Shape := ⟨3, ![32768, 4, 2]⟩
abbrev S32768x4x2x1 : Shape := ⟨4, ![32768, 4, 2, 1]⟩
abbrev S1x1x1x64 : Shape := ⟨4, ![1, 1, 1, 64]⟩
abbrev S32768x4x2x8 : Shape := ⟨4, ![32768, 4, 2, 8]⟩
abbrev S32768x4x2x48 : Shape := ⟨4, ![32768, 4, 2, 48]⟩
abbrev S32768x4x128 : Shape := ⟨3, ![32768, 4, 128]⟩
abbrev S32768x2048 : Shape := ⟨2, ![32768, 2048]⟩
abbrev S32768x3584 : Shape := ⟨2, ![32768, 3584]⟩
abbrev S32768x5632 : Shape := ⟨2, ![32768, 5632]⟩
abbrev S32768x120 : Shape := ⟨2, ![32768, 120]⟩
abbrev S32768x128 : Shape := ⟨2, ![32768, 128]⟩
abbrev S32768x4x64 : Shape := ⟨3, ![32768, 4, 64]⟩
abbrev S32768x4x1x64 : Shape := ⟨4, ![32768, 4, 1, 64]⟩
abbrev S1x32768x4x128 : Shape := ⟨4, ![1, 32768, 4, 128]⟩
abbrev S2x32768x4x128 : Shape := ⟨4, ![2, 32768, 4, 128]⟩
abbrev S32768x4x256 : Shape := ⟨3, ![32768, 4, 256]⟩
abbrev S2x32768x512 : Shape := ⟨3, ![2, 32768, 512]⟩

abbrev nBuf : Space → Nat
  | .hbm => 127
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768, .i32⟩
  | .hbm, ⟨2, _⟩ => ⟨S1024x5640, .f32⟩
  | .hbm, ⟨3, _⟩ => ⟨S64, .f32⟩
  | .hbm, ⟨4, _⟩ => ⟨S64, .f32⟩
  | .hbm, ⟨5, _⟩ => ⟨S1024x5640, .bf16⟩
  | .hbm, ⟨6, _⟩ => ⟨S32768x5640, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S32768, .f32⟩
  | .hbm, ⟨22, _⟩ => ⟨S32768x1, .f32⟩
  | .hbm, ⟨23, _⟩ => ⟨S1x8, .f32⟩
  | .hbm, ⟨24, _⟩ => ⟨S32768x8, .f32⟩
  | .hbm, ⟨25, _⟩ => ⟨S32768x8, .f32⟩
  | .hbm, ⟨26, _⟩ => ⟨S32768x8, .f32⟩
  | .hbm, ⟨27, _⟩ => ⟨S32768x8, .f32⟩
  | .hbm, ⟨28, _⟩ => ⟨S32768x1x1x8, .f32⟩
  | .hbm, ⟨29, _⟩ => ⟨S32768x8, .f32⟩
  | .hbm, ⟨30, _⟩ => ⟨S32768x1x1x8, .f32⟩
  | .hbm, ⟨31, _⟩ => ⟨S32768x512, .f32⟩
  | .hbm, ⟨32, _⟩ => ⟨S32768x4x2x64, .f32⟩
  | .hbm, ⟨33, _⟩ => ⟨S32768x4x2x64, .f32⟩
  | .hbm, ⟨34, _⟩ => ⟨S_, .f32⟩
  | .hbm, ⟨35, _⟩ => ⟨S32768x4x2, .f32⟩
  | .hbm, ⟨36, _⟩ => ⟨S32768x4x2x1, .f32⟩
  | .hbm, ⟨37, _⟩ => ⟨S_, .f32⟩
  | .hbm, ⟨38, _⟩ => ⟨S32768x4x2x1, .f32⟩
  | .hbm, ⟨39, _⟩ => ⟨S32768x4x2x1, .f32⟩
  | .hbm, ⟨40, _⟩ => ⟨S_, .f32⟩
  | .hbm, ⟨41, _⟩ => ⟨S32768x4x2x1, .f32⟩
  | .hbm, ⟨42, _⟩ => ⟨S32768x4x2x1, .f32⟩
  | .hbm, ⟨43, _⟩ => ⟨S32768x4x2x1, .f32⟩
  | .hbm, ⟨44, _⟩ => ⟨S32768x4x2x64, .f32⟩
  | .hbm, ⟨45, _⟩ => ⟨S32768x4x2x64, .f32⟩
  | .hbm, ⟨46, _⟩ => ⟨S1x1x1x64, .f32⟩
  | .hbm, ⟨47, _⟩ => ⟨S32768x4x2x64, .f32⟩
  | .hbm, ⟨48, _⟩ => ⟨S32768x4x2x64, .f32⟩
  | .hbm, ⟨49, _⟩ => ⟨S32768x4x2x8, .f32⟩
  | .hbm, ⟨50, _⟩ => ⟨S32768x4x2x8, .f32⟩
  | .hbm, ⟨51, _⟩ => ⟨S32768x4x2x48, .f32⟩
  | .hbm, ⟨52, _⟩ => ⟨S32768x4x2x8, .f32⟩
  | .hbm, ⟨53, _⟩ => ⟨S32768x4x2x8, .f32⟩
  | .hbm, ⟨54, _⟩ => ⟨S32768x4x2x8, .f32⟩
  | .hbm, ⟨55, _⟩ => ⟨S32768x4x2x8, .f32⟩
  | .hbm, ⟨56, _⟩ => ⟨S32768x4x2x8, .f32⟩
  | .hbm, ⟨57, _⟩ => ⟨S32768x4x2x8, .f32⟩
  | .hbm, ⟨58, _⟩ => ⟨S32768x4x2x8, .f32⟩
  | .hbm, ⟨59, _⟩ => ⟨S32768x4x2x8, .f32⟩
  | .hbm, ⟨60, _⟩ => ⟨S32768x4x2x8, .f32⟩
  | .hbm, ⟨61, _⟩ => ⟨S32768x4x2x8, .f32⟩
  | .hbm, ⟨62, _⟩ => ⟨S32768x4x2x64, .f32⟩
  | .hbm, ⟨63, _⟩ => ⟨S_, .f32⟩
  | .hbm, ⟨64, _⟩ => ⟨S32768x4x2x64, .f32⟩
  | .hbm, ⟨65, _⟩ => ⟨S32768x4x2x64, .f32⟩
  | .hbm, ⟨66, _⟩ => ⟨S32768x512, .f32⟩
  | .hbm, ⟨67, _⟩ => ⟨S32768x4x2x64, .f32⟩
  | .hbm, ⟨68, _⟩ => ⟨S32768x4x2x64, .f32⟩
  | .hbm, ⟨69, _⟩ => ⟨S_, .f32⟩
  | .hbm, ⟨70, _⟩ => ⟨S32768x4x2, .f32⟩
  | .hbm, ⟨71, _⟩ => ⟨S32768x4x2x1, .f32⟩
  | .hbm, ⟨72, _⟩ => ⟨S_, .f32⟩
  | .hbm, ⟨73, _⟩ => ⟨S32768x4x2x1, .f32⟩
  | .hbm, ⟨74, _⟩ => ⟨S32768x4x2x1, .f32⟩
  | .hbm, ⟨75, _⟩ => ⟨S_, .f32⟩
  | .hbm, ⟨76, _⟩ => ⟨S32768x4x2x1, .f32⟩
  | .hbm, ⟨77, _⟩ => ⟨S32768x4x2x1, .f32⟩
  | .hbm, ⟨78, _⟩ => ⟨S32768x4x2x1, .f32⟩
  | .hbm, ⟨79, _⟩ => ⟨S32768x4x2x64, .f32⟩
  | .hbm, ⟨80, _⟩ => ⟨S32768x4x2x64, .f32⟩
  | .hbm, ⟨81, _⟩ => ⟨S1x1x1x64, .f32⟩
  | .hbm, ⟨82, _⟩ => ⟨S32768x4x2x64, .f32⟩
  | .hbm, ⟨83, _⟩ => ⟨S32768x4x2x64, .f32⟩
  | .hbm, ⟨84, _⟩ => ⟨S32768x4x2x8, .f32⟩
  | .hbm, ⟨85, _⟩ => ⟨S32768x4x2x8, .f32⟩
  | .hbm, ⟨86, _⟩ => ⟨S32768x4x2x48, .f32⟩
  | .hbm, ⟨87, _⟩ => ⟨S32768x4x2x8, .f32⟩
  | .hbm, ⟨88, _⟩ => ⟨S32768x4x2x8, .f32⟩
  | .hbm, ⟨89, _⟩ => ⟨S32768x4x2x8, .f32⟩
  | .hbm, ⟨90, _⟩ => ⟨S32768x4x2x8, .f32⟩
  | .hbm, ⟨91, _⟩ => ⟨S32768x4x2x8, .f32⟩
  | .hbm, ⟨92, _⟩ => ⟨S32768x4x2x8, .f32⟩
  | .hbm, ⟨93, _⟩ => ⟨S32768x4x2x8, .f32⟩
  | .hbm, ⟨94, _⟩ => ⟨S32768x4x2x8, .f32⟩
  | .hbm, ⟨95, _⟩ => ⟨S32768x4x2x8, .f32⟩
  | .hbm, ⟨96, _⟩ => ⟨S32768x4x2x8, .f32⟩
  | .hbm, ⟨97, _⟩ => ⟨S32768x4x2x64, .f32⟩
  | .hbm, ⟨98, _⟩ => ⟨S32768x512, .f32⟩
  | .hbm, ⟨99, _⟩ => ⟨S32768x4x128, .f32⟩
  | .hbm, ⟨100, _⟩ => ⟨S32768x2048, .f32⟩
  | .hbm, ⟨101, _⟩ => ⟨S32768x3584, .f32⟩
  | .hbm, ⟨102, _⟩ => ⟨S32768x5632, .f32⟩
  | .hbm, ⟨103, _⟩ => ⟨S32768x8, .f32⟩
  | .hbm, ⟨104, _⟩ => ⟨S_, .f32⟩
  | .hbm, ⟨105, _⟩ => ⟨S32768x120, .f32⟩
  | .hbm, ⟨106, _⟩ => ⟨S32768x128, .f32⟩
  | .hbm, ⟨107, _⟩ => ⟨S_, .f32⟩
  | .hbm, ⟨108, _⟩ => ⟨S32768x4x64, .f32⟩
  | .hbm, ⟨109, _⟩ => ⟨S32768x4x1x64, .f32⟩
  | .hbm, ⟨110, _⟩ => ⟨S32768x4x64, .f32⟩
  | .hbm, ⟨111, _⟩ => ⟨S32768x4x128, .f32⟩
  | .hbm, ⟨112, _⟩ => ⟨S32768x4x1x64, .f32⟩
  | .hbm, ⟨113, _⟩ => ⟨S32768x4x64, .f32⟩
  | .hbm, ⟨114, _⟩ => ⟨S32768x4x128, .f32⟩
  | .hbm, ⟨115, _⟩ => ⟨S1x32768x4x128, .f32⟩
  | .hbm, ⟨116, _⟩ => ⟨S1x32768x4x128, .f32⟩
  | .hbm, ⟨117, _⟩ => ⟨S2x32768x4x128, .f32⟩
  | .hbm, ⟨118, _⟩ => ⟨S_, .f32⟩
  | .hbm, ⟨119, _⟩ => ⟨S32768x4x128, .f32⟩
  | .hbm, ⟨120, _⟩ => ⟨S32768x4x256, .f32⟩
  | .hbm, ⟨121, _⟩ => ⟨S2x32768x512, .f32⟩
  | .hbm, ⟨122, _⟩ => ⟨S2x32768x512, .bf16⟩
  | .hbm, ⟨123, _⟩ => ⟨S32768x512, .f32⟩
  | .hbm, ⟨124, _⟩ => ⟨S32768x512, .bf16⟩
  | .hbm, ⟨125, _⟩ => ⟨S32768x1024, .f32⟩
  | .hbm, ⟨126, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_10 : Ref sig .tc := ⟨.hbm, 104, rfl⟩
abbrev main_v88 : Ref sig .tc := ⟨.hbm, 105, rfl⟩
abbrev main_v89 : Ref sig .tc := ⟨.hbm, 106, rfl⟩
abbrev main_cst_11 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_cst_12 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩

abbrev nD : Nat := 1
abbrev τ : Topo := Topo.v7x

variable {F : FTy → Type} [FloatOps F]
-- ==== NextKernel.lean ====
abbrev S4x8192x4x2x64 : Shape := ⟨5, ![4, 8192, 4, 2, 64]⟩
abbrev S4x8192x4x128 : Shape := ⟨4, ![4, 8192, 4, 128]⟩
abbrev S64 : Shape := ⟨1, ![64]⟩
abbrev S4x64 : Shape := ⟨2, ![4, 64]⟩
abbrev S128 : Shape := ⟨1, ![128]⟩
abbrev S36 : Shape := ⟨1, ![36]⟩
abbrev S_ : Shape := ⟨0, ![]⟩
abbrev S1x4x8192x4x2x64 : Shape := ⟨6, ![1, 4, 8192, 4, 2, 64]⟩
abbrev S2x4x8192x4x2x64 : Shape := ⟨6, ![2, 4, 8192, 4, 2, 64]⟩
abbrev S2x32768x512 : Shape := ⟨3, ![2, 32768, 512]⟩
abbrev S32768x512 : Shape := ⟨2, ![32768, 512]⟩
abbrev S4x8192x4x256 : Shape := ⟨4, ![4, 8192, 4, 256]⟩
abbrev S32768x1024 : Shape := ⟨2, ![32768, 1024]⟩
abbrev S1 : Shape := ⟨1, ![1]⟩
abbrev S1x128 : Shape := ⟨2, ![1, 128]⟩
abbrev S2x1024x512 : Shape := ⟨3, ![2, 1024, 512]⟩
abbrev S1024x512 : Shape := ⟨2, ![1024, 512]⟩
abbrev S1024x1024 : Shape := ⟨2, ![1024, 1024]⟩
abbrev S4x2048x1 : Shape := ⟨3, ![4, 2048, 1]⟩
abbrev S4x2048x256 : Shape := ⟨3, ![4, 2048, 256]⟩
abbrev S2x1024x128 : Shape := ⟨3, ![2, 1024, 128]⟩
abbrev S2048x128 : Shape := ⟨2, ![2048, 128]⟩
abbrev S256x128 : Shape := ⟨2, ![256, 128]⟩
abbrev S256x256 : Shape := ⟨2, ![256, 256]⟩
abbrev S2048x256 : Shape := ⟨2, ![2048, 256]⟩
abbrev S1x2048x256 : Shape := ⟨3, ![1, 2048, 256]⟩
abbrev S1x1024x256 : Shape := ⟨3, ![1, 1024, 256]⟩
abbrev S1024x256 : Shape := ⟨2, ![1024, 256]⟩
abbrev S2x768x128 : Shape := ⟨3, ![2, 768, 128]⟩
abbrev S1536x128 : Shape := ⟨2, ![1536, 128]⟩
abbrev S1536x256 : Shape := ⟨2, ![1536, 256]⟩
abbrev S1x768x256 : Shape := ⟨3, ![1, 768, 256]⟩
abbrev S768x256 : Shape := ⟨2, ![768, 256]⟩
abbrev S2x512x128 : Shape := ⟨3, ![2, 512, 128]⟩
abbrev S1024x128 : Shape := ⟨2, ![1024, 128]⟩
abbrev S1x512x256 : Shape := ⟨3, ![1, 512, 256]⟩
abbrev S512x256 : Shape := ⟨2, ![512, 256]⟩
abbrev S2x256x128 : Shape := ⟨3, ![2, 256, 128]⟩
abbrev S512x128 : Shape := ⟨2, ![512, 128]⟩
abbrev S1x256x256 : Shape := ⟨3, ![1, 256, 256]⟩
abbrev S2048x1024 : Shape := ⟨2, ![2048, 1024]⟩
abbrev S1x2048x1 : Shape := ⟨3, ![1, 2048, 1]⟩
abbrev S2048x1 : Shape := ⟨2, ![2048, 1]⟩
abbrev S2048 : Shape := ⟨1, ![2048]⟩
abbrev S1x64 : Shape := ⟨2, ![1, 64]⟩
abbrev S1x1 : Shape := ⟨2, ![1, 1]⟩
abbrev S1x1024x128 : Shape := ⟨3, ![1, 1024, 128]⟩
abbrev S1024 : Shape := ⟨1, ![1024]⟩
abbrev S1024x1 : Shape := ⟨2, ![1024, 1]⟩

abbrev nBuf : Space → Nat
  | .hbm => 50
  | .vmem => 12
  | .smem => 4
  | _ => 0

abbrev bufTy : (tb : Table) → Fin (tcTables nBuf tb) → BufTy
  | .hbm, ⟨0, _⟩ => ⟨S4x8192x4x2x64, .f32⟩
  | .hbm, ⟨1, _⟩ => ⟨S4x8192x4x2x64, .f32⟩
  | .hbm, ⟨2, _⟩ => ⟨S4x8192x4x128, .f32⟩
  | .hbm, ⟨3, _⟩ => ⟨S64, .f32⟩
  | .hbm, ⟨4, _⟩ => ⟨S64, .f32⟩
  | .hbm, ⟨5, _⟩ => ⟨S4x64, .f32⟩
  | .hbm, ⟨6, _⟩ => ⟨S128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x8192x4x2x64, .f32⟩
  | .hbm, ⟨12, _⟩ => ⟨S4x8192x4x2x64, .f32⟩
  | .hbm, ⟨13, _⟩ => ⟨S4x8192x4x2x64, .i32⟩
  | .hbm, ⟨14, _⟩ => ⟨S_, .i32⟩
  | .hbm, ⟨15, _⟩ => ⟨S4x8192x4x2x64, .i32⟩
  | .hbm, ⟨16, _⟩ => ⟨S4x8192x4x2x64, .i1⟩
  | .hbm, ⟨17, _⟩ => ⟨S_, .f32⟩
  | .hbm, ⟨18, _⟩ => ⟨S4x8192x4x2x64, .f32⟩
  | .hbm, ⟨19, _⟩ => ⟨S4x8192x4x2x64, .f32⟩
  | .hbm, ⟨20, _⟩ => ⟨S4x8192x4x2x64, .f32⟩
  | .hbm, ⟨21, _⟩ => ⟨S1x4x8192x4x2x64, .f32⟩
  | .hbm, ⟨22, _⟩ => ⟨S1x4x8192x4x2x64, .f32⟩
  | .hbm, ⟨23, _⟩ => ⟨S2x4x8192x4x2x64, .f32⟩
  | .hbm, ⟨24, _⟩ => ⟨S2x4x8192x4x2x64, .bf16⟩
  | .hbm, ⟨25, _⟩ => ⟨S2x32768x512, .bf16⟩
  | .hbm, ⟨26, _⟩ => ⟨S4x8192x4x2x64, .bf16⟩
  | .hbm, ⟨27, _⟩ => ⟨S32768x512, .bf16⟩
  | .hbm, ⟨28, _⟩ => ⟨S_, .bf16⟩
  | .hbm, ⟨29, _⟩ => ⟨S4x8192x4x128, .bf16⟩
  | .hbm, ⟨30, _⟩ => ⟨S4x8192x4x128, .bf16⟩
  | .hbm, ⟨31, _⟩ => ⟨S4x8192x4x256, .bf16⟩
  | .hbm, ⟨32, _⟩ => ⟨S32768x1024, .bf16⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .i32⟩
  | .hbm, ⟨47, _⟩ => ⟨S1, .f32⟩
  | .hbm, ⟨48, _⟩ => ⟨S1x128, .f32⟩
  | .hbm, ⟨49, _⟩ => ⟨S32768x512, .bf16⟩
  | .local _ .vmem, ⟨0, _⟩ => ⟨S2x1024x512, .bf16⟩
  | .local _ .vmem, ⟨1, _⟩ => ⟨S2x1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S4x64, .f32⟩
  | .local _ .vmem, ⟨7, _⟩ => ⟨S1x128, .f32⟩
  | .local _ .vmem, ⟨8, _⟩ => ⟨S1024x512, .bf16⟩
  | .local _ .vmem, ⟨9, _⟩ => ⟨S1024x512, .bf16⟩
  | .local _ .vmem, ⟨10, _⟩ => ⟨S4x2048x1, .f32⟩
  | .local _ .vmem, ⟨11, _⟩ => ⟨S4x2048x256, .f32⟩
  | .local _ .smem, ⟨0, _⟩ => ⟨S36, .i32⟩
  | .local _ .smem, ⟨1, _⟩ => ⟨S36, .i32⟩
  | .local _ .smem, ⟨2, _⟩ => ⟨S1, .i32⟩
  | .local _ .smem, ⟨3, _⟩ => ⟨S1, .f32⟩
  | _, _ => ⟨S4x8192x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c : Ref sig .tc := ⟨.smem, 0, rfl⟩
abbrev main_c_0 : Ref sig .tc := ⟨.smem, 1, rfl⟩
abbrev main_v30 : Ref sig .tc := ⟨.smem, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 36], ![false, false]⟩

abbrev pre0 : Pipeline.Prefetch sig := ⟨3, ![main_c.idx, main_c_0.idx, main_v30.idx], fun | 0 => main_c.names | 1 => main_c_0.names | 2 => main_v30.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
@[reducible] def k0_t1_loop : Scf.Loop 32 :=
  let c0_i32_8 : BitVec 32 := 0#32
  let c4_i32 : BitVec 32 := 4#32
  let v27 : BitVec 32 := Scalar.addi c0_i32_8 c4_i32
  let c1_i32_9 : BitVec 32 := 1#32
  ⟨c0_i32_8, v27, c1_i32_9⟩
def k0_mult1 (k0_t1 : Fin k0_t1_loop.trips) : BitVec 32 :=
  let c0_i32_8 : BitVec 32 := 0#32
  let c1_i32_9 : BitVec 32 := 1#32
  let arg14 : BitVec 32 := Scf.iv c0_i32_8 c1_i32_9 k0_t1
  let c128_i32 : BitVec 32 := 128#32
  let v28 : BitVec 32 := Scalar.muli arg14 c128_i32
  v28
def k0_mult2 (k0_t1 : Fin k0_t1_loop.trips) : BitVec 32 :=
  let c0_i32_8 : BitVec 32 := 0#32
  let c1_i32_9 : BitVec 32 := 1#32
  let arg14 : BitVec 32 := Scf.iv c0_i32_8 c1_i32_9 k0_t1
  let c2_i32 : BitVec 32 := 2#32
  let v30 : BitVec 32 := Scalar.muli arg14 c2_i32
  let c128_i32_11 : BitVec 32 := 128#32
  let v31 : BitVec 32 := Scalar.muli v30 c128_i32_11
  v31
def k0_off2 (k0_t1 : Fin k0_t1_loop.trips) : Fin 3 → Nat :=
  let c0_12 : Index := 0#32
  let c0_13 : Index := 0#32
  let c0_i32_8 : BitVec 32 := 0#32
  let c1_i32_9 : BitVec 32 := 1#32
  let arg14 : BitVec 32 := Scf.iv c0_i32_8 c1_i32_9 k0_t1
  let c128_i32 : BitVec 32 := 128#32
  let v28 : BitVec 32 := Scalar.muli arg14 c128_i32
  let v29 : BitVec 32 := v28
  let v33 : Index := Scalar.indexCast v29
  ![0, 0, v33.toNat]
def k0_off3 (k0_t1 : Fin k0_t1_loop.trips) : Fin 2 → Nat :=
  let c0_15 : Index := 0#32
  let c0_i32_8 : BitVec 32 := 0#32
  let c1_i32_9 : BitVec 32 := 1#32
  let arg14 : BitVec 32 := Scf.iv c0_i32_8 c1_i32_9 k0_t1
  let c128_i32 : BitVec 32 := 128#32
  let v28 : BitVec 32 := Scalar.muli arg14 c128_i32
  let v29 : BitVec 32 := v28
  let v38 : Index := Scalar.indexCast v29
  ![0, v38.toNat]
def k0_off4 (k0_t1 : Fin k0_t1_loop.trips) : Fin 2 → Nat :=
  let c0_16 : Index := 0#32
  let c0_i32_8 : BitVec 32 := 0#32
  let c1_i32_9 : BitVec 32 := 1#32
  let arg14 : BitVec 32 := Scf.iv c0_i32_8 c1_i32_9 k0_t1
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v41 : Index := Scalar.indexCast v32
  ![0, v41.toNat]
def k0_off5 (k0_t1 : Fin k0_t1_loop.trips) : Fin 3 → Nat :=
  let c0_i32_8 : BitVec 32 := 0#32
  let c1_i32_9 : BitVec 32 := 1#32
  let arg14 : BitVec 32 := Scf.iv c0_i32_8 c1_i32_9 k0_t1
  let v45 : Index := Scalar.indexCast arg14
  let c0_17 : Index := 0#32
  let c0_18 : Index := 0#32
  ![v45.toNat, 0, 0]
def k0_off6 (k0_t1 : Fin k0_t1_loop.trips) : Fin 2 → Nat :=
  let c256 : Index := 256#32
  let c0_i32_8 : BitVec 32 := 0#32
  let c1_i32_9 : BitVec 32 := 1#32
  let arg14 : BitVec 32 := Scf.iv c0_i32_8 c1_i32_9 k0_t1
  let c128_i32 : BitVec 32 := 128#32
  let v28 : BitVec 32 := Scalar.muli arg14 c128_i32
  let v29 : BitVec 32 := v28
  let v58 : Index := Scalar.indexCast v29
  ![256, v58.toNat]
def k0_off7 (k0_t1 : Fin k0_t1_loop.trips) : Fin 2 → Nat :=
  let c256_22 : Index := 256#32
  let c0_i32_8 : BitVec 32 := 0#32
  let c1_i32_9 : BitVec 32 := 1#32
  let arg14 : BitVec 32 := Scf.iv c0_i32_8 c1_i32_9 k0_t1
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v61 : Index := Scalar.indexCast v32
  ![256, v61.toNat]
def k0_off8 (k0_t1 : Fin k0_t1_loop.trips) : Fin 2 → Nat :=
  let c512 : Index := 512#32
  let c0_i32_8 : BitVec 32 := 0#32
  let c1_i32_9 : BitVec 32 := 1#32
  let arg14 : BitVec 32 := Scf.iv c0_i32_8 c1_i32_9 k0_t1
  let c128_i32 : BitVec 32 := 128#32
  let v28 : BitVec 32 := Scalar.muli arg14 c128_i32
  let v29 : BitVec 32 := v28
  let v78 : Index := Scalar.indexCast v29
  ![512, v78.toNat]
def k0_off9 (k0_t1 : Fin k0_t1_loop.trips) : Fin 2 → Nat :=
  let c512_29 : Index := 512#32
  let c0_i32_8 : BitVec 32 := 0#32
  let c1_i32_9 : BitVec 32 := 1#32
  let arg14 : BitVec 32 := Scf.iv c0_i32_8 c1_i32_9 k0_t1
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v81 : Index := Scalar.indexCast v32
  ![512, v81.toNat]
def k0_off10 (k0_t1 : Fin k0_t1_loop.trips) : Fin 2 → Nat :=
  let c768 : Index := 768#32
  let c0_i32_8 : BitVec 32 := 0#32
  let c1_i32_9 : BitVec 32 := 1#32
  let arg14 : BitVec 32 := Scf.iv c0_i32_8 c1_i32_9 k0_t1
  let c128_i32 : BitVec 32 := 128#32
  let v28 : BitVec 32 := Scalar.muli arg14 c128_i32
  let v29 : BitVec 32 := v28
  let v98 : Index := Scalar.indexCast v29
  ![768, v98.toNat]
def k0_off11 (k0_t1 : Fin k0_t1_loop.trips) : Fin 2 → Nat :=
  let c768_36 : Index := 768#32
  let c0_i32_8 : BitVec 32 := 0#32
  let c1_i32_9 : BitVec 32 := 1#32
  let arg14 : BitVec 32 := Scf.iv c0_i32_8 c1_i32_9 k0_t1
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v101 : Index := Scalar.indexCast v32
  ![768, v101.toNat]
@[reducible] def k0_t2_loop : Scf.Loop 32 :=
  let c0_i32_8 : BitVec 32 := 0#32
  let c4_i32 : BitVec 32 := 4#32
  let v27 : BitVec 32 := Scalar.addi c0_i32_8 c4_i32
  let c1_i32_9 : BitVec 32 := 1#32
  ⟨c0_i32_8, v27, c1_i32_9⟩
def k0_mult3 (k0_t2 : Fin k0_t2_loop.trips) : BitVec 32 :=
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  v28
def k0_mult4 (k0_t2 : Fin k0_t2_loop.trips) : BitVec 32 :=
  let c0_i32_8 : BitVec 32 := 0#32
  let c1_i32_9 : BitVec 32 := 1#32
  let arg14 : BitVec 32 := Scf.iv c0_i32_8 c1_i32_9 k0_t2
  let c2_i32 : BitVec 32 := 2#32
  let v30 : BitVec 32 := Scalar.muli arg14 c2_i32
  let c128_i32_11 : BitVec 32 := 128#32
  let v31 : BitVec 32 := Scalar.muli v30 c128_i32_11
  v31
def k0_off12 (k0_t2 : Fin k0_t2_loop.trips) : Fin 2 → Nat :=
  let c0_13 : Index := 0#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v34 : Index := Scalar.indexCast v29
  ![0, v34.toNat]
def k0_off13 (k0_t2 : Fin k0_t2_loop.trips) : Fin 2 → Nat :=
  let c0_14 : Index := 0#32
  let c0_i32_8 : BitVec 32 := 0#32
  let c1_i32_9 : BitVec 32 := 1#32
  let arg14 : BitVec 32 := Scf.iv c0_i32_8 c1_i32_9 k0_t2
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v37 : Index := Scalar.indexCast v32
  ![0, v37.toNat]
def k0_off14 (k0_t2 : Fin k0_t2_loop.trips) : Fin 3 → Nat :=
  let c0_15 : Index := 0#32
  let c0_16 : Index := 0#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v40 : Index := Scalar.indexCast v29
  ![0, 0, v40.toNat]
def k0_off15 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v60 : Index := Scalar.indexCast arg14
  let c0_20 : Index := 0#32
  let c0_21 : Index := 0#32
  ![v60.toNat, 0, 0]
def k0_off16 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v69 : Index := Scalar.indexCast arg14
  let c1024 : Index := 1024#32
  let c0_24 : Index := 0#32
  ![v69.toNat, 1024, 0]
def k0_off17 (k0_t2 : Fin k0_t2_loop.trips) : Fin 2 → Nat :=
  let c256 : Index := 256#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v78 : Index := Scalar.indexCast v29
  ![256, v78.toNat]
def k0_off18 (k0_t2 : Fin k0_t2_loop.trips) : Fin 2 → Nat :=
  let c256_27 : Index := 256#32
  let c0_i32_8 : BitVec 32 := 0#32
  let c1_i32_9 : BitVec 32 := 1#32
  let arg14 : BitVec 32 := Scf.iv c0_i32_8 c1_i32_9 k0_t2
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v81 : Index := Scalar.indexCast v32
  ![256, v81.toNat]
def k0_off19 (k0_t2 : Fin k0_t2_loop.trips) : Fin 3 → Nat :=
  let c0_28 : Index := 0#32
  let c256_29 : Index := 256#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v84 : Index := Scalar.indexCast v29
  ![0, 256, v84.toNat]
def k0_off20 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v104 : Index := Scalar.indexCast arg14
  let c256_34 : Index := 256#32
  let c0_35 : Index := 0#32
  ![v104.toNat, 256, 0]
def k0_off21 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v113 : Index := Scalar.indexCast arg14
  let c1280 : Index := 1280#32
  let c0_38 : Index := 0#32
  ![v113.toNat, 1280, 0]
def k0_off22 (k0_t2 : Fin k0_t2_loop.trips) : Fin 2 → Nat :=
  let c512 : Index := 512#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v122 : Index := Scalar.indexCast v29
  ![512, v122.toNat]
def k0_off23 (k0_t2 : Fin k0_t2_loop.trips) : Fin 2 → Nat :=
  let c512_41 : Index := 512#32
  let c0_i32_8 : BitVec 32 := 0#32
  let c1_i32_9 : BitVec 32 := 1#32
  let arg14 : BitVec 32 := Scf.iv c0_i32_8 c1_i32_9 k0_t2
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v125 : Index := Scalar.indexCast v32
  ![512, v125.toNat]
def k0_off24 (k0_t2 : Fin k0_t2_loop.trips) : Fin 3 → Nat :=
  let c0_42 : Index := 0#32
  let c512_43 : Index := 512#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v128 : Index := Scalar.indexCast v29
  ![0, 512, v128.toNat]
def k0_off25 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v148 : Index := Scalar.indexCast arg14
  let c512_48 : Index := 512#32
  let c0_49 : Index := 0#32
  ![v148.toNat, 512, 0]
def k0_off26 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v157 : Index := Scalar.indexCast arg14
  let c1536 : Index := 1536#32
  let c0_52 : Index := 0#32
  ![v157.toNat, 1536, 0]
def k0_off27 (k0_t2 : Fin k0_t2_loop.trips) : Fin 2 → Nat :=
  let c768 : Index := 768#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v166 : Index := Scalar.indexCast v29
  ![768, v166.toNat]
def k0_off28 (k0_t2 : Fin k0_t2_loop.trips) : Fin 2 → Nat :=
  let c768_55 : Index := 768#32
  let c0_i32_8 : BitVec 32 := 0#32
  let c1_i32_9 : BitVec 32 := 1#32
  let arg14 : BitVec 32 := Scf.iv c0_i32_8 c1_i32_9 k0_t2
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v169 : Index := Scalar.indexCast v32
  ![768, v169.toNat]
def k0_off29 (k0_t2 : Fin k0_t2_loop.trips) : Fin 3 → Nat :=
  let c0_56 : Index := 0#32
  let c768_57 : Index := 768#32
  let c0_i32_8 : BitVec 32 := 0#32
  let c1_i32_9 : BitVec 32 := 1#32
  let arg14 : BitVec 32 := Scf.iv c0_i32_8 c1_i32_9 k0_t2
  let c128_i32 : BitVec 32 := 128#32
  let v28 : BitVec 32 := Scalar.muli arg14 c128_i32
  let v29 : BitVec 32 := v28
  let v172 : Index := Scalar.indexCast v29
  ![0, 768, v172.toNat]
def k0_off30 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v192 : Index := Scalar.indexCast arg14
  let c768_62 : Index := 768#32
  let c0_63 : Index := 0#32
  ![v192.toNat, 768, 0]
def k0_off31 (k0_t2 : Fin k0_t2_loop.trips) : Fin 3 → Nat :=
  let c0_i32_8 : BitVec 32 := 0#32
  let c1_i32_9 : BitVec 32 := 1#32
  let arg14 : BitVec 32 := Scf.iv c0_i32_8 c1_i32_9 k0_t2
  let v201 : Index := Scalar.indexCast arg14
  let c1792 : Index := 1792#32
  let c0_66 : Index := 0#32
  ![v201.toNat, 1792, 0]
@[reducible] def k0_t3_loop : Scf.Loop 32 :=
  let c0_i32_8 : BitVec 32 := 0#32
  let c4_i32 : BitVec 32 := 4#32
  let v27 : BitVec 32 := Scalar.addi c0_i32_8 c4_i32
  let c1_i32_9 : BitVec 32 := 1#32
  ⟨c0_i32_8, v27, c1_i32_9⟩
def k0_mult5 (k0_t3 : Fin k0_t3_loop.trips) : BitVec 32 :=
  let c0_i32_8 : BitVec 32 := 0#32
  let c1_i32_9 : BitVec 32 := 1#32
  let arg14 : BitVec 32 := Scf.iv c0_i32_8 c1_i32_9 k0_t3
  let c128_i32 : BitVec 32 := 128#32
  let v28 : BitVec 32 := Scalar.muli arg14 c128_i32
  v28
def k0_mult6 (k0_t3 : Fin k0_t3_loop.trips) : BitVec 32 :=
  let c0_i32_8 : BitVec 32 := 0#32
  let c1_i32_9 : BitVec 32 := 1#32
  let arg14 : BitVec 32 := Scf.iv c0_i32_8 c1_i32_9 k0_t3
  let c2_i32 : BitVec 32 := 2#32
  let v30 : BitVec 32 := Scalar.muli arg14 c2_i32
  let c128_i32_11 : BitVec 32 := 128#32
  let v31 : BitVec 32 := Scalar.muli v30 c128_i32_11
  v31
def k0_off32 (k0_t3 : Fin k0_t3_loop.trips) : Fin 3 → Nat :=
  let c0_12 : Index := 0#32
  let c0_13 : Index := 0#32
  let c0_i32_8 : BitVec 32 := 0#32
  let c1_i32_9 : BitVec 32 := 1#32
  let arg14 : BitVec 32 := Scf.iv c0_i32_8 c1_i32_9 k0_t3
  let c128_i32 : BitVec 32 := 128#32
  let v28 : BitVec 32 := Scalar.muli arg14 c128_i32
  let v29 : BitVec 32 := v28
  let v33 : Index := Scalar.indexCast v29
  ![0, 0, v33.toNat]
def k0_off33 (k0_t3 : Fin k0_t3_loop.trips) : Fin 2 → Nat :=
  let c0_14 : Index := 0#32
  let c0_i32_8 : BitVec 32 := 0#32
  let c1_i32_9 : BitVec 32 := 1#32
  let arg14 : BitVec 32 := Scf.iv c0_i32_8 c1_i32_9 k0_t3
  let c128_i32 : BitVec 32 := 128#32
  let v28 : BitVec 32 := Scalar.muli arg14 c128_i32
  let v29 : BitVec 32 := v28
  let v37 : Index := Scalar.indexCast v29
  ![0, v37.toNat]
def k0_off34 (k0_t3 : Fin k0_t3_loop.trips) : Fin 3 → Nat :=
  let c0_i32_8 : BitVec 32 := 0#32
  let c1_i32_9 : BitVec 32 := 1#32
  let arg14 : BitVec 32 := Scf.iv c0_i32_8 c1_i32_9 k0_t3
  let v41 : Index := Scalar.indexCast arg14
  let c0_15 : Index := 0#32
  let c0_16 : Index := 0#32
  ![v41.toNat, 0, 0]
def k0_off35 (k0_t3 : Fin k0_t3_loop.trips) : Fin 3 → Nat :=
  let c0_i32_8 : BitVec 32 := 0#32
  let c1_i32_9 : BitVec 32 := 1#32
  let arg14 : BitVec 32 := Scf.iv c0_i32_8 c1_i32_9 k0_t3
  let v52 : Index := Scalar.indexCast arg14
  let c0_18 : Index := 0#32
  let c0_19 : Index := 0#32
  ![v52.toNat, 0, 0]
def k0_off36 (k0_t3 : Fin k0_t3_loop.trips) : Fin 2 → Nat :=
  let c0_20 : Index := 0#32
  let c0_i32_8 : BitVec 32 := 0#32
  let c1_i32_9 : BitVec 32 := 1#32
  let arg14 : BitVec 32 := Scf.iv c0_i32_8 c1_i32_9 k0_t3
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v58 : Index := Scalar.indexCast v32
  ![0, v58.toNat]
@[reducible] def k0_t4_loop : Scf.Loop 32 :=
  let c0_i32_8 : BitVec 32 := 0#32
  let c4_i32 : BitVec 32 := 4#32
  let v27 : BitVec 32 := Scalar.addi c0_i32_8 c4_i32
  let c1_i32_9 : BitVec 32 := 1#32
  ⟨c0_i32_8, v27, c1_i32_9⟩
def k0_mult7 (k0_t4 : Fin k0_t4_loop.trips) : BitVec 32 :=
  let c0_i32_8 : BitVec 32 := 0#32
  let c1_i32_9 : BitVec 32 := 1#32
  let arg14 : BitVec 32 := Scf.iv c0_i32_8 c1_i32_9 k0_t4
  let c128_i32 : BitVec 32 := 128#32
  let v28 : BitVec 32 := Scalar.muli arg14 c128_i32
  v28
def k0_mult8 (k0_t4 : Fin k0_t4_loop.trips) : BitVec 32 :=
  let c0_i32_8 : BitVec 32 := 0#32
  let c1_i32_9 : BitVec 32 := 1#32
  let arg14 : BitVec 32 := Scf.iv c0_i32_8 c1_i32_9 k0_t4
  let c2_i32 : BitVec 32 := 2#32
  let v30 : BitVec 32 := Scalar.muli arg14 c2_i32
  let c128_i32_11 : BitVec 32 := 128#32
  let v31 : BitVec 32 := Scalar.muli v30 c128_i32_11
  v31
def k0_off37 (k0_t4 : Fin k0_t4_loop.trips) : Fin 3 → Nat :=
  let c0_12 : Index := 0#32
  let c0_13 : Index := 0#32
  let c0_i32_8 : BitVec 32 := 0#32
  let c1_i32_9 : BitVec 32 := 1#32
  let arg14 : BitVec 32 := Scf.iv c0_i32_8 c1_i32_9 k0_t4
  let c128_i32 : BitVec 32 := 128#32
  let v28 : BitVec 32 := Scalar.muli arg14 c128_i32
  let v29 : BitVec 32 := v28
  let v33 : Index := Scalar.indexCast v29
  ![0, 0, v33.toNat]
def k0_off38 (k0_t4 : Fin k0_t4_loop.trips) : Fin 2 → Nat :=
  let c0_14 : Index := 0#32
  let c0_i32_8 : BitVec 32 := 0#32
  let c1_i32_9 : BitVec 32 := 1#32
  let arg14 : BitVec 32 := Scf.iv c0_i32_8 c1_i32_9 k0_t4
  let c128_i32 : BitVec 32 := 128#32
  let v28 : BitVec 32 := Scalar.muli arg14 c128_i32
  let v29 : BitVec 32 := v28
  let v37 : Index := Scalar.indexCast v29
  ![0, v37.toNat]
def k0_off39 (k0_t4 : Fin k0_t4_loop.trips) : Fin 3 → Nat :=
  let c0_i32_8 : BitVec 32 := 0#32
  let c1_i32_9 : BitVec 32 := 1#32
  let arg14 : BitVec 32 := Scf.iv c0_i32_8 c1_i32_9 k0_t4
  let v53 : Index := Scalar.indexCast arg14
  let c0_18 : Index := 0#32
  let c0_19 : Index := 0#32
  ![v53.toNat, 0, 0]
def k0_off40 (k0_t4 : Fin k0_t4_loop.trips) : Fin 3 → Nat :=
  let c0_i32_8 : BitVec 32 := 0#32
  let c1_i32_9 : BitVec 32 := 1#32
  let arg14 : BitVec 32 := Scf.iv c0_i32_8 c1_i32_9 k0_t4
  let v64 : Index := Scalar.indexCast arg14
  let c0_21 : Index := 0#32
  let c0_22 : Index := 0#32
  ![v64.toNat, 0, 0]
def k0_off41 (k0_t4 : Fin k0_t4_loop.trips) : Fin 2 → Nat :=
  let c0_23 : Index := 0#32
  let c0_i32_8 : BitVec 32 := 0#32
  let c1_i32_9 : BitVec 32 := 1#32
  let arg14 : BitVec 32 := Scf.iv c0_i32_8 c1_i32_9 k0_t4
  let c2_i32 : BitVec 32 := 2#32
  let v30 : BitVec 32 := Scalar.muli arg14 c2_i32
  let c128_i32_11 : BitVec 32 := 128#32
  let v31 : BitVec 32 := Scalar.muli v30 c128_i32_11
  let v32 : BitVec 32 := v31
  let v70 : Index := Scalar.indexCast v32
  ![0, v70.toNat]
def k0_cond6 (v1 : BitVec 32) (v3 : BitVec 32) : BitVec 1 :=
  let v6 : BitVec 1 := Scalar.cmpi .eq v3 v1
  let v25 : BitVec 32 := Scalar.extui v6
  let c0_i32_7 : BitVec 32 := 0#32
  let v26 : BitVec 1 := Scalar.cmpi .ne v25 c0_i32_7
  v26

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let v2 : Index := Scalar.indexCast arg1
  let v3 : BitVec 32 := pf.at 1 (Rect.unit (s := S36) ![v2.toNat] S1.size (k0_off1_inb i)) numel1_S1
  let c8_i32 : BitVec 32 := 8#32
  let v4 : BitVec 32 := Scalar.muli arg0 c8_i32
  let v5 : BitVec 32 := Scalar.addi v4 v1
  let c0_i32 : BitVec 32 := 0#32
  let c0_i32_0 : BitVec 32 := 0#32
  let c0_i32_1 : BitVec 32 := 0#32
  ![c0_i32.toNat, v5.toNat, c0_i32_0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let v2 : Index := Scalar.indexCast arg1
  let v3 : BitVec 32 := pf.at 1 (Rect.unit (s := S36) ![v2.toNat] S1.size (k0_off1_inb i)) numel1_S1
  let c8_i32 : BitVec 32 := 8#32
  let v4 : BitVec 32 := Scalar.muli arg0 c8_i32
  let v5 : BitVec 32 := Scalar.addi v4 v3
  let c0_i32 : BitVec 32 := 0#32
  let c0_i32_0 : BitVec 32 := 0#32
  ![v5.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let v2 : Index := Scalar.indexCast arg1
  let v3 : BitVec 32 := pf.at 1 (Rect.unit (s := S36) ![v2.toNat] S1.size (k0_off1_inb i)) numel1_S1
  let c8_i32 : BitVec 32 := 8#32
  let v4 : BitVec 32 := Scalar.muli arg0 c8_i32
  let v5 : BitVec 32 := Scalar.addi v4 v3
  let c0_i32 : BitVec 32 := 0#32
  let c0_i32_0 : BitVec 32 := 0#32
  ![v5.toNat, c0_i32.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let v2 : Index := Scalar.indexCast arg1
  let v3 : BitVec 32 := pf.at 1 (Rect.unit (s := S36) ![v2.toNat] S1.size (k0_off1_inb i)) numel1_S1
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let v2 : Index := Scalar.indexCast arg1
  let v3 : BitVec 32 := pf.at 1 (Rect.unit (s := S36) ![v2.toNat] S1.size (k0_off1_inb i)) numel1_S1
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let v2 : Index := Scalar.indexCast arg1
  let v3 : BitVec 32 := pf.at 1 (Rect.unit (s := S36) ![v2.toNat] S1.size (k0_off1_inb i)) numel1_S1
  let c8_i32 : BitVec 32 := 8#32
  let v4 : BitVec 32 := Scalar.muli arg0 c8_i32
  let v5 : BitVec 32 := Scalar.addi v4 v1
  let c0_i32 : BitVec 32 := 0#32
  let c0_i32_0 : BitVec 32 := 0#32
  ![v5.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== NextReferenceIdeal.lean ====
abbrev S4x8192x4x2x64 : Shape := ⟨5, ![4, 8192, 4, 2, 64]⟩
abbrev S4x8192x4x128 : Shape := ⟨4, ![4, 8192, 4, 128]⟩
abbrev S64 : Shape := ⟨1, ![64]⟩
abbrev S4x64 : Shape := ⟨2, ![4, 64]⟩
abbrev S128 : Shape := ⟨1, ![128]⟩
abbrev S1x64 : Shape := ⟨2, ![1, 64]⟩
abbrev S_ : Shape := ⟨0, ![]⟩
abbrev S4x4x2x8192x8192 : Shape := ⟨5, ![4, 4, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x4x2x8192 : Shape := ⟨4, ![4, 4, 2, 8192]⟩
abbrev S4x4x2x8192x1 : Shape := ⟨5, ![4, 4, 2, 8192, 1]⟩
abbrev S4x4x1x8192x8192 : Shape := ⟨5, ![4, 4, 1, 8192, 8192]⟩
abbrev S4x4x8192x8192 : Shape := ⟨4, ![4, 4, 8192, 8192]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S32768x512 : Shape := ⟨2, ![32768, 512]⟩

abbrev nBuf : Space → Nat
  | .hbm => 93
  | .vmem => 0
  | .smem => 0
  | _ => 0

abbrev bufTy : (tb : Table) → Fin (tcTables nBuf tb) → BufTy
  | .hbm, ⟨0, _⟩ => ⟨S4x8192x4x2x64, .f32⟩
  | .hbm, ⟨1, _⟩ => ⟨S4x8192x4x2x64, .f32⟩
  | .hbm, ⟨2, _⟩ => ⟨S4x8192x4x128, .f32⟩
  | .hbm, ⟨3, _⟩ => ⟨S64, .f32⟩
  | .hbm, ⟨4, _⟩ => ⟨S64, .f32⟩
  | .hbm, ⟨5, _⟩ => ⟨S4x64, .f32⟩
  | .hbm, ⟨6, _⟩ => ⟨S128, .f32⟩
  | .hbm, ⟨7, _⟩ => ⟨S4x8192x4x2x64, .bf16⟩
  | .hbm, ⟨8, _⟩ => ⟨S4x8192x4x2x64, .bf16⟩
  | .hbm, ⟨9, _⟩ => ⟨S4x8192x4x128, .bf16⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x4x2x8192x8192, .f32⟩
  | .hbm, ⟨30, _⟩ => ⟨S_, .f32⟩
  | .hbm, ⟨31, _⟩ => ⟨S4x4x2x8192x8192, .f32⟩
  | .hbm, ⟨32, _⟩ => ⟨S4x4x2x8192x8192, .f32⟩
  | .hbm, ⟨33, _⟩ => ⟨S8192, .i32⟩
  | .hbm, ⟨34, _⟩ => ⟨S1x8192, .i32⟩
  | .hbm, ⟨35, _⟩ => ⟨S8192x1, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S_, .f32⟩
  | .hbm, ⟨41, _⟩ => ⟨S4x4x2x8192x8192, .i1⟩
  | .hbm, ⟨42, _⟩ => ⟨S4x4x2x8192x8192, .f32⟩
  | .hbm, ⟨43, _⟩ => ⟨S4x4x2x8192x8192, .f32⟩
  | .hbm, ⟨44, _⟩ => ⟨S_, .f32⟩
  | .hbm, ⟨45, _⟩ => ⟨S4x4x2x8192, .f32⟩
  | .hbm, ⟨46, _⟩ => ⟨S_, .f32⟩
  | .hbm, ⟨47, _⟩ => ⟨S4x4x2x8192, .f32⟩
  | .hbm, ⟨48, _⟩ => ⟨S4x4x2x8192, .f32⟩
  | .hbm, ⟨49, _⟩ => ⟨S4x4x2x8192x1, .f32⟩
  | .hbm, ⟨50, _⟩ => ⟨S4x4x2x8192x8192, .f32⟩
  | .hbm, ⟨51, _⟩ => ⟨S4x4x2x8192x8192, .f32⟩
  | .hbm, ⟨52, _⟩ => ⟨S4x4x2x8192x8192, .f32⟩
  | .hbm, ⟨53, _⟩ => ⟨S_, .f32⟩
  | .hbm, ⟨54, _⟩ => ⟨S4x4x2x8192, .f32⟩
  | .hbm, ⟨55, _⟩ => ⟨S4x4x2x8192x1, .f32⟩
  | .hbm, ⟨56, _⟩ => ⟨S4x4x2x8192x8192, .f32⟩
  | .hbm, ⟨57, _⟩ => ⟨S4x4x2x8192x8192, .f32⟩
  | .hbm, ⟨58, _⟩ => ⟨S4x4x1x8192x8192, .f32⟩
  | .hbm, ⟨59, _⟩ => ⟨S4x4x8192x8192, .f32⟩
  | .hbm, ⟨60, _⟩ => ⟨S4x4x1x8192x8192, .f32⟩
  | .hbm, ⟨61, _⟩ => ⟨S4x4x8192x8192, .f32⟩
  | .hbm, ⟨62, _⟩ => ⟨S4x4x8192x8192, .f32⟩
  | .hbm, ⟨63, _⟩ => ⟨S4x4x8192x8192, .f32⟩
  | .hbm, ⟨64, _⟩ => ⟨S4x4x8192x8192, .f32⟩
  | .hbm, ⟨65, _⟩ => ⟨S4x4x8192x8192, .bf16⟩
  | .hbm, ⟨66, _⟩ => ⟨S4x4x128x8192, .f32⟩
  | .hbm, ⟨67, _⟩ => ⟨S4x8192x4x128, .f32⟩
  | .hbm, ⟨68, _⟩ => ⟨S4x8192x4x128, .bf16⟩
  | .hbm, ⟨69, _⟩ => ⟨S4x8192x4x128, .f32⟩
  | .hbm, ⟨70, _⟩ => ⟨S4x8192x4x128, .f32⟩
  | .hbm, ⟨71, _⟩ => ⟨S_, .f32⟩
  | .hbm, ⟨72, _⟩ => ⟨S4x8192x4, .f32⟩
  | .hbm, ⟨73, _⟩ => ⟨S4x8192x4x1, .f32⟩
  | .hbm, ⟨74, _⟩ => ⟨S_, .f32⟩
  | .hbm, ⟨75, _⟩ => ⟨S4x8192x4x1, .f32⟩
  | .hbm, ⟨76, _⟩ => ⟨S4x8192x4x1, .f32⟩
  | .hbm, ⟨77, _⟩ => ⟨S_, .f32⟩
  | .hbm, ⟨78, _⟩ => ⟨S4x8192x4x1, .f32⟩
  | .hbm, ⟨79, _⟩ => ⟨S4x8192x4x1, .f32⟩
  | .hbm, ⟨80, _⟩ => ⟨S4x8192x4x1, .f32⟩
  | .hbm, ⟨81, _⟩ => ⟨S4x8192x4x128, .f32⟩
  | .hbm, ⟨82, _⟩ => ⟨S4x8192x4x128, .f32⟩
  | .hbm, ⟨83, _⟩ => ⟨S1x1x1x128, .f32⟩
  | .hbm, ⟨84, _⟩ => ⟨S4x8192x4x128, .f32⟩
  | .hbm, ⟨85, _⟩ => ⟨S4x8192x4x128, .f32⟩
  | .hbm, ⟨86, _⟩ => ⟨S4x8192x4x128, .bf16⟩
  | .hbm, ⟨87, _⟩ => ⟨S4x8192x4x128, .f32⟩
  | .hbm, ⟨88, _⟩ => ⟨S_, .f32⟩
  | .hbm, ⟨89, _⟩ => ⟨S4x8192x4x128, .f32⟩
  | .hbm, ⟨90, _⟩ => ⟨S4x8192x4x128, .f32⟩
  | .hbm, ⟨91, _⟩ => ⟨S4x8192x4x128, .bf16⟩
  | .hbm, ⟨92, _⟩ => ⟨S32768x512, .bf16⟩
  | _, _ => ⟨S4x8192x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_10 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== MixNext.lean ====
abbrev S32768x512 : Shape := ⟨2, ![32768, 512]⟩
abbrev S32768x5632 : Shape := ⟨2, ![32768, 5632]⟩
abbrev S32768x1024 : Shape := ⟨2, ![32768, 1024]⟩
abbrev S512x1024 : Shape := ⟨2, ![512, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1x1024 : Shape := ⟨2, ![1, 1024]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S32768x128 : Shape := ⟨2, ![32768, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 36
  | .vmem => 23
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x5632, .f32⟩
  | .hbm, ⟨3, _⟩ => ⟨S32768x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x8, .f32⟩
  | .hbm, ⟨9, _⟩ => ⟨S8, .f32⟩
  | .hbm, ⟨10, _⟩ => ⟨S32768x512, .bf16⟩
  | .hbm, ⟨11, _⟩ => ⟨S32768x512, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S_, .f32⟩
  | .hbm, ⟨17, _⟩ => ⟨S1024x128, .f32⟩
  | .hbm, ⟨18, _⟩ => ⟨S_, .i32⟩
  | .hbm, ⟨19, _⟩ => ⟨S1, .i32⟩
  | .hbm, ⟨20, _⟩ => ⟨S1024x128, .f32⟩
  | .hbm, ⟨21, _⟩ => ⟨S1024x128, .bf16⟩
  | .hbm, ⟨22, _⟩ => ⟨S1024x128, .f32⟩
  | .hbm, ⟨23, _⟩ => ⟨S1024x128, .f32⟩
  | .hbm, ⟨24, _⟩ => ⟨S1024x128, .bf16⟩
  | .hbm, ⟨25, _⟩ => ⟨S_, .f32⟩
  | .hbm, ⟨26, _⟩ => ⟨S1x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x128, .f32⟩
  | .hbm, ⟨33, _⟩ => ⟨S32768x1024, .f32⟩
  | .hbm, ⟨34, _⟩ => ⟨S32768x1024, .f32⟩
  | .hbm, ⟨35, _⟩ => ⟨S32768x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1024x128, .bf16⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x128, .f32⟩
  | .local _ .vmem, ⟨22, _⟩ => ⟨S512x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixNextReferenceIdeal.lean ====
abbrev S32768x512 : Shape := ⟨2, ![32768, 512]⟩
abbrev S32768x5632 : Shape := ⟨2, ![32768, 5632]⟩
abbrev S32768x1024 : Shape := ⟨2, ![32768, 1024]⟩
abbrev S512x1024 : Shape := ⟨2, ![512, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x5632, .f32⟩
  | .hbm, ⟨3, _⟩ => ⟨S32768x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x8, .f32⟩
  | .hbm, ⟨9, _⟩ => ⟨S8, .f32⟩
  | .hbm, ⟨10, _⟩ => ⟨S32768x1024, .f32⟩
  | .hbm, ⟨11, _⟩ => ⟨S32768x1024, .f32⟩
  | .hbm, ⟨12, _⟩ => ⟨S32768x512, .bf16⟩
  | .hbm, ⟨13, _⟩ => ⟨S512x1024, .bf16⟩
  | .hbm, ⟨14, _⟩ => ⟨S32768x1024, .f32⟩
  | .hbm, ⟨15, _⟩ => ⟨S32768x512, .bf16⟩
  | .hbm, ⟨16, _⟩ => ⟨S512x1024, .bf16⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .bf16⟩
  | .hbm, ⟨38, _⟩ => ⟨S1024x1024, .bf16⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Proof.KIStep.lean ====
/- What one run of the body does to its buffers, as functions of the arrays that the buffers hold. -/
module

public import proofs.«01_k».proof.Proof.Gen.KernelIdeal.Skeleton
public import Idealize.ShloMosaic.Lib.Exec
public import Idealize.ShloMosaic.Lib.Tactic
public import Idealize.ShloMosaic.Lib.VecWindow
public import Idealize.ShloMosaic.Lib.Pipeline.Kit

@[expose] public section

set_option maxRecDepth 8192
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄G" => MT nD τ sig Unit (Elt F) ℕ (UR sig nD τ) ℕ

/-- A whole buffer of a core holding an array. -/
abbrev own (c : Dev nD) {sp : Space} {s : Shape} {e : EltTy} (m : Memref sig .tc sp s e) (X : s.Idx → Elt F e) : sProp 𝕄G :=
  m.view.loc (c : Thread nD τ) ↦[m.view.set]{fullShare} m.view.rep X

/-- The arrays that the body reads: the bound, the queries, keys and values with ones of the point's blocks. -/
structure Ins (F : FTy → Type) where
  b : S1.Idx → Elt F .f32
  q : S2x1024x512.Idx → Elt F .bf16
  k : S1024x512.Idx → Elt F .bf16
  v : S1024x1024.Idx → Elt F .bf16
  l : S4x64.Idx → Elt F .f32
  w : S1x128.Idx → Elt F .f32

/-- The running state: the row maxima and the accumulators, per head. -/
structure St (F : FTy → Type) where
  m : S4x2048x1.Idx → Elt F .f32
  a : S4x2048x256.Idx → Elt F .f32

section Reads

variable {κ : Kind} {sp : Space} {s : Shape} {e : EltTy} {Val : EltTy → Type}

/-- A load reads a window of what the buffer holds. -/
theorem ld_any (v : View sig κ sp s e) (f : v.ty.Contents Val) {off size : Fin s.rank → ℕ} (inb : ∀ a, off a + size a ≤ s.size a) :
    v.readAt Val (Rect.unit off size inb).toLoadRect f = window (v.read Val f) off size inb :=
  View.readAt_unit v f inb rfl inb

/-- A store puts its payload over what the earlier stores left. -/
theorem st_any (v : View sig κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

end Reads

variable (i : grid0.Coords) (arg2 : Memref sig .tc .smem S36 .i32) (harg2 : arg2.IsWhole) (arg3 : Memref sig .tc .smem S36 .i32) (harg3 : arg3.IsWhole) (arg4 : Memref sig .tc .smem S1 .i32) (harg4 : arg4.IsWhole) (arg5 : Memref sig .tc .smem S1 .f32) (harg5 : arg5.IsWhole) (arg6 : Memref sig .tc .vmem S2x1024x512 .bf16) (harg6 : arg6.IsWhole) (arg7 : Memref sig .tc .vmem S1024x512 .bf16) (harg7 : arg7.IsWhole) (arg8 : Memref sig .tc .vmem S1024x1024 .bf16) (harg8 : arg8.IsWhole) (arg9 : Memref sig .tc .vmem S4x64 .f32) (harg9 : arg9.IsWhole) (arg10 : Memref sig .tc .vmem S1x128 .f32) (harg10 : arg10.IsWhole) (arg11 : Memref sig .tc .vmem S1024x512 .bf16) (harg11 : arg11.IsWhole) (arg12 : Memref sig .tc .vmem S4x2048x1 .f32) (harg12 : arg12.IsWhole) (arg13 : Memref sig .tc .vmem S4x2048x256 .f32) (harg13 : arg13.IsWhole)

/-- The buffers of the attention loops. -/
abbrev R (c : Dev nD) (X : Ins F) (S : St F) : sProp 𝕄G :=
  iprop(own c arg5 X.b ∗ own c arg6 X.q ∗ own c arg7 X.k ∗ own c arg8 X.v ∗ own c arg12 S.m ∗ own c arg13 S.a)

/-- The bound. -/
def Ins.bound (X : Ins F) : Elt F .f32 := window X.b ![0] S1.size inb_S1_S1_0 (Shape.Idx.first (numel1_S1.symm ▸ Nat.one_pos))

/-- One head of the bounded update on a block below the diagonal: four chunks of keys added in turn. -/
def step1 (X : Ins F) (h : Fin k0_t1_loop.trips) (S : St F) : St F :=
  let q := window X.q (k0_off2 h) S2x1024x128.size (k0_off2_inb h)
  let a0 := window S.a (k0_off5 h) S1x2048x256.size (k0_off5_inb h)
  let a1 := k0_pay11 q X.bound (window X.k (k0_off3 h) S256x128.size (k0_off3_inb h)) (window X.v (k0_off4 h) S256x256.size (k0_off4_inb h)) a0
  let a2 := k0_pay14 X.bound (k0_pay12 (window X.v (k0_off7 h) S256x256.size (k0_off7_inb h))) (k0_pay13 q (window X.k (k0_off6 h) S256x128.size (k0_off6_inb h))) a1
  let a3 := k0_pay15 (k0_pay10 q) X.bound (window X.k (k0_off8 h) S256x128.size (k0_off8_inb h)) (window X.v (k0_off9 h) S256x256.size (k0_off9_inb h)) a2
  let a4 := k0_pay3 (k0_pay16 (window X.v (k0_off11 h) S256x256.size (k0_off11_inb h))) (k0_pay17 (k0_pay10 q) (window X.k (k0_off10 h) S256x128.size (k0_off10_inb h))) (k0_pay18 a3) (k0_pay19 X.bound)
  ⟨S.m, put S.a (k0_off5 h) S1x2048x256.size a4⟩

/-- One head of the bounded update on the diagonal block: each chunk of keys is added to the query rows from its own first row on, for both maps. -/
def step2 (X : Ins F) (h : Fin k0_t2_loop.trips) (S : St F) : St F :=
  let p1 := k0_pay20 X.bound (window X.k (k0_off12 h) S256x128.size (k0_off12_inb h)) (window X.v (k0_off13 h) S256x256.size (k0_off13_inb h)) (window X.q (k0_off14 h) S2x1024x128.size (k0_off14_inb h))
  let A1 := put S.a (k0_off15 h) S1x1024x256.size (k0_pay21 X.bound (window X.k (k0_off12 h) S256x128.size (k0_off12_inb h)) (window X.v (k0_off13 h) S256x256.size (k0_off13_inb h)) (window X.q (k0_off14 h) S2x1024x128.size (k0_off14_inb h)) (window S.a (k0_off15 h) S1x1024x256.size (k0_off15_inb h)))
  let A2 := put A1 (k0_off16 h) S1x1024x256.size (k0_pay22 p1 (window A1 (k0_off16 h) S1x1024x256.size (k0_off16_inb h)))
  let A3 := put A2 (k0_off20 h) S1x768x256.size (k0_pay25 (k0_pay24 X.bound (window X.k (k0_off17 h) S256x128.size (k0_off17_inb h)) (window X.v (k0_off18 h) S256x256.size (k0_off18_inb h)) (window X.q (k0_off19 h) S2x768x128.size (k0_off19_inb h)) (window A2 (k0_off20 h) S1x768x256.size (k0_off20_inb h))))
  let A4 := put A3 (k0_off21 h) S1x768x256.size (k0_pay26 (k0_pay23 X.bound (window X.k (k0_off17 h) S256x128.size (k0_off17_inb h)) (window X.v (k0_off18 h) S256x256.size (k0_off18_inb h)) (window X.q (k0_off19 h) S2x768x128.size (k0_off19_inb h))) (window A3 (k0_off21 h) S1x768x256.size (k0_off21_inb h)))
  let A5 := put A4 (k0_off25 h) S1x512x256.size (k0_pay29 (k0_pay28 X.bound (window X.k (k0_off22 h) S256x128.size (k0_off22_inb h)) (window X.v (k0_off23 h) S256x256.size (k0_off23_inb h)) (window X.q (k0_off24 h) S2x512x128.size (k0_off24_inb h)) (window A4 (k0_off25 h) S1x512x256.size (k0_off25_inb h))))
  let A6 := put A5 (k0_off26 h) S1x512x256.size (k0_pay30 (k0_pay27 X.bound (window X.k (k0_off22 h) S256x128.size (k0_off22_inb h)) (window X.v (k0_off23 h) S256x256.size (k0_off23_inb h)) (window X.q (k0_off24 h) S2x512x128.size (k0_off24_inb h))) (window A5 (k0_off26 h) S1x512x256.size (k0_off26_inb h)))
  let p4 := k0_pay31 X.bound (window X.k (k0_off27 h) S256x128.size (k0_off27_inb h)) (window X.v (k0_off28 h) S256x256.size (k0_off28_inb h)) (window X.q (k0_off29 h) S2x256x128.size (k0_off29_inb h))
  let A7 := put A6 (k0_off30 h) S1x256x256.size (k0_pay4 p4 (k0_pay32 (window A6 (k0_off30 h) S1x256x256.size (k0_off30_inb h))))
  let A8 := put A7 (k0_off31 h) S1x256x256.size (k0_pay5 p4 (window A7 (k0_off31 h) S1x256x256.size (k0_off31_inb h)))
  ⟨S.m, A8⟩

/-- One head of the running-maximum update on a block below the diagonal. -/
def step3 (X : Ins F) (h : Fin k0_t3_loop.trips) (S : St F) : St F :=
  let q := (window X.q (k0_off32 h) S2x1024x128.size (k0_off32_inb h))
  let k := (window X.k (k0_off33 h) S1024x128.size (k0_off33_inb h))
  let m := (window S.m (k0_off34 h) S1x2048x1.size (k0_off34_inb h))
  ⟨put S.m (k0_off34 h) S1x2048x1.size (k0_pay6 (k0_pay35 q k m)),
    put S.a (k0_off35 h) S1x2048x256.size (k0_pay36 q k m (window S.a (k0_off35 h) S1x2048x256.size (k0_off35_inb h)) (window X.v (k0_off36 h) S1024x256.size (k0_off36_inb h)))⟩

/-- One head of the running-maximum update on the diagonal block. -/
def step4 (X : Ins F) (h : Fin k0_t4_loop.trips) (S : St F) : St F :=
  let q := (window X.q (k0_off37 h) S2x1024x128.size (k0_off37_inb h))
  let k := (window X.k (k0_off38 h) S1024x128.size (k0_off38_inb h))
  let m := (window S.m (k0_off39 h) S1x2048x1.size (k0_off39_inb h))
  ⟨put S.m (k0_off39 h) S1x2048x1.size (k0_pay8 (k0_pay39 q k m)),
    put S.a (k0_off40 h) S1x2048x256.size (k0_pay7 (k0_pay40 q k m (window S.a (k0_off40 h) S1x2048x256.size (k0_off40_inb h))) (k0_pay41 q k m) (window X.v (k0_off41 h) S1024x256.size (k0_off41_inb h)))⟩

section Overlap

variable {α : Type} (h : Fin k0_t2_loop.trips) (x : S4x2048x256.Idx → α)

theorem apart_15_16 (w : ((a : Fin 3) → Fin ((![1, 1024, 256] : Fin 3 → ℕ) a)) → α) (hb : ∀ a, k0_off16 h a + ![1, 1024, 256] a ≤ S4x2048x256.size a) :
    window (put x (k0_off15 h) ![1, 1024, 256] w) (k0_off16 h) ![1, 1024, 256] hb = window x (k0_off16 h) ![1, 1024, 256] hb :=
  window_put_of_disjoint (s := S4x2048x256) x (k0_off15 h) ![1, 1024, 256] (k0_off16 h) ![1, 1024, 256] hb w (1 : Fin 3) ((by decide +kernel : ∀ h : Fin k0_t2_loop.trips, k0_off16 h (1 : Fin 3) + ![1, 1024, 256] (1 : Fin 3) ≤ k0_off15 h (1 : Fin 3) ∨ k0_off15 h (1 : Fin 3) + ![1, 1024, 256] (1 : Fin 3) ≤ k0_off16 h (1 : Fin 3)) h)

theorem apart_16_20 (w : ((a : Fin 3) → Fin ((![1, 1024, 256] : Fin 3 → ℕ) a)) → α) (hb : ∀ a, k0_off20 h a + ![1, 768, 256] a ≤ S4x2048x256.size a) :
    window (put x (k0_off16 h) ![1, 1024, 256] w) (k0_off20 h) ![1, 768, 256] hb = window x (k0_off20 h) ![1, 768, 256] hb :=
  window_put_of_disjoint (s := S4x2048x256) x (k0_off16 h) ![1, 1024, 256] (k0_off20 h) ![1, 768, 256] hb w (1 : Fin 3) ((by decide +kernel : ∀ h : Fin k0_t2_loop.trips, k0_off20 h (1 : Fin 3) + ![1, 768, 256] (1 : Fin 3) ≤ k0_off16 h (1 : Fin 3) ∨ k0_off16 h (1 : Fin 3) + ![1, 1024, 256] (1 : Fin 3) ≤ k0_off20 h (1 : Fin 3)) h)

theorem apart_20_21 (w : ((a : Fin 3) → Fin ((![1, 768, 256] : Fin 3 → ℕ) a)) → α) (hb : ∀ a, k0_off21 h a + ![1, 768, 256] a ≤ S4x2048x256.size a) :
    window (put x (k0_off20 h) ![1, 768, 256] w) (k0_off21 h) ![1, 768, 256] hb = window x (k0_off21 h) ![1, 768, 256] hb :=
  window_put_of_disjoint (s := S4x2048x256) x (k0_off20 h) ![1, 768, 256] (k0_off21 h) ![1, 768, 256] hb w (1 : Fin 3) ((by decide +kernel : ∀ h : Fin k0_t2_loop.trips, k0_off21 h (1 : Fin 3) + ![1, 768, 256] (1 : Fin 3) ≤ k0_off20 h (1 : Fin 3) ∨ k0_off20 h (1 : Fin 3) + ![1, 768, 256] (1 : Fin 3) ≤ k0_off21 h (1 : Fin 3)) h)

theorem apart_21_25 (w : ((a : Fin 3) → Fin ((![1, 768, 256] : Fin 3 → ℕ) a)) → α) (hb : ∀ a, k0_off25 h a + ![1, 512, 256] a ≤ S4x2048x256.size a) :
    window (put x (k0_off21 h) ![1, 768, 256] w) (k0_off25 h) ![1, 512, 256] hb = window x (k0_off25 h) ![1, 512, 256] hb :=
  window_put_of_disjoint (s := S4x2048x256) x (k0_off21 h) ![1, 768, 256] (k0_off25 h) ![1, 512, 256] hb w (1 : Fin 3) ((by decide +kernel : ∀ h : Fin k0_t2_loop.trips, k0_off25 h (1 : Fin 3) + ![1, 512, 256] (1 : Fin 3) ≤ k0_off21 h (1 : Fin 3) ∨ k0_off21 h (1 : Fin 3) + ![1, 768, 256] (1 : Fin 3) ≤ k0_off25 h (1 : Fin 3)) h)

theorem apart_25_26 (w : ((a : Fin 3) → Fin ((![1, 512, 256] : Fin 3 → ℕ) a)) → α) (hb : ∀ a, k0_off26 h a + ![1, 512, 256] a ≤ S4x2048x256.size a) :
    window (put x (k0_off25 h) ![1, 512, 256] w) (k0_off26 h) ![1, 512, 256] hb = window x (k0_off26 h) ![1, 512, 256] hb :=
  window_put_of_disjoint (s := S4x2048x256) x (k0_off25 h) ![1, 512, 256] (k0_off26 h) ![1, 512, 256] hb w (1 : Fin 3) ((by decide +kernel : ∀ h : Fin k0_t2_loop.trips, k0_off26 h (1 : Fin 3) + ![1, 512, 256] (1 : Fin 3) ≤ k0_off25 h (1 : Fin 3) ∨ k0_off25 h (1 : Fin 3) + ![1, 512, 256] (1 : Fin 3) ≤ k0_off26 h (1 : Fin 3)) h)

theorem apart_26_30 (w : ((a : Fin 3) → Fin ((![1, 512, 256] : Fin 3 → ℕ) a)) → α) (hb : ∀ a, k0_off30 h a + ![1, 256, 256] a ≤ S4x2048x256.size a) :
    window (put x (k0_off26 h) ![1, 512, 256] w) (k0_off30 h) ![1, 256, 256] hb = window x (k0_off30 h) ![1, 256, 256] hb :=
  window_put_of_disjoint (s := S4x2048x256) x (k0_off26 h) ![1, 512, 256] (k0_off30 h) ![1, 256, 256] hb w (1 : Fin 3) ((by decide +kernel : ∀ h : Fin k0_t2_loop.trips, k0_off30 h (1 : Fin 3) + ![1, 256, 256] (1 : Fin 3) ≤ k0_off26 h (1 : Fin 3) ∨ k0_off26 h (1 : Fin 3) + ![1, 512, 256] (1 : Fin 3) ≤ k0_off30 h (1 : Fin 3)) h)

theorem apart_30_31 (w : ((a : Fin 3) → Fin ((![1, 256, 256] : Fin 3 → ℕ) a)) → α) (hb : ∀ a, k0_off31 h a + ![1, 256, 256] a ≤ S4x2048x256.size a) :
    window (put x (k0_off30 h) ![1, 256, 256] w) (k0_off31 h) ![1, 256, 256] hb = window x (k0_off31 h) ![1, 256, 256] hb :=
  window_put_of_disjoint (s := S4x2048x256) x (k0_off30 h) ![1, 256, 256] (k0_off31 h) ![1, 256, 256] hb w (1 : Fin 3) ((by decide +kernel : ∀ h : Fin k0_t2_loop.trips, k0_off31 h (1 : Fin 3) + ![1, 256, 256] (1 : Fin 3) ≤ k0_off30 h (1 : Fin 3) ∨ k0_off30 h (1 : Fin 3) + ![1, 256, 256] (1 : Fin 3) ≤ k0_off31 h (1 : Fin 3)) h)

theorem within_15_20 (w : ((a : Fin 3) → Fin ((![1, 1024, 256] : Fin 3 → ℕ) a)) → α) (hb : ∀ a, k0_off20 h a + ![1, 768, 256] a ≤ S4x2048x256.size a) :
    window (put x (k0_off15 h) ![1, 1024, 256] w) (k0_off20 h) ![1, 768, 256] hb
      = window (s := S1x1024x256) w (fun a => k0_off20 h a - k0_off15 h a) ![1, 768, 256] ((by decide +kernel : ∀ h : Fin k0_t2_loop.trips, ∀ a, k0_off20 h a - k0_off15 h a + ![1, 768, 256] a ≤ (![1, 1024, 256] : Fin 3 → ℕ) a) h) :=
  window_put_of_inside (s := S4x2048x256) x (k0_off15 h) ![1, 1024, 256] (k0_off20 h) ![1, 768, 256] hb w ((by decide +kernel : ∀ h : Fin k0_t2_loop.trips, ∀ a, k0_off15 h a ≤ k0_off20 h a ∧ k0_off20 h a + ![1, 768, 256] a ≤ k0_off15 h a + (![1, 1024, 256] : Fin 3 → ℕ) a) h)

theorem within_16_21 (w : ((a : Fin 3) → Fin ((![1, 1024, 256] : Fin 3 → ℕ) a)) → α) (hb : ∀ a, k0_off21 h a + ![1, 768, 256] a ≤ S4x2048x256.size a) :
    window (put x (k0_off16 h) ![1, 1024, 256] w) (k0_off21 h) ![1, 768, 256] hb
      = window (s := S1x1024x256) w (fun a => k0_off21 h a - k0_off16 h a) ![1, 768, 256] ((by decide +kernel : ∀ h : Fin k0_t2_loop.trips, ∀ a, k0_off21 h a - k0_off16 h a + ![1, 768, 256] a ≤ (![1, 1024, 256] : Fin 3 → ℕ) a) h) :=
  window_put_of_inside (s := S4x2048x256) x (k0_off16 h) ![1, 1024, 256] (k0_off21 h) ![1, 768, 256] hb w ((by decide +kernel : ∀ h : Fin k0_t2_loop.trips, ∀ a, k0_off16 h a ≤ k0_off21 h a ∧ k0_off21 h a + ![1, 768, 256] a ≤ k0_off16 h a + (![1, 1024, 256] : Fin 3 → ℕ) a) h)

theorem within_20_25 (w : ((a : Fin 3) → Fin ((![1, 768, 256] : Fin 3 → ℕ) a)) → α) (hb : ∀ a, k0_off25 h a + ![1, 512, 256] a ≤ S4x2048x256.size a) :
    window (put x (k0_off20 h) ![1, 768, 256] w) (k0_off25 h) ![1, 512, 256] hb
      = window (s := S1x768x256) w (fun a => k0_off25 h a - k0_off20 h a) ![1, 512, 256] ((by decide +kernel : ∀ h : Fin k0_t2_loop.trips, ∀ a, k0_off25 h a - k0_off20 h a + ![1, 512, 256] a ≤ (![1, 768, 256] : Fin 3 → ℕ) a) h) :=
  window_put_of_inside (s := S4x2048x256) x (k0_off20 h) ![1, 768, 256] (k0_off25 h) ![1, 512, 256] hb w ((by decide +kernel : ∀ h : Fin k0_t2_loop.trips, ∀ a, k0_off20 h a ≤ k0_off25 h a ∧ k0_off25 h a + ![1, 512, 256] a ≤ k0_off20 h a + (![1, 768, 256] : Fin 3 → ℕ) a) h)

theorem within_21_26 (w : ((a : Fin 3) → Fin ((![1, 768, 256] : Fin 3 → ℕ) a)) → α) (hb : ∀ a, k0_off26 h a + ![1, 512, 256] a ≤ S4x2048x256.size a) :
    window (put x (k0_off21 h) ![1, 768, 256] w) (k0_off26 h) ![1, 512, 256] hb
      = window (s := S1x768x256) w (fun a => k0_off26 h a - k0_off21 h a) ![1, 512, 256] ((by decide +kernel : ∀ h : Fin k0_t2_loop.trips, ∀ a, k0_off26 h a - k0_off21 h a + ![1, 512, 256] a ≤ (![1, 768, 256] : Fin 3 → ℕ) a) h) :=
  window_put_of_inside (s := S4x2048x256) x (k0_off21 h) ![1, 768, 256] (k0_off26 h) ![1, 512, 256] hb w ((by decide +kernel : ∀ h : Fin k0_t2_loop.trips, ∀ a, k0_off21 h a ≤ k0_off26 h a ∧ k0_off26 h a + ![1, 512, 256] a ≤ k0_off21 h a + (![1, 768, 256] : Fin 3 → ℕ) a) h)

theorem within_25_30 (w : ((a : Fin 3) → Fin ((![1, 512, 256] : Fin 3 → ℕ) a)) → α) (hb : ∀ a, k0_off30 h a + ![1, 256, 256] a ≤ S4x2048x256.size a) :
    window (put x (k0_off25 h) ![1, 512, 256] w) (k0_off30 h) ![1, 256, 256] hb
      = window (s := S1x512x256) w (fun a => k0_off30 h a - k0_off25 h a) ![1, 256, 256] ((by decide +kernel : ∀ h : Fin k0_t2_loop.trips, ∀ a, k0_off30 h a - k0_off25 h a + ![1, 256, 256] a ≤ (![1, 512, 256] : Fin 3 → ℕ) a) h) :=
  window_put_of_inside (s := S4x2048x256) x (k0_off25 h) ![1, 512, 256] (k0_off30 h) ![1, 256, 256] hb w ((by decide +kernel : ∀ h : Fin k0_t2_loop.trips, ∀ a, k0_off25 h a ≤ k0_off30 h a ∧ k0_off30 h a + ![1, 256, 256] a ≤ k0_off25 h a + (![1, 512, 256] : Fin 3 → ℕ) a) h)

theorem within_26_31 (w : ((a : Fin 3) → Fin ((![1, 512, 256] : Fin 3 → ℕ) a)) → α) (hb : ∀ a, k0_off31 h a + ![1, 256, 256] a ≤ S4x2048x256.size a) :
    window (put x (k0_off26 h) ![1, 512, 256] w) (k0_off31 h) ![1, 256, 256] hb
      = window (s := S1x512x256) w (fun a => k0_off31 h a - k0_off26 h a) ![1, 256, 256] ((by decide +kernel : ∀ h : Fin k0_t2_loop.trips, ∀ a, k0_off31 h a - k0_off26 h a + ![1, 256, 256] a ≤ (![1, 512, 256] : Fin 3 → ℕ) a) h) :=
  window_put_of_inside (s := S4x2048x256) x (k0_off26 h) ![1, 512, 256] (k0_off31 h) ![1, 256, 256] hb w ((by decide +kernel : ∀ h : Fin k0_t2_loop.trips, ∀ a, k0_off26 h a ≤ k0_off31 h a ∧ k0_off31 h a + ![1, 256, 256] a ≤ k0_off26 h a + (![1, 512, 256] : Fin 3 → ℕ) a) h)

end Overlap

theorem trip1 (𝒱 : Variants) (bd : Option 𝒱.V) (E : Set ℕ) (c : Dev nD) (X : Ins F) (S : St F) (h : Fin k0_t1_loop.trips) :
    R arg5 arg6 arg7 arg8 arg12 arg13 c X S
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 h PUnit.unit)
          (fun _ => R arg5 arg6 arg7 arg8 arg12 arg13 c X (step1 X h S)) := by
  have hk : h.val < 4 := Nat.lt_of_lt_of_le h.isLt k0_t1_abs.2.1
  unfold k0_t1_body
  simp only [k0_part1_eq_skeleton, k0_part2_eq_skeleton]
  iintro ⟨H5, H6, H7, H8, H12, H13⟩
  sl_exec
  sl_step
  isplitl [H5]; · iexact H5
  isplitl [H6]; · iexact H6
  isplitl [H7]; · iexact H7
  isplitl [H8]; · iexact H8
  isplitl [H12]
  · iexact H12
  · iapply (pointsTo_rep_of_read c arg13 _ _ _ ?_) $$ H13
    sl_unfold_run_names
    simp only [ld_any, st_any, View.writes_nil, View.read_rep, View.readCov, window_put_same, put_put_same]
    rfl

theorem trip2 (𝒱 : Variants) (bd : Option 𝒱.V) (E : Set ℕ) (c : Dev nD) (X : Ins F) (S : St F) (h : Fin k0_t2_loop.trips) :
    R arg5 arg6 arg7 arg8 arg12 arg13 c X S
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 h PUnit.unit)
          (fun _ => R arg5 arg6 arg7 arg8 arg12 arg13 c X (step2 X h S)) := by
  have hk : h.val < 4 := Nat.lt_of_lt_of_le h.isLt k0_t2_abs.2.1
  unfold k0_t2_body
  simp only [k0_part3_eq_skeleton, k0_part4_eq_skeleton, k0_part5_eq_skeleton, k0_part6_eq_skeleton]
  iintro ⟨H5, H6, H7, H8, H12, H13⟩
  sl_exec
  sl_step
  isplitl [H5]; · iexact H5
  isplitl [H6]; · iexact H6
  isplitl [H7]; · iexact H7
  isplitl [H8]; · iexact H8
  isplitl [H12]
  · iexact H12
  · iapply (pointsTo_rep_of_read c arg13 _ _ _ ?_) $$ H13
    sl_unfold_run_names
    simp only [ld_any, st_any, View.writes_nil, View.read_rep, View.readCov, step2, Ins.bound, apart_15_16, apart_16_20, apart_20_21, apart_21_25, apart_25_26, apart_26_30, apart_30_31, within_15_20, within_16_21, within_20_25, within_21_26, within_25_30, within_26_31]

theorem trip3 (𝒱 : Variants) (bd : Option 𝒱.V) (E : Set ℕ) (c : Dev nD) (X : Ins F) (S : St F) (h : Fin k0_t3_loop.trips) :
    R arg5 arg6 arg7 arg8 arg12 arg13 c X S
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 h PUnit.unit)
          (fun _ => R arg5 arg6 arg7 arg8 arg12 arg13 c X (step3 X h S)) := by
  have hk : h.val < 4 := Nat.lt_of_lt_of_le h.isLt k0_t3_abs.2.1
  unfold k0_t3_body
  simp only [k0_part7_eq_skeleton]
  iintro ⟨H5, H6, H7, H8, H12, H13⟩
  sl_exec
  sl_step
  isplitl [H5]; · iexact H5
  isplitl [H6]; · iexact H6
  isplitl [H7]; · iexact H7
  isplitl [H8]; · iexact H8
  isplitl [H12]
  · iapply (pointsTo_rep_of_read c arg12 _ _ _ ?_) $$ H12
    sl_unfold_run_names
    simp only [ld_any, st_any, View.writes_nil, View.read_rep, View.readCov]
    rfl
  · iapply (pointsTo_rep_of_read c arg13 _ _ _ ?_) $$ H13
    sl_unfold_run_names
    simp only [ld_any, st_any, View.writes_nil, View.read_rep, View.readCov]
    rfl

theorem trip4 (𝒱 : Variants) (bd : Option 𝒱.V) (E : Set ℕ) (c : Dev nD) (X : Ins F) (S : St F) (h : Fin k0_t4_loop.trips) :
    R arg5 arg6 arg7 arg8 arg12 arg13 c X S
      ⊢ wp frame (wpE (defs₀ (F := F)) 𝒱 (c : Thread nD τ) bd) E (k0_t4_body (F := F) i arg2 harg2 arg3 harg3 arg4 harg4 arg5 harg5 arg6 harg6 arg7 harg7 arg8 harg8 arg9 harg9 arg10 harg10 arg11 harg11 arg12 harg12 arg13 harg13 h PUnit.unit)
          (fun _ => R arg5 arg6 arg7 arg8 arg12 arg13 c X (step4 X h S)) := by
  have hk : h.val < 4 := Nat.lt_of_lt_of_le h.isLt k0_t4_abs.2.1
  unfold k0_t4_body
  simp only [k0_part8_eq_skeleton]
  iintro ⟨H5, H6, H7, H8, H12, H13⟩
  sl_exec
  sl_step
  isplitl [H5]; · iexact H5
  isplitl [H6]; · iexact H6
  isplitl [H7]; · iexact H7
  isplitl [H8]; · iexact H8
  isplitl [H12]
  · iapply (pointsTo_rep_of_read c arg12 _ _ _ ?_) $$ H12
    sl_unfold_run_names
    simp only [ld_any, st_any, View.writes_nil, View.read_rep, View.readCov]
    rfl
  · iapply (pointsTo_rep_of_read c arg13 _ _ _ ?_) $$ H13
    sl_unfold_run_names
    simp only [ld_any, st_any, View.writes_nil, View.read_rep, View.readCov]
    rfl

end Cert.KernelIdeal.Hand
-- ==== Proof.KKept.lean ====
/- The first layer's attention kernel over the kernel's own floats: its program is the one over any floats, whose run is proved there. -/
module

public import proofs.«01_k».proof.Defs
public import proofs.«01_k».proof.Proof.Gen.Kernel
public import proofs.«01_k».proof.Proof.KIRun

@[expose] public section

set_option maxHeartbeats 4000000
set_option maxRecDepth 100000

noncomputable section

namespace Cert.Kernel.Hand

open Idealize.ShloMosaic Idealize.SL.Sem

attribute [local instance] Cert.Kernel.Gen.facts Cert.KernelIdeal.Gen.facts

/-- The kernel's body is the same text in both programs. -/
theorem body : (@Cert.Kernel.cc0_flash_diff_attention Bits _ _) = @Cert.KernelIdeal.cc0_flash_diff_attention Bits _ _ := rfl

/-- So is the table of bodies, which has one entry. -/
theorem bodies : (Cert.Kernel.defs₀ (F := Bits)) = Cert.KernelIdeal.defs₀ (F := Bits) := by
  unfold Cert.Kernel.defs₀ Cert.KernelIdeal.defs₀
  refine congrArg Defs.onTc (funext fun l => funext fun a => ?_)
  obtain rfl : l = 0 := Subsingleton.elim _ _
  rfl

/-- And so is the table of pipelined calls. -/
theorem table : (Cert.Kernel.defs (F := Bits)) = Cert.KernelIdeal.defs (F := Bits) :=
  congrArg (Pipeline.defs (Cert.KernelIdeal.pcfgs (F := Bits))) bodies

/-- The kernel leaves its arguments as they were and every semaphore at zero. -/
theorem kept : Cert.quiescent_Kernel (hKernel := Cert.Kernel.Gen.facts) := fun m g _ => by
  have h := Cert.KernelIdeal.Hand.kept (F := Bits) m g
  rw [← table] at h
  exact h

end Cert.Kernel.Hand

end
-- ==== Proof.NextKIStep.lean ====
/- The second layer's attention: one run of the body makes of its buffers what the first layer's makes of its own, the output apart. -/
module

public import proofs.«01_k».proof.Proof.Gen.NextKernelIdeal.Skeleton
public import proofs.«01_k».proof.Proof.KIStep
public import Idealize.ShloMosaic.Lib.Exec
public import Idealize.ShloMosaic.Lib.Tactic
public import Idealize.ShloMosaic.Lib.VecWindow
public import Idealize.ShloMosaic.Lib.Pipeline.Kit

@[expose] public section

set_option maxRecDepth 8192
set_option maxHeartbeats 4000000

noncomputable section

namespace Cert.NextKernelIdeal.Hand

open Cert.NextKernelIdeal.Gen
open Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄G" => MT nD τ sig Unit (Elt F) ℕ (UR sig nD τ) ℕ

/-- A whole buffer of a core holding an array. -/
abbrev own (c : Dev nD) {sp : Space} {s : Shape} {e : EltTy} (m : Memref sig .tc sp s e) (X : s.Idx → Elt F e) : sProp 𝕄G :=
  m.view.loc (c : Thread nD τ) ↦[m.view.set]{fullShare} m.view.rep X

variable (i : grid0.Coords) (arg2 : Memref sig .tc .smem S36 .i32) (harg2 : arg2.IsWhole) (arg3 : Memref sig .tc .smem S36 .i32) (harg3 : arg3.IsWhole) (arg4 : Memref sig .tc .smem S1 .i32) (harg4 : arg4.IsWhole) (arg5 : Memref sig .tc .smem S1 .f32) (harg5 : arg5.IsWhole) (arg6 : Memref sig .tc .vmem S2x1024x512 .bf16) (harg6 : arg6.IsWhole) (arg7 : Memref sig .tc .vmem S1024x512 .bf16) (harg7 : arg7.IsWhole) (arg8 : Memref sig .tc .vmem S1024x1024 .bf16) (harg8 : arg8.IsWhole) (arg9 : Memref sig .tc .vmem S4x64 .f32) (harg9 : arg9.IsWhole) (arg10 : Memref sig .tc .vmem S1x128 .f32) (harg10 : arg10.IsWhole) (arg11 : Memref sig .tc .vmem S1024x512 .bf16) (harg11 : arg11.IsWhole) (arg12 : Memref sig .tc .vmem S4x2048x1 .f32) (harg12 : arg12.IsWhole) (arg13 : Memref sig .tc .vmem S4x2048x256 .f32) (harg13 : arg13.IsWhole)

/-- The buffers of the attention loops. -/
abbrev R (c : Dev nD) (X : Ins F) (S : St F) : sProp 𝕄G :=
  iprop(own c arg5 X.b ∗ own c arg6 X.q ∗ own c arg7 X.k ∗ own c arg8 X.v ∗ own c arg12 S.m ∗ own c arg13 S.a)

section Overlap

variable {α : Type} (h : Fin k0_t2_loop.trips) (x : S4x2048x256.Idx → α)

theorem apart_15_16 (w : ((a : Fin 3) → Fin ((![1, 1024, 256] : Fin 3 → ℕ) a)) → α) (hb : ∀ a, k0_off16 h a + ![1, 1024, 256] a ≤ S4x2048x256.size a) :
    window (put x (k0_off15 h) ![1, 1024, 256] w) (k0_off16 h) ![1, 1024, 256] hb = window x (k0_off16 h) ![1, 1024, 256] hb :=
  Cert.KernelIdeal.Hand.apart_15_16 h x w hb

theorem apart_16_20 (w : ((a : Fin 3) → Fin ((![1, 1024, 256] : Fin 3 → ℕ) a)) → α) (hb : ∀ a, k0_off20 h a + ![1, 768, 256] a ≤ S4x2048x256.size a) :
    window (put x (k0_off16 h) ![1, 1024, 256] w) (k0_off20 h) ![1, 768, 256] hb = window x (k0_off20 h) ![1, 768, 256] hb :=
  Cert.KernelIdeal.Hand.apart_16_20 h x w hb

theorem apart_20_21 (w : ((a : Fin 3) → Fin ((![1, 768, 256] : Fin 3 → ℕ) a)) → α) (hb : ∀ a, k0_off21 h a + ![1, 768, 256] a ≤ S4x2048x256.size a) :
    window (put x (k0_off20 h) ![1, 768, 256] w) (k0_off21 h) ![1, 768, 256] hb = window x (k0_off21 h) ![1, 768, 256] hb :=
  Cert.KernelIdeal.Hand.apart_20_21 h x w hb

theorem apart_21_25 (w : ((a : Fin 3) → Fin ((![1, 768, 256] : Fin 3 → ℕ) a)) → α) (hb : ∀ a, k0_off25 h a + ![1, 512, 256] a ≤ S4x2048x256.size a) :
    window (put x (k0_off21 h) ![1, 768, 256] w) (k0_off25 h) ![1, 512, 256] hb = window x (k0_off25 h) ![1, 512, 256] hb :=
  Cert.KernelIdeal.Hand.apart_21_25 h x w hb

theorem apart_25_26 (w : ((a : Fin 3) → Fin ((![1, 512, 256] : Fin 3 → ℕ) a)) → α) (hb : ∀ a, k0_off26 h a + ![1, 512, 256] a ≤ S4x2048x256.size a) :
    window (put x (k0_off25 h) ![1, 512, 256] w) (k0_off26 h) ![1, 512, 256] hb = window x (k0_off26 h) ![1, 512, 256] hb :=
  Cert.KernelIdeal.Hand.apart_25_26 h x w hb

theorem apart_26_30 (w : ((a : Fin 3) → Fin ((![1, 512, 256] : Fin 3 → ℕ) a)) → α) (hb : ∀ a, k0_off30 h a + ![1, 256, 256] a ≤ S4x2048x256.size a) :
    window (put x (k0_off26 h) ![1, 512, 256] w) (k0_off30 h) ![1, 256, 256] hb = window x (k0_off30 h) ![1, 256, 256] hb :=
  Cert.KernelIdeal.Hand.apart_26_30 h x w hb

theorem apart_30_31 (w : ((a : Fin 3) → Fin ((![1, 256, 256] : Fin 3 → ℕ) a)) → α) (hb : ∀ a, k0_off31 h a + ![1, 256, 256] a ≤ S4x2048x256.size a) :
    window (put x (k0_off30 h) ![1, 256, 256] w) (k0_off31 h) ![1, 256, 256] hb = window x (k0_off31 h) ![1, 256, 256] hb :=
  Cert.KernelIdeal.Hand.apart_30_31 h x w hb

theorem within_15_20 (w : ((a : Fin 3) → Fin ((![1, 1024, 256] : Fin 3 → ℕ) a)) → α) (hb : ∀ a, k0_off20 h a + ![1, 768, 256] a ≤ S4x2048x256.size a) :
    window (put x (k0_off15 h) ![1, 1024, 256] w) (k0_off20 h) ![1, 768, 256] hb
      = window (s := S1x1024x256) w (fun a => k0_off20 h a - k0_off15 h a) ![1, 768, 256] ((by decide +kernel : ∀ h : Fin k0_t2_loop.trips, ∀ a, k0_off20 h a - k0_off15 h a + ![1, 768, 256] a ≤ (![1, 1024, 256] : Fin 3 → ℕ) a) h) :=
  Cert.KernelIdeal.Hand.within_15_20 h x w hb

theorem within_16_21 (w : ((a : Fin 3) → Fin ((![1, 1024, 256] : Fin 3 → ℕ) a)) → α) (hb : ∀ a, k0_off21 h a + ![1, 768, 256] a ≤ S4x2048x256.size a) :
    window (put x (k0_off16 h) ![1, 1024, 256] w) (k0_off21 h) ![1, 768, 256] hb
      = window (s := S1x1024x256) w (fun a => k0_off21 h a - k0_off16 h a) ![1, 768, 256] ((by decide +kernel : ∀ h : Fin k0_t2_loop.trips, ∀ a, k0_off21 h a - k0_off16 h a + ![1, 768, 256] a ≤ (![1, 1024, 256] : Fin 3 → ℕ) a) h) :=
  Cert.KernelIdeal.Hand.within_16_21 h x w hb

theorem within_20_25 (w : ((a : Fin 3) → Fin ((![1, 768, 256] : Fin 3 → ℕ) a)) → α) (hb : ∀ a, k0_off25 h a + ![1, 512, 256] a ≤ S4x2048x256.size a) :
    window (put x (k0_off20 h) ![1, 768, 256] w) (k0_off25 h) ![1, 512, 256] hb
      = window (s := S1x768x256) w (fun a => k0_off25 h a - k0_off20 h a) ![1, 512, 256] ((by decide +kernel : ∀ h : Fin k0_t2_loop.trips, ∀ a, k0_off25 h a - k0_off20 h a + ![1, 512, 256] a ≤ (![1, 768, 256] : Fin 3 → ℕ) a) h) :=
  Cert.KernelIdeal.Hand.within_20_25 h x w hb

theorem within_21_26 (w : ((a : Fin 3) → Fin ((![1, 768, 256] : Fin 3 → ℕ) a)) → α) (hb : ∀ a, k0_off26 h a + ![1, 512, 256] a ≤ S4x2048x256.size a) :
    window (put x (k0_off21 h) ![1, 768, 256] w) (k0_off26 h) ![1, 512, 256] hb
      = window (s := S1x768x256) w (fun a => k0_off26 h a - k0_off21 h a) ![1, 512, 256] ((by decide +kernel : ∀ h : Fin k0_t2_loop.trips, ∀ a, k0_off26 h a - k0_off21 h a + ![1, 512, 256] a ≤ (![1, 768, 256] : Fin 3 → ℕ) a) h) :=
  Cert.KernelIdeal.Hand.within_21_26 h x w hb

theorem within_25_30 (w : ((a : Fin 3) → Fin ((![1, 512, 256] : Fin 3 → ℕ) a)) → α) (hb : ∀ a, k0_off30 h a + ![1, 256, 256] a ≤ S4x2048x256.size a) :
    window (put x (k0_off25 h) ![1, 512, 256] w) (k0_off30 h) ![1, 256, 256] hb
      = window (s := S1x512x256) w (fun a => k0_off30 h a - k0_off25 h a) ![1, 256, 256] ((by decide +kernel : ∀ h : Fin k0_t2_loop.trips, ∀ a, k0_off30 h a - k0_off25 h a + ![1, 256, 256] a ≤ (![1, 512, 256] : Fin 3 → ℕ) a) h) :=
  Cert.KernelIdeal.Hand.within_25_30 h x w hb

theorem within_26_31 (w : ((a : Fin 3) → Fin ((![1, 512, 256] : Fin 3 → ℕ) a)) → α) (hb : ∀ a, k0_off31 h a + ![1, 256, 256] a ≤ S4x2048x256.size a) :
    window (put x (k0_off26 h) ![1, 512, 256] w) (k0_off31 h) ![1, 256, 256] hb
      = window (s := S1x512x256) w (fun a => k0_off31 h a - k0_off26 h a) ![1, 256, 256] ((by decide +kernel : ∀ h : Fin k0_t2_loop.trips, ∀ a, k0_off31 h a - k0_off26 h a + ![1, 256, 256] a ≤ (![1, 512, 256] : Fin 3 → ℕ) a) h) :=
  Cert.KernelIdeal.Hand.within_26_31 h x w hb

end Overlap

theorem trip1 (𝒱 : Variants) (bd : Option 𝒱.V) (E : Set ℕ) (c : Dev nD) (X : Ins F) (S : St F) (h : Fin k0_t1_loop.trips) :
    R arg5 arg6 arg7 arg8 arg12 arg13 c X S
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 h PUnit.unit)
          (fun _ => R arg5 arg6 arg7 arg8 arg12 arg13 c X (step1 X h S)) := by
  have hk : h.val < 4 := Nat.lt_of_lt_of_le h.isLt k0_t1_abs.2.1
  unfold k0_t1_body
  simp only [k0_part1_eq_skeleton, k0_part2_eq_skeleton]
  iintro ⟨H5, H6, H7, H8, H12, H13⟩
  sl_exec
  sl_step
  isplitl [H5]; · iexact H5
  isplitl [H6]; · iexact H6
  isplitl [H7]; · iexact H7
  isplitl [H8]; · iexact H8
  isplitl [H12]
  · iexact H12
  · iapply (pointsTo_rep_of_read c arg13 _ _ _ ?_) $$ H13
    sl_unfold_run_names
    simp only [ld_any, st_any, View.writes_nil, View.read_rep, View.readCov, window_put_same, put_put_same]
    rfl

theorem trip2 (𝒱 : Variants) (bd : Option 𝒱.V) (E : Set ℕ) (c : Dev nD) (X : Ins F) (S : St F) (h : Fin k0_t2_loop.trips) :
    R arg5 arg6 arg7 arg8 arg12 arg13 c X S
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 h PUnit.unit)
          (fun _ => R arg5 arg6 arg7 arg8 arg12 arg13 c X (step2 X h S)) := by
  have hk : h.val < 4 := Nat.lt_of_lt_of_le h.isLt k0_t2_abs.2.1
  unfold k0_t2_body
  simp only [k0_part3_eq_skeleton, k0_part4_eq_skeleton, k0_part5_eq_skeleton, k0_part6_eq_skeleton]
  iintro ⟨H5, H6, H7, H8, H12, H13⟩
  sl_exec
  sl_step
  isplitl [H5]; · iexact H5
  isplitl [H6]; · iexact H6
  isplitl [H7]; · iexact H7
  isplitl [H8]; · iexact H8
  isplitl [H12]
  · iexact H12
  · iapply (pointsTo_rep_of_read c arg13 _ _ _ ?_) $$ H13
    sl_unfold_run_names
    simp only [ld_any, st_any, View.writes_nil, View.read_rep, View.readCov, step2, Ins.bound, apart_15_16, apart_16_20, apart_20_21, apart_21_25, apart_25_26, apart_26_30, apart_30_31, within_15_20, within_16_21, within_20_25, within_21_26, within_25_30, within_26_31,
      Cert.KernelIdeal.Hand.apart_15_16, Cert.KernelIdeal.Hand.apart_16_20, Cert.KernelIdeal.Hand.apart_20_21, Cert.KernelIdeal.Hand.apart_21_25, Cert.KernelIdeal.Hand.apart_25_26, Cert.KernelIdeal.Hand.apart_26_30, Cert.KernelIdeal.Hand.apart_30_31, Cert.KernelIdeal.Hand.within_15_20, Cert.KernelIdeal.Hand.within_16_21, Cert.KernelIdeal.Hand.within_20_25, Cert.KernelIdeal.Hand.within_21_26, Cert.KernelIdeal.Hand.within_25_30, Cert.KernelIdeal.Hand.within_26_31]
    rfl

theorem trip3 (𝒱 : Variants) (bd : Option 𝒱.V) (E : Set ℕ) (c : Dev nD) (X : Ins F) (S : St F) (h : Fin k0_t3_loop.trips) :
    R arg5 arg6 arg7 arg8 arg12 arg13 c X S
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 h PUnit.unit)
          (fun _ => R arg5 arg6 arg7 arg8 arg12 arg13 c X (step3 X h S)) := by
  have hk : h.val < 4 := Nat.lt_of_lt_of_le h.isLt k0_t3_abs.2.1
  unfold k0_t3_body
  simp only [k0_part7_eq_skeleton]
  iintro ⟨H5, H6, H7, H8, H12, H13⟩
  sl_exec
  sl_step
  isplitl [H5]; · iexact H5
  isplitl [H6]; · iexact H6
  isplitl [H7]; · iexact H7
  isplitl [H8]; · iexact H8
  isplitl [H12]
  · iapply (pointsTo_rep_of_read c arg12 _ _ _ ?_) $$ H12
    sl_unfold_run_names
    simp only [ld_any, st_any, View.writes_nil, View.read_rep, View.readCov]
    rfl
  · iapply (pointsTo_rep_of_read c arg13 _ _ _ ?_) $$ H13
    sl_unfold_run_names
    simp only [ld_any, st_any, View.writes_nil, View.read_rep, View.readCov]
    rfl

theorem trip4 (𝒱 : Variants) (bd : Option 𝒱.V) (E : Set ℕ) (c : Dev nD) (X : Ins F) (S : St F) (h : Fin k0_t4_loop.trips) :
    R arg5 arg6 arg7 arg8 arg12 arg13 c X S
      ⊢ wp frame (wpE (defs₀ (F := F)) 𝒱 (c : Thread nD τ) bd) E (k0_t4_body (F := F) i arg2 harg2 arg3 harg3 arg4 harg4 arg5 harg5 arg6 harg6 arg7 harg7 arg8 harg8 arg9 harg9 arg10 harg10 arg11 harg11 arg12 harg12 arg13 harg13 h PUnit.unit)
          (fun _ => R arg5 arg6 arg7 arg8 arg12 arg13 c X (step4 X h S)) := by
  have hk : h.val < 4 := Nat.lt_of_lt_of_le h.isLt k0_t4_abs.2.1
  unfold k0_t4_body
  simp only [k0_part8_eq_skeleton]
  iintro ⟨H5, H6, H7, H8, H12, H13⟩
  sl_exec
  sl_step
  isplitl [H5]; · iexact H5
  isplitl [H6]; · iexact H6
  isplitl [H7]; · iexact H7
  isplitl [H8]; · iexact H8
  isplitl [H12]
  · iapply (pointsTo_rep_of_read c arg12 _ _ _ ?_) $$ H12
    sl_unfold_run_names
    simp only [ld_any, st_any, View.writes_nil, View.read_rep, View.readCov]
    rfl
  · iapply (pointsTo_rep_of_read c arg13 _ _ _ ?_) $$ H13
    sl_unfold_run_names
    simp only [ld_any, st_any, View.writes_nil, View.read_rep, View.readCov]
    rfl

end Cert.NextKernelIdeal.Hand
-- ==== Proof.NextKIBody.lean ====
/- The second layer's attention: the body of one grid point: the six branches in turn, each as a function of the arrays held. -/
module

public import proofs.«01_k».proof.Proof.NextKIStep
public import proofs.«01_k».proof.Proof.KIBody
public import Idealize.ShloMosaic.Lib.Pipeline.TableIdle

@[expose] public section

set_option maxRecDepth 8192
set_option maxHeartbeats 4000000

noncomputable section

namespace Cert.NextKernelIdeal.Hand

open Cert.NextKernelIdeal.Gen
open Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄G" => MT nD τ sig Unit (Elt F) ℕ (UR sig nD τ) ℕ

/-- A branch that the rest of a program follows. -/
def jp {E : Type → Type} {α : Type} (c : Prop) [Decidable c] (A : Prog E PUnit) (k : PUnit → Prog E α) : Prog E α :=
  if c then A >>= k else k ⟨⟩

variable (i : grid0.Coords) (arg2 : Memref sig .tc .smem S36 .i32) (harg2 : arg2.IsWhole) (arg3 : Memref sig .tc .smem S36 .i32) (harg3 : arg3.IsWhole) (arg4 : Memref sig .tc .smem S1 .i32) (harg4 : arg4.IsWhole) (arg5 : Memref sig .tc .smem S1 .f32) (harg5 : arg5.IsWhole) (arg6 : Memref sig .tc .vmem S2x1024x512 .bf16) (harg6 : arg6.IsWhole) (arg7 : Memref sig .tc .vmem S1024x512 .bf16) (harg7 : arg7.IsWhole) (arg8 : Memref sig .tc .vmem S1024x1024 .bf16) (harg8 : arg8.IsWhole) (arg9 : Memref sig .tc .vmem S4x64 .f32) (harg9 : arg9.IsWhole) (arg10 : Memref sig .tc .vmem S1x128 .f32) (harg10 : arg10.IsWhole) (arg11 : Memref sig .tc .vmem S1024x512 .bf16) (harg11 : arg11.IsWhole) (arg12 : Memref sig .tc .vmem S4x2048x1 .f32) (harg12 : arg12.IsWhole) (arg13 : Memref sig .tc .vmem S4x2048x256 .f32) (harg13 : arg13.IsWhole)

/-- The branch that a query block's first key block takes: both buffers reset. -/
def initP : Prog (TpuEff nD τ sig (Elt F) Λ₀ .tc) PUnit := do
  let v28 : Vec F S4x2048x1 .f32 ← Prog.lift (.load arg12 (Rect.unit (s := S4x2048x1) ![0, 0, 0] S4x2048x1.size inb_S4x2048x1_S4x2048x1_0_0_0).toLoadRect (View.loadsAt_vmem h_S4x2048x1))
  Prog.lift (.store arg12 (Rect.unit (s := S4x2048x1) ![0, 0, 0] S4x2048x1.size inb_S4x2048x1_S4x2048x1_0_0_0) (k0_pay1 (F := F)) Finset.univ (View.stores_vmem_bits_univ h_S4x2048x1 rfl) (.inl rfl))
  let v32 : Vec F S4x2048x256 .f32 ← Prog.lift (.load arg13 (Rect.unit (s := S4x2048x256) ![0, 0, 0] S4x2048x256.size inb_S4x2048x256_S4x2048x256_0_0_0).toLoadRect (View.loadsAt_vmem h_S4x2048x256))
  Prog.lift (.store arg13 (Rect.unit (s := S4x2048x256) ![0, 0, 0] S4x2048x256.size inb_S4x2048x256_S4x2048x256_0_0_0) (k0_pay2 (F := F)) Finset.univ (View.stores_vmem_bits_univ h_S4x2048x256 rfl) (.inl rfl))
  pure ⟨⟩

/-- The branch that a query block's last key block takes: the output block written. -/
def finP : Prog (TpuEff nD τ sig (Elt F) Λ₀ .tc) PUnit := do
  let ⟨v42, v55, v57, v64⟩ : Σ' (v42 : FVec F S1x1 .f32) (v55 : FVec F S1024x128 .f32) (v57 : FVec F S1x128 .f32), FVec F S1024x1 .f32 ← k0_part9 i arg2 harg2 arg3 harg3 arg4 harg4 arg5 harg5 arg6 harg6 arg7 harg7 arg8 harg8 arg9 harg9 arg10 harg10 arg11 harg11 arg12 harg12 arg13 harg13
  let v102 : FVec F S1024x128 .f32 ← k0_part10 i arg2 harg2 arg3 harg3 arg4 harg4 arg5 harg5 arg6 harg6 arg7 harg7 arg8 harg8 arg9 harg9 arg10 harg10 arg11 harg11 arg12 harg12 arg13 harg13 v42 v55 v57 v64
  k0_part11 i arg2 harg2 arg3 harg3 arg4 harg4 arg5 harg5 arg6 harg6 arg7 harg7 arg8 harg8 arg9 harg9 arg10 harg10 arg11 harg11 arg12 harg12 arg13 harg13 v42 v102
  let v136 : Vec F S1x1024x128 .f32 ← Prog.lift (.load arg13 (Rect.unit (s := S4x2048x256) ![3, 0, 0] S1x1024x128.size inb_S4x2048x256_S1x1024x128_3_0_0).toLoadRect (View.loadsAt_vmem h_S1x1024x128))
  let v138 : Vec F S1x1024x128 .f32 ← Prog.lift (.load arg13 (Rect.unit (s := S4x2048x256) ![3, 0, 128] S1x1024x128.size inb_S4x2048x256_S1x1024x128_3_0_128).toLoadRect (View.loadsAt_vmem h_S1x1024x128))
  let v141 : Vec F S1x1024x128 .f32 ← Prog.lift (.load arg13 (Rect.unit (s := S4x2048x256) ![3, 1024, 0] S1x1024x128.size inb_S4x2048x256_S1x1024x128_3_1024_0).toLoadRect (View.loadsAt_vmem h_S1x1024x128))
  let v143 : Vec F S1x1024x128 .f32 ← Prog.lift (.load arg13 (Rect.unit (s := S4x2048x256) ![3, 1024, 128] S1x1024x128.size inb_S4x2048x256_S1x1024x128_3_1024_128).toLoadRect (View.loadsAt_vmem h_S1x1024x128))
  let v149 : Vec F S1x128 .f32 ← Prog.lift (.load arg10 (Rect.unit (s := S1x128) ![0, 0] S1x128.size inb_S1x128_S1x128_0_0).toLoadRect (View.loadsAt_vmem h_S1x128))
  let v166 : Vec F S1024x128 .bf16 ← Prog.lift (.load arg11 (Rect.unit (s := S1024x512) ![0, 384] S1024x128.size inb_S1024x512_S1024x128_0_384).toLoadRect (View.loadsAt_vmem h_S1024x128))
  Prog.lift (.store arg11 (Rect.unit (s := S1024x512) ![0, 384] S1024x128.size inb_S1024x512_S1024x128_0_384) (k0_pay9 v42 v136 v138 v141 v143 v149) Finset.univ (View.stores_vmem h_S1024x128 (harg11.storeExact_slice rfl _ packedbf16_S1024x512_S1024x128_0_384) (fun _ => rfl)) (.inl rfl))
  pure ⟨⟩

def bodyRest (v1 v3 v4 : BitVec 32) : Prog (TpuEff nD τ sig (Elt F) Λ₀ .tc) PUnit :=
  jp (Scalar.cmpi .ne (Scalar.extui (Scalar.cmpi .eq v3 0#32) : BitVec 32) 0#32 = 1#1) (initP (F := F) arg12 arg13) fun _ =>
  jp (Scalar.cmpi .ne (Scalar.extui (Scalar.andi (Scalar.cmpi .eq v4 1#32) (Scalar.xori (Scalar.cmpi .eq v3 v1) 1#1)) : BitVec 32) 0#32 = 1#1) (Scf.Loop.for k0_t1_loop k0_t1_ok PUnit.unit (k0_t1_body (F := F) i arg2 harg2 arg3 harg3 arg4 harg4 arg5 harg5 arg6 harg6 arg7 harg7 arg8 harg8 arg9 harg9 arg10 harg10 arg11 harg11 arg12 harg12 arg13 harg13)) fun _ =>
  jp (Scalar.cmpi .ne (Scalar.extui (Scalar.andi (Scalar.cmpi .eq v4 1#32) (Scalar.cmpi .eq v3 v1)) : BitVec 32) 0#32 = 1#1) (Scf.Loop.for k0_t2_loop k0_t2_ok PUnit.unit (k0_t2_body (F := F) i arg2 harg2 arg3 harg3 arg4 harg4 arg5 harg5 arg6 harg6 arg7 harg7 arg8 harg8 arg9 harg9 arg10 harg10 arg11 harg11 arg12 harg12 arg13 harg13)) fun _ =>
  jp (Scalar.cmpi .ne (Scalar.extui (Scalar.andi (Scalar.xori (Scalar.cmpi .eq v4 1#32) 1#1) (Scalar.xori (Scalar.cmpi .eq v3 v1) 1#1)) : BitVec 32) 0#32 = 1#1) (Scf.Loop.for k0_t3_loop k0_t3_ok PUnit.unit (k0_t3_body (F := F) i arg2 harg2 arg3 harg3 arg4 harg4 arg5 harg5 arg6 harg6 arg7 harg7 arg8 harg8 arg9 harg9 arg10 harg10 arg11 harg11 arg12 harg12 arg13 harg13)) fun _ =>
  jp (Scalar.cmpi .ne (Scalar.extui (Scalar.andi (Scalar.xori (Scalar.cmpi .eq v4 1#32) 1#1) (Scalar.cmpi .eq v3 v1)) : BitVec 32) 0#32 = 1#1) (Scf.Loop.for k0_t4_loop k0_t4_ok PUnit.unit (k0_t4_body (F := F) i arg2 harg2 arg3 harg3 arg4 harg4 arg5 harg5 arg6 harg6 arg7 harg7 arg8 harg8 arg9 harg9 arg10 harg10 arg11 harg11 arg12 harg12 arg13 harg13)) fun _ =>
  if k0_cond6 v1 v3 = 1#1 then finP (F := F) i arg2 harg2 arg3 harg3 arg4 harg4 arg5 harg5 arg6 harg6 arg7 harg7 arg8 harg8 arg9 harg9 arg10 harg10 arg11 harg11 arg12 harg12 arg13 harg13 else pure ⟨⟩

set_option maxRecDepth 65536 in
/-- The body is its three table reads, then the branches. -/
theorem body_eq : cc0_flash_diff_attention (F := F) i arg2 harg2 arg3 harg3 arg4 harg4 arg5 harg5 arg6 harg6 arg7 harg7 arg8 harg8 arg9 harg9 arg10 harg10 arg11 harg11 arg12 harg12 arg13 harg13 = (do
    let v1 : Elt F .i32 ← smemLoad arg2 (Rect.unit (s := S36) (k0_off1 i) S1.size (k0_off1_inb i)) numel1_S1 rfl
    let v3 : Elt F .i32 ← smemLoad arg3 (Rect.unit (s := S36) (k0_off1 i) S1.size (k0_off1_inb i)) numel1_S1 rfl
    let v4 : Elt F .i32 ← smemLoad arg4 (Rect.unit (s := S1) ![0] S1.size inb_S1_S1_0) numel1_S1 rfl
    bodyRest (F := F) i arg2 harg2 arg3 harg3 arg4 harg4 arg5 harg5 arg6 harg6 arg7 harg7 arg8 harg8 arg9 harg9 arg10 harg10 arg11 harg11 arg12 harg12 arg13 harg13 v1 v3 v4) := rfl

/-- The output block from the accumulators: head by head. -/
def fin (X : Ins F) (S : St F) (O : S1024x512.Idx → Elt F .bf16) : S1024x512.Idx → Elt F .bf16 :=
  let O0 := put O ![0, 0] S1024x128.size (k0_pay46 (k0_pay43 X.l (window S.a ![0, 0, 0] S1x1024x128.size inb_S4x2048x256_S1x1024x128_0_0_0) (window S.a ![0, 0, 128] S1x1024x128.size inb_S4x2048x256_S1x1024x128_0_0_128) (window S.a ![0, 1024, 0] S1x1024x128.size inb_S4x2048x256_S1x1024x128_0_1024_0) (window S.a ![0, 1024, 128] S1x1024x128.size inb_S4x2048x256_S1x1024x128_0_1024_128)) (k0_pay44 X.w) (k0_pay45 X.l (window S.a ![0, 0, 0] S1x1024x128.size inb_S4x2048x256_S1x1024x128_0_0_0) (window S.a ![0, 0, 128] S1x1024x128.size inb_S4x2048x256_S1x1024x128_0_0_128) (window S.a ![0, 1024, 0] S1x1024x128.size inb_S4x2048x256_S1x1024x128_0_1024_0) (window S.a ![0, 1024, 128] S1x1024x128.size inb_S4x2048x256_S1x1024x128_0_1024_128)))
  let O1 := put O0 ![0, 128] S1024x128.size (k0_pay48 (k0_pay47 (k0_pay42 X.l) (window S.a ![1, 0, 0] S1x1024x128.size inb_S4x2048x256_S1x1024x128_1_0_0) (window S.a ![1, 0, 128] S1x1024x128.size inb_S4x2048x256_S1x1024x128_1_0_128) (window S.a ![1, 1024, 0] S1x1024x128.size inb_S4x2048x256_S1x1024x128_1_1024_0) (window S.a ![1, 1024, 128] S1x1024x128.size inb_S4x2048x256_S1x1024x128_1_1024_128) X.w))
  let O2 := put O1 ![0, 256] S1024x128.size (k0_pay49 (k0_pay42 X.l) (window S.a ![2, 0, 0] S1x1024x128.size inb_S4x2048x256_S1x1024x128_2_0_0) (window S.a ![2, 0, 128] S1x1024x128.size inb_S4x2048x256_S1x1024x128_2_0_128) (window S.a ![2, 1024, 0] S1x1024x128.size inb_S4x2048x256_S1x1024x128_2_1024_0) (window S.a ![2, 1024, 128] S1x1024x128.size inb_S4x2048x256_S1x1024x128_2_1024_128) X.w)
  put O2 ![0, 384] S1024x128.size (k0_pay9 (k0_pay42 X.l) (window S.a ![3, 0, 0] S1x1024x128.size inb_S4x2048x256_S1x1024x128_3_0_0) (window S.a ![3, 0, 128] S1x1024x128.size inb_S4x2048x256_S1x1024x128_3_0_128) (window S.a ![3, 1024, 0] S1x1024x128.size inb_S4x2048x256_S1x1024x128_3_1024_0) (window S.a ![3, 1024, 128] S1x1024x128.size inb_S4x2048x256_S1x1024x128_3_1024_128) X.w)

/-- The buffers of the branches. -/
abbrev Q (c : Dev nD) (X : Ins F) (S : St F) (O : S1024x512.Idx → Elt F .bf16) : sProp 𝕄G :=
  iprop(R arg5 arg6 arg7 arg8 arg12 arg13 c X S ∗ own c arg9 X.l ∗ own c arg10 X.w ∗ own c arg11 O)

section Rules

variable {α : Type} {c : Dev nD} {𝒱 : Variants} {bd : Option 𝒱.V} {E : Set ℕ}

theorem lift_trip {P P' Z : sProp 𝕄G} {p : Prog (TpuEff nD τ sig (Elt F) Λ₀ .tc) α}
    (h : P ⊢ wp frame (wpE (defs₀ (F := F)) 𝒱 (c : Thread nD τ) bd) E p (fun _ => P')) :
    iprop(P ∗ Z) ⊢ wp frame (wpE (defs₀ (F := F)) 𝒱 (c : Thread nD τ) bd) E p (fun _ => iprop(P' ∗ Z)) :=
  (sep_mono_left h).trans (wp_frame_r _ _ _)

theorem wp_ret_of {P : sProp 𝕄G} {a : α} :
    P ⊢ wp frame (wpE (defs₀ (F := F)) 𝒱 (c : Thread nD τ) bd) E (.ret a) (fun _ => P) := by
  iintro H
  sl_step
  iexact H

theorem wp_jp {κ : Prop} [Decidable κ] (P : St F → sProp 𝕄G) (f : St F → St F) (S : St F) {A : Prog (TpuEff nD τ sig (Elt F) Λ₀ .tc) PUnit} {k : PUnit → Prog (TpuEff nD τ sig (Elt F) Λ₀ .tc) α} {Φ : α → sProp 𝕄G}
    (hA : P S ⊢ wp frame (wpE (defs₀ (F := F)) 𝒱 (c : Thread nD τ) bd) E A (fun _ => P (f S)))
    (hk : P (if κ then f S else S) ⊢ wp frame (wpE (defs₀ (F := F)) 𝒱 (c : Thread nD τ) bd) E (k ⟨⟩) Φ) :
    P S ⊢ wp frame (wpE (defs₀ (F := F)) 𝒱 (c : Thread nD τ) bd) E (jp κ A k) Φ := by
  unfold jp
  split
  · rename_i h
    rw [if_pos h] at hk
    rw [wp_bind]
    exact hA.trans (wp_mono _ _ _ fun _ => hk)
  · rename_i h
    rw [if_neg h] at hk
    exact hk

end Rules

theorem init_spec (𝒱 : Variants) (bd : Option 𝒱.V) (E : Set ℕ) (c : Dev nD) (X : Ins F) (S : St F) (O : S1024x512.Idx → Elt F .bf16) :
    Q arg5 arg6 arg7 arg8 arg9 arg10 arg11 arg12 arg13 c X S O
      ⊢ wp frame (wpE (defs₀ (F := F)) 𝒱 (c : Thread nD τ) bd) E (initP (F := F) arg12 arg13) (fun _ => Q arg5 arg6 arg7 arg8 arg9 arg10 arg11 arg12 arg13 c X ⟨k0_pay1 (F := F), k0_pay2 (F := F)⟩ O) := by
  unfold initP
  iintro ⟨⟨H5, H6, H7, H8, H12, H13⟩, H9, H10, H11⟩
  sl_exec
  sl_step
  isplitr [H9 H10 H11]
  · isplitl [H5]; · iexact H5
    isplitl [H6]; · iexact H6
    isplitl [H7]; · iexact H7
    isplitl [H8]; · iexact H8
    isplitl [H12]
    · iapply (pointsTo_rep_of_read c arg12 _ _ _ ?_) $$ H12
      sl_unfold_run_names
      simp only [ld_any, st_any, View.writes_nil, View.read_rep, View.readCov]
      exact put_whole _ _ (by decide)
    · iapply (pointsTo_rep_of_read c arg13 _ _ _ ?_) $$ H13
      sl_unfold_run_names
      simp only [ld_any, st_any, View.writes_nil, View.read_rep, View.readCov]
      exact put_whole _ _ (by decide)
  · isplitl [H9]; · iexact H9
    isplitl [H10]; · iexact H10
    iexact H11

theorem fin_spec (𝒱 : Variants) (bd : Option 𝒱.V) (E : Set ℕ) (c : Dev nD) (X : Ins F) (S : St F) (O : S1024x512.Idx → Elt F .bf16) :
    Q arg5 arg6 arg7 arg8 arg9 arg10 arg11 arg12 arg13 c X S O
      ⊢ wp frame (wpE (defs₀ (F := F)) 𝒱 (c : Thread nD τ) bd) E (finP (F := F) i arg2 harg2 arg3 harg3 arg4 harg4 arg5 harg5 arg6 harg6 arg7 harg7 arg8 harg8 arg9 harg9 arg10 harg10 arg11 harg11 arg12 harg12 arg13 harg13) (fun _ => Q arg5 arg6 arg7 arg8 arg9 arg10 arg11 arg12 arg13 c X S (fin X S O)) := by
  unfold finP
  simp only [k0_part9_eq_skeleton, k0_part10_eq_skeleton, k0_part11_eq_skeleton]
  iintro ⟨⟨H5, H6, H7, H8, H12, H13⟩, H9, H10, H11⟩
  sl_exec
  sl_step
  isplitr [H9 H10 H11]
  · isplitl [H5]; · iexact H5
    isplitl [H6]; · iexact H6
    isplitl [H7]; · iexact H7
    isplitl [H8]; · iexact H8
    isplitl [H12]; · iexact H12
    iexact H13
  · isplitl [H9]; · iexact H9
    isplitl [H10]; · iexact H10
    iapply (pointsTo_rep_of_read c arg11 _ _ _ ?_) $$ H11
    sl_unfold_run_names
    simp only [ld_any, st_any, View.writes_nil, View.read_rep, View.readCov]
    rw [window_whole X.l (by decide), window_whole X.w (by decide)]
    rfl

theorem loop1_spec (𝒱 : Variants) (bd : Option 𝒱.V) (E : Set ℕ) (c : Dev nD) (X : Ins F) (S : St F) (O : S1024x512.Idx → Elt F .bf16) :
    Q arg5 arg6 arg7 arg8 arg9 arg10 arg11 arg12 arg13 c X S O
      ⊢ wp frame (wpE (defs₀ (F := F)) 𝒱 (c : Thread nD τ) bd) E (Scf.Loop.for k0_t1_loop k0_t1_ok PUnit.unit (k0_t1_body (F := F) i arg2 harg2 arg3 harg3 arg4 harg4 arg5 harg5 arg6 harg6 arg7 harg7 arg8 harg8 arg9 harg9 arg10 harg10 arg11 harg11 arg12 harg12 arg13 harg13)) (fun _ => Q arg5 arg6 arg7 arg8 arg9 arg10 arg11 arg12 arg13 c X (loop1 X S) O) := by
  have ht : k0_t1_loop.trips = 4 := by decide
  rw [Scf.for_trips4 _ _ ht]
  simp only [wp_bind]
  refine (lift_trip (trip1 i arg2 harg2 arg3 harg3 arg4 harg4 arg5 harg5 arg6 harg6 arg7 harg7 arg8 harg8 arg9 harg9 arg10 harg10 arg11 harg11 arg12 harg12 arg13 harg13 𝒱 bd E c X S ⟨0, by decide⟩)).trans (wp_mono _ _ _ fun _ => ?_)
  refine (lift_trip (trip1 i arg2 harg2 arg3 harg3 arg4 harg4 arg5 harg5 arg6 harg6 arg7 harg7 arg8 harg8 arg9 harg9 arg10 harg10 arg11 harg11 arg12 harg12 arg13 harg13 𝒱 bd E c X _ ⟨1, by decide⟩)).trans (wp_mono _ _ _ fun _ => ?_)
  refine (lift_trip (trip1 i arg2 harg2 arg3 harg3 arg4 harg4 arg5 harg5 arg6 harg6 arg7 harg7 arg8 harg8 arg9 harg9 arg10 harg10 arg11 harg11 arg12 harg12 arg13 harg13 𝒱 bd E c X _ ⟨2, by decide⟩)).trans (wp_mono _ _ _ fun _ => ?_)
  refine (lift_trip (trip1 i arg2 harg2 arg3 harg3 arg4 harg4 arg5 harg5 arg6 harg6 arg7 harg7 arg8 harg8 arg9 harg9 arg10 harg10 arg11 harg11 arg12 harg12 arg13 harg13 𝒱 bd E c X _ ⟨3, by decide⟩)).trans (wp_mono _ _ _ fun _ => ?_)
  exact wp_ret_of

theorem loop2_spec (𝒱 : Variants) (bd : Option 𝒱.V) (E : Set ℕ) (c : Dev nD) (X : Ins F) (S : St F) (O : S1024x512.Idx → Elt F .bf16) :
    Q arg5 arg6 arg7 arg8 arg9 arg10 arg11 arg12 arg13 c X S O
      ⊢ wp frame (wpE (defs₀ (F := F)) 𝒱 (c : Thread nD τ) bd) E (Scf.Loop.for k0_t2_loop k0_t2_ok PUnit.unit (k0_t2_body (F := F) i arg2 harg2 arg3 harg3 arg4 harg4 arg5 harg5 arg6 harg6 arg7 harg7 arg8 harg8 arg9 harg9 arg10 harg10 arg11 harg11 arg12 harg12 arg13 harg13)) (fun _ => Q arg5 arg6 arg7 arg8 arg9 arg10 arg11 arg12 arg13 c X (loop2 X S) O) := by
  have ht : k0_t2_loop.trips = 4 := by decide
  rw [Scf.for_trips4 _ _ ht]
  simp only [wp_bind]
  refine (lift_trip (trip2 i arg2 harg2 arg3 harg3 arg4 harg4 arg5 harg5 arg6 harg6 arg7 harg7 arg8 harg8 arg9 harg9 arg10 harg10 arg11 harg11 arg12 harg12 arg13 harg13 𝒱 bd E c X S ⟨0, by decide⟩)).trans (wp_mono _ _ _ fun _ => ?_)
  refine (lift_trip (trip2 i arg2 harg2 arg3 harg3 arg4 harg4 arg5 harg5 arg6 harg6 arg7 harg7 arg8 harg8 arg9 harg9 arg10 harg10 arg11 harg11 arg12 harg12 arg13 harg13 𝒱 bd E c X _ ⟨1, by decide⟩)).trans (wp_mono _ _ _ fun _ => ?_)
  refine (lift_trip (trip2 i arg2 harg2 arg3 harg3 arg4 harg4 arg5 harg5 arg6 harg6 arg7 harg7 arg8 harg8 arg9 harg9 arg10 harg10 arg11 harg11 arg12 harg12 arg13 harg13 𝒱 bd E c X _ ⟨2, by decide⟩)).trans (wp_mono _ _ _ fun _ => ?_)
  refine (lift_trip (trip2 i arg2 harg2 arg3 harg3 arg4 harg4 arg5 harg5 arg6 harg6 arg7 harg7 arg8 harg8 arg9 harg9 arg10 harg10 arg11 harg11 arg12 harg12 arg13 harg13 𝒱 bd E c X _ ⟨3, by decide⟩)).trans (wp_mono _ _ _ fun _ => ?_)
  exact wp_ret_of

theorem loop3_spec (𝒱 : Variants) (bd : Option 𝒱.V) (E : Set ℕ) (c : Dev nD) (X : Ins F) (S : St F) (O : S1024x512.Idx → Elt F .bf16) :
    Q arg5 arg6 arg7 arg8 arg9 arg10 arg11 arg12 arg13 c X S O
      ⊢ wp frame (wpE (defs₀ (F := F)) 𝒱 (c : Thread nD τ) bd) E (Scf.Loop.for k0_t3_loop k0_t3_ok PUnit.unit (k0_t3_body (F := F) i arg2 harg2 arg3 harg3 arg4 harg4 arg5 harg5 arg6 harg6 arg7 harg7 arg8 harg8 arg9 harg9 arg10 harg10 arg11 harg11 arg12 harg12 arg13 harg13)) (fun _ => Q arg5 arg6 arg7 arg8 arg9 arg10 arg11 arg12 arg13 c X (loop3 X S) O) := by
  have ht : k0_t3_loop.trips = 4 := by decide
  rw [Scf.for_trips4 _ _ ht]
  simp only [wp_bind]
  refine (lift_trip (trip3 i arg2 harg2 arg3 harg3 arg4 harg4 arg5 harg5 arg6 harg6 arg7 harg7 arg8 harg8 arg9 harg9 arg10 harg10 arg11 harg11 arg12 harg12 arg13 harg13 𝒱 bd E c X S ⟨0, by decide⟩)).trans (wp_mono _ _ _ fun _ => ?_)
  refine (lift_trip (trip3 i arg2 harg2 arg3 harg3 arg4 harg4 arg5 harg5 arg6 harg6 arg7 harg7 arg8 harg8 arg9 harg9 arg10 harg10 arg11 harg11 arg12 harg12 arg13 harg13 𝒱 bd E c X _ ⟨1, by decide⟩)).trans (wp_mono _ _ _ fun _ => ?_)
  refine (lift_trip (trip3 i arg2 harg2 arg3 harg3 arg4 harg4 arg5 harg5 arg6 harg6 arg7 harg7 arg8 harg8 arg9 harg9 arg10 harg10 arg11 harg11 arg12 harg12 arg13 harg13 𝒱 bd E c X _ ⟨2, by decide⟩)).trans (wp_mono _ _ _ fun _ => ?_)
  refine (lift_trip (trip3 i arg2 harg2 arg3 harg3 arg4 harg4 arg5 harg5 arg6 harg6 arg7 harg7 arg8 harg8 arg9 harg9 arg10 harg10 arg11 harg11 arg12 harg12 arg13 harg13 𝒱 bd E c X _ ⟨3, by decide⟩)).trans (wp_mono _ _ _ fun _ => ?_)
  exact wp_ret_of

theorem loop4_spec (𝒱 : Variants) (bd : Option 𝒱.V) (E : Set ℕ) (c : Dev nD) (X : Ins F) (S : St F) (O : S1024x512.Idx → Elt F .bf16) :
    Q arg5 arg6 arg7 arg8 arg9 arg10 arg11 arg12 arg13 c X S O
      ⊢ wp frame (wpE (defs₀ (F := F)) 𝒱 (c : Thread nD τ) bd) E (Scf.Loop.for k0_t4_loop k0_t4_ok PUnit.unit (k0_t4_body (F := F) i arg2 harg2 arg3 harg3 arg4 harg4 arg5 harg5 arg6 harg6 arg7 harg7 arg8 harg8 arg9 harg9 arg10 harg10 arg11 harg11 arg12 harg12 arg13 harg13)) (fun _ => Q arg5 arg6 arg7 arg8 arg9 arg10 arg11 arg12 arg13 c X (loop4 X S) O) := by
  have ht : k0_t4_loop.trips = 4 := by decide
  rw [Scf.for_trips4 _ _ ht]
  simp only [wp_bind]
  refine (lift_trip (trip4 i arg2 harg2 arg3 harg3 arg4 harg4 arg5 harg5 arg6 harg6 arg7 harg7 arg8 harg8 arg9 harg9 arg10 harg10 arg11 harg11 arg12 harg12 arg13 harg13 𝒱 bd E c X S ⟨0, by decide⟩)).trans (wp_mono _ _ _ fun _ => ?_)
  refine (lift_trip (trip4 i arg2 harg2 arg3 harg3 arg4 harg4 arg5 harg5 arg6 harg6 arg7 harg7 arg8 harg8 arg9 harg9 arg10 harg10 arg11 harg11 arg12 harg12 arg13 harg13 𝒱 bd E c X _ ⟨1, by decide⟩)).trans (wp_mono _ _ _ fun _ => ?_)
  refine (lift_trip (trip4 i arg2 harg2 arg3 harg3 arg4 harg4 arg5 harg5 arg6 harg6 arg7 harg7 arg8 harg8 arg9 harg9 arg10 harg10 arg11 harg11 arg12 harg12 arg13 harg13 𝒱 bd E c X _ ⟨2, by decide⟩)).trans (wp_mono _ _ _ fun _ => ?_)
  refine (lift_trip (trip4 i arg2 harg2 arg3 harg3 arg4 harg4 arg5 harg5 arg6 harg6 arg7 harg7 arg8 harg8 arg9 harg9 arg10 harg10 arg11 harg11 arg12 harg12 arg13 harg13 𝒱 bd E c X _ ⟨3, by decide⟩)).trans (wp_mono _ _ _ fun _ => ?_)
  exact wp_ret_of

/-- The output block after a point. -/
def outNext (v1 v3 v4 : BitVec 32) (X : Ins F) (S : St F) (O : S1024x512.Idx → Elt F .bf16) : S1024x512.Idx → Elt F .bf16 :=
  if k0_cond6 v1 v3 = 1#1 then fin X (next v1 v3 v4 X S) O else O

theorem rest_spec (𝒱 : Variants) (bd : Option 𝒱.V) (E : Set ℕ) (c : Dev nD) (X : Ins F) (S : St F) (O : S1024x512.Idx → Elt F .bf16) (v1 v3 v4 : BitVec 32) :
    Q arg5 arg6 arg7 arg8 arg9 arg10 arg11 arg12 arg13 c X S O
      ⊢ wp frame (wpE (defs₀ (F := F)) 𝒱 (c : Thread nD τ) bd) E (bodyRest (F := F) i arg2 harg2 arg3 harg3 arg4 harg4 arg5 harg5 arg6 harg6 arg7 harg7 arg8 harg8 arg9 harg9 arg10 harg10 arg11 harg11 arg12 harg12 arg13 harg13 v1 v3 v4) (fun _ => Q arg5 arg6 arg7 arg8 arg9 arg10 arg11 arg12 arg13 c X (next v1 v3 v4 X S) (outNext v1 v3 v4 X S O)) := by
  unfold bodyRest
  refine wp_jp (fun S => Q arg5 arg6 arg7 arg8 arg9 arg10 arg11 arg12 arg13 c X S O) (fun _ => ⟨k0_pay1 (F := F), k0_pay2 (F := F)⟩) S (init_spec arg5 arg6 arg7 arg8 arg9 arg10 arg11 arg12 arg13 𝒱 bd E c X S O) ?_
  refine wp_jp (fun S => Q arg5 arg6 arg7 arg8 arg9 arg10 arg11 arg12 arg13 c X S O) (loop1 X) _ (loop1_spec i arg2 harg2 arg3 harg3 arg4 harg4 arg5 harg5 arg6 harg6 arg7 harg7 arg8 harg8 arg9 harg9 arg10 harg10 arg11 harg11 arg12 harg12 arg13 harg13 𝒱 bd E c X _ O) ?_
  refine wp_jp (fun S => Q arg5 arg6 arg7 arg8 arg9 arg10 arg11 arg12 arg13 c X S O) (loop2 X) _ (loop2_spec i arg2 harg2 arg3 harg3 arg4 harg4 arg5 harg5 arg6 harg6 arg7 harg7 arg8 harg8 arg9 harg9 arg10 harg10 arg11 harg11 arg12 harg12 arg13 harg13 𝒱 bd E c X _ O) ?_
  refine wp_jp (fun S => Q arg5 arg6 arg7 arg8 arg9 arg10 arg11 arg12 arg13 c X S O) (loop3 X) _ (loop3_spec i arg2 harg2 arg3 harg3 arg4 harg4 arg5 harg5 arg6 harg6 arg7 harg7 arg8 harg8 arg9 harg9 arg10 harg10 arg11 harg11 arg12 harg12 arg13 harg13 𝒱 bd E c X _ O) ?_
  refine wp_jp (fun S => Q arg5 arg6 arg7 arg8 arg9 arg10 arg11 arg12 arg13 c X S O) (loop4 X) _ (loop4_spec i arg2 harg2 arg3 harg3 arg4 harg4 arg5 harg5 arg6 harg6 arg7 harg7 arg8 harg8 arg9 harg9 arg10 harg10 arg11 harg11 arg12 harg12 arg13 harg13 𝒱 bd E c X _ O) ?_
  change Q arg5 arg6 arg7 arg8 arg9 arg10 arg11 arg12 arg13 c X (next v1 v3 v4 X S) O ⊢ _
  unfold outNext
  generalize next v1 v3 v4 X S = N
  by_cases h : k0_cond6 v1 v3 = 1#1
  · rw [if_pos h, if_pos h]
    exact fin_spec i arg2 harg2 arg3 harg3 arg4 harg4 arg5 harg5 arg6 harg6 arg7 harg7 arg8 harg8 arg9 harg9 arg10 harg10 arg11 harg11 arg12 harg12 arg13 harg13 𝒱 bd E c X N O
  · rw [if_neg h, if_neg h]
    exact wp_ret_of

end Cert.NextKernelIdeal.Hand
-- ==== Proof.NextKITables.lean ====
/- The second layer's attention: the schedule: which query block and which key block each grid point takes. -/
module

public import proofs.«01_k».proof.Proof.NextKIBody
public import proofs.«01_k».proof.Proof.Gen.NextKernelIdeal.Launch
public import Idealize.ShloMosaic.Lib.Pipeline.Frame
public import Idealize.ShloMosaic.Lib.Pipeline.FrameBody

@[expose] public section

set_option maxRecDepth 8192
set_option maxHeartbeats 4000000

noncomputable section

namespace Cert.NextKernelIdeal.Hand

open Cert.KernelIdeal.Hand Cert.NextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

/-- The tables at a flag array `x`: the two of the schedule, and the flag. -/
def tblC (x : S1.Idx → BitVec 32) : pre0.Contents (Elt F) := fun
  | 0 => fun i => lit0 (S36.rowMajor i)
  | 1 => fun i => lit1 (S36.rowMajor i)
  | 2 => x
  | ⟨_ + 3, h⟩ => absurd h (Nat.not_lt.2 (Nat.le_add_left _ _))

/-- A point's query block within its sequence, and its key block. -/
abbrev qiW (i : grid0.Coords) : BitVec 32 := lit0 (i 1)
abbrev kiW (i : grid0.Coords) : BitVec 32 := lit1 (i 1)

/-- A point's query block and key block among those of all sequences. -/
def qB (i : grid0.Coords) : ℕ := (BitVec.ofNat 32 (i 0).val * 8#32 + qiW i).toNat
def kB (i : grid0.Coords) : ℕ := (BitVec.ofNat 32 (i 0).val * 8#32 + kiW i).toNat

theorem word0 : ∀ i : grid0.Coords, lit0 (S36.rowMajor ((Rect.unit (s := S36) (k0_off1 i) S1.size (k0_off1_inb i)).emb (Shape.Idx.first (numel1_S1.symm ▸ Nat.one_pos)))) = qiW i := by
  decide +kernel
theorem word1 : ∀ i : grid0.Coords, lit1 (S36.rowMajor ((Rect.unit (s := S36) (k0_off1 i) S1.size (k0_off1_inb i)).emb (Shape.Idx.first (numel1_S1.symm ▸ Nat.one_pos)))) = kiW i := by
  decide +kernel

variable (x : S1.Idx → BitVec 32) (i : grid0.Coords)

theorem at0 : (tblC (F := F) x).at 0 (Rect.unit (s := S36) (k0_off1 i) S1.size (k0_off1_inb i)) numel1_S1 = qiW i := word0 i
theorem at1 : (tblC (F := F) x).at 1 (Rect.unit (s := S36) (k0_off1 i) S1.size (k0_off1_inb i)) numel1_S1 = kiW i := word1 i

theorem off1_le : ∀ i : grid0.Coords, ∀ a, k0_off1 i a + 1 ≤ S36.size a := by decide +kernel
theorem wordD0 : ∀ i : grid0.Coords, lit0 (S36.rowMajor fun a => ⟨k0_off1 i a, off1_le i a⟩) = qiW i := by decide +kernel
theorem wordD1 : ∀ i : grid0.Coords, lit1 (S36.rowMajor fun a => ⟨k0_off1 i a, off1_le i a⟩) = kiW i := by decide +kernel

theorem atD0 : (tblC (F := F) x).atD 0 (k0_off1 i) = qiW i := (dif_pos (off1_le i)).trans (wordD0 i)
theorem atD1 : (tblC (F := F) x).atD 1 (k0_off1 i) = kiW i := (dif_pos (off1_le i)).trans (wordD1 i)

theorem tr1 : cc0_transform_1 k0_off1_inb numel1_S1 (tblC (F := F) x) i = ![0, qB i, 0] :=
  congrArg (fun w : BitVec 32 => (![0, (BitVec.ofNat 32 (i 0).val * 8#32 + w).toNat, 0] : Fin 3 → ℕ)) (at0 x i)
theorem tr2 : cc0_transform_2 k0_off1_inb numel1_S1 (tblC (F := F) x) i = ![kB i, 0] :=
  congrArg (fun w : BitVec 32 => (![(BitVec.ofNat 32 (i 0).val * 8#32 + w).toNat, 0] : Fin 2 → ℕ)) (at1 x i)
theorem tr3 : cc0_transform_3 k0_off1_inb numel1_S1 (tblC (F := F) x) i = ![kB i, 0] :=
  congrArg (fun w : BitVec 32 => (![(BitVec.ofNat 32 (i 0).val * 8#32 + w).toNat, 0] : Fin 2 → ℕ)) (at1 x i)
theorem tr4 : cc0_transform_4 k0_off1_inb numel1_S1 (tblC (F := F) x) i = ![0, 0] := rfl
theorem tr5 : cc0_transform_5 k0_off1_inb numel1_S1 (tblC (F := F) x) i = ![0, 0] := rfl
theorem tr6 : cc0_transform_6 k0_off1_inb numel1_S1 (tblC (F := F) x) i = ![qB i, 0] :=
  congrArg (fun w : BitVec 32 => (![(BitVec.ofNat 32 (i 0).val * 8#32 + w).toNat, 0] : Fin 2 → ℕ)) (at0 x i)

theorem inside1 : ∀ i : grid0.Coords, ∃ h : (∀ a, ((![0, qB i, 0] : Fin 3 → ℕ) a + 1) * S2x1024x512.size a ≤ S2x32768x512.size a), EltTy.bits .bf16 = 32 ∨ (Rect.block (s := S2x32768x512) S2x1024x512.size ![0, qB i, 0] h).WholeWords (EltTy.packing .bf16) := by
  decide +kernel
theorem inside2 : ∀ i : grid0.Coords, ∃ h : (∀ a, ((![kB i, 0] : Fin 2 → ℕ) a + 1) * S1024x512.size a ≤ S32768x512.size a), EltTy.bits .bf16 = 32 ∨ (Rect.block (s := S32768x512) S1024x512.size ![kB i, 0] h).WholeWords (EltTy.packing .bf16) := by
  decide +kernel
theorem inside3 : ∀ i : grid0.Coords, ∃ h : (∀ a, ((![kB i, 0] : Fin 2 → ℕ) a + 1) * S1024x1024.size a ≤ S32768x1024.size a), EltTy.bits .bf16 = 32 ∨ (Rect.block (s := S32768x1024) S1024x1024.size ![kB i, 0] h).WholeWords (EltTy.packing .bf16) := by
  decide +kernel
theorem inside6 : ∀ i : grid0.Coords, ∃ h : (∀ a, ((![qB i, 0] : Fin 2 → ℕ) a + 1) * S1024x512.size a ≤ S32768x512.size a), EltTy.bits .bf16 = 32 ∨ (Rect.block (s := S32768x512) S1024x512.size ![qB i, 0] h).WholeWords (EltTy.packing .bf16) := by
  decide +kernel

/-- The tables are admissible. -/
theorem ok_tblC : ok0 (tblC (F := F) x) := by
  refine ⟨fun i => ?_, fun i => ?_, fun i => ?_, fun i => ?_, fun i => ?_, fun i => ?_⟩
  · rw [tr1]; exact inside1 i
  · rw [tr2]; exact inside2 i
  · rw [tr3]; exact inside3 i
  · rw [tr4]; exact ⟨by decide, .inl rfl⟩
  · rw [tr5]; exact ⟨by decide, .inl rfl⟩
  · rw [tr6]; exact inside6 i

/-- The admissible contents the pipeline runs at. -/
abbrev adm : (pcfg0 (F := F)).Adm := ⟨tblC x, ok_tblC x⟩

theorem idle6 : (cfg0 (adm (F := F) x)).idle 6 i = !(k0_cond6 (qiW i) (kiW i) == 1#1) := by
  change (!(k0_cond6 ((tblC (F := F) x).atD 0 (k0_off1 i)) ((tblC (F := F) x).atD 1 (k0_off1 i)) == 1#1)) = _
  rw [atD0, atD1]

/-- A block's write-back is at the points that store it: those of a diagonal key block. -/
theorem sched : ∀ t : Fin grid0.N, (decide (t.val + 1 = grid0.N) || decide (∃ h : t.val + 1 < grid0.N, (![qB (grid0.coords ⟨t.val + 1, h⟩), 0] : Fin 2 → ℕ) ≠ ![qB (grid0.coords t), 0])) = (k0_cond6 (qiW (grid0.coords t)) (kiW (grid0.coords t)) == 1#1) := by
  decide +kernel

theorem flush6 (t : Fin grid0.N) : ((cfg0 (adm (F := F) x)).win 6).flush t = (k0_cond6 (qiW (grid0.coords t)) (kiW (grid0.coords t)) == 1#1) := by
  rw [← sched]
  have e : ∀ t, ((cfg0 (adm (F := F) x)).win 6).index t = ![qB (grid0.coords t), 0] := fun t => tr6 x (grid0.coords t)
  exact congrArg (fun f : Fin grid0.N → Fin 2 → ℕ => (decide (t.val + 1 = grid0.N) || decide (∃ h : t.val + 1 < grid0.N, f ⟨t.val + 1, h⟩ ≠ f t))) (funext e)

end Cert.NextKernelIdeal.Hand
-- ==== Proof.NextKIPoint.lean ====
/- The second layer's attention: one grid point: the schedule's words are read and the branches run. -/
module

public import proofs.«01_k».proof.Proof.NextKITables

@[expose] public section

set_option maxRecDepth 8192
set_option maxHeartbeats 4000000

noncomputable section

namespace Cert.NextKernelIdeal.Hand

open Cert.KernelIdeal.Hand Cert.NextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄G" => MT nD τ sig Unit (Elt F) ℕ (UR sig nD τ) ℕ

/-- A table held for reading. -/
abbrev tb (c : Dev nD) {s : Shape} {e : EltTy} (m : Memref sig .tc .smem s e) (f : Buf (Elt F) (m.view.loc (c : Thread nD τ))) : sProp 𝕄G :=
  m.view.loc (c : Thread nD τ) ↦{fullShare.right} f

variable (i : grid0.Coords) (arg2 : Memref sig .tc .smem S36 .i32) (harg2 : arg2.IsWhole) (arg3 : Memref sig .tc .smem S36 .i32) (harg3 : arg3.IsWhole) (arg4 : Memref sig .tc .smem S1 .i32) (harg4 : arg4.IsWhole) (arg5 : Memref sig .tc .smem S1 .f32) (harg5 : arg5.IsWhole) (arg6 : Memref sig .tc .vmem S2x1024x512 .bf16) (harg6 : arg6.IsWhole) (arg7 : Memref sig .tc .vmem S1024x512 .bf16) (harg7 : arg7.IsWhole) (arg8 : Memref sig .tc .vmem S1024x1024 .bf16) (harg8 : arg8.IsWhole) (arg9 : Memref sig .tc .vmem S4x64 .f32) (harg9 : arg9.IsWhole) (arg10 : Memref sig .tc .vmem S1x128 .f32) (harg10 : arg10.IsWhole) (arg11 : Memref sig .tc .vmem S1024x512 .bf16) (harg11 : arg11.IsWhole) (arg12 : Memref sig .tc .vmem S4x2048x1 .f32) (harg12 : arg12.IsWhole) (arg13 : Memref sig .tc .vmem S4x2048x256 .f32) (harg13 : arg13.IsWhole)

/-- The three tables at a flag array `x`. -/
abbrev tabs (c : Dev nD) (x : S1.Idx → BitVec 32) : sProp 𝕄G :=
  iprop(tb c (Memref.whole main_c) (tblC (F := F) x 0) ∗ tb c (Memref.whole main_c_0) (tblC (F := F) x 1) ∗ tb c (Memref.whole main_v30) (tblC (F := F) x 2))

theorem tabs_eq (c : Dev nD) (x : S1.Idx → BitVec 32) : (Pipeline.ΦT pre0 (tblC (F := F) x) c : sProp 𝕄G) = tabs c x := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The flag. -/
def flag (x : S1.Idx → BitVec 32) : BitVec 32 := x (Shape.Idx.first (numel1_S1.symm ▸ Nat.one_pos))

/-- A word read at the head of a program. -/
theorem wp_word {𝒱 : Variants} {bd : Option 𝒱.V} {E : Set ℕ} {c : Dev nD} {α : Type} {s : Shape} {m : Memref sig .tc .smem s .i32} {r : Rect s} {h1 : r.shape.numel = 1} {hp : EltTy.i32.packing = 1}
    {k : BitVec 32 → Prog (TpuEff nD τ sig (Elt F) Λ₀ .tc) α} {f : Buf (Elt F) (m.view.loc (c : Thread nD τ))} {P Z : sProp 𝕄G} {Φ : α → sProp 𝕄G} (v : BitVec 32)
    (hP : P ⊢ iprop(tb c m f ∗ Z)) (hv : (m.access r).read (Elt F) f (Shape.Idx.first (h1.symm ▸ Nat.one_pos)) = v)
    (h : iprop(tb c m f ∗ Z) ⊢ wp frame (wpE (defs₀ (F := F)) 𝒱 (c : Thread nD τ) bd) E (k v) Φ) :
    P ⊢ wp frame (wpE (defs₀ (F := F)) 𝒱 (c : Thread nD τ) bd) E ((smemLoad m r h1 hp : Prog (TpuEff nD τ sig (Elt F) Λ₀ .tc) (Elt F .i32)) >>= k) Φ := by
  subst hv
  refine hP.trans ?_
  change _ ⊢ wp frame (wpE (defs₀ (F := F)) 𝒱 (c : Thread nD τ) bd) E (smemLoadElt (p := .tc) m r (View.loads_smem_one hp h1) (Shape.Idx.first (h1.symm ▸ Nat.one_pos)) k) Φ
  iintro ⟨HT, HZ⟩
  iapply (wp_smemLoadElt (hw := View.loads_smem_one hp h1) (defs := defs₀ (F := F)) 𝒱 (c : Thread nD τ) bd E (m := m) (r := r) (S := Finset.univ) (q := fullShare.right) (f := f) (Finset.subset_univ _)) $$ HT
  iintro HT
  iapply h
  isplitl [HT]
  · iexact HT
  · iexact HZ

theorem point_spec (𝒱 : Variants) (bd : Option 𝒱.V) (E : Set ℕ) (c : Dev nD) (X : Ins F) (S : St F) (O : S1024x512.Idx → Elt F .bf16) (x : S1.Idx → BitVec 32) :
    iprop(tabs c x ∗ Q arg5 arg6 arg7 arg8 arg9 arg10 arg11 arg12 arg13 c X S O)
      ⊢ wp frame (wpE (defs₀ (F := F)) 𝒱 (c : Thread nD τ) bd) E (cc0_flash_diff_attention (F := F) i (Memref.whole main_c) (Memref.isWhole_whole _) (Memref.whole main_c_0) (Memref.isWhole_whole _) (Memref.whole main_v30) (Memref.isWhole_whole _) arg5 harg5 arg6 harg6 arg7 harg7 arg8 harg8 arg9 harg9 arg10 harg10 arg11 harg11 arg12 harg12 arg13 harg13)
          (fun _ => iprop(tabs c x ∗ Q arg5 arg6 arg7 arg8 arg9 arg10 arg11 arg12 arg13 c X (next (qiW i) (kiW i) (flag x) X S) (outNext (qiW i) (kiW i) (flag x) X S O))) := by
  rw [body_eq]
  refine wp_word (f := tblC (F := F) x 0) (Z := iprop(tb c (Memref.whole main_c_0) (tblC (F := F) x 1) ∗ tb c (Memref.whole main_v30) (tblC (F := F) x 2) ∗ Q arg5 arg6 arg7 arg8 arg9 arg10 arg11 arg12 arg13 c X S O)) (qiW i) ?_ ?_ ?_
  · iintro ⟨⟨T0, T1, T2⟩, H⟩
    isplitl [T0]; · iexact T0
    isplitl [T1]; · iexact T1
    isplitl [T2]; · iexact T2
    iexact H
  · exact at0 x i
  refine wp_word (f := tblC (F := F) x 1) (Z := iprop(tb c (Memref.whole main_c) (tblC (F := F) x 0) ∗ tb c (Memref.whole main_v30) (tblC (F := F) x 2) ∗ Q arg5 arg6 arg7 arg8 arg9 arg10 arg11 arg12 arg13 c X S O)) (kiW i) ?_ ?_ ?_
  · iintro ⟨T0, T1, T2, H⟩
    isplitl [T1]; · iexact T1
    isplitl [T0]; · iexact T0
    isplitl [T2]; · iexact T2
    iexact H
  · exact at1 x i
  refine wp_word (f := tblC (F := F) x 2) (Z := iprop(tb c (Memref.whole main_c) (tblC (F := F) x 0) ∗ tb c (Memref.whole main_c_0) (tblC (F := F) x 1) ∗ Q arg5 arg6 arg7 arg8 arg9 arg10 arg11 arg12 arg13 c X S O)) (flag x) ?_ ?_ ?_
  · iintro ⟨T1, T0, T2, H⟩
    isplitl [T2]; · iexact T2
    isplitl [T0]; · iexact T0
    isplitl [T1]; · iexact T1
    iexact H
  · exact congrArg x (funext fun a => Fin.ext (by fin_cases a; rfl))
  refine BIBase.Entails.trans (show _ ⊢ iprop(Q arg5 arg6 arg7 arg8 arg9 arg10 arg11 arg12 arg13 c X S O ∗ tabs c x) from ?_) ((sep_mono (rest_spec i (Memref.whole main_c) (Memref.isWhole_whole _) (Memref.whole main_c_0) (Memref.isWhole_whole _) (Memref.whole main_v30) (Memref.isWhole_whole _) arg5 harg5 arg6 harg6 arg7 harg7 arg8 harg8 arg9 harg9 arg10 harg10 arg11 harg11 arg12 harg12 arg13 harg13 𝒱 bd E c X S O (qiW i) (kiW i) (flag x)) .rfl).trans ((wp_frame_r _ _ _).trans (wp_mono _ _ _ fun _ => ?_)))
  · iintro ⟨T2, T0, T1, H⟩
    isplitl [H]; · iexact H
    isplitl [T0]; · iexact T0
    isplitl [T1]; · iexact T1
    iexact T2
  · iintro ⟨H, T⟩
    isplitl [T]
    · iexact T
    · iexact H

end Cert.NextKernelIdeal.Hand
-- ==== Proof.NextKIDat.lean ====
/- The second layer's attention: what each buffer holds at each grid point, whatever the arrays hold when the grid starts. -/
module

public import proofs.«01_k».proof.Proof.NextKIPoint

@[expose] public section

set_option maxRecDepth 8192
set_option maxHeartbeats 4000000

noncomputable section

namespace Cert.NextKernelIdeal.Hand

open Cert.KernelIdeal.Hand Cert.NextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄G" => MT nD τ sig Unit (Elt F) ℕ (UR sig nD τ) ℕ

variable (x : S1.Idx → BitVec 32) (A : (c : Dev nD) → (b : Ref sig .tc) → Buf (Elt F) ((c : Thread nD τ).loc b))

/-- The pipeline. -/
abbrev cfgM : Pipeline.Cfg sig Λ₀ := cfg0 (adm (F := F) x)

/-- A window's block at a point. -/
def iblk (c : Dev nD) (w : Fin 7) (t : Fin grid0.N) : ((cfgM (F := F) x).win w).block.Idx → Elt F ((cfgM (F := F) x).win w).elt :=
  (((cfgM (F := F) x).win w).blk t).view.read (Elt F) (A c (Pipeline.arrRef spec0 w))

/-- The blocks that a point reads. -/
def insAt (c : Dev nD) (t : Fin grid0.N) : Ins F where
  b := iblk x A c 0 t
  q := iblk x A c 1 t
  k := iblk x A c 2 t
  v := iblk x A c 3 t
  l := iblk x A c 4 t
  w := iblk x A c 5 t

/-- The running state after the first `n` points. -/
def stateAt (c : Dev nD) : ℕ → St F
  | 0 => ⟨k0_pay1 (F := F), k0_pay2 (F := F)⟩
  | n + 1 => if h : n < grid0.N then next (qiW (grid0.coords ⟨n, h⟩)) (kiW (grid0.coords ⟨n, h⟩)) (flag x) (insAt x A c ⟨n, h⟩) (stateAt c n) else stateAt c n

theorem stateAt_succ (c : Dev nD) (t : Fin grid0.N) : stateAt x A c (t.val + 1) = next (qiW (grid0.coords t)) (kiW (grid0.coords t)) (flag x) (insAt x A c t) (stateAt x A c t.val) := by
  change (if h : t.val < grid0.N then _ else _) = _
  rw [dif_pos t.isLt]

/-- A first key block starts afresh. -/
theorem next_init (v1 v4 : BitVec 32) (X : Ins F) (S S' : St F) : next v1 0#32 v4 X S = next v1 0#32 v4 X S' := by
  have h : Scalar.cmpi .ne (Scalar.extui (Scalar.cmpi .eq (0#32 : BitVec 32) 0#32) : BitVec 32) 0#32 = 1#1 := by decide
  unfold next
  simp only [if_pos h]

theorem first_ki : ∀ t : Fin grid0.N, t.val = 0 → kiW (grid0.coords t) = 0#32 := by decide +kernel

/-- The four heads' lanes are all of the block's. -/
theorem fin_indep (X : Ins F) (S : St F) (O O' : S1024x512.Idx → Elt F .bf16) : fin X S O = fin X S O' := by
  have key : ∀ (w0 w1 w2 w3 : ((a : Fin 2) → Fin ((![1024, 128] : Fin 2 → ℕ) a)) → Elt F .bf16),
      put (s := S1024x512) (put (put (put O ![0, 0] ![1024, 128] w0) ![0, 128] ![1024, 128] w1) ![0, 256] ![1024, 128] w2) ![0, 384] ![1024, 128] w3
        = put (s := S1024x512) (put (put (put O' ![0, 0] ![1024, 128] w0) ![0, 128] ![1024, 128] w1) ![0, 256] ![1024, 128] w2) ![0, 384] ![1024, 128] w3 := by
    intro w0 w1 w2 w3
    funext y
    have h0 : (y 0).val < 1024 := (y 0).isLt
    have h1 : (y 1).val < 512 := (y 1).isLt
    unfold put
    split; · rfl
    split; · rfl
    split; · rfl
    split; · rfl
    rename_i a b c d
    exfalso
    simp only [Fin.forall_fin_two] at a b c d
    simp [h0] at a b c d
    omega
  exact key _ _ _ _

/-- The output block's buffer holds something. -/
def anyO : S1024x512.Idx → Elt F .bf16 := fun _ => Scalar.ofBits .bf16 0#16

/-- What the loop keeps. -/
def PhiS (c : Dev nD) (n : ℕ) : sProp 𝕄G :=
  iprop(∃ S : St F, ⌜n ≠ 0 → S = stateAt x A c n⌝ ∗ own c (Memref.whole cc0_scratch0) S.m ∗ own c (Memref.whole cc0_scratch1) S.a ∗ tabs c x ∗ ∃ r, prngReg c r)

/-- The run's data. -/
def dats (_p : Fin 1) (c : Dev nD) : Pipeline.Dat τ (Elt F) Unit ℕ (UR sig nD τ) ℕ (cfgM (F := F) x) c where
  A w := A c (Pipeline.arrRef spec0 w)
  after := fun
    | 0 => fun t => iblk x A c 0 t
    | 1 => fun t => iblk x A c 1 t
    | 2 => fun t => iblk x A c 2 t
    | 3 => fun t => iblk x A c 3 t
    | 4 => fun t => iblk x A c 4 t
    | 5 => fun t => iblk x A c 5 t
    | 6 => fun t => fin (insAt x A c t) (stateAt x A c (t.val + 1)) anyO
    | ⟨_ + 7, h⟩ => absurd h (Nat.not_lt.2 (Nat.le_add_left _ _))
  Φ t := PhiS x A c t.val
  q _ := fullShare
  owed _ := 0

theorem before_0 (c : Dev nD) (t : Fin grid0.N) (d) : (dats x A 0 c).before 0 t d = iblk x A c 0 t :=
  (Pipeline.Dat.before_in_eq_fetched (dats x A 0 c) 0 rfl (fun _ => rfl) (fun _ _ _ => rfl) (fun _ => rfl) t d).trans rfl

theorem before_1 (c : Dev nD) (t : Fin grid0.N) (d) : (dats x A 0 c).before 1 t d = iblk x A c 1 t :=
  (Pipeline.Dat.before_in_eq_fetched (dats x A 0 c) 1 rfl (fun _ => rfl) (fun _ _ _ => rfl) (fun _ => rfl) t d).trans rfl

theorem before_2 (c : Dev nD) (t : Fin grid0.N) (d) : (dats x A 0 c).before 2 t d = iblk x A c 2 t :=
  (Pipeline.Dat.before_in_eq_fetched (dats x A 0 c) 2 rfl (fun _ => rfl) (fun _ _ _ => rfl) (fun _ => rfl) t d).trans rfl

theorem before_3 (c : Dev nD) (t : Fin grid0.N) (d) : (dats x A 0 c).before 3 t d = iblk x A c 3 t :=
  (Pipeline.Dat.before_in_eq_fetched (dats x A 0 c) 3 rfl (fun _ => rfl) (fun _ _ _ => rfl) (fun _ => rfl) t d).trans rfl

theorem before_4 (c : Dev nD) (t : Fin grid0.N) (d) : (dats x A 0 c).before 4 t d = iblk x A c 4 t :=
  (Pipeline.Dat.before_in_eq_fetched (dats x A 0 c) 4 rfl (fun _ => rfl) (fun _ _ _ => rfl) (fun _ => rfl) t d).trans rfl

theorem before_5 (c : Dev nD) (t : Fin grid0.N) (d) : (dats x A 0 c).before 5 t d = iblk x A c 5 t :=
  (Pipeline.Dat.before_in_eq_fetched (dats x A 0 c) 5 rfl (fun _ => rfl) (fun _ _ _ => rfl) (fun _ => rfl) t d).trans rfl

/-- The body's row in the table of bodies. -/
theorem row (t : Fin grid0.N) : (defs₀ (F := F)) .tc (cfgM (F := F) x).body ((cfgM (F := F) x).bodyArgs t ((cfgM (F := F) x).slots t)) = cc0_flash_diff_attention (F := F) (grid0.coords t) (Memref.whole main_c) (Memref.isWhole_whole _) (Memref.whole main_c_0) (Memref.isWhole_whole _) (Memref.whole main_v30) (Memref.isWhole_whole _) (spec0_0.stage ((cfgM (F := F) x).slots t 0)) (hstage0_0 (((cfgM (F := F) x).slots t 0).cast nbuf0_0)) (spec0_1.stage ((cfgM (F := F) x).slots t 1)) (hstage0_1 (((cfgM (F := F) x).slots t 1).cast nbuf0_1)) (spec0_2.stage ((cfgM (F := F) x).slots t 2)) (hstage0_2 (((cfgM (F := F) x).slots t 2).cast nbuf0_2)) (spec0_3.stage ((cfgM (F := F) x).slots t 3)) (hstage0_3 (((cfgM (F := F) x).slots t 3).cast nbuf0_3)) (spec0_4.stage ((cfgM (F := F) x).slots t 4)) (hstage0_4 (((cfgM (F := F) x).slots t 4).cast nbuf0_4)) (spec0_5.stage ((cfgM (F := F) x).slots t 5)) (hstage0_5 (((cfgM (F := F) x).slots t 5).cast nbuf0_5)) (spec0_6.stage ((cfgM (F := F) x).slots t 6)) (hstage0_6 (((cfgM (F := F) x).slots t 6).cast nbuf0_6)) (Memref.whole cc0_scratch0) (Memref.isWhole_whole _) (Memref.whole cc0_scratch1) (Memref.isWhole_whole _) := by
  unfold defs₀; rw [Defs.onTc_tc]

/-- A point's buffers, at the output block's contents. -/
abbrev Qt (c : Dev nD) (t : Fin grid0.N) (S : St F) (O : S1024x512.Idx → Elt F .bf16) : sProp 𝕄G :=
  Q (spec0_0.stage ((cfgM (F := F) x).slots t 0)) (spec0_1.stage ((cfgM (F := F) x).slots t 1)) (spec0_2.stage ((cfgM (F := F) x).slots t 2)) (spec0_3.stage ((cfgM (F := F) x).slots t 3)) (spec0_4.stage ((cfgM (F := F) x).slots t 4)) (spec0_5.stage ((cfgM (F := F) x).slots t 5)) (spec0_6.stage ((cfgM (F := F) x).slots t 6)) (Memref.whole cc0_scratch0) (Memref.whole cc0_scratch1) c (insAt x A c t) S O

theorem row_spec (c : Dev nD) (t : Fin grid0.N) (S : St F) (O : S1024x512.Idx → Elt F .bf16) :
    iprop(tabs c x ∗ Qt x A c t S O)
      ⊢ wp frame (wpE (defs₀ (F := F)) Variants.none (c : Thread nD τ) none) Set.univ ((defs₀ (F := F)) .tc (cfgM (F := F) x).body ((cfgM (F := F) x).bodyArgs t ((cfgM (F := F) x).slots t)))
        (fun _ => iprop(tabs c x ∗ Qt x A c t (next (qiW (grid0.coords t)) (kiW (grid0.coords t)) (flag x) (insAt x A c t) S) (outNext (qiW (grid0.coords t)) (kiW (grid0.coords t)) (flag x) (insAt x A c t) S O))) := by
  rw [row]
  exact point_spec (grid0.coords t) _ _ _ _ _ _ _ _ _ _ _ _ _ _ _ _ _ _ Variants.none none Set.univ c (insAt x A c t) S O x

end Cert.NextKernelIdeal.Hand
-- ==== Proof.NextKIObl.lean ====
/- The second layer's attention: the pipelined body keeps what each buffer is stated to hold. -/
module

public import proofs.«01_k».proof.Proof.NextKIDat

@[expose] public section

set_option maxRecDepth 8192
set_option maxHeartbeats 4000000

noncomputable section

namespace Cert.NextKernelIdeal.Hand

open Cert.KernelIdeal.Hand Cert.NextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄G" => MT nD τ sig Unit (Elt F) ℕ (UR sig nD τ) ℕ

variable (x : S1.Idx → BitVec 32) (A : (c : Dev nD) → (b : Ref sig .tc) → Buf (Elt F) ((c : Thread nD τ).loc b))

theorem ex_mono {α : Type} {P Q : α → sProp 𝕄G} (h : ∀ d, P d ⊢ Q d) : iprop(∃ d, P d) ⊢ iprop(∃ d, Q d) :=
  BIClass.exists_elim fun d => (h d).trans (BIClass.exists_intro (Φ := Q) d)

theorem outNext_live (v1 v3 v4 : BitVec 32) (X : Ins F) (S S' : St F) (O : S1024x512.Idx → Elt F .bf16) (h : k0_cond6 v1 v3 = 1#1) (hS : next v1 v3 v4 X S = S') : outNext v1 v3 v4 X S O = fin X S' anyO := by
  unfold outNext; rw [if_pos h, hS]; exact fin_indep _ _ _ _
theorem outNext_idle (v1 v3 v4 : BitVec 32) (X : Ins F) (S : St F) (O : S1024x512.Idx → Elt F .bf16) (h : ¬ k0_cond6 v1 v3 = 1#1) : outNext v1 v3 v4 X S O = O := by
  unfold outNext; rw [if_neg h]

/-- What the output window's buffer holds after a point. -/
theorem leave6 (c : Dev nD) (t : Fin grid0.N) (d) (S : St F) (hS : next (qiW (grid0.coords t)) (kiW (grid0.coords t)) (flag x) (insAt x A c t) S = stateAt x A c (t.val + 1)) :
    own c (spec0_6.stage ((cfgM (F := F) x).slots t 6)) (outNext (qiW (grid0.coords t)) (kiW (grid0.coords t)) (flag x) (insAt x A c t) S ((dats x A 0 c).before 6 t d)) ⊢ (dats x A 0 c).leavesExact 6 t := by
  have hi := idle6 (F := F) x (grid0.coords t)
  have hf := flush6 (F := F) x t
  by_cases h : k0_cond6 (qiW (grid0.coords t)) (kiW (grid0.coords t)) = 1#1
  · refine (Entails.of_eq (congrArg (own c (spec0_6.stage ((cfgM (F := F) x).slots t 6))) (outNext_live _ _ _ _ _ _ _ h hS))).trans ?_
    rw [h] at hi
    have hi' : (cfgM (F := F) x).idle 6 ((cfgM (F := F) x).grid.coords t) = false := hi
    unfold Pipeline.Dat.leavesExact
    rw [hi']
    exact owns_of_rep (c : Thread nD τ) _ _ _
  · refine (Entails.of_eq (congrArg (own c (spec0_6.stage ((cfgM (F := F) x).slots t 6))) (outNext_idle _ _ _ _ _ _ h))).trans ?_
    have hb : (k0_cond6 (qiW (grid0.coords t)) (kiW (grid0.coords t)) == 1#1) = false := by simpa using h
    rw [hb] at hi hf
    have hi' : (cfgM (F := F) x).idle 6 ((cfgM (F := F) x).grid.coords t) = true := hi
    have hf' : ((cfgM (F := F) x).win 6).flush t = false := hf
    rw [Pipeline.Dat.leavesExact_idle _ _ _ hi' hf']
    exact (owns_of_rep (c : Thread nD τ) _ _ _).trans (BIClass.exists_intro (Φ := fun d => owns (c : Thread nD τ) (spec0_6.stage ((cfgM (F := F) x).slots t 6)) fullShare ((dats x A 0 c).before 6 t d)) d)

theorem take0 (c : Dev nD) (t : Fin grid0.N) : iprop(∃ d, owns c (spec0_0.stage ((cfgM (F := F) x).slots t 0)) fullShare ((dats x A 0 c).before 0 t d)) ⊢ own c (spec0_0.stage ((cfgM (F := F) x).slots t 0)) (iblk x A c 0 t) :=
  BIClass.exists_elim fun d => (Entails.of_eq (congrArg (owns (c : Thread nD τ) (spec0_0.stage ((cfgM (F := F) x).slots t 0)) fullShare) (before_0 x A c t d))).trans (rep_of_owns (c : Thread nD τ) _ _ _)

theorem take1 (c : Dev nD) (t : Fin grid0.N) : iprop(∃ d, owns c (spec0_1.stage ((cfgM (F := F) x).slots t 1)) fullShare ((dats x A 0 c).before 1 t d)) ⊢ own c (spec0_1.stage ((cfgM (F := F) x).slots t 1)) (iblk x A c 1 t) :=
  BIClass.exists_elim fun d => (Entails.of_eq (congrArg (owns (c : Thread nD τ) (spec0_1.stage ((cfgM (F := F) x).slots t 1)) fullShare) (before_1 x A c t d))).trans (rep_of_owns (c : Thread nD τ) _ _ _)

theorem take2 (c : Dev nD) (t : Fin grid0.N) : iprop(∃ d, owns c (spec0_2.stage ((cfgM (F := F) x).slots t 2)) fullShare ((dats x A 0 c).before 2 t d)) ⊢ own c (spec0_2.stage ((cfgM (F := F) x).slots t 2)) (iblk x A c 2 t) :=
  BIClass.exists_elim fun d => (Entails.of_eq (congrArg (owns (c : Thread nD τ) (spec0_2.stage ((cfgM (F := F) x).slots t 2)) fullShare) (before_2 x A c t d))).trans (rep_of_owns (c : Thread nD τ) _ _ _)

theorem take3 (c : Dev nD) (t : Fin grid0.N) : iprop(∃ d, owns c (spec0_3.stage ((cfgM (F := F) x).slots t 3)) fullShare ((dats x A 0 c).before 3 t d)) ⊢ own c (spec0_3.stage ((cfgM (F := F) x).slots t 3)) (iblk x A c 3 t) :=
  BIClass.exists_elim fun d => (Entails.of_eq (congrArg (owns (c : Thread nD τ) (spec0_3.stage ((cfgM (F := F) x).slots t 3)) fullShare) (before_3 x A c t d))).trans (rep_of_owns (c : Thread nD τ) _ _ _)

theorem take4 (c : Dev nD) (t : Fin grid0.N) : iprop(∃ d, owns c (spec0_4.stage ((cfgM (F := F) x).slots t 4)) fullShare ((dats x A 0 c).before 4 t d)) ⊢ own c (spec0_4.stage ((cfgM (F := F) x).slots t 4)) (iblk x A c 4 t) :=
  BIClass.exists_elim fun d => (Entails.of_eq (congrArg (owns (c : Thread nD τ) (spec0_4.stage ((cfgM (F := F) x).slots t 4)) fullShare) (before_4 x A c t d))).trans (rep_of_owns (c : Thread nD τ) _ _ _)

theorem take5 (c : Dev nD) (t : Fin grid0.N) : iprop(∃ d, owns c (spec0_5.stage ((cfgM (F := F) x).slots t 5)) fullShare ((dats x A 0 c).before 5 t d)) ⊢ own c (spec0_5.stage ((cfgM (F := F) x).slots t 5)) (iblk x A c 5 t) :=
  BIClass.exists_elim fun d => (Entails.of_eq (congrArg (owns (c : Thread nD τ) (spec0_5.stage ((cfgM (F := F) x).slots t 5)) fullShare) (before_5 x A c t d))).trans (rep_of_owns (c : Thread nD τ) _ _ _)

theorem leave0 (c : Dev nD) (t : Fin grid0.N) : own c (spec0_0.stage ((cfgM (F := F) x).slots t 0)) (iblk x A c 0 t) ⊢ (dats x A 0 c).leavesExact 0 t :=
  owns_of_rep (c : Thread nD τ) _ _ _

theorem leave1 (c : Dev nD) (t : Fin grid0.N) : own c (spec0_1.stage ((cfgM (F := F) x).slots t 1)) (iblk x A c 1 t) ⊢ (dats x A 0 c).leavesExact 1 t :=
  owns_of_rep (c : Thread nD τ) _ _ _

theorem leave2 (c : Dev nD) (t : Fin grid0.N) : own c (spec0_2.stage ((cfgM (F := F) x).slots t 2)) (iblk x A c 2 t) ⊢ (dats x A 0 c).leavesExact 2 t :=
  owns_of_rep (c : Thread nD τ) _ _ _

theorem leave3 (c : Dev nD) (t : Fin grid0.N) : own c (spec0_3.stage ((cfgM (F := F) x).slots t 3)) (iblk x A c 3 t) ⊢ (dats x A 0 c).leavesExact 3 t :=
  owns_of_rep (c : Thread nD τ) _ _ _

theorem leave4 (c : Dev nD) (t : Fin grid0.N) : own c (spec0_4.stage ((cfgM (F := F) x).slots t 4)) (iblk x A c 4 t) ⊢ (dats x A 0 c).leavesExact 4 t :=
  owns_of_rep (c : Thread nD τ) _ _ _

theorem leave5 (c : Dev nD) (t : Fin grid0.N) : own c (spec0_5.stage ((cfgM (F := F) x).slots t 5)) (iblk x A c 5 t) ⊢ (dats x A 0 c).leavesExact 5 t :=
  owns_of_rep (c : Thread nD τ) _ _ _

theorem at_succ {α : Sort _} {N : ℕ} (f : ℕ → α) (t : Fin N) : f t.succ.val = f (t.val + 1) := rfl
theorem at_castSucc {α : Sort _} {N : ℕ} (f : ℕ → α) (t : Fin N) : f t.castSucc.val = f t.val := rfl

theorem phi_castSucc (c : Dev nD) (t : Fin grid0.N) : (dats x A 0 c).Φ t.castSucc = PhiS x A c t.val := by
  dsimp only [dats]; exact at_castSucc (PhiS x A c) t
theorem phi_succ (c : Dev nD) (t : Fin grid0.N) : (dats x A 0 c).Φ t.succ = PhiS x A c (t.val + 1) := by
  dsimp only [dats]; exact at_succ (PhiS x A c) t
theorem owes_same (c : Dev nD) (t : Fin grid0.N) : (dats x A 0 c).owesAt () t.castSucc = (dats x A 0 c).owesAt () t.succ := by
  rfl

theorem take6 (c : Dev nD) (t : Fin grid0.N) : iprop(∃ d, owns c (spec0_6.stage ((cfgM (F := F) x).slots t 6)) fullShare ((dats x A 0 c).before 6 t d)) ⊢ iprop(∃ d, own c (spec0_6.stage ((cfgM (F := F) x).slots t 6)) ((dats x A 0 c).before 6 t d)) :=
  ex_mono fun d => rep_of_owns (c : Thread nD τ) (spec0_6.stage ((cfgM (F := F) x).slots t 6)) fullShare ((dats x A 0 c).before 6 t d)

theorem next_at (c : Dev nD) (t : Fin grid0.N) (S : St F) (hS : t.val ≠ 0 → S = stateAt x A c t.val) :
    next (qiW (grid0.coords t)) (kiW (grid0.coords t)) (flag x) (insAt x A c t) S = stateAt x A c (t.val + 1) := by
  rw [stateAt_succ]
  by_cases h : t.val = 0
  · rw [first_ki t h]; exact next_init _ _ _ _ _
  · rw [hS h]

theorem body_post (c : Dev nD) (t : Fin grid0.N) (Ow : sProp 𝕄G) (S : St F) (d) (hS : next (qiW (grid0.coords t)) (kiW (grid0.coords t)) (flag x) (insAt x A c t) S = stateAt x A c (t.val + 1)) :
    iprop((tabs c x ∗ Qt x A c t (next (qiW (grid0.coords t)) (kiW (grid0.coords t)) (flag x) (insAt x A c t) S) (outNext (qiW (grid0.coords t)) (kiW (grid0.coords t)) (flag x) (insAt x A c t) S ((dats x A 0 c).before 6 t d))) ∗ Ow ∗ ∃ r, prngReg c r)
      ⊢ iprop(PhiS x A c (t.val + 1) ∗ Ow ∗ own c (spec0_0.stage ((cfgM (F := F) x).slots t 0)) (iblk x A c 0 t) ∗ own c (spec0_1.stage ((cfgM (F := F) x).slots t 1)) (iblk x A c 1 t) ∗ own c (spec0_2.stage ((cfgM (F := F) x).slots t 2)) (iblk x A c 2 t) ∗ own c (spec0_3.stage ((cfgM (F := F) x).slots t 3)) (iblk x A c 3 t) ∗ own c (spec0_4.stage ((cfgM (F := F) x).slots t 4)) (iblk x A c 4 t) ∗ own c (spec0_5.stage ((cfgM (F := F) x).slots t 5)) (iblk x A c 5 t) ∗ (dats x A 0 c).leavesExact 6 t) := by
  have h6 := leave6 x A c t d S hS
  unfold PhiS
  iintro ⟨⟨Ht, ⟨H0, H1, H2, H3, Hm, Ha⟩, H4, H5, H6⟩, Ho, Hr⟩
  isplitl [Hm Ha Ht Hr]
  · iexists (next (qiW (grid0.coords t)) (kiW (grid0.coords t)) (flag x) (insAt x A c t) S)
    isplitr
    · ipureintro; exact fun _ => hS
    isplitl [Hm]; · iexact Hm
    isplitl [Ha]; · iexact Ha
    isplitl [Ht]; · iexact Ht
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply h6 $$ H6

theorem body_pt (c : Dev nD) (t : Fin grid0.N) (Ow : sProp 𝕄G) (S : St F) (d) (hS : next (qiW (grid0.coords t)) (kiW (grid0.coords t)) (flag x) (insAt x A c t) S = stateAt x A c (t.val + 1)) :
    iprop((tabs c x ∗ Qt x A c t S ((dats x A 0 c).before 6 t d)) ∗ Ow ∗ ∃ r, prngReg c r)
      ⊢ wp frame (wpE (defs₀ (F := F)) Variants.none (c : Thread nD τ) none) Set.univ ((defs₀ (F := F)) .tc (cfgM (F := F) x).body ((cfgM (F := F) x).bodyArgs t ((cfgM (F := F) x).slots t))) (fun _ => iprop(PhiS x A c (t.val + 1) ∗ Ow ∗ own c (spec0_0.stage ((cfgM (F := F) x).slots t 0)) (iblk x A c 0 t) ∗ own c (spec0_1.stage ((cfgM (F := F) x).slots t 1)) (iblk x A c 1 t) ∗ own c (spec0_2.stage ((cfgM (F := F) x).slots t 2)) (iblk x A c 2 t) ∗ own c (spec0_3.stage ((cfgM (F := F) x).slots t 3)) (iblk x A c 3 t) ∗ own c (spec0_4.stage ((cfgM (F := F) x).slots t 4)) (iblk x A c 4 t) ∗ own c (spec0_5.stage ((cfgM (F := F) x).slots t 5)) (iblk x A c 5 t) ∗ (dats x A 0 c).leavesExact 6 t)) :=
  BIBase.Entails.trans (sep_mono_left (row_spec x A c t S ((dats x A 0 c).before 6 t d))) (BIBase.Entails.trans (wp_frame_r _ _ _) (wp_mono _ _ _ fun _ => body_post x A c t Ow S d hS))

theorem body_core (c : Dev nD) (t : Fin grid0.N) (Ow : sProp 𝕄G) :
    iprop(PhiS x A c t.val ∗ Ow ∗ own c (spec0_0.stage ((cfgM (F := F) x).slots t 0)) (iblk x A c 0 t) ∗ own c (spec0_1.stage ((cfgM (F := F) x).slots t 1)) (iblk x A c 1 t) ∗ own c (spec0_2.stage ((cfgM (F := F) x).slots t 2)) (iblk x A c 2 t) ∗ own c (spec0_3.stage ((cfgM (F := F) x).slots t 3)) (iblk x A c 3 t) ∗ own c (spec0_4.stage ((cfgM (F := F) x).slots t 4)) (iblk x A c 4 t) ∗ own c (spec0_5.stage ((cfgM (F := F) x).slots t 5)) (iblk x A c 5 t) ∗ (∃ d, own c (spec0_6.stage ((cfgM (F := F) x).slots t 6)) ((dats x A 0 c).before 6 t d)))
      ⊢ wp frame (wpE (defs₀ (F := F)) Variants.none (c : Thread nD τ) none) Set.univ ((defs₀ (F := F)) .tc (cfgM (F := F) x).body ((cfgM (F := F) x).bodyArgs t ((cfgM (F := F) x).slots t)))
        (fun _ => iprop(PhiS x A c (t.val + 1) ∗ Ow ∗ own c (spec0_0.stage ((cfgM (F := F) x).slots t 0)) (iblk x A c 0 t) ∗ own c (spec0_1.stage ((cfgM (F := F) x).slots t 1)) (iblk x A c 1 t) ∗ own c (spec0_2.stage ((cfgM (F := F) x).slots t 2)) (iblk x A c 2 t) ∗ own c (spec0_3.stage ((cfgM (F := F) x).slots t 3)) (iblk x A c 3 t) ∗ own c (spec0_4.stage ((cfgM (F := F) x).slots t 4)) (iblk x A c 4 t) ∗ own c (spec0_5.stage ((cfgM (F := F) x).slots t 5)) (iblk x A c 5 t) ∗ (dats x A 0 c).leavesExact 6 t)) := by
  unfold PhiS
  iintro ⟨⟨%S, %hS, Hm, Ha, Ht, Hr⟩, Ho, H0, H1, H2, H3, H4, H5, ⟨%d, H6⟩⟩
  iapply (body_pt x A c t Ow S d (next_at x A c t S hS)) $$ [Hm Ha Ht Hr Ho H0 H1 H2 H3 H4 H5 H6]
  isplitl [Hm Ha Ht H0 H1 H2 H3 H4 H5 H6]
  · isplitl [Ht]; · iexact Ht
    isplitl [H0 H1 H2 H3 Hm Ha]
    · isplitl [H0]; · iexact H0
      isplitl [H1]; · iexact H1
      isplitl [H2]; · iexact H2
      isplitl [H3]; · iexact H3
      isplitl [Hm]; · iexact Hm
      iexact Ha
    isplitl [H4]; · iexact H4
    isplitl [H5]; · iexact H5
    iexact H6
  isplitl [Ho]; · iexact Ho
  iexact Hr

theorem hbody (c : Dev nD) : Pipeline.BodyObligation (dats x A 0 c) (defs₀ (F := F)) Variants.none () Set.univ := fun t => by
  rw [bigSep_W0, bigSep_W0]
  refine triple_restated (body_core x A c t ((dats x A 0 c).owesAt () t.castSucc)) rfl ?_ fun _ => ?_
  · exact BIClass.sep_mono (Entails.of_eq (phi_castSucc x A c t)) (BIClass.sep_mono Entails.rfl (BIClass.sep_mono (take0 x A c t) (BIClass.sep_mono (take1 x A c t) (BIClass.sep_mono (take2 x A c t) (BIClass.sep_mono (take3 x A c t) (BIClass.sep_mono (take4 x A c t) (BIClass.sep_mono (take5 x A c t) (take6 x A c t))))))))
  · exact BIClass.sep_mono (Entails.of_eq (phi_succ x A c t).symm) (BIClass.sep_mono (Entails.of_eq (owes_same x A c t)) (BIClass.sep_mono (leave0 x A c t) (BIClass.sep_mono (leave1 x A c t) (BIClass.sep_mono (leave2 x A c t) (BIClass.sep_mono (leave3 x A c t) (BIClass.sep_mono (leave4 x A c t) (BIClass.sep_mono (leave5 x A c t) Entails.rfl)))))))

end Cert.NextKernelIdeal.Hand
-- ==== Proof.NextKIRun.lean ====
/- The second layer's attention: the run of the program: it ends, its arguments are unchanged, its semaphores are zero, and its result is what the
   pipeline leaves in the result's array. -/
module

public import proofs.«01_k».proof.Proof.NextKIObl

@[expose] public section

set_option maxRecDepth 8192
set_option maxHeartbeats 4000000

noncomputable section

namespace Cert.NextKernelIdeal.Hand

open Cert.KernelIdeal.Hand Cert.NextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄G" => MT nD τ sig Unit (Elt F) ℕ (UR sig nD τ) ℕ

variable (m : (ℓ : Loc nD τ sig) → Buf (Elt F) ℓ)

/-- What the arrays hold when the grid starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 (defs₀ (F := F)) 𝒱₀ m (main (F := F)) (V m) :=
  Pipeline.hmainP_prefix pcfgs 0 defs₀ 𝒱₀ m main hostOps0 hostOps0_sub hostOps0_fresh main_chain

/-- The flag array. -/
def flags : S1.Idx → BitVec 32 := V m 0 main_v30

theorem V_pre (c : Dev nD) (k : Fin 3) : V m c (pre0.ref k) = tblC (flags m) k := by
  obtain rfl : c = 0 := Subsingleton.elim _ _
  match k with
  | 0 => rfl
  | 1 => rfl
  | 2 => rfl

/-- The tables. -/
def admM : (p : Fin 1) → (pcfgs (F := F) p).Adm := fun
  | 0 => adm (flags m)
  | ⟨_ + 1, h⟩ => absurd h (Nat.not_lt.2 (Nat.le_add_left _ _))

/-- The run's data, for each pipeline. -/
def datsM (p : Fin 1) (c : Dev nD) : Pipeline.Dat τ (Elt F) Unit ℕ (UR sig nD τ) ℕ (Pipeline.pin (pcfgs (F := F)) (admM m) p) c :=
  match p with
  | 0 => dats (flags m) (V m) 0 c
  | ⟨_ + 1, h⟩ => absurd h (Nat.not_lt.2 (Nat.le_add_left _ _))

omit [FloatOps F] in
theorem pts_whole (c : Dev nD) (b : Ref sig .tc) (f : Buf (Elt F) ((c : Thread nD τ).loc b)) :
    ((c : Thread nD τ).loc b ↦[(View.whole b).set]{fullShare} f : sProp 𝕄G) = ((c : Thread nD τ).loc b ↦{fullShare} f) := by
  rw [View.set_whole b]

theorem whole_own (c : Dev nD) (b : Ref sig .tc) (f : Buf (Elt F) ((c : Thread nD τ).loc b)) :
    ((c : Thread nD τ).loc b ↦{fullShare} f : sProp 𝕄G) ⊢ own c (Memref.whole b) ((Memref.whole b).view.read (Elt F) f) :=
  BIBase.Entails.trans (Entails.of_eq (pts_whole c b f).symm) (pointsTo_rep_of_read (c : Thread nD τ) (Memref.whole b) f fullShare _ rfl)

theorem own_whole (c : Dev nD) (b : Ref sig .tc) (X) :
    (own (F := F) c (Memref.whole b) X : sProp 𝕄G) ⊢ iprop(∃ f : Buf (Elt F) ((c : Thread nD τ).loc b), (c : Thread nD τ).loc b ↦{fullShare} f) :=
  BIBase.Entails.trans (Entails.of_eq (pts_whole c b _)) (BIClass.exists_intro (Φ := fun f : Buf (Elt F) ((c : Thread nD τ).loc b) => iprop((c : Thread nD τ).loc b ↦{fullShare} f)) _)

theorem hin (c : Dev nD) : iprop(Pipeline.ΦA spec0 c ∗ Pipeline.ΦT pre0 (tblC (F := F) (flags m)) c) ⊢ PhiS (flags m) (V m) c 0 := by
  rw [tabs_eq]
  unfold Pipeline.ΦA PhiS
  rw [scopedRest0_eq]
  iintro ⟨⟨⟨⟨%f0, H0⟩, ⟨%f1, H1⟩⟩, Hr⟩, Ht⟩
  iexists (⟨(Memref.whole cc0_scratch0).view.read (Elt F) f0, (Memref.whole cc0_scratch1).view.read (Elt F) f1⟩ : St F)
  isplitr
  · ipureintro; exact fun h => absurd rfl h
  isplitl [H0]; · iapply (whole_own c cc0_scratch0 f0) $$ H0
  isplitl [H1]; · iapply (whole_own c cc0_scratch1 f1) $$ H1
  isplitl [Ht]; · iexact Ht
  iexact Hr

theorem hout (c : Dev nD) (n : ℕ) : PhiS (flags m) (V m) c n ⊢ Pipeline.ΦA spec0 c := by
  unfold Pipeline.ΦA PhiS
  rw [scopedRest0_eq]
  iintro ⟨%S, -, H0, H1, -, Hr⟩
  isplitr [Hr]
  · isplitl [H0]
    · iapply (own_whole c cc0_scratch0 S.m) $$ H0
    · iapply (own_whole c cc0_scratch1 S.a) $$ H1
  iexact Hr

theorem phi_zero (c : Dev nD) : (datsM m 0 c).Φ 0 = PhiS (flags m) (V m) c 0 := rfl

/-- The pipeline leaves in each window's array what its data state, and every other array as it was. -/
theorem run (g : Dev nD → PrngReg) :
    θ_run (defs (F := F)) (onTc (τ := τ) (main (F := F))) ⟨m, fun _ => 0, g⟩ (fun r => Pipeline.FramePost (Pipeline.pin (pcfgs (F := F)) (admM m)) (datsM m) 0 (V m) r ∧ r.2.sem = fun _ => 0) :=
  Pipeline.θ_run_frameP_track pcfgs (admM m) (datsM m) 0 launch0 defs₀ Variants.none m g (main (F := F))
    (fun c => (hbody (flags m) (V m) c).loose) (fun c w => by fin_cases w <;> rfl) (fun _ _ => rfl) (V m) (hmain m Variants.none) (fun _ _ => rfl)
    (V_pre m) (fun c => (hin m c).trans (Entails.of_eq (phi_zero m c).symm)) (fun c => hout m c _)
    (Q' := fun r => Pipeline.FramePost (Pipeline.pin (pcfgs (F := F)) (admM m)) (datsM m) 0 (V m) r ∧ r.2.sem = fun _ => 0) (fun _ h => h)

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl
theorem V_arg5 (c : Dev nD) : V m c main_arg5 = m ((c : Thread nD τ).loc main_arg5) := rfl
theorem V_arg6 (c : Dev nD) : V m c main_arg6 = m ((c : Thread nD τ).loc main_arg6) := rfl

/-- After the run the arguments are as they were. -/
theorem args_kept (r : PUnit × MemSt nD τ sig (Elt F)) (h1 : Pipeline.FramePost (Pipeline.pin (pcfgs (F := F)) (admM m)) (datsM m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h1 c).2 main_arg0 (by show _ ∈ Pipeline.restRefs sig spec0; decide)).trans (V_arg0 m c), ((h1 c).2 main_arg1 (by show _ ∈ Pipeline.restRefs sig spec0; decide)).trans (V_arg1 m c),
    ((h1 c).2 main_arg2 (by show _ ∈ Pipeline.restRefs sig spec0; decide)).trans (V_arg2 m c), ((h1 c).2 main_arg3 (by show _ ∈ Pipeline.restRefs sig spec0; decide)).trans (V_arg3 m c),
    ((h1 c).2 main_arg4 (by show _ ∈ Pipeline.restRefs sig spec0; decide)).trans (V_arg4 m c),
    ((h1 c).1 4).trans (((datsM m 0 c).arrAt_in 4 rfl _).trans (V_arg5 m c)),
    ((h1 c).2 main_arg6 (by show _ ∈ Pipeline.restRefs sig spec0; decide)).trans (V_arg6 m c)⟩

theorem kept (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  exact (θ_run _ _ _).mono (fun r h => ⟨fun c => args_kept m r h.1 c, h.2⟩) (run m g)

end Cert.NextKernelIdeal.Hand
-- ==== Proof.NextKKept.lean ====
/- The second layer's attention kernel over the kernel's own floats: its program is the one over any floats, whose run is proved there. -/
module

public import proofs.«01_k».proof.Defs
public import proofs.«01_k».proof.Proof.Gen.NextKernel
public import proofs.«01_k».proof.Proof.NextKIRun

@[expose] public section

set_option maxHeartbeats 4000000
set_option maxRecDepth 100000

noncomputable section

namespace Cert.NextKernel.Hand

open Idealize.ShloMosaic Idealize.SL.Sem

attribute [local instance] Cert.NextKernel.Gen.facts Cert.NextKernelIdeal.Gen.facts

/-- The kernel's body is the same text in both programs. -/
theorem body : (@Cert.NextKernel.cc0_flash_diff_attention Bits _ _) = @Cert.NextKernelIdeal.cc0_flash_diff_attention Bits _ _ := rfl

/-- So is the table of bodies, which has one entry. -/
theorem bodies : (Cert.NextKernel.defs₀ (F := Bits)) = Cert.NextKernelIdeal.defs₀ (F := Bits) := by
  unfold Cert.NextKernel.defs₀ Cert.NextKernelIdeal.defs₀
  refine congrArg Defs.onTc (funext fun l => funext fun a => ?_)
  obtain rfl : l = 0 := Subsingleton.elim _ _
  rfl

/-- And so is the table of pipelined calls. -/
theorem table : (Cert.NextKernel.defs (F := Bits)) = Cert.NextKernelIdeal.defs (F := Bits) :=
  congrArg (Pipeline.defs (Cert.NextKernelIdeal.pcfgs (F := Bits))) bodies

/-- The kernel leaves its arguments as they were and every semaphore at zero. -/
theorem kept : Cert.quiescent_NextKernel (hNextKernel := Cert.NextKernel.Gen.facts) := fun m g _ => by
  have h := Cert.NextKernelIdeal.Hand.kept (F := Bits) m g
  rw [← table] at h
  exact h

end Cert.NextKernel.Hand

end
-- ==== Proof.VMath.lean ====
/- The arithmetic of a weighted sum of values with weights that are powers of two, kept relative to a reference exponent. -/
module

public import Idealize.ShloMosaic.Lib.Pointwise
public import Mathlib.Analysis.SpecialFunctions.Pow.Real

@[expose] public section

set_option maxRecDepth 16384
set_option maxHeartbeats 4000000

noncomputable section

namespace Cert.Hand

open Idealize.ShloMosaic
open Finset (range)

/-- The sum of the first `n` values `x`, each weighted by two to its score less `M`. -/
def W (s x : ℕ → ℝ) (M : ℝ) (n : ℕ) : ℝ := ∑ j ∈ range n, (2 : ℝ) ^ (s j - M) * x j

theorem W_zero (s x : ℕ → ℝ) (M : ℝ) : W s x M 0 = 0 := by simp [W]

/-- Changing the reference exponent scales the sum. -/
theorem W_shift (s x : ℕ → ℝ) (M M' : ℝ) (n : ℕ) : (2 : ℝ) ^ (M - M') * W s x M n = W s x M' n := by
  unfold W
  rw [Finset.mul_sum]
  refine Finset.sum_congr rfl fun j _ => ?_
  rw [← mul_assoc, ← Real.rpow_add (by norm_num)]
  congr 2; ring

/-- The next `p` values (of at most `N`) are added. -/
theorem W_add (s x : ℕ → ℝ) (M : ℝ) (a N p : ℕ) :
    W s x M a + ∑ c : Fin N, (if c.val < p then (2 : ℝ) ^ (s (a + c) - M) * x (a + c) else 0) = W s x M (a + min N p) := by
  unfold W
  rw [Finset.sum_range_add, Fin.sum_univ_eq_sum_range (fun c => if c < p then (2 : ℝ) ^ (s (a + c) - M) * x (a + c) else 0) N, ← Finset.sum_filter]
  congr 1
  refine Finset.sum_congr (by ext; simp) fun _ _ => rfl

theorem exp2_sub (a b : ℝ) : FloatOps.exp2 (F := Ideal) (φ := .f32) ((a : EReal) - (b : EReal)) = (((2 : ℝ) ^ (a - b) : ℝ) : EReal) := by
  show Ideal.exp2 _ = _
  rw [← EReal.coe_sub]; rfl

theorem exp2_bot_sub (x : EReal) : FloatOps.exp2 (F := Ideal) (φ := .f32) ((⊥ : EReal) - x) = 0 := by
  show Ideal.exp2 _ = _
  rw [EReal.bot_sub]; rfl

theorem coe_sum {ι : Type} (t : Finset ι) (f : ι → ℝ) : ((∑ i ∈ t, f i : ℝ) : EReal) = ∑ i ∈ t, (f i : EReal) :=
  map_sum (⟨⟨Real.toEReal, rfl⟩, EReal.coe_add⟩ : ℝ →+ EReal) f t

/-- A chunk of keys whose weights are masked is added. -/
theorem chunk_add {N : ℕ} (s x : ℕ → ℝ) (M : ℝ) (a p : ℕ) (E V : Fin N → EReal) (hE : ∀ c, E c = (s (a + c) : EReal)) (hV : ∀ c, V c = (x (a + c) : EReal)) :
    (W s x M a : EReal) + ∑ c, (if c.val < p then FloatOps.exp2 (F := Ideal) (φ := .f32) (E c - (M : EReal)) * V c else 0) = (W s x M (a + min N p) : EReal) := by
  rw [← W_add, EReal.coe_add, coe_sum]
  refine congrArg _ (Finset.sum_congr rfl fun c _ => ?_)
  split
  · rw [hE, hV, exp2_sub, EReal.coe_mul]
  · rfl

/-- A chunk of keys is added. -/
theorem chunk_all {N : ℕ} (s x : ℕ → ℝ) (M : ℝ) (a : ℕ) (E V : Fin N → EReal) (hE : ∀ c, E c = (s (a + c) : EReal)) (hV : ∀ c, V c = (x (a + c) : EReal)) :
    (W s x M a : EReal) + ∑ c, FloatOps.exp2 (F := Ideal) (φ := .f32) (E c - (M : EReal)) * V c = (W s x M (a + N) : EReal) := by
  have h := chunk_add s x M a N E V hE hV
  rw [min_self] at h
  rw [← h]
  refine congrArg _ (Finset.sum_congr rfl fun c _ => ?_)
  rw [if_pos c.isLt]

/-- The running maximum is a real number once a key has been seen. -/
theorem fold_real {N : ℕ} (E : Fin N → EReal) (p : ℕ) (hN : 0 < N) (hp : 0 < p) (s : ℕ → ℝ) (hE : ∀ c, E c = if c.val < p then (s c : EReal) else ⊥) (m : EReal) (hm : m = ⊥ ∨ ∃ M : ℝ, m = M) :
    ∃ M' : ℝ, max m (Finset.fold max (⊥ : EReal) E Finset.univ) = M' := by
  have top : max m (Finset.fold max (⊥ : EReal) E Finset.univ) < ⊤ := by
    refine max_lt ?_ ?_
    · rcases hm with rfl | ⟨M, rfl⟩
      · exact bot_lt_top
      · exact EReal.coe_lt_top M
    · rw [Finset.fold_max_lt]
      refine ⟨bot_lt_top, fun c _ => ?_⟩
      rw [hE]
      split
      · exact EReal.coe_lt_top _
      · exact bot_lt_top
  have bot : ⊥ < max m (Finset.fold max (⊥ : EReal) E Finset.univ) := by
    refine lt_max_of_lt_right ?_
    rw [Finset.lt_fold_max]
    refine .inr ⟨⟨0, hN⟩, Finset.mem_univ _, ?_⟩
    rw [hE, if_pos hp]
    exact EReal.bot_lt_coe _
  exact ⟨_, (EReal.coe_toReal top.ne bot.ne').symm⟩

/-- What is known of a row's running maximum and of one lane of its accumulator. -/
def Row (s : ℕ → ℝ) (n : ℕ) (m : EReal) (A : EReal) (x : ℕ → ℝ) : Prop :=
  (n = 0 ∧ m = ⊥ ∧ A = 0) ∨ ∃ M : ℝ, m = M ∧ A = (W s x M n : EReal)

/-- The running-maximum update of one lane. -/
theorem row_step {N : ℕ} (s x : ℕ → ℝ) (n p : ℕ) (m A : EReal) (h : Row s n m A x) (E V : Fin N → EReal)
    (hE : ∀ c, E c = if c.val < p then (s (n + c) : EReal) else ⊥) (hV : ∀ c, V c = (x (n + c) : EReal)) (M' : ℝ) :
    FloatOps.exp2 (F := Ideal) (φ := .f32) (m - (M' : EReal)) * A + ∑ c, FloatOps.exp2 (F := Ideal) (φ := .f32) (E c - (M' : EReal)) * V c
      = (W s x M' (n + min N p) : EReal) := by
  have e1 : FloatOps.exp2 (F := Ideal) (φ := .f32) (m - (M' : EReal)) * A = (W s x M' n : EReal) := by
    rcases h with ⟨rfl, rfl, rfl⟩ | ⟨M, rfl, rfl⟩
    · rw [W_zero, mul_zero]; rfl
    · rw [exp2_sub, ← EReal.coe_mul, W_shift]
  rw [e1, ← W_add, EReal.coe_add, coe_sum]
  refine congrArg _ (Finset.sum_congr rfl fun c _ => ?_)
  rw [hE, hV]
  split
  · rw [exp2_sub, EReal.coe_mul]
  · rw [exp2_bot_sub, zero_mul]; rfl

/-- The word of minus infinity. -/
theorem negInf : Ideal.ofBits FTy.f32 4286578688#32 = (⊥ : EReal) := by
  simp [Ideal.ofBits, Ideal.ieee]

theorem select_of (c : BitVec 1) (P : Prop) [Decidable P] (h : c = 1#1 ↔ P) {α : Type} (x y : α) : Scalar.select c x y = if P then x else y := by
  unfold Scalar.select
  by_cases hP : P
  · rw [if_pos hP]; simp [h.2 hP]
  · rw [if_neg hP]
    have : c ≠ 1#1 := fun e => hP (h.1 e)
    simp [this]

theorem sle_nat (a b : ℕ) (ha : a < 2 ^ 31) (hb : b < 2 ^ 31) : IntOp.cmpi CmpIPredicate.sle (BitVec.ofNat 32 a) (BitVec.ofNat 32 b) = 1#1 ↔ a ≤ b := by
  have ea : (BitVec.ofNat 32 a).toInt = a := by rw [BitVec.toInt_eq_toNat_of_lt] <;> simp <;> omega
  have eb : (BitVec.ofNat 32 b).toInt = b := by rw [BitVec.toInt_eq_toNat_of_lt] <;> simp <;> omega
  simp only [IntOp.cmpi, BitVec.sle, ea, eb]
  by_cases h : a ≤ b <;> simp [h]

theorem sge_nat (a b : ℕ) (ha : a < 2 ^ 31) (hb : b < 2 ^ 31) : IntOp.cmpi CmpIPredicate.sge (BitVec.ofNat 32 a) (BitVec.ofNat 32 b) = 1#1 ↔ b ≤ a := by
  have ea : (BitVec.ofNat 32 a).toInt = a := by rw [BitVec.toInt_eq_toNat_of_lt] <;> simp <;> omega
  have eb : (BitVec.ofNat 32 b).toInt = b := by rw [BitVec.toInt_eq_toNat_of_lt] <;> simp <;> omega
  simp only [IntOp.cmpi, BitVec.sle, ea, eb]
  by_cases h : b ≤ a <;> simp [h]

/-- The causal mask of a block whose two maps are stacked: of row `r` the position within its map is `r % n`. -/
theorem mask_at (n : ℕ) (hn : 0 < n ∧ n ≤ 1024) (r c : ℕ) (hr : r < 2 * n) (hc : c < 1024) (x y : EReal) :
    Scalar.select (α := EReal) (IntOp.cmpi CmpIPredicate.sle (BitVec.ofNat 32 c)
        (Scalar.select (IntOp.cmpi CmpIPredicate.sge (BitVec.ofNat 32 r) (BitVec.ofNat 32 n))
          (IntOp.subi (BitVec.ofNat 32 r) (BitVec.ofNat 32 n)) (BitVec.ofNat 32 r))) x y
      = if c ≤ r % n then x else y := by
  have e : Scalar.select (IntOp.cmpi CmpIPredicate.sge (BitVec.ofNat 32 r) (BitVec.ofNat 32 n))
          (IntOp.subi (BitVec.ofNat 32 r) (BitVec.ofNat 32 n)) (BitVec.ofNat 32 r) = BitVec.ofNat 32 (r % n) := by
    rw [select_of _ _ (sge_nat r n (by omega) (by omega))]
    split
    · rename_i h
      have : r % n = r - n := by rw [Nat.mod_eq_sub_mod h, Nat.mod_eq_of_lt (by omega)]
      rw [this]
      apply BitVec.eq_of_toNat_eq
      simp [IntOp.subi]
      omega
    · rename_i h
      rw [Nat.mod_eq_of_lt (by omega)]
  rw [e, select_of _ _ (sle_nat c (r % n) (by omega) (by have := Nat.mod_lt r hn.1; omega))]

end Cert.Hand
-- ==== Proof.VPre.lean ====
/- The precondition: the queries, keys, values and weight vectors are real numbers. -/
module

public import proofs.«01_k».proof.Proof.VMath
public import proofs.«01_k».proof.Pre_finite
public import Idealize.ShloMosaic.Lib.ReduceAll

@[expose] public section

set_option maxRecDepth 16384
set_option maxHeartbeats 4000000

noncomputable section

namespace Cert.Hand

open Cert.Pre_finite Cert.Pre_finite.Facts
open Idealize.ShloMosaic

theorem posInf : Ideal.ofBits FTy.f32 2139095040#32 = (⊤ : EReal) := by
  simp [Ideal.ofBits, Ideal.ieee]

theorem both : ∀ a b : BitVec 1, IntOp.andi a b = 1#1 → a = 1#1 ∧ b = 1#1 := by decide

/-- A number whose absolute value is below infinity is real. -/
theorem real_of (x : EReal) (h : FloatOps.absf (F := Ideal) (φ := .f32) x < ⊤) : ∃ r : ℝ, x = r := by
  induction x with
  | bot => exfalso; revert h; simp [FloatOps.absf]
  | top => exfalso; revert h; simp [FloatOps.absf]
  | coe r => exact ⟨r, rfl⟩

variable [Cert.Pre_finite.Facts]

theorem real_array {s : Shape} (x : FVec Ideal s .f32) (hb : S_.BroadcastsInDim s (![] : Fin 0 → Fin s.rank))
    (h : ∀ i, cmpf .olt (Host.absf x) (broadcastInDim s ![] hb (constant (F := Ideal) S_ .f32 0x7F800000#32)) i = 1#1) :
    ∃ r : s.Idx → ℝ, x = fun i => (r i : EReal) := by
  have key : ∀ i, ∃ r : ℝ, x i = (r : EReal) := fun i => by
    refine real_of _ ?_
    have := h i
    have e : cmpf .olt (Host.absf x) (broadcastInDim s ![] hb (constant (F := Ideal) S_ .f32 0x7F800000#32)) i
        = BitVec.ofBool (decide (FloatOps.absf (F := Ideal) (φ := .f32) (x i) < Ideal.ofBits FTy.f32 2139095040#32)) := rfl
    rw [e, posInf] at this
    by_contra hc
    rw [decide_eq_false hc] at this
    exact absurd this (by decide)
  exact ⟨fun i => (key i).choose, funext fun i => (key i).choose_spec⟩

theorem pre_real (q k : FVec Ideal S4x8192x4x2x64 .f32) (v : FVec Ideal S4x8192x4x128 .f32) (a b : FVec Ideal S64 .f32) (l : FVec Ideal S4x64 .f32) (w : FVec Ideal S128 .f32)
    (h : fn (F := Ideal) q k v a b l w = fun _ => 1#1) :
    (∃ r : S4x8192x4x2x64.Idx → ℝ, q = fun i => (r i : EReal)) ∧ (∃ r : S4x8192x4x2x64.Idx → ℝ, k = fun i => (r i : EReal))
      ∧ (∃ r : S4x8192x4x128.Idx → ℝ, v = fun i => (r i : EReal)) ∧ ∃ r : S4x64.Idx → ℝ, l = fun i => (r i : EReal) := by
  have e := congrFun h (fun a : Fin 0 => a.elim0)
  haveI : Subsingleton S_.Idx := ⟨fun a b => funext fun x => x.elim0⟩
  obtain ⟨e123, e4⟩ := both _ _ e
  obtain ⟨e12, e3⟩ := both _ _ e123
  obtain ⟨e1, e2⟩ := both _ _ e12
  exact ⟨real_array q bcast_S_S4x8192x4x2x64 fun i => Host.reduce_andi_all _ _ _ _ _ e1 i,
    real_array k bcast_S_S4x8192x4x2x64 fun i => Host.reduce_andi_all _ _ _ _ _ e2 i,
    real_array v bcast_S_S4x8192x4x128 fun i => Host.reduce_andi_all _ _ _ _ _ e3 i,
    real_array l bcast_S_S4x64 fun i => Host.reduce_andi_all _ _ _ _ _ e4 i⟩

end Cert.Hand
-- ==== Proof.VHost.lean ====
/- The arrays that the grid reads, element by element, from the arguments. -/
module

public import proofs.«01_k».proof.Proof.VMath
public import proofs.«01_k».proof.Proof.KIRun

@[expose] public section

set_option maxRecDepth 16384
set_option maxHeartbeats 4000000

noncomputable section

namespace Cert.KernelIdeal.Hand

open Cert.Hand Cert.KernelIdeal Cert.KernelIdeal.Gen
open Idealize.ShloMosaic Idealize.ShloMosaic.TcCoe Idealize.SL.Sem

section Arrays

variable {F : FTy → Type} [FloatOps F]

/-- The scaled queries. -/
def hostQ (q : FVec F S4x8192x4x2x64 .f32) : FVec F S4x8192x4x2x64 .f32 :=
  (mulf q (broadcastInDim S4x8192x4x2x64 ![] bcast_S_S4x8192x4x2x64 (Host.divf (constant S_ .f32 0x3E000000#32) (Host.log (constant S_ .f32 0x40000000#32)))))

/-- The queries with the second map's lanes zero. -/
def hostQ0 (q : FVec F S4x8192x4x2x64 .f32) : FVec F S4x8192x4x2x64 .f32 :=
  (select (cmpi .eq (iotaInDim S4x8192x4x2x64 32 3) (broadcastInDim S4x8192x4x2x64 ![] bcast_S_S4x8192x4x2x64 (constantI S_ 32 0#32))) q (broadcastInDim S4x8192x4x2x64 ![] bcast_S_S4x8192x4x2x64 (constant S_ .f32 0x00000000#32)))

/-- The queries with the first map's lanes zero. -/
def hostQ1 (q : FVec F S4x8192x4x2x64 .f32) : FVec F S4x8192x4x2x64 .f32 :=
  (select (cmpi .eq (iotaInDim S4x8192x4x2x64 32 3) (broadcastInDim S4x8192x4x2x64 ![] bcast_S_S4x8192x4x2x64 (constantI S_ 32 0#32))) (broadcastInDim S4x8192x4x2x64 ![] bcast_S_S4x8192x4x2x64 (constant S_ .f32 0x00000000#32)) q)

/-- The two maps' queries. -/
def hostQs (a b : FVec F S4x8192x4x2x64 .f32) : FVec F S2x4x8192x4x2x64 .bf16 :=
  (truncf .bf16 (concatenate S2x4x8192x4x2x64 0 [⟨S1x4x8192x4x2x64, (broadcastInDim S1x4x8192x4x2x64 ![1, 2, 3, 4, 5] bcast_S4x8192x4x2x64_S1x4x8192x4x2x64_1_2_3_4_5 a)⟩, ⟨S1x4x8192x4x2x64, (broadcastInDim S1x4x8192x4x2x64 ![1, 2, 3, 4, 5] bcast_S4x8192x4x2x64_S1x4x8192x4x2x64_1_2_3_4_5 b)⟩] concatenates_S1x4x8192x4x2x64_S1x4x8192x4x2x64_S2x4x8192x4x2x64_d0) bitsLt_bf16_f32)

def hostQf (a : FVec F S2x4x8192x4x2x64 .bf16) : FVec F S2x32768x512 .bf16 :=
  (shapeCast S2x32768x512 a shapeCasts_S2x4x8192x4x2x64_S2x32768x512)

/-- The keys. -/
def hostK (k : FVec F S4x8192x4x2x64 .f32) : FVec F S32768x512 .bf16 :=
  (shapeCast S32768x512 (truncf .bf16 k bitsLt_bf16_f32) shapeCasts_S4x8192x4x2x64_S32768x512)

/-- The values with ones beside them. -/
def hostV (v : FVec F S4x8192x4x128 .f32) : FVec F S4x8192x4x256 .bf16 :=
  (concatenate S4x8192x4x256 3 [⟨S4x8192x4x128, (truncf .bf16 v bitsLt_bf16_f32)⟩, ⟨S4x8192x4x128, (broadcastInDim S4x8192x4x128 ![] bcast_S_S4x8192x4x128 (constant S_ .bf16 0x3F80#16))⟩] concatenates_S4x8192x4x128_S4x8192x4x128_S4x8192x4x256_d3)

def hostVf (v : FVec F S4x8192x4x256 .bf16) : FVec F S32768x1024 .bf16 :=
  (shapeCast S32768x1024 v shapeCasts_S4x8192x4x256_S32768x1024)

/-- A largest absolute value. -/
def hostMax (w : FVec F S64 .f32) : FVec F S_ .f32 :=
  (Host.reduce FloatOps.maximumf (Host.absf w) (constant S_ .f32 0xFF800000#32) reducesTo_S64_S_d0 h_S_)

/-- The bound. -/
def hostB (a b : FVec F S_ .f32) : FVec F S_ .f32 :=
  (mulf (mulf (mulf (constant S_ .f32 0x41000000#32) a) b) (constant S_ .f32 0x3FBA82F9#32))

def hostBf (a : FVec F S_ .f32) : FVec F S1 .f32 :=
  (shapeCast S1 a shapeCasts_S_S1)

/-- The flag. -/
def hostFl (a : FVec F S_ .f32) : Vec F S1 .i32 :=
  (shapeCast S1 (extui 32 (cmpf .ole a (constant S_ .f32 0x42600000#32)) natLt_1_32) shapeCasts_S_S1)

/-- The normalisation's weights. -/
def hostW (w : FVec F S128 .f32) : FVec F S1x128 .f32 :=
  (shapeCast S1x128 w shapeCasts_S128_S1x128)

variable (m : (ℓ : Loc nD τ sig) → Buf (Elt F) ℓ) (c : Dev nD)

theorem V_q : V m c main_v14 = hostQf (hostQs (hostQ0 (hostQ (m ((c.tc : Thread nD τ).loc main_arg0)))) (hostQ1 (hostQ (m ((c.tc : Thread nD τ).loc main_arg0))))) := by
  unfold V hostOps0
  generalize hg : (fun (a b : (⟨S1x4x8192x4x2x64, .f32⟩ : BufTy).Contents (Elt F)) => concatenate S2x4x8192x4x2x64 0 [⟨S1x4x8192x4x2x64, a⟩, ⟨S1x4x8192x4x2x64, b⟩] concatenates_S1x4x8192x4x2x64_S1x4x8192x4x2x64_S2x4x8192x4x2x64_d0) = g
  after_results_simp
  subst hg
  rfl
theorem V_k : V m c main_v16 = hostK (m ((c.tc : Thread nD τ).loc main_arg1)) := by
  unfold V; after_results_simp; rfl
theorem V_v : V m c main_v20 = hostVf (hostV (m ((c.tc : Thread nD τ).loc main_arg2))) := by
  unfold V hostOps0
  generalize hg : (fun (a b : (⟨S4x8192x4x128, .bf16⟩ : BufTy).Contents (Elt F)) => concatenate S4x8192x4x256 3 [⟨S4x8192x4x128, a⟩, ⟨S4x8192x4x128, b⟩] concatenates_S4x8192x4x128_S4x8192x4x128_S4x8192x4x256_d3) = g
  after_results_simp
  subst hg
  rfl
theorem V_b : V m c main_v31 = hostBf (hostB (hostMax (m ((c.tc : Thread nD τ).loc main_arg3))) (hostMax (m ((c.tc : Thread nD τ).loc main_arg4)))) := by
  unfold V; after_results_simp; rfl
theorem V_f : V m c main_v30 = hostFl (hostB (hostMax (m ((c.tc : Thread nD τ).loc main_arg3))) (hostMax (m ((c.tc : Thread nD τ).loc main_arg4)))) := by
  unfold V; after_results_simp; rfl
theorem V_w : V m c main_v32 = hostW (m ((c.tc : Thread nD τ).loc main_arg6)) := by
  unfold V; after_results_simp; rfl

end Arrays

theorem hostQ_at (q : FVec Ideal S4x8192x4x2x64 .f32) (b : Fin 4) (t : Fin 8192) (h : Fin 4) (μ : Fin 2) (d : Fin 64) :
    hostQ (F := Ideal) q (ix5 b t h μ d) = q (ix5 b t h μ d) * Ideal.div (Ideal.ofBits FTy.f32 1040187392#32) (Ideal.log (Ideal.ofBits FTy.f32 1073741824#32)) := by
  pointwise [hostQ]

theorem word_zero : ∀ μ : Fin 2, IntOp.cmpi CmpIPredicate.eq (BitVec.ofNat 32 μ.val) 0#32 = 1#1 ↔ μ.val = 0 := by decide

theorem hostQ0_at (q : FVec Ideal S4x8192x4x2x64 .f32) (b : Fin 4) (t : Fin 8192) (h : Fin 4) (μ : Fin 2) (d : Fin 64) :
    hostQ0 (F := Ideal) q (ix5 b t h μ d) = if μ.val = 0 then q (ix5 b t h μ d) else (0 : EReal) := by
  rw [← select_of _ _ (word_zero μ)]
  pointwise [hostQ0]

theorem hostQ1_at (q : FVec Ideal S4x8192x4x2x64 .f32) (b : Fin 4) (t : Fin 8192) (h : Fin 4) (μ : Fin 2) (d : Fin 64) :
    hostQ1 (F := Ideal) q (ix5 b t h μ d) = if μ.val = 0 then (0 : EReal) else q (ix5 b t h μ d) := by
  rw [← select_of _ _ (word_zero μ)]
  pointwise [hostQ1]

theorem hostQs_at (q q' : FVec Ideal S4x8192x4x2x64 .f32) (ν : Fin 2) (b : Fin 4) (t : Fin 8192) (h : Fin 4) (μ : Fin 2) (d : Fin 64) :
    hostQs (F := Ideal) q q' (ix6 ν b t h μ d) = if _ : ν.val < 1 then (show EReal from q (ix5 b t h μ d)) else q' (ix5 b t h μ d) := by
  pointwise [hostQs]

theorem hostQf_at (q : FVec Ideal S2x4x8192x4x2x64 .bf16) (ν : Fin 2) (T : Fin 32768) (c : Fin 512) :
    hostQf (F := Ideal) q (ix3 ν T c) = q (ix6 ν ⟨T.val / 8192, by omega⟩ ⟨T.val % 8192, by omega⟩ ⟨c.val / 128, by omega⟩ ⟨c.val / 64 % 2, by omega⟩ ⟨c.val % 64, by omega⟩) := by
  pointwise [hostQf]

theorem hostK_at (k : FVec Ideal S4x8192x4x2x64 .f32) (T : Fin 32768) (c : Fin 512) :
    hostK (F := Ideal) k (ix2 T c) = k (ix5 ⟨T.val / 8192, by omega⟩ ⟨T.val % 8192, by omega⟩ ⟨c.val / 128, by omega⟩ ⟨c.val / 64 % 2, by omega⟩ ⟨c.val % 64, by omega⟩) := by
  pointwise [hostK]

theorem hostV_at (v : FVec Ideal S4x8192x4x128 .f32) (b : Fin 4) (t : Fin 8192) (h : Fin 4) (l : Fin 256) :
    hostV (F := Ideal) v (ix4 b t h l) = if hl : l.val < 128 then (show EReal from v (ix4 b t h ⟨l.val, hl⟩)) else 1 := by
  pointwise [hostV]

theorem hostVf_at (v : FVec Ideal S4x8192x4x256 .bf16) (T : Fin 32768) (c : Fin 1024) :
    hostVf (F := Ideal) v (ix2 T c) = v (ix4 ⟨T.val / 8192, by omega⟩ ⟨T.val % 8192, by omega⟩ ⟨c.val / 256, by omega⟩ ⟨c.val % 256, by omega⟩) := by
  pointwise [hostVf]

theorem hostMax_at (w : FVec Ideal S64 .f32) : hostMax (F := Ideal) w Idealize.ShloMosaic.ix0 = Finset.fold max (Ideal.ofBits FTy.f32 4286578688#32) (fun k : Fin 64 => FloatOps.absf (F := Ideal) (φ := .f32) (w (ix1 k))) Finset.univ := by
  pointwise [hostMax]

theorem hostB_at (a b : FVec Ideal S_ .f32) : hostB (F := Ideal) a b Idealize.ShloMosaic.ix0
    = Ideal.ofBits FTy.f32 1090519040#32 * a Idealize.ShloMosaic.ix0 * b Idealize.ShloMosaic.ix0 * Ideal.ofBits FTy.f32 1069187833#32 := by
  pointwise [hostB]

theorem hostBf_at (a : FVec Ideal S_ .f32) : hostBf (F := Ideal) a (ix1 0) = a Idealize.ShloMosaic.ix0 := by
  pointwise [hostBf]

theorem hostFl_at (a : FVec Ideal S_ .f32) : hostFl (F := Ideal) a (ix1 0) = BitVec.setWidth 32 (BitVec.ofBool (decide ((show EReal from a Idealize.ShloMosaic.ix0) ≤ Ideal.ofBits FTy.f32 1113587712#32))) := by
  pointwise [hostFl]

theorem hostW_at (w : FVec Ideal S128 .f32) (e : Fin 128) : hostW (F := Ideal) w (ix2 0 e) = w (ix1 e) := by
  pointwise [hostW]

/-! ## Constants -/

theorem word_real (w : BitVec 32) (h : Ideal.ofBits FTy.f32 w ≠ ⊤) (h' : Ideal.ofBits FTy.f32 w ≠ ⊥) : Ideal.ofBits FTy.f32 w = ((Ideal.ofBits FTy.f32 w).toReal : EReal) :=
  (EReal.coe_toReal h h').symm

theorem word2 : Ideal.ofBits FTy.f32 1073741824#32 = ((2 : ℝ) : EReal) := by
  simp [Ideal.ofBits, Ideal.ieee]
  rw [← EReal.coe_mul]; norm_num
theorem word_eighth : Ideal.ofBits FTy.f32 1040187392#32 = ((1 / 8 : ℝ) : EReal) := by
  simp [Ideal.ofBits, Ideal.ieee]
  rw [← EReal.coe_mul]; norm_num
theorem word8 : Ideal.ofBits FTy.f32 1090519040#32 = ((8 : ℝ) : EReal) := by
  simp [Ideal.ofBits, Ideal.ieee]
  rw [← EReal.coe_mul]; norm_num
theorem word56 : Ideal.ofBits FTy.f32 1113587712#32 = ((56 : ℝ) : EReal) := by
  simp [Ideal.ofBits, Ideal.ieee]
  rw [← EReal.coe_mul]; norm_num
theorem word_log2e : ∃ r : ℝ, 0 < r ∧ Ideal.ofBits FTy.f32 1069187833#32 = (r : EReal) := by
  refine ⟨_, ?_, by simp [Ideal.ofBits, Ideal.ieee]; rfl⟩
  positivity
theorem word_fifth : ∃ r : ℝ, Ideal.ofBits FTy.f32 1045220557#32 = (r : EReal) := by
  refine ⟨_, by simp [Ideal.ofBits, Ideal.ieee]; rfl⟩

/-- The scale of the queries. -/
theorem qscale : Ideal.div (Ideal.ofBits FTy.f32 1040187392#32) (Ideal.log (Ideal.ofBits FTy.f32 1073741824#32)) = ((1 / 8 / Real.log 2 : ℝ) : EReal) := by
  have h : Ideal.log ((2 : ℝ) : EReal) = (Real.log 2 : EReal) := by rw [Ideal.log_coe, if_neg (by norm_num)]
  rw [word_eighth, word2, h, Ideal.div_coe (Real.log_pos one_lt_two).ne', ← EReal.coe_mul]
  congr 1
  ring

end Cert.KernelIdeal.Hand
-- ==== Proof.VPay.lean ====
/- What the kernel's vector expressions are at one entry, over the extended reals. -/
module

public import proofs.«01_k».proof.Proof.Gen.KernelIdeal.Skeleton
public import proofs.«01_k».proof.Proof.VMath

@[expose] public section

set_option maxRecDepth 16384
set_option maxHeartbeats 4000000

noncomputable section

namespace Cert.KernelIdeal.Hand

open Cert.Hand Cert.KernelIdeal Cert.KernelIdeal.Gen
open Idealize.ShloMosaic Idealize.ShloMosaic.TcCoe Idealize.SL.Sem

variable (q : FVec Ideal S2x1024x128 .bf16) (b : Ideal .f32) (k : FVec Ideal S256x128 .bf16) (v : FVec Ideal S256x256 .bf16)

theorem pay11_at (a : FVec Ideal S1x2048x256 .f32) (r : Fin 2048) (l : Fin 256) :
    k0_pay11 (F := Ideal) q b k v a (ix3 0 r l) = a (ix3 0 r l) + ∑ c : Fin 256, FloatOps.exp2 (F := Ideal) (φ := .f32) ((∑ d : Fin 128, q (ix3 ⟨r.val / 1024, by omega⟩ ⟨r.val % 1024, by omega⟩ d) * k (ix2 c d)) - b) * v (ix2 c l) := by
  pointwise [k0_pay11, k0_pay10]

theorem pay14_at (a : FVec Ideal S1x2048x256 .f32) (r : Fin 2048) (l : Fin 256) :
    k0_pay14 (F := Ideal) b (k0_pay12 v) (k0_pay13 q k) a (ix3 0 r l) = a (ix3 0 r l) + ∑ c : Fin 256, FloatOps.exp2 (F := Ideal) (φ := .f32) ((∑ d : Fin 128, q (ix3 ⟨r.val / 1024, by omega⟩ ⟨r.val % 1024, by omega⟩ d) * k (ix2 c d)) - b) * v (ix2 c l) := by
  pointwise [k0_pay14, k0_pay12, k0_pay13, k0_pay10]

theorem pay15_at (a : FVec Ideal S1x2048x256 .f32) (r : Fin 2048) (l : Fin 256) :
    k0_pay15 (F := Ideal) (k0_pay10 q) b k v a (ix3 0 r l) = a (ix3 0 r l) + ∑ c : Fin 256, FloatOps.exp2 (F := Ideal) (φ := .f32) ((∑ d : Fin 128, q (ix3 ⟨r.val / 1024, by omega⟩ ⟨r.val % 1024, by omega⟩ d) * k (ix2 c d)) - b) * v (ix2 c l) := by
  pointwise [k0_pay15, k0_pay10]

theorem pay3_at (a : FVec Ideal S1x2048x256 .f32) (r : Fin 2048) (l : Fin 256) :
    k0_pay3 (F := Ideal) (k0_pay16 v) (k0_pay17 (k0_pay10 q) k) (k0_pay18 a) (k0_pay19 b) (ix3 0 r l) = a (ix3 0 r l) + ∑ c : Fin 256, FloatOps.exp2 (F := Ideal) (φ := .f32) ((∑ d : Fin 128, q (ix3 ⟨r.val / 1024, by omega⟩ ⟨r.val % 1024, by omega⟩ d) * k (ix2 c d)) - b) * v (ix2 c l) := by
  pointwise [k0_pay3, k0_pay16, k0_pay17, k0_pay10, k0_pay18, k0_pay19]

theorem pay20_at (r : Fin 2048) (l : Fin 256) :
    k0_pay20 (F := Ideal) b k v q (ix2 r l) = ∑ c : Fin 256, if c.val ≤ r.val % 1024 then FloatOps.exp2 (F := Ideal) (φ := .f32) ((∑ d : Fin 128, q (ix3 ⟨r.val / 1024, by omega⟩ ⟨r.val % 1024, by omega⟩ d) * k (ix2 c d)) - b) * v (ix2 c l) else 0 := by
  pointwise [k0_pay20]
  exact Finset.sum_congr rfl fun c _ => mask_at 1024 (by omega) r.val c.val r.isLt (by omega) _ _

theorem pay23_at (q : FVec Ideal S2x768x128 .bf16) (r : Fin 1536) (l : Fin 256) :
    k0_pay23 (F := Ideal) b k v q (ix2 r l) = ∑ c : Fin 256, if c.val ≤ r.val % 768 then FloatOps.exp2 (F := Ideal) (φ := .f32) ((∑ d : Fin 128, q (ix3 ⟨r.val / 768, by omega⟩ ⟨r.val % 768, by omega⟩ d) * k (ix2 c d)) - b) * v (ix2 c l) else 0 := by
  pointwise [k0_pay23]
  exact Finset.sum_congr rfl fun c _ => mask_at 768 (by omega) r.val c.val r.isLt (by omega) _ _

theorem pay27_at (q : FVec Ideal S2x512x128 .bf16) (r : Fin 1024) (l : Fin 256) :
    k0_pay27 (F := Ideal) b k v q (ix2 r l) = ∑ c : Fin 256, if c.val ≤ r.val % 512 then FloatOps.exp2 (F := Ideal) (φ := .f32) ((∑ d : Fin 128, q (ix3 ⟨r.val / 512, by omega⟩ ⟨r.val % 512, by omega⟩ d) * k (ix2 c d)) - b) * v (ix2 c l) else 0 := by
  pointwise [k0_pay27]
  exact Finset.sum_congr rfl fun c _ => mask_at 512 (by omega) r.val c.val r.isLt (by omega) _ _

theorem pay31_at (q : FVec Ideal S2x256x128 .bf16) (r : Fin 512) (l : Fin 256) :
    k0_pay31 (F := Ideal) b k v q (ix2 r l) = ∑ c : Fin 256, if c.val ≤ r.val % 256 then FloatOps.exp2 (F := Ideal) (φ := .f32) ((∑ d : Fin 128, q (ix3 ⟨r.val / 256, by omega⟩ ⟨r.val % 256, by omega⟩ d) * k (ix2 c d)) - b) * v (ix2 c l) else 0 := by
  pointwise [k0_pay31]
  exact Finset.sum_congr rfl fun c _ => mask_at 256 (by omega) r.val c.val r.isLt (by omega) _ _

theorem pay21_at (a : FVec Ideal S1x1024x256 .f32) (r : Fin 1024) (l : Fin 256) :
    k0_pay21 (F := Ideal) b k v q a (ix3 0 r l) = a (ix3 0 r l) + k0_pay20 (F := Ideal) b k v q (ix2 ⟨r.val, by omega⟩ l) := by
  pointwise [k0_pay21]

theorem pay22_at (p : FVec Ideal S2048x256 .f32) (a : FVec Ideal S1x1024x256 .f32) (r : Fin 1024) (l : Fin 256) :
    k0_pay22 (F := Ideal) p a (ix3 0 r l) = a (ix3 0 r l) + p (ix2 ⟨1024 + r.val, by omega⟩ l) := by
  pointwise [k0_pay22]

theorem pay25_at (q : FVec Ideal S2x768x128 .bf16) (a : FVec Ideal S1x768x256 .f32) (r : Fin 768) (l : Fin 256) :
    k0_pay25 (F := Ideal) (k0_pay24 b k v q a) (ix3 0 r l) = a (ix3 0 r l) + k0_pay23 (F := Ideal) b k v q (ix2 ⟨r.val, by omega⟩ l) := by
  pointwise [k0_pay25, k0_pay24]

theorem pay26_at (p : FVec Ideal S1536x256 .f32) (a : FVec Ideal S1x768x256 .f32) (r : Fin 768) (l : Fin 256) :
    k0_pay26 (F := Ideal) p a (ix3 0 r l) = a (ix3 0 r l) + p (ix2 ⟨768 + r.val, by omega⟩ l) := by
  pointwise [k0_pay26]

theorem pay29_at (q : FVec Ideal S2x512x128 .bf16) (a : FVec Ideal S1x512x256 .f32) (r : Fin 512) (l : Fin 256) :
    k0_pay29 (F := Ideal) (k0_pay28 b k v q a) (ix3 0 r l) = a (ix3 0 r l) + k0_pay27 (F := Ideal) b k v q (ix2 ⟨r.val, by omega⟩ l) := by
  pointwise [k0_pay29, k0_pay28]

theorem pay30_at (p : FVec Ideal S1024x256 .f32) (a : FVec Ideal S1x512x256 .f32) (r : Fin 512) (l : Fin 256) :
    k0_pay30 (F := Ideal) p a (ix3 0 r l) = a (ix3 0 r l) + p (ix2 ⟨512 + r.val, by omega⟩ l) := by
  pointwise [k0_pay30]

theorem pay4_at (p : FVec Ideal S512x256 .f32) (a : FVec Ideal S1x256x256 .f32) (r : Fin 256) (l : Fin 256) :
    k0_pay4 (F := Ideal) p (k0_pay32 a) (ix3 0 r l) = a (ix3 0 r l) + p (ix2 ⟨r.val, by omega⟩ l) := by
  pointwise [k0_pay4, k0_pay32]

theorem pay5_at (p : FVec Ideal S512x256 .f32) (a : FVec Ideal S1x256x256 .f32) (r : Fin 256) (l : Fin 256) :
    k0_pay5 (F := Ideal) p a (ix3 0 r l) = a (ix3 0 r l) + p (ix2 ⟨256 + r.val, by omega⟩ l) := by
  pointwise [k0_pay5]

section Slow

variable (k : FVec Ideal S1024x128 .bf16) (v : FVec Ideal S1024x256 .bf16) (m : FVec Ideal S1x2048x1 .f32) (a : FVec Ideal S1x2048x256 .f32) (r : Fin 2048) (l : Fin 256)

theorem pay35_at :
    k0_pay35 (F := Ideal) q k m (ix2 r 0) = max (m (ix3 0 r 0)) (Finset.fold max (⊥ : EReal) (fun c : Fin 1024 => ∑ d : Fin 128, q (ix3 ⟨r.val / 1024, by omega⟩ ⟨r.val % 1024, by omega⟩ d) * k (ix2 c d)) Finset.univ) := by
  pointwise [k0_pay35, k0_pay33, k0_pay34]
  rw [negInf]

theorem pay6_at : k0_pay6 (F := Ideal) (k0_pay35 q k m) (ix3 0 r 0) = k0_pay35 (F := Ideal) q k m (ix2 r 0) := by
  pointwise [k0_pay6]

theorem pay36_at :
    k0_pay36 (F := Ideal) q k m a v (ix3 0 r l) = FloatOps.exp2 (F := Ideal) (φ := .f32) (m (ix3 0 r 0) - k0_pay35 (F := Ideal) q k m (ix2 r 0)) * a (ix3 0 r l)
      + ∑ c : Fin 1024, FloatOps.exp2 (F := Ideal) (φ := .f32) ((∑ d : Fin 128, q (ix3 ⟨r.val / 1024, by omega⟩ ⟨r.val % 1024, by omega⟩ d) * k (ix2 c d)) - k0_pay35 (F := Ideal) q k m (ix2 r 0)) * v (ix2 c l) := by
  pointwise [k0_pay36, k0_pay33, k0_pay34]

theorem pay37_at (c : Fin 1024) :
    k0_pay37 (F := Ideal) q k (ix2 r c) = if c.val ≤ r.val % 1024 then ∑ d : Fin 128, q (ix3 ⟨r.val / 1024, by omega⟩ ⟨r.val % 1024, by omega⟩ d) * k (ix2 c d) else (⊥ : EReal) := by
  pointwise [k0_pay37]
  rw [show IntOp.addi (BitVec.ofNat 32 c.val) 0#32 = BitVec.ofNat 32 c.val from BitVec.add_zero _, negInf]
  exact mask_at 1024 (by omega) r.val c.val r.isLt c.isLt _ _

theorem pay39_at :
    k0_pay39 (F := Ideal) q k m (ix2 r 0) = max (m (ix3 0 r 0)) (Finset.fold max (⊥ : EReal) (fun c : Fin 1024 => k0_pay37 (F := Ideal) q k (ix2 r c)) Finset.univ) := by
  pointwise [k0_pay39, k0_pay38]
  rw [negInf]

theorem pay8_at : k0_pay8 (F := Ideal) (k0_pay39 q k m) (ix3 0 r 0) = k0_pay39 (F := Ideal) q k m (ix2 r 0) := by
  pointwise [k0_pay8]

theorem pay7_at :
    k0_pay7 (F := Ideal) (k0_pay40 q k m a) (k0_pay41 q k m) v (ix3 0 r l) = FloatOps.exp2 (F := Ideal) (φ := .f32) (m (ix3 0 r 0) - k0_pay39 (F := Ideal) q k m (ix2 r 0)) * a (ix3 0 r l)
      + ∑ c : Fin 1024, FloatOps.exp2 (F := Ideal) (φ := .f32) (k0_pay37 (F := Ideal) q k (ix2 r c) - k0_pay39 (F := Ideal) q k m (ix2 r 0)) * v (ix2 c l) := by
  pointwise [k0_pay7, k0_pay40, k0_pay41, k0_pay38]

end Slow

end Cert.KernelIdeal.Hand
-- ==== Proof.VStep.lean ====
/- One run of the body, row by row: what a head's update makes of a row's accumulator and running maximum. -/
module

public import proofs.«01_k».proof.Proof.VPay
public import proofs.«01_k».proof.Proof.KIBody

@[expose] public section

set_option maxRecDepth 16384
set_option maxHeartbeats 4000000

noncomputable section

namespace Cert.KernelIdeal.Hand

open Cert.Hand Cert.KernelIdeal Cert.KernelIdeal.Gen
open Idealize.ShloMosaic Idealize.ShloMosaic.TcCoe Idealize.SL.Sem
open VecWindow

section Windows

variable {α : Type}

theorem win2 {n0 n1 A B o0 o1 : ℕ} (x : (⟨2, ![n0, n1]⟩ : Shape).Idx → α) {off : Fin 2 → ℕ} (inb : ∀ a, off a + (![A, B] : Fin 2 → ℕ) a ≤ (![n0, n1] : Fin 2 → ℕ) a)
    (h : off = ![o0, o1]) (i : Fin A) (j : Fin B) (a : Fin n0) (b : Fin n1) (ha : a.val = o0 + i.val) (hb : b.val = o1 + j.val) :
    window (s := ⟨2, ![n0, n1]⟩) x off ![A, B] inb (ix2 i j) = x (ix2 a b) := by
  subst h
  refine congrArg x (funext fun t => Fin.ext ?_)
  match t with
  | 0 => show o0 + 1 * i.val = a.val; omega
  | 1 => show o1 + 1 * j.val = b.val; omega

theorem win3 {n0 n1 n2 A B C o0 o1 o2 : ℕ} (x : (⟨3, ![n0, n1, n2]⟩ : Shape).Idx → α) {off : Fin 3 → ℕ} (inb : ∀ a, off a + (![A, B, C] : Fin 3 → ℕ) a ≤ (![n0, n1, n2] : Fin 3 → ℕ) a)
    (h : off = ![o0, o1, o2]) (i : Fin A) (j : Fin B) (k : Fin C) (a : Fin n0) (b : Fin n1) (c : Fin n2) (ha : a.val = o0 + i.val) (hb : b.val = o1 + j.val) (hc : c.val = o2 + k.val) :
    window (s := ⟨3, ![n0, n1, n2]⟩) x off ![A, B, C] inb (ix3 i j k) = x (ix3 a b c) := by
  subst h
  refine congrArg x (funext fun t => Fin.ext ?_)
  match t with
  | 0 => show o0 + 1 * i.val = a.val; omega
  | 1 => show o1 + 1 * j.val = b.val; omega
  | 2 => show o2 + 1 * k.val = c.val; omega

theorem put3_in {n0 n1 n2 R o0 o1 : ℕ} (x : (⟨3, ![n0, n1, n2]⟩ : Shape).Idx → α) {off : Fin 3 → ℕ} (w : ((a : Fin 3) → Fin ((![1, R, n2] : Fin 3 → ℕ) a)) → α)
    (h : off = ![o0, o1, 0]) (a : Fin n0) (b : Fin n1) (c : Fin n2) (j : Fin R) (ha : a.val = o0) (hb : b.val = o1 + j.val) :
    put (s := ⟨3, ![n0, n1, n2]⟩) x off ![1, R, n2] w (ix3 a b c) = w (ix3 0 j c) := by
  subst h
  have hh : ∀ t : Fin 3, (![o0, o1, 0] : Fin 3 → ℕ) t ≤ ((ix3 a b c : (⟨3, ![n0, n1, n2]⟩ : Shape).Idx) t).val
      ∧ ((ix3 a b c : (⟨3, ![n0, n1, n2]⟩ : Shape).Idx) t).val < (![o0, o1, 0] : Fin 3 → ℕ) t + (![1, R, n2] : Fin 3 → ℕ) t := by
    intro t
    match t with
    | 0 => show o0 ≤ a.val ∧ a.val < o0 + 1; omega
    | 1 => show o1 ≤ b.val ∧ b.val < o1 + R; omega
    | 2 => show 0 ≤ c.val ∧ c.val < 0 + n2; omega
  refine (dif_pos hh).trans (congrArg w (funext fun t => Fin.ext ?_))
  match t with
  | 0 => show a.val - o0 = 0; omega
  | 1 => show b.val - o1 = j.val; omega
  | 2 => show c.val - 0 = c.val; omega

theorem put3_out {n0 n1 n2 R o0 o1 : ℕ} (x : (⟨3, ![n0, n1, n2]⟩ : Shape).Idx → α) {off : Fin 3 → ℕ} (w : ((a : Fin 3) → Fin ((![1, R, n2] : Fin 3 → ℕ) a)) → α)
    (h : off = ![o0, o1, 0]) (a : Fin n0) (b : Fin n1) (c : Fin n2) (hab : a.val ≠ o0 ∨ b.val < o1 ∨ o1 + R ≤ b.val) :
    put (s := ⟨3, ![n0, n1, n2]⟩) x off ![1, R, n2] w (ix3 a b c) = x (ix3 a b c) := by
  subst h
  refine dif_neg fun hh => ?_
  have h0 : o0 ≤ a.val ∧ a.val < o0 + 1 := hh 0
  have h1 : o1 ≤ b.val ∧ b.val < o1 + R := hh 1
  omega

end Windows

/-- The score of a row of the two stacked maps against a key of the block, in head `h`. -/
def sc (X : Ins Ideal) (h : Fin 4) (r : Fin 2048) (c : Fin 1024) : EReal :=
  ∑ d : Fin 128, (show EReal from X.q (ix3 ⟨r.val / 1024, by omega⟩ ⟨r.val % 1024, by omega⟩ ⟨128 * h.val + d.val, by omega⟩)) * (show EReal from X.k (ix2 c ⟨128 * h.val + d.val, by omega⟩))

/-- Lane `l` of a key's row of values with ones, in head `h`. -/
def vl (X : Ins Ideal) (h : Fin 4) (c : Fin 1024) (l : Fin 256) : EReal := X.v (ix2 c ⟨256 * h.val + l.val, by omega⟩)

section Blocks

variable (X : Ins Ideal) (h : Fin 4)

theorem sc_win {n K g g' : ℕ} {offq : Fin 3 → ℕ} (inbq : ∀ a, offq a + (![2, n, 128] : Fin 3 → ℕ) a ≤ S2x1024x512.size a) (eq : offq = ![0, g, 128 * h.val])
    {offk : Fin 2 → ℕ} (inbk : ∀ a, offk a + (![K, 128] : Fin 2 → ℕ) a ≤ S1024x512.size a) (ek : offk = ![g', 128 * h.val])
    (μ : Fin 2) (p : Fin n) (c : Fin K) (r : Fin 2048) (c' : Fin 1024) (hμ : r.val / 1024 = μ.val) (hp : r.val % 1024 = g + p.val) (hc : c'.val = g' + c.val) :
    (∑ d : Fin 128, (show EReal from window (s := S2x1024x512) X.q offq ![2, n, 128] inbq (ix3 μ p d)) * (show EReal from window (s := S1024x512) X.k offk ![K, 128] inbk (ix2 c d))) = sc X h r c' :=
  Finset.sum_congr rfl fun d _ => congrArg₂ (fun a b : EReal => a * b)
    (win3 X.q inbq eq _ _ _ _ _ _ (by simp [hμ]) hp rfl) (win2 X.k inbk ek _ _ _ _ hc rfl)

theorem vl_win {K g' : ℕ} {offv : Fin 2 → ℕ} (inbv : ∀ a, offv a + (![K, 256] : Fin 2 → ℕ) a ≤ S1024x1024.size a) (ev : offv = ![g', 256 * h.val])
    (c : Fin K) (l : Fin 256) (c' : Fin 1024) (hc : c'.val = g' + c.val) :
    window (s := S1024x1024) X.v offv ![K, 256] inbv (ix2 c l) = vl X h c' l :=
  win2 X.v inbv ev _ _ _ _ hc rfl

end Blocks

section Steps

variable (X : Ins Ideal) (S : St Ideal) (r : Fin 2048) (l : Fin 256)

theorem step1_other (h : Fin k0_t1_loop.trips) (h' : Fin 4) (hh : h'.val ≠ h.val) : (step1 X h S).a (ix3 h' r l) = S.a (ix3 h' r l) :=
  put3_out _ _ (k0_off5_eq h) _ _ _ (.inl hh)

theorem step2_other (h : Fin k0_t2_loop.trips) (h' : Fin 4) (hh : h'.val ≠ h.val) : (step2 X h S).a (ix3 h' r l) = S.a (ix3 h' r l) :=
  ((put3_out _ _ (k0_off31_eq h) _ _ _ (.inl hh)).trans <| (put3_out _ _ (k0_off30_eq h) _ _ _ (.inl hh)).trans <| (put3_out _ _ (k0_off26_eq h) _ _ _ (.inl hh)).trans <|
   (put3_out _ _ (k0_off25_eq h) _ _ _ (.inl hh)).trans <| (put3_out _ _ (k0_off21_eq h) _ _ _ (.inl hh)).trans <| (put3_out _ _ (k0_off20_eq h) _ _ _ (.inl hh)).trans <|
   (put3_out _ _ (k0_off16_eq h) _ _ _ (.inl hh)).trans <| (put3_out _ _ (k0_off15_eq h) _ _ _ (.inl hh)))

theorem step3_other (h : Fin k0_t3_loop.trips) (h' : Fin 4) (hh : h'.val ≠ h.val) : (step3 X h S).a (ix3 h' r l) = S.a (ix3 h' r l) :=
  put3_out _ _ (k0_off35_eq h) _ _ _ (.inl hh)

theorem step3_other_m (h : Fin k0_t3_loop.trips) (h' : Fin 4) (hh : h'.val ≠ h.val) : (step3 X h S).m (ix3 h' r 0) = S.m (ix3 h' r 0) :=
  put3_out _ _ (k0_off34_eq h) _ _ _ (.inl hh)

theorem step4_other (h : Fin k0_t4_loop.trips) (h' : Fin 4) (hh : h'.val ≠ h.val) : (step4 X h S).a (ix3 h' r l) = S.a (ix3 h' r l) :=
  put3_out _ _ (k0_off40_eq h) _ _ _ (.inl hh)

theorem step4_other_m (h : Fin k0_t4_loop.trips) (h' : Fin 4) (hh : h'.val ≠ h.val) : (step4 X h S).m (ix3 h' r 0) = S.m (ix3 h' r 0) :=
  put3_out _ _ (k0_off39_eq h) _ _ _ (.inl hh)

variable (h : Fin 4) (s : ℕ → ℝ) (x : Fin 256 → ℕ → ℝ) (o : ℕ)
  (hs : ∀ c, sc X h r c = (s (o + c) : EReal)) (hv : ∀ c l, vl X h c l = (x l (o + c) : EReal))

include hs hv

theorem step1_row (M : ℝ) (hb : X.bound = (M : EReal)) (ha : S.a (ix3 h r l) = (W s (x l) M o : EReal)) :
    (step1 X ⟨h.val, h.isLt⟩ S).a (ix3 h r l) = (W s (x l) M (o + 1024) : EReal) := by
  unfold step1
  refine (put3_in _ _ (k0_off5_eq _) _ _ _ r rfl (by simp)).trans ?_
  rw [pay3_at, pay15_at, pay14_at, pay11_at, hb]
  rw [win3 _ _ (k0_off5_eq _) _ _ _ h r l rfl (by simp) (by simp), ha]
  have key : ∀ (g : ℕ) (hg : g < 4) (E V : Fin 256 → EReal) (hE : ∀ c : Fin 256, E c = sc X h r ⟨256 * g + c.val, by omega⟩) (hV : ∀ c : Fin 256, V c = vl X h ⟨256 * g + c.val, by omega⟩ l),
      (W s (x l) M (o + 256 * g) : EReal) + ∑ c, FloatOps.exp2 (F := Ideal) (φ := .f32) (E c - (M : EReal)) * V c = (W s (x l) M (o + 256 * (g + 1)) : EReal) := fun g hg E V hE hV => by
    refine chunk_all s (x l) M (o + 256 * g) E V (fun c => ?_) (fun c => ?_)
    · rw [hE, hs]; congr 2; show o + (256 * g + c.val) = _; omega
    · rw [hV, hv]; congr 2; show o + (256 * g + c.val) = _; omega
  refine (congrArg₂ (fun a b : EReal => a + b) ((congrArg₂ (fun a b : EReal => a + b) ((congrArg₂ (fun a b : EReal => a + b) (key 0 (by omega) _ _ (fun c => ?_) (fun c => ?_)) rfl).trans
    (key 1 (by omega) _ _ (fun c => ?_) (fun c => ?_))) rfl).trans (key 2 (by omega) _ _ (fun c => ?_) (fun c => ?_))) rfl).trans (key 3 (by omega) _ _ (fun c => ?_) (fun c => ?_))
  · exact sc_win X h _ (k0_off2_eq _) _ (k0_off3_eq _) _ _ c r _ rfl (Nat.zero_add _).symm rfl
  · exact vl_win X h _ (k0_off4_eq _) c l _ rfl
  · exact sc_win X h _ (k0_off2_eq _) _ (k0_off6_eq _) _ _ c r _ rfl (Nat.zero_add _).symm rfl
  · exact vl_win X h _ (k0_off7_eq _) c l _ rfl
  · exact sc_win X h _ (k0_off2_eq _) _ (k0_off8_eq _) _ _ c r _ rfl (Nat.zero_add _).symm rfl
  · exact vl_win X h _ (k0_off9_eq _) c l _ rfl
  · exact sc_win X h _ (k0_off2_eq _) _ (k0_off10_eq _) _ _ c r _ rfl (Nat.zero_add _).symm rfl
  · exact vl_win X h _ (k0_off11_eq _) c l _ rfl

theorem step3_row (hr : ∀ l, Row s o (S.m (ix3 h r 0)) (S.a (ix3 h r l)) (x l)) :
    ∃ M' : ℝ, (step3 X ⟨h.val, h.isLt⟩ S).m (ix3 h r 0) = (M' : EReal) ∧ ∀ l, (step3 X ⟨h.val, h.isLt⟩ S).a (ix3 h r l) = (W s (x l) M' (o + 1024) : EReal) := by
  have hm : window S.m (k0_off34 ⟨h.val, h.isLt⟩) S1x2048x1.size (k0_off34_inb ⟨h.val, h.isLt⟩) (ix3 0 r 0) = S.m (ix3 h r 0) :=
    win3 _ _ (k0_off34_eq _) _ _ _ h r 0 rfl (by simp) (by simp)
  have hE : ∀ c : Fin 1024, (∑ d : Fin 128, (show EReal from window X.q (k0_off32 ⟨h.val, h.isLt⟩) S2x1024x128.size (k0_off32_inb ⟨h.val, h.isLt⟩) (ix3 ⟨r.val / 1024, by omega⟩ ⟨r.val % 1024, by omega⟩ d))
      * (show EReal from window X.k (k0_off33 ⟨h.val, h.isLt⟩) S1024x128.size (k0_off33_inb ⟨h.val, h.isLt⟩) (ix2 c d))) = if c.val < 1024 then (s (o + c) : EReal) else ⊥ := fun c => by
    rw [if_pos c.isLt, ← hs]
    exact sc_win X h _ (k0_off32_eq _) _ (k0_off33_eq _) _ _ c r c rfl (Nat.zero_add _).symm (by simp)
  have hV : ∀ (c : Fin 1024) l, window X.v (k0_off36 ⟨h.val, h.isLt⟩) S1024x256.size (k0_off36_inb ⟨h.val, h.isLt⟩) (ix2 c l) = (x l (o + c) : EReal) := fun c l =>
    (vl_win X h _ (k0_off36_eq _) c l c (by simp)).trans (hv c l)
  obtain ⟨M', hM⟩ := fold_real _ 1024 (by omega) (by omega) (fun c => s (o + c)) hE (S.m (ix3 h r 0)) (by
    rcases hr 0 with ⟨_, e, _⟩ | ⟨M, e, _⟩
    · exact .inl e
    · exact .inr ⟨M, e⟩)
  have hp : k0_pay35 (F := Ideal) (window X.q (k0_off32 ⟨h.val, h.isLt⟩) S2x1024x128.size (k0_off32_inb ⟨h.val, h.isLt⟩)) (window X.k (k0_off33 ⟨h.val, h.isLt⟩) S1024x128.size (k0_off33_inb ⟨h.val, h.isLt⟩))
      (window S.m (k0_off34 ⟨h.val, h.isLt⟩) S1x2048x1.size (k0_off34_inb ⟨h.val, h.isLt⟩)) (ix2 r 0) = (M' : EReal) := by
    rw [pay35_at, hm]; exact hM
  refine ⟨M', ?_, fun l => ?_⟩
  · unfold step3
    refine (put3_in _ _ (k0_off34_eq _) _ _ _ r rfl (by simp)).trans ?_
    rw [pay6_at, hp]
  · unfold step3
    refine (put3_in _ _ (k0_off35_eq _) _ _ _ r rfl (by simp)).trans ?_
    rw [pay36_at, hp, hm, win3 _ _ (k0_off35_eq _) _ _ _ h r l rfl (by simp) (by simp)]
    have := row_step s (x l) o 1024 _ _ (hr l) _ _ hE (fun c => hV c l) M'
    rw [min_self] at this
    exact this

theorem step4_row (hr : ∀ l, Row s o (S.m (ix3 h r 0)) (S.a (ix3 h r l)) (x l)) :
    ∃ M' : ℝ, (step4 X ⟨h.val, h.isLt⟩ S).m (ix3 h r 0) = (M' : EReal) ∧ ∀ l, (step4 X ⟨h.val, h.isLt⟩ S).a (ix3 h r l) = (W s (x l) M' (o + (r.val % 1024 + 1)) : EReal) := by
  have hm : window S.m (k0_off39 ⟨h.val, h.isLt⟩) S1x2048x1.size (k0_off39_inb ⟨h.val, h.isLt⟩) (ix3 0 r 0) = S.m (ix3 h r 0) :=
    win3 _ _ (k0_off39_eq _) _ _ _ h r 0 rfl (by simp) (by simp)
  have hE : ∀ c : Fin 1024, k0_pay37 (F := Ideal) (window X.q (k0_off37 ⟨h.val, h.isLt⟩) S2x1024x128.size (k0_off37_inb ⟨h.val, h.isLt⟩)) (window X.k (k0_off38 ⟨h.val, h.isLt⟩) S1024x128.size (k0_off38_inb ⟨h.val, h.isLt⟩)) (ix2 r c)
      = if c.val < r.val % 1024 + 1 then (s (o + c) : EReal) else ⊥ := fun c => by
    rw [pay37_at]
    by_cases hc : c.val ≤ r.val % 1024
    · rw [if_pos hc, if_pos (by omega), ← hs]
      exact sc_win X h _ (k0_off37_eq _) _ (k0_off38_eq _) _ _ c r c rfl (Nat.zero_add _).symm (by simp)
    · rw [if_neg hc, if_neg (by omega)]
  have hV : ∀ (c : Fin 1024) l, window X.v (k0_off41 ⟨h.val, h.isLt⟩) S1024x256.size (k0_off41_inb ⟨h.val, h.isLt⟩) (ix2 c l) = (x l (o + c) : EReal) := fun c l =>
    (vl_win X h _ (k0_off41_eq _) c l c (by simp)).trans (hv c l)
  obtain ⟨M', hM⟩ := fold_real _ (r.val % 1024 + 1) (by omega) (by omega) (fun c => s (o + c)) hE (S.m (ix3 h r 0)) (by
    rcases hr 0 with ⟨_, e, _⟩ | ⟨M, e, _⟩
    · exact .inl e
    · exact .inr ⟨M, e⟩)
  have hp : k0_pay39 (F := Ideal) (window X.q (k0_off37 ⟨h.val, h.isLt⟩) S2x1024x128.size (k0_off37_inb ⟨h.val, h.isLt⟩)) (window X.k (k0_off38 ⟨h.val, h.isLt⟩) S1024x128.size (k0_off38_inb ⟨h.val, h.isLt⟩))
      (window S.m (k0_off39 ⟨h.val, h.isLt⟩) S1x2048x1.size (k0_off39_inb ⟨h.val, h.isLt⟩)) (ix2 r 0) = (M' : EReal) := by
    rw [pay39_at, hm]; exact hM
  refine ⟨M', ?_, fun l => ?_⟩
  · unfold step4
    refine (put3_in _ _ (k0_off39_eq _) _ _ _ r rfl (by simp)).trans ?_
    rw [pay8_at, hp]
  · unfold step4
    refine (put3_in _ _ (k0_off40_eq _) _ _ _ r rfl (by simp)).trans ?_
    rw [pay7_at, hp, hm, win3 _ _ (k0_off40_eq _) _ _ _ h r l rfl (by simp) (by simp)]
    have := row_step s (x l) o (r.val % 1024 + 1) _ _ (hr l) _ _ hE (fun c => hV c l) M'
    rw [min_eq_right (by omega)] at this
    exact this

end Steps

section Diagonal

def stage0 (X : Ins Ideal) (h : Fin k0_t2_loop.trips) (A : S4x2048x256.Idx → EReal) : S4x2048x256.Idx → EReal :=
  let A1 := put A (k0_off15 h) S1x1024x256.size (k0_pay21 X.bound (window X.k (k0_off12 h) S256x128.size (k0_off12_inb h)) (window X.v (k0_off13 h) S256x256.size (k0_off13_inb h)) (window X.q (k0_off14 h) S2x1024x128.size (k0_off14_inb h)) (window A (k0_off15 h) S1x1024x256.size (k0_off15_inb h)))
  put A1 (k0_off16 h) S1x1024x256.size (k0_pay22 (k0_pay20 X.bound (window X.k (k0_off12 h) S256x128.size (k0_off12_inb h)) (window X.v (k0_off13 h) S256x256.size (k0_off13_inb h)) (window X.q (k0_off14 h) S2x1024x128.size (k0_off14_inb h))) (window A1 (k0_off16 h) S1x1024x256.size (k0_off16_inb h)))

def stage1 (X : Ins Ideal) (h : Fin k0_t2_loop.trips) (A : S4x2048x256.Idx → EReal) : S4x2048x256.Idx → EReal :=
  let A3 := put A (k0_off20 h) S1x768x256.size (k0_pay25 (k0_pay24 X.bound (window X.k (k0_off17 h) S256x128.size (k0_off17_inb h)) (window X.v (k0_off18 h) S256x256.size (k0_off18_inb h)) (window X.q (k0_off19 h) S2x768x128.size (k0_off19_inb h)) (window A (k0_off20 h) S1x768x256.size (k0_off20_inb h))))
  put A3 (k0_off21 h) S1x768x256.size (k0_pay26 (k0_pay23 X.bound (window X.k (k0_off17 h) S256x128.size (k0_off17_inb h)) (window X.v (k0_off18 h) S256x256.size (k0_off18_inb h)) (window X.q (k0_off19 h) S2x768x128.size (k0_off19_inb h))) (window A3 (k0_off21 h) S1x768x256.size (k0_off21_inb h)))

def stage2 (X : Ins Ideal) (h : Fin k0_t2_loop.trips) (A : S4x2048x256.Idx → EReal) : S4x2048x256.Idx → EReal :=
  let A5 := put A (k0_off25 h) S1x512x256.size (k0_pay29 (k0_pay28 X.bound (window X.k (k0_off22 h) S256x128.size (k0_off22_inb h)) (window X.v (k0_off23 h) S256x256.size (k0_off23_inb h)) (window X.q (k0_off24 h) S2x512x128.size (k0_off24_inb h)) (window A (k0_off25 h) S1x512x256.size (k0_off25_inb h))))
  put A5 (k0_off26 h) S1x512x256.size (k0_pay30 (k0_pay27 X.bound (window X.k (k0_off22 h) S256x128.size (k0_off22_inb h)) (window X.v (k0_off23 h) S256x256.size (k0_off23_inb h)) (window X.q (k0_off24 h) S2x512x128.size (k0_off24_inb h))) (window A5 (k0_off26 h) S1x512x256.size (k0_off26_inb h)))

def stage3 (X : Ins Ideal) (h : Fin k0_t2_loop.trips) (A : S4x2048x256.Idx → EReal) : S4x2048x256.Idx → EReal :=
  let A7 := put A (k0_off30 h) S1x256x256.size (k0_pay4 (k0_pay31 X.bound (window X.k (k0_off27 h) S256x128.size (k0_off27_inb h)) (window X.v (k0_off28 h) S256x256.size (k0_off28_inb h)) (window X.q (k0_off29 h) S2x256x128.size (k0_off29_inb h))) (k0_pay32 (window A (k0_off30 h) S1x256x256.size (k0_off30_inb h))))
  put A7 (k0_off31 h) S1x256x256.size (k0_pay5 (k0_pay31 X.bound (window X.k (k0_off27 h) S256x128.size (k0_off27_inb h)) (window X.v (k0_off28 h) S256x256.size (k0_off28_inb h)) (window X.q (k0_off29 h) S2x256x128.size (k0_off29_inb h))) (window A7 (k0_off31 h) S1x256x256.size (k0_off31_inb h)))

theorem step2_eq (X : Ins Ideal) (h : Fin k0_t2_loop.trips) (S : St Ideal) : step2 X h S = ⟨S.m, stage3 X h (stage2 X h (stage1 X h (stage0 X h S.a)))⟩ := rfl

variable (X : Ins Ideal) (S : St Ideal) (r : Fin 2048) (l : Fin 256)
variable (h : Fin 4) (s : ℕ → ℝ) (x : Fin 256 → ℕ → ℝ) (o : ℕ)
  (hs : ∀ c, sc X h r c = (s (o + c) : EReal)) (hv : ∀ c l, vl X h c l = (x l (o + c) : EReal)) (M : ℝ)

include hs hv

/-- A chunk of keys added to the rows of both maps from the chunk's own first row on. -/
theorem pair_row (n g : ℕ) (hn : n + g = 1024) (hg : g + 256 ≤ 1024) (A : S4x2048x256.Idx → EReal) {offa offb : Fin 3 → ℕ} (ea : offa = ![h.val, g, 0]) (eb : offb = ![h.val, 1024 + g, 0])
    (wa wb : ((a : Fin 3) → Fin ((![1, n, 256] : Fin 3 → ℕ) a)) → EReal) (p : Fin (2 * n) → EReal)
    (ha : ∀ j : Fin n, wa (ix3 0 j l) = A (ix3 h ⟨g + j.val, by omega⟩ l) + p ⟨j.val, by omega⟩)
    (hb : ∀ j : Fin n, wb (ix3 0 j l) = put (s := S4x2048x256) A offa ![1, n, 256] wa (ix3 h ⟨1024 + g + j.val, by omega⟩ l) + p ⟨n + j.val, by omega⟩)
    (E : Fin (2 * n) → Fin 256 → EReal) (V : Fin 256 → EReal)
    (mb : EReal) (hmb : mb = (M : EReal))
    (hp : ∀ i, p i = ∑ c : Fin 256, if c.val ≤ i.val % n then FloatOps.exp2 (F := Ideal) (φ := .f32) (E i c - mb) * V c else 0)
    (hE : ∀ (i : Fin (2 * n)) (c : Fin 256) (r' : Fin 2048) (c' : Fin 1024), r'.val / 1024 = i.val / n → r'.val % 1024 = g + i.val % n → c'.val = g + c.val → E i c = sc X h r' c')
    (hV : ∀ (c : Fin 256) (c' : Fin 1024), c'.val = g + c.val → V c = vl X h c' l)
    (hA : A (ix3 h r l) = (W s (x l) M (o + min g (r.val % 1024 + 1)) : EReal)) :
    put (s := S4x2048x256) (put (s := S4x2048x256) A offa ![1, n, 256] wa) offb ![1, n, 256] wb (ix3 h r l) = (W s (x l) M (o + min (g + 256) (r.val % 1024 + 1)) : EReal) := by
  have hr := r.isLt
  by_cases hρ : g ≤ r.val % 1024
  · have hsum : ∀ i : Fin (2 * n), i.val / n = r.val / 1024 → i.val % n = r.val % 1024 - g → A (ix3 h r l) + p i = (W s (x l) M (o + min (g + 256) (r.val % 1024 + 1)) : EReal) := fun i h1 h2 => by
      rw [hA, hp, hmb, min_eq_left (by omega)]
      have := chunk_add s (x l) M (o + g) (i.val % n + 1) (E i) V
        (fun c => by rw [hE i c r ⟨g + c.val, by omega⟩ h1.symm (by omega) rfl, hs]; congr 2; show o + (g + c.val) = _; omega)
        (fun c => by rw [hV c ⟨g + c.val, by omega⟩ rfl, hv]; congr 2; show o + (g + c.val) = _; omega)
      simp only [Nat.lt_succ_iff] at this
      refine this.trans ?_
      congr 2; omega
    by_cases h1 : r.val < 1024
    · refine (put3_out _ _ eb h r l (.inr (.inl (by omega)))).trans ?_
      refine (put3_in _ _ ea h r l ⟨r.val - g, by omega⟩ rfl (by show r.val = g + (r.val - g); omega)).trans ?_
      rw [ha]
      have e : (⟨g + (⟨r.val - g, by omega⟩ : Fin n).val, by show g + (r.val - g) < 2048; omega⟩ : Fin 2048) = r := Fin.ext (by show g + (r.val - g) = r.val; omega)
      rw [e]
      exact hsum _ (by show (r.val - g) / n = _; rw [Nat.div_eq_of_lt (by omega)]; omega) (by show (r.val - g) % n = _; rw [Nat.mod_eq_of_lt (by omega)]; omega)
    · refine (put3_in _ _ eb h r l ⟨r.val - (1024 + g), by omega⟩ rfl (by show r.val = 1024 + g + (r.val - (1024 + g)); omega)).trans ?_
      rw [hb]
      have e : (⟨1024 + g + (⟨r.val - (1024 + g), by omega⟩ : Fin n).val, by show 1024 + g + (r.val - (1024 + g)) < 2048; omega⟩ : Fin 2048) = r := Fin.ext (by show 1024 + g + (r.val - (1024 + g)) = r.val; omega)
      rw [e, put3_out _ _ ea h r l (.inr (.inr (by omega)))]
      exact hsum _ (by show (n + (r.val - (1024 + g))) / n = _; rw [Nat.add_div_left _ (by omega), Nat.div_eq_of_lt (by omega)]; omega) (by show (n + (r.val - (1024 + g))) % n = _; rw [Nat.add_mod_left, Nat.mod_eq_of_lt (by omega)]; omega)
  · have e1 : put (s := S4x2048x256) (put (s := S4x2048x256) A offa ![1, n, 256] wa) offb ![1, n, 256] wb (ix3 h r l) = A (ix3 h r l) := by
      refine (put3_out _ _ eb h r l ?_).trans (put3_out _ _ ea h r l ?_) <;> omega
    rw [e1, hA, min_eq_right (by omega), min_eq_right (by omega)]

variable (hb : X.bound = (M : EReal))

include hb

theorem stage0_row (A : S4x2048x256.Idx → EReal) (hA : A (ix3 h r l) = (W s (x l) M (o + min 0 (r.val % 1024 + 1)) : EReal)) :
    stage0 X ⟨h.val, h.isLt⟩ A (ix3 h r l) = (W s (x l) M (o + min 256 (r.val % 1024 + 1)) : EReal) := by
  unfold stage0
  refine pair_row X r l h s x o hs hv M 1024 0 (by omega) (by omega) A (k0_off15_eq _) (k0_off16_eq _) _ _
    (fun i => k0_pay20 X.bound (window X.k (k0_off12 ⟨h.val, h.isLt⟩) S256x128.size (k0_off12_inb ⟨h.val, h.isLt⟩)) (window X.v (k0_off13 ⟨h.val, h.isLt⟩) S256x256.size (k0_off13_inb ⟨h.val, h.isLt⟩)) (window X.q (k0_off14 ⟨h.val, h.isLt⟩) S2x1024x128.size (k0_off14_inb ⟨h.val, h.isLt⟩)) (ix2 i l))
    (fun j => ?_) (fun j => ?_) _ _ X.bound hb (fun i => pay20_at _ _ _ _ i l) (fun i c r' c' h1 h2 h3 => ?_) (fun c c' h1 => ?_) hA
  · refine (pay21_at ..).trans ?_
    refine congrArg₂ (fun a b : EReal => a + b) ?_ rfl
    exact win3 _ _ (k0_off15_eq _) _ _ _ h _ l rfl rfl (by simp)
  · refine (pay22_at ..).trans ?_
    refine congrArg₂ (fun a b : EReal => a + b) ?_ rfl
    exact win3 _ _ (k0_off16_eq _) _ _ _ h _ l rfl rfl (by simp)
  · exact sc_win X h _ (k0_off14_eq _) _ (k0_off12_eq _) _ _ c r' c' h1 h2 h3
  · exact vl_win X h _ (k0_off13_eq _) c l c' h1

theorem stage1_row (A : S4x2048x256.Idx → EReal) (hA : A (ix3 h r l) = (W s (x l) M (o + min 256 (r.val % 1024 + 1)) : EReal)) :
    stage1 X ⟨h.val, h.isLt⟩ A (ix3 h r l) = (W s (x l) M (o + min 512 (r.val % 1024 + 1)) : EReal) := by
  unfold stage1
  refine pair_row X r l h s x o hs hv M 768 256 (by omega) (by omega) A (k0_off20_eq _) (k0_off21_eq _) _ _
    (fun i => k0_pay23 X.bound (window X.k (k0_off17 ⟨h.val, h.isLt⟩) S256x128.size (k0_off17_inb ⟨h.val, h.isLt⟩)) (window X.v (k0_off18 ⟨h.val, h.isLt⟩) S256x256.size (k0_off18_inb ⟨h.val, h.isLt⟩)) (window X.q (k0_off19 ⟨h.val, h.isLt⟩) S2x768x128.size (k0_off19_inb ⟨h.val, h.isLt⟩)) (ix2 i l))
    (fun j => ?_) (fun j => ?_) _ _ X.bound hb (fun i => pay23_at _ _ _ _ i l) (fun i c r' c' h1 h2 h3 => ?_) (fun c c' h1 => ?_) hA
  · refine (pay25_at ..).trans ?_
    refine congrArg₂ (fun a b : EReal => a + b) ?_ rfl
    exact win3 _ _ (k0_off20_eq _) _ _ _ h _ l rfl rfl (by simp)
  · refine (pay26_at ..).trans ?_
    refine congrArg₂ (fun a b : EReal => a + b) ?_ rfl
    exact win3 _ _ (k0_off21_eq _) _ _ _ h _ l rfl rfl (by simp)
  · exact sc_win X h _ (k0_off19_eq _) _ (k0_off17_eq _) _ _ c r' c' h1 h2 h3
  · exact vl_win X h _ (k0_off18_eq _) c l c' h1

theorem stage2_row (A : S4x2048x256.Idx → EReal) (hA : A (ix3 h r l) = (W s (x l) M (o + min 512 (r.val % 1024 + 1)) : EReal)) :
    stage2 X ⟨h.val, h.isLt⟩ A (ix3 h r l) = (W s (x l) M (o + min 768 (r.val % 1024 + 1)) : EReal) := by
  unfold stage2
  refine pair_row X r l h s x o hs hv M 512 512 (by omega) (by omega) A (k0_off25_eq _) (k0_off26_eq _) _ _
    (fun i => k0_pay27 X.bound (window X.k (k0_off22 ⟨h.val, h.isLt⟩) S256x128.size (k0_off22_inb ⟨h.val, h.isLt⟩)) (window X.v (k0_off23 ⟨h.val, h.isLt⟩) S256x256.size (k0_off23_inb ⟨h.val, h.isLt⟩)) (window X.q (k0_off24 ⟨h.val, h.isLt⟩) S2x512x128.size (k0_off24_inb ⟨h.val, h.isLt⟩)) (ix2 i l))
    (fun j => ?_) (fun j => ?_) _ _ X.bound hb (fun i => pay27_at _ _ _ _ i l) (fun i c r' c' h1 h2 h3 => ?_) (fun c c' h1 => ?_) hA
  · refine (pay29_at ..).trans ?_
    refine congrArg₂ (fun a b : EReal => a + b) ?_ rfl
    exact win3 _ _ (k0_off25_eq _) _ _ _ h _ l rfl rfl (by simp)
  · refine (pay30_at ..).trans ?_
    refine congrArg₂ (fun a b : EReal => a + b) ?_ rfl
    exact win3 _ _ (k0_off26_eq _) _ _ _ h _ l rfl rfl (by simp)
  · exact sc_win X h _ (k0_off24_eq _) _ (k0_off22_eq _) _ _ c r' c' h1 h2 h3
  · exact vl_win X h _ (k0_off23_eq _) c l c' h1

theorem stage3_row (A : S4x2048x256.Idx → EReal) (hA : A (ix3 h r l) = (W s (x l) M (o + min 768 (r.val % 1024 + 1)) : EReal)) :
    stage3 X ⟨h.val, h.isLt⟩ A (ix3 h r l) = (W s (x l) M (o + min 1024 (r.val % 1024 + 1)) : EReal) := by
  unfold stage3
  refine pair_row X r l h s x o hs hv M 256 768 (by omega) (by omega) A (k0_off30_eq _) (k0_off31_eq _) _ _
    (fun i => k0_pay31 X.bound (window X.k (k0_off27 ⟨h.val, h.isLt⟩) S256x128.size (k0_off27_inb ⟨h.val, h.isLt⟩)) (window X.v (k0_off28 ⟨h.val, h.isLt⟩) S256x256.size (k0_off28_inb ⟨h.val, h.isLt⟩)) (window X.q (k0_off29 ⟨h.val, h.isLt⟩) S2x256x128.size (k0_off29_inb ⟨h.val, h.isLt⟩)) (ix2 i l))
    (fun j => ?_) (fun j => ?_) _ _ X.bound hb (fun i => pay31_at _ _ _ _ i l) (fun i c r' c' h1 h2 h3 => ?_) (fun c c' h1 => ?_) hA
  · refine (pay4_at ..).trans ?_
    refine congrArg₂ (fun a b : EReal => a + b) ?_ rfl
    exact win3 _ _ (k0_off30_eq _) _ _ _ h _ l rfl rfl (by simp)
  · refine (pay5_at ..).trans ?_
    refine congrArg₂ (fun a b : EReal => a + b) ?_ rfl
    exact win3 _ _ (k0_off31_eq _) _ _ _ h _ l rfl rfl (by simp)
  · exact sc_win X h _ (k0_off29_eq _) _ (k0_off27_eq _) _ _ c r' c' h1 h2 h3
  · exact vl_win X h _ (k0_off28_eq _) c l c' h1

theorem step2_row (ha : S.a (ix3 h r l) = (W s (x l) M o : EReal)) :
    (step2 X ⟨h.val, h.isLt⟩ S).a (ix3 h r l) = (W s (x l) M (o + (r.val % 1024 + 1)) : EReal) := by
  rw [step2_eq]
  refine (stage3_row X r l h s x o hs hv M hb _ (stage2_row X r l h s x o hs hv M hb _ (stage1_row X r l h s x o hs hv M hb _ (stage0_row X r l h s x o hs hv M hb _ (by rw [Nat.zero_min]; exact ha))))).trans ?_
  congr 2; omega

end Diagonal

end Cert.KernelIdeal.Hand
-- ==== Proof.VNext.lean ====
/- One run of the body, all branches together: what it adds to a row's weighted sums. -/
module

public import proofs.«01_k».proof.Proof.VStep

@[expose] public section

set_option maxRecDepth 16384
set_option maxHeartbeats 4000000

noncomputable section

namespace Cert.KernelIdeal.Hand

open Cert.Hand Cert.KernelIdeal Cert.KernelIdeal.Gen
open Idealize.ShloMosaic Idealize.ShloMosaic.TcCoe Idealize.SL.Sem
open VecWindow

theorem word_ne : ∀ c : BitVec 1, Scalar.cmpi .ne (Scalar.extui c : BitVec 32) 0#32 = 1#1 ↔ c = 1#1 := by decide
theorem word_and : ∀ c d : BitVec 1, Scalar.andi c d = 1#1 ↔ c = 1#1 ∧ d = 1#1 := by decide
theorem word_xor : ∀ c : BitVec 1, Scalar.xori c 1#1 = 1#1 ↔ ¬ c = 1#1 := by decide
theorem word_eq (a b : BitVec 32) : Scalar.cmpi .eq a b = 1#1 ↔ a = b := by
  simp only [Scalar.cmpi, IntOp.cmpi]
  by_cases h : a = b
  · simp [h]
  · simp only [h, iff_false]
    rw [beq_false_of_ne h]; decide

theorem pay1_at (h : Fin 4) (r : Fin 2048) : k0_pay1 (F := Ideal) (ix3 h r 0) = (⊥ : EReal) := by
  refine Eq.trans ?_ negInf
  pointwise [k0_pay1]

theorem pay2_at (h : Fin 4) (r : Fin 2048) (l : Fin 256) : k0_pay2 (F := Ideal) (ix3 h r l) = (0 : EReal) := by
  pointwise [k0_pay2]

/-- In the loop over the heads only a head's own step changes its rows. -/
theorem loop_head (step : Fin 4 → St Ideal → St Ideal) (h : Fin 4) (r : Fin 2048)
    (ha : ∀ (k : Fin 4) (S : St Ideal) (l : Fin 256), h.val ≠ k.val → (step k S).a (ix3 h r l) = S.a (ix3 h r l))
    (hm : ∀ (k : Fin 4) (S : St Ideal), h.val ≠ k.val → (step k S).m (ix3 h r 0) = S.m (ix3 h r 0)) (S : St Ideal) :
    ∃ S', S'.m (ix3 h r 0) = S.m (ix3 h r 0) ∧ (∀ l, S'.a (ix3 h r l) = S.a (ix3 h r l))
      ∧ (step 3 (step 2 (step 1 (step 0 S)))).m (ix3 h r 0) = (step h S').m (ix3 h r 0)
      ∧ ∀ l, (step 3 (step 2 (step 1 (step 0 S)))).a (ix3 h r l) = (step h S').a (ix3 h r l) := by
  have hlt := h.isLt
  have hc : h = 0 ∨ h = 1 ∨ h = 2 ∨ h = 3 := by fin_cases h <;> simp
  rcases hc with rfl | rfl | rfl | rfl
  · refine ⟨S, rfl, fun _ => rfl, ?_, fun l => ?_⟩
    · rw [hm 3 _ (by decide), hm 2 _ (by decide), hm 1 _ (by decide)]
    · rw [ha 3 _ _ (by decide), ha 2 _ _ (by decide), ha 1 _ _ (by decide)]
  · refine ⟨step 0 S, ?_, fun l => ?_, ?_, fun l => ?_⟩
    · rw [hm 0 _ (by decide)]
    · rw [ha 0 _ _ (by decide)]
    · rw [hm 3 _ (by decide), hm 2 _ (by decide)]
    · rw [ha 3 _ _ (by decide), ha 2 _ _ (by decide)]
  · refine ⟨step 1 (step 0 S), ?_, fun l => ?_, ?_, fun l => ?_⟩
    · rw [hm 1 _ (by decide), hm 0 _ (by decide)]
    · rw [ha 1 _ _ (by decide), ha 0 _ _ (by decide)]
    · rw [hm 3 _ (by decide)]
    · rw [ha 3 _ _ (by decide)]
  · refine ⟨step 2 (step 1 (step 0 S)), ?_, fun l => ?_, rfl, fun l => rfl⟩
    · rw [hm 2 _ (by decide), hm 1 _ (by decide), hm 0 _ (by decide)]
    · rw [ha 2 _ _ (by decide), ha 1 _ _ (by decide), ha 0 _ _ (by decide)]

/-- A row holds the weighted sums of its first `n` keys: from the bound `Mb` where the flag is set, else from its running maximum. -/
def Inv (v4 : BitVec 32) (Mb : ℝ) (S : St Ideal) (h : Fin 4) (r : Fin 2048) (s : ℕ → ℝ) (x : Fin 256 → ℕ → ℝ) (n : ℕ) : Prop :=
  (v4 = 1#32 → ∀ l, S.a (ix3 h r l) = (W s (x l) Mb n : EReal))
    ∧ (v4 ≠ 1#32 → (n = 0 ∧ S.m (ix3 h r 0) = ⊥ ∧ ∀ l, S.a (ix3 h r l) = 0)
        ∨ ∃ M : ℝ, S.m (ix3 h r 0) = (M : EReal) ∧ ∀ l, S.a (ix3 h r l) = (W s (x l) M n : EReal))

theorem Inv.row {v4 : BitVec 32} {Mb : ℝ} {S : St Ideal} {h : Fin 4} {r : Fin 2048} {s : ℕ → ℝ} {x : Fin 256 → ℕ → ℝ} {n : ℕ}
    (H : Inv v4 Mb S h r s x n) (h4 : v4 ≠ 1#32) (l : Fin 256) : Row s n (S.m (ix3 h r 0)) (S.a (ix3 h r l)) (x l) := by
  rcases H.2 h4 with ⟨h1, h2, h3⟩ | ⟨M, h1, h2⟩
  · exact .inl ⟨h1, h2, h3 l⟩
  · exact .inr ⟨M, h1, h2 l⟩

theorem Inv.congr {v4 : BitVec 32} {Mb : ℝ} {S S' : St Ideal} {h : Fin 4} {r : Fin 2048} {s : ℕ → ℝ} {x : Fin 256 → ℕ → ℝ} {n : ℕ}
    (H : Inv v4 Mb S h r s x n) (hm : S'.m (ix3 h r 0) = S.m (ix3 h r 0)) (ha : ∀ l, S'.a (ix3 h r l) = S.a (ix3 h r l)) : Inv v4 Mb S' h r s x n := by
  unfold Inv
  simp only [hm, ha]
  exact H

variable (v1 v3 v4 : BitVec 32) (X : Ins Ideal) (S : St Ideal) (r : Fin 2048)
variable (h : Fin 4) (s : ℕ → ℝ) (x : Fin 256 → ℕ → ℝ) (o : ℕ)
  (hs : ∀ c, sc X h r c = (s (o + c) : EReal)) (hv : ∀ c l, vl X h c l = (x l (o + c) : EReal))
  (Mb : ℝ) (hb : v4 = 1#32 → X.bound = (Mb : EReal))

include hs hv hb

theorem loop1_inv (h4 : v4 = 1#32) (H : Inv v4 Mb S h r s x o) : Inv v4 Mb (loop1 X S) h r s x (o + 1024) := by
  obtain ⟨S', hm, ha, hm', ha'⟩ := loop_head (fun k S => step1 X ⟨k.val, k.isLt⟩ S) h r
    (fun k S l hk => step1_other X S r l ⟨k.val, k.isLt⟩ h hk) (fun k S hk => rfl) S
  refine Inv.congr (S := step1 X ⟨h.val, h.isLt⟩ S') ⟨fun _ l => ?_, fun h => absurd h4 h⟩ hm' ha'
  exact step1_row X S' r l h s x o hs hv Mb (hb h4) ((H.congr hm ha).1 h4 l)

theorem loop2_inv (h4 : v4 = 1#32) (H : Inv v4 Mb S h r s x o) : Inv v4 Mb (loop2 X S) h r s x (o + (r.val % 1024 + 1)) := by
  obtain ⟨S', hm, ha, hm', ha'⟩ := loop_head (fun k S => step2 X ⟨k.val, k.isLt⟩ S) h r
    (fun k S l hk => step2_other X S r l ⟨k.val, k.isLt⟩ h hk) (fun k S hk => rfl) S
  refine Inv.congr (S := step2 X ⟨h.val, h.isLt⟩ S') ⟨fun _ l => ?_, fun h => absurd h4 h⟩ hm' ha'
  exact step2_row X S' r l h s x o hs hv Mb (hb h4) ((H.congr hm ha).1 h4 l)

theorem loop3_inv (h4 : v4 ≠ 1#32) (H : Inv v4 Mb S h r s x o) : Inv v4 Mb (loop3 X S) h r s x (o + 1024) := by
  obtain ⟨S', hm, ha, hm', ha'⟩ := loop_head (fun k S => step3 X ⟨k.val, k.isLt⟩ S) h r
    (fun k S l hk => step3_other X S r l ⟨k.val, k.isLt⟩ h hk) (fun k S hk => step3_other_m X S r ⟨k.val, k.isLt⟩ h hk) S
  refine Inv.congr (S := step3 X ⟨h.val, h.isLt⟩ S') ⟨fun h => absurd h h4, fun _ => .inr ?_⟩ hm' ha'
  exact step3_row X S' r h s x o hs hv ((H.congr hm ha).row h4)

theorem loop4_inv (h4 : v4 ≠ 1#32) (H : Inv v4 Mb S h r s x o) : Inv v4 Mb (loop4 X S) h r s x (o + (r.val % 1024 + 1)) := by
  obtain ⟨S', hm, ha, hm', ha'⟩ := loop_head (fun k S => step4 X ⟨k.val, k.isLt⟩ S) h r
    (fun k S l hk => step4_other X S r l ⟨k.val, k.isLt⟩ h hk) (fun k S hk => step4_other_m X S r ⟨k.val, k.isLt⟩ h hk) S
  refine Inv.congr (S := step4 X ⟨h.val, h.isLt⟩ S') ⟨fun h => absurd h h4, fun _ => .inr ?_⟩ hm' ha'
  exact step4_row X S' r h s x o hs hv ((H.congr hm ha).row h4)

/-- A run of the body adds a block's keys, those not after the row's own where the block is the row's. -/
theorem next_inv (ho : v3 = 0#32 → o = 0) (H : v3 ≠ 0#32 → Inv v4 Mb S h r s x o) :
    Inv v4 Mb (next v1 v3 v4 X S) h r s x (if v3 = v1 then o + (r.val % 1024 + 1) else o + 1024) := by
  have H0 : Inv v4 Mb (if v3 = 0#32 then ⟨k0_pay1 (F := Ideal), k0_pay2 (F := Ideal)⟩ else S) h r s x o := by
    by_cases h0 : v3 = 0#32
    · rw [if_pos h0, ho h0]
      refine ⟨fun _ l => ?_, fun _ => .inl ⟨rfl, pay1_at h r, fun l => pay2_at h r l⟩⟩
      rw [W_zero]; exact pay2_at h r l
    · rw [if_neg h0]; exact H h0
  unfold next
  simp only [word_ne, word_and, word_xor, word_eq]
  generalize (if v3 = 0#32 then (⟨k0_pay1 (F := Ideal), k0_pay2 (F := Ideal)⟩ : St Ideal) else S) = S0 at H0 ⊢
  by_cases h4 : v4 = 1#32 <;> by_cases hd : v3 = v1
  · simp only [h4, hd, not_true_eq_false, and_false, false_and, and_self, if_true, if_false]
    subst h4; exact loop2_inv _ X S0 r h s x o hs hv Mb hb rfl H0
  · simp only [h4, hd, not_true_eq_false, not_false_eq_true, and_false, false_and, and_self, if_true, if_false]
    subst h4; exact loop1_inv _ X S0 r h s x o hs hv Mb hb rfl H0
  · simp only [h4, hd, not_true_eq_false, not_false_eq_true, and_false, false_and, and_self, if_true, if_false]
    exact loop4_inv _ X S0 r h s x o hs hv Mb hb h4 H0
  · simp only [h4, hd, not_true_eq_false, not_false_eq_true, and_false, false_and, and_self, if_true, if_false]
    exact loop3_inv _ X S0 r h s x o hs hv Mb hb h4 H0

end Cert.KernelIdeal.Hand
-- ==== Proof.VScore.lean ====
/- The scores and the values that a grid point meets, as real numbers. -/
module

public import proofs.«01_k».proof.Proof.VHost
public import proofs.«01_k».proof.Proof.VBlk
public import proofs.«01_k».proof.Proof.VNext

@[expose] public section

set_option maxRecDepth 16384
set_option maxHeartbeats 4000000

noncomputable section

namespace Cert.KernelIdeal.Hand

open Cert.Hand Cert.KernelIdeal Cert.KernelIdeal.Gen
open Idealize.ShloMosaic Idealize.ShloMosaic.TcCoe Idealize.SL.Sem

variable (qr kr : S4x8192x4x2x64.Idx → ℝ) (vr : S4x8192x4x128.Idx → ℝ)

/-- The score of a query against the key at position `j` of its sequence. -/
def score (b h : Fin 4) (μ : Fin 2) (t : Fin 8192) (j : ℕ) : ℝ :=
  (∑ d : Fin 64, qr (ix5 b t h μ d) * kr (ix5 b ⟨j % 8192, by omega⟩ h μ d)) * (1 / 8)

/-- A lane of the values at position `j`. -/
def valAt (b h : Fin 4) (e : Fin 128) (j : ℕ) : ℝ := vr (ix4 b ⟨j % 8192, by omega⟩ h e)

/-- A lane of the values with ones. -/
def lane (b h : Fin 4) (l : Fin 256) (j : ℕ) : ℝ := if hl : l.val < 128 then valAt vr b h ⟨l.val, hl⟩ j else 1

theorem q_full (ν : Fin 2) (T : Fin 32768) (c : Fin 512) (b : Fin 4) (t : Fin 8192) (h : Fin 4) (μ : Fin 2) (d : Fin 64) (hT : T.val = b.val * 8192 + t.val) (hc : c.val = 128 * h.val + 64 * μ.val + d.val) :
    hostQf (F := Ideal) (hostQs (hostQ0 (hostQ fun i => (qr i : EReal))) (hostQ1 (hostQ fun i => (qr i : EReal)))) (ix3 ν T c)
      = ((if μ = ν then qr (ix5 b t h μ d) * (1 / 8 / Real.log 2) else 0 : ℝ) : EReal) := by
  have e1 : (⟨T.val / 8192, by omega⟩ : Fin 4) = b := Fin.ext (by show T.val / 8192 = b.val; omega)
  have e2 : (⟨T.val % 8192, by omega⟩ : Fin 8192) = t := Fin.ext (by show T.val % 8192 = t.val; omega)
  have e3 : (⟨c.val / 128, by omega⟩ : Fin 4) = h := Fin.ext (by show c.val / 128 = h.val; omega)
  have e4 : (⟨c.val / 64 % 2, by omega⟩ : Fin 2) = μ := Fin.ext (by show c.val / 64 % 2 = μ.val; omega)
  have e5 : (⟨c.val % 64, by omega⟩ : Fin 64) = d := Fin.ext (by show c.val % 64 = d.val; omega)
  rw [hostQf_at, e1, e2, e3, e4, e5, hostQs_at, hostQ0_at, hostQ1_at, hostQ_at, qscale, ← EReal.coe_mul]
  have hμ : ∀ μ ν : Fin 2, (μ = ν ↔ (μ.val = 0 ∧ ν.val < 1) ∨ (μ.val ≠ 0 ∧ ¬ ν.val < 1)) := by decide
  by_cases h1 : ν.val < 1 <;> by_cases h2 : μ.val = 0 <;> simp [h1, h2, hμ]

theorem k_full (T : Fin 32768) (c : Fin 512) (b : Fin 4) (t : Fin 8192) (h : Fin 4) (μ : Fin 2) (d : Fin 64) (hT : T.val = b.val * 8192 + t.val) (hc : c.val = 128 * h.val + 64 * μ.val + d.val) :
    hostK (F := Ideal) (fun i => (kr i : EReal)) (ix2 T c) = (kr (ix5 b t h μ d) : EReal) := by
  have e1 : (⟨T.val / 8192, by omega⟩ : Fin 4) = b := Fin.ext (by show T.val / 8192 = b.val; omega)
  have e2 : (⟨T.val % 8192, by omega⟩ : Fin 8192) = t := Fin.ext (by show T.val % 8192 = t.val; omega)
  have e3 : (⟨c.val / 128, by omega⟩ : Fin 4) = h := Fin.ext (by show c.val / 128 = h.val; omega)
  have e4 : (⟨c.val / 64 % 2, by omega⟩ : Fin 2) = μ := Fin.ext (by show c.val / 64 % 2 = μ.val; omega)
  have e5 : (⟨c.val % 64, by omega⟩ : Fin 64) = d := Fin.ext (by show c.val % 64 = d.val; omega)
  rw [hostK_at, e1, e2, e3, e4, e5]

theorem v_full (T : Fin 32768) (c : Fin 1024) (b : Fin 4) (t : Fin 8192) (h : Fin 4) (l : Fin 256) (hT : T.val = b.val * 8192 + t.val) (hc : c.val = 256 * h.val + l.val) :
    hostVf (F := Ideal) (hostV fun i => (vr i : EReal)) (ix2 T c) = (lane vr b h l t.val : EReal) := by
  have e1 : (⟨T.val / 8192, by omega⟩ : Fin 4) = b := Fin.ext (by show T.val / 8192 = b.val; omega)
  have e2 : (⟨T.val % 8192, by omega⟩ : Fin 8192) = t := Fin.ext (by show T.val % 8192 = t.val; omega)
  have e3 : (⟨c.val / 256, by omega⟩ : Fin 4) = h := Fin.ext (by show c.val / 256 = h.val; omega)
  have e4 : (⟨c.val % 256, by omega⟩ : Fin 256) = l := Fin.ext (by show c.val % 256 = l.val; omega)
  have e5 : (⟨t.val % 8192, by omega⟩ : Fin 8192) = t := Fin.ext (by show t.val % 8192 = t.val; omega)
  rw [hostVf_at, e1, e2, e3, e4, hostV_at]
  unfold lane valAt
  rw [e5]
  split <;> rfl

/-- Of a head's 128 lanes the masked queries keep the map's 64. -/
theorem half_sum (ν : Fin 2) (f : ℕ → ℝ) : ∑ d : Fin 128, (if d.val / 64 = ν.val then f (d.val % 64) else 0) = ∑ d : Fin 64, f d.val := by
  rw [show (∑ d : Fin 128, (if d.val / 64 = ν.val then f (d.val % 64) else 0)) = ∑ d : Fin (64 + 64), (if d.val / 64 = ν.val then f (d.val % 64) else 0) from rfl, Fin.sum_univ_add]
  have e0 : ∀ d : Fin 64, d.val / 64 = 0 ∧ d.val % 64 = d.val ∧ (64 + d.val) / 64 = 1 ∧ (64 + d.val) % 64 = d.val := fun d => by omega
  simp only [Fin.val_castAdd, Fin.val_natAdd, (e0 _).1, (e0 _).2.1, (e0 _).2.2.1, (e0 _).2.2.2]
  fin_cases ν <;> simp

/-! ## The schedule in numbers -/

/-- A point's sequence, query block and key block. -/
def bN (i : grid0.Coords) : Fin 4 := ⟨(i 0).val, (i 0).isLt⟩
def qN (i : grid0.Coords) : ℕ := (qiW i).toNat
def kN (i : grid0.Coords) : ℕ := (kiW i).toNat

theorem qB_eq : ∀ i : grid0.Coords, qB i = (bN i).val * 8 + qN i ∧ qN i < 8 := by decide +kernel
theorem kB_eq : ∀ i : grid0.Coords, kB i = (bN i).val * 8 + kN i ∧ kN i < 8 := by decide +kernel

variable (m : (ℓ : Loc nD τ sig) → Buf (Elt Ideal) ℓ)

/-- The arrays that a point reads. -/
abbrev XM (t : Fin grid0.N) : Ins Ideal := insAt (F := Ideal) (flags m) (V m) 0 t

section Point

variable (hq : m (((0 : Dev nD).tc : Thread nD τ).loc main_arg0) = fun i => (qr i : EReal)) (hk : m (((0 : Dev nD).tc : Thread nD τ).loc main_arg1) = fun i => (kr i : EReal))
  (hv : m (((0 : Dev nD).tc : Thread nD τ).loc main_arg2) = fun i => (vr i : EReal)) (t : Fin grid0.N)

include hq hk in
theorem sc_real (h : Fin 4) (r : Fin 2048) (c : Fin 1024) (tp : Fin 8192) (htp : tp.val = qN (grid0.coords t) * 1024 + r.val % 1024) :
    sc (XM m t) h r c = ((score qr kr (bN (grid0.coords t)) h ⟨r.val / 1024, by omega⟩ tp (kN (grid0.coords t) * 1024 + c.val) / Real.log 2 : ℝ) : EReal) := by
  obtain ⟨q1, q2⟩ := qB_eq (grid0.coords t)
  obtain ⟨k1, k2⟩ := kB_eq (grid0.coords t)
  generalize hb : bN (grid0.coords t) = b at *
  generalize hqn : qN (grid0.coords t) = qn at *
  generalize hkn : kN (grid0.coords t) = kn at *
  have hj : kn * 1024 + c.val < 8192 := by omega
  have term : ∀ d : Fin 128, (show EReal from (XM m t).q (ix3 ⟨r.val / 1024, by omega⟩ ⟨r.val % 1024, by omega⟩ ⟨128 * h.val + d.val, by omega⟩)) * (show EReal from (XM m t).k (ix2 c ⟨128 * h.val + d.val, by omega⟩))
      = ((if d.val / 64 = (⟨r.val / 1024, by omega⟩ : Fin 2).val then (fun n : ℕ => qr (ix5 b tp h ⟨r.val / 1024, by omega⟩ ⟨n % 64, by omega⟩) * (1 / 8 / Real.log 2) * kr (ix5 b ⟨(kn * 1024 + c.val) % 8192, by omega⟩ h ⟨r.val / 1024, by omega⟩ ⟨n % 64, by omega⟩)) (d.val % 64) else 0 : ℝ) : EReal) := by
    intro d
    have e1 : (show EReal from (XM m t).q (ix3 ⟨r.val / 1024, by omega⟩ ⟨r.val % 1024, by omega⟩ ⟨128 * h.val + d.val, by omega⟩)) = _ :=
      (blk_q (F := Ideal) (flags m) (V m) 0 t ⟨r.val / 1024, by omega⟩ ⟨r.val % 1024, by omega⟩ ⟨128 * h.val + d.val, by omega⟩).trans
        ((congrFun ((V_q m 0).trans (by rw [hq])) _).trans (q_full qr _ _ _ b tp h ⟨d.val / 64, by omega⟩ ⟨d.val % 64, by omega⟩
          (by show qB (grid0.coords t) * 1024 + r.val % 1024 = _; omega) (by show 128 * h.val + d.val = 128 * h.val + 64 * (d.val / 64) + d.val % 64; omega)))
    have e2 : (show EReal from (XM m t).k (ix2 c ⟨128 * h.val + d.val, by omega⟩)) = _ :=
      (blk_k (F := Ideal) (flags m) (V m) 0 t c ⟨128 * h.val + d.val, by omega⟩).trans
        ((congrFun ((V_k m 0).trans (by rw [hk])) _).trans (k_full kr _ _ b ⟨kn * 1024 + c.val, hj⟩ h ⟨d.val / 64, by omega⟩ ⟨d.val % 64, by omega⟩
          (by show kB (grid0.coords t) * 1024 + c.val = b.val * 8192 + (kn * 1024 + c.val); omega) (by show 128 * h.val + d.val = 128 * h.val + 64 * (d.val / 64) + d.val % 64; omega)))
    rw [e1, e2, ← EReal.coe_mul]
    congr 1
    have ej : (⟨(kn * 1024 + c.val) % 8192, by omega⟩ : Fin 8192) = ⟨kn * 1024 + c.val, hj⟩ := Fin.ext (Nat.mod_eq_of_lt hj)
    have ed : (⟨d.val % 64 % 64, by omega⟩ : Fin 64) = ⟨d.val % 64, by omega⟩ := Fin.ext (by show d.val % 64 % 64 = d.val % 64; omega)
    by_cases hd : d.val / 64 = r.val / 1024
    · have eν : (⟨d.val / 64, by omega⟩ : Fin 2) = ⟨r.val / 1024, by omega⟩ := Fin.ext hd
      rw [if_pos eν, if_pos hd]
      show _ = _ * _ * _
      rw [ej, ed, eν]
    · rw [if_neg (fun e => hd (congrArg Fin.val e)), if_neg hd, zero_mul]
  unfold sc
  rw [Finset.sum_congr rfl fun d _ => term d, ← coe_sum]
  refine congrArg (fun y : ℝ => (y : EReal)) ((half_sum ⟨r.val / 1024, by omega⟩ (fun n : ℕ => qr (ix5 b tp h ⟨r.val / 1024, by omega⟩ ⟨n % 64, by omega⟩) * (1 / 8 / Real.log 2) * kr (ix5 b ⟨(kn * 1024 + c.val) % 8192, by omega⟩ h ⟨r.val / 1024, by omega⟩ ⟨n % 64, by omega⟩))).trans ?_)
  unfold score
  rw [Finset.sum_mul, Finset.sum_div]
  refine Finset.sum_congr rfl fun d _ => ?_
  have ed : (⟨d.val % 64, by omega⟩ : Fin 64) = d := Fin.ext (Nat.mod_eq_of_lt d.isLt)
  rw [ed]
  ring

include hv in
theorem vl_real (h : Fin 4) (c : Fin 1024) (l : Fin 256) :
    vl (XM m t) h c l = (lane vr (bN (grid0.coords t)) h l (kN (grid0.coords t) * 1024 + c.val) : EReal) := by
  obtain ⟨k1, k2⟩ := kB_eq (grid0.coords t)
  generalize hb : bN (grid0.coords t) = b at *
  generalize hkn : kN (grid0.coords t) = kn at *
  exact (blk_v (F := Ideal) (flags m) (V m) 0 t c ⟨256 * h.val + l.val, by omega⟩).trans
    ((congrFun ((V_v m 0).trans (by rw [hv])) _).trans (v_full vr _ _ b ⟨kn * 1024 + c.val, by omega⟩ h l
      (by show kB (grid0.coords t) * 1024 + c.val = b.val * 8192 + (kn * 1024 + c.val); omega) rfl))

end Point

end Cert.KernelIdeal.Hand
-- ==== Proof.VSoft.lean ====
/- Causal softmax averages of real numbers, as the kernel forms them and as the reference does. -/
module

public import proofs.«01_k».proof.Proof.VMath

@[expose] public section

set_option maxRecDepth 16384
set_option maxHeartbeats 4000000

noncomputable section

namespace Cert.Hand

open Idealize.ShloMosaic
open Finset (range)

/-- The average of the first `n` values, weighted by the exponentials of their scores. -/
def avg (S x : ℕ → ℝ) (n : ℕ) : ℝ := (∑ j ∈ range n, Real.exp (S j) * x j) / ∑ j ∈ range n, Real.exp (S j)

theorem expsum_pos (S : ℕ → ℝ) (n : ℕ) (hn : 0 < n) : 0 < ∑ j ∈ range n, Real.exp (S j) :=
  Finset.sum_pos (fun j _ => Real.exp_pos _) ⟨0, Finset.mem_range.2 hn⟩

theorem W_exp (S s x : ℕ → ℝ) (hs : ∀ j, s j * Real.log 2 = S j) (M : ℝ) (n : ℕ) : W s x M n = (2 : ℝ) ^ (-M) * ∑ j ∈ range n, Real.exp (S j) * x j := by
  unfold W
  rw [Finset.mul_sum]
  refine Finset.sum_congr rfl fun j _ => ?_
  rw [sub_eq_add_neg, Real.rpow_add two_pos, Real.rpow_def_of_pos two_pos (s j), mul_comm (Real.log 2), hs]
  ring

/-- The kernel's quotient: the sum of the values over the sum of the ones. -/
theorem div_W (S s x y : ℕ → ℝ) (hs : ∀ j, s j * Real.log 2 = S j) (hy : ∀ j, y j = 1) (M : ℝ) (n : ℕ) (hn : 0 < n) :
    Ideal.div (W s x M n : EReal) (W s y M n : EReal) = (avg S x n : EReal) := by
  have h2 : (2 : ℝ) ^ (-M) ≠ 0 := (Real.rpow_pos_of_pos two_pos _).ne'
  have hZ := (expsum_pos S n hn).ne'
  rw [W_exp S s x hs, W_exp S s y hs]
  simp only [hy, mul_one]
  rw [Ideal.div_coe (mul_ne_zero h2 hZ), ← EReal.coe_mul]
  congr 1
  unfold avg
  field_simp

theorem exp_real (a : ℝ) : Ideal.exp (a : EReal) = (Real.exp a : EReal) := Ideal.exp_coe a

theorem fin_range {N : ℕ} (f : ℕ → ℝ) (n : ℕ) (hn : n ≤ N) : ∑ j : Fin N, (if j.val < n then f j.val else 0) = ∑ j ∈ range n, f j := by
  rw [Fin.sum_univ_eq_sum_range (fun j => if j < n then f j else 0) N, ← Finset.sum_filter]
  congr 1
  ext j
  simp only [Finset.mem_filter, Finset.mem_range]
  omega

/-- A row of the reference's softmax. -/
theorem soft_row {N : ℕ} (S : ℕ → ℝ) (n : ℕ) (h0 : 0 < n) (hn : n ≤ N) (T : Fin N → EReal) (hT : ∀ j, T j = if j.val < n then (S j.val : EReal) else ⊥) (j : Fin N) :
    Ideal.div (Ideal.exp (T j - max (⊥ : EReal) (Finset.fold max (⊥ : EReal) T Finset.univ)))
        (∑ i, Ideal.exp (T i - max (⊥ : EReal) (Finset.fold max (⊥ : EReal) T Finset.univ)))
      = ((if j.val < n then Real.exp (S j.val) / ∑ i ∈ range n, Real.exp (S i) else 0 : ℝ) : EReal) := by
  obtain ⟨M, hM⟩ := fold_real T n (by omega) h0 S hT ⊥ (.inl rfl)
  rw [hM]
  have hu : ∀ i, Ideal.exp (T i - (M : EReal)) = ((if i.val < n then Real.exp (S i.val) * Real.exp (-M) else 0 : ℝ) : EReal) := by
    intro i
    rw [hT]
    split
    · rw [← EReal.coe_sub, exp_real, sub_eq_add_neg, Real.exp_add]
    · rw [EReal.bot_sub]; rfl
  simp only [hu]
  rw [← coe_sum, fin_range (fun i => Real.exp (S i) * Real.exp (-M)) n hn, ← Finset.sum_mul]
  have hZ := (expsum_pos S n h0).ne'
  have hM' := (Real.exp_pos (-M)).ne'
  rw [Ideal.div_coe (mul_ne_zero hZ hM'), ← EReal.coe_mul]
  congr 1
  split
  · field_simp
  · rw [zero_mul]

/-- The reference's sum over the keys of the two maps' difference. -/
theorem diff_sum {N : ℕ} (S0 S1 x : ℕ → ℝ) (n : ℕ) (hn : n ≤ N) (lam : ℝ) (v p0 p1 : Fin N → EReal) (hv : ∀ j, v j = (x j.val : EReal))
    (h0 : ∀ j, p0 j = ((if j.val < n then Real.exp (S0 j.val) / ∑ i ∈ range n, Real.exp (S0 i) else 0 : ℝ) : EReal))
    (h1 : ∀ j, p1 j = ((if j.val < n then Real.exp (S1 j.val) / ∑ i ∈ range n, Real.exp (S1 i) else 0 : ℝ) : EReal)) :
    ∑ j, v j * (p0 j - (lam : EReal) * p1 j) = (avg S0 x n : EReal) - (lam : EReal) * (avg S1 x n : EReal) := by
  have e : ∀ j, v j * (p0 j - (lam : EReal) * p1 j) = ((if j.val < n then x j.val * (Real.exp (S0 j.val) / (∑ i ∈ range n, Real.exp (S0 i)) - lam * (Real.exp (S1 j.val) / ∑ i ∈ range n, Real.exp (S1 i))) else 0 : ℝ) : EReal) := by
    intro j
    rw [hv, h0, h1, ← EReal.coe_mul, ← EReal.coe_sub, ← EReal.coe_mul]
    congr 1
    split
    · rfl
    · ring
  simp only [e]
  rw [← coe_sum, fin_range (fun j => x j * (Real.exp (S0 j) / (∑ i ∈ range n, Real.exp (S0 i)) - lam * (Real.exp (S1 j) / ∑ i ∈ range n, Real.exp (S1 i)))) n hn,
    ← EReal.coe_mul, ← EReal.coe_sub]
  congr 1
  unfold avg
  rw [Finset.sum_div, Finset.sum_div, Finset.mul_sum, ← Finset.sum_sub_distrib]
  exact Finset.sum_congr rfl fun j _ => by ring

end Cert.Hand
-- ==== Proof.VFin.lean ====
/- The last step of a query block: the two maps' quotients, their difference, and its normalisation, element by element. -/
module

public import proofs.«01_k».proof.Proof.VStep

@[expose] public section

set_option maxRecDepth 16384
set_option maxHeartbeats 4000000

noncomputable section

namespace Cert.KernelIdeal.Hand

open Cert.Hand Cert.KernelIdeal Cert.KernelIdeal.Gen
open Idealize.ShloMosaic Idealize.ShloMosaic.TcCoe Idealize.SL.Sem
open VecWindow

/-- The weight of the second map, from the four vectors. -/
def lamE (l : S4x64.Idx → EReal) : EReal :=
  Ideal.exp (∑ d : Fin 64, l (ix2 0 d) * l (ix2 1 d)) - Ideal.exp (∑ d : Fin 64, l (ix2 2 d) * l (ix2 3 d)) + Ideal.ofBits FTy.f32 1045220557#32

/-- A row's normalisation by its root mean square, with the weights and the last constant factor. -/
def rmsE (y : Fin 128 → EReal) (w : S1x128.Idx → EReal) (e : Fin 128) : EReal :=
  y e * FloatOps.rsqrt (F := Ideal) (φ := .f32) (Ideal.div (∑ x, y x * y x) (Ideal.ofBits FTy.f32 1124073472#32) + Ideal.ofBits FTy.f32 897988541#32) * w (ix2 0 e) * Ideal.ofBits FTy.f32 1061997773#32

theorem pay42_at (l : FVec Ideal S4x64 .f32) : k0_pay42 (F := Ideal) l (ix2 0 0) = lamE l := by
  unfold lamE
  pointwise [k0_pay42]

variable (l : FVec Ideal S4x64 .f32) (lam : FVec Ideal S1x1 .f32) (w0 w1 w2 w3 : FVec Ideal S1x1024x128 .f32) (w : FVec Ideal S1x128 .f32) (r : Fin 1024) (e : Fin 128)

theorem pay9_at : k0_pay9 (F := Ideal) lam w0 w1 w2 w3 w (ix2 r e)
    = rmsE (fun e => Ideal.div (w0 (ix3 0 r e)) (w1 (ix3 0 r e)) - lam (ix2 0 0) * Ideal.div (w2 (ix3 0 r e)) (w3 (ix3 0 r e))) w e := by
  unfold rmsE
  pointwise [k0_pay9]

theorem pay49_at : k0_pay49 (F := Ideal) lam w0 w1 w2 w3 w (ix2 r e)
    = rmsE (fun e => Ideal.div (w0 (ix3 0 r e)) (w1 (ix3 0 r e)) - lam (ix2 0 0) * Ideal.div (w2 (ix3 0 r e)) (w3 (ix3 0 r e))) w e := by
  unfold rmsE
  pointwise [k0_pay49]

theorem pay48_at : k0_pay48 (F := Ideal) (k0_pay47 lam w0 w1 w2 w3 w) (ix2 r e)
    = rmsE (fun e => Ideal.div (w0 (ix3 0 r e)) (w1 (ix3 0 r e)) - lam (ix2 0 0) * Ideal.div (w2 (ix3 0 r e)) (w3 (ix3 0 r e))) w e := by
  unfold rmsE
  pointwise [k0_pay48, k0_pay47]

theorem pay46_at : k0_pay46 (F := Ideal) (k0_pay43 l w0 w1 w2 w3) (k0_pay44 w) (k0_pay45 l w0 w1 w2 w3) (ix2 r e)
    = rmsE (fun e => Ideal.div (w0 (ix3 0 r e)) (w1 (ix3 0 r e)) - lamE l * Ideal.div (w2 (ix3 0 r e)) (w3 (ix3 0 r e))) w e := by
  unfold rmsE lamE
  pointwise [k0_pay46, k0_pay43, k0_pay44, k0_pay45, k0_pay42]

theorem put2_in {α : Type} {n0 n1 C o : ℕ} (x : (⟨2, ![n0, n1]⟩ : Shape).Idx → α) (w : ((a : Fin 2) → Fin ((![n0, C] : Fin 2 → ℕ) a)) → α)
    (a : Fin n0) (b : Fin n1) (j : Fin C) (hb : b.val = o + j.val) :
    put (s := ⟨2, ![n0, n1]⟩) x ![0, o] ![n0, C] w (ix2 a b) = w (ix2 a j) := by
  have hh : ∀ t : Fin 2, (![0, o] : Fin 2 → ℕ) t ≤ ((ix2 a b : (⟨2, ![n0, n1]⟩ : Shape).Idx) t).val
      ∧ ((ix2 a b : (⟨2, ![n0, n1]⟩ : Shape).Idx) t).val < (![0, o] : Fin 2 → ℕ) t + (![n0, C] : Fin 2 → ℕ) t := by
    intro t
    match t with
    | 0 => show 0 ≤ a.val ∧ a.val < 0 + n0; omega
    | 1 => show o ≤ b.val ∧ b.val < o + C; omega
  refine (dif_pos hh).trans (congrArg w (funext fun t => Fin.ext ?_))
  match t with
  | 0 => show a.val - 0 = a.val; omega
  | 1 => show b.val - o = j.val; omega

theorem put2_out {α : Type} {n0 n1 C o : ℕ} (x : (⟨2, ![n0, n1]⟩ : Shape).Idx → α) (w : ((a : Fin 2) → Fin ((![n0, C] : Fin 2 → ℕ) a)) → α)
    (a : Fin n0) (b : Fin n1) (hb : b.val < o ∨ o + C ≤ b.val) :
    put (s := ⟨2, ![n0, n1]⟩) x ![0, o] ![n0, C] w (ix2 a b) = x (ix2 a b) := by
  refine dif_neg fun hh => ?_
  have h1 : o ≤ b.val ∧ b.val < o + C := hh 1
  omega

/-- An element of the stored block: of head `h`, row `p` and lane `e`. -/
theorem fin_at (X : Ins Ideal) (S : St Ideal) (O : S1024x512.Idx → EReal) (h : Fin 4) (p : Fin 1024) (e : Fin 128) :
    fin X S O (ix2 p ⟨128 * h.val + e.val, by omega⟩)
      = rmsE (fun e => Ideal.div (S.a (ix3 h ⟨p.val, by omega⟩ ⟨e.val, by omega⟩)) (S.a (ix3 h ⟨p.val, by omega⟩ ⟨128 + e.val, by omega⟩))
          - lamE X.l * Ideal.div (S.a (ix3 h ⟨1024 + p.val, by omega⟩ ⟨e.val, by omega⟩)) (S.a (ix3 h ⟨1024 + p.val, by omega⟩ ⟨128 + e.val, by omega⟩))) X.w e := by
  have key : ∀ (h' : Fin 4) (w0 w1 w2 w3 : FVec Ideal S1x1024x128 .f32) (lv : EReal), lv = lamE X.l →
      (∀ e : Fin 128, w0 (ix3 0 p e) = S.a (ix3 h' ⟨p.val, by omega⟩ ⟨e.val, by omega⟩)) →
      (∀ e : Fin 128, w1 (ix3 0 p e) = S.a (ix3 h' ⟨p.val, by omega⟩ ⟨128 + e.val, by omega⟩)) →
      (∀ e : Fin 128, w2 (ix3 0 p e) = S.a (ix3 h' ⟨1024 + p.val, by omega⟩ ⟨e.val, by omega⟩)) →
      (∀ e : Fin 128, w3 (ix3 0 p e) = S.a (ix3 h' ⟨1024 + p.val, by omega⟩ ⟨128 + e.val, by omega⟩)) →
      rmsE (fun e => Ideal.div (w0 (ix3 0 p e)) (w1 (ix3 0 p e)) - lv * Ideal.div (w2 (ix3 0 p e)) (w3 (ix3 0 p e))) X.w e
        = rmsE (fun e => Ideal.div (S.a (ix3 h' ⟨p.val, by omega⟩ ⟨e.val, by omega⟩)) (S.a (ix3 h' ⟨p.val, by omega⟩ ⟨128 + e.val, by omega⟩))
          - lamE X.l * Ideal.div (S.a (ix3 h' ⟨1024 + p.val, by omega⟩ ⟨e.val, by omega⟩)) (S.a (ix3 h' ⟨1024 + p.val, by omega⟩ ⟨128 + e.val, by omega⟩))) X.w e := by
    intro h' w0 w1 w2 w3 lv hl h0 h1 h2 h3
    simp only [hl, h0, h1, h2, h3]
  have hc : h = 0 ∨ h = 1 ∨ h = 2 ∨ h = 3 := by fin_cases h <;> simp
  unfold fin
  rcases hc with rfl | rfl | rfl | rfl
  · refine (put2_out _ _ _ _ (.inl (by show 128 * 0 + e.val < 384; omega))).trans ?_
    refine (put2_out _ _ _ _ (.inl (by show 128 * 0 + e.val < 256; omega))).trans ?_
    refine (put2_out _ _ _ _ (.inl (by show 128 * 0 + e.val < 128; omega))).trans ?_
    refine (put2_in _ _ _ _ e (by show 128 * 0 + e.val = 0 + e.val; omega)).trans ?_
    refine (pay46_at _ _ _ _ _ _ p e).trans ?_
    refine key 0 _ _ _ _ _ rfl (fun e => ?_) (fun e => ?_) (fun e => ?_) (fun e => ?_) <;>
      exact win3 _ _ rfl _ _ _ _ _ _ rfl (by simp) (by simp)
  · refine (put2_out _ _ _ _ (.inl (by show 128 * 1 + e.val < 384; omega))).trans ?_
    refine (put2_out _ _ _ _ (.inl (by show 128 * 1 + e.val < 256; omega))).trans ?_
    refine (put2_in _ _ _ _ e (by show 128 * 1 + e.val = 128 + e.val; omega)).trans ?_
    refine (pay48_at _ _ _ _ _ _ p e).trans ?_
    refine key 1 _ _ _ _ _ (pay42_at _) (fun e => ?_) (fun e => ?_) (fun e => ?_) (fun e => ?_) <;>
      exact win3 _ _ rfl _ _ _ _ _ _ rfl (by simp) (by simp)
  · refine (put2_out _ _ _ _ (.inl (by show 128 * 2 + e.val < 384; omega))).trans ?_
    refine (put2_in _ _ _ _ e (by show 128 * 2 + e.val = 256 + e.val; omega)).trans ?_
    refine (pay49_at _ _ _ _ _ _ p e).trans ?_
    refine key 2 _ _ _ _ _ (pay42_at _) (fun e => ?_) (fun e => ?_) (fun e => ?_) (fun e => ?_) <;>
      exact win3 _ _ rfl _ _ _ _ _ _ rfl (by simp) (by simp)
  · refine (put2_in _ _ _ _ e (by show 128 * 3 + e.val = 384 + e.val; omega)).trans ?_
    refine (pay9_at _ _ _ _ _ _ p e).trans ?_
    refine key 3 _ _ _ _ _ (pay42_at _) (fun e => ?_) (fun e => ?_) (fun e => ?_) (fun e => ?_) <;>
      exact win3 _ _ rfl _ _ _ _ _ _ rfl (by simp) (by simp)

end Cert.KernelIdeal.Hand
-- ==== Proof.VRef.lean ====
/- The reference's result, stage by stage and element by element. -/
module

public import proofs.«01_k».proof.Proof.VMath
public import proofs.«01_k».proof.Proof.Gen.ReferenceIdeal.Run

@[expose] public section

set_option maxRecDepth 16384
set_option maxHeartbeats 4000000

noncomputable section

namespace Cert.ReferenceIdeal.Hand

open Cert.Hand Cert.ReferenceIdeal Cert.ReferenceIdeal.Gen
open Idealize.ShloMosaic Idealize.ShloMosaic.TcCoe Idealize.SL.Sem Idealize.ShloMosaic.StableHlo

section Stages

variable {F : FTy → Type} [FloatOps F]

/-- The scaled scores of all pairs. -/
def refS (q k : FVec F S4x8192x4x2x64 .bf16) : FVec F S4x4x2x8192x8192 .f32 :=
  (mulf (Host.dotGeneral dot_S4x8192x4x2x64_S4x8192x4x2x64_S4x4x2x8192x8192_4_4_1_1_023_023 none q k) (broadcastInDim S4x4x2x8192x8192 ![] bcast_S_S4x4x2x8192x8192 (constant S_ .f32 0x3E000000#32)))

/-- The scores with minus infinity at the keys after the query. -/
def refM (s : FVec F S4x4x2x8192x8192 .f32) : FVec F S4x4x2x8192x8192 .f32 :=
  (select (broadcastInDim S4x4x2x8192x8192 ![3, 4] bcast_S8192x8192_S4x4x2x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) s (broadcastInDim S4x4x2x8192x8192 ![] bcast_S_S4x4x2x8192x8192 (constant S_ .f32 0xFF800000#32)))

/-- A row's largest score. -/
def refX (t : FVec F S4x4x2x8192x8192 .f32) : FVec F S4x4x2x8192 .f32 :=
  (Host.reduce FloatOps.maximumf t (constant S_ .f32 0xFF800000#32) reducesTo_S4x4x2x8192x8192_S4x4x2x8192_d4 h_S_)

/-- The exponentials of the scores less the row's largest. -/
def refE (t : FVec F S4x4x2x8192x8192 .f32) (x : FVec F S4x4x2x8192 .f32) : FVec F S4x4x2x8192x8192 .f32 :=
  (Host.exp (subf t (broadcastInDim S4x4x2x8192x8192 ![0, 1, 2, 3, 4] bcast_S4x4x2x8192x1_S4x4x2x8192x8192_0_1_2_3_4 (broadcastInDim S4x4x2x8192x1 ![0, 1, 2, 3] bcast_S4x4x2x8192_S4x4x2x8192x1_0_1_2_3 (maximumf (broadcastInDim S4x4x2x8192 ![] bcast_S_S4x4x2x8192 (constant S_ .f32 0xFF800000#32)) x)))))

/-- Every row divided by its sum. -/
def refD (u : FVec F S4x4x2x8192x8192 .f32) : FVec F S4x4x2x8192x8192 .f32 :=
  (Host.divf u (broadcastInDim S4x4x2x8192x8192 ![0, 1, 2, 3, 4] bcast_S4x4x2x8192x1_S4x4x2x8192x8192_0_1_2_3_4 (broadcastInDim S4x4x2x8192x1 ![0, 1, 2, 3] bcast_S4x4x2x8192_S4x4x2x8192x1_0_1_2_3 (Host.reduceAdd u (constant S_ .f32 0x00000000#32) reducesTo_S4x4x2x8192x8192_S4x4x2x8192_d4 h_S_))))

/-- The softmax over the keys. -/
def refP (t : FVec F S4x4x2x8192x8192 .f32) : FVec F S4x4x2x8192x8192 .f32 :=
  refD (refE t (refX t))

/-- The second map's weight. -/
def refL (l : FVec F S4x64 .f32) : FVec F S_ .f32 :=
  (addf (subf (Host.exp (Host.reduceAdd (mulf (shapeCast S64 (extractStridedSlice S1x64 ![0, 0] l slices_S4x64_S1x64_0_0) shapeCasts_S1x64_S64) (shapeCast S64 (extractStridedSlice S1x64 ![1, 0] l slices_S4x64_S1x64_1_0) shapeCasts_S1x64_S64)) (constant S_ .f32 0x00000000#32) reducesTo_S64_S_d0 h_S_)) (Host.exp (Host.reduceAdd (mulf (shapeCast S64 (extractStridedSlice S1x64 ![2, 0] l slices_S4x64_S1x64_2_0) shapeCasts_S1x64_S64) (shapeCast S64 (extractStridedSlice S1x64 ![3, 0] l slices_S4x64_S1x64_3_0) shapeCasts_S1x64_S64)) (constant S_ .f32 0x00000000#32) reducesTo_S64_S_d0 h_S_))) (constant S_ .f32 0x3E4CCCCD#32))

/-- The two maps' difference. -/
def refA (p : FVec F S4x4x2x8192x8192 .f32) (c : FVec F S_ .f32) : FVec F S4x4x8192x8192 .f32 :=
  (subf (shapeCast S4x4x8192x8192 (extractStridedSlice S4x4x1x8192x8192 ![0, 0, 0, 0, 0] p slices_S4x4x2x8192x8192_S4x4x1x8192x8192_0_0_0_0_0) shapeCasts_S4x4x1x8192x8192_S4x4x8192x8192) (mulf (broadcastInDim S4x4x8192x8192 ![] bcast_S_S4x4x8192x8192 c) (shapeCast S4x4x8192x8192 (extractStridedSlice S4x4x1x8192x8192 ![0, 0, 1, 0, 0] p slices_S4x4x2x8192x8192_S4x4x1x8192x8192_0_0_1_0_0) shapeCasts_S4x4x1x8192x8192_S4x4x8192x8192)))

/-- The weighted sums of the values. -/
def refO (v : FVec F S4x8192x4x128 .bf16) (a : FVec F S4x4x8192x8192 .bf16) : FVec F S4x8192x4x128 .f32 :=
  (transpose S4x8192x4x128 [0, 3, 1, 2] (Host.dotGeneral dot_S4x8192x4x128_S4x4x8192x8192_S4x4x128x8192_1_3_3_2_02_01 none v a) transposes_S4x4x128x8192_S4x8192x4x128_0_3_1_2)

/-- The normalised rows. -/
def refF (o : FVec F S4x8192x4x128 .f32) (w : FVec F S128 .f32) : FVec F S32768x512 .bf16 :=
  (shapeCast S32768x512 (truncf .bf16 (mulf (extf .f32 (truncf .bf16 (mulf (mulf (extf .f32 (truncf .bf16 o bitsLt_bf16_f32) bitsLt_bf16_f32) (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2 (Host.reduceAdd (mulf (extf .f32 (truncf .bf16 o bitsLt_bf16_f32) bitsLt_bf16_f32) (extf .f32 (truncf .bf16 o bitsLt_bf16_f32) bitsLt_bf16_f32)) (constant S_ .f32 0x00000000#32) reducesTo_S4x8192x4x128_S4x8192x4_d3 h_S_)) (broadcastInDim S4x8192x4x1 ![] bcast_S_S4x8192x4x1 (constant S_ .f32 0x43000000#32))) (broadcastInDim S4x8192x4x1 ![] bcast_S_S4x8192x4x1 (constant S_ .f32 0x358637BD#32)))))) (broadcastInDim S4x8192x4x128 ![0, 1, 2, 3] bcast_S1x1x1x128_S4x8192x4x128_0_1_2_3 (broadcastInDim S1x1x1x128 ![3] bcast_S128_S1x1x1x128_3 w))) bitsLt_bf16_f32) bitsLt_bf16_f32) (broadcastInDim S4x8192x4x128 ![] bcast_S_S4x8192x4x128 (constant S_ .f32 0x3F4CCCCD#32))) bitsLt_bf16_f32) shapeCasts_S4x8192x4x128_S32768x512)

theorem res_eq (m : (ℓ : Loc nD τ sig) → Buf (Elt F) ℓ) (c : Dev nD) :
    Cert.ReferenceIdeal.Value.res_main_v70 m c = refF (refO (truncf .bf16 (m ((c.tc : Thread nD τ).loc main_arg2)) bitsLt_bf16_f32) (truncf .bf16 (refA (refP (refM (refS (truncf .bf16 (m ((c.tc : Thread nD τ).loc main_arg0)) bitsLt_bf16_f32) (truncf .bf16 (m ((c.tc : Thread nD τ).loc main_arg1)) bitsLt_bf16_f32)))) (refL (m ((c.tc : Thread nD τ).loc main_arg5)))) bitsLt_bf16_f32)) (m ((c.tc : Thread nD τ).loc main_arg6)) := rfl

end Stages

theorem refS_at (q k : FVec Ideal S4x8192x4x2x64 .bf16) (b h : Fin 4) (μ : Fin 2) (t j : Fin 8192) :
    refS (F := Ideal) q k (ix5 b h μ t j) = (∑ x : Fin 64, (q (ix5 b t h μ x) : EReal) * (k (ix5 b j h μ x) : EReal)) * Ideal.ofBits FTy.f32 1040187392#32 := by
  pointwise [refS]

theorem refM_at (s : FVec Ideal S4x4x2x8192x8192 .f32) (b h : Fin 4) (μ : Fin 2) (t j : Fin 8192) :
    refM (F := Ideal) s (ix5 b h μ t j) = if j.val ≤ t.val then s (ix5 b h μ t j) else (⊥ : EReal) := by
  refine Eq.trans (b := Scalar.select (IntOp.cmpi CmpIPredicate.sle (BitVec.ofNat 32 j.val) (BitVec.ofNat 32 t.val)) (s (ix5 b h μ t j)) (Ideal.ofBits FTy.f32 4286578688#32)) ?_ ?_
  · pointwise [refM]
  · rw [select_of _ _ (sle_nat _ _ (by omega) (by omega)), negInf]

theorem refX_at (s : FVec Ideal S4x4x2x8192x8192 .f32) (b h : Fin 4) (μ : Fin 2) (t : Fin 8192) :
    refX (F := Ideal) s (ix4 b h μ t) = Finset.fold max (Ideal.ofBits FTy.f32 4286578688#32) (fun x => s (ix5 b h μ t x)) Finset.univ := by
  pointwise [refX]

theorem refE_at (s : FVec Ideal S4x4x2x8192x8192 .f32) (x : FVec Ideal S4x4x2x8192 .f32) (b h : Fin 4) (μ : Fin 2) (t j : Fin 8192) :
    refE (F := Ideal) s x (ix5 b h μ t j) = Ideal.exp (s (ix5 b h μ t j) - max (Ideal.ofBits FTy.f32 4286578688#32) (x (ix4 b h μ t))) := by
  pointwise [refE]

theorem refD_at (u : FVec Ideal S4x4x2x8192x8192 .f32) (b h : Fin 4) (μ : Fin 2) (t j : Fin 8192) :
    refD (F := Ideal) u (ix5 b h μ t j) = Ideal.div (u (ix5 b h μ t j)) (∑ x, u (ix5 b h μ t x)) := by
  pointwise [refD]

theorem refL_at (l : FVec Ideal S4x64 .f32) : refL (F := Ideal) l ix0 = Ideal.exp (∑ d : Fin 64, l (ix2 0 d) * l (ix2 1 d)) - Ideal.exp (∑ d : Fin 64, l (ix2 2 d) * l (ix2 3 d)) + Ideal.ofBits FTy.f32 1045220557#32 := by
  pointwise [refL]

theorem refA_at (p : FVec Ideal S4x4x2x8192x8192 .f32) (c : FVec Ideal S_ .f32) (b h : Fin 4) (t j : Fin 8192) :
    refA (F := Ideal) p c (ix4 b h t j) = p (ix5 b h 0 t j) - c ix0 * p (ix5 b h 1 t j) := by
  pointwise [refA]

theorem refO_at (v : FVec Ideal S4x8192x4x128 .bf16) (a : FVec Ideal S4x4x8192x8192 .bf16) (b h : Fin 4) (t : Fin 8192) (e : Fin 128) :
    refO (F := Ideal) v a (ix4 b t h e) = ∑ x : Fin 8192, (v (ix4 b x h e) : EReal) * (a (ix4 b h t x) : EReal) := by
  pointwise [refO]

theorem refF_at (o : FVec Ideal S4x8192x4x128 .f32) (w : FVec Ideal S128 .f32) (T : Fin 32768) (c : Fin 512) :
    refF (F := Ideal) o w (ix2 T c) = o (ix4 ⟨T.val / 8192, by omega⟩ ⟨T.val % 8192, by omega⟩ ⟨c.val / 128, by omega⟩ ⟨c.val % 128, by omega⟩)
      * Ideal.rsqrt (Ideal.div (∑ x : Fin 128, o (ix4 ⟨T.val / 8192, by omega⟩ ⟨T.val % 8192, by omega⟩ ⟨c.val / 128, by omega⟩ x) * o (ix4 ⟨T.val / 8192, by omega⟩ ⟨T.val % 8192, by omega⟩ ⟨c.val / 128, by omega⟩ x)) (Ideal.ofBits FTy.f32 1124073472#32) + Ideal.ofBits FTy.f32 897988541#32)
      * w (ix1 ⟨c.val % 128, by omega⟩) * Ideal.ofBits FTy.f32 1061997773#32 := by
  pointwise [refF]

end Cert.ReferenceIdeal.Hand
-- ==== Proof.VSame.lean ====
/- The reference's result is the kernel's. -/
module

public import proofs.«01_k».proof.Proof.VOut
public import proofs.«01_k».proof.Proof.VRef

@[expose] public section

set_option maxRecDepth 16384
set_option maxHeartbeats 4000000

noncomputable section

namespace Cert.KernelIdeal.Hand

open Cert.Hand Cert.ReferenceIdeal.Hand
open Idealize.ShloMosaic

/-- A cast keeps the value. -/
theorem trunc_at {s : Shape} (x : FVec Ideal s .f32) (h : FTy.bits .bf16 < FTy.bits .f32) (i : s.Idx) : truncf (F := Ideal) .bf16 x h i = x i := rfl

/-- The second map's factor is a real number. -/
theorem lam_real (l : S4x64.Idx → ℝ) : ∃ r : ℝ, lamE (fun i => (l i : EReal)) = (r : EReal) := by
  obtain ⟨f, hf⟩ := word_fifth
  refine ⟨Real.exp (∑ d : Fin 64, l (ix2 0 d) * l (ix2 1 d)) - Real.exp (∑ d : Fin 64, l (ix2 2 d) * l (ix2 3 d)) + f, ?_⟩
  unfold lamE
  rw [hf]
  simp only [← EReal.coe_mul, ← coe_sum, Ideal.exp_coe, ← EReal.coe_sub, ← EReal.coe_add]

section Rows

variable (qr kr : Cert.ReferenceIdeal.S4x8192x4x2x64.Idx → ℝ) (vr : Cert.ReferenceIdeal.S4x8192x4x128.Idx → ℝ) (lr : Cert.ReferenceIdeal.S4x64.Idx → ℝ)

/-- The masked scores. -/
theorem scores_at (b h : Fin 4) (μ : Fin 2) (t j : Fin 8192) :
    refM (F := Ideal) (refS (fun i => (qr i : EReal)) (fun i => (kr i : EReal))) (ix5 b h μ t j) = if j.val < t.val + 1 then (score qr kr b h μ t j.val : EReal) else ⊥ := by
  rw [refM_at, refS_at]
  by_cases hj : j.val ≤ t.val
  · rw [if_pos hj, if_pos (Nat.lt_succ_of_le hj), word_eighth]
    unfold score
    have ej : (⟨j.val % 8192, by omega⟩ : Fin 8192) = j := Fin.ext (Nat.mod_eq_of_lt j.isLt)
    simp only [ej, ← EReal.coe_mul, ← coe_sum]
  · rw [if_neg hj, if_neg (fun h => hj (Nat.lt_succ_iff.1 h))]

/-- The softmax of the masked scores. -/
theorem probs_at (b h : Fin 4) (μ : Fin 2) (t j : Fin 8192) :
    refP (F := Ideal) (refM (refS (fun i => (qr i : EReal)) (fun i => (kr i : EReal)))) (ix5 b h μ t j)
      = ((if j.val < t.val + 1 then Real.exp (score qr kr b h μ t j.val) / ∑ i ∈ Finset.range (t.val + 1), Real.exp (score qr kr b h μ t i) else 0 : ℝ) : EReal) := by
  have H := soft_row (N := 8192) (score qr kr b h μ t) (t.val + 1) (Nat.succ_pos _) t.isLt (fun j => refM (F := Ideal) (refS (fun i => (qr i : EReal)) (fun i => (kr i : EReal))) (ix5 b h μ t j)) (scores_at qr kr b h μ t) j
  unfold refP
  rw [refD_at]
  simp only [refE_at, refX_at, negInf]
  exact H

/-- The reference's rows before they are normed. -/
theorem diff_at (b h : Fin 4) (t : Fin 8192) (e : Fin 128) :
    refO (F := Ideal) (fun i => (vr i : EReal)) (truncf .bf16 (refA (refP (refM (refS (fun i => (qr i : EReal)) (fun i => (kr i : EReal))))) (refL (fun i => (lr i : EReal)))) Cert.ReferenceIdeal.Facts₀.bitsLt_bf16_f32) (ix4 b t h e)
      = ((avg (score qr kr b h 0 t) (valAt vr b h e) (t.val + 1) : ℝ) : EReal) - lamE (fun i => (lr i : EReal)) * ((avg (score qr kr b h 1 t) (valAt vr b h e) (t.val + 1) : ℝ) : EReal) := by
  rw [refO_at]
  obtain ⟨r, hr⟩ := lam_real lr
  have hl : refL (F := Ideal) (fun i => (lr i : EReal)) Idealize.ShloMosaic.ix0 = (r : EReal) := (refL_at _).trans hr
  rw [hr]
  simp only [trunc_at, refA_at, hl]
  refine diff_sum (N := 8192) _ _ _ (t.val + 1) t.isLt r _ _ _ (fun j => ?_) (probs_at qr kr b h 0 t) (probs_at qr kr b h 1 t)
  unfold valAt
  have ej : (⟨j.val % 8192, by omega⟩ : Fin 8192) = j := Fin.ext (Nat.mod_eq_of_lt j.isLt)
  rw [ej]

/-- The reference's result at an element. -/
theorem ref_at (w : Cert.ReferenceIdeal.S128.Idx → EReal) (T : Fin 32768) (c : Fin 512) :
    refF (F := Ideal) (refO (fun i => (vr i : EReal)) (truncf .bf16 (refA (refP (refM (refS (fun i => (qr i : EReal)) (fun i => (kr i : EReal))))) (refL (fun i => (lr i : EReal)))) Cert.ReferenceIdeal.Facts₀.bitsLt_bf16_f32)) w (ix2 T c)
      = outAt qr kr vr (fun i => (lr i : EReal)) w T c := by
  rw [refF_at]
  simp only [diff_at]
  rfl

end Rows

/-- The two programs' results, from the same real queries, keys, values and vectors of the factor. -/
theorem same (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (qr kr : Cert.ReferenceIdeal.S4x8192x4x2x64.Idx → ℝ) (vr : Cert.ReferenceIdeal.S4x8192x4x128.Idx → ℝ) (lr : Cert.ReferenceIdeal.S4x64.Idx → ℝ)
    (hq : m (((0 : Dev Cert.KernelIdeal.nD).tc : Thread Cert.KernelIdeal.nD Cert.KernelIdeal.τ).loc Cert.KernelIdeal.main_arg0) = fun i => (qr i : EReal))
    (hk : m (((0 : Dev Cert.KernelIdeal.nD).tc : Thread Cert.KernelIdeal.nD Cert.KernelIdeal.τ).loc Cert.KernelIdeal.main_arg1) = fun i => (kr i : EReal))
    (hv : m (((0 : Dev Cert.KernelIdeal.nD).tc : Thread Cert.KernelIdeal.nD Cert.KernelIdeal.τ).loc Cert.KernelIdeal.main_arg2) = fun i => (vr i : EReal))
    (hl : m (((0 : Dev Cert.KernelIdeal.nD).tc : Thread Cert.KernelIdeal.nD Cert.KernelIdeal.τ).loc Cert.KernelIdeal.main_arg5) = fun i => (lr i : EReal))
    (e0 : m' (((0 : Dev Cert.ReferenceIdeal.nD).tc : Thread Cert.ReferenceIdeal.nD Cert.ReferenceIdeal.τ).loc Cert.ReferenceIdeal.main_arg0) = m (((0 : Dev Cert.KernelIdeal.nD).tc : Thread Cert.KernelIdeal.nD Cert.KernelIdeal.τ).loc Cert.KernelIdeal.main_arg0))
    (e1 : m' (((0 : Dev Cert.ReferenceIdeal.nD).tc : Thread Cert.ReferenceIdeal.nD Cert.ReferenceIdeal.τ).loc Cert.ReferenceIdeal.main_arg1) = m (((0 : Dev Cert.KernelIdeal.nD).tc : Thread Cert.KernelIdeal.nD Cert.KernelIdeal.τ).loc Cert.KernelIdeal.main_arg1))
    (e2 : m' (((0 : Dev Cert.ReferenceIdeal.nD).tc : Thread Cert.ReferenceIdeal.nD Cert.ReferenceIdeal.τ).loc Cert.ReferenceIdeal.main_arg2) = m (((0 : Dev Cert.KernelIdeal.nD).tc : Thread Cert.KernelIdeal.nD Cert.KernelIdeal.τ).loc Cert.KernelIdeal.main_arg2))
    (e5 : m' (((0 : Dev Cert.ReferenceIdeal.nD).tc : Thread Cert.ReferenceIdeal.nD Cert.ReferenceIdeal.τ).loc Cert.ReferenceIdeal.main_arg5) = m (((0 : Dev Cert.KernelIdeal.nD).tc : Thread Cert.KernelIdeal.nD Cert.KernelIdeal.τ).loc Cert.KernelIdeal.main_arg5))
    (e6 : m' (((0 : Dev Cert.ReferenceIdeal.nD).tc : Thread Cert.ReferenceIdeal.nD Cert.ReferenceIdeal.τ).loc Cert.ReferenceIdeal.main_arg6) = m (((0 : Dev Cert.KernelIdeal.nD).tc : Thread Cert.KernelIdeal.nD Cert.KernelIdeal.τ).loc Cert.KernelIdeal.main_arg6)) :
    Cert.ReferenceIdeal.Value.res_main_v70 m' 0
      = (show S32768x512.Idx → EReal from fun i => outAt qr kr vr (m (((0 : Dev Cert.KernelIdeal.nD).tc : Thread Cert.KernelIdeal.nD Cert.KernelIdeal.τ).loc Cert.KernelIdeal.main_arg5)) (m (((0 : Dev Cert.KernelIdeal.nD).tc : Thread Cert.KernelIdeal.nD Cert.KernelIdeal.τ).loc Cert.KernelIdeal.main_arg6)) (i 0) (i 1)) := by
  refine (res_eq m' 0).trans ?_
  rw [e0, e1, e2, e5, e6, hq, hk, hv, hl]
  refine funext fun (i : S32768x512.Idx) => ?_
  rw [eq_ix2 i]
  exact ref_at qr kr vr lr (m (((0 : Dev Cert.KernelIdeal.nD).tc : Thread Cert.KernelIdeal.nD Cert.KernelIdeal.τ).loc Cert.KernelIdeal.main_arg6)) (i 0) (i 1)

end Cert.KernelIdeal.Hand
-- ==== Proof.NextVHost.lean ====
/- The second layer's attention: the arrays that the grid reads, element by element, from the arguments. -/
module

public import proofs.«01_k».proof.Proof.VHost
public import proofs.«01_k».proof.Proof.NextKIRun

@[expose] public section

set_option maxRecDepth 16384
set_option maxHeartbeats 4000000

noncomputable section

namespace Cert.NextKernelIdeal.Hand

open Cert.Hand Cert.KernelIdeal.Hand Cert.NextKernelIdeal Cert.NextKernelIdeal.Gen
open Idealize.ShloMosaic Idealize.ShloMosaic.TcCoe Idealize.SL.Sem

section Arrays

variable {F : FTy → Type} [FloatOps F]

variable (m : (ℓ : Loc nD τ sig) → Buf (Elt F) ℓ) (c : Dev nD)

theorem V_q : V m c main_v14 = hostQf (hostQs (hostQ0 (hostQ (m ((c.tc : Thread nD τ).loc main_arg0)))) (hostQ1 (hostQ (m ((c.tc : Thread nD τ).loc main_arg0))))) :=
  Cert.KernelIdeal.Hand.V_q m c
theorem V_k : V m c main_v16 = hostK (m ((c.tc : Thread nD τ).loc main_arg1)) :=
  Cert.KernelIdeal.Hand.V_k m c
theorem V_v : V m c main_v20 = hostVf (hostV (m ((c.tc : Thread nD τ).loc main_arg2))) :=
  Cert.KernelIdeal.Hand.V_v m c
theorem V_b : V m c main_v31 = hostBf (hostB (hostMax (m ((c.tc : Thread nD τ).loc main_arg3))) (hostMax (m ((c.tc : Thread nD τ).loc main_arg4)))) :=
  Cert.KernelIdeal.Hand.V_b m c
theorem V_f : V m c main_v30 = hostFl (hostB (hostMax (m ((c.tc : Thread nD τ).loc main_arg3))) (hostMax (m ((c.tc : Thread nD τ).loc main_arg4)))) :=
  Cert.KernelIdeal.Hand.V_f m c
theorem V_w : V m c main_v32 = hostW (m ((c.tc : Thread nD τ).loc main_arg6)) :=
  Cert.KernelIdeal.Hand.V_w m c

end Arrays

theorem word_fifth : ∃ r : ℝ, Ideal.ofBits FTy.f32 1052116297#32 = (r : EReal) := by
  refine ⟨_, by simp [Ideal.ofBits, Ideal.ieee]; rfl⟩

end Cert.NextKernelIdeal.Hand
-- ==== Proof.NextVBlk.lean ====
/- The second layer's attention: the blocks of a grid point, element by element, from the arrays they are blocks of. -/
module

public import proofs.«01_k».proof.Proof.NextKIDat
public import Idealize.ShloMosaic.Lib.Pointwise
public import Idealize.ShloMosaic.Lib.Pipeline.Value

@[expose] public section

set_option maxRecDepth 16384
set_option maxHeartbeats 4000000

noncomputable section

namespace Cert.NextKernelIdeal.Hand

open Cert.KernelIdeal.Hand Cert.NextKernelIdeal Cert.NextKernelIdeal.Gen
open Idealize.ShloMosaic Idealize.ShloMosaic.TcCoe Idealize.SL.Sem

variable {F : FTy → Type} [FloatOps F]
variable (x : S1.Idx → BitVec 32) (A : (c : Dev nD) → (b : Ref sig .tc) → Buf (Elt F) ((c : Thread nD τ).loc b)) (c : Dev nD) (t : Fin grid0.N)

theorem qB_lt : ∀ i : grid0.Coords, qB i < 32 := by decide +kernel
theorem kB_lt : ∀ i : grid0.Coords, kB i < 32 := by decide +kernel

theorem blk_q (ν : Fin 2) (p : Fin 1024) (e : Fin 512) :
    iblk x A c 1 t (ix3 ν p e) = A c main_v14 (ix3 ν ⟨qB (grid0.coords t) * 1024 + p.val, by have := qB_lt (grid0.coords t); omega⟩ e) := by
  refine congrArg (A c main_v14) (funext fun a => Fin.ext ?_)
  refine (Pipeline.Window.rect_emb_val ((cfgM (F := F) x).win 1) t (ix3 ν p e) a).trans ?_
  have h : ((cfgM (F := F) x).win 1).index t a = (![0, qB (grid0.coords t), 0] : Fin 3 → ℕ) a := congrFun (tr1 x (grid0.coords t)) a
  rw [h]
  match a with
  | 0 => show 0 * 2 + ν.val = ν.val; omega
  | 1 => rfl
  | 2 => show 0 * 512 + e.val = e.val; omega

theorem blk_k (p : Fin 1024) (e : Fin 512) :
    iblk x A c 2 t (ix2 p e) = A c main_v16 (ix2 ⟨kB (grid0.coords t) * 1024 + p.val, by have := kB_lt (grid0.coords t); omega⟩ e) := by
  refine congrArg (A c main_v16) (funext fun a => Fin.ext ?_)
  refine (Pipeline.Window.rect_emb_val ((cfgM (F := F) x).win 2) t (ix2 p e) a).trans ?_
  have h : ((cfgM (F := F) x).win 2).index t a = (![kB (grid0.coords t), 0] : Fin 2 → ℕ) a := congrFun (tr2 x (grid0.coords t)) a
  rw [h]
  match a with
  | 0 => rfl
  | 1 => show 0 * 512 + e.val = e.val; omega

theorem blk_v (p : Fin 1024) (e : Fin 1024) :
    iblk x A c 3 t (ix2 p e) = A c main_v20 (ix2 ⟨kB (grid0.coords t) * 1024 + p.val, by have := kB_lt (grid0.coords t); omega⟩ e) := by
  refine congrArg (A c main_v20) (funext fun a => Fin.ext ?_)
  refine (Pipeline.Window.rect_emb_val ((cfgM (F := F) x).win 3) t (ix2 p e) a).trans ?_
  have h : ((cfgM (F := F) x).win 3).index t a = (![kB (grid0.coords t), 0] : Fin 2 → ℕ) a := congrFun (tr3 x (grid0.coords t)) a
  rw [h]
  match a with
  | 0 => rfl
  | 1 => show 0 * 1024 + e.val = e.val; omega

theorem blk_l (i : Fin 4) (d : Fin 64) : iblk x A c 4 t (ix2 i d) = A c main_arg5 (ix2 i d) := by
  refine congrArg (A c main_arg5) (funext fun a => Fin.ext ?_)
  refine (Pipeline.Window.rect_emb_val ((cfgM (F := F) x).win 4) t (ix2 i d) a).trans ?_
  have h : ((cfgM (F := F) x).win 4).index t a = (![0, 0] : Fin 2 → ℕ) a := congrFun (tr4 (F := F) x (grid0.coords t)) a
  rw [h]
  match a with
  | 0 => show 0 * 4 + i.val = i.val; omega
  | 1 => show 0 * 64 + d.val = d.val; omega

theorem blk_w (e : Fin 128) : iblk x A c 5 t (ix2 0 e) = A c main_v32 (ix2 0 e) := by
  refine congrArg (A c main_v32) (funext fun a => Fin.ext ?_)
  refine (Pipeline.Window.rect_emb_val ((cfgM (F := F) x).win 5) t (ix2 0 e) a).trans ?_
  have h : ((cfgM (F := F) x).win 5).index t a = (![0, 0] : Fin 2 → ℕ) a := congrFun (tr5 (F := F) x (grid0.coords t)) a
  rw [h]
  match a with
  | 0 => rfl
  | 1 => show 0 * 128 + e.val = e.val; omega

theorem blk_b : (insAt x A c t).bound = A c main_v31 (ix1 0) := by
  refine congrArg (A c main_v31) (funext fun a => ?_)
  match a with
  | 0 => exact Subsingleton.elim (α := Fin 1) _ _

theorem flag_eq (y : S1.Idx → BitVec 32) : flag y = y (ix1 0) := by
  refine congrArg y (funext fun a => ?_)
  match a with
  | 0 => exact Subsingleton.elim (α := Fin 1) _ _

/-- Where an element of the output's block lies. -/
theorem blk_o (G : S32768x512.Idx → Elt F .bf16) (p : Fin 1024) (e : Fin 512) :
    (((cfgM (F := F) x).win 6).blk t).view.read (Elt F) (show Buf (Elt F) ((((cfgM (F := F) x).win 6).arr.view.loc (c.tc : Thread nD τ))) from G) (ix2 p e)
      = G (ix2 ⟨qB (grid0.coords t) * 1024 + p.val, by have := qB_lt (grid0.coords t); omega⟩ e) := by
  refine congrArg (α := S32768x512.Idx) G (funext fun (a : Fin 2) => Fin.ext ?_)
  refine (Pipeline.Window.rect_emb_val ((cfgM (F := F) x).win 6) t (ix2 p e) a).trans ?_
  have h : ((cfgM (F := F) x).win 6).index t a = (![qB (grid0.coords t), 0] : Fin 2 → ℕ) a := congrFun (tr6 x (grid0.coords t)) a
  rw [h]
  match a with
  | 0 => rfl
  | 1 => show 0 * 512 + e.val = e.val; omega

end Cert.NextKernelIdeal.Hand
-- ==== Proof.NextVScore.lean ====
/- The second layer's attention: the scores and the values that a grid point meets, as real numbers. -/
module

public import proofs.«01_k».proof.Proof.NextVHost
public import proofs.«01_k».proof.Proof.NextVBlk
public import proofs.«01_k».proof.Proof.VScore

@[expose] public section

set_option maxRecDepth 16384
set_option maxHeartbeats 4000000

noncomputable section

namespace Cert.NextKernelIdeal.Hand

open Cert.Hand Cert.KernelIdeal.Hand Cert.NextKernelIdeal Cert.NextKernelIdeal.Gen
open Idealize.ShloMosaic Idealize.ShloMosaic.TcCoe Idealize.SL.Sem

variable (qr kr : S4x8192x4x2x64.Idx → ℝ) (vr : S4x8192x4x128.Idx → ℝ)

/-- A point's sequence, query block and key block. -/
def bN (i : grid0.Coords) : Fin 4 := ⟨(i 0).val, (i 0).isLt⟩
def qN (i : grid0.Coords) : ℕ := (qiW i).toNat
def kN (i : grid0.Coords) : ℕ := (kiW i).toNat

theorem qB_eq : ∀ i : grid0.Coords, qB i = (bN i).val * 8 + qN i ∧ qN i < 8 := by decide +kernel
theorem kB_eq : ∀ i : grid0.Coords, kB i = (bN i).val * 8 + kN i ∧ kN i < 8 := by decide +kernel

variable (m : (ℓ : Loc nD τ sig) → Buf (Elt Ideal) ℓ)

/-- The arrays that a point reads. -/
abbrev XM (t : Fin grid0.N) : Ins Ideal := insAt (F := Ideal) (flags m) (V m) 0 t

section Point

variable (hq : m (((0 : Dev nD).tc : Thread nD τ).loc main_arg0) = fun i => (qr i : EReal)) (hk : m (((0 : Dev nD).tc : Thread nD τ).loc main_arg1) = fun i => (kr i : EReal))
  (hv : m (((0 : Dev nD).tc : Thread nD τ).loc main_arg2) = fun i => (vr i : EReal)) (t : Fin grid0.N)

include hq hk in
theorem sc_real (h : Fin 4) (r : Fin 2048) (c : Fin 1024) (tp : Fin 8192) (htp : tp.val = qN (grid0.coords t) * 1024 + r.val % 1024) :
    sc (XM m t) h r c = ((score qr kr (bN (grid0.coords t)) h ⟨r.val / 1024, by omega⟩ tp (kN (grid0.coords t) * 1024 + c.val) / Real.log 2 : ℝ) : EReal) := by
  obtain ⟨q1, q2⟩ := qB_eq (grid0.coords t)
  obtain ⟨k1, k2⟩ := kB_eq (grid0.coords t)
  generalize hb : bN (grid0.coords t) = b at *
  generalize hqn : qN (grid0.coords t) = qn at *
  generalize hkn : kN (grid0.coords t) = kn at *
  have hj : kn * 1024 + c.val < 8192 := by omega
  have term : ∀ d : Fin 128, (show EReal from (XM m t).q (ix3 ⟨r.val / 1024, by omega⟩ ⟨r.val % 1024, by omega⟩ ⟨128 * h.val + d.val, by omega⟩)) * (show EReal from (XM m t).k (ix2 c ⟨128 * h.val + d.val, by omega⟩))
      = ((if d.val / 64 = (⟨r.val / 1024, by omega⟩ : Fin 2).val then (fun n : ℕ => qr (ix5 b tp h ⟨r.val / 1024, by omega⟩ ⟨n % 64, by omega⟩) * (1 / 8 / Real.log 2) * kr (ix5 b ⟨(kn * 1024 + c.val) % 8192, by omega⟩ h ⟨r.val / 1024, by omega⟩ ⟨n % 64, by omega⟩)) (d.val % 64) else 0 : ℝ) : EReal) := by
    intro d
    have e1 : (show EReal from (XM m t).q (ix3 ⟨r.val / 1024, by omega⟩ ⟨r.val % 1024, by omega⟩ ⟨128 * h.val + d.val, by omega⟩)) = _ :=
      (blk_q (F := Ideal) (flags m) (V m) 0 t ⟨r.val / 1024, by omega⟩ ⟨r.val % 1024, by omega⟩ ⟨128 * h.val + d.val, by omega⟩).trans
        ((congrFun ((V_q m 0).trans (by rw [hq])) _).trans (q_full qr _ _ _ b tp h ⟨d.val / 64, by omega⟩ ⟨d.val % 64, by omega⟩
          (by show qB (grid0.coords t) * 1024 + r.val % 1024 = _; omega) (by show 128 * h.val + d.val = 128 * h.val + 64 * (d.val / 64) + d.val % 64; omega)))
    have e2 : (show EReal from (XM m t).k (ix2 c ⟨128 * h.val + d.val, by omega⟩)) = _ :=
      (blk_k (F := Ideal) (flags m) (V m) 0 t c ⟨128 * h.val + d.val, by omega⟩).trans
        ((congrFun ((V_k m 0).trans (by rw [hk])) _).trans (k_full kr _ _ b ⟨kn * 1024 + c.val, hj⟩ h ⟨d.val / 64, by omega⟩ ⟨d.val % 64, by omega⟩
          (by show kB (grid0.coords t) * 1024 + c.val = b.val * 8192 + (kn * 1024 + c.val); omega) (by show 128 * h.val + d.val = 128 * h.val + 64 * (d.val / 64) + d.val % 64; omega)))
    rw [e1, e2, ← EReal.coe_mul]
    congr 1
    have ej : (⟨(kn * 1024 + c.val) % 8192, by omega⟩ : Fin 8192) = ⟨kn * 1024 + c.val, hj⟩ := Fin.ext (Nat.mod_eq_of_lt hj)
    have ed : (⟨d.val % 64 % 64, by omega⟩ : Fin 64) = ⟨d.val % 64, by omega⟩ := Fin.ext (by show d.val % 64 % 64 = d.val % 64; omega)
    by_cases hd : d.val / 64 = r.val / 1024
    · have eν : (⟨d.val / 64, by omega⟩ : Fin 2) = ⟨r.val / 1024, by omega⟩ := Fin.ext hd
      rw [if_pos eν, if_pos hd]
      show _ = _ * _ * _
      rw [ej, ed, eν]
    · rw [if_neg (fun e => hd (congrArg Fin.val e)), if_neg hd, zero_mul]
  unfold sc
  rw [Finset.sum_congr rfl fun d _ => term d, ← coe_sum]
  refine congrArg (fun y : ℝ => (y : EReal)) ((half_sum ⟨r.val / 1024, by omega⟩ (fun n : ℕ => qr (ix5 b tp h ⟨r.val / 1024, by omega⟩ ⟨n % 64, by omega⟩) * (1 / 8 / Real.log 2) * kr (ix5 b ⟨(kn * 1024 + c.val) % 8192, by omega⟩ h ⟨r.val / 1024, by omega⟩ ⟨n % 64, by omega⟩))).trans ?_)
  unfold score
  rw [Finset.sum_mul, Finset.sum_div]
  refine Finset.sum_congr rfl fun d _ => ?_
  have ed : (⟨d.val % 64, by omega⟩ : Fin 64) = d := Fin.ext (Nat.mod_eq_of_lt d.isLt)
  rw [ed]
  ring

include hv in
theorem vl_real (h : Fin 4) (c : Fin 1024) (l : Fin 256) :
    vl (XM m t) h c l = (lane vr (bN (grid0.coords t)) h l (kN (grid0.coords t) * 1024 + c.val) : EReal) := by
  obtain ⟨k1, k2⟩ := kB_eq (grid0.coords t)
  generalize hb : bN (grid0.coords t) = b at *
  generalize hkn : kN (grid0.coords t) = kn at *
  exact (blk_v (F := Ideal) (flags m) (V m) 0 t c ⟨256 * h.val + l.val, by omega⟩).trans
    ((congrFun ((V_v m 0).trans (by rw [hv])) _).trans (v_full vr _ _ b ⟨kn * 1024 + c.val, by omega⟩ h l
      (by show kB (grid0.coords t) * 1024 + c.val = b.val * 8192 + (kn * 1024 + c.val); omega) rfl))

end Point

end Cert.NextKernelIdeal.Hand
-- ==== Proof.NextVFin.lean ====
/- The second layer's attention: the last step of a query block: the two maps' quotients, their difference, and its normalisation, element by element. -/
module

public import proofs.«01_k».proof.Proof.VFin
public import proofs.«01_k».proof.Proof.NextKIBody

@[expose] public section

set_option maxRecDepth 16384
set_option maxHeartbeats 4000000

noncomputable section

namespace Cert.NextKernelIdeal.Hand

open Cert.Hand Cert.KernelIdeal.Hand Cert.NextKernelIdeal Cert.NextKernelIdeal.Gen
open Idealize.ShloMosaic Idealize.ShloMosaic.TcCoe Idealize.SL.Sem
open VecWindow

/-- The weight of the second map, from the four vectors. -/
def lamE (l : S4x64.Idx → EReal) : EReal :=
  Ideal.exp (∑ d : Fin 64, l (ix2 0 d) * l (ix2 1 d)) - Ideal.exp (∑ d : Fin 64, l (ix2 2 d) * l (ix2 3 d)) + Ideal.ofBits FTy.f32 1052116297#32

/-- A row's normalisation by its root mean square, with the weights and the last constant factor. -/
def rmsE (y : Fin 128 → EReal) (w : S1x128.Idx → EReal) (e : Fin 128) : EReal :=
  y e * FloatOps.rsqrt (F := Ideal) (φ := .f32) (Ideal.div (∑ x, y x * y x) (Ideal.ofBits FTy.f32 1124073472#32) + Ideal.ofBits FTy.f32 897988541#32) * w (ix2 0 e) * Ideal.ofBits FTy.f32 1059388764#32

theorem pay42_at (l : FVec Ideal S4x64 .f32) : k0_pay42 (F := Ideal) l (ix2 0 0) = lamE l := by
  unfold lamE
  pointwise [k0_pay42]

variable (l : FVec Ideal S4x64 .f32) (lam : FVec Ideal S1x1 .f32) (w0 w1 w2 w3 : FVec Ideal S1x1024x128 .f32) (w : FVec Ideal S1x128 .f32) (r : Fin 1024) (e : Fin 128)

theorem pay9_at : k0_pay9 (F := Ideal) lam w0 w1 w2 w3 w (ix2 r e)
    = rmsE (fun e => Ideal.div (w0 (ix3 0 r e)) (w1 (ix3 0 r e)) - lam (ix2 0 0) * Ideal.div (w2 (ix3 0 r e)) (w3 (ix3 0 r e))) w e := by
  unfold rmsE
  pointwise [k0_pay9]

theorem pay49_at : k0_pay49 (F := Ideal) lam w0 w1 w2 w3 w (ix2 r e)
    = rmsE (fun e => Ideal.div (w0 (ix3 0 r e)) (w1 (ix3 0 r e)) - lam (ix2 0 0) * Ideal.div (w2 (ix3 0 r e)) (w3 (ix3 0 r e))) w e := by
  unfold rmsE
  pointwise [k0_pay49]

theorem pay48_at : k0_pay48 (F := Ideal) (k0_pay47 lam w0 w1 w2 w3 w) (ix2 r e)
    = rmsE (fun e => Ideal.div (w0 (ix3 0 r e)) (w1 (ix3 0 r e)) - lam (ix2 0 0) * Ideal.div (w2 (ix3 0 r e)) (w3 (ix3 0 r e))) w e := by
  unfold rmsE
  pointwise [k0_pay48, k0_pay47]

theorem pay46_at : k0_pay46 (F := Ideal) (k0_pay43 l w0 w1 w2 w3) (k0_pay44 w) (k0_pay45 l w0 w1 w2 w3) (ix2 r e)
    = rmsE (fun e => Ideal.div (w0 (ix3 0 r e)) (w1 (ix3 0 r e)) - lamE l * Ideal.div (w2 (ix3 0 r e)) (w3 (ix3 0 r e))) w e := by
  unfold rmsE lamE
  pointwise [k0_pay46, k0_pay43, k0_pay44, k0_pay45, k0_pay42]

theorem fin_at (X : Ins Ideal) (S : St Ideal) (O : S1024x512.Idx → EReal) (h : Fin 4) (p : Fin 1024) (e : Fin 128) :
    fin X S O (ix2 p ⟨128 * h.val + e.val, by omega⟩)
      = rmsE (fun e => Ideal.div (S.a (ix3 h ⟨p.val, by omega⟩ ⟨e.val, by omega⟩)) (S.a (ix3 h ⟨p.val, by omega⟩ ⟨128 + e.val, by omega⟩))
          - lamE X.l * Ideal.div (S.a (ix3 h ⟨1024 + p.val, by omega⟩ ⟨e.val, by omega⟩)) (S.a (ix3 h ⟨1024 + p.val, by omega⟩ ⟨128 + e.val, by omega⟩))) X.w e := by
  have key : ∀ (h' : Fin 4) (w0 w1 w2 w3 : FVec Ideal S1x1024x128 .f32) (lv : EReal), lv = lamE X.l →
      (∀ e : Fin 128, w0 (ix3 0 p e) = S.a (ix3 h' ⟨p.val, by omega⟩ ⟨e.val, by omega⟩)) →
      (∀ e : Fin 128, w1 (ix3 0 p e) = S.a (ix3 h' ⟨p.val, by omega⟩ ⟨128 + e.val, by omega⟩)) →
      (∀ e : Fin 128, w2 (ix3 0 p e) = S.a (ix3 h' ⟨1024 + p.val, by omega⟩ ⟨e.val, by omega⟩)) →
      (∀ e : Fin 128, w3 (ix3 0 p e) = S.a (ix3 h' ⟨1024 + p.val, by omega⟩ ⟨128 + e.val, by omega⟩)) →
      rmsE (fun e => Ideal.div (w0 (ix3 0 p e)) (w1 (ix3 0 p e)) - lv * Ideal.div (w2 (ix3 0 p e)) (w3 (ix3 0 p e))) X.w e
        = rmsE (fun e => Ideal.div (S.a (ix3 h' ⟨p.val, by omega⟩ ⟨e.val, by omega⟩)) (S.a (ix3 h' ⟨p.val, by omega⟩ ⟨128 + e.val, by omega⟩))
          - lamE X.l * Ideal.div (S.a (ix3 h' ⟨1024 + p.val, by omega⟩ ⟨e.val, by omega⟩)) (S.a (ix3 h' ⟨1024 + p.val, by omega⟩ ⟨128 + e.val, by omega⟩))) X.w e := by
    intro h' w0 w1 w2 w3 lv hl h0 h1 h2 h3
    simp only [hl, h0, h1, h2, h3]
  have hc : h = 0 ∨ h = 1 ∨ h = 2 ∨ h = 3 := by fin_cases h <;> simp
  unfold fin
  rcases hc with rfl | rfl | rfl | rfl
  · refine (put2_out _ _ _ _ (.inl (by show 128 * 0 + e.val < 384; omega))).trans ?_
    refine (put2_out _ _ _ _ (.inl (by show 128 * 0 + e.val < 256; omega))).trans ?_
    refine (put2_out _ _ _ _ (.inl (by show 128 * 0 + e.val < 128; omega))).trans ?_
    refine (put2_in _ _ _ _ e (by show 128 * 0 + e.val = 0 + e.val; omega)).trans ?_
    refine (pay46_at _ _ _ _ _ _ p e).trans ?_
    refine key 0 _ _ _ _ _ rfl (fun e => ?_) (fun e => ?_) (fun e => ?_) (fun e => ?_) <;>
      exact win3 _ _ rfl _ _ _ _ _ _ rfl (by simp) (by simp)
  · refine (put2_out _ _ _ _ (.inl (by show 128 * 1 + e.val < 384; omega))).trans ?_
    refine (put2_out _ _ _ _ (.inl (by show 128 * 1 + e.val < 256; omega))).trans ?_
    refine (put2_in _ _ _ _ e (by show 128 * 1 + e.val = 128 + e.val; omega)).trans ?_
    refine (pay48_at _ _ _ _ _ _ p e).trans ?_
    refine key 1 _ _ _ _ _ (pay42_at _) (fun e => ?_) (fun e => ?_) (fun e => ?_) (fun e => ?_) <;>
      exact win3 _ _ rfl _ _ _ _ _ _ rfl (by simp) (by simp)
  · refine (put2_out _ _ _ _ (.inl (by show 128 * 2 + e.val < 384; omega))).trans ?_
    refine (put2_in _ _ _ _ e (by show 128 * 2 + e.val = 256 + e.val; omega)).trans ?_
    refine (pay49_at _ _ _ _ _ _ p e).trans ?_
    refine key 2 _ _ _ _ _ (pay42_at _) (fun e => ?_) (fun e => ?_) (fun e => ?_) (fun e => ?_) <;>
      exact win3 _ _ rfl _ _ _ _ _ _ rfl (by simp) (by simp)
  · refine (put2_in _ _ _ _ e (by show 128 * 3 + e.val = 384 + e.val; omega)).trans ?_
    refine (pay9_at _ _ _ _ _ _ p e).trans ?_
    refine key 3 _ _ _ _ _ (pay42_at _) (fun e => ?_) (fun e => ?_) (fun e => ?_) (fun e => ?_) <;>
      exact win3 _ _ rfl _ _ _ _ _ _ rfl (by simp) (by simp)

end Cert.NextKernelIdeal.Hand
-- ==== Proof.NextVInv.lean ====
/- The second layer's attention: what the loop's scratch holds after each point: the weights and the values summed over the keys that the sequence's points so far brought. -/
module

public import proofs.«01_k».proof.Proof.NextVScore
public import proofs.«01_k».proof.Proof.VInv
public import proofs.«01_k».proof.Proof.NextVFin

@[expose] public section

set_option maxRecDepth 16384
set_option maxHeartbeats 4000000

noncomputable section

namespace Cert.NextKernelIdeal.Hand

open Cert.Hand Cert.KernelIdeal.Hand Cert.NextKernelIdeal Cert.NextKernelIdeal.Gen
open Idealize.ShloMosaic Idealize.ShloMosaic.TcCoe Idealize.SL.Sem

variable (qr kr : S4x8192x4x2x64.Idx → ℝ) (vr : S4x8192x4x128.Idx → ℝ)
variable (m : (ℓ : Loc nD τ sig) → Buf (Elt Ideal) ℓ)

/-- Where the kernel takes the bound for the maximum, the bound is a real number. -/
theorem bound_real (t : Fin grid0.N) (hf : flag (flags m) = 1#32) : ∃ M : ℝ, (show EReal from (XM m t).bound) = (M : EReal) := by
  have h1 : flag (flags m) = BitVec.setWidth 32 (BitVec.ofBool (decide ((show EReal from hostB (F := Ideal) (hostMax (m (((0 : Dev nD).tc : Thread nD τ).loc main_arg3))) (hostMax (m (((0 : Dev nD).tc : Thread nD τ).loc main_arg4))) Idealize.ShloMosaic.ix0) ≤ Ideal.ofBits FTy.f32 1113587712#32))) :=
    (flag_eq (flags m)).trans ((congrFun (V_f m 0) (ix1 0)).trans (hostFl_at _))
  have h2 : (show EReal from (XM m t).bound) = hostB (F := Ideal) (hostMax (m (((0 : Dev nD).tc : Thread nD τ).loc main_arg3))) (hostMax (m (((0 : Dev nD).tc : Thread nD τ).loc main_arg4))) Idealize.ShloMosaic.ix0 :=
    (blk_b (F := Ideal) (flags m) (V m) 0 t).trans ((congrFun (V_b m 0) (ix1 0)).trans (hostBf_at _))
  rw [h2]
  rw [h1] at hf
  have hle : (show EReal from hostB (F := Ideal) (hostMax (m (((0 : Dev nD).tc : Thread nD τ).loc main_arg3))) (hostMax (m (((0 : Dev nD).tc : Thread nD τ).loc main_arg4))) Idealize.ShloMosaic.ix0) ≤ Ideal.ofBits FTy.f32 1113587712#32 := by
    by_contra hn
    rw [decide_eq_false hn] at hf
    exact absurd hf (by decide)
  have hge : (0 : EReal) ≤ (show EReal from hostB (F := Ideal) (hostMax (m (((0 : Dev nD).tc : Thread nD τ).loc main_arg3))) (hostMax (m (((0 : Dev nD).tc : Thread nD τ).loc main_arg4))) Idealize.ShloMosaic.ix0) := by
    show (0 : EReal) ≤ hostB (F := Ideal) _ _ Idealize.ShloMosaic.ix0
    rw [hostB_at, word8]
    obtain ⟨r, hr, e⟩ := word_log2e
    rw [e]
    exact mul_nonneg (mul_nonneg (mul_nonneg (by exact_mod_cast (by norm_num : (0 : ℝ) ≤ 8)) (max_nonneg _)) (max_nonneg _)) (by exact_mod_cast hr.le)
  rw [word56] at hle
  revert hge hle
  generalize hostB (F := Ideal) (hostMax (m (((0 : Dev nD).tc : Thread nD τ).loc main_arg3))) (hostMax (m (((0 : Dev nD).tc : Thread nD τ).loc main_arg4))) Idealize.ShloMosaic.ix0 = y
  intro hle hge
  exact fin_of y hge hle

theorem bound_same (t t' : Fin grid0.N) : (XM m t).bound = (XM m t').bound :=
  (blk_b (F := Ideal) (flags m) (V m) 0 t).trans (blk_b (F := Ideal) (flags m) (V m) 0 t').symm

/-- A point that is not a row of blocks' first follows one of the same row, left of the diagonal. -/
theorem prev : ∀ t : Fin grid0.N, kiW (grid0.coords t) ≠ 0#32 → ∃ t' : Fin grid0.N, t'.val + 1 = t.val ∧ bN (grid0.coords t') = bN (grid0.coords t) ∧ qN (grid0.coords t') = qN (grid0.coords t)
    ∧ kN (grid0.coords t') + 1 = kN (grid0.coords t) ∧ kiW (grid0.coords t') ≠ qiW (grid0.coords t') := by
  have h : ∀ t : Fin grid0.N, kiW (grid0.coords t) ≠ 0#32 → ∃ h : t.val - 1 < grid0.N, (t.val - 1) + 1 = t.val ∧ bN (grid0.coords ⟨t.val - 1, h⟩) = bN (grid0.coords t) ∧ qN (grid0.coords ⟨t.val - 1, h⟩) = qN (grid0.coords t)
    ∧ kN (grid0.coords ⟨t.val - 1, h⟩) + 1 = kN (grid0.coords t) ∧ kiW (grid0.coords ⟨t.val - 1, h⟩) ≠ qiW (grid0.coords ⟨t.val - 1, h⟩) := by decide +kernel
  intro t ht
  obtain ⟨a, b⟩ := h t ht
  exact ⟨⟨t.val - 1, a⟩, b⟩

theorem first_zero : ∀ t : Fin grid0.N, kiW (grid0.coords t) = 0#32 → kN (grid0.coords t) * 1024 = 0 := by decide +kernel

/-- The query's position in its sequence. -/
def posN (t : Fin grid0.N) (r : Fin 2048) : Fin 8192 := ⟨qN (grid0.coords t) * 1024 + r.val % 1024, by have := (qB_eq (grid0.coords t)).2; omega⟩

/-- The scores of a row, to the base two. -/
def sRow (t : Fin grid0.N) (h : Fin 4) (r : Fin 2048) (j : ℕ) : ℝ := score qr kr (bN (grid0.coords t)) h ⟨r.val / 1024, by omega⟩ (posN t r) j / Real.log 2

section

variable (hq : m (((0 : Dev nD).tc : Thread nD τ).loc main_arg0) = fun i => (qr i : EReal)) (hk : m (((0 : Dev nD).tc : Thread nD τ).loc main_arg1) = fun i => (kr i : EReal))
  (hv : m (((0 : Dev nD).tc : Thread nD τ).loc main_arg2) = fun i => (vr i : EReal))
  (Mb : ℝ) (hb : ∀ t, flag (flags m) = 1#32 → (show EReal from (XM m t).bound) = (Mb : EReal))

include hq hk hv hb in
/-- The scratch after every point. -/
theorem inv_all (n : ℕ) : ∀ t : Fin grid0.N, t.val = n → ∀ (h : Fin 4) (r : Fin 2048),
    Inv (flag (flags m)) Mb (stateAt (F := Ideal) (flags m) (V m) 0 (t.val + 1)) h r (sRow qr kr t h r) (lane vr (bN (grid0.coords t)) h)
      (if kiW (grid0.coords t) = qiW (grid0.coords t) then kN (grid0.coords t) * 1024 + (r.val % 1024 + 1) else kN (grid0.coords t) * 1024 + 1024) := by
  induction n with
  | zero =>
    intro t ht h r
    rw [stateAt_succ]
    have e0 : kiW (grid0.coords t) = 0#32 := first_ki t ht
    exact next_inv _ _ _ (XM m t) _ r h _ _ _ (fun c => sc_real qr kr m hq hk t h r c (posN t r) rfl) (fun c l => vl_real vr m hv t h c l) Mb (hb t)
      (fun _ => first_zero t e0) (fun h3 => absurd e0 h3)
  | succ n IH =>
    intro t ht h r
    rw [stateAt_succ]
    refine next_inv _ _ _ (XM m t) _ r h _ _ _ (fun c => sc_real qr kr m hq hk t h r c (posN t r) rfl) (fun c l => vl_real vr m hv t h c l) Mb (hb t)
      (fun e0 => first_zero t e0) (fun h3 => ?_)
    obtain ⟨t', h1, h2, h4, h5, h6⟩ := prev t h3
    have H := IH t' (by omega) h r
    rw [if_neg h6, h1] at H
    have e1 : kN (grid0.coords t') * 1024 + 1024 = kN (grid0.coords t) * 1024 := by omega
    have e2 : sRow qr kr t' h r = sRow qr kr t h r := by
      have e3 : posN t' r = posN t r := Fin.ext (by show qN (grid0.coords t') * 1024 + _ = qN (grid0.coords t) * 1024 + _; omega)
      funext j
      unfold sRow
      rw [e3, h2]
    rw [e1, e2, h2] at H
    exact H

end

/-- The two maps' averages of a head's values over the keys up to the query, one less the other times the factor, normed. -/
def common (l : S4x64.Idx → EReal) (w : S128.Idx → EReal) (b h : Fin 4) (t : Fin 8192) (e : Fin 128) : EReal :=
  rmsE (fun e => ((avg (score qr kr b h 0 t) (valAt vr b h e) (t.val + 1) : ℝ) : EReal) - lamE l * ((avg (score qr kr b h 1 t) (valAt vr b h e) (t.val + 1) : ℝ) : EReal)) (fun i => w (ix1 (i 1))) e

section

variable (hq : m (((0 : Dev nD).tc : Thread nD τ).loc main_arg0) = fun i => (qr i : EReal)) (hk : m (((0 : Dev nD).tc : Thread nD τ).loc main_arg1) = fun i => (kr i : EReal))
  (hv : m (((0 : Dev nD).tc : Thread nD τ).loc main_arg2) = fun i => (vr i : EReal))

include hq hk hv in
/-- What a point on the diagonal writes. -/
theorem fin_real (t : Fin grid0.N) (hd : kiW (grid0.coords t) = qiW (grid0.coords t)) (h : Fin 4) (p : Fin 1024) (e : Fin 128) :
    fin (XM m t) (stateAt (F := Ideal) (flags m) (V m) 0 (t.val + 1)) (anyO (F := Ideal)) (ix2 p ⟨128 * h.val + e.val, by omega⟩)
      = common qr kr vr (m (((0 : Dev nD).tc : Thread nD τ).loc main_arg5)) (m (((0 : Dev nD).tc : Thread nD τ).loc main_arg6)) (bN (grid0.coords t)) h ⟨qN (grid0.coords t) * 1024 + p.val, by have := (qB_eq (grid0.coords t)).2; omega⟩ e := by
  obtain ⟨Mb, hb⟩ : ∃ Mb : ℝ, ∀ t, flag (flags m) = 1#32 → (show EReal from (XM m t).bound) = (Mb : EReal) := by
    by_cases hf : flag (flags m) = 1#32
    · obtain ⟨M, hM⟩ := bound_real m t hf
      exact ⟨M, fun t' _ => (bound_same m t' t).trans hM⟩
    · exact ⟨0, fun _ h => absurd h hf⟩
  have key : ∀ (r : Fin 2048) (μ : Fin 2), r.val = 1024 * μ.val + p.val → ∀ e : Fin 128,
      Ideal.div ((stateAt (F := Ideal) (flags m) (V m) 0 (t.val + 1)).a (ix3 h r ⟨e.val, by omega⟩)) ((stateAt (F := Ideal) (flags m) (V m) 0 (t.val + 1)).a (ix3 h r ⟨128 + e.val, by omega⟩))
        = ((avg (score qr kr (bN (grid0.coords t)) h μ ⟨qN (grid0.coords t) * 1024 + p.val, by have := (qB_eq (grid0.coords t)).2; omega⟩) (valAt vr (bN (grid0.coords t)) h e) (qN (grid0.coords t) * 1024 + p.val + 1) : ℝ) : EReal) := by
    intro r μ hr e
    have H := inv_all qr kr vr m hq hk hv Mb hb t.val t rfl h r
    rw [if_pos hd] at H
    have en : kN (grid0.coords t) * 1024 + (r.val % 1024 + 1) = qN (grid0.coords t) * 1024 + p.val + 1 := by
      have : kN (grid0.coords t) = qN (grid0.coords t) := congrArg BitVec.toNat hd
      omega
    rw [en] at H
    obtain ⟨M, HM⟩ : ∃ M : ℝ, ∀ l, (stateAt (F := Ideal) (flags m) (V m) 0 (t.val + 1)).a (ix3 h r l) = ((W (sRow qr kr t h r) (lane vr (bN (grid0.coords t)) h l) M (qN (grid0.coords t) * 1024 + p.val + 1) : ℝ) : EReal) := by
      by_cases hf : flag (flags m) = 1#32
      · exact ⟨Mb, H.1 hf⟩
      · rcases H.2 hf with H | ⟨M, _, H⟩
        · exact absurd H.1 (by omega)
        · exact ⟨M, H⟩
    rw [HM, HM]
    have e1 : lane vr (bN (grid0.coords t)) h ⟨e.val, by omega⟩ = valAt vr (bN (grid0.coords t)) h e := funext fun j => dif_pos e.isLt
    rw [e1]
    refine div_W _ _ _ _ (fun j => ?_) (fun j => ?_) M _ (Nat.succ_pos _)
    · have e2 : (⟨r.val / 1024, by omega⟩ : Fin 2) = μ := Fin.ext (by show r.val / 1024 = μ.val; omega)
      have e3 : posN t r = ⟨qN (grid0.coords t) * 1024 + p.val, by have := (qB_eq (grid0.coords t)).2; omega⟩ := Fin.ext (by show qN (grid0.coords t) * 1024 + r.val % 1024 = qN (grid0.coords t) * 1024 + p.val; omega)
      unfold sRow
      rw [e2, e3, div_mul_cancel₀ _ (Real.log_pos (by norm_num)).ne']
    · exact dif_neg (by show ¬ 128 + e.val < 128; omega)
  refine (fin_at (XM m t) (stateAt (F := Ideal) (flags m) (V m) 0 (t.val + 1)) (anyO (F := Ideal)) h p e).trans ?_
  unfold common
  have el : (XM m t).l = m (((0 : Dev nD).tc : Thread nD τ).loc main_arg5) := (funext fun i => by rw [eq_ix2 i]; exact blk_l (F := Ideal) (flags m) (V m) 0 t (i 0) (i 1) : (XM m t).l = V m 0 main_arg5).trans (V_arg5 m 0)
  have ew : ∀ e : Fin 128, (XM m t).w (ix2 0 e) = m (((0 : Dev nD).tc : Thread nD τ).loc main_arg6) (ix1 e) := fun e =>
    (blk_w (F := Ideal) (flags m) (V m) 0 t e).trans ((congrFun (V_w m 0) (ix2 0 e)).trans (hostW_at _ e))
  rw [el]
  unfold rmsE
  rw [ew]
  have k0 := key ⟨p.val, by omega⟩ 0 (by show p.val = 1024 * 0 + p.val; omega)
  have k1 := key ⟨1024 + p.val, by omega⟩ 1 (by show 1024 + p.val = 1024 * 1 + p.val; omega)
  simp only [k0, k1]
  rfl

end

end Cert.NextKernelIdeal.Hand
-- ==== Proof.NextVOut.lean ====
/- The second layer's attention: the kernel's result, element by element. -/
module

public import proofs.«01_k».proof.Proof.NextVInv
public import proofs.«01_k».proof.Proof.NextKIRun

@[expose] public section

set_option maxRecDepth 16384
set_option maxHeartbeats 4000000

noncomputable section

namespace Cert.NextKernelIdeal.Hand

open Cert.Hand Cert.KernelIdeal.Hand Cert.NextKernelIdeal Cert.NextKernelIdeal.Gen
open Idealize.ShloMosaic Idealize.ShloMosaic.TcCoe Idealize.SL.Sem

variable (qr kr : S4x8192x4x2x64.Idx → ℝ) (vr : S4x8192x4x128.Idx → ℝ)

/-- The result at a row and a lane. -/
def outAt (l : S4x64.Idx → EReal) (w : S128.Idx → EReal) (T : Fin 32768) (c : Fin 512) : EReal :=
  common qr kr vr l w ⟨T.val / 8192, by omega⟩ ⟨c.val / 128, by omega⟩ ⟨T.val % 8192, by omega⟩ ⟨c.val % 128, by omega⟩

variable (m : (ℓ : Loc nD τ sig) → Buf (Elt Ideal) ℓ)

/-- A block is written where the key block is the query block. -/
theorem cond_diag : ∀ t : Fin grid0.N, k0_cond6 (qiW (grid0.coords t)) (kiW (grid0.coords t)) = 1#1 → kiW (grid0.coords t) = qiW (grid0.coords t) := by decide +kernel

/-- Every block of rows is written. -/
theorem all_blocks : ∀ n : Fin 32, ∃ t : Fin grid0.N, qB (grid0.coords t) = n.val ∧ k0_cond6 (qiW (grid0.coords t)) (kiW (grid0.coords t)) = 1#1 := by decide +kernel

variable (hq : m (((0 : Dev nD).tc : Thread nD τ).loc main_arg0) = fun i => (qr i : EReal)) (hk : m (((0 : Dev nD).tc : Thread nD τ).loc main_arg1) = fun i => (kr i : EReal))
  (hv : m (((0 : Dev nD).tc : Thread nD τ).loc main_arg2) = fun i => (vr i : EReal))

include hq hk hv in
theorem out_eq : (dats (F := Ideal) (flags m) (V m) 0 0).arrAt 6 (cfgM (F := Ideal) (flags m)).N
    = (show S32768x512.Idx → EReal from fun i => outAt qr kr vr (m (((0 : Dev nD).tc : Thread nD τ).loc main_arg5)) (m (((0 : Dev nD).tc : Thread nD τ).loc main_arg6)) (i 0) (i 1)) := by
  refine Pipeline.Dat.arrAt_eq_of_cover (dats (F := Ideal) (flags m) (V m) 0 0) 6 _ (fun t hf => ?_) (fun i => ?_)
  · have hd : kiW (grid0.coords t) = qiW (grid0.coords t) := cond_diag t (by
      have h := (flush6 (F := Ideal) (flags m) t).symm.trans hf
      exact eq_of_beq h)
    refine funext fun (y : S1024x512.Idx) => ?_
    rw [eq_ix2 y]
    refine Eq.trans ?_ (blk_o (F := Ideal) (flags m) 0 t (fun i : S32768x512.Idx => outAt qr kr vr (m (((0 : Dev nD).tc : Thread nD τ).loc main_arg5)) (m (((0 : Dev nD).tc : Thread nD τ).loc main_arg6)) (i 0) (i 1)) (y 0) (y 1)).symm
    show fin (XM m t) (stateAt (F := Ideal) (flags m) (V m) 0 (t.val + 1)) (anyO (F := Ideal)) (ix2 (y 0) (y 1)) = _
    obtain ⟨q1, q2⟩ := qB_eq (grid0.coords t)
    generalize y 0 = p
    generalize y 1 = c
    change Fin 1024 at p
    change Fin 512 at c
    have ec : c = ⟨128 * (c.val / 128) + c.val % 128, by omega⟩ := Fin.ext (by show c.val = 128 * (c.val / 128) + c.val % 128; omega)
    have e0 := fin_real qr kr vr m hq hk hv t hd ⟨c.val / 128, by omega⟩ p ⟨c.val % 128, by omega⟩
    refine ((congrArg (fun c' => fin (XM m t) (stateAt (F := Ideal) (flags m) (V m) 0 (t.val + 1)) (anyO (F := Ideal)) (ix2 p c')) ec).trans e0).trans ?_
    show _ = outAt qr kr vr _ _ ⟨qB (grid0.coords t) * 1024 + p.val, _⟩ c
    unfold outAt
    congr 1
    · exact Fin.ext (by show (bN (grid0.coords t)).val = (qB (grid0.coords t) * 1024 + p.val) / 8192; omega)
    · exact Fin.ext (by show qN (grid0.coords t) * 1024 + p.val = (qB (grid0.coords t) * 1024 + p.val) % 8192; omega)
  · change S32768x512.Idx at i
    have h0 : (i 0).val < 32768 := (i 0).isLt
    have h1 : (i 1).val < 512 := (i 1).isLt
    obtain ⟨t, ht, hc⟩ := all_blocks ⟨(i 0).val / 1024, by omega⟩
    refine ⟨t, (flush6 (F := Ideal) (flags m) t).trans (by rw [hc]; rfl), ?_⟩
    have he : i = (((cfgM (F := Ideal) (flags m)).win 6).blk t).view.emb (show S1024x512.Idx from ix2 ⟨(i 0).val % 1024, by omega⟩ ⟨(i 1).val, h1⟩) := by
      refine funext fun (a : Fin 2) => Fin.ext ?_
      refine Eq.symm ((Pipeline.Window.rect_emb_val ((cfgM (F := Ideal) (flags m)).win 6) t (show S1024x512.Idx from ix2 ⟨(i 0).val % 1024, by omega⟩ ⟨(i 1).val, h1⟩) a).trans ?_)
      have h : ((cfgM (F := Ideal) (flags m)).win 6).index t a = (![qB (grid0.coords t), 0] : Fin 2 → ℕ) a := congrFun (tr6 (flags m) (grid0.coords t)) a
      rw [h]
      match a with
      | 0 => show qB (grid0.coords t) * 1024 + (i 0).val % 1024 = (i 0).val; rw [ht]; show (i 0).val / 1024 * 1024 + (i 0).val % 1024 = (i 0).val; omega
      | 1 => show 0 * 512 + (i 1).val = (i 1).val; omega
    rw [he]
    exact View.emb_mem_set _ _

end Cert.NextKernelIdeal.Hand
-- ==== Proof.NextVRef.lean ====
/- The second layer's attention: the reference's result, stage by stage and element by element. -/
module

public import proofs.«01_k».proof.Proof.VMath
public import proofs.«01_k».proof.Proof.Gen.NextReferenceIdeal.Run

@[expose] public section

set_option maxRecDepth 16384
set_option maxHeartbeats 4000000

noncomputable section

namespace Cert.NextReferenceIdeal.Hand

open Cert.Hand Cert.NextReferenceIdeal Cert.NextReferenceIdeal.Gen
open Idealize.ShloMosaic Idealize.ShloMosaic.TcCoe Idealize.SL.Sem Idealize.ShloMosaic.StableHlo

section Stages

variable {F : FTy → Type} [FloatOps F]

/-- The scaled scores of all pairs. -/
def refS (q k : FVec F S4x8192x4x2x64 .bf16) : FVec F S4x4x2x8192x8192 .f32 :=
  (mulf (Host.dotGeneral dot_S4x8192x4x2x64_S4x8192x4x2x64_S4x4x2x8192x8192_4_4_1_1_023_023 none q k) (broadcastInDim S4x4x2x8192x8192 ![] bcast_S_S4x4x2x8192x8192 (constant S_ .f32 0x3E000000#32)))

/-- The scores with minus infinity at the keys after the query. -/
def refM (s : FVec F S4x4x2x8192x8192 .f32) : FVec F S4x4x2x8192x8192 .f32 :=
  (select (broadcastInDim S4x4x2x8192x8192 ![3, 4] bcast_S8192x8192_S4x4x2x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) s (broadcastInDim S4x4x2x8192x8192 ![] bcast_S_S4x4x2x8192x8192 (constant S_ .f32 0xFF800000#32)))

/-- A row's largest score. -/
def refX (t : FVec F S4x4x2x8192x8192 .f32) : FVec F S4x4x2x8192 .f32 :=
  (Host.reduce FloatOps.maximumf t (constant S_ .f32 0xFF800000#32) reducesTo_S4x4x2x8192x8192_S4x4x2x8192_d4 h_S_)

/-- The exponentials of the scores less the row's largest. -/
def refE (t : FVec F S4x4x2x8192x8192 .f32) (x : FVec F S4x4x2x8192 .f32) : FVec F S4x4x2x8192x8192 .f32 :=
  (Host.exp (subf t (broadcastInDim S4x4x2x8192x8192 ![0, 1, 2, 3, 4] bcast_S4x4x2x8192x1_S4x4x2x8192x8192_0_1_2_3_4 (broadcastInDim S4x4x2x8192x1 ![0, 1, 2, 3] bcast_S4x4x2x8192_S4x4x2x8192x1_0_1_2_3 (maximumf (broadcastInDim S4x4x2x8192 ![] bcast_S_S4x4x2x8192 (constant S_ .f32 0xFF800000#32)) x)))))

/-- Every row divided by its sum. -/
def refD (u : FVec F S4x4x2x8192x8192 .f32) : FVec F S4x4x2x8192x8192 .f32 :=
  (Host.divf u (broadcastInDim S4x4x2x8192x8192 ![0, 1, 2, 3, 4] bcast_S4x4x2x8192x1_S4x4x2x8192x8192_0_1_2_3_4 (broadcastInDim S4x4x2x8192x1 ![0, 1, 2, 3] bcast_S4x4x2x8192_S4x4x2x8192x1_0_1_2_3 (Host.reduceAdd u (constant S_ .f32 0x00000000#32) reducesTo_S4x4x2x8192x8192_S4x4x2x8192_d4 h_S_))))

/-- The softmax over the keys. -/
def refP (t : FVec F S4x4x2x8192x8192 .f32) : FVec F S4x4x2x8192x8192 .f32 :=
  refD (refE t (refX t))

/-- The second map's weight. -/
def refL (l : FVec F S4x64 .f32) : FVec F S_ .f32 :=
  (addf (subf (Host.exp (Host.reduceAdd (mulf (shapeCast S64 (extractStridedSlice S1x64 ![0, 0] l slices_S4x64_S1x64_0_0) shapeCasts_S1x64_S64) (shapeCast S64 (extractStridedSlice S1x64 ![1, 0] l slices_S4x64_S1x64_1_0) shapeCasts_S1x64_S64)) (constant S_ .f32 0x00000000#32) reducesTo_S64_S_d0 h_S_)) (Host.exp (Host.reduceAdd (mulf (shapeCast S64 (extractStridedSlice S1x64 ![2, 0] l slices_S4x64_S1x64_2_0) shapeCasts_S1x64_S64) (shapeCast S64 (extractStridedSlice S1x64 ![3, 0] l slices_S4x64_S1x64_3_0) shapeCasts_S1x64_S64)) (constant S_ .f32 0x00000000#32) reducesTo_S64_S_d0 h_S_))) (constant S_ .f32 0x3EB60549#32))

/-- The two maps' difference. -/
def refA (p : FVec F S4x4x2x8192x8192 .f32) (c : FVec F S_ .f32) : FVec F S4x4x8192x8192 .f32 :=
  (subf (shapeCast S4x4x8192x8192 (extractStridedSlice S4x4x1x8192x8192 ![0, 0, 0, 0, 0] p slices_S4x4x2x8192x8192_S4x4x1x8192x8192_0_0_0_0_0) shapeCasts_S4x4x1x8192x8192_S4x4x8192x8192) (mulf (broadcastInDim S4x4x8192x8192 ![] bcast_S_S4x4x8192x8192 c) (shapeCast S4x4x8192x8192 (extractStridedSlice S4x4x1x8192x8192 ![0, 0, 1, 0, 0] p slices_S4x4x2x8192x8192_S4x4x1x8192x8192_0_0_1_0_0) shapeCasts_S4x4x1x8192x8192_S4x4x8192x8192)))

/-- The weighted sums of the values. -/
def refO (v : FVec F S4x8192x4x128 .bf16) (a : FVec F S4x4x8192x8192 .bf16) : FVec F S4x8192x4x128 .f32 :=
  (transpose S4x8192x4x128 [0, 3, 1, 2] (Host.dotGeneral dot_S4x8192x4x128_S4x4x8192x8192_S4x4x128x8192_1_3_3_2_02_01 none v a) transposes_S4x4x128x8192_S4x8192x4x128_0_3_1_2)

/-- The normalised rows. -/
def refF (o : FVec F S4x8192x4x128 .f32) (w : FVec F S128 .f32) : FVec F S32768x512 .bf16 :=
  (shapeCast S32768x512 (truncf .bf16 (mulf (extf .f32 (truncf .bf16 (mulf (mulf (extf .f32 (truncf .bf16 o bitsLt_bf16_f32) bitsLt_bf16_f32) (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2 (Host.reduceAdd (mulf (extf .f32 (truncf .bf16 o bitsLt_bf16_f32) bitsLt_bf16_f32) (extf .f32 (truncf .bf16 o bitsLt_bf16_f32) bitsLt_bf16_f32)) (constant S_ .f32 0x00000000#32) reducesTo_S4x8192x4x128_S4x8192x4_d3 h_S_)) (broadcastInDim S4x8192x4x1 ![] bcast_S_S4x8192x4x1 (constant S_ .f32 0x43000000#32))) (broadcastInDim S4x8192x4x1 ![] bcast_S_S4x8192x4x1 (constant S_ .f32 0x358637BD#32)))))) (broadcastInDim S4x8192x4x128 ![0, 1, 2, 3] bcast_S1x1x1x128_S4x8192x4x128_0_1_2_3 (broadcastInDim S1x1x1x128 ![3] bcast_S128_S1x1x1x128_3 w))) bitsLt_bf16_f32) bitsLt_bf16_f32) (broadcastInDim S4x8192x4x128 ![] bcast_S_S4x8192x4x128 (constant S_ .f32 0x3F24FD5C#32))) bitsLt_bf16_f32) shapeCasts_S4x8192x4x128_S32768x512)

theorem res_eq (m : (ℓ : Loc nD τ sig) → Buf (Elt F) ℓ) (c : Dev nD) :
    Cert.NextReferenceIdeal.Value.res_main_v70 m c = refF (refO (truncf .bf16 (m ((c.tc : Thread nD τ).loc main_arg2)) bitsLt_bf16_f32) (truncf .bf16 (refA (refP (refM (refS (truncf .bf16 (m ((c.tc : Thread nD τ).loc main_arg0)) bitsLt_bf16_f32) (truncf .bf16 (m ((c.tc : Thread nD τ).loc main_arg1)) bitsLt_bf16_f32)))) (refL (m ((c.tc : Thread nD τ).loc main_arg5)))) bitsLt_bf16_f32)) (m ((c.tc : Thread nD τ).loc main_arg6)) := rfl

end Stages

theorem refS_at (q k : FVec Ideal S4x8192x4x2x64 .bf16) (b h : Fin 4) (μ : Fin 2) (t j : Fin 8192) :
    refS (F := Ideal) q k (ix5 b h μ t j) = (∑ x : Fin 64, (q (ix5 b t h μ x) : EReal) * (k (ix5 b j h μ x) : EReal)) * Ideal.ofBits FTy.f32 1040187392#32 := by
  pointwise [refS]

theorem refM_at (s : FVec Ideal S4x4x2x8192x8192 .f32) (b h : Fin 4) (μ : Fin 2) (t j : Fin 8192) :
    refM (F := Ideal) s (ix5 b h μ t j) = if j.val ≤ t.val then s (ix5 b h μ t j) else (⊥ : EReal) := by
  refine Eq.trans (b := Scalar.select (IntOp.cmpi CmpIPredicate.sle (BitVec.ofNat 32 j.val) (BitVec.ofNat 32 t.val)) (s (ix5 b h μ t j)) (Ideal.ofBits FTy.f32 4286578688#32)) ?_ ?_
  · pointwise [refM]
  · rw [select_of _ _ (sle_nat _ _ (by omega) (by omega)), negInf]

theorem refX_at (s : FVec Ideal S4x4x2x8192x8192 .f32) (b h : Fin 4) (μ : Fin 2) (t : Fin 8192) :
    refX (F := Ideal) s (ix4 b h μ t) = Finset.fold max (Ideal.ofBits FTy.f32 4286578688#32) (fun x => s (ix5 b h μ t x)) Finset.univ := by
  pointwise [refX]

theorem refE_at (s : FVec Ideal S4x4x2x8192x8192 .f32) (x : FVec Ideal S4x4x2x8192 .f32) (b h : Fin 4) (μ : Fin 2) (t j : Fin 8192) :
    refE (F := Ideal) s x (ix5 b h μ t j) = Ideal.exp (s (ix5 b h μ t j) - max (Ideal.ofBits FTy.f32 4286578688#32) (x (ix4 b h μ t))) := by
  pointwise [refE]

theorem refD_at (u : FVec Ideal S4x4x2x8192x8192 .f32) (b h : Fin 4) (μ : Fin 2) (t j : Fin 8192) :
    refD (F := Ideal) u (ix5 b h μ t j) = Ideal.div (u (ix5 b h μ t j)) (∑ x, u (ix5 b h μ t x)) := by
  pointwise [refD]

theorem refL_at (l : FVec Ideal S4x64 .f32) : refL (F := Ideal) l ix0 = Ideal.exp (∑ d : Fin 64, l (ix2 0 d) * l (ix2 1 d)) - Ideal.exp (∑ d : Fin 64, l (ix2 2 d) * l (ix2 3 d)) + Ideal.ofBits FTy.f32 1052116297#32 := by
  pointwise [refL]

theorem refA_at (p : FVec Ideal S4x4x2x8192x8192 .f32) (c : FVec Ideal S_ .f32) (b h : Fin 4) (t j : Fin 8192) :
    refA (F := Ideal) p c (ix4 b h t j) = p (ix5 b h 0 t j) - c ix0 * p (ix5 b h 1 t j) := by
  pointwise [refA]

theorem refO_at (v : FVec Ideal S4x8192x4x128 .bf16) (a : FVec Ideal S4x4x8192x8192 .bf16) (b h : Fin 4) (t : Fin 8192) (e : Fin 128) :
    refO (F := Ideal) v a (ix4 b t h e) = ∑ x : Fin 8192, (v (ix4 b x h e) : EReal) * (a (ix4 b h t x) : EReal) := by
  pointwise [refO]

theorem refF_at (o : FVec Ideal S4x8192x4x128 .f32) (w : FVec Ideal S128 .f32) (T : Fin 32768) (c : Fin 512) :
    refF (F := Ideal) o w (ix2 T c) = o (ix4 ⟨T.val / 8192, by omega⟩ ⟨T.val % 8192, by omega⟩ ⟨c.val / 128, by omega⟩ ⟨c.val % 128, by omega⟩)
      * Ideal.rsqrt (Ideal.div (∑ x : Fin 128, o (ix4 ⟨T.val / 8192, by omega⟩ ⟨T.val % 8192, by omega⟩ ⟨c.val / 128, by omega⟩ x) * o (ix4 ⟨T.val / 8192, by omega⟩ ⟨T.val % 8192, by omega⟩ ⟨c.val / 128, by omega⟩ x)) (Ideal.ofBits FTy.f32 1124073472#32) + Ideal.ofBits FTy.f32 897988541#32)
      * w (ix1 ⟨c.val % 128, by omega⟩) * Ideal.ofBits FTy.f32 1059388764#32 := by
  pointwise [refF]

end Cert.NextReferenceIdeal.Hand
-- ==== Proof.NextVSame.lean ====
/- The second layer's attention: the reference's result is the kernel's. -/
module

public import proofs.«01_k».proof.Proof.NextVOut
public import proofs.«01_k».proof.Proof.NextVRef

@[expose] public section

set_option maxRecDepth 16384
set_option maxHeartbeats 4000000

noncomputable section

namespace Cert.NextKernelIdeal.Hand

open Cert.KernelIdeal.Hand Cert.Hand Cert.NextReferenceIdeal.Hand
open Idealize.ShloMosaic

/-- A cast keeps the value. -/
theorem trunc_at {s : Shape} (x : FVec Ideal s .f32) (h : FTy.bits .bf16 < FTy.bits .f32) (i : s.Idx) : truncf (F := Ideal) .bf16 x h i = x i := rfl

/-- The second map's factor is a real number. -/
theorem lam_real (l : S4x64.Idx → ℝ) : ∃ r : ℝ, lamE (fun i => (l i : EReal)) = (r : EReal) := by
  obtain ⟨f, hf⟩ := word_fifth
  refine ⟨Real.exp (∑ d : Fin 64, l (ix2 0 d) * l (ix2 1 d)) - Real.exp (∑ d : Fin 64, l (ix2 2 d) * l (ix2 3 d)) + f, ?_⟩
  unfold lamE
  rw [hf]
  simp only [← EReal.coe_mul, ← coe_sum, Ideal.exp_coe, ← EReal.coe_sub, ← EReal.coe_add]

section Rows

variable (qr kr : Cert.NextReferenceIdeal.S4x8192x4x2x64.Idx → ℝ) (vr : Cert.NextReferenceIdeal.S4x8192x4x128.Idx → ℝ) (lr : Cert.NextReferenceIdeal.S4x64.Idx → ℝ)

/-- The masked scores. -/
theorem scores_at (b h : Fin 4) (μ : Fin 2) (t j : Fin 8192) :
    refM (F := Ideal) (refS (fun i => (qr i : EReal)) (fun i => (kr i : EReal))) (ix5 b h μ t j) = if j.val < t.val + 1 then (score qr kr b h μ t j.val : EReal) else ⊥ := by
  rw [refM_at, refS_at]
  by_cases hj : j.val ≤ t.val
  · rw [if_pos hj, if_pos (Nat.lt_succ_of_le hj), word_eighth]
    unfold score
    have ej : (⟨j.val % 8192, by omega⟩ : Fin 8192) = j := Fin.ext (Nat.mod_eq_of_lt j.isLt)
    simp only [ej, ← EReal.coe_mul, ← coe_sum]
  · rw [if_neg hj, if_neg (fun h => hj (Nat.lt_succ_iff.1 h))]

/-- The softmax of the masked scores. -/
theorem probs_at (b h : Fin 4) (μ : Fin 2) (t j : Fin 8192) :
    refP (F := Ideal) (refM (refS (fun i => (qr i : EReal)) (fun i => (kr i : EReal)))) (ix5 b h μ t j)
      = ((if j.val < t.val + 1 then Real.exp (score qr kr b h μ t j.val) / ∑ i ∈ Finset.range (t.val + 1), Real.exp (score qr kr b h μ t i) else 0 : ℝ) : EReal) := by
  have H := soft_row (N := 8192) (score qr kr b h μ t) (t.val + 1) (Nat.succ_pos _) t.isLt (fun j => refM (F := Ideal) (refS (fun i => (qr i : EReal)) (fun i => (kr i : EReal))) (ix5 b h μ t j)) (scores_at qr kr b h μ t) j
  unfold refP
  rw [refD_at]
  simp only [refE_at, refX_at, negInf]
  exact H

/-- The reference's rows before they are normed. -/
theorem diff_at (b h : Fin 4) (t : Fin 8192) (e : Fin 128) :
    refO (F := Ideal) (fun i => (vr i : EReal)) (truncf .bf16 (refA (refP (refM (refS (fun i => (qr i : EReal)) (fun i => (kr i : EReal))))) (refL (fun i => (lr i : EReal)))) Cert.NextReferenceIdeal.Facts₀.bitsLt_bf16_f32) (ix4 b t h e)
      = ((avg (score qr kr b h 0 t) (valAt vr b h e) (t.val + 1) : ℝ) : EReal) - lamE (fun i => (lr i : EReal)) * ((avg (score qr kr b h 1 t) (valAt vr b h e) (t.val + 1) : ℝ) : EReal) := by
  rw [refO_at]
  obtain ⟨r, hr⟩ := lam_real lr
  have hl : refL (F := Ideal) (fun i => (lr i : EReal)) Idealize.ShloMosaic.ix0 = (r : EReal) := (refL_at _).trans hr
  rw [hr]
  simp only [trunc_at, refA_at, hl]
  refine diff_sum (N := 8192) _ _ _ (t.val + 1) t.isLt r _ _ _ (fun j => ?_) (probs_at qr kr b h 0 t) (probs_at qr kr b h 1 t)
  unfold valAt
  have ej : (⟨j.val % 8192, by omega⟩ : Fin 8192) = j := Fin.ext (Nat.mod_eq_of_lt j.isLt)
  rw [ej]

/-- The reference's result at an element. -/
theorem ref_at (w : Cert.NextReferenceIdeal.S128.Idx → EReal) (T : Fin 32768) (c : Fin 512) :
    refF (F := Ideal) (refO (fun i => (vr i : EReal)) (truncf .bf16 (refA (refP (refM (refS (fun i => (qr i : EReal)) (fun i => (kr i : EReal))))) (refL (fun i => (lr i : EReal)))) Cert.NextReferenceIdeal.Facts₀.bitsLt_bf16_f32)) w (ix2 T c)
      = outAt qr kr vr (fun i => (lr i : EReal)) w T c := by
  rw [refF_at]
  simp only [diff_at]
  rfl

end Rows

/-- The two programs' results, from the same real queries, keys, values and vectors of the factor. -/
theorem same (m : (ℓ : Loc Cert.NextKernelIdeal.nD Cert.NextKernelIdeal.τ Cert.NextKernelIdeal.sig) → Buf (Elt Ideal) ℓ) (m' : (ℓ : Loc Cert.NextReferenceIdeal.nD Cert.NextReferenceIdeal.τ Cert.NextReferenceIdeal.sig) → Buf (Elt Ideal) ℓ)
    (qr kr : Cert.NextReferenceIdeal.S4x8192x4x2x64.Idx → ℝ) (vr : Cert.NextReferenceIdeal.S4x8192x4x128.Idx → ℝ) (lr : Cert.NextReferenceIdeal.S4x64.Idx → ℝ)
    (hq : m (((0 : Dev Cert.NextKernelIdeal.nD).tc : Thread Cert.NextKernelIdeal.nD Cert.NextKernelIdeal.τ).loc Cert.NextKernelIdeal.main_arg0) = fun i => (qr i : EReal))
    (hk : m (((0 : Dev Cert.NextKernelIdeal.nD).tc : Thread Cert.NextKernelIdeal.nD Cert.NextKernelIdeal.τ).loc Cert.NextKernelIdeal.main_arg1) = fun i => (kr i : EReal))
    (hv : m (((0 : Dev Cert.NextKernelIdeal.nD).tc : Thread Cert.NextKernelIdeal.nD Cert.NextKernelIdeal.τ).loc Cert.NextKernelIdeal.main_arg2) = fun i => (vr i : EReal))
    (hl : m (((0 : Dev Cert.NextKernelIdeal.nD).tc : Thread Cert.NextKernelIdeal.nD Cert.NextKernelIdeal.τ).loc Cert.NextKernelIdeal.main_arg5) = fun i => (lr i : EReal))
    (e0 : m' (((0 : Dev Cert.NextReferenceIdeal.nD).tc : Thread Cert.NextReferenceIdeal.nD Cert.NextReferenceIdeal.τ).loc Cert.NextReferenceIdeal.main_arg0) = m (((0 : Dev Cert.NextKernelIdeal.nD).tc : Thread Cert.NextKernelIdeal.nD Cert.NextKernelIdeal.τ).loc Cert.NextKernelIdeal.main_arg0))
    (e1 : m' (((0 : Dev Cert.NextReferenceIdeal.nD).tc : Thread Cert.NextReferenceIdeal.nD Cert.NextReferenceIdeal.τ).loc Cert.NextReferenceIdeal.main_arg1) = m (((0 : Dev Cert.NextKernelIdeal.nD).tc : Thread Cert.NextKernelIdeal.nD Cert.NextKernelIdeal.τ).loc Cert.NextKernelIdeal.main_arg1))
    (e2 : m' (((0 : Dev Cert.NextReferenceIdeal.nD).tc : Thread Cert.NextReferenceIdeal.nD Cert.NextReferenceIdeal.τ).loc Cert.NextReferenceIdeal.main_arg2) = m (((0 : Dev Cert.NextKernelIdeal.nD).tc : Thread Cert.NextKernelIdeal.nD Cert.NextKernelIdeal.τ).loc Cert.NextKernelIdeal.main_arg2))
    (e5 : m' (((0 : Dev Cert.NextReferenceIdeal.nD).tc : Thread Cert.NextReferenceIdeal.nD Cert.NextReferenceIdeal.τ).loc Cert.NextReferenceIdeal.main_arg5) = m (((0 : Dev Cert.NextKernelIdeal.nD).tc : Thread Cert.NextKernelIdeal.nD Cert.NextKernelIdeal.τ).loc Cert.NextKernelIdeal.main_arg5))
    (e6 : m' (((0 : Dev Cert.NextReferenceIdeal.nD).tc : Thread Cert.NextReferenceIdeal.nD Cert.NextReferenceIdeal.τ).loc Cert.NextReferenceIdeal.main_arg6) = m (((0 : Dev Cert.NextKernelIdeal.nD).tc : Thread Cert.NextKernelIdeal.nD Cert.NextKernelIdeal.τ).loc Cert.NextKernelIdeal.main_arg6)) :
    Cert.NextReferenceIdeal.Value.res_main_v70 m' 0
      = (show S32768x512.Idx → EReal from fun i => outAt qr kr vr (m (((0 : Dev Cert.NextKernelIdeal.nD).tc : Thread Cert.NextKernelIdeal.nD Cert.NextKernelIdeal.τ).loc Cert.NextKernelIdeal.main_arg5)) (m (((0 : Dev Cert.NextKernelIdeal.nD).tc : Thread Cert.NextKernelIdeal.nD Cert.NextKernelIdeal.τ).loc Cert.NextKernelIdeal.main_arg6)) (i 0) (i 1)) := by
  refine (res_eq m' 0).trans ?_
  rw [e0, e1, e2, e5, e6, hq, hk, hv, hl]
  refine funext fun (i : S32768x512.Idx) => ?_
  rw [eq_ix2 i]
  exact ref_at qr kr vr lr (m (((0 : Dev Cert.NextKernelIdeal.nD).tc : Thread Cert.NextKernelIdeal.nD Cert.NextKernelIdeal.τ).loc Cert.NextKernelIdeal.main_arg6)) (i 0) (i 1)

end Cert.NextKernelIdeal.Hand
-- ==== Proof.FfnStep.lean ====
/- The dense layer's chunks of 256 inner lanes, element by element. -/
module

public import proofs.«01_k».proof.Proof.Gen.FfnIdeal.Skeleton
public import Idealize.ShloMosaic.Lib.Pointwise
public import Idealize.ShloMosaic.Lib.Pipeline.ValueKit

@[expose] public section

set_option maxRecDepth 16384
set_option maxHeartbeats 2000000

noncomputable section

namespace Cert.FfnIdeal.Hand

open Cert.FfnIdeal Cert.FfnIdeal.Gen
open Idealize.ShloMosaic Idealize.ShloMosaic.TcCoe Idealize.SL.Sem

variable (h : FVec Ideal S512x1024 .bf16) (w : FVec Ideal S1024x5632 .bf16) (v : FVec Ideal S2816x1024 .bf16) (x : FVec Ideal S512x1024 .f32) (p : Fin 512) (e : Fin 1024)

/-- A row's product with one of the wide weight's columns. -/
def col (n : Fin 5632) : EReal := ∑ d : Fin 1024, h (ix2 p d) * w (ix2 d n)

/-- What one inner lane adds to an element of the result. -/
def lane (n : Fin 2816) : EReal :=
  col h w p ⟨n.val, by omega⟩ * Ideal.logistic (col h w p ⟨n.val, by omega⟩) * col h w p ⟨2816 + n.val, by omega⟩ * v (ix2 n e)

/-- What a chunk of 256 lanes adds. -/
def chunk (o : ℕ) (ho : o + 256 ≤ 2816) : EReal := ∑ j : Fin 256, lane h w v p e ⟨o + j.val, by omega⟩

/-- What a chunk of 256 lanes adds, from the weights' pieces. -/
def piece (a b : FVec Ideal S1024x256 .bf16) (d : FVec Ideal S256x1024 .bf16) : EReal :=
  ∑ j : Fin 256, (∑ k : Fin 1024, h (ix2 p k) * a (ix2 k j)) * Ideal.logistic (∑ k : Fin 1024, h (ix2 p k) * a (ix2 k j)) * (∑ k : Fin 1024, h (ix2 p k) * b (ix2 k j)) * d (ix2 j e)

theorem ld_wide (o : ℕ) (hi) (k : Fin 1024) (j : Fin 256) (ho : o + 256 ≤ 5632) :
    (View.ld (Val := Elt Ideal) (S := S1024x5632) (e' := .bf16) w (Rect.unit (s := S1024x5632) ![0, o] ![1024, 256] hi) : FVec Ideal S1024x256 .bf16) (ix2 k j) = w (ix2 k ⟨o + j.val, by omega⟩) := by
  refine congrArg (α := S1024x5632.Idx) w (funext fun a => Fin.ext ?_)
  match a with
  | 0 => show 0 + 1 * k.val = k.val; omega
  | 1 => show o + 1 * j.val = o + j.val; omega

theorem ld_down (o : ℕ) (hi) (j : Fin 256) (ho : o + 256 ≤ 2816) :
    (View.ld (Val := Elt Ideal) (S := S2816x1024) (e' := .bf16) v (Rect.unit (s := S2816x1024) ![o, 0] ![256, 1024] hi) : FVec Ideal S256x1024 .bf16) (ix2 j e) = v (ix2 ⟨o + j.val, by omega⟩ e) := by
  refine congrArg (α := S2816x1024.Idx) v (funext fun a => Fin.ext ?_)
  match a with
  | 0 => show o + 1 * j.val = o + j.val; omega
  | 1 => show 0 + 1 * e.val = e.val; omega

theorem piece_eq (o o' : ℕ) (h1 h2 h3) (ho : o + 256 ≤ 2816) (he : o' = 2816 + o) :
    piece h p e (View.ld (Val := Elt Ideal) (S := S1024x5632) (e' := .bf16) w (Rect.unit (s := S1024x5632) ![0, o] ![1024, 256] h1)) (View.ld (Val := Elt Ideal) (S := S1024x5632) (e' := .bf16) w (Rect.unit (s := S1024x5632) ![0, o'] ![1024, 256] h2))
      (View.ld (Val := Elt Ideal) (S := S2816x1024) (e' := .bf16) v (Rect.unit (s := S2816x1024) ![o, 0] ![256, 1024] h3)) = chunk h w v p e o ho := by
  subst he
  have hg (j : Fin 256) : (∑ k : Fin 1024, h (ix2 p k) * (View.ld (Val := Elt Ideal) (S := S1024x5632) (e' := .bf16) w (Rect.unit (s := S1024x5632) ![0, o] ![1024, 256] h1) : FVec Ideal S1024x256 .bf16) (ix2 k j)) = col h w p ⟨o + j.val, by omega⟩ :=
    Finset.sum_congr rfl fun k _ => congrArg _ (ld_wide w o h1 k j (by omega))
  have hu (j : Fin 256) : (∑ k : Fin 1024, h (ix2 p k) * (View.ld (Val := Elt Ideal) (S := S1024x5632) (e' := .bf16) w (Rect.unit (s := S1024x5632) ![0, 2816 + o] ![1024, 256] h2) : FVec Ideal S1024x256 .bf16) (ix2 k j)) = col h w p ⟨2816 + (o + j.val), by omega⟩ :=
    Finset.sum_congr rfl fun k _ => congrArg _ ((ld_wide w (2816 + o) h2 k j (by omega)).trans (congrArg (fun n => w (ix2 k n)) (Fin.ext (Nat.add_assoc 2816 o j.val))))
  unfold piece chunk lane
  refine Finset.sum_congr rfl fun j _ => ?_
  exact congrArg₂ (· * ·) (congrArg₂ (· * ·) (congrArg₂ (fun a b : EReal => a * b) (hg j) (congrArg Ideal.logistic (hg j))) (hu j)) (ld_down v e o h3 j ho)

/-- The eleven chunks together are all the lanes. -/
theorem lanes (f : Fin 2816 → EReal) (z : EReal) :
    z + (∑ j : Fin 256, f ⟨0 + j.val, by omega⟩) + (∑ j : Fin 256, f ⟨256 + j.val, by omega⟩) + (∑ j : Fin 256, f ⟨512 + j.val, by omega⟩) + (∑ j : Fin 256, f ⟨768 + j.val, by omega⟩)
      + (∑ j : Fin 256, f ⟨1024 + j.val, by omega⟩) + (∑ j : Fin 256, f ⟨1280 + j.val, by omega⟩) + (∑ j : Fin 256, f ⟨1536 + j.val, by omega⟩) + (∑ j : Fin 256, f ⟨1792 + j.val, by omega⟩)
      + (∑ j : Fin 256, f ⟨2048 + j.val, by omega⟩) + (∑ j : Fin 256, f ⟨2304 + j.val, by omega⟩) + (∑ j : Fin 256, f ⟨2560 + j.val, by omega⟩) = z + ∑ n : Fin 2816, f n := by
  have e : (∑ n : Fin 2816, f n) = ∑ k : Fin 11, ∑ j : Fin 256, f ⟨256 * k.val + j.val, by omega⟩ := by
    rw [← Fintype.sum_prod_type']
    exact (Fintype.sum_equiv (finProdFinEquiv (m := 11) (n := 256)) _ f fun x => congrArg f (Fin.ext (Nat.add_comm _ _))).symm
  have a (g : Fin 11 → EReal) : z + g 0 + g 1 + g 2 + g 3 + g 4 + g 5 + g 6 + g 7 + g 8 + g 9 + g 10 = z + ∑ k : Fin 11, g k := by
    simp only [Fin.sum_univ_succ, Fin.sum_univ_zero, add_zero, add_assoc]
    rfl
  rw [e]
  exact a fun k => ∑ j : Fin 256, f ⟨256 * k.val + j.val, by omega⟩

section Steps

variable (a b : FVec Ideal S1024x256 .bf16) (d : FVec Ideal S256x1024 .bf16)

theorem step3 : k0_pay3 (F := Ideal) h a b d x (ix2 p e) = x (ix2 p e) + piece h p e a b d := by
  pointwise [k0_pay3, k0_pay2, piece]

theorem step5 : k0_pay5 (F := Ideal) (k0_pay4 h a b d) x (ix2 p e) = x (ix2 p e) + piece h p e a b d := by
  pointwise [k0_pay5, k0_pay4, k0_pay2, piece]

theorem step6 : k0_pay6 (F := Ideal) (k0_pay2 (F := Ideal) h) a b d x (ix2 p e) = x (ix2 p e) + piece h p e a b d := by
  pointwise [k0_pay6, k0_pay2, piece]

theorem step8 : k0_pay8 (F := Ideal) (k0_pay7 (k0_pay2 (F := Ideal) h) a b) d x (ix2 p e) = x (ix2 p e) + piece h p e a b d := by
  pointwise [k0_pay8, k0_pay7, k0_pay2, piece]

theorem step9 : k0_pay9 (F := Ideal) (k0_pay2 (F := Ideal) h) a b d x (ix2 p e) = x (ix2 p e) + piece h p e a b d := by
  pointwise [k0_pay9, k0_pay2, piece]

theorem step11 : k0_pay11 (F := Ideal) (k0_pay10 (k0_pay2 (F := Ideal) h) a b) d x (ix2 p e) = x (ix2 p e) + piece h p e a b d := by
  pointwise [k0_pay11, k0_pay10, k0_pay2, piece]

theorem step12 : k0_pay12 (F := Ideal) (k0_pay2 (F := Ideal) h) a b d x (ix2 p e) = x (ix2 p e) + piece h p e a b d := by
  pointwise [k0_pay12, k0_pay2, piece]

theorem step15 : k0_pay15 (F := Ideal) (k0_pay2 (F := Ideal) h) (k0_pay13 (k0_pay2 (F := Ideal) h) a) (k0_pay14 b) (constant S512x256 FTy.f32 0#32) d x (ix2 p e) = x (ix2 p e) + piece h p e a b d := by
  pointwise [k0_pay15, k0_pay13, k0_pay14, k0_pay2, piece]

theorem step16 : k0_pay16 (F := Ideal) (k0_pay2 (F := Ideal) h) a b d x (ix2 p e) = x (ix2 p e) + piece h p e a b d := by
  pointwise [k0_pay16, k0_pay2, piece]

theorem step18 : k0_pay18 (F := Ideal) (k0_pay2 (F := Ideal) h) (k0_pay17 (k0_pay2 (F := Ideal) h) a) b d x (ix2 p e) = x (ix2 p e) + piece h p e a b d := by
  pointwise [k0_pay18, k0_pay17, k0_pay2, piece]

theorem step19 : k0_pay19 (F := Ideal) (k0_pay2 (F := Ideal) h) a b d x (ix2 p e) = x (ix2 p e) + piece h p e a b d := by
  pointwise [k0_pay19, k0_pay2, piece]

end Steps

end Cert.FfnIdeal.Hand
-- ==== Proof.FfnRef.lean ====
/- The dense layer's reference, stage by stage and element by element. -/
module

public import proofs.«01_k».proof.Proof.Gen.FfnReferenceIdeal.Run
public import Idealize.ShloMosaic.Lib.Pointwise

@[expose] public section

set_option maxRecDepth 16384
set_option maxHeartbeats 4000000

noncomputable section

namespace Cert.FfnReferenceIdeal.Hand

open Cert.FfnReferenceIdeal Cert.FfnReferenceIdeal.Gen
open Idealize.ShloMosaic Idealize.ShloMosaic.TcCoe Idealize.SL.Sem Idealize.ShloMosaic.StableHlo

section Stages

variable {F : FTy → Type} [FloatOps F]

/-- The gates and the ups, side by side. -/
def refH (h : FVec F S32768x1024 .f32) (w : FVec F S1024x5632 .f32) : FVec F S32768x5632 .f32 :=
  Host.dotGeneral dot_S32768x1024_S1024x5632_S32768x5632_1_0_0_1_n_n none (truncf .bf16 h bitsLt_bf16_f32) (truncf .bf16 w bitsLt_bf16_f32)

/-- A gate times its logistic function. -/
def refS (g : FVec F S32768x2816 .f32) : FVec F S32768x2816 .f32 :=
  mulf g (Host.divf (broadcastInDim S32768x2816 ![] bcast_S_S32768x2816 (constant S_ .f32 0x3F800000#32)) (addf (broadcastInDim S32768x2816 ![] bcast_S_S32768x2816 (constant S_ .f32 0x3F800000#32)) (Host.exp (Host.negf g))))

/-- The inner activations. -/
def refA (u : FVec F S32768x5632 .f32) : FVec F S32768x2816 .f32 :=
  mulf (refS (extractStridedSlice S32768x2816 ![0, 0] u slices_S32768x5632_S32768x2816_0_0)) (extractStridedSlice S32768x2816 ![0, 2816] u slices_S32768x5632_S32768x2816_0_2816)

/-- The residual stream after the layer. -/
def refX (x : FVec F S32768x1024 .f32) (a : FVec F S32768x2816 .f32) (w : FVec F S2816x1024 .f32) : FVec F S32768x1024 .f32 :=
  addf x (Host.dotGeneral dot_S32768x2816_S2816x1024_S32768x1024_1_0_0_1_n_n none (truncf .bf16 a bitsLt_bf16_f32) (truncf .bf16 w bitsLt_bf16_f32))

/-- A row's factor of the norm. -/
def refF (x : FVec F S32768x1024 .f32) : FVec F S32768x1 .f32 :=
  Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))

/-- The normed rows. -/
def refN (x : FVec F S32768x1024 .f32) (w : FVec F S1024 .f32) : FVec F S32768x1024 .bf16 :=
  truncf .bf16 (mulf (mulf x (broadcastInDim S32768x1024 ![0, 1] bcast_S32768x1_S32768x1024_0_1 (refF x))) (broadcastInDim S32768x1024 ![0, 1] bcast_S1x1024_S32768x1024_0_1 (broadcastInDim S1x1024 ![1] bcast_S1024_S1x1024_1 w))) bitsLt_bf16_f32

/-- The second result is the first one's rows, normed. -/
theorem res_eq (m : (ℓ : Loc nD τ sig) → Buf (Elt F) ℓ) (c : Dev nD) :
    Cert.FfnReferenceIdeal.Value.res_out1 m c
      = refN (refX (m ((c.tc : Thread nD τ).loc main_arg1)) (refA (refH (m ((c.tc : Thread nD τ).loc main_arg0)) (m ((c.tc : Thread nD τ).loc main_arg2)))) (m ((c.tc : Thread nD τ).loc main_arg3))) (m ((c.tc : Thread nD τ).loc main_arg4)) := rfl

end Stages

theorem refH_at (h : FVec Ideal S32768x1024 .f32) (w : FVec Ideal S1024x5632 .f32) (r : Fin 32768) (n : Fin 5632) :
    refH h w (ix2 r n) = ∑ d : Fin 1024, h (ix2 r d) * w (ix2 d n) := by
  pointwise [refH]

theorem refS_at (g : FVec Ideal S32768x2816 .f32) (r : Fin 32768) (n : Fin 2816) : refS g (ix2 r n) = g (ix2 r n) * Ideal.logistic (g (ix2 r n)) := by
  pointwise [refS]
  rfl

theorem refA_at (u : FVec Ideal S32768x5632 .f32) (r : Fin 32768) (n : Fin 2816) :
    refA u (ix2 r n) = u (ix2 r ⟨n.val, by omega⟩) * Ideal.logistic (u (ix2 r ⟨n.val, by omega⟩)) * u (ix2 r ⟨2816 + n.val, by omega⟩) := by
  unfold refA
  pointwise []
  rw [refS_at]
  pointwise []

theorem refX_at (x : FVec Ideal S32768x1024 .f32) (a : FVec Ideal S32768x2816 .f32) (w : FVec Ideal S2816x1024 .f32) (r : Fin 32768) (e : Fin 1024) :
    refX x a w (ix2 r e) = x (ix2 r e) + ∑ n : Fin 2816, a (ix2 r n) * w (ix2 n e) := by
  pointwise [refX]

theorem refN_at (x : FVec Ideal S32768x1024 .f32) (w : FVec Ideal S1024 .f32) (r : Fin 32768) (e : Fin 1024) :
    refN x w (ix2 r e) = x (ix2 r e) * Ideal.rsqrt (Ideal.div (∑ k : Fin 1024, x (ix2 r k) * x (ix2 r k)) (Ideal.ofBits .f32 0x44800000#32) + Ideal.ofBits .f32 0x358637BD#32) * w (ix1 e) := by
  pointwise [refN, refF]

end Cert.FfnReferenceIdeal.Hand
-- ==== Proof.FfnVal.lean ====
/- The dense layer's two result arrays, from the arguments. -/
module

public import proofs.«01_k».proof.Proof.Gen.FfnIdeal.Value
public import proofs.«01_k».proof.Proof.FfnStep
public import proofs.«01_k».proof.Proof.FfnRef

@[expose] public section

set_option maxRecDepth 16384
set_option maxHeartbeats 2000000

noncomputable section

namespace Cert.FfnIdeal.Hand

open Cert.FfnIdeal Cert.FfnIdeal.Gen
open Idealize.ShloMosaic Idealize.ShloMosaic.TcCoe Idealize.SL.Sem
open Idealize.ShloMosaic.Pipeline (Dat)
open Cert.FfnReferenceIdeal.Hand (refH refA refX refN refH_at refA_at refX_at refN_at)

/-- The rows after 1 of the eleven chunks. -/
@[reducible] def acc0 (h : FVec Ideal S512x1024 .bf16) (w : FVec Ideal S1024x5632 .bf16) (v : FVec Ideal S2816x1024 .bf16) (x : FVec Ideal S512x1024 .f32) : FVec Ideal S512x1024 .f32 :=
  k0_pay3 (F := Ideal) h (View.ld (Val := Elt Ideal) (S := S1024x5632) (e' := .bf16) w (Rect.unit (s := S1024x5632) ![0, 0] ![1024, 256] inb_S1024x5632_S1024x256_0_0)) (View.ld (Val := Elt Ideal) (S := S1024x5632) (e' := .bf16) w (Rect.unit (s := S1024x5632) ![0, 2816] ![1024, 256] inb_S1024x5632_S1024x256_0_2816)) (View.ld (Val := Elt Ideal) (S := S2816x1024) (e' := .bf16) v (Rect.unit (s := S2816x1024) ![0, 0] ![256, 1024] inb_S2816x1024_S256x1024_0_0)) x

theorem acc0_at (h : FVec Ideal S512x1024 .bf16) (w : FVec Ideal S1024x5632 .bf16) (v : FVec Ideal S2816x1024 .bf16) (x : FVec Ideal S512x1024 .f32) (p : Fin 512) (e : Fin 1024) : acc0 h w v x (ix2 p e) = x (ix2 p e) + chunk h w v p e 0 (by omega) :=
  (step3 h x p e _ _ _).trans (congrArg _ (piece_eq h w v p e 0 2816 inb_S1024x5632_S1024x256_0_0 inb_S1024x5632_S1024x256_0_2816 inb_S2816x1024_S256x1024_0_0 (by omega) rfl))

/-- The rows after 2 of the eleven chunks. -/
@[reducible] def acc1 (h : FVec Ideal S512x1024 .bf16) (w : FVec Ideal S1024x5632 .bf16) (v : FVec Ideal S2816x1024 .bf16) (x : FVec Ideal S512x1024 .f32) : FVec Ideal S512x1024 .f32 :=
  k0_pay5 (F := Ideal) (k0_pay4 h (View.ld (Val := Elt Ideal) (S := S1024x5632) (e' := .bf16) w (Rect.unit (s := S1024x5632) ![0, 256] ![1024, 256] inb_S1024x5632_S1024x256_0_256)) (View.ld (Val := Elt Ideal) (S := S1024x5632) (e' := .bf16) w (Rect.unit (s := S1024x5632) ![0, 3072] ![1024, 256] inb_S1024x5632_S1024x256_0_3072)) (View.ld (Val := Elt Ideal) (S := S2816x1024) (e' := .bf16) v (Rect.unit (s := S2816x1024) ![256, 0] ![256, 1024] inb_S2816x1024_S256x1024_256_0))) (acc0 h w v x)

theorem acc1_at (h : FVec Ideal S512x1024 .bf16) (w : FVec Ideal S1024x5632 .bf16) (v : FVec Ideal S2816x1024 .bf16) (x : FVec Ideal S512x1024 .f32) (p : Fin 512) (e : Fin 1024) : acc1 h w v x (ix2 p e) = (acc0 h w v x) (ix2 p e) + chunk h w v p e 256 (by omega) :=
  (step5 h (acc0 h w v x) p e _ _ _).trans (congrArg _ (piece_eq h w v p e 256 3072 inb_S1024x5632_S1024x256_0_256 inb_S1024x5632_S1024x256_0_3072 inb_S2816x1024_S256x1024_256_0 (by omega) rfl))

/-- The rows after 3 of the eleven chunks. -/
@[reducible] def acc2 (h : FVec Ideal S512x1024 .bf16) (w : FVec Ideal S1024x5632 .bf16) (v : FVec Ideal S2816x1024 .bf16) (x : FVec Ideal S512x1024 .f32) : FVec Ideal S512x1024 .f32 :=
  k0_pay6 (F := Ideal) (k0_pay2 (F := Ideal) h) (View.ld (Val := Elt Ideal) (S := S1024x5632) (e' := .bf16) w (Rect.unit (s := S1024x5632) ![0, 512] ![1024, 256] inb_S1024x5632_S1024x256_0_512)) (View.ld (Val := Elt Ideal) (S := S1024x5632) (e' := .bf16) w (Rect.unit (s := S1024x5632) ![0, 3328] ![1024, 256] inb_S1024x5632_S1024x256_0_3328)) (View.ld (Val := Elt Ideal) (S := S2816x1024) (e' := .bf16) v (Rect.unit (s := S2816x1024) ![512, 0] ![256, 1024] inb_S2816x1024_S256x1024_512_0)) (acc1 h w v x)

theorem acc2_at (h : FVec Ideal S512x1024 .bf16) (w : FVec Ideal S1024x5632 .bf16) (v : FVec Ideal S2816x1024 .bf16) (x : FVec Ideal S512x1024 .f32) (p : Fin 512) (e : Fin 1024) : acc2 h w v x (ix2 p e) = (acc1 h w v x) (ix2 p e) + chunk h w v p e 512 (by omega) :=
  (step6 h (acc1 h w v x) p e _ _ _).trans (congrArg _ (piece_eq h w v p e 512 3328 inb_S1024x5632_S1024x256_0_512 inb_S1024x5632_S1024x256_0_3328 inb_S2816x1024_S256x1024_512_0 (by omega) rfl))

/-- The rows after 4 of the eleven chunks. -/
@[reducible] def acc3 (h : FVec Ideal S512x1024 .bf16) (w : FVec Ideal S1024x5632 .bf16) (v : FVec Ideal S2816x1024 .bf16) (x : FVec Ideal S512x1024 .f32) : FVec Ideal S512x1024 .f32 :=
  k0_pay8 (F := Ideal) (k0_pay7 (k0_pay2 (F := Ideal) h) (View.ld (Val := Elt Ideal) (S := S1024x5632) (e' := .bf16) w (Rect.unit (s := S1024x5632) ![0, 768] ![1024, 256] inb_S1024x5632_S1024x256_0_768)) (View.ld (Val := Elt Ideal) (S := S1024x5632) (e' := .bf16) w (Rect.unit (s := S1024x5632) ![0, 3584] ![1024, 256] inb_S1024x5632_S1024x256_0_3584))) (View.ld (Val := Elt Ideal) (S := S2816x1024) (e' := .bf16) v (Rect.unit (s := S2816x1024) ![768, 0] ![256, 1024] inb_S2816x1024_S256x1024_768_0)) (acc2 h w v x)

theorem acc3_at (h : FVec Ideal S512x1024 .bf16) (w : FVec Ideal S1024x5632 .bf16) (v : FVec Ideal S2816x1024 .bf16) (x : FVec Ideal S512x1024 .f32) (p : Fin 512) (e : Fin 1024) : acc3 h w v x (ix2 p e) = (acc2 h w v x) (ix2 p e) + chunk h w v p e 768 (by omega) :=
  (step8 h (acc2 h w v x) p e _ _ _).trans (congrArg _ (piece_eq h w v p e 768 3584 inb_S1024x5632_S1024x256_0_768 inb_S1024x5632_S1024x256_0_3584 inb_S2816x1024_S256x1024_768_0 (by omega) rfl))

/-- The rows after 5 of the eleven chunks. -/
@[reducible] def acc4 (h : FVec Ideal S512x1024 .bf16) (w : FVec Ideal S1024x5632 .bf16) (v : FVec Ideal S2816x1024 .bf16) (x : FVec Ideal S512x1024 .f32) : FVec Ideal S512x1024 .f32 :=
  k0_pay9 (F := Ideal) (k0_pay2 (F := Ideal) h) (View.ld (Val := Elt Ideal) (S := S1024x5632) (e' := .bf16) w (Rect.unit (s := S1024x5632) ![0, 1024] ![1024, 256] inb_S1024x5632_S1024x256_0_1024)) (View.ld (Val := Elt Ideal) (S := S1024x5632) (e' := .bf16) w (Rect.unit (s := S1024x5632) ![0, 3840] ![1024, 256] inb_S1024x5632_S1024x256_0_3840)) (View.ld (Val := Elt Ideal) (S := S2816x1024) (e' := .bf16) v (Rect.unit (s := S2816x1024) ![1024, 0] ![256, 1024] inb_S2816x1024_S256x1024_1024_0)) (acc3 h w v x)

theorem acc4_at (h : FVec Ideal S512x1024 .bf16) (w : FVec Ideal S1024x5632 .bf16) (v : FVec Ideal S2816x1024 .bf16) (x : FVec Ideal S512x1024 .f32) (p : Fin 512) (e : Fin 1024) : acc4 h w v x (ix2 p e) = (acc3 h w v x) (ix2 p e) + chunk h w v p e 1024 (by omega) :=
  (step9 h (acc3 h w v x) p e _ _ _).trans (congrArg _ (piece_eq h w v p e 1024 3840 inb_S1024x5632_S1024x256_0_1024 inb_S1024x5632_S1024x256_0_3840 inb_S2816x1024_S256x1024_1024_0 (by omega) rfl))

/-- The rows after 6 of the eleven chunks. -/
@[reducible] def acc5 (h : FVec Ideal S512x1024 .bf16) (w : FVec Ideal S1024x5632 .bf16) (v : FVec Ideal S2816x1024 .bf16) (x : FVec Ideal S512x1024 .f32) : FVec Ideal S512x1024 .f32 :=
  k0_pay11 (F := Ideal) (k0_pay10 (k0_pay2 (F := Ideal) h) (View.ld (Val := Elt Ideal) (S := S1024x5632) (e' := .bf16) w (Rect.unit (s := S1024x5632) ![0, 1280] ![1024, 256] inb_S1024x5632_S1024x256_0_1280)) (View.ld (Val := Elt Ideal) (S := S1024x5632) (e' := .bf16) w (Rect.unit (s := S1024x5632) ![0, 4096] ![1024, 256] inb_S1024x5632_S1024x256_0_4096))) (View.ld (Val := Elt Ideal) (S := S2816x1024) (e' := .bf16) v (Rect.unit (s := S2816x1024) ![1280, 0] ![256, 1024] inb_S2816x1024_S256x1024_1280_0)) (acc4 h w v x)

theorem acc5_at (h : FVec Ideal S512x1024 .bf16) (w : FVec Ideal S1024x5632 .bf16) (v : FVec Ideal S2816x1024 .bf16) (x : FVec Ideal S512x1024 .f32) (p : Fin 512) (e : Fin 1024) : acc5 h w v x (ix2 p e) = (acc4 h w v x) (ix2 p e) + chunk h w v p e 1280 (by omega) :=
  (step11 h (acc4 h w v x) p e _ _ _).trans (congrArg _ (piece_eq h w v p e 1280 4096 inb_S1024x5632_S1024x256_0_1280 inb_S1024x5632_S1024x256_0_4096 inb_S2816x1024_S256x1024_1280_0 (by omega) rfl))

/-- The rows after 7 of the eleven chunks. -/
@[reducible] def acc6 (h : FVec Ideal S512x1024 .bf16) (w : FVec Ideal S1024x5632 .bf16) (v : FVec Ideal S2816x1024 .bf16) (x : FVec Ideal S512x1024 .f32) : FVec Ideal S512x1024 .f32 :=
  k0_pay12 (F := Ideal) (k0_pay2 (F := Ideal) h) (View.ld (Val := Elt Ideal) (S := S1024x5632) (e' := .bf16) w (Rect.unit (s := S1024x5632) ![0, 1536] ![1024, 256] inb_S1024x5632_S1024x256_0_1536)) (View.ld (Val := Elt Ideal) (S := S1024x5632) (e' := .bf16) w (Rect.unit (s := S1024x5632) ![0, 4352] ![1024, 256] inb_S1024x5632_S1024x256_0_4352)) (View.ld (Val := Elt Ideal) (S := S2816x1024) (e' := .bf16) v (Rect.unit (s := S2816x1024) ![1536, 0] ![256, 1024] inb_S2816x1024_S256x1024_1536_0)) (acc5 h w v x)

theorem acc6_at (h : FVec Ideal S512x1024 .bf16) (w : FVec Ideal S1024x5632 .bf16) (v : FVec Ideal S2816x1024 .bf16) (x : FVec Ideal S512x1024 .f32) (p : Fin 512) (e : Fin 1024) : acc6 h w v x (ix2 p e) = (acc5 h w v x) (ix2 p e) + chunk h w v p e 1536 (by omega) :=
  (step12 h (acc5 h w v x) p e _ _ _).trans (congrArg _ (piece_eq h w v p e 1536 4352 inb_S1024x5632_S1024x256_0_1536 inb_S1024x5632_S1024x256_0_4352 inb_S2816x1024_S256x1024_1536_0 (by omega) rfl))

/-- The rows after 8 of the eleven chunks. -/
@[reducible] def acc7 (h : FVec Ideal S512x1024 .bf16) (w : FVec Ideal S1024x5632 .bf16) (v : FVec Ideal S2816x1024 .bf16) (x : FVec Ideal S512x1024 .f32) : FVec Ideal S512x1024 .f32 :=
  k0_pay15 (F := Ideal) (k0_pay2 (F := Ideal) h) (k0_pay13 (k0_pay2 (F := Ideal) h) (View.ld (Val := Elt Ideal) (S := S1024x5632) (e' := .bf16) w (Rect.unit (s := S1024x5632) ![0, 1792] ![1024, 256] inb_S1024x5632_S1024x256_0_1792))) (k0_pay14 (View.ld (Val := Elt Ideal) (S := S1024x5632) (e' := .bf16) w (Rect.unit (s := S1024x5632) ![0, 4608] ![1024, 256] inb_S1024x5632_S1024x256_0_4608))) (constant S512x256 FTy.f32 0#32) (View.ld (Val := Elt Ideal) (S := S2816x1024) (e' := .bf16) v (Rect.unit (s := S2816x1024) ![1792, 0] ![256, 1024] inb_S2816x1024_S256x1024_1792_0)) (acc6 h w v x)

theorem acc7_at (h : FVec Ideal S512x1024 .bf16) (w : FVec Ideal S1024x5632 .bf16) (v : FVec Ideal S2816x1024 .bf16) (x : FVec Ideal S512x1024 .f32) (p : Fin 512) (e : Fin 1024) : acc7 h w v x (ix2 p e) = (acc6 h w v x) (ix2 p e) + chunk h w v p e 1792 (by omega) :=
  (step15 h (acc6 h w v x) p e _ _ _).trans (congrArg _ (piece_eq h w v p e 1792 4608 inb_S1024x5632_S1024x256_0_1792 inb_S1024x5632_S1024x256_0_4608 inb_S2816x1024_S256x1024_1792_0 (by omega) rfl))

/-- The rows after 9 of the eleven chunks. -/
@[reducible] def acc8 (h : FVec Ideal S512x1024 .bf16) (w : FVec Ideal S1024x5632 .bf16) (v : FVec Ideal S2816x1024 .bf16) (x : FVec Ideal S512x1024 .f32) : FVec Ideal S512x1024 .f32 :=
  k0_pay16 (F := Ideal) (k0_pay2 (F := Ideal) h) (View.ld (Val := Elt Ideal) (S := S1024x5632) (e' := .bf16) w (Rect.unit (s := S1024x5632) ![0, 2048] ![1024, 256] inb_S1024x5632_S1024x256_0_2048)) (View.ld (Val := Elt Ideal) (S := S1024x5632) (e' := .bf16) w (Rect.unit (s := S1024x5632) ![0, 4864] ![1024, 256] inb_S1024x5632_S1024x256_0_4864)) (View.ld (Val := Elt Ideal) (S := S2816x1024) (e' := .bf16) v (Rect.unit (s := S2816x1024) ![2048, 0] ![256, 1024] inb_S2816x1024_S256x1024_2048_0)) (acc7 h w v x)

theorem acc8_at (h : FVec Ideal S512x1024 .bf16) (w : FVec Ideal S1024x5632 .bf16) (v : FVec Ideal S2816x1024 .bf16) (x : FVec Ideal S512x1024 .f32) (p : Fin 512) (e : Fin 1024) : acc8 h w v x (ix2 p e) = (acc7 h w v x) (ix2 p e) + chunk h w v p e 2048 (by omega) :=
  (step16 h (acc7 h w v x) p e _ _ _).trans (congrArg _ (piece_eq h w v p e 2048 4864 inb_S1024x5632_S1024x256_0_2048 inb_S1024x5632_S1024x256_0_4864 inb_S2816x1024_S256x1024_2048_0 (by omega) rfl))

/-- The rows after 10 of the eleven chunks. -/
@[reducible] def acc9 (h : FVec Ideal S512x1024 .bf16) (w : FVec Ideal S1024x5632 .bf16) (v : FVec Ideal S2816x1024 .bf16) (x : FVec Ideal S512x1024 .f32) : FVec Ideal S512x1024 .f32 :=
  k0_pay18 (F := Ideal) (k0_pay2 (F := Ideal) h) (k0_pay17 (k0_pay2 (F := Ideal) h) (View.ld (Val := Elt Ideal) (S := S1024x5632) (e' := .bf16) w (Rect.unit (s := S1024x5632) ![0, 2304] ![1024, 256] inb_S1024x5632_S1024x256_0_2304))) (View.ld (Val := Elt Ideal) (S := S1024x5632) (e' := .bf16) w (Rect.unit (s := S1024x5632) ![0, 5120] ![1024, 256] inb_S1024x5632_S1024x256_0_5120)) (View.ld (Val := Elt Ideal) (S := S2816x1024) (e' := .bf16) v (Rect.unit (s := S2816x1024) ![2304, 0] ![256, 1024] inb_S2816x1024_S256x1024_2304_0)) (acc8 h w v x)

theorem acc9_at (h : FVec Ideal S512x1024 .bf16) (w : FVec Ideal S1024x5632 .bf16) (v : FVec Ideal S2816x1024 .bf16) (x : FVec Ideal S512x1024 .f32) (p : Fin 512) (e : Fin 1024) : acc9 h w v x (ix2 p e) = (acc8 h w v x) (ix2 p e) + chunk h w v p e 2304 (by omega) :=
  (step18 h (acc8 h w v x) p e _ _ _).trans (congrArg _ (piece_eq h w v p e 2304 5120 inb_S1024x5632_S1024x256_0_2304 inb_S1024x5632_S1024x256_0_5120 inb_S2816x1024_S256x1024_2304_0 (by omega) rfl))

/-- The rows after 11 of the eleven chunks. -/
@[reducible] def acc10 (h : FVec Ideal S512x1024 .bf16) (w : FVec Ideal S1024x5632 .bf16) (v : FVec Ideal S2816x1024 .bf16) (x : FVec Ideal S512x1024 .f32) : FVec Ideal S512x1024 .f32 :=
  k0_pay19 (F := Ideal) (k0_pay2 (F := Ideal) h) (View.ld (Val := Elt Ideal) (S := S1024x5632) (e' := .bf16) w (Rect.unit (s := S1024x5632) ![0, 2560] ![1024, 256] inb_S1024x5632_S1024x256_0_2560)) (View.ld (Val := Elt Ideal) (S := S1024x5632) (e' := .bf16) w (Rect.unit (s := S1024x5632) ![0, 5376] ![1024, 256] inb_S1024x5632_S1024x256_0_5376)) (View.ld (Val := Elt Ideal) (S := S2816x1024) (e' := .bf16) v (Rect.unit (s := S2816x1024) ![2560, 0] ![256, 1024] inb_S2816x1024_S256x1024_2560_0)) (acc9 h w v x)

theorem acc10_at (h : FVec Ideal S512x1024 .bf16) (w : FVec Ideal S1024x5632 .bf16) (v : FVec Ideal S2816x1024 .bf16) (x : FVec Ideal S512x1024 .f32) (p : Fin 512) (e : Fin 1024) : acc10 h w v x (ix2 p e) = (acc9 h w v x) (ix2 p e) + chunk h w v p e 2560 (by omega) :=
  (step19 h (acc9 h w v x) p e _ _ _).trans (congrArg _ (piece_eq h w v p e 2560 5376 inb_S1024x5632_S1024x256_0_2560 inb_S1024x5632_S1024x256_0_5376 inb_S2816x1024_S256x1024_2560_0 (by omega) rfl))

theorem acc_at (h : FVec Ideal S512x1024 .bf16) (w : FVec Ideal S1024x5632 .bf16) (v : FVec Ideal S2816x1024 .bf16) (x : FVec Ideal S512x1024 .f32) (p : Fin 512) (e : Fin 1024) : acc10 h w v x (ix2 p e) = x (ix2 p e) + ∑ n : Fin 2816, lane h w v p e n := by
  rw [acc10_at, acc9_at, acc8_at, acc7_at, acc6_at, acc5_at, acc4_at, acc3_at, acc2_at, acc1_at, acc0_at]
  exact lanes (lane h w v p e) (x (ix2 p e))

theorem norm_at (x : FVec Ideal S512x1024 .f32) (w : FVec Ideal S1x1024 .f32) (p : Fin 512) (e : Fin 1024) :
    k0_pay1 (F := Ideal) x w (ix2 p e) = x (ix2 p e) * Ideal.rsqrt (Ideal.div (∑ k : Fin 1024, x (ix2 p k) * x (ix2 p k)) (Ideal.ofBits .f32 0x44800000#32) + Ideal.ofBits .f32 0x358637BD#32) * w (ix2 0 e) := by
  pointwise [k0_pay1]

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0] ∧ win0_4.index t = ![0, 0]
    ∧ win0_5.index t = ![t.val, 0] ∧ win0_6.index t = ![t.val, 0] :=
  (by decide +kernel : ∀ t : Fin grid0.N, _)

/-- The first result's reference over the arguments. -/
abbrev XR : FVec Ideal S32768x1024 .f32 :=
  refX (m ((c : Thread nD τ).loc main_arg1)) (refA (refH (m ((c : Thread nD τ).loc main_arg0)) (m ((c : Thread nD τ).loc main_arg2)))) (m ((c : Thread nD τ).loc main_arg3))

theorem rows (t : Fin cfg0.N) (p : Fin 512) : t.val * 512 + p.val < 32768 := by
  have h : cfg0.N = 64 := by decide +kernel
  have := t.isLt
  omega

/-- Where a row of a point's blocks lies. -/
abbrev row (t : Fin cfg0.N) (p : Fin 512) : Fin 32768 := ⟨t.val * 512 + p.val, rows t p⟩

section Blocks

variable (t : Fin cfg0.N) (p : Fin 512)

theorem blk_h (d : Fin 1024) : iblk m c 0 t (ix2 p d) = (show FVec Ideal S32768x1024 .f32 from m ((c : Thread nD τ).loc main_arg0)) (ix2 (row t p) d) := by
  blk_point [iblk, V, idx t]

theorem blk_x (e : Fin 1024) : iblk m c 1 t (ix2 p e) = (show FVec Ideal S32768x1024 .f32 from m ((c : Thread nD τ).loc main_arg1)) (ix2 (row t p) e) := by
  blk_point [iblk, V, idx t]

theorem blk_w (d : Fin 1024) (n : Fin 5632) : iblk m c 2 t (ix2 d n) = (show FVec Ideal S1024x5632 .f32 from m ((c : Thread nD τ).loc main_arg2)) (ix2 d n) := by
  blk_point [iblk, V, idx t]

theorem blk_v (n : Fin 2816) (e : Fin 1024) : iblk m c 3 t (ix2 n e) = (show FVec Ideal S2816x1024 .f32 from m ((c : Thread nD τ).loc main_arg3)) (ix2 n e) := by
  blk_point [iblk, V, idx t]

theorem blk_n (e : Fin 1024) : iblk m c 4 t (ix2 0 e) = (show FVec Ideal S1024 .f32 from m ((c : Thread nD τ).loc main_arg4)) (ix1 e) := by
  blk_point [iblk, V, idx t]

/-- What a point leaves of the first result. -/
abbrev XB : FVec Ideal S512x1024 .f32 := acc10 (iblk m c 0 t) (iblk m c 2 t) (iblk m c 3 t) (iblk m c 1 t)

theorem col_at (n : Fin 5632) : col (iblk m c 0 t) (iblk m c 2 t) p n = refH (F := Ideal) (m ((c : Thread nD τ).loc main_arg0)) (m ((c : Thread nD τ).loc main_arg2)) (ix2 (row t p) n) := by
  refine Eq.trans ?_ (refH_at _ _ _ _).symm
  exact Finset.sum_congr rfl fun d _ => congrArg₂ (fun a b : EReal => a * b) (blk_h m c t p d) (blk_w m c t d n)

theorem XB_at (e : Fin 1024) : XB m c t (ix2 p e) = XR m c (ix2 (row t p) e) := by
  refine (acc_at _ _ _ _ p e).trans (Eq.trans ?_ (refX_at _ _ _ _ _).symm)
  refine congrArg₂ (· + ·) (blk_x m c t p e) (Finset.sum_congr rfl fun n _ => ?_)
  refine congrArg₂ (fun a b : EReal => a * b) (Eq.trans ?_ (refA_at _ _ _).symm) (blk_v m c t n e)
  exact congrArg₂ (fun a b : EReal => a * b) (congrArg₂ (fun a b : EReal => a * b) (col_at m c t p _) (congrArg Ideal.logistic (col_at m c t p _))) (col_at m c t p _)

theorem NB_at (e : Fin 1024) : k0_pay1 (F := Ideal) (XB m c t) (iblk m c 4 t) (ix2 p e) = refN (XR m c) (m ((c : Thread nD τ).loc main_arg4)) (ix2 (row t p) e) := by
  refine (norm_at _ _ p e).trans ((congrArg₂ (fun a b : EReal => a * b) (congrArg₂ (fun a b : EReal => a * b) (XB_at m c t p e) (congrArg (fun s : EReal => Ideal.rsqrt (Ideal.div s _ + _)) ?_)) (blk_n m c t e)).trans (refN_at _ _ _ _).symm)
  exact Finset.sum_congr rfl fun k _ => congrArg₂ (fun a b : EReal => a * b) (XB_at m c t p k) (XB_at m c t p k)

end Blocks

theorem emb5 (t : Fin cfg0.N) (p : Fin 512) (e : Fin 1024) : (((cfg0.win 5).blk t).view.emb (ix2 p e) : S32768x1024.Idx) = ix2 (row t p) e := by
  blk_ext [idx t]

theorem emb6 (t : Fin cfg0.N) (p : Fin 512) (e : Fin 1024) : (((cfg0.win 6).blk t).view.emb (ix2 p e) : S32768x1024.Idx) = ix2 (row t p) e := by
  blk_ext [idx t]

theorem final5 : (dats m 0 c).arrAt 5 cfg0.N = XR m c := by
  refine (dats m 0 c).arrAt_eq_of_covers 5 _ (by decide +kernel) fun t _ y => ?_
  blk_simp
  rw [after0_5]
  unfold outsAt0
  frame_out
  obtain ⟨p, e, rfl⟩ : ∃ (p : Fin 512) (e : Fin 1024), y = ix2 p e := ⟨y 0, y 1, by funext a; match a with | 0 => rfl | 1 => rfl⟩
  exact (XB_at m c t p e).trans (congrArg (XR m c) (emb5 t p e).symm)

theorem final6 : (dats m 0 c).arrAt 6 cfg0.N = refN (XR m c) (m ((c : Thread nD τ).loc main_arg4)) := by
  refine (dats m 0 c).arrAt_eq_of_covers 6 _ (by decide +kernel) fun t _ y => ?_
  blk_simp
  rw [after0_6]
  unfold outsAt0
  frame_out
  obtain ⟨p, e, rfl⟩ : ∃ (p : Fin 512) (e : Fin 1024), y = ix2 p e := ⟨y 0, y 1, by funext a; match a with | 0 => rfl | 1 => rfl⟩
  exact (NB_at m c t p e).trans (congrArg (refN (XR m c) (m ((c : Thread nD τ).loc main_arg4))) (emb6 t p e).symm)

end Cert.FfnIdeal.Hand
-- ==== Proof.MixRef.lean ====
/- The mixer's reference, stage by stage and element by element. -/
module

public import proofs.«01_k».proof.Proof.Gen.MixReferenceIdeal.Run
public import Idealize.ShloMosaic.Lib.Pointwise

@[expose] public section

set_option maxRecDepth 16384
set_option maxHeartbeats 4000000

noncomputable section

namespace Cert.MixReferenceIdeal.Hand

open Cert.MixReferenceIdeal Cert.MixReferenceIdeal.Gen
open Idealize.ShloMosaic Idealize.ShloMosaic.TcCoe Idealize.SL.Sem Idealize.ShloMosaic.StableHlo

section Stages

variable {F : FTy → Type} [FloatOps F]

/-- The logistic function of a gate. -/
def refG (g : FVec F S32768x1024 .f32) : FVec F S32768x1024 .f32 :=
  Host.divf (broadcastInDim S32768x1024 ![] bcast_S_S32768x1024 (constant S_ .f32 0x3F800000#32)) (addf (broadcastInDim S32768x1024 ![] bcast_S_S32768x1024 (constant S_ .f32 0x3F800000#32)) (Host.exp (Host.negf g)))

/-- One branch's projection. -/
def refY (o : FVec F S32768x512 .f32) (w : FVec F S512x1024 .f32) : FVec F S32768x1024 .f32 :=
  Host.dotGeneral dot_S32768x512_S512x1024_S32768x1024_1_0_0_1_n_n none (truncf .bf16 o bitsLt_bf16_f32) (truncf .bf16 w bitsLt_bf16_f32)

/-- The gated branches' sum. -/
def refM (oa ob : FVec F S32768x512 .f32) (pr : FVec F S32768x5632 .f32) (wa wb : FVec F S512x1024 .f32) : FVec F S32768x1024 .f32 :=
  addf (mulf (refG (extractStridedSlice S32768x1024 ![0, 0] pr slices_S32768x5632_S32768x1024_0_0)) (refY oa wa)) (mulf (refG (extractStridedSlice S32768x1024 ![0, 1024] pr slices_S32768x5632_S32768x1024_0_1024)) (refY ob wb))

/-- The residual stream after the mixer. -/
def refX (x : FVec F S32768x1024 .f32) (g : FVec F S32768x1024 .f32) (wo : FVec F S1024x1024 .f32) : FVec F S32768x1024 .f32 :=
  addf x (Host.dotGeneral dot_S32768x1024_S1024x1024_S32768x1024_1_0_0_1_n_n none (truncf .bf16 g bitsLt_bf16_f32) (truncf .bf16 wo bitsLt_bf16_f32))

/-- A row's factor of the norm. -/
def refF (x : FVec F S32768x1024 .f32) : FVec F S32768x1 .f32 :=
  Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))

/-- The normed rows. -/
def refN (x : FVec F S32768x1024 .f32) (w : FVec F S1024 .f32) : FVec F S32768x1024 .bf16 :=
  truncf .bf16 (mulf (mulf x (broadcastInDim S32768x1024 ![0, 1] bcast_S32768x1_S32768x1024_0_1 (refF x))) (broadcastInDim S32768x1024 ![0, 1] bcast_S1x1024_S32768x1024_0_1 (broadcastInDim S1x1024 ![1] bcast_S1024_S1x1024_1 w))) bitsLt_bf16_f32

/-- The second result is the first one's rows, normed. -/
theorem res_eq (m : (ℓ : Loc nD τ sig) → Buf (Elt F) ℓ) (c : Dev nD) :
    Cert.MixReferenceIdeal.Value.res_out1 m c
      = refN (refX (m ((c.tc : Thread nD τ).loc main_arg3)) (refM (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (m ((c.tc : Thread nD τ).loc main_arg6))) (m ((c.tc : Thread nD τ).loc main_arg7)) := rfl

end Stages

theorem refG_at (g : FVec Ideal S32768x1024 .f32) (r : Fin 32768) (e : Fin 1024) : refG g (ix2 r e) = Ideal.logistic (g (ix2 r e)) := by
  pointwise [refG]
  rfl

theorem refY_at (o : FVec Ideal S32768x512 .f32) (w : FVec Ideal S512x1024 .f32) (r : Fin 32768) (e : Fin 1024) :
    refY o w (ix2 r e) = ∑ k : Fin 512, o (ix2 r k) * w (ix2 k e) := by
  pointwise [refY]

theorem refM_at (oa ob : FVec Ideal S32768x512 .f32) (pr : FVec Ideal S32768x5632 .f32) (wa wb : FVec Ideal S512x1024 .f32) (r : Fin 32768) (e : Fin 1024) :
    refM oa ob pr wa wb (ix2 r e) = Ideal.logistic (pr (ix2 r ⟨e.val, by omega⟩)) * (∑ k : Fin 512, oa (ix2 r k) * wa (ix2 k e))
      + Ideal.logistic (pr (ix2 r ⟨1024 + e.val, by omega⟩)) * (∑ k : Fin 512, ob (ix2 r k) * wb (ix2 k e)) := by
  rw [← refY_at, ← refY_at]
  unfold refM
  pointwise []
  rw [refG_at, refG_at]
  pointwise []

theorem refX_at (x g : FVec Ideal S32768x1024 .f32) (wo : FVec Ideal S1024x1024 .f32) (r : Fin 32768) (e : Fin 1024) :
    refX x g wo (ix2 r e) = x (ix2 r e) + ∑ k : Fin 1024, g (ix2 r k) * wo (ix2 k e) := by
  pointwise [refX]

theorem refN_at (x : FVec Ideal S32768x1024 .f32) (w : FVec Ideal S1024 .f32) (r : Fin 32768) (e : Fin 1024) :
    refN x w (ix2 r e) = x (ix2 r e) * Ideal.rsqrt (Ideal.div (∑ k : Fin 1024, x (ix2 r k) * x (ix2 r k)) (Ideal.ofBits .f32 0x44800000#32) + Ideal.ofBits .f32 0x358637BD#32) * w (ix1 e) := by
  pointwise [refN, refF]

end Cert.MixReferenceIdeal.Hand
-- ==== Proof.MixVal.lean ====
/- The mixer's two result arrays, from the arguments. -/
module

public import proofs.«01_k».proof.Proof.Gen.MixIdeal.Value
public import proofs.«01_k».proof.Proof.MixRef
public import Idealize.ShloMosaic.Lib.Pipeline.ValueKit

@[expose] public section

set_option maxRecDepth 16384
set_option maxHeartbeats 2000000

noncomputable section

namespace Cert.MixIdeal.Hand

open Cert.MixIdeal Cert.MixIdeal.Gen
open Idealize.ShloMosaic Idealize.ShloMosaic.TcCoe Idealize.SL.Sem
open Idealize.ShloMosaic.Pipeline (Dat)
open Cert.MixReferenceIdeal.Hand (refM refX refN refM_at refX_at refN_at)

theorem pay2_at (a b : FVec Ideal S512x512 .bf16) (wa wb : FVec Ideal S512x1024 .bf16) (ga gb x : FVec Ideal S512x1024 .f32) (wo : FVec Ideal S1024x1024 .bf16) (p : Fin 512) (e : Fin 1024) :
    k0_pay2 a wa b wb ga gb x wo (ix2 p e) = x (ix2 p e) + ∑ k : Fin 1024, (Ideal.logistic (ga (ix2 p k)) * (∑ d : Fin 512, a (ix2 p d) * wa (ix2 d k))
      + Ideal.logistic (gb (ix2 p k)) * (∑ d : Fin 512, b (ix2 p d) * wb (ix2 d k))) * wo (ix2 k e) := by
  pointwise [k0_pay2]

theorem pay1_at (x : FVec Ideal S512x1024 .f32) (w : FVec Ideal S1x1024 .f32) (s z : FVec Ideal S512x1 .f32) (p : Fin 512) (e : Fin 1024) :
    k0_pay1 x w s z (ix2 p e) = x (ix2 p e) * Ideal.rsqrt (s (ix2 p 0) + z (ix2 p 0)) * w (ix2 0 e) := by
  pointwise [k0_pay1]

theorem pay4_at (a b : FVec Ideal S512x512 .bf16) (wa wb : FVec Ideal S512x1024 .bf16) (ga gb x : FVec Ideal S512x1024 .f32) (wo : FVec Ideal S1024x1024 .bf16) (p : Fin 512) :
    k0_pay4 (F := Ideal) a wa b wb ga gb x wo (ix2 p 0) = Ideal.div (∑ k : Fin 1024, k0_pay2 (F := Ideal) a wa b wb ga gb x wo (ix2 p k) * k0_pay2 (F := Ideal) a wa b wb ga gb x wo (ix2 p k)) (Ideal.ofBits .f32 0x44800000#32) := by
  pointwise [k0_pay4]

theorem pay5_at (p : Fin 512) : k0_pay5 (F := Ideal) (ix2 p 0) = Ideal.ofBits .f32 0x358637BD#32 := by
  pointwise [k0_pay5]

theorem pay3_at (w : FVec Ideal S1x1024 .f32) (e : Fin 1024) : k0_pay3 w (ix2 0 e) = w (ix2 0 e) := by
  pointwise [k0_pay3]

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 1] ∧ win0_4.index t = ![t.val, 0]
    ∧ win0_5.index t = ![0, 0] ∧ win0_6.index t = ![0, 0] ∧ win0_7.index t = ![0, 0] ∧ win0_8.index t = ![0, 0] ∧ win0_9.index t = ![t.val, 0] ∧ win0_10.index t = ![t.val, 0] :=
  (by decide +kernel : ∀ t : Fin grid0.N, _)

/-- The first result's reference over the arguments. -/
abbrev XR : FVec Ideal S32768x1024 .f32 :=
  refX (m ((c : Thread nD τ).loc main_arg3)) (refM (m ((c : Thread nD τ).loc main_arg0)) (m ((c : Thread nD τ).loc main_arg1)) (m ((c : Thread nD τ).loc main_arg2)) (m ((c : Thread nD τ).loc main_arg4)) (m ((c : Thread nD τ).loc main_arg5))) (m ((c : Thread nD τ).loc main_arg6))

theorem rows (t : Fin cfg0.N) (p : Fin 512) : t.val * 512 + p.val < 32768 := by
  have h : cfg0.N = 64 := by decide +kernel
  have := t.isLt
  omega

/-- Where a row of a point's blocks lies. -/
abbrev row (t : Fin cfg0.N) (p : Fin 512) : Fin 32768 := ⟨t.val * 512 + p.val, rows t p⟩

section Blocks

variable (t : Fin cfg0.N) (p : Fin 512)

theorem blk_oa (d : Fin 512) : iblk m c 0 t (ix2 p d) = (show FVec Ideal S32768x512 .f32 from m ((c : Thread nD τ).loc main_arg0)) (ix2 (row t p) d) := by
  blk_point [iblk, V, idx t]

theorem blk_ob (d : Fin 512) : iblk m c 1 t (ix2 p d) = (show FVec Ideal S32768x512 .f32 from m ((c : Thread nD τ).loc main_arg1)) (ix2 (row t p) d) := by
  blk_point [iblk, V, idx t]

theorem blk_ga (e : Fin 1024) : X0_2 m c t (ix2 p e) = (show FVec Ideal S32768x5632 .f32 from m ((c : Thread nD τ).loc main_arg2)) (ix2 (row t p) ⟨e.val, by omega⟩) := by
  unfold X0_2 Pipeline.Window.fill
  rw [dif_pos (moved0_2 t _)]
  blk_point [iblk, V, idx t]

theorem blk_gb (e : Fin 1024) : X0_3 m c t (ix2 p e) = (show FVec Ideal S32768x5632 .f32 from m ((c : Thread nD τ).loc main_arg2)) (ix2 (row t p) ⟨1024 + e.val, by omega⟩) := by
  unfold X0_3 Pipeline.Window.fill
  rw [dif_pos (moved0_3 t _)]
  blk_point [iblk, V, idx t]

theorem blk_x (e : Fin 1024) : iblk m c 4 t (ix2 p e) = (show FVec Ideal S32768x1024 .f32 from m ((c : Thread nD τ).loc main_arg3)) (ix2 (row t p) e) := by
  blk_point [iblk, V, idx t]

theorem blk_wa (d : Fin 512) (e : Fin 1024) : iblk m c 5 t (ix2 d e) = (show FVec Ideal S512x1024 .f32 from m ((c : Thread nD τ).loc main_arg4)) (ix2 d e) := by
  blk_point [iblk, V, idx t]

theorem blk_wb (d : Fin 512) (e : Fin 1024) : iblk m c 6 t (ix2 d e) = (show FVec Ideal S512x1024 .f32 from m ((c : Thread nD τ).loc main_arg5)) (ix2 d e) := by
  blk_point [iblk, V, idx t]

theorem blk_wo (d e : Fin 1024) : iblk m c 7 t (ix2 d e) = (show FVec Ideal S1024x1024 .f32 from m ((c : Thread nD τ).loc main_arg6)) (ix2 d e) := by
  blk_point [iblk, V, idx t]

theorem blk_w (e : Fin 1024) : iblk m c 8 t (ix2 0 e) = (show FVec Ideal S1024 .f32 from m ((c : Thread nD τ).loc main_arg7)) (ix1 e) := by
  blk_point [iblk, V, idx t]

/-- What a point leaves of the first result. -/
abbrev XB : FVec Ideal S512x1024 .f32 :=
  k0_pay2 (F := Ideal) (iblk m c 0 t) (iblk m c 5 t) (iblk m c 1 t) (iblk m c 6 t) (X0_2 m c t) (X0_3 m c t) (iblk m c 4 t) (iblk m c 7 t)

theorem XB_at (e : Fin 1024) : XB m c t (ix2 p e) = XR m c (ix2 (row t p) e) := by
  refine (pay2_at _ _ _ _ _ _ _ _ p e).trans ?_
  unfold XR
  rw [refX_at]
  refine congrArg₂ (· + ·) (blk_x m c t p e) (Finset.sum_congr rfl fun k _ => ?_)
  rw [refM_at]
  refine congrArg₂ (· * ·) (congrArg₂ (· + ·) (congrArg₂ (· * ·) (congrArg _ (blk_ga m c t p k)) (Finset.sum_congr rfl fun d _ => ?_))
    (congrArg₂ (· * ·) (congrArg _ (blk_gb m c t p k)) (Finset.sum_congr rfl fun d _ => ?_))) (blk_wo m c t k e)
  · exact congrArg₂ (· * ·) (blk_oa m c t p d) (blk_wa m c t d k)
  · exact congrArg₂ (· * ·) (blk_ob m c t p d) (blk_wb m c t d k)

theorem NB_at (e : Fin 1024) : k0_pay1 (F := Ideal) (XB m c t) (k0_pay3 (iblk m c 8 t)) (k0_pay4 (F := Ideal) (iblk m c 0 t) (iblk m c 5 t) (iblk m c 1 t) (iblk m c 6 t) (X0_2 m c t) (X0_3 m c t) (iblk m c 4 t) (iblk m c 7 t)) k0_pay5 (ix2 p e)
    = refN (XR m c) (m ((c : Thread nD τ).loc main_arg7)) (ix2 (row t p) e) := by
  refine (pay1_at _ _ _ _ p e).trans ((congrArg₂ (· * ·) (congrArg₂ (· * ·) (XB_at m c t p e) (congrArg _ (congrArg₂ (· + ·) ((pay4_at _ _ _ _ _ _ _ _ p).trans ?_) (pay5_at p)))) ((pay3_at _ e).trans (blk_w m c t e))).trans (refN_at _ _ _ _).symm)
  exact congrArg (Ideal.div · _) (Finset.sum_congr rfl fun k _ => congrArg₂ (· * ·) (XB_at m c t p k) (XB_at m c t p k))

end Blocks

theorem emb9 (t : Fin cfg0.N) (p : Fin 512) (e : Fin 1024) : (((cfg0.win 9).blk t).view.emb (ix2 p e) : S32768x1024.Idx) = ix2 (row t p) e := by
  blk_ext [idx t]

theorem emb10 (t : Fin cfg0.N) (p : Fin 512) (e : Fin 1024) : (((cfg0.win 10).blk t).view.emb (ix2 p e) : S32768x1024.Idx) = ix2 (row t p) e := by
  blk_ext [idx t]

theorem final9 : (dats m 0 c).arrAt 9 cfg0.N = XR m c := by
  refine (dats m 0 c).arrAt_eq_of_covers 9 _ (by decide +kernel) fun t _ y => ?_
  blk_simp
  rw [after0_9]
  unfold outsAt0
  frame_out
  obtain ⟨p, e, rfl⟩ : ∃ (p : Fin 512) (e : Fin 1024), y = ix2 p e := ⟨y 0, y 1, by funext a; match a with | 0 => rfl | 1 => rfl⟩
  exact (XB_at m c t p e).trans (congrArg (XR m c) (emb9 t p e).symm)

theorem final10 : (dats m 0 c).arrAt 10 cfg0.N = refN (XR m c) (m ((c : Thread nD τ).loc main_arg7)) := by
  refine (dats m 0 c).arrAt_eq_of_covers 10 _ (by decide +kernel) fun t _ y => ?_
  blk_simp
  rw [after0_10]
  unfold outsAt0
  frame_out
  obtain ⟨p, e, rfl⟩ : ∃ (p : Fin 512) (e : Fin 1024), y = ix2 p e := ⟨y 0, y 1, by funext a; match a with | 0 => rfl | 1 => rfl⟩
  exact (NB_at m c t p e).trans (congrArg (refN (XR m c) (m ((c : Thread nD τ).loc main_arg7))) (emb10 t p e).symm)

end Cert.MixIdeal.Hand
-- ==== Proof.MixNextVal.lean ====
/- The second layer's mixer's residual stream and normed rows, from the arguments; its payloads are the first layer's. -/
module

public import proofs.«01_k».proof.Proof.Gen.MixNextIdeal.Value
public import proofs.«01_k».proof.Proof.Gen.MixNextReferenceIdeal.Run
public import proofs.«01_k».proof.Proof.MixVal
public import Idealize.ShloMosaic.Lib.Pipeline.ValueKit

@[expose] public section

set_option maxRecDepth 16384
set_option maxHeartbeats 2000000

noncomputable section

namespace Cert.MixNextIdeal.Hand

open Cert.MixNextIdeal Cert.MixNextIdeal.Gen
open Idealize.ShloMosaic Idealize.ShloMosaic.TcCoe Idealize.SL.Sem
open Idealize.ShloMosaic.Pipeline (Dat)
open Cert.MixReferenceIdeal.Hand (refM refX refN refM_at refX_at refN_at)
open Cert.MixIdeal.Hand (pay1_at pay2_at pay3_at pay4_at pay5_at)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 1] ∧ win0_4.index t = ![t.val, 0]
    ∧ win0_5.index t = ![0, 0] ∧ win0_6.index t = ![0, 0] ∧ win0_7.index t = ![0, 0] ∧ win0_8.index t = ![0, 0] ∧ win0_12.index t = ![t.val, 0] ∧ win0_13.index t = ![t.val, 0] :=
  (by decide +kernel : ∀ t : Fin grid0.N, _)

/-- The first result's reference over the arguments. -/
abbrev XR : FVec Ideal S32768x1024 .f32 :=
  refX (m ((c : Thread nD τ).loc main_arg3)) (refM (m ((c : Thread nD τ).loc main_arg0)) (m ((c : Thread nD τ).loc main_arg1)) (m ((c : Thread nD τ).loc main_arg2)) (m ((c : Thread nD τ).loc main_arg4)) (m ((c : Thread nD τ).loc main_arg5))) (m ((c : Thread nD τ).loc main_arg6))

theorem rows (t : Fin cfg0.N) (p : Fin 512) : t.val * 512 + p.val < 32768 := by
  have h : cfg0.N = 64 := by decide +kernel
  have := t.isLt
  omega

/-- Where a row of a point's blocks lies. -/
abbrev row (t : Fin cfg0.N) (p : Fin 512) : Fin 32768 := ⟨t.val * 512 + p.val, rows t p⟩

section Blocks

variable (t : Fin cfg0.N) (p : Fin 512)

theorem blk_oa (d : Fin 512) : iblk m c 0 t (ix2 p d) = (show FVec Ideal S32768x512 .f32 from m ((c : Thread nD τ).loc main_arg0)) (ix2 (row t p) d) := by
  blk_point [iblk, V, idx t]

theorem blk_ob (d : Fin 512) : iblk m c 1 t (ix2 p d) = (show FVec Ideal S32768x512 .f32 from m ((c : Thread nD τ).loc main_arg1)) (ix2 (row t p) d) := by
  blk_point [iblk, V, idx t]

theorem blk_ga (e : Fin 1024) : X0_2 m c t (ix2 p e) = (show FVec Ideal S32768x5632 .f32 from m ((c : Thread nD τ).loc main_arg2)) (ix2 (row t p) ⟨e.val, by omega⟩) := by
  unfold X0_2 Pipeline.Window.fill
  rw [dif_pos (moved0_2 t _)]
  blk_point [iblk, V, idx t]

theorem blk_gb (e : Fin 1024) : X0_3 m c t (ix2 p e) = (show FVec Ideal S32768x5632 .f32 from m ((c : Thread nD τ).loc main_arg2)) (ix2 (row t p) ⟨1024 + e.val, by omega⟩) := by
  unfold X0_3 Pipeline.Window.fill
  rw [dif_pos (moved0_3 t _)]
  blk_point [iblk, V, idx t]

theorem blk_x (e : Fin 1024) : iblk m c 4 t (ix2 p e) = (show FVec Ideal S32768x1024 .f32 from m ((c : Thread nD τ).loc main_arg3)) (ix2 (row t p) e) := by
  blk_point [iblk, V, idx t]

theorem blk_wa (d : Fin 512) (e : Fin 1024) : iblk m c 5 t (ix2 d e) = (show FVec Ideal S512x1024 .f32 from m ((c : Thread nD τ).loc main_arg4)) (ix2 d e) := by
  blk_point [iblk, V, idx t]

theorem blk_wb (d : Fin 512) (e : Fin 1024) : iblk m c 6 t (ix2 d e) = (show FVec Ideal S512x1024 .f32 from m ((c : Thread nD τ).loc main_arg5)) (ix2 d e) := by
  blk_point [iblk, V, idx t]

theorem blk_wo (d e : Fin 1024) : iblk m c 7 t (ix2 d e) = (show FVec Ideal S1024x1024 .f32 from m ((c : Thread nD τ).loc main_arg6)) (ix2 d e) := by
  blk_point [iblk, V, idx t]

theorem blk_w (e : Fin 1024) : iblk m c 8 t (ix2 0 e) = (show FVec Ideal S1024 .f32 from m ((c : Thread nD τ).loc main_arg7)) (ix1 e) := by
  blk_point [iblk, V, idx t]

/-- What a point leaves of the first result. -/
abbrev XB : FVec Ideal S512x1024 .f32 :=
  k0_pay2 (F := Ideal) (iblk m c 0 t) (iblk m c 5 t) (iblk m c 1 t) (iblk m c 6 t) (X0_2 m c t) (X0_3 m c t) (iblk m c 4 t) (iblk m c 7 t)

theorem XB_at (e : Fin 1024) : XB m c t (ix2 p e) = XR m c (ix2 (row t p) e) := by
  refine (pay2_at _ _ _ _ _ _ _ _ p e).trans ?_
  unfold XR
  rw [refX_at]
  refine congrArg₂ (· + ·) (blk_x m c t p e) (Finset.sum_congr rfl fun k _ => ?_)
  rw [refM_at]
  refine congrArg₂ (· * ·) (congrArg₂ (· + ·) (congrArg₂ (· * ·) (congrArg _ (blk_ga m c t p k)) (Finset.sum_congr rfl fun d _ => ?_))
    (congrArg₂ (· * ·) (congrArg _ (blk_gb m c t p k)) (Finset.sum_congr rfl fun d _ => ?_))) (blk_wo m c t k e)
  · exact congrArg₂ (· * ·) (blk_oa m c t p d) (blk_wa m c t d k)
  · exact congrArg₂ (· * ·) (blk_ob m c t p d) (blk_wb m c t d k)

theorem NB_at (e : Fin 1024) : k0_pay6 (F := Ideal) (XB m c t) (k0_pay3 (iblk m c 8 t)) (k0_pay4 (F := Ideal) (iblk m c 0 t) (iblk m c 5 t) (iblk m c 1 t) (iblk m c 6 t) (X0_2 m c t) (X0_3 m c t) (iblk m c 4 t) (iblk m c 7 t)) k0_pay5 (ix2 p e)
    = refN (XR m c) (m ((c : Thread nD τ).loc main_arg7)) (ix2 (row t p) e) := by
  refine (pay1_at _ _ _ _ p e).trans ((congrArg₂ (· * ·) (congrArg₂ (· * ·) (XB_at m c t p e) (congrArg _ (congrArg₂ (· + ·) ((pay4_at _ _ _ _ _ _ _ _ p).trans ?_) (pay5_at p)))) ((pay3_at _ e).trans (blk_w m c t e))).trans (refN_at _ _ _ _).symm)
  exact congrArg (Ideal.div · _) (Finset.sum_congr rfl fun k _ => congrArg₂ (· * ·) (XB_at m c t p k) (XB_at m c t p k))

end Blocks

theorem emb12 (t : Fin cfg0.N) (p : Fin 512) (e : Fin 1024) : (((cfg0.win 12).blk t).view.emb (ix2 p e) : S32768x1024.Idx) = ix2 (row t p) e := by
  blk_ext [idx t]

theorem emb13 (t : Fin cfg0.N) (p : Fin 512) (e : Fin 1024) : (((cfg0.win 13).blk t).view.emb (ix2 p e) : S32768x1024.Idx) = ix2 (row t p) e := by
  blk_ext [idx t]

theorem final12 : (dats m 0 c).arrAt 12 cfg0.N = XR m c := by
  refine (dats m 0 c).arrAt_eq_of_covers 12 _ (by decide +kernel) fun t _ y => ?_
  blk_simp
  rw [after0_12]
  unfold outsAt0
  frame_out
  obtain ⟨p, e, rfl⟩ : ∃ (p : Fin 512) (e : Fin 1024), y = ix2 p e := ⟨y 0, y 1, by funext a; match a with | 0 => rfl | 1 => rfl⟩
  exact (XB_at m c t p e).trans (congrArg (XR m c) (emb12 t p e).symm)

theorem final13 : (dats m 0 c).arrAt 13 cfg0.N = refN (XR m c) (m ((c : Thread nD τ).loc main_arg7)) := by
  refine (dats m 0 c).arrAt_eq_of_covers 13 _ (by decide +kernel) fun t _ y => ?_
  blk_simp
  rw [after0_13]
  unfold outsAt0
  frame_out
  obtain ⟨p, e, rfl⟩ : ∃ (p : Fin 512) (e : Fin 1024), y = ix2 p e := ⟨y 0, y 1, by funext a; match a with | 0 => rfl | 1 => rfl⟩
  exact (NB_at m c t p e).trans (congrArg (refN (XR m c) (m ((c : Thread nD τ).loc main_arg7))) (emb13 t p e).symm)

end Cert.MixNextIdeal.Hand

namespace Cert.MixNextReferenceIdeal.Hand

open Cert.MixNextReferenceIdeal Cert.MixNextReferenceIdeal.Gen
open Idealize.ShloMosaic Idealize.ShloMosaic.TcCoe Idealize.SL.Sem
open Cert.MixReferenceIdeal.Hand (refM refX refN)

/-- The second result is the first one's rows, normed. -/
theorem res_eq (m : (ℓ : Loc nD τ sig) → Buf (Elt Ideal) ℓ) (c : Dev nD) :
    Cert.MixNextReferenceIdeal.Value.res_out1 (F := Ideal) m c
      = refN (F := Ideal) (refX (m ((c.tc : Thread nD τ).loc main_arg3)) (refM (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (m ((c.tc : Thread nD τ).loc main_arg6))) (m ((c.tc : Thread nD τ).loc main_arg7)) := rfl

end Cert.MixNextReferenceIdeal.Hand
-- ==== Proof.InpMath.lean ====
/- The arithmetic of the input projection: real values, the norm over a group of 64 lanes, the rotation of a group's first lanes. -/
module

public import proofs.«01_k».proof.Proof.VMath

@[expose] public section

set_option maxRecDepth 16384
set_option maxHeartbeats 4000000

noncomputable section

namespace Cert.InpMath

open Idealize.ShloMosaic
open Cert.Hand (coe_sum)

/-- A real number among the extended ones. -/
def IsR (x : EReal) : Prop := ∃ r : ℝ, x = r

theorem IsR.mul {x y : EReal} : IsR x → IsR y → IsR (x * y)
  | ⟨a, ha⟩, ⟨b, hb⟩ => ⟨a * b, by rw [ha, hb, EReal.coe_mul]⟩

theorem IsR.sum {n : ℕ} {f : Fin n → EReal} (h : ∀ k, IsR (f k)) : IsR (∑ k, f k) :=
  ⟨∑ k, (h k).choose, by rw [coe_sum]; exact Finset.sum_congr rfl fun k _ => (h k).choose_spec⟩

theorem IsR.sub_self {x : EReal} : IsR x → x - x = 0
  | ⟨a, ha⟩ => by rw [ha, ← EReal.coe_sub, _root_.sub_self]; rfl

/-- The word of 1e-6 is a positive number. -/
theorem eps_pos : ∃ e : ℝ, 0 < e ∧ Ideal.ofBits .f32 0x358637BD#32 = (e : EReal) := by
  refine ⟨8796093 / 2 ^ 43, by positivity, ?_⟩
  simp [Ideal.ofBits, Ideal.ieee]
  rw [← EReal.coe_mul]
  norm_num

theorem word64 : Ideal.ofBits .f32 0x42800000#32 = ((64 : ℝ) : EReal) := by
  simp [Ideal.ofBits, Ideal.ieee]
  rw [← EReal.coe_mul]
  norm_num

theorem word2 : Ideal.ofBits .f32 0x40000000#32 = ((2 : ℝ) : EReal) := by
  simp [Ideal.ofBits, Ideal.ieee]
  rw [← EReal.coe_mul]
  norm_num

theorem word1024 : Ideal.ofBits .f32 0x44800000#32 = ((1024 : ℝ) : EReal) := by
  simp [Ideal.ofBits, Ideal.ieee]
  rw [← EReal.coe_mul]
  norm_num

theorem wordInv64 : Ideal.ofBits .f32 0x3C800000#32 = ((1 / 64 : ℝ) : EReal) := by
  simp [Ideal.ofBits, Ideal.ieee]
  rw [← EReal.coe_mul]
  norm_num

theorem div_pos_real (a b : ℝ) (hb : 0 < b) : Ideal.div (a : EReal) (b : EReal) = ((a / b : ℝ) : EReal) := by
  unfold Ideal.div
  rw [if_neg (by simpa using hb.ne'), ← EReal.coe_inv, ← EReal.coe_mul, div_eq_mul_inv]

theorem rsqrt_real (a : ℝ) (h : 0 < a) : IsR (Ideal.rsqrt (a : EReal)) := by
  refine ⟨(Real.sqrt a)⁻¹, ?_⟩
  show (if a < 0 then (⊥ : EReal) else if a = 0 then ⊤ else ((Real.sqrt a)⁻¹ : ℝ)) = _
  rw [if_neg (by linarith), if_neg h.ne']

/-- A normed row of real numbers is a row of real numbers. -/
theorem normed_real {n : ℕ} (x w : Fin n → EReal) (hx : ∀ k, IsR (x k)) (hw : ∀ k, IsR (w k)) (k : Fin n) :
    IsR (x k * Ideal.rsqrt (Ideal.div (∑ k, x k * x k) (Ideal.ofBits .f32 0x44800000#32) + Ideal.ofBits .f32 0x358637BD#32) * w k) := by
  refine ((hx k).mul ?_).mul (hw k)
  obtain ⟨e, he, h⟩ := eps_pos
  have hs : (∑ k, x k * x k : EReal) = ((∑ k, (hx k).choose * (hx k).choose : ℝ) : EReal) := by
    rw [coe_sum]
    exact Finset.sum_congr rfl fun k _ => by rw [EReal.coe_mul, ← (hx k).choose_spec]
  rw [hs, h, word1024, div_pos_real _ _ (by norm_num), ← EReal.coe_add]
  refine rsqrt_real _ (add_pos_of_nonneg_of_pos (div_nonneg (Finset.sum_nonneg fun k _ => mul_self_nonneg _) (by norm_num)) he)

/-- The norm of a group of 64 lanes, with its weights. -/
def norm64 (a w : Fin 64 → EReal) (d : Fin 64) : EReal :=
  a d * Ideal.rsqrt (Ideal.div (∑ j : Fin 64, a j * a j) (Ideal.ofBits .f32 0x42800000#32) + Ideal.ofBits .f32 0x358637BD#32) * w d

/-- A group's first 16 lanes turned, pairwise, by the angles `f`. -/
def rope (y : Fin 64 → EReal) (f : Fin 8 → EReal) (d : Fin 64) : EReal :=
  if h : d.val < 8 then y d * Ideal.cos (f ⟨d.val, h⟩) - y ⟨8 + d.val, by omega⟩ * Ideal.sin (f ⟨d.val, h⟩)
  else if h' : d.val < 16 then y d * Ideal.cos (f ⟨d.val - 8, by omega⟩) + y ⟨d.val - 8, by omega⟩ * Ideal.sin (f ⟨d.val - 8, by omega⟩)
  else y d

/-- The group that a lane of 512 lies in, as a function of the lane within it. -/
def grp (y : Fin 512 → EReal) (l : Fin 512) (d : Fin 64) : EReal := y ⟨64 * (l.val / 64) + d.val, by omega⟩

/-- The sum over the lanes of a lane's group, by a matrix of ones and zeros. -/
theorem group_sum (g M : Fin 512 → EReal) (l : Fin 512) (hM : ∀ k, M k = if k.val / 64 = l.val / 64 then 1 else 0) :
    ∑ k, g k * M k = ∑ d, grp g l d := by
  have e : ∀ k, g k * M k = if k.val / 64 = l.val / 64 then g k else 0 := fun k => by
    rw [hM]; split
    · exact mul_one _
    · exact mul_zero _
  rw [Finset.sum_congr rfl fun k _ => e k, ← Finset.sum_filter]
  refine Finset.sum_bij' (fun k _ => (⟨k.val % 64, by omega⟩ : Fin 64)) (fun d _ => (⟨64 * (l.val / 64) + d.val, by omega⟩ : Fin 512)) ?_ ?_ ?_ ?_ ?_
  · exact fun _ _ => Finset.mem_univ _
  · intro d _
    rw [Finset.mem_filter]
    refine ⟨Finset.mem_univ _, ?_⟩
    show (64 * (l.val / 64) + d.val) / 64 = _
    omega
  · intro k hk
    have := (Finset.mem_filter.1 hk).2
    exact Fin.ext (by show 64 * (l.val / 64) + k.val % 64 = k.val; omega)
  · intro d _
    exact Fin.ext (by show (64 * (l.val / 64) + d.val) % 64 = d.val; omega)
  · intro k hk
    have := (Finset.mem_filter.1 hk).2
    exact congrArg g (Fin.ext (by show k.val = 64 * (l.val / 64) + k.val % 64; omega))

/-- A lane's norm as it is computed, from the two parts of every square. -/
theorem norm_lane (a M w : Fin 512 → EReal) (v : Fin 64 → EReal) (l : Fin 512) (ha : ∀ k, IsR (a k)) (hM : ∀ k, M k = if k.val / 64 = l.val / 64 then 1 else 0)
    (hw : w l = v ⟨l.val % 64, by omega⟩) :
    a l * Ideal.rsqrt ((∑ k, a k * a k * M k + ∑ k, (a k * a k - a k * a k) * M k) * Ideal.ofBits .f32 0x3C800000#32 + Ideal.ofBits .f32 0x358637BD#32) * w l
      = norm64 (grp a l) v ⟨l.val % 64, by omega⟩ := by
  have z : ∑ k, (a k * a k - a k * a k) * M k = 0 :=
    Finset.sum_eq_zero fun k _ => by rw [((ha k).mul (ha k)).sub_self, zero_mul]
  have hg : grp a l ⟨l.val % 64, by omega⟩ = a l := congrArg a (Fin.ext (by show 64 * (l.val / 64) + l.val % 64 = l.val; omega))
  have hs : IsR (∑ d, grp (fun k => a k * a k) l d) := IsR.sum fun d => (ha _).mul (ha _)
  unfold norm64
  rw [z, add_zero, group_sum _ M l hM, hw, hg]
  refine congrArg (fun s : EReal => a l * Ideal.rsqrt (s + _) * _) ?_
  obtain ⟨r, hr⟩ := hs
  have hr' : ∑ j, grp a l j * grp a l j = (r : EReal) := hr
  rw [hr, hr', word64, wordInv64, div_pos_real _ _ (by norm_num), ← EReal.coe_mul]
  exact congrArg _ (by ring)

/-- A lane's rotation as it is computed, from the two lanes beside it. -/
theorem rope_lane (y : Fin 512 → EReal) (f : Fin 8 → EReal) (l : Fin 512) (C S T : EReal)
    (hC : C = if l.val % 64 < 16 then Ideal.cos (f ⟨l.val % 8, by omega⟩) else 1)
    (hS : S = if l.val % 64 < 8 then -Ideal.sin (f ⟨l.val % 8, by omega⟩) else 0)
    (hT : T = if 8 ≤ l.val % 64 ∧ l.val % 64 < 16 then Ideal.sin (f ⟨l.val % 8, by omega⟩) else 0) :
    y l * C + y ⟨(l.val + 512 - 504) % 512, Nat.mod_lt _ (by decide)⟩ * S + y ⟨(l.val + 512 - 8) % 512, Nat.mod_lt _ (by decide)⟩ * T
      = rope (grp y l) f ⟨l.val % 64, by omega⟩ := by
  have hg : grp y l ⟨l.val % 64, by omega⟩ = y l := congrArg y (Fin.ext (by show 64 * (l.val / 64) + l.val % 64 = l.val; omega))
  subst hC hS hT
  unfold rope
  dsimp only
  rw [hg]
  by_cases h : l.val % 64 < 8
  · have e : (⟨l.val % 64, h⟩ : Fin 8) = ⟨l.val % 8, by omega⟩ := Fin.ext (by show l.val % 64 = l.val % 8; omega)
    have e' : grp y l ⟨8 + l.val % 64, by omega⟩ = y ⟨(l.val + 512 - 504) % 512, Nat.mod_lt _ (by decide)⟩ :=
      congrArg y (Fin.ext (by show 64 * (l.val / 64) + (8 + l.val % 64) = (l.val + 512 - 504) % 512; omega))
    rw [if_pos (by omega), if_pos h, if_neg (by omega), dif_pos h, e, e', mul_zero, add_zero, mul_neg, sub_eq_add_neg]
  · by_cases h' : l.val % 64 < 16
    · have e : (⟨l.val % 64 - 8, by omega⟩ : Fin 8) = ⟨l.val % 8, by omega⟩ := Fin.ext (by show l.val % 64 - 8 = l.val % 8; omega)
      have e' : grp y l ⟨l.val % 64 - 8, by omega⟩ = y ⟨(l.val + 512 - 8) % 512, Nat.mod_lt _ (by decide)⟩ :=
        congrArg y (Fin.ext (by show 64 * (l.val / 64) + (l.val % 64 - 8) = (l.val + 512 - 8) % 512; omega))
      rw [if_pos h', if_neg h, if_pos ⟨by omega, h'⟩, dif_neg h, dif_pos h', e, e', mul_zero, add_zero]
    · rw [if_neg h', if_neg h, if_neg (by omega), dif_neg h, dif_neg h', mul_zero, mul_zero, add_zero, add_zero, mul_one]

/-- An angle's exponent: a lane's number twice, negated, over 16. -/
def expo (j : ℕ) : EReal := Ideal.div (-((2 * (j : ℝ) : ℝ) : EReal)) (Ideal.ofBits .f32 0x41800000#32)

/-- The angle of lane `j` at position `p`. -/
def ang (p : BitVec 32) (j : ℕ) : EReal := ((p.toInt : ℝ) : EReal) * Ideal.pow (Ideal.ofBits .f32 0x48F42400#32) (expo j)

theorem cos_zero : Ideal.cos 0 = 1 := by
  show ((Real.cos 0 : ℝ) : EReal) = 1
  rw [Real.cos_zero]; rfl

end Cert.InpMath
-- ==== Proof.InpPre.lean ====
/- The input projection's precondition: the residual stream, the projection and the norm's weights are real numbers. -/
module

public import proofs.«01_k».proof.Proof.VPre
public import proofs.«01_k».proof.Proof.InpMath
public import proofs.«01_k».proof.Pre_inp_finite

@[expose] public section

set_option maxRecDepth 16384
set_option maxHeartbeats 4000000

noncomputable section

namespace Cert.InpMath

open Cert.Pre_inp_finite Cert.Pre_inp_finite.Facts
open Idealize.ShloMosaic
open Cert.Hand (real_of posInf both)

variable [Cert.Pre_inp_finite.Facts]

theorem real_each {s : Shape} (x : FVec Ideal s .f32) (hb : S_.BroadcastsInDim s (![] : Fin 0 → Fin s.rank))
    (h : ∀ i, cmpf .olt (Host.absf x) (broadcastInDim s ![] hb (constant (F := Ideal) S_ .f32 0x7F800000#32)) i = 1#1) (i : s.Idx) : IsR (x i) := by
  refine real_of _ ?_
  have := h i
  have e : cmpf .olt (Host.absf x) (broadcastInDim s ![] hb (constant (F := Ideal) S_ .f32 0x7F800000#32)) i
      = BitVec.ofBool (decide (FloatOps.absf (F := Ideal) (φ := .f32) (x i) < Ideal.ofBits FTy.f32 2139095040#32)) := rfl
  rw [e, posInf] at this
  by_contra hc
  rw [decide_eq_false hc] at this
  exact absurd this (by decide)

theorem pre_real (x : FVec Ideal S32768x1024 .f32) (p : IVec S32768 32) (w : FVec Ideal S1024x5640 .f32) (a b : FVec Ideal S64 .f32) (n : FVec Ideal S1024 .f32)
    (h : fn (F := Ideal) x p w a b n = fun _ => 1#1) : (∀ i, IsR (x i)) ∧ (∀ i, IsR (w i)) ∧ ∀ i, IsR (n i) := by
  have e := congrFun h (fun a : Fin 0 => a.elim0)
  haveI : Subsingleton S_.Idx := ⟨fun a b => funext fun x => x.elim0⟩
  obtain ⟨e12, e3⟩ := both _ _ e
  obtain ⟨e1, e2⟩ := both _ _ e12
  exact ⟨real_each x bcast_S_S32768x1024 fun i => Host.reduce_andi_all _ _ _ _ _ e1 i,
    real_each w bcast_S_S1024x5640 fun i => Host.reduce_andi_all _ _ _ _ _ e2 i,
    real_each n bcast_S_S1024 fun i => Host.reduce_andi_all _ _ _ _ _ e3 i⟩

end Cert.InpMath
-- ==== Proof.InpHost.lean ====
/- The arrays that the input projection's grid reads, element by element, from the arguments. -/
module

public import proofs.«01_k».proof.Proof.Gen.InpIdeal.Frame.Runs
public import proofs.«01_k».proof.Proof.InpMath
public import Idealize.ShloMosaic.Lib.Routing.OpsOne

@[expose] public section

set_option maxRecDepth 16384
set_option maxHeartbeats 4000000

noncomputable section

namespace Cert.InpIdeal.Hand

open Cert.InpIdeal Cert.InpIdeal.Gen
open Idealize.ShloMosaic Idealize.ShloMosaic.TcCoe Idealize.SL.Sem
open Cert.InpMath

section Arrays

variable {F : FTy → Type} [FloatOps F]

/-- The projection's weights without the small columns, the gates first. -/
def hW (w : FVec F S1024x5640 .f32) : FVec F S1024x5632 .bf16 :=
  truncf .bf16 (concatenate S1024x5632 1 [⟨S1024x2048, extractStridedSlice S1024x2048 ![0, 3592] w slices_S1024x5640_S1024x2048_0_3592⟩, ⟨S1024x3584, extractStridedSlice S1024x3584 ![0, 0] w slices_S1024x5640_S1024x3584_0_0⟩] concatenates_S1024x2048_S1024x3584_S1024x5632_d1) bitsLt_bf16_f32

/-- The column at which the small columns start. -/
def hAt : IVec S1 32 := broadcastInDim S1 ![] bcast_S_S1 (constantI S_ 32 0#32)

/-- Zeros. -/
def hZ : FVec F S1024x128 .f32 := broadcastInDim S1024x128 ![] bcast_S_S1024x128 (constant S_ .f32 0x00000000#32)

/-- The small columns. -/
def hC (w : FVec F S1024x5640 .f32) : FVec F S1024x8 .f32 := extractStridedSlice S1024x8 ![0, 3584] w slices_S1024x5640_S1024x8_0_3584

/-- The small columns, written over zeros. -/
def hS (z : FVec F S1024x128 .f32) (w : FVec F S1024x8 .f32) : FVec F S1024x128 .bf16 :=
  truncf .bf16 (Host.scatter scatter_S1024x128_S1_S1024x8_01_n_1_0 (fun _ b => b) z hAt w) bitsLt_bf16_f32

/-- A divisor, 1 for 0. -/
def hDen (k : IVec S_ 32) : IVec S_ 32 := select (cmpi .eq k (constantI S_ 32 0#32)) (constantI S_ 32 1#32) k

/-- A remainder, moved into the divisor's sign. -/
def hFix (r : IVec S128 32) (b : IVec S_ 32) : IVec S128 32 :=
  select (andi (cmpi .ne (cmpi .slt r (broadcastInDim S128 ![] bcast_S_S128 (constantI S_ 32 0#32))) (broadcastInDim S128 ![] bcast_S_S128 (cmpi .slt b (constantI S_ 32 0#32)))) (cmpi .ne r (broadcastInDim S128 ![] bcast_S_S128 (constantI S_ 32 0#32)))) (addi r (broadcastInDim S128 ![] bcast_S_S128 b)) r

/-- The remainder of each word. -/
def hRem (a : IVec S128 32) (k : IVec S_ 32) : IVec S128 32 :=
  hFix (Host.remsi a (broadcastInDim S128 ![] bcast_S_S128 (hDen k))) (hDen k)

/-- A lane's place in its group of 64. -/
def hL : IVec S128 32 := hRem (iotaInDim S128 32 0) (constantI S_ 32 64#32)

/-- The number of a lane's angle. -/
def hJ : IVec S128 32 := hRem hL (constantI S_ 32 8#32)

/-- The angles' factors of the first 16 lanes, zeros after them. -/
def hF (i j : IVec S128 32) : FVec F S128 .f32 :=
  select (cmpi .slt i (broadcastInDim S128 ![] bcast_S_S128 (constantI S_ 32 16#32)))
    (Host.powf (broadcastInDim S128 ![] bcast_S_S128 (constant S_ .f32 0x48F42400#32)) (Host.divf (Host.negf (mulf (broadcastInDim S128 ![] bcast_S_S128 (constant S_ .f32 0x40000000#32)) (sitofp .f32 j))) (broadcastInDim S128 ![] bcast_S_S128 (constant S_ .f32 0x41800000#32))))
    (broadcastInDim S128 ![] bcast_S_S128 (constant S_ .f32 0x00000000#32))

/-- The angles. -/
def hA (p : IVec S32768 32) (f : FVec F S128 .f32) : FVec F S32768x128 .f32 :=
  mulf (broadcastInDim S32768x128 ![0, 1] bcast_S32768x1_S32768x128_0_1 (shapeCast S32768x1 (sitofp .f32 p) shapeCasts_S32768_S32768x1)) (broadcastInDim S32768x128 ![0, 1] bcast_S1x128_S32768x128_0_1 (broadcastInDim S1x128 ![1] bcast_S128_S1x128_1 f))

/-- A table where a lane's bit says so, zeros elsewhere. -/
def hSel (b : IVec S128 1) (a : FVec F S32768x128 .f32) : FVec F S32768x128 .f32 :=
  select (broadcastInDim S32768x128 ![1] bcast_S128_S32768x128_1 b) a (broadcastInDim S32768x128 ![] bcast_S_S32768x128 (constant S_ .f32 0x00000000#32))

/-- The first 8 lanes of each group. -/
def hB1 (i : IVec S128 32) : IVec S128 1 := cmpi .slt i (broadcastInDim S128 ![] bcast_S_S128 (constantI S_ 32 8#32))

/-- The next 8 lanes of each group. -/
def hB2 (i : IVec S128 32) : IVec S128 1 :=
  andi (cmpi .sge i (broadcastInDim S128 ![] bcast_S_S128 (constantI S_ 32 8#32))) (cmpi .slt i (broadcastInDim S128 ![] bcast_S_S128 (constantI S_ 32 16#32)))

/-- A quotient, moved down where the signs differ. -/
def hDiv (a : IVec S512 32) (k : IVec S_ 32) : IVec S512 32 :=
  select (andi (cmpi .ne (signi a) (broadcastInDim S512 ![] bcast_S_S512 (signi k))) (cmpi .ne (Host.remsi a (broadcastInDim S512 ![] bcast_S_S512 k)) (broadcastInDim S512 ![] bcast_S_S512 (constantI S_ 32 0#32))))
    (subi (Host.divsi a (broadcastInDim S512 ![] bcast_S_S512 k)) (broadcastInDim S512 ![] bcast_S_S512 (constantI S_ 32 1#32))) (Host.divsi a (broadcastInDim S512 ![] bcast_S_S512 k))

/-- A lane's group. -/
def hG : IVec S512 32 := hDiv (iotaInDim S512 32 0) (constantI S_ 32 64#32)

/-- Whether two lanes lie in one group. -/
def hE (g : IVec S512 32) : IVec S512x512 1 :=
  cmpi .eq (broadcastInDim S512x512 ![0, 1] bcast_S512x1_S512x512_0_1 (broadcastInDim S512x1 ![0] bcast_S512_S512x1_0 g)) (broadcastInDim S512x512 ![0, 1] bcast_S1x512_S512x512_0_1 (broadcastInDim S1x512 ![1] bcast_S512_S1x512_1 g))

/-- The matrix of ones and zeros. -/
def hM (e : IVec S512x512 1) : FVec F S512x512 .bf16 := uitofp .bf16 e

/-- The norm's weights, for every group. -/
def hN (w : FVec F S64 .f32) : FVec F S1x512 .f32 :=
  shapeCast S1x512 (shapeCast S512 (broadcastInDim S8x64 ![0, 1] bcast_S1x64_S8x64_0_1 (shapeCast S1x64 w shapeCasts_S64_S1x64)) shapeCasts_S8x64_S512) shapeCasts_S512_S1x512

variable (m : (ℓ : Loc nD τ sig) → Buf (Elt F) ℓ) (c : Dev nD)

theorem V_w : V m c main_v3 = hW (m ((c.tc : Thread nD τ).loc main_arg2)) := by
  unfold V hostOps0
  generalize hg : (fun (a : (⟨S1024x2048, .f32⟩ : BufTy).Contents (Elt F)) (b : (⟨S1024x3584, .f32⟩ : BufTy).Contents (Elt F)) => concatenate S1024x5632 1 [⟨S1024x2048, a⟩, ⟨S1024x3584, b⟩] concatenates_S1024x2048_S1024x3584_S1024x5632_d1) = g
  after_results_simp
  subst hg
  rfl

theorem V_s : V m c main_v8 = hS hZ (hC (m ((c.tc : Thread nD τ).loc main_arg2))) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append, List.append_nil]
  after_results_simp
  rfl

theorem V_cos : V m c main_v31 = Host.cos (hA (m ((c.tc : Thread nD τ).loc main_arg1)) (hF hL hJ)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append, List.append_nil]
  after_results_simp
  simp only [StableHlo.TRef.ofBuf_toBuf]
  rfl

theorem V_s1 : V m c main_v35 = hSel (hB1 hL) (Host.negf (Host.sin (hA (m ((c.tc : Thread nD τ).loc main_arg1)) (hF hL hJ)))) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append, List.append_nil]
  after_results_simp
  simp only [StableHlo.TRef.ofBuf_toBuf]
  rfl

theorem V_s2 : V m c main_v41 = hSel (hB2 hL) (Host.sin (hA (m ((c.tc : Thread nD τ).loc main_arg1)) (hF hL hJ))) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append, List.append_nil]
  after_results_simp
  simp only [StableHlo.TRef.ofBuf_toBuf]
  rfl

theorem V_m : V m c main_v49 = hM (hE hG) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append, List.append_nil]
  after_results_simp
  simp only [StableHlo.TRef.ofBuf_toBuf]
  rfl

theorem V_qn : V m c main_v53 = hN (m ((c.tc : Thread nD τ).loc main_arg3)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append, List.append_nil]
  after_results_simp
  rfl

theorem V_kn : V m c main_v57 = hN (m ((c.tc : Thread nD τ).loc main_arg4)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append, List.append_nil]
  after_results_simp
  rfl

theorem V_n : V m c main_v58 = shapeCast S1x1024 (m ((c.tc : Thread nD τ).loc main_arg5)) shapeCasts_S1024_S1x1024 := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append, List.append_nil]
  after_results_simp
  rfl

end Arrays

end Cert.InpIdeal.Hand
-- ==== Proof.InpLane.lean ====
/- The arrays that the input projection's grid reads, element by element. -/
module

public import proofs.«01_k».proof.Proof.InpHost

@[expose] public section

set_option maxRecDepth 16384
set_option maxHeartbeats 4000000

noncomputable section

namespace Cert.InpIdeal.Hand

open Cert.InpIdeal Cert.InpIdeal.Gen
open Idealize.ShloMosaic Idealize.ShloMosaic.TcCoe Idealize.SL.Sem
open Cert.InpMath

theorem hW_at (w : FVec Ideal S1024x5640 .f32) (k : Fin 1024) (e : Fin 5632) :
    hW w (ix2 k e) = if h : e.val < 2048 then w (ix2 k ⟨3592 + e.val, by omega⟩) else w (ix2 k ⟨e.val - 2048, by omega⟩) := by
  pointwise [hW]

theorem hC_at (w : FVec Ideal S1024x5640 .f32) (k : Fin 1024) (e : Fin 8) : hC w (ix2 k e) = w (ix2 k ⟨3584 + e.val, by omega⟩) := by
  pointwise [hC]

theorem hZ_at (i : S1024x128.Idx) : hZ (F := Ideal) i = (0 : EReal) := by
  show Ideal.ofBits .f32 0x00000000#32 = 0
  simp [Ideal.ofBits, Ideal.ieee]

/-- Update `(k', e')` of the small columns lands at its own place. -/
theorem lands (k' : Fin 1024) (e' : Fin 8) (k : Fin 1024) (e : Fin 128) :
    scatter_S1024x128_S1_S1024x8_01_n_1_0.resultIdx? (ix2 k' e') hAt = some (ix2 k e) ↔ k' = k ∧ e'.val = e.val := by
  have hidx : ∀ i, (hAt i).toInt = 0 := fun i => by show (0#32).toInt = 0; decide
  have hwin0 : scatter_S1024x128_S1_S1024x8_01_n_1_0.window (ix2 k' e') 0 = k'.val := rfl
  have hwin1 : scatter_S1024x128_S1_S1024x8_01_n_1_0.window (ix2 k' e') 1 = e'.val := rfl
  have hstart0 : scatter_S1024x128_S1_S1024x8_01_n_1_0.start (ix2 k' e') hAt 0 = 0 := rfl
  have hstart1 : scatter_S1024x128_S1_S1024x8_01_n_1_0.start (ix2 k' e') hAt 1 = 0 := hidx _
  rw [Fin.ext_iff]
  refine (Idealize.ShloMosaic.Routing.resultIdx?_ix2 (R := 1024) (C := 128) _ _ _ k e).trans ?_
  rw [hstart0, hwin0, hstart1, hwin1]
  omega

theorem cast_at {s : Shape} (a : FVec Ideal s .f32) (i : s.Idx) : truncf .bf16 a bitsLt_bf16_f32 i = a i := rfl

theorem hS_at (w : FVec Ideal S1024x5640 .f32) (k : Fin 1024) (e : Fin 128) :
    hS (F := Ideal) hZ (hC w) (ix2 k e) = if h : e.val < 8 then w (ix2 k ⟨3584 + e.val, by omega⟩) else (0 : EReal) := by
  have q : ∀ i : S1024x8.Idx, ∃ (a : Fin 1024) (b : Fin 8), i = ix2 a b := fun i => ⟨i 0, i 1, by funext a; match a with | 0 => rfl | 1 => rfl⟩
  unfold hS
  refine (cast_at _ _).trans ?_
  by_cases h : e.val < 8
  · rw [dif_pos h]
    refine Idealize.ShloMosaic.Routing.scatter_set_hit _ _ _ _ _ _ (fun i hi => ?_) (ix2 k ⟨e.val, h⟩) ((lands _ _ _ _).2 ⟨rfl, rfl⟩)
    obtain ⟨a, b, rfl⟩ := q i
    obtain ⟨h1, h2⟩ := (lands _ _ _ _).1 hi
    rw [hC_at, h1]
    exact congrArg (fun j => w (ix2 k j)) (Fin.ext (congrArg (3584 + ·) h2))
  · rw [dif_neg h]
    refine (Idealize.ShloMosaic.Routing.scatter_set_miss _ _ _ _ _ fun i hi => ?_).trans (hZ_at _)
    obtain ⟨a, b, rfl⟩ := q i
    have := ((lands _ _ _ _).1 hi).2
    omega

theorem hL_at : ∀ l : Fin 128, hL (ix1 l) = BitVec.ofNat 32 (l.val % 64) := by decide +kernel

theorem hJ_at : ∀ l : Fin 128, hJ (ix1 l) = BitVec.ofNat 32 (l.val % 8) := by decide +kernel

theorem hB0_at : ∀ l : Fin 128, cmpi .slt hL (broadcastInDim S128 ![] bcast_S_S128 (constantI S_ 32 16#32)) (ix1 l) = 1#1 ↔ l.val % 64 < 16 := by decide +kernel

theorem hB1_at : ∀ l : Fin 128, hB1 hL (ix1 l) = 1#1 ↔ l.val % 64 < 8 := by decide +kernel

theorem hB2_at : ∀ l : Fin 128, hB2 hL (ix1 l) = 1#1 ↔ 8 ≤ l.val % 64 ∧ l.val % 64 < 16 := by decide +kernel

theorem hG_at : ∀ l : Fin 512, hG (ix1 l) = BitVec.ofNat 32 (l.val / 64) := by decide +kernel

theorem hF_at (l : Fin 128) : hF (F := Ideal) hL hJ (ix1 l) = if l.val % 64 < 16 then Ideal.pow (Ideal.ofBits .f32 0x48F42400#32) (expo (l.val % 8)) else 0 := by
  have h : ∀ j : Fin 8, ((BitVec.ofNat 32 j.val).toInt : ℤ) = j.val := by decide
  have e : (Ideal.ofBits .f32 0x40000000#32 * (((((hJ (ix1 l)).toInt : ℤ) : ℝ)) : EReal)) = ((2 * ((l.val % 8 : ℕ) : ℝ) : ℝ) : EReal) := by
    rw [hJ_at, h ⟨l.val % 8, by omega⟩, word2, ← EReal.coe_mul]
    exact congrArg _ (by push_cast; rfl)
  rw [← Cert.Hand.select_of _ _ (hB0_at l), expo, ← e]
  pointwise [hF]
  rfl

theorem hA_at (p : IVec S32768 32) (f : FVec Ideal S128 .f32) (r : Fin 32768) (l : Fin 128) : hA p f (ix2 r l) = (((p (ix1 r)).toInt : ℝ) : EReal) * f (ix1 l) := by
  pointwise [hA]
  rfl

theorem hSel_at (b : IVec S128 1) (a : FVec Ideal S32768x128 .f32) (P : Prop) [Decidable P] (r : Fin 32768) (l : Fin 128) (h : b (ix1 l) = 1#1 ↔ P) :
    hSel b a (ix2 r l) = if P then (show EReal from a (ix2 r l)) else 0 := by
  rw [← Cert.Hand.select_of _ _ h]
  pointwise [hSel]

variable (p : IVec S32768 32) (r : Fin 32768) (l : Fin 128)

/-- A lane's angle. -/
theorem angle : hA (F := Ideal) p (hF hL hJ) (ix2 r l) = if l.val % 64 < 16 then ang (p (ix1 r)) (l.val % 8) else 0 := by
  rw [hA_at, hF_at]
  by_cases h : l.val % 64 < 16
  · rw [if_pos h, if_pos h]; rfl
  · rw [if_neg h, if_neg h, mul_zero]

theorem cos_at : Host.cos (hA (F := Ideal) p (hF hL hJ)) (ix2 r l) = if l.val % 64 < 16 then Ideal.cos (ang (p (ix1 r)) (l.val % 8)) else 1 := by
  refine (show _ = Ideal.cos (hA (F := Ideal) p (hF hL hJ) (ix2 r l)) from rfl).trans ?_
  rw [angle]
  by_cases h : l.val % 64 < 16
  · rw [if_pos h, if_pos h]
  · rw [if_neg h, if_neg h, cos_zero]

theorem s1_at : hSel (hB1 hL) (Host.negf (Host.sin (hA (F := Ideal) p (hF hL hJ)))) (ix2 r l) = if l.val % 64 < 8 then -Ideal.sin (ang (p (ix1 r)) (l.val % 8)) else 0 := by
  rw [hSel_at _ _ _ r l (hB1_at l)]
  by_cases h : l.val % 64 < 8
  · rw [if_pos h, if_pos h]
    refine (show _ = -Ideal.sin (hA (F := Ideal) p (hF hL hJ) (ix2 r l)) from rfl).trans ?_
    rw [angle, if_pos (by omega)]
  · rw [if_neg h, if_neg h]

theorem s2_at : hSel (hB2 hL) (Host.sin (hA (F := Ideal) p (hF hL hJ))) (ix2 r l) = if 8 ≤ l.val % 64 ∧ l.val % 64 < 16 then Ideal.sin (ang (p (ix1 r)) (l.val % 8)) else 0 := by
  rw [hSel_at _ _ _ r l (hB2_at l)]
  by_cases h : 8 ≤ l.val % 64 ∧ l.val % 64 < 16
  · rw [if_pos h, if_pos h]
    refine (show _ = Ideal.sin (hA (F := Ideal) p (hF hL hJ) (ix2 r l)) from rfl).trans ?_
    rw [angle, if_pos h.2]
  · rw [if_neg h, if_neg h]

theorem hE_at (k l : Fin 512) : hE hG (ix2 k l) = Scalar.cmpi .eq (hG (ix1 k)) (hG (ix1 l)) := by
  pointwise [hE]
  rfl

theorem hM_at (k l : Fin 512) : hM (F := Ideal) (hE hG) (ix2 k l) = if k.val / 64 = l.val / 64 then (1 : EReal) else 0 := by
  have e : ∀ a b : Fin 8, ((Scalar.cmpi .eq (BitVec.ofNat 32 a.val) (BitVec.ofNat 32 b.val)).toNat : ℕ) = if a.val = b.val then 1 else 0 := by decide
  refine (show _ = ((((hE hG (ix2 k l)).toNat : ℕ) : ℝ) : EReal) from rfl).trans ?_
  rw [hE_at, hG_at, hG_at]
  refine (congrArg (fun n : ℕ => ((n : ℝ) : EReal)) (e ⟨k.val / 64, by omega⟩ ⟨l.val / 64, by omega⟩)).trans ?_
  dsimp only
  by_cases h : k.val / 64 = l.val / 64
  · rw [if_pos h, if_pos h]; norm_num
  · rw [if_neg h, if_neg h]; norm_num

theorem hN_at (w : FVec Ideal S64 .f32) (l : Fin 512) : hN w (ix2 0 l) = w (ix1 ⟨l.val % 64, by omega⟩) := by
  pointwise [hN]

end Cert.InpIdeal.Hand
-- ==== Proof.InpBlk.lean ====
/- The blocks of the input projection's grid points, element by element, from the arguments. -/
module

public import proofs.«01_k».proof.Proof.Gen.InpIdeal.Value
public import proofs.«01_k».proof.Proof.InpLane
public import Idealize.ShloMosaic.Lib.Pipeline.ValueKit

@[expose] public section

set_option maxRecDepth 16384
set_option maxHeartbeats 2000000

noncomputable section

namespace Cert.InpIdeal.Hand

open Cert.InpIdeal Cert.InpIdeal.Gen
open Idealize.ShloMosaic Idealize.ShloMosaic.TcCoe Idealize.SL.Sem
open Cert.InpMath

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![0, 0] ∧ win0_4.index t = ![t.val, 0]
    ∧ win0_5.index t = ![t.val, 0] ∧ win0_6.index t = ![t.val, 0] ∧ win0_7.index t = ![0, 0] ∧ win0_8.index t = ![0, 0] ∧ win0_9.index t = ![0, 0] ∧ win0_10.index t = ![t.val, 0]
    ∧ win0_11.index t = ![t.val, 0] ∧ win0_12.index t = ![0, t.val, 0] ∧ win0_13.index t = ![t.val, 0] ∧ win0_14.index t = ![t.val, 0] :=
  (by decide +kernel : ∀ t : Fin grid0.N, _)

theorem rows (t : Fin cfg0.N) (p : Fin 512) : t.val * 512 + p.val < 32768 := by
  have h : cfg0.N = 64 := by decide +kernel
  have := t.isLt
  omega

/-- Where a row of a point's blocks lies. -/
abbrev row (t : Fin cfg0.N) (p : Fin 512) : Fin 32768 := ⟨t.val * 512 + p.val, rows t p⟩

variable (t : Fin cfg0.N) (p : Fin 512)

theorem blk_x (e : Fin 1024) : iblk m c 0 t (ix2 p e) = (show FVec Ideal S32768x1024 .f32 from m ((c : Thread nD τ).loc main_arg0)) (ix2 (row t p) e) := by
  rw [← V_main_arg0 m c]
  blk_point [iblk, idx t]

theorem blk_n (e : Fin 1024) : iblk m c 1 t (ix2 0 e) = (show FVec Ideal S1024 .f32 from m ((c : Thread nD τ).loc main_arg5)) (ix1 e) := by
  have h : iblk m c 1 t (ix2 0 e) = (show FVec Ideal S1x1024 .f32 from V m c main_v58) (ix2 0 e) := by blk_point [iblk, idx t]
  rw [h, V_n]
  pointwise []

theorem blk_w (k : Fin 1024) (e : Fin 5632) : iblk m c 2 t (ix2 k e) = hW (F := Ideal) (m ((c : Thread nD τ).loc main_arg2)) (ix2 k e) := by
  have h : iblk m c 2 t (ix2 k e) = (show FVec Ideal S1024x5632 .bf16 from V m c main_v3) (ix2 k e) := by blk_point [iblk, idx t]
  rw [h, V_w]

theorem blk_s (k : Fin 1024) (e : Fin 128) : iblk m c 3 t (ix2 k e) = hS (F := Ideal) hZ (hC (m ((c : Thread nD τ).loc main_arg2))) (ix2 k e) := by
  have h : iblk m c 3 t (ix2 k e) = (show FVec Ideal S1024x128 .bf16 from V m c main_v8) (ix2 k e) := by blk_point [iblk, idx t]
  rw [h, V_s]

theorem blk_cos (l : Fin 128) : iblk m c 4 t (ix2 p l) = Host.cos (hA (F := Ideal) (m ((c : Thread nD τ).loc main_arg1)) (hF hL hJ)) (ix2 (row t p) l) := by
  have h : iblk m c 4 t (ix2 p l) = (show FVec Ideal S32768x128 .f32 from V m c main_v31) (ix2 (row t p) l) := by blk_point [iblk, idx t]
  rw [h, V_cos]

theorem blk_s1 (l : Fin 128) : iblk m c 5 t (ix2 p l) = hSel (hB1 hL) (Host.negf (Host.sin (hA (F := Ideal) (m ((c : Thread nD τ).loc main_arg1)) (hF hL hJ)))) (ix2 (row t p) l) := by
  have h : iblk m c 5 t (ix2 p l) = (show FVec Ideal S32768x128 .f32 from V m c main_v35) (ix2 (row t p) l) := by blk_point [iblk, idx t]
  rw [h, V_s1]

theorem blk_s2 (l : Fin 128) : iblk m c 6 t (ix2 p l) = hSel (hB2 hL) (Host.sin (hA (F := Ideal) (m ((c : Thread nD τ).loc main_arg1)) (hF hL hJ))) (ix2 (row t p) l) := by
  have h : iblk m c 6 t (ix2 p l) = (show FVec Ideal S32768x128 .f32 from V m c main_v41) (ix2 (row t p) l) := by blk_point [iblk, idx t]
  rw [h, V_s2]

theorem blk_qn (l : Fin 512) : iblk m c 7 t (ix2 0 l) = hN (F := Ideal) (m ((c : Thread nD τ).loc main_arg3)) (ix2 0 l) := by
  have h : iblk m c 7 t (ix2 0 l) = (show FVec Ideal S1x512 .f32 from V m c main_v53) (ix2 0 l) := by blk_point [iblk, idx t]
  rw [h, V_qn]

theorem blk_kn (l : Fin 512) : iblk m c 8 t (ix2 0 l) = hN (F := Ideal) (m ((c : Thread nD τ).loc main_arg4)) (ix2 0 l) := by
  have h : iblk m c 8 t (ix2 0 l) = (show FVec Ideal S1x512 .f32 from V m c main_v57) (ix2 0 l) := by blk_point [iblk, idx t]
  rw [h, V_kn]

theorem blk_m (k l : Fin 512) : iblk m c 9 t (ix2 k l) = hM (F := Ideal) (hE hG) (ix2 k l) := by
  have h : iblk m c 9 t (ix2 k l) = (show FVec Ideal S512x512 .bf16 from V m c main_v49) (ix2 k l) := by blk_point [iblk, idx t]
  rw [h, V_m]

end Cert.InpIdeal.Hand
-- ==== Proof.InpPay.lean ====
/- The input projection's body, element by element. -/
module

public import proofs.«01_k».proof.Proof.Gen.InpIdeal.Value
public import proofs.«01_k».proof.Proof.InpMath

@[expose] public section

set_option maxRecDepth 16384
set_option maxHeartbeats 4000000

noncomputable section

namespace Cert.InpIdeal.Hand

open Cert.InpIdeal Cert.InpIdeal.Gen
open Idealize.ShloMosaic Idealize.ShloMosaic.TcCoe Idealize.SL.Sem
open Cert.InpMath

/-- A lane's norm as the body computes it. -/
def kn (a h g : Fin 512 → EReal) (M : Fin 512 → Fin 512 → EReal) (w : Fin 512 → EReal) (l : Fin 512) : EReal :=
  a l * Ideal.rsqrt ((∑ k, h k * M k l + ∑ k, g k * M k l) * Ideal.ofBits .f32 0x3C800000#32 + Ideal.ofBits .f32 0x358637BD#32) * w l

/-- A lane's rotation as the body computes it. -/
def kr (y : Fin 512 → EReal) (C S T : EReal) (l : Fin 512) : EReal :=
  y l * C + y ⟨(l.val + 512 - 504) % 512, Nat.mod_lt _ (by decide)⟩ * S + y ⟨(l.val + 512 - 8) % 512, Nat.mod_lt _ (by decide)⟩ * T

theorem pay3_at (x : FVec Ideal S512x1024 .f32) (w : FVec Ideal S1x1024 .f32) (p : Fin 512) (e : Fin 1024) :
    k0_pay3 (F := Ideal) x w (ix2 p e) = x (ix2 p e) * Ideal.rsqrt (Ideal.div (∑ k : Fin 1024, x (ix2 p k) * x (ix2 p k)) (Ideal.ofBits .f32 0x44800000#32) + Ideal.ofBits .f32 0x358637BD#32) * w (ix2 0 e) := by
  pointwise [k0_pay3]

theorem pay4_at (x : FVec Ideal S512x1024 .f32) (w : FVec Ideal S1x1024 .f32) (W : FVec Ideal S1024x2048 .bf16) (p : Fin 512) (e : Fin 2048) :
    k0_pay4 (F := Ideal) x w W (ix2 p e) = ∑ k : Fin 1024, k0_pay3 (F := Ideal) x w (ix2 p k) * W (ix2 k e) := by
  pointwise [k0_pay4]

theorem pay5_at (x : FVec Ideal S512x1024 .f32) (w : FVec Ideal S1x1024 .f32) (W : FVec Ideal S1024x1536 .bf16) (p : Fin 512) (e : Fin 1536) :
    k0_pay5 (F := Ideal) x w W (ix2 p e) = ∑ k : Fin 1024, k0_pay3 (F := Ideal) x w (ix2 p k) * W (ix2 k e) := by
  pointwise [k0_pay5]

theorem pay6_at (x : FVec Ideal S512x1024 .f32) (w : FVec Ideal S1x1024 .f32) (W : FVec Ideal S1024x2048 .bf16) (p : Fin 512) (e : Fin 2048) :
    k0_pay6 (F := Ideal) x w W (ix2 p e) = ∑ k : Fin 1024, k0_pay3 (F := Ideal) x w (ix2 p k) * W (ix2 k e) := by
  pointwise [k0_pay6]

theorem pay7_at (x : FVec Ideal S512x1024 .f32) (w : FVec Ideal S1x1024 .f32) (W : FVec Ideal S1024x128 .bf16) (p : Fin 512) (e : Fin 128) :
    k0_pay7 (F := Ideal) x w W (ix2 p e) = ∑ k : Fin 1024, k0_pay3 (F := Ideal) x w (ix2 p k) * W (ix2 k e) := by
  pointwise [k0_pay7]

theorem tile_at (c : FVec Ideal S512x128 .f32) (p : Fin 512) (l : Fin 512) : k0_pay8 c (ix2 p l) = c (ix2 p ⟨l.val % 128, by omega⟩) := by
  pointwise [k0_pay8]
  have e : ∀ (k : ℕ) (h : k < 128), k = l.val % 128 → c (ix2 p ⟨k, h⟩) = c (ix2 p ⟨l.val % 128, by omega⟩) := fun k h q => by subst q; rfl
  by_cases h1 : l.val < 128
  · rw [dif_pos h1]; exact e _ _ (by omega)
  rw [dif_neg h1]
  by_cases h2 : l.val - 128 < 128
  · rw [dif_pos h2]; exact e _ _ (by omega)
  rw [dif_neg h2]
  by_cases h3 : l.val - 128 - 128 < 128
  · rw [dif_pos h3]; exact e _ _ (by omega)
  rw [dif_neg h3]; exact e _ _ (by omega)

theorem pay9_at (c : FVec Ideal S512x128 .f32) (p : Fin 512) (l : Fin 512) : k0_pay9 c (ix2 p l) = c (ix2 p ⟨l.val % 128, by omega⟩) := tile_at c p l

theorem pay10_at (c : FVec Ideal S512x128 .f32) (p : Fin 512) (l : Fin 512) : k0_pay10 c (ix2 p l) = c (ix2 p ⟨l.val % 128, by omega⟩) := tile_at c p l

theorem pay11_at (a : FVec Ideal S512x1536 .f32) (C S T : FVec Ideal S512x128 .f32) (w : FVec Ideal S1x512 .f32) (M : FVec Ideal S512x512 .bf16) (p : Fin 512) (l : Fin 512) :
    k0_pay11 (F := Ideal) a C S T w M (ix2 p l)
      = kr (kn (fun k => a (ix2 p ⟨k.val, by omega⟩)) (fun k => a (ix2 p ⟨k.val, by omega⟩) * a (ix2 p ⟨k.val, by omega⟩))
          (fun k => a (ix2 p ⟨k.val, by omega⟩) * a (ix2 p ⟨k.val, by omega⟩) - a (ix2 p ⟨k.val, by omega⟩) * a (ix2 p ⟨k.val, by omega⟩)) (fun k j => M (ix2 k j)) (fun k => w (ix2 0 k)))
        (k0_pay8 (F := Ideal) C (ix2 p l)) (k0_pay9 (F := Ideal) S (ix2 p l)) (k0_pay10 (F := Ideal) T (ix2 p l)) l * Ideal.ofBits .f32 0x3E38AA3B#32 := by
  unfold kr kn
  pointwise [k0_pay11]

theorem pay1_at (C S T b : FVec Ideal S512x512 .f32) (w : FVec Ideal S1x512 .f32) (h g M : FVec Ideal S512x512 .bf16) (p : Fin 512) (l : Fin 512) :
    k0_pay1 (F := Ideal) C S T b w h g M (ix2 p l)
      = kr (kn (fun k => b (ix2 p k)) (fun k => h (ix2 p k)) (fun k => g (ix2 p k)) (fun k j => M (ix2 k j)) (fun k => w (ix2 0 k)))
        (C (ix2 p l)) (S (ix2 p l)) (T (ix2 p l)) l := by
  unfold kr kn
  pointwise [k0_pay1]

theorem lane : ∀ l : Fin 512, k0_pay12 (ix2 0 l) = 1#1 ↔ l.val % 128 < 64 := by decide +kernel

theorem pay12_at (p : Fin 512) (l : Fin 512) : k0_pay12 (ix2 p l) = 1#1 ↔ l.val % 128 < 64 := lane l

theorem pay13_at (q : FVec Ideal S512x512 .f32) (p : Fin 512) (l : Fin 512) :
    k0_pay13 (F := Ideal) q (ix3 0 p l) = if l.val % 128 < 64 then q (ix2 p l) else (0 : EReal) := by
  rw [← Cert.Hand.select_of _ _ (pay12_at p l)]
  pointwise [k0_pay13]

theorem pay14_at (q : FVec Ideal S512x512 .f32) (p : Fin 512) (l : Fin 512) :
    k0_pay14 (F := Ideal) q (ix3 0 p l) = if l.val % 128 < 64 then (0 : EReal) else q (ix2 p l) := by
  rw [← Cert.Hand.select_of _ _ (pay12_at p l)]
  pointwise [k0_pay14]

theorem pay15_at (a : FVec Ideal S512x1536 .f32) (p : Fin 512) (l : Fin 512) : k0_pay15 (F := Ideal) a (ix2 p l) = a (ix2 p ⟨512 + l.val, by omega⟩) := by
  pointwise [k0_pay15]

theorem pay16_at (w : FVec Ideal S1x512 .f32) (l : Fin 512) : k0_pay16 (F := Ideal) w (ix2 0 l) = w (ix2 0 l) := by
  pointwise [k0_pay16]

theorem pay18_at (a : FVec Ideal S512x1536 .f32) (p : Fin 512) (l : Fin 512) : k0_pay18 (F := Ideal) a (ix2 p l) = a (ix2 p ⟨512 + l.val, by omega⟩) * a (ix2 p ⟨512 + l.val, by omega⟩) := by
  pointwise [k0_pay18, k0_pay17, k0_pay15]

theorem pay19_at (a : FVec Ideal S512x1536 .f32) (p : Fin 512) (l : Fin 512) :
    k0_pay19 (F := Ideal) a (ix2 p l) = a (ix2 p ⟨512 + l.val, by omega⟩) * a (ix2 p ⟨512 + l.val, by omega⟩) - a (ix2 p ⟨512 + l.val, by omega⟩) * a (ix2 p ⟨512 + l.val, by omega⟩) := by
  pointwise [k0_pay19, k0_pay18, k0_pay17, k0_pay15]

theorem pay2_at (a : FVec Ideal S512x1536 .f32) (p : Fin 512) (l : Fin 1024) :
    k0_pay2 (F := Ideal) a (ix2 p l) = if h : l.val % 256 < 128 then (show EReal from a (ix2 p ⟨1024 + (l.val / 256 * 128 + l.val % 256), by omega⟩)) else 1 := by
  pointwise [k0_pay2]
  have e : ∀ (k : ℕ) (h : 1024 + k < 1536) (h' : l.val % 256 < 128), k = l.val / 256 * 128 + l.val % 256 → (show EReal from a (ix2 p ⟨1024 + k, h⟩))
      = if h : l.val % 256 < 128 then (show EReal from a (ix2 p ⟨1024 + (l.val / 256 * 128 + l.val % 256), by omega⟩)) else 1 := fun k h h' q => by
    subst q; rw [dif_pos h']
  by_cases h0 : l.val < 128
  · rw [dif_pos h0]; exact e _ _ (by omega) (by omega)
  rw [dif_neg h0]
  by_cases h1 : l.val - 128 < 128
  · rw [dif_pos h1, dif_neg (by omega)]
  rw [dif_neg h1]
  by_cases h2 : l.val - 128 - 128 < 128
  · rw [dif_pos h2]; exact e _ _ (by omega) (by omega)
  rw [dif_neg h2]
  by_cases h3 : l.val - 128 - 128 - 128 < 128
  · rw [dif_pos h3, dif_neg (by omega)]
  rw [dif_neg h3]
  by_cases h4 : l.val - 128 - 128 - 128 - 128 < 128
  · rw [dif_pos h4]; exact e _ _ (by omega) (by omega)
  rw [dif_neg h4]
  by_cases h5 : l.val - 128 - 128 - 128 - 128 - 128 < 128
  · rw [dif_pos h5, dif_neg (by omega)]
  rw [dif_neg h5]
  by_cases h6 : l.val - 128 - 128 - 128 - 128 - 128 - 128 < 128
  · rw [dif_pos h6]; exact e _ _ (by omega) (by omega)
  rw [dif_neg h6]
  rw [dif_neg (by omega)]

end Cert.InpIdeal.Hand
-- ==== Proof.InpRef.lean ====
/- The input projection's reference, stage by stage and element by element. -/
module

public import proofs.«01_k».proof.Proof.Gen.InpReferenceIdeal.Run
public import proofs.«01_k».proof.Proof.InpMath

@[expose] public section

set_option maxRecDepth 16384
set_option maxHeartbeats 4000000

noncomputable section

namespace Cert.InpReferenceIdeal.Hand

open Cert.InpReferenceIdeal Cert.InpReferenceIdeal.Gen
open Idealize.ShloMosaic Idealize.ShloMosaic.TcCoe Idealize.SL.Sem Idealize.ShloMosaic.StableHlo
open Cert.InpMath

section Stages

variable {F : FTy → Type} [FloatOps F]

/-- A row's factor of the norm. -/
def refF (x : FVec F S32768x1024 .f32) : FVec F S32768x1 .f32 :=
  Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))

/-- The normed rows. -/
def refU (x : FVec F S32768x1024 .f32) (w : FVec F S1024 .f32) : FVec F S32768x1024 .bf16 :=
  truncf .bf16 (mulf (mulf x (broadcastInDim S32768x1024 ![0, 1] bcast_S32768x1_S32768x1024_0_1 (refF x))) (broadcastInDim S32768x1024 ![0, 1] bcast_S1x1024_S32768x1024_0_1 (broadcastInDim S1x1024 ![1] bcast_S1024_S1x1024_1 w))) bitsLt_bf16_f32

/-- The projection. -/
def refP (u : FVec F S32768x1024 .bf16) (w : FVec F S1024x5640 .f32) : FVec F S32768x5640 .f32 :=
  Host.dotGeneral dot_S32768x1024_S1024x5640_S32768x5640_1_0_0_1_n_n none u (truncf .bf16 w bitsLt_bf16_f32)

/-- The angles' factors of a lane. -/
def refI : FVec F S8 .f32 :=
  Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- The angles. -/
def refA (p : IVec S32768 32) : FVec F S32768x8 .f32 :=
  mulf (broadcastInDim S32768x8 ![0, 1] bcast_S32768x1_S32768x8_0_1 (broadcastInDim S32768x1 ![0] bcast_S32768_S32768x1_0 (sitofp .f32 p))) (broadcastInDim S32768x8 ![0, 1] bcast_S1x8_S32768x8_0_1 (broadcastInDim S1x8 ![1] bcast_S8_S1x8_1 refI))

/-- The queries' lanes of the projection, by heads and maps. -/
def refHq (p : FVec F S32768x5640 .f32) : FVec F S32768x4x2x64 .f32 :=
  shapeCast S32768x4x2x64 (extractStridedSlice S32768x512 ![0, 0] p slices_S32768x5640_S32768x512_0_0) shapeCasts_S32768x512_S32768x4x2x64

/-- The keys' lanes of the projection, by heads and maps. -/
def refHk (p : FVec F S32768x5640 .f32) : FVec F S32768x4x2x64 .f32 :=
  shapeCast S32768x4x2x64 (extractStridedSlice S32768x512 ![0, 512] p slices_S32768x5640_S32768x512_0_512) shapeCasts_S32768x512_S32768x4x2x64

/-- The norm over 64 lanes. -/
def refN (h : FVec F S32768x4x2x64 .f32) (w : FVec F S64 .f32) : FVec F S32768x4x2x64 .f32 :=
  mulf (mulf h (broadcastInDim S32768x4x2x64 ![0, 1, 2, 3] bcast_S32768x4x2x1_S32768x4x2x64_0_1_2_3 (Host.rsqrt (addf (Host.divf (broadcastInDim S32768x4x2x1 ![0, 1, 2] bcast_S32768x4x2_S32768x4x2x1_0_1_2 (Host.reduceAdd (mulf h h) (constant S_ .f32 0x00000000#32) reducesTo_S32768x4x2x64_S32768x4x2_d3 h_S_)) (broadcastInDim S32768x4x2x1 ![] bcast_S_S32768x4x2x1 (constant S_ .f32 0x42800000#32))) (broadcastInDim S32768x4x2x1 ![] bcast_S_S32768x4x2x1 (constant S_ .f32 0x358637BD#32))))))
    (broadcastInDim S32768x4x2x64 ![0, 1, 2, 3] bcast_S1x1x1x64_S32768x4x2x64_0_1_2_3 (broadcastInDim S1x1x1x64 ![3] bcast_S64_S1x1x1x64_3 w))

/-- A table over the rows, for every head and map. -/
def refT (a : FVec F S32768x8 .f32) : FVec F S32768x4x2x8 .f32 :=
  broadcastInDim S32768x4x2x8 ![0, 1, 2, 3] bcast_S32768x1x1x8_S32768x4x2x8_0_1_2_3 (broadcastInDim S32768x1x1x8 ![0, 3] bcast_S32768x8_S32768x1x1x8_0_3 a)

/-- The rotation of the first 16 lanes of 64. -/
def refR (y : FVec F S32768x4x2x64 .f32) (a : FVec F S32768x8 .f32) : FVec F S32768x4x2x64 .f32 :=
  concatenate S32768x4x2x64 3 [⟨S32768x4x2x8, subf (mulf (extractStridedSlice S32768x4x2x8 ![0, 0, 0, 0] y slices_S32768x4x2x64_S32768x4x2x8_0_0_0_0) (refT (Host.cos a))) (mulf (extractStridedSlice S32768x4x2x8 ![0, 0, 0, 8] y slices_S32768x4x2x64_S32768x4x2x8_0_0_0_8) (refT (Host.sin a)))⟩,
    ⟨S32768x4x2x8, addf (mulf (extractStridedSlice S32768x4x2x8 ![0, 0, 0, 8] y slices_S32768x4x2x64_S32768x4x2x8_0_0_0_8) (refT (Host.cos a))) (mulf (extractStridedSlice S32768x4x2x8 ![0, 0, 0, 0] y slices_S32768x4x2x64_S32768x4x2x8_0_0_0_0) (refT (Host.sin a)))⟩,
    ⟨S32768x4x2x48, extractStridedSlice S32768x4x2x48 ![0, 0, 0, 16] y slices_S32768x4x2x64_S32768x4x2x48_0_0_0_16⟩] concatenates_S32768x4x2x8_S32768x4x2x8_S32768x4x2x48_S32768x4x2x64_d3

/-- The queries' scale. -/
def refS (y : FVec F S32768x4x2x64 .f32) : FVec F S32768x4x2x64 .f32 :=
  mulf y (broadcastInDim S32768x4x2x64 ![] bcast_S_S32768x4x2x64 (constant S_ .f32 0x3E38AA3B#32))

/-- The projection without the small columns, the gates first. -/
def refMain (p : FVec F S32768x5640 .f32) : FVec F S32768x5632 .f32 :=
  concatenate S32768x5632 1 [⟨S32768x2048, extractStridedSlice S32768x2048 ![0, 3592] p slices_S32768x5640_S32768x2048_0_3592⟩, ⟨S32768x3584, extractStridedSlice S32768x3584 ![0, 0] p slices_S32768x5640_S32768x3584_0_0⟩] concatenates_S32768x2048_S32768x3584_S32768x5632_d1

/-- The small columns, with zeros beside them. -/
def refSmall (p : FVec F S32768x5640 .f32) : FVec F S32768x128 .f32 :=
  concatenate S32768x128 1 [⟨S32768x8, extractStridedSlice S32768x8 ![0, 3584] p slices_S32768x5640_S32768x8_0_3584⟩, ⟨S32768x120, broadcastInDim S32768x120 ![] bcast_S_S32768x120 (constant S_ .f32 0x00000000#32)⟩] concatenates_S32768x8_S32768x120_S32768x128_d1

/-- Zeros for the other map's lanes. -/
def refZ : FVec F S32768x4x64 .f32 := broadcastInDim S32768x4x64 ![] bcast_S_S32768x4x64 (constant S_ .f32 0x00000000#32)

/-- The first map's queries. -/
def refM0 (q : FVec F S32768x4x2x64 .f32) : FVec F S32768x4x128 .f32 :=
  concatenate S32768x4x128 2 [⟨S32768x4x64, shapeCast S32768x4x64 (extractStridedSlice S32768x4x1x64 ![0, 0, 0, 0] q slices_S32768x4x2x64_S32768x4x1x64_0_0_0_0) shapeCasts_S32768x4x1x64_S32768x4x64⟩, ⟨S32768x4x64, refZ⟩] concatenates_S32768x4x64_S32768x4x64_S32768x4x128_d2

/-- The second map's queries. -/
def refM1 (q : FVec F S32768x4x2x64 .f32) : FVec F S32768x4x128 .f32 :=
  concatenate S32768x4x128 2 [⟨S32768x4x64, refZ⟩, ⟨S32768x4x64, shapeCast S32768x4x64 (extractStridedSlice S32768x4x1x64 ![0, 0, 1, 0] q slices_S32768x4x2x64_S32768x4x1x64_0_0_1_0) shapeCasts_S32768x4x1x64_S32768x4x64⟩] concatenates_S32768x4x64_S32768x4x64_S32768x4x128_d2

/-- Both maps' queries. -/
def refB (a b : FVec F S32768x4x128 .f32) : FVec F S2x32768x4x128 .f32 :=
  concatenate S2x32768x4x128 0 [⟨S1x32768x4x128, broadcastInDim S1x32768x4x128 ![1, 2, 3] bcast_S32768x4x128_S1x32768x4x128_1_2_3 a⟩, ⟨S1x32768x4x128, broadcastInDim S1x32768x4x128 ![1, 2, 3] bcast_S32768x4x128_S1x32768x4x128_1_2_3 b⟩] concatenates_S1x32768x4x128_S1x32768x4x128_S2x32768x4x128_d0

/-- Both maps' queries, flat. -/
def refMaps (q : FVec F S2x32768x4x128 .f32) : FVec F S2x32768x512 .bf16 :=
  truncf .bf16 (shapeCast S2x32768x512 q shapeCasts_S2x32768x4x128_S2x32768x512) bitsLt_bf16_f32

/-- The keys, flat. -/
def refK (k : FVec F S32768x4x2x64 .f32) : FVec F S32768x512 .bf16 :=
  truncf .bf16 (shapeCast S32768x512 k shapeCasts_S32768x4x2x64_S32768x512) bitsLt_bf16_f32

/-- The values with ones beside them. -/
def refV (p : FVec F S32768x5640 .f32) : FVec F S32768x1024 .bf16 :=
  truncf .bf16 (shapeCast S32768x1024 (concatenate S32768x4x256 2 [⟨S32768x4x128, shapeCast S32768x4x128 (extractStridedSlice S32768x512 ![0, 1024] p slices_S32768x5640_S32768x512_0_1024) shapeCasts_S32768x512_S32768x4x128⟩, ⟨S32768x4x128, broadcastInDim S32768x4x128 ![] bcast_S_S32768x4x128 (constant S_ .f32 0x3F800000#32)⟩] concatenates_S32768x4x128_S32768x4x128_S32768x4x256_d2) shapeCasts_S32768x4x256_S32768x1024) bitsLt_bf16_f32

end Stages

theorem refU_at (x : FVec Ideal S32768x1024 .f32) (w : FVec Ideal S1024 .f32) (r : Fin 32768) (e : Fin 1024) :
    refU x w (ix2 r e) = x (ix2 r e) * Ideal.rsqrt (Ideal.div (∑ k : Fin 1024, x (ix2 r k) * x (ix2 r k)) (Ideal.ofBits .f32 0x44800000#32) + Ideal.ofBits .f32 0x358637BD#32) * w (ix1 e) := by
  pointwise [refU, refF]

theorem refP_at (u : FVec Ideal S32768x1024 .bf16) (w : FVec Ideal S1024x5640 .f32) (r : Fin 32768) (e : Fin 5640) :
    refP u w (ix2 r e) = ∑ k : Fin 1024, u (ix2 r k) * w (ix2 k e) := by
  pointwise [refP]

theorem refHq_at (p : FVec Ideal S32768x5640 .f32) (r : Fin 32768) (h : Fin 4) (μ : Fin 2) (d : Fin 64) :
    refHq p (ix4 r h μ d) = p (ix2 r ⟨(h.val * 2 + μ.val) * 64 + d.val, by omega⟩) := by
  pointwise [refHq]
  exact congrArg (fun i => p (ix2 r i)) (Fin.ext (by show h.val * 128 + μ.val * 64 + d.val = (h.val * 2 + μ.val) * 64 + d.val; omega))

theorem refHk_at (p : FVec Ideal S32768x5640 .f32) (r : Fin 32768) (h : Fin 4) (μ : Fin 2) (d : Fin 64) :
    refHk p (ix4 r h μ d) = p (ix2 r ⟨512 + ((h.val * 2 + μ.val) * 64 + d.val), by omega⟩) := by
  pointwise [refHk]
  exact congrArg (fun i => p (ix2 r i)) (Fin.ext (by show 512 + (h.val * 128 + μ.val * 64 + d.val) = 512 + ((h.val * 2 + μ.val) * 64 + d.val); omega))

theorem refN_at (h : FVec Ideal S32768x4x2x64 .f32) (w : FVec Ideal S64 .f32) (r : Fin 32768) (i : Fin 4) (μ : Fin 2) (d : Fin 64) :
    refN h w (ix4 r i μ d) = norm64 (fun j => h (ix4 r i μ j)) (fun j => w (ix1 j)) d := by
  unfold norm64
  pointwise [refN]

theorem refR_at (y : FVec Ideal S32768x4x2x64 .f32) (a : FVec Ideal S32768x8 .f32) (r : Fin 32768) (i : Fin 4) (μ : Fin 2) (d : Fin 64) :
    refR y a (ix4 r i μ d) = rope (fun j => y (ix4 r i μ j)) (fun j => a (ix2 r j)) d := by
  unfold rope
  pointwise [refR, refT]
  by_cases h : d.val < 8
  · rw [dif_pos h, dif_pos h]
  · have e1 : (⟨8 + (d.val - 8), by omega⟩ : Fin 64) = d := Fin.ext (by show 8 + (d.val - 8) = d.val; omega)
    rw [dif_neg h, dif_neg h]
    by_cases h' : d.val < 16
    · rw [dif_pos (show d.val - 8 < 8 by omega), dif_pos h', e1]
    · have e2 : (⟨16 + (d.val - 8 - 8), by omega⟩ : Fin 64) = d := Fin.ext (by show 16 + (d.val - 8 - 8) = d.val; omega)
      rw [dif_neg (show ¬ d.val - 8 < 8 by omega), dif_neg h', e2]

theorem refS_at (y : FVec Ideal S32768x4x2x64 .f32) (r : Fin 32768) (i : Fin 4) (μ : Fin 2) (d : Fin 64) :
    refS y (ix4 r i μ d) = y (ix4 r i μ d) * Ideal.ofBits .f32 0x3E38AA3B#32 := by
  pointwise [refS]

theorem refMain_at (p : FVec Ideal S32768x5640 .f32) (r : Fin 32768) (e : Fin 5632) :
    refMain p (ix2 r e) = if h : e.val < 2048 then p (ix2 r ⟨3592 + e.val, by omega⟩) else p (ix2 r ⟨e.val - 2048, by omega⟩) := by
  pointwise [refMain]

theorem refSmall_at (p : FVec Ideal S32768x5640 .f32) (r : Fin 32768) (e : Fin 128) :
    refSmall p (ix2 r e) = if h : e.val < 8 then p (ix2 r ⟨3584 + e.val, by omega⟩) else (0 : EReal) := by
  pointwise [refSmall]

theorem refK_at (k : FVec Ideal S32768x4x2x64 .f32) (r : Fin 32768) (l : Fin 512) :
    refK k (ix2 r l) = k (ix4 r ⟨l.val / 128, by omega⟩ ⟨l.val / 64 % 2, by omega⟩ ⟨l.val % 64, by omega⟩) := by
  pointwise [refK]

theorem refM0_at (q : FVec Ideal S32768x4x2x64 .f32) (r : Fin 32768) (i : Fin 4) (l : Fin 128) :
    refM0 q (ix3 r i l) = if h : l.val < 64 then q (ix4 r i 0 ⟨l.val, h⟩) else (0 : EReal) := by
  pointwise [refM0, refZ]

theorem refM1_at (q : FVec Ideal S32768x4x2x64 .f32) (r : Fin 32768) (i : Fin 4) (l : Fin 128) :
    refM1 q (ix3 r i l) = if h : l.val < 64 then (0 : EReal) else q (ix4 r i 1 ⟨l.val - 64, by omega⟩) := by
  pointwise [refM1, refZ]

theorem refMaps_at (q : FVec Ideal S2x32768x4x128 .f32) (ν : Fin 2) (r : Fin 32768) (l : Fin 512) :
    refMaps q (ix3 ν r l) = q (ix4 ν r ⟨l.val / 128, by omega⟩ ⟨l.val % 128, by omega⟩) := by
  pointwise [refMaps]

theorem refB_at (a b : FVec Ideal S32768x4x128 .f32) (ν : Fin 2) (r : Fin 32768) (i : Fin 4) (l : Fin 128) :
    refB a b (ix4 ν r i l) = if _ : ν.val < 1 then (show EReal from a (ix3 r i l)) else b (ix3 r i l) := by
  pointwise [refB]

theorem refV_at (p : FVec Ideal S32768x5640 .f32) (r : Fin 32768) (l : Fin 1024) :
    refV p (ix2 r l) = if h : l.val % 256 < 128 then (show EReal from p (ix2 r ⟨1024 + (l.val / 256 * 128 + l.val % 256), by omega⟩)) else 1 := by
  pointwise [refV]

theorem refA_at (p : IVec S32768 32) (r : Fin 32768) (j : Fin 8) : refA (F := Ideal) p (ix2 r j) = ang (p (ix1 r)) j.val := by
  have h : ∀ j : Fin 8, ((BitVec.ofNat 32 j.val).toInt : ℤ) = j.val := by decide
  have e : (Ideal.ofBits .f32 0x40000000#32 * (((((BitVec.ofNat 32 j.val).toInt : ℤ) : ℝ)) : EReal)) = ((2 * (j.val : ℝ) : ℝ) : EReal) := by
    rw [h, word2, ← EReal.coe_mul]
    exact congrArg _ (by push_cast; rfl)
  unfold ang expo
  pointwise [refA, refI]
  exact congrArg (fun z : EReal => (((p (ix1 r)).toInt : ℝ) : EReal) * Ideal.pow (Ideal.ofBits .f32 0x48F42400#32) (Ideal.div (-z) (Ideal.ofBits .f32 0x41800000#32))) e

variable (m : (ℓ : Loc nD τ sig) → Buf (Elt Ideal) ℓ) (c : Dev nD)

theorem res_maps : Cert.InpReferenceIdeal.Value.res_out2 m c = (let q := refS (F := Ideal) (refR (refN (refHq (refP (refU (m ((c : Thread nD τ).loc main_arg0)) (m ((c : Thread nD τ).loc main_arg5))) (m ((c : Thread nD τ).loc main_arg2)))) (m ((c : Thread nD τ).loc main_arg3))) (refA (m ((c : Thread nD τ).loc main_arg1))))
    refMaps (refB (refM0 q) (refM1 q))) := rfl

theorem res_k : Cert.InpReferenceIdeal.Value.res_out3 m c = refK (F := Ideal) (refR (refN (refHk (refP (refU (m ((c : Thread nD τ).loc main_arg0)) (m ((c : Thread nD τ).loc main_arg5))) (m ((c : Thread nD τ).loc main_arg2)))) (m ((c : Thread nD τ).loc main_arg4))) (refA (m ((c : Thread nD τ).loc main_arg1)))) := rfl

end Cert.InpReferenceIdeal.Hand
-- ==== Proof.InpVal.lean ====
/- The input projection's five result arrays, from the arguments. -/
module

public import proofs.«01_k».proof.Proof.InpBlk
public import proofs.«01_k».proof.Proof.InpPay
public import proofs.«01_k».proof.Proof.InpRef

@[expose] public section

set_option maxRecDepth 16384
set_option maxHeartbeats 2000000

noncomputable section

namespace Cert.InpIdeal.Hand

open Cert.InpIdeal Cert.InpIdeal.Gen
open Idealize.ShloMosaic Idealize.ShloMosaic.TcCoe Idealize.SL.Sem
open Idealize.ShloMosaic.Pipeline (Dat)
open Cert.InpMath
open Cert.InpReferenceIdeal.Hand (refU refP refHq refHk refN refR refS refA refMain refSmall refM0 refM1 refB refMaps refK refV
  refU_at refP_at refHq_at refHk_at refN_at refR_at refS_at refA_at refMain_at refSmall_at refM0_at refM1_at refB_at refMaps_at refK_at refV_at)

/-- A lane normed and turned as the body computes it. -/
theorem turned (a w : Fin 512 → EReal) (M : Fin 512 → Fin 512 → EReal) (v : Fin 64 → EReal) (f : Fin 8 → EReal) (C S T : EReal) (l : Fin 512)
    (ha : ∀ k, IsR (a k)) (hM : ∀ k l, M k l = if k.val / 64 = l.val / 64 then 1 else 0) (hw : ∀ l : Fin 512, w l = v ⟨l.val % 64, by omega⟩)
    (hC : C = if l.val % 64 < 16 then Ideal.cos (f ⟨l.val % 8, by omega⟩) else 1)
    (hS : S = if l.val % 64 < 8 then -Ideal.sin (f ⟨l.val % 8, by omega⟩) else 0)
    (hT : T = if 8 ≤ l.val % 64 ∧ l.val % 64 < 16 then Ideal.sin (f ⟨l.val % 8, by omega⟩) else 0) :
    kr (kn a (fun k => a k * a k) (fun k => a k * a k - a k * a k) M w) C S T l = rope (norm64 (grp a l) v) f ⟨l.val % 64, by omega⟩ := by
  have hn : kn a (fun k => a k * a k) (fun k => a k * a k - a k * a k) M w = fun l : Fin 512 => norm64 (grp a l) v ⟨l.val % 64, by omega⟩ :=
    funext fun l => norm_lane a (fun k => M k l) w v l ha (fun k => hM k l) (hw l)
  rw [hn]
  refine (rope_lane (fun l : Fin 512 => norm64 (grp a l) v ⟨l.val % 64, by omega⟩) f l C S T hC hS hT).trans (congrArg (fun y => rope y f ⟨l.val % 64, by omega⟩) (funext fun d => ?_))
  have e1 : (⟨(64 * (l.val / 64) + d.val) % 64, by omega⟩ : Fin 64) = d := Fin.ext (by show (64 * (l.val / 64) + d.val) % 64 = d.val; omega)
  have e2 : grp a ⟨64 * (l.val / 64) + d.val, by omega⟩ = grp a l :=
    funext fun j => congrArg a (Fin.ext (by show 64 * ((64 * (l.val / 64) + d.val) / 64) + j.val = 64 * (l.val / 64) + j.val; omega))
  show norm64 (grp a ⟨64 * (l.val / 64) + d.val, _⟩) v ⟨(64 * (l.val / 64) + d.val) % 64, _⟩ = _
  rw [e1, e2]

variable (m : (ℓ : Loc nD τ sig) → Buf (Elt Ideal) ℓ) (c : Dev nD)

/-- The projection over the arguments. -/
abbrev PR : FVec Ideal Cert.InpReferenceIdeal.S32768x5640 .f32 :=
  refP (refU (m ((c : Thread nD τ).loc main_arg0)) (m ((c : Thread nD τ).loc main_arg5))) (m ((c : Thread nD τ).loc main_arg2))

/-- The queries over the arguments, before their scale. -/
abbrev QR : FVec Ideal Cert.InpReferenceIdeal.S32768x4x2x64 .f32 := refR (refN (refHq (PR m c)) (m ((c : Thread nD τ).loc main_arg3))) (refA (m ((c : Thread nD τ).loc main_arg1)))

/-- The keys over the arguments. -/
abbrev KR : FVec Ideal Cert.InpReferenceIdeal.S32768x4x2x64 .f32 := refR (refN (refHk (PR m c)) (m ((c : Thread nD τ).loc main_arg4))) (refA (m ((c : Thread nD τ).loc main_arg1)))

/-- The angles of a row. -/
abbrev angs (r : Fin 32768) (j : Fin 8) : EReal := ang ((show IVec S32768 32 from m ((c : Thread nD τ).loc main_arg1)) (ix1 r)) j.val

theorem QR_at (r : Fin 32768) (l : Fin 512) (h : Fin 4) (μ : Fin 2) (d : Fin 64) (hl : l.val = h.val * 128 + μ.val * 64 + d.val) :
    QR m c (ix4 r h μ d) = rope (norm64 (grp (fun k => PR m c (ix2 r ⟨k.val, by omega⟩)) l) (fun j => (show FVec Ideal S64 .f32 from m ((c : Thread nD τ).loc main_arg3)) (ix1 j))) (angs m c r) ⟨l.val % 64, by omega⟩ := by
  have hd : (⟨l.val % 64, by omega⟩ : Fin 64) = d := Fin.ext (by show l.val % 64 = d.val; omega)
  rw [hd]
  unfold QR
  rw [refR_at]
  refine congrArg₂ (fun y f => rope y f d) (funext fun j => ?_) (funext fun j => refA_at _ r j)
  rw [refN_at]
  refine congrArg (fun y => norm64 y _ j) (funext fun i => ?_)
  rw [refHq_at]
  exact congrArg (fun e => PR m c (ix2 r e)) (Fin.ext (by show (h.val * 2 + μ.val) * 64 + i.val = 64 * (l.val / 64) + i.val; omega))

theorem KR_at (r : Fin 32768) (l : Fin 512) (h : Fin 4) (μ : Fin 2) (d : Fin 64) (hl : l.val = h.val * 128 + μ.val * 64 + d.val) :
    KR m c (ix4 r h μ d) = rope (norm64 (grp (fun k => PR m c (ix2 r ⟨512 + k.val, by omega⟩)) l) (fun j => (show FVec Ideal S64 .f32 from m ((c : Thread nD τ).loc main_arg4)) (ix1 j))) (angs m c r) ⟨l.val % 64, by omega⟩ := by
  have hd : (⟨l.val % 64, by omega⟩ : Fin 64) = d := Fin.ext (by show l.val % 64 = d.val; omega)
  rw [hd]
  unfold KR
  rw [refR_at]
  refine congrArg₂ (fun y f => rope y f d) (funext fun j => ?_) (funext fun j => refA_at _ r j)
  rw [refN_at]
  refine congrArg (fun y => norm64 y _ j) (funext fun i => ?_)
  rw [refHk_at]
  exact congrArg (fun e => PR m c (ix2 r e)) (Fin.ext (by show 512 + ((h.val * 2 + μ.val) * 64 + i.val) = 512 + (64 * (l.val / 64) + i.val); omega))

/-- The arguments that the norms are taken of are real numbers. -/
structure Reals : Prop where
  x : ∀ i, IsR ((show FVec Ideal S32768x1024 .f32 from m ((c : Thread nD τ).loc main_arg0)) i)
  w : ∀ i, IsR ((show FVec Ideal S1024x5640 .f32 from m ((c : Thread nD τ).loc main_arg2)) i)
  n : ∀ i, IsR ((show FVec Ideal S1024 .f32 from m ((c : Thread nD τ).loc main_arg5)) i)

theorem PR_real (H : Reals m c) (r : Fin 32768) (e : Fin 5640) : IsR (PR m c (ix2 r e)) := by
  unfold PR
  rw [refP_at]
  refine IsR.sum fun k => IsR.mul ?_ (H.w _)
  rw [refU_at]
  exact normed_real (fun k => (show FVec Ideal S32768x1024 .f32 from m ((c : Thread nD τ).loc main_arg0)) (ix2 r k))
    (fun k => (show FVec Ideal S1024 .f32 from m ((c : Thread nD τ).loc main_arg5)) (ix1 k)) (fun k => H.x _) (fun k => H.n _) k

section Blocks

variable (t : Fin cfg0.N) (p : Fin 512)

theorem u_at (k : Fin 1024) : k0_pay3 (F := Ideal) (iblk m c 0 t) (iblk m c 1 t) (ix2 p k) = refU (F := Ideal) (m ((c : Thread nD τ).loc main_arg0)) (m ((c : Thread nD τ).loc main_arg5)) (ix2 (row t p) k) := by
  refine (pay3_at _ _ p k).trans (Eq.trans ?_ (refU_at _ _ _ _).symm)
  refine congrArg₂ (· * ·) (congrArg₂ (· * ·) (blk_x m c t p k) (congrArg (fun s : EReal => Ideal.rsqrt (Ideal.div s _ + _)) (Finset.sum_congr rfl fun j _ => ?_))) (blk_n m c t k)
  exact congrArg₂ (· * ·) (blk_x m c t p j) (blk_x m c t p j)

/-- A column of the weights, gates first, gives that column of the projection. -/
theorem main_at (e : Fin 5632) : ∑ k : Fin 1024, k0_pay3 (F := Ideal) (iblk m c 0 t) (iblk m c 1 t) (ix2 p k) * iblk m c 2 t (ix2 k e) = refMain (PR m c) (ix2 (row t p) e) := by
  rw [refMain_at]
  by_cases h : e.val < 2048
  · rw [dif_pos h]
    unfold PR
    rw [refP_at]
    refine Finset.sum_congr rfl fun k _ => congrArg₂ (fun a b : EReal => a * b) (u_at m c t p k) ((blk_w m c t k e).trans ?_)
    rw [hW_at, dif_pos h]
  · rw [dif_neg h]
    unfold PR
    rw [refP_at]
    refine Finset.sum_congr rfl fun k _ => congrArg₂ (fun a b : EReal => a * b) (u_at m c t p k) ((blk_w m c t k e).trans ?_)
    rw [hW_at, dif_neg h]

theorem ld_a (w : FVec Ideal S1024x5632 .bf16) (o : ℕ) (hi) (k : Fin 1024) (j : Fin 2048) (ho : o + 2048 ≤ 5632) :
    (View.ld (Val := Elt Ideal) (S := S1024x5632) (e' := .bf16) w (Rect.unit (s := S1024x5632) ![0, o] ![1024, 2048] hi) : FVec Ideal S1024x2048 .bf16) (ix2 k j) = w (ix2 k ⟨o + j.val, by omega⟩) := by
  refine congrArg (α := S1024x5632.Idx) w (funext fun a => Fin.ext ?_)
  match a with
  | 0 => show 0 + 1 * k.val = k.val; omega
  | 1 => show o + 1 * j.val = o + j.val; omega

theorem ld_b (w : FVec Ideal S1024x5632 .bf16) (o : ℕ) (hi) (k : Fin 1024) (j : Fin 1536) (ho : o + 1536 ≤ 5632) :
    (View.ld (Val := Elt Ideal) (S := S1024x5632) (e' := .bf16) w (Rect.unit (s := S1024x5632) ![0, o] ![1024, 1536] hi) : FVec Ideal S1024x1536 .bf16) (ix2 k j) = w (ix2 k ⟨o + j.val, by omega⟩) := by
  refine congrArg (α := S1024x5632.Idx) w (funext fun a => Fin.ext ?_)
  match a with
  | 0 => show 0 + 1 * k.val = k.val; omega
  | 1 => show o + 1 * j.val = o + j.val; omega

/-- The queries', keys' and values' columns of a point's rows. -/
abbrev AB : FVec Ideal S512x1536 .f32 :=
  k0_pay5 (F := Ideal) (iblk m c 0 t) (iblk m c 1 t) (View.ld (Val := Elt Ideal) (S := S1024x5632) (e' := .bf16) (iblk m c 2 t) (Rect.unit (s := S1024x5632) ![0, 2048] ![1024, 1536] inb_S1024x5632_S1024x1536_0_2048))

theorem AB_main (e : Fin 1536) : AB m c t (ix2 p e) = refMain (PR m c) (ix2 (row t p) ⟨2048 + e.val, by omega⟩) := by
  refine ((pay5_at _ _ _ p e).trans (Finset.sum_congr rfl fun k _ => ?_)).trans (main_at m c t p _)
  exact congrArg (fun a : EReal => _ * a) (ld_b (iblk m c 2 t) 2048 _ k e (by omega))

theorem AB_at (e : Fin 1536) : AB m c t (ix2 p e) = PR m c (ix2 (row t p) ⟨e.val, by omega⟩) := by
  rw [AB_main, refMain_at, dif_neg (by show ¬ 2048 + e.val < 2048; omega)]
  exact congrArg (fun e => PR m c (ix2 (row t p) e)) (Fin.ext (by show 2048 + e.val - 2048 = e.val; omega))

theorem first_at (e : Fin 2048) : k0_pay4 (F := Ideal) (iblk m c 0 t) (iblk m c 1 t) (View.ld (Val := Elt Ideal) (S := S1024x5632) (e' := .bf16) (iblk m c 2 t) (Rect.unit (s := S1024x5632) ![0, 0] ![1024, 2048] inb_S1024x5632_S1024x2048_0_0)) (ix2 p e)
    = refMain (PR m c) (ix2 (row t p) ⟨0 + e.val, by omega⟩) := by
  refine ((pay4_at _ _ _ p e).trans (Finset.sum_congr rfl fun k _ => ?_)).trans (main_at m c t p _)
  exact congrArg (fun a : EReal => _ * a) (ld_a (iblk m c 2 t) 0 _ k e (by omega))

theorem last_at (e : Fin 2048) : k0_pay6 (F := Ideal) (iblk m c 0 t) (iblk m c 1 t) (View.ld (Val := Elt Ideal) (S := S1024x5632) (e' := .bf16) (iblk m c 2 t) (Rect.unit (s := S1024x5632) ![0, 3584] ![1024, 2048] inb_S1024x5632_S1024x2048_0_3584)) (ix2 p e)
    = refMain (PR m c) (ix2 (row t p) ⟨3584 + e.val, by omega⟩) := by
  refine ((pay6_at _ _ _ p e).trans (Finset.sum_congr rfl fun k _ => ?_)).trans (main_at m c t p _)
  exact congrArg (fun a : EReal => _ * a) (ld_a (iblk m c 2 t) 3584 _ k e (by omega))

theorem small_at (e : Fin 128) : k0_pay7 (F := Ideal) (iblk m c 0 t) (iblk m c 1 t) (iblk m c 3 t) (ix2 p e) = refSmall (PR m c) (ix2 (row t p) e) := by
  refine (pay7_at _ _ _ p e).trans ?_
  rw [refSmall_at]
  by_cases h : e.val < 8
  · rw [dif_pos h]
    unfold PR
    rw [refP_at]
    refine Finset.sum_congr rfl fun k _ => congrArg₂ (fun a b : EReal => a * b) (u_at m c t p k) ((blk_s m c t k e).trans ?_)
    rw [hS_at, dif_pos h]
  · rw [dif_neg h]
    refine Finset.sum_eq_zero fun k _ => ?_
    have z : iblk m c 3 t (ix2 k e) = (0 : EReal) := (blk_s m c t k e).trans (by rw [hS_at, dif_neg h])
    exact (congrArg (fun a : EReal => _ * a) z).trans (mul_zero _)

theorem vals_at (l : Fin 1024) : k0_pay2 (F := Ideal) (AB m c t) (ix2 p l) = refV (PR m c) (ix2 (row t p) l) := by
  rw [pay2_at, refV_at]
  by_cases h : l.val % 256 < 128
  · rw [dif_pos h, dif_pos h]
    exact AB_at m c t p _
  · rw [dif_neg h, dif_neg h]

variable (l : Fin 512)

theorem C_at : k0_pay8 (F := Ideal) (iblk m c 4 t) (ix2 p l) = if l.val % 64 < 16 then Ideal.cos (angs m c (row t p) ⟨l.val % 8, by omega⟩) else 1 := by
  refine (tile_at _ p l).trans ((blk_cos m c t p _).trans ((cos_at _ _ _).trans ?_))
  dsimp only
  rw [show l.val % 128 % 64 = l.val % 64 by omega, show l.val % 128 % 8 = l.val % 8 by omega]

theorem S_at : k0_pay9 (F := Ideal) (iblk m c 5 t) (ix2 p l) = if l.val % 64 < 8 then -Ideal.sin (angs m c (row t p) ⟨l.val % 8, by omega⟩) else 0 := by
  refine (pay9_at _ p l).trans ((blk_s1 m c t p _).trans ((s1_at _ _ _).trans ?_))
  dsimp only
  rw [show l.val % 128 % 64 = l.val % 64 by omega, show l.val % 128 % 8 = l.val % 8 by omega]

theorem T_at : k0_pay10 (F := Ideal) (iblk m c 6 t) (ix2 p l) = if 8 ≤ l.val % 64 ∧ l.val % 64 < 16 then Ideal.sin (angs m c (row t p) ⟨l.val % 8, by omega⟩) else 0 := by
  refine (pay10_at _ p l).trans ((blk_s2 m c t p _).trans ((s2_at _ _ _).trans ?_))
  dsimp only
  rw [show l.val % 128 % 64 = l.val % 64 by omega, show l.val % 128 % 8 = l.val % 8 by omega]

/-- The queries' lanes of a point's rows, normed, turned and scaled. -/
abbrev QB : FVec Ideal S512x512 .f32 :=
  k0_pay11 (F := Ideal) (AB m c t) (iblk m c 4 t) (iblk m c 5 t) (iblk m c 6 t) (iblk m c 7 t) (iblk m c 9 t)

theorem QB_at (H : Reals m c) : QB m c t (ix2 p l) = rope (norm64 (grp (fun k => PR m c (ix2 (row t p) ⟨k.val, by omega⟩)) l) (fun j => (show FVec Ideal S64 .f32 from m ((c : Thread nD τ).loc main_arg3)) (ix1 j))) (angs m c (row t p)) ⟨l.val % 64, by omega⟩ * Ideal.ofBits .f32 0x3E38AA3B#32 := by
  refine (pay11_at _ _ _ _ _ _ p l).trans (congrArg (fun a : EReal => a * _) ?_)
  have e : (fun k : Fin 512 => AB m c t (ix2 p ⟨k.val, by omega⟩)) = fun k : Fin 512 => PR m c (ix2 (row t p) ⟨k.val, by omega⟩) := funext fun k => AB_at m c t p _
  refine (turned (fun k : Fin 512 => AB m c t (ix2 p ⟨k.val, by omega⟩)) _ _ (fun j => (show FVec Ideal S64 .f32 from m ((c : Thread nD τ).loc main_arg3)) (ix1 j)) (angs m c (row t p)) _ _ _ l
    (fun k => ?_) (fun k l => (blk_m m c t k l).trans (hM_at k l)) (fun l => (blk_qn m c t l).trans (hN_at _ l)) (C_at m c t p l) (S_at m c t p l) (T_at m c t p l)).trans ?_
  · have := PR_real m c H (row t p) ⟨k.val, by omega⟩
    rw [← AB_at m c t p ⟨k.val, by omega⟩] at this
    exact this
  · rw [e]

theorem KB_at (H : Reals m c) : k0_pay1 (F := Ideal) (k0_pay8 (F := Ideal) (iblk m c 4 t)) (k0_pay9 (F := Ideal) (iblk m c 5 t)) (k0_pay10 (F := Ideal) (iblk m c 6 t)) (k0_pay15 (F := Ideal) (AB m c t)) (k0_pay16 (F := Ideal) (iblk m c 8 t))
      (k0_pay18 (F := Ideal) (AB m c t)) (k0_pay19 (F := Ideal) (AB m c t)) (iblk m c 9 t) (ix2 p l)
    = rope (norm64 (grp (fun k => PR m c (ix2 (row t p) ⟨512 + k.val, by omega⟩)) l) (fun j => (show FVec Ideal S64 .f32 from m ((c : Thread nD τ).loc main_arg4)) (ix1 j))) (angs m c (row t p)) ⟨l.val % 64, by omega⟩ := by
  refine (pay1_at _ _ _ _ _ _ _ _ p l).trans ?_
  have e : ∀ k : Fin 512, AB m c t (ix2 p ⟨512 + k.val, by omega⟩) = PR m c (ix2 (row t p) ⟨512 + k.val, by omega⟩) := fun k => AB_at m c t p _
  have e1 : (fun k : Fin 512 => k0_pay15 (F := Ideal) (AB m c t) (ix2 p k)) = fun k : Fin 512 => PR m c (ix2 (row t p) ⟨512 + k.val, by omega⟩) := funext fun k => (pay15_at _ p k).trans (e k)
  have e2 : (fun k : Fin 512 => k0_pay18 (F := Ideal) (AB m c t) (ix2 p k)) = fun k : Fin 512 => PR m c (ix2 (row t p) ⟨512 + k.val, by omega⟩) * PR m c (ix2 (row t p) ⟨512 + k.val, by omega⟩) :=
    funext fun k => (pay18_at _ p k).trans (by rw [e k])
  have e3 : (fun k : Fin 512 => k0_pay19 (F := Ideal) (AB m c t) (ix2 p k)) = fun k : Fin 512 => PR m c (ix2 (row t p) ⟨512 + k.val, by omega⟩) * PR m c (ix2 (row t p) ⟨512 + k.val, by omega⟩) - PR m c (ix2 (row t p) ⟨512 + k.val, by omega⟩) * PR m c (ix2 (row t p) ⟨512 + k.val, by omega⟩) :=
    funext fun k => (pay19_at _ p k).trans (by rw [e k])
  rw [e1, e2, e3]
  exact turned (fun k : Fin 512 => PR m c (ix2 (row t p) ⟨512 + k.val, by omega⟩)) _ _ (fun j => (show FVec Ideal S64 .f32 from m ((c : Thread nD τ).loc main_arg4)) (ix1 j)) (angs m c (row t p)) _ _ _ l
    (fun k => PR_real m c H _ _) (fun k l => (blk_m m c t k l).trans (hM_at k l)) (fun l => (pay16_at _ l).trans ((blk_kn m c t l).trans (hN_at _ l))) (C_at m c t p l) (S_at m c t p l) (T_at m c t p l)

end Blocks

end Cert.InpIdeal.Hand
-- ==== Proof.InpFin.lean ====
/- The input projection's grid ends with the reference's five arrays. -/
module

public import proofs.«01_k».proof.Proof.InpVal

@[expose] public section

set_option maxRecDepth 16384
set_option maxHeartbeats 2000000

noncomputable section

namespace Cert.InpIdeal.Hand

open Cert.InpIdeal Cert.InpIdeal.Gen
open Idealize.ShloMosaic Idealize.ShloMosaic.TcCoe Idealize.SL.Sem
open Idealize.ShloMosaic.Pipeline (Dat)
open Cert.InpMath
open Cert.InpReferenceIdeal.Hand (refS refMain refSmall refM0 refM1 refB refMaps refK refV refS_at refM0_at refM1_at refB_at refMaps_at refK_at)

variable (m : (ℓ : Loc nD τ sig) → Buf (Elt Ideal) ℓ) (c : Dev nD)

section Points

variable (t : Fin cfg0.N) (p : Fin 512)

theorem emb10 (e : Fin 5632) : (((cfg0.win 10).blk t).view.emb (ix2 p e) : S32768x5632.Idx) = ix2 (row t p) e := by
  blk_ext [idx t]

theorem emb11 (e : Fin 128) : (((cfg0.win 11).blk t).view.emb (ix2 p e) : S32768x128.Idx) = ix2 (row t p) e := by
  blk_ext [idx t]

theorem emb12 (ν : Fin 2) (e : Fin 512) : (((cfg0.win 12).blk t).view.emb (ix3 ν p e) : S2x32768x512.Idx) = ix3 ν (row t p) e := by
  blk_ext [idx t]

theorem emb13 (e : Fin 512) : (((cfg0.win 13).blk t).view.emb (ix2 p e) : S32768x512.Idx) = ix2 (row t p) e := by
  blk_ext [idx t]

theorem emb14 (e : Fin 1024) : (((cfg0.win 14).blk t).view.emb (ix2 p e) : S32768x1024.Idx) = ix2 (row t p) e := by
  blk_ext [idx t]

/-- Both maps' queries over the arguments. -/
abbrev MR : FVec Ideal Cert.InpReferenceIdeal.S2x32768x512 .bf16 := refMaps (refB (refM0 (refS (QR m c))) (refM1 (refS (QR m c))))

/-- A point's lanes of both maps. -/
theorem maps_at (H : Reals m c) (ν : Fin 2) (l : Fin 512) :
    MR m c (ix3 ν (row t p) l) = if ν.val < 1 then (if l.val % 128 < 64 then QB m c t (ix2 p l) else (0 : EReal)) else if l.val % 128 < 64 then (0 : EReal) else QB m c t (ix2 p l) := by
  unfold MR
  rw [refMaps_at, refB_at]
  by_cases hν : ν.val < 1
  · rw [dif_pos hν, if_pos hν]
    refine (refM0_at _ _ _ _).trans ?_
    by_cases h : l.val % 128 < 64
    · rw [dif_pos h, if_pos h, refS_at, QB_at m c t p l H]
      exact congrArg (fun a : EReal => a * _) (QR_at m c (row t p) l _ _ _ (by show l.val = l.val / 128 * 128 + 0 * 64 + l.val % 128; omega))
    · rw [dif_neg h, if_neg h]
  · rw [dif_neg hν, if_neg hν]
    refine (refM1_at _ _ _ _).trans ?_
    by_cases h : l.val % 128 < 64
    · rw [dif_pos h, if_pos h]
    · rw [dif_neg h, if_neg h, refS_at, QB_at m c t p l H]
      exact congrArg (fun a : EReal => a * _) (QR_at m c (row t p) l _ _ _ (by show l.val = l.val / 128 * 128 + 1 * 64 + (l.val % 128 - 64); omega))

/-- The projection without the small columns, over a point's rows. -/
def G10 (y : S512x5632.Idx) : EReal := refMain (PR m c) (ix2 (row t (y 0)) (y 1))

/-- Both maps' queries, over a point's rows. -/
def G12 (y : S2x512x512.Idx) : EReal := MR m c (ix3 (y 0) (row t (y 1)) (y 2))

end Points

theorem final10 : (dats m 0 c).arrAt 10 cfg0.N = refMain (PR m c) := by
  refine (dats m 0 c).arrAt_eq_of_covers 10 _ (by decide +kernel) fun t _ y => ?_
  blk_simp
  rw [after0_10]
  unfold outsAt0
  frame_out
  obtain ⟨p, e, rfl⟩ : ∃ (p : Fin 512) (e : Fin 5632), y = ix2 p e := ⟨y 0, y 1, by funext a; match a with | 0 => rfl | 1 => rfl⟩
  refine (View.canon_apply_of_pieces (S := S512x5632) (Val := Elt Ideal) (e := .f32) (G10 m c t) _ ?_ (ix2 p e) ?_).trans (congrArg (refMain (PR m c)) (emb10 t p e).symm)
  · intro q hq
    simp only [List.mem_cons, List.not_mem_nil, or_false] at hq
    rcases hq with rfl | rfl | rfl
    · intro x
      obtain ⟨p, e, rfl⟩ : ∃ (p : Fin 512) (e : Fin 2048), x = ix2 p e := ⟨x 0, x 1, by funext a; match a with | 0 => rfl | 1 => rfl⟩
      refine (last_at m c t p e).trans (congrArg (refMain (PR m c)) (congrArg₂ (fun a b => ix2 (row t a) b) (Fin.ext ?_) (Fin.ext ?_)))
      · show p.val = 0 + 1 * p.val; omega
      · show 3584 + e.val = 3584 + 1 * e.val; omega
    · intro x
      obtain ⟨p, e, rfl⟩ : ∃ (p : Fin 512) (e : Fin 1536), x = ix2 p e := ⟨x 0, x 1, by funext a; match a with | 0 => rfl | 1 => rfl⟩
      refine (AB_main m c t p e).trans (congrArg (refMain (PR m c)) (congrArg₂ (fun a b => ix2 (row t a) b) (Fin.ext ?_) (Fin.ext ?_)))
      · show p.val = 0 + 1 * p.val; omega
      · show 2048 + e.val = 2048 + 1 * e.val; omega
    · intro x
      obtain ⟨p, e, rfl⟩ : ∃ (p : Fin 512) (e : Fin 2048), x = ix2 p e := ⟨x 0, x 1, by funext a; match a with | 0 => rfl | 1 => rfl⟩
      refine (first_at m c t p e).trans (congrArg (refMain (PR m c)) (congrArg₂ (fun a b => ix2 (row t a) b) (Fin.ext ?_) (Fin.ext ?_)))
      · show p.val = 0 + 1 * p.val; omega
      · show 0 + e.val = 0 + 1 * e.val; omega
  · by_cases h1 : e.val < 2048
    · refine ⟨_, List.mem_cons_of_mem _ (List.mem_cons_of_mem _ (List.mem_cons_self ..)), (Rect.mem_set_unit (inb := inb_S512x5632_S512x2048_0_0)).2 fun a => ?_⟩
      match a with
      | 0 => exact ⟨Nat.zero_le _, by show p.val < 0 + 512; omega⟩
      | 1 => exact ⟨Nat.zero_le _, by show e.val < 0 + 2048; omega⟩
    by_cases h2 : e.val < 3584
    · refine ⟨_, List.mem_cons_of_mem _ (List.mem_cons_self ..), (Rect.mem_set_unit (inb := inb_S512x5632_S512x1536_0_2048)).2 fun a => ?_⟩
      match a with
      | 0 => exact ⟨Nat.zero_le _, by show p.val < 0 + 512; omega⟩
      | 1 => exact ⟨by show 2048 ≤ e.val; omega, by show e.val < 2048 + 1536; omega⟩
    · refine ⟨_, List.mem_cons_self .., (Rect.mem_set_unit (inb := inb_S512x5632_S512x2048_0_3584)).2 fun a => ?_⟩
      match a with
      | 0 => exact ⟨Nat.zero_le _, by show p.val < 0 + 512; omega⟩
      | 1 => exact ⟨by show 3584 ≤ e.val; omega, by show e.val < 3584 + 2048; omega⟩

theorem final11 : (dats m 0 c).arrAt 11 cfg0.N = refSmall (PR m c) := by
  refine (dats m 0 c).arrAt_eq_of_covers 11 _ (by decide +kernel) fun t _ y => ?_
  blk_simp
  rw [after0_11]
  unfold outsAt0
  frame_out
  obtain ⟨p, e, rfl⟩ : ∃ (p : Fin 512) (e : Fin 128), y = ix2 p e := ⟨y 0, y 1, by funext a; match a with | 0 => rfl | 1 => rfl⟩
  exact (small_at m c t p e).trans (congrArg (refSmall (PR m c)) (emb11 t p e).symm)

theorem final12 (H : Reals m c) : (dats m 0 c).arrAt 12 cfg0.N = MR m c := by
  refine (dats m 0 c).arrAt_eq_of_covers 12 _ (by decide +kernel) fun t _ y => ?_
  blk_simp
  rw [after0_12]
  unfold outsAt0
  frame_out
  obtain ⟨ν, p, e, rfl⟩ : ∃ (ν : Fin 2) (p : Fin 512) (e : Fin 512), y = ix3 ν p e := ⟨y 0, y 1, y 2, by funext a; match a with | 0 => rfl | 1 => rfl | 2 => rfl⟩
  refine (View.canon_apply_of_pieces (S := S2x512x512) (Val := Elt Ideal) (e := .bf16) (G12 m c t) _ ?_ (ix3 ν p e) ?_).trans (congrArg (MR m c) (emb12 t p ν e).symm)
  · intro q hq
    simp only [List.mem_cons, List.not_mem_nil, or_false] at hq
    rcases hq with rfl | rfl
    · intro x
      obtain ⟨ν, p, e, rfl⟩ : ∃ (ν : Fin 1) (p : Fin 512) (e : Fin 512), x = ix3 ν p e := ⟨x 0, x 1, x 2, by funext a; match a with | 0 => rfl | 1 => rfl | 2 => rfl⟩
      obtain rfl : ν = 0 := Subsingleton.elim _ _
      refine ((pay14_at (QB m c t) p e).trans (maps_at m c t p H 1 e).symm).trans (congrArg (MR m c) (congrArg₂ (fun a b => ix3 1 (row t a) b) (Fin.ext ?_) (Fin.ext ?_)))
      · show p.val = 0 + 1 * p.val; omega
      · show e.val = 0 + 1 * e.val; omega
    · intro x
      obtain ⟨ν, p, e, rfl⟩ : ∃ (ν : Fin 1) (p : Fin 512) (e : Fin 512), x = ix3 ν p e := ⟨x 0, x 1, x 2, by funext a; match a with | 0 => rfl | 1 => rfl | 2 => rfl⟩
      obtain rfl : ν = 0 := Subsingleton.elim _ _
      refine ((pay13_at (QB m c t) p e).trans (maps_at m c t p H 0 e).symm).trans (congrArg (MR m c) (congrArg₂ (fun a b => ix3 0 (row t a) b) (Fin.ext ?_) (Fin.ext ?_)))
      · show p.val = 0 + 1 * p.val; omega
      · show e.val = 0 + 1 * e.val; omega
  · match ν with
    | 0 =>
      refine ⟨_, List.mem_cons_of_mem _ (List.mem_cons_self ..), (Rect.mem_set_unit (inb := inb_S2x512x512_S1x512x512_0_0_0)).2 fun a => ?_⟩
      match a with
      | 0 => exact ⟨Nat.zero_le _, by show 0 < 0 + 1; omega⟩
      | 1 => exact ⟨Nat.zero_le _, by show p.val < 0 + 512; omega⟩
      | 2 => exact ⟨Nat.zero_le _, by show e.val < 0 + 512; omega⟩
    | 1 =>
      refine ⟨_, List.mem_cons_self .., (Rect.mem_set_unit (inb := inb_S2x512x512_S1x512x512_1_0_0)).2 fun a => ?_⟩
      match a with
      | 0 => exact ⟨by show 1 ≤ 1; omega, by show 1 < 1 + 1; omega⟩
      | 1 => exact ⟨Nat.zero_le _, by show p.val < 0 + 512; omega⟩
      | 2 => exact ⟨Nat.zero_le _, by show e.val < 0 + 512; omega⟩

theorem final13 (H : Reals m c) : (dats m 0 c).arrAt 13 cfg0.N = refK (KR m c) := by
  refine (dats m 0 c).arrAt_eq_of_covers 13 _ (by decide +kernel) fun t _ y => ?_
  blk_simp
  rw [after0_13]
  unfold outsAt0
  frame_out
  obtain ⟨p, e, rfl⟩ : ∃ (p : Fin 512) (e : Fin 512), y = ix2 p e := ⟨y 0, y 1, by funext a; match a with | 0 => rfl | 1 => rfl⟩
  refine (KB_at m c t p e H).trans (Eq.trans ?_ (congrArg (refK (KR m c)) (emb13 t p e).symm))
  rw [refK_at]
  exact (KR_at m c (row t p) e _ _ _ (by show e.val = e.val / 128 * 128 + e.val / 64 % 2 * 64 + e.val % 64; omega)).symm

theorem final14 : (dats m 0 c).arrAt 14 cfg0.N = refV (PR m c) := by
  refine (dats m 0 c).arrAt_eq_of_covers 14 _ (by decide +kernel) fun t _ y => ?_
  blk_simp
  rw [after0_14]
  unfold outsAt0
  frame_out
  obtain ⟨p, e, rfl⟩ : ∃ (p : Fin 512) (e : Fin 1024), y = ix2 p e := ⟨y 0, y 1, by funext a; match a with | 0 => rfl | 1 => rfl⟩
  exact (vals_at m c t p e).trans (congrArg (refV (PR m c)) (emb14 t p e).symm)

end Cert.InpIdeal.Hand
-- ==== Proof.InpNextPre.lean ====
/- The second layer's input projection's precondition: the normed rows and the projection's weights are real numbers. -/
module

public import proofs.«01_k».proof.Proof.InpPre
public import proofs.«01_k».proof.Pre_inp_next_finite

@[expose] public section

set_option maxRecDepth 16384
set_option maxHeartbeats 4000000

noncomputable section

namespace Cert.InpMath

open Cert.Pre_inp_next_finite Cert.Pre_inp_next_finite.Facts
open Idealize.ShloMosaic
open Cert.Hand (real_of posInf both)

variable [Cert.Pre_inp_next_finite.Facts]

theorem next_each {s : Shape} (x : FVec Ideal s .f32) (hb : S_.BroadcastsInDim s (![] : Fin 0 → Fin s.rank))
    (h : ∀ i, cmpf .olt (Host.absf x) (broadcastInDim s ![] hb (constant (F := Ideal) S_ .f32 0x7F800000#32)) i = 1#1) (i : s.Idx) : IsR (x i) := by
  refine real_of _ ?_
  have := h i
  have e : cmpf .olt (Host.absf x) (broadcastInDim s ![] hb (constant (F := Ideal) S_ .f32 0x7F800000#32)) i
      = BitVec.ofBool (decide (FloatOps.absf (F := Ideal) (φ := .f32) (x i) < Ideal.ofBits FTy.f32 2139095040#32)) := rfl
  rw [e, posInf] at this
  by_contra hc
  rw [decide_eq_false hc] at this
  exact absurd this (by decide)

theorem next_real (x : FVec Ideal S32768x1024 .bf16) (p : IVec S32768 32) (w : FVec Ideal S1024x5640 .f32) (a b : FVec Ideal S64 .f32)
    (h : fn (F := Ideal) x p w a b = fun _ => 1#1) : (∀ i, IsR (x i)) ∧ ∀ i, IsR (w i) := by
  have e := congrFun h (fun a : Fin 0 => a.elim0)
  haveI : Subsingleton S_.Idx := ⟨fun a b => funext fun x => x.elim0⟩
  obtain ⟨e1, e2⟩ := both _ _ e
  exact ⟨next_each (extf .f32 x bitsLt_bf16_f32) bcast_S_S32768x1024 fun i => Host.reduce_andi_all _ _ _ _ _ e1 i,
    next_each w bcast_S_S1024x5640 fun i => Host.reduce_andi_all _ _ _ _ _ e2 i⟩

end Cert.InpMath
-- ==== Proof.InpNextHost.lean ====
/- The arrays that the second layer's input projection reads, from the arguments. -/
module

public import proofs.«01_k».proof.Proof.Gen.InpNextIdeal.Frame.Runs
public import proofs.«01_k».proof.Proof.InpLane

@[expose] public section

set_option maxRecDepth 16384
set_option maxHeartbeats 4000000

noncomputable section

namespace Cert.InpNextIdeal.Hand

open Cert.InpNextIdeal Cert.InpNextIdeal.Gen
open Idealize.ShloMosaic Idealize.ShloMosaic.TcCoe Idealize.SL.Sem
open Cert.InpMath
open Cert.InpIdeal.Hand (hW hZ hC hS hL hJ hF hA hSel hB1 hB2 hG hE hM hN)

section Arrays

variable {F : FTy → Type} [FloatOps F]

variable (m : (ℓ : Loc nD τ sig) → Buf (Elt F) ℓ) (c : Dev nD)

theorem V_w : V m c main_v3 = hW (F := F) (m ((c.tc : Thread nD τ).loc main_arg2)) := by
  unfold V hostOps0
  generalize hg : (fun (a : (⟨S1024x2048, .f32⟩ : BufTy).Contents (Elt F)) (b : (⟨S1024x3584, .f32⟩ : BufTy).Contents (Elt F)) => concatenate S1024x5632 1 [⟨S1024x2048, a⟩, ⟨S1024x3584, b⟩] concatenates_S1024x2048_S1024x3584_S1024x5632_d1) = g
  after_results_simp
  subst hg
  rfl

theorem V_s : V m c main_v8 = hS (F := F) hZ (hC (m ((c.tc : Thread nD τ).loc main_arg2))) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append, List.append_nil]
  after_results_simp
  rfl

theorem V_cos : V m c main_v31 = Host.cos (hA (F := F) (m ((c.tc : Thread nD τ).loc main_arg1)) (hF hL hJ)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append, List.append_nil]
  after_results_simp
  simp only [StableHlo.TRef.ofBuf_toBuf]
  rfl

theorem V_s1 : V m c main_v35 = hSel (hB1 hL) (Host.negf (Host.sin (hA (F := F) (m ((c.tc : Thread nD τ).loc main_arg1)) (hF hL hJ)))) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append, List.append_nil]
  after_results_simp
  simp only [StableHlo.TRef.ofBuf_toBuf]
  rfl

theorem V_s2 : V m c main_v41 = hSel (hB2 hL) (Host.sin (hA (F := F) (m ((c.tc : Thread nD τ).loc main_arg1)) (hF hL hJ))) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append, List.append_nil]
  after_results_simp
  simp only [StableHlo.TRef.ofBuf_toBuf]
  rfl

theorem V_m : V m c main_v49 = hM (F := F) (hE hG) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append, List.append_nil]
  after_results_simp
  simp only [StableHlo.TRef.ofBuf_toBuf]
  rfl

theorem V_qn : V m c main_v53 = hN (F := F) (m ((c.tc : Thread nD τ).loc main_arg3)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append, List.append_nil]
  after_results_simp
  rfl

theorem V_kn : V m c main_v57 = hN (F := F) (m ((c.tc : Thread nD τ).loc main_arg4)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append, List.append_nil]
  after_results_simp
  rfl

end Arrays

end Cert.InpNextIdeal.Hand
-- ==== Proof.InpNextBlk.lean ====
/- The blocks of the second layer's input projection's grid points, element by element, from the arguments. -/
module

public import proofs.«01_k».proof.Proof.Gen.InpNextIdeal.Value
public import proofs.«01_k».proof.Proof.InpNextHost
public import Idealize.ShloMosaic.Lib.Pipeline.ValueKit

@[expose] public section

set_option maxRecDepth 16384
set_option maxHeartbeats 2000000

noncomputable section

namespace Cert.InpNextIdeal.Hand

open Cert.InpNextIdeal Cert.InpNextIdeal.Gen
open Idealize.ShloMosaic Idealize.ShloMosaic.TcCoe Idealize.SL.Sem
open Cert.InpMath
open Cert.InpIdeal.Hand (hW hZ hC hS hL hJ hF hA hSel hB1 hB2 hG hE hM hN)

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0] ∧ win0_4.index t = ![t.val, 0]
    ∧ win0_5.index t = ![t.val, 0] ∧ win0_6.index t = ![0, 0] ∧ win0_7.index t = ![0, 0] ∧ win0_8.index t = ![0, 0] ∧ win0_9.index t = ![t.val, 0] ∧ win0_10.index t = ![t.val, 0]
    ∧ win0_11.index t = ![0, t.val, 0] ∧ win0_12.index t = ![t.val, 0] ∧ win0_13.index t = ![t.val, 0] :=
  (by decide +kernel : ∀ t : Fin grid0.N, _)

theorem rows (t : Fin cfg0.N) (p : Fin 512) : t.val * 512 + p.val < 32768 := by
  have h : cfg0.N = 64 := by decide +kernel
  have := t.isLt
  omega

/-- Where a row of a point's blocks lies. -/
abbrev row (t : Fin cfg0.N) (p : Fin 512) : Fin 32768 := ⟨t.val * 512 + p.val, rows t p⟩

variable (t : Fin cfg0.N) (p : Fin 512)

theorem blk_x (e : Fin 1024) : iblk m c 0 t (ix2 p e) = (show FVec Ideal S32768x1024 .bf16 from m ((c : Thread nD τ).loc main_arg0)) (ix2 (row t p) e) := by
  rw [← V_main_arg0 m c]
  blk_point [iblk, idx t]

theorem blk_w (k : Fin 1024) (e : Fin 5632) : iblk m c 1 t (ix2 k e) = hW (F := Ideal) (m ((c : Thread nD τ).loc main_arg2)) (ix2 k e) := by
  have h : iblk m c 1 t (ix2 k e) = (show FVec Ideal S1024x5632 .bf16 from V m c main_v3) (ix2 k e) := by blk_point [iblk, idx t]
  rw [h, V_w]

theorem blk_s (k : Fin 1024) (e : Fin 128) : iblk m c 2 t (ix2 k e) = hS (F := Ideal) hZ (hC (m ((c : Thread nD τ).loc main_arg2))) (ix2 k e) := by
  have h : iblk m c 2 t (ix2 k e) = (show FVec Ideal S1024x128 .bf16 from V m c main_v8) (ix2 k e) := by blk_point [iblk, idx t]
  rw [h, V_s]

theorem blk_cos (l : Fin 128) : iblk m c 3 t (ix2 p l) = Host.cos (hA (F := Ideal) (m ((c : Thread nD τ).loc main_arg1)) (hF hL hJ)) (ix2 (row t p) l) := by
  have h : iblk m c 3 t (ix2 p l) = (show FVec Ideal S32768x128 .f32 from V m c main_v31) (ix2 (row t p) l) := by blk_point [iblk, idx t]
  rw [h, V_cos]

theorem blk_s1 (l : Fin 128) : iblk m c 4 t (ix2 p l) = hSel (hB1 hL) (Host.negf (Host.sin (hA (F := Ideal) (m ((c : Thread nD τ).loc main_arg1)) (hF hL hJ)))) (ix2 (row t p) l) := by
  have h : iblk m c 4 t (ix2 p l) = (show FVec Ideal S32768x128 .f32 from V m c main_v35) (ix2 (row t p) l) := by blk_point [iblk, idx t]
  rw [h, V_s1]

theorem blk_s2 (l : Fin 128) : iblk m c 5 t (ix2 p l) = hSel (hB2 hL) (Host.sin (hA (F := Ideal) (m ((c : Thread nD τ).loc main_arg1)) (hF hL hJ))) (ix2 (row t p) l) := by
  have h : iblk m c 5 t (ix2 p l) = (show FVec Ideal S32768x128 .f32 from V m c main_v41) (ix2 (row t p) l) := by blk_point [iblk, idx t]
  rw [h, V_s2]

theorem blk_qn (l : Fin 512) : iblk m c 6 t (ix2 0 l) = hN (F := Ideal) (m ((c : Thread nD τ).loc main_arg3)) (ix2 0 l) := by
  have h : iblk m c 6 t (ix2 0 l) = (show FVec Ideal S1x512 .f32 from V m c main_v53) (ix2 0 l) := by blk_point [iblk, idx t]
  rw [h, V_qn]

theorem blk_kn (l : Fin 512) : iblk m c 7 t (ix2 0 l) = hN (F := Ideal) (m ((c : Thread nD τ).loc main_arg4)) (ix2 0 l) := by
  have h : iblk m c 7 t (ix2 0 l) = (show FVec Ideal S1x512 .f32 from V m c main_v57) (ix2 0 l) := by blk_point [iblk, idx t]
  rw [h, V_kn]

theorem blk_m (k l : Fin 512) : iblk m c 8 t (ix2 k l) = hM (F := Ideal) (hE hG) (ix2 k l) := by
  have h : iblk m c 8 t (ix2 k l) = (show FVec Ideal S512x512 .bf16 from V m c main_v49) (ix2 k l) := by blk_point [iblk, idx t]
  rw [h, V_m]

end Cert.InpNextIdeal.Hand
-- ==== Proof.InpNextPay.lean ====
/- The second layer's input projection's body: its products, and the rest in terms of the first layer's. -/
module

public import proofs.«01_k».proof.Proof.Gen.InpNextIdeal.Value
public import proofs.«01_k».proof.Proof.InpPay

@[expose] public section

set_option maxRecDepth 16384
set_option maxHeartbeats 4000000

noncomputable section

namespace Cert.InpNextIdeal.Hand

open Cert.InpNextIdeal Cert.InpNextIdeal.Gen
open Idealize.ShloMosaic Idealize.ShloMosaic.TcCoe Idealize.SL.Sem
open Cert.InpMath

theorem pay3_at (x : FVec Ideal S512x1024 .bf16) (W : FVec Ideal S1024x2048 .bf16) (p : Fin 512) (e : Fin 2048) :
    k0_pay3 (F := Ideal) x W (ix2 p e) = ∑ k : Fin 1024, x (ix2 p k) * W (ix2 k e) := by
  pointwise [k0_pay3]

theorem pay4_at (x : FVec Ideal S512x1024 .bf16) (W : FVec Ideal S1024x1536 .bf16) (p : Fin 512) (e : Fin 1536) :
    k0_pay4 (F := Ideal) x W (ix2 p e) = ∑ k : Fin 1024, x (ix2 p k) * W (ix2 k e) := by
  pointwise [k0_pay4]

theorem pay5_at (x : FVec Ideal S512x1024 .bf16) (W : FVec Ideal S1024x2048 .bf16) (p : Fin 512) (e : Fin 2048) :
    k0_pay5 (F := Ideal) x W (ix2 p e) = ∑ k : Fin 1024, x (ix2 p k) * W (ix2 k e) := by
  pointwise [k0_pay5]

theorem pay6_at (x : FVec Ideal S512x1024 .bf16) (W : FVec Ideal S1024x128 .bf16) (p : Fin 512) (e : Fin 128) :
    k0_pay6 (F := Ideal) x W (ix2 p e) = ∑ k : Fin 1024, x (ix2 p k) * W (ix2 k e) := by
  pointwise [k0_pay6]

theorem queries (x : FVec Ideal S512x1024 .bf16) (W : FVec Ideal S1024x1536 .bf16) (C S T : FVec Ideal S512x128 .f32) (w : FVec Ideal S1x512 .f32) (M : FVec Ideal S512x512 .bf16) :
    k0_pay11 (F := Ideal) (k0_pay7 C) (k0_pay8 S) (k0_pay9 T) (k0_pay10 x W) w M = Cert.InpIdeal.Gen.k0_pay11 (F := Ideal) (k0_pay4 (F := Ideal) x W) C S T w M := rfl

theorem keys (a : FVec Ideal S512x1536 .f32) (C S T : FVec Ideal S512x128 .f32) (w : FVec Ideal S1x512 .f32) (M : FVec Ideal S512x512 .bf16) :
    k0_pay1 (F := Ideal) (k0_pay8 S) (k0_pay9 T) (k0_pay17 a w M) (k0_pay18 a (k0_pay7 C) w M) (k0_pay19 a w M)
      = Cert.InpIdeal.Gen.k0_pay1 (F := Ideal) (Cert.InpIdeal.Gen.k0_pay8 C) (Cert.InpIdeal.Gen.k0_pay9 S) (Cert.InpIdeal.Gen.k0_pay10 T) (Cert.InpIdeal.Gen.k0_pay15 a) (Cert.InpIdeal.Gen.k0_pay16 w) (Cert.InpIdeal.Gen.k0_pay18 a) (Cert.InpIdeal.Gen.k0_pay19 a) M := rfl

theorem values (a : FVec Ideal S512x1536 .f32) : k0_pay2 (F := Ideal) a = Cert.InpIdeal.Gen.k0_pay2 (F := Ideal) a := rfl

theorem first_map (q : FVec Ideal S512x512 .f32) : k0_pay15 (F := Ideal) q (Scalar.select (Scalar.cmpi .eq 128#32 0#32) 1#32 128#32) k0_pay12 k0_pay13 = Cert.InpIdeal.Gen.k0_pay13 (F := Ideal) q := rfl

theorem second_map (q : FVec Ideal S512x512 .f32) : k0_pay16 (F := Ideal) q (Scalar.select (Scalar.cmpi .eq 128#32 0#32) 1#32 128#32) k0_pay12 k0_pay13 = Cert.InpIdeal.Gen.k0_pay14 (F := Ideal) q := rfl

end Cert.InpNextIdeal.Hand
-- ==== Proof.InpNextVal.lean ====
/- The second layer's input projection's five result arrays, from the arguments. -/
module

public import proofs.«01_k».proof.Proof.InpNextBlk
public import proofs.«01_k».proof.Proof.InpNextPay
public import proofs.«01_k».proof.Proof.InpVal

@[expose] public section

set_option maxRecDepth 16384
set_option maxHeartbeats 2000000

noncomputable section

namespace Cert.InpNextIdeal.Hand

open Cert.InpNextIdeal Cert.InpNextIdeal.Gen
open Idealize.ShloMosaic Idealize.ShloMosaic.TcCoe Idealize.SL.Sem
open Idealize.ShloMosaic.Pipeline (Dat)
open Cert.InpMath
open Cert.InpIdeal.Hand (hW hZ hC hS hL hJ hF hA hSel hB1 hB2 hG hE hM hN hW_at hS_at hM_at hN_at cos_at s1_at s2_at turned tile_at pay11_at pay1_at pay2_at pay15_at pay16_at pay18_at pay19_at)
open Cert.InpReferenceIdeal.Hand (refP refHq refHk refN refR refS refA refMain refSmall refM0 refM1 refB refMaps refK refV
  refP_at refHq_at refHk_at refN_at refR_at refS_at refA_at refMain_at refSmall_at refM0_at refM1_at refB_at refMaps_at refK_at refV_at)

variable (m : (ℓ : Loc nD τ sig) → Buf (Elt Ideal) ℓ) (c : Dev nD)

/-- The projection over the arguments. -/
abbrev PR : FVec Ideal Cert.InpReferenceIdeal.S32768x5640 .f32 :=
  refP (m ((c : Thread nD τ).loc main_arg0)) (m ((c : Thread nD τ).loc main_arg2))

/-- The queries over the arguments, before their scale. -/
abbrev QR : FVec Ideal Cert.InpReferenceIdeal.S32768x4x2x64 .f32 := refR (refN (refHq (PR m c)) (m ((c : Thread nD τ).loc main_arg3))) (refA (m ((c : Thread nD τ).loc main_arg1)))

/-- The keys over the arguments. -/
abbrev KR : FVec Ideal Cert.InpReferenceIdeal.S32768x4x2x64 .f32 := refR (refN (refHk (PR m c)) (m ((c : Thread nD τ).loc main_arg4))) (refA (m ((c : Thread nD τ).loc main_arg1)))

/-- The angles of a row. -/
abbrev angs (r : Fin 32768) (j : Fin 8) : EReal := ang ((show IVec S32768 32 from m ((c : Thread nD τ).loc main_arg1)) (ix1 r)) j.val

theorem QR_at (r : Fin 32768) (l : Fin 512) (h : Fin 4) (μ : Fin 2) (d : Fin 64) (hl : l.val = h.val * 128 + μ.val * 64 + d.val) :
    QR m c (ix4 r h μ d) = rope (norm64 (grp (fun k => PR m c (ix2 r ⟨k.val, by omega⟩)) l) (fun j => (show FVec Ideal S64 .f32 from m ((c : Thread nD τ).loc main_arg3)) (ix1 j))) (angs m c r) ⟨l.val % 64, by omega⟩ := by
  have hd : (⟨l.val % 64, by omega⟩ : Fin 64) = d := Fin.ext (by show l.val % 64 = d.val; omega)
  rw [hd]
  unfold QR
  rw [refR_at]
  refine congrArg₂ (fun y f => rope y f d) (funext fun j => ?_) (funext fun j => refA_at _ r j)
  rw [refN_at]
  refine congrArg (fun y => norm64 y _ j) (funext fun i => ?_)
  rw [refHq_at]
  exact congrArg (fun e => PR m c (ix2 r e)) (Fin.ext (by show (h.val * 2 + μ.val) * 64 + i.val = 64 * (l.val / 64) + i.val; omega))

theorem KR_at (r : Fin 32768) (l : Fin 512) (h : Fin 4) (μ : Fin 2) (d : Fin 64) (hl : l.val = h.val * 128 + μ.val * 64 + d.val) :
    KR m c (ix4 r h μ d) = rope (norm64 (grp (fun k => PR m c (ix2 r ⟨512 + k.val, by omega⟩)) l) (fun j => (show FVec Ideal S64 .f32 from m ((c : Thread nD τ).loc main_arg4)) (ix1 j))) (angs m c r) ⟨l.val % 64, by omega⟩ := by
  have hd : (⟨l.val % 64, by omega⟩ : Fin 64) = d := Fin.ext (by show l.val % 64 = d.val; omega)
  rw [hd]
  unfold KR
  rw [refR_at]
  refine congrArg₂ (fun y f => rope y f d) (funext fun j => ?_) (funext fun j => refA_at _ r j)
  rw [refN_at]
  refine congrArg (fun y => norm64 y _ j) (funext fun i => ?_)
  rw [refHk_at]
  exact congrArg (fun e => PR m c (ix2 r e)) (Fin.ext (by show 512 + ((h.val * 2 + μ.val) * 64 + i.val) = 512 + (64 * (l.val / 64) + i.val); omega))

/-- The arguments that the projection is taken of are real numbers. -/
structure Reals : Prop where
  x : ∀ i, IsR ((show FVec Ideal S32768x1024 .bf16 from m ((c : Thread nD τ).loc main_arg0)) i)
  w : ∀ i, IsR ((show FVec Ideal S1024x5640 .f32 from m ((c : Thread nD τ).loc main_arg2)) i)

theorem PR_real (H : Reals m c) (r : Fin 32768) (e : Fin 5640) : IsR (PR m c (ix2 r e)) := by
  unfold PR
  rw [refP_at]
  exact IsR.sum fun k => IsR.mul (H.x _) (H.w _)

section Blocks

variable (t : Fin cfg0.N) (p : Fin 512)

/-- A column of the weights, gates first, gives that column of the projection. -/
theorem main_at (e : Fin 5632) : ∑ k : Fin 1024, (show EReal from iblk m c 0 t (ix2 p k)) * (show EReal from iblk m c 1 t (ix2 k e)) = refMain (PR m c) (ix2 (row t p) e) := by
  rw [refMain_at]
  by_cases h : e.val < 2048
  · rw [dif_pos h]
    unfold PR
    rw [refP_at]
    refine Finset.sum_congr rfl fun k _ => congrArg₂ (fun a b : EReal => a * b) (blk_x m c t p k) ((blk_w m c t k e).trans ?_)
    rw [hW_at, dif_pos h]
  · rw [dif_neg h]
    unfold PR
    rw [refP_at]
    refine Finset.sum_congr rfl fun k _ => congrArg₂ (fun a b : EReal => a * b) (blk_x m c t p k) ((blk_w m c t k e).trans ?_)
    rw [hW_at, dif_neg h]

theorem ld_a (w : FVec Ideal S1024x5632 .bf16) (o : ℕ) (hi) (k : Fin 1024) (j : Fin 2048) (ho : o + 2048 ≤ 5632) :
    (View.ld (Val := Elt Ideal) (S := S1024x5632) (e' := .bf16) w (Rect.unit (s := S1024x5632) ![0, o] ![1024, 2048] hi) : FVec Ideal S1024x2048 .bf16) (ix2 k j) = w (ix2 k ⟨o + j.val, by omega⟩) := by
  refine congrArg (α := S1024x5632.Idx) w (funext fun a => Fin.ext ?_)
  match a with
  | 0 => show 0 + 1 * k.val = k.val; omega
  | 1 => show o + 1 * j.val = o + j.val; omega

theorem ld_b (w : FVec Ideal S1024x5632 .bf16) (o : ℕ) (hi) (k : Fin 1024) (j : Fin 1536) (ho : o + 1536 ≤ 5632) :
    (View.ld (Val := Elt Ideal) (S := S1024x5632) (e' := .bf16) w (Rect.unit (s := S1024x5632) ![0, o] ![1024, 1536] hi) : FVec Ideal S1024x1536 .bf16) (ix2 k j) = w (ix2 k ⟨o + j.val, by omega⟩) := by
  refine congrArg (α := S1024x5632.Idx) w (funext fun a => Fin.ext ?_)
  match a with
  | 0 => show 0 + 1 * k.val = k.val; omega
  | 1 => show o + 1 * j.val = o + j.val; omega

/-- The queries', keys' and values' columns of a point's rows. -/
abbrev AB : FVec Ideal S512x1536 .f32 :=
  k0_pay4 (F := Ideal) (iblk m c 0 t) (View.ld (Val := Elt Ideal) (S := S1024x5632) (e' := .bf16) (iblk m c 1 t) (Rect.unit (s := S1024x5632) ![0, 2048] ![1024, 1536] inb_S1024x5632_S1024x1536_0_2048))

theorem AB_main (e : Fin 1536) : AB m c t (ix2 p e) = refMain (PR m c) (ix2 (row t p) ⟨2048 + e.val, by omega⟩) := by
  refine ((pay4_at _ _ p e).trans (Finset.sum_congr rfl fun k _ => ?_)).trans (main_at m c t p _)
  exact congrArg (fun a : EReal => _ * a) (ld_b (iblk m c 1 t) 2048 _ k e (by omega))

theorem AB_at (e : Fin 1536) : AB m c t (ix2 p e) = PR m c (ix2 (row t p) ⟨e.val, by omega⟩) := by
  rw [AB_main, refMain_at, dif_neg (by show ¬ 2048 + e.val < 2048; omega)]
  exact congrArg (fun e => PR m c (ix2 (row t p) e)) (Fin.ext (by show 2048 + e.val - 2048 = e.val; omega))

theorem first_at (e : Fin 2048) : k0_pay3 (F := Ideal) (iblk m c 0 t) (View.ld (Val := Elt Ideal) (S := S1024x5632) (e' := .bf16) (iblk m c 1 t) (Rect.unit (s := S1024x5632) ![0, 0] ![1024, 2048] inb_S1024x5632_S1024x2048_0_0)) (ix2 p e)
    = refMain (PR m c) (ix2 (row t p) ⟨0 + e.val, by omega⟩) := by
  refine ((pay3_at _ _ p e).trans (Finset.sum_congr rfl fun k _ => ?_)).trans (main_at m c t p _)
  exact congrArg (fun a : EReal => _ * a) (ld_a (iblk m c 1 t) 0 _ k e (by omega))

theorem last_at (e : Fin 2048) : k0_pay5 (F := Ideal) (iblk m c 0 t) (View.ld (Val := Elt Ideal) (S := S1024x5632) (e' := .bf16) (iblk m c 1 t) (Rect.unit (s := S1024x5632) ![0, 3584] ![1024, 2048] inb_S1024x5632_S1024x2048_0_3584)) (ix2 p e)
    = refMain (PR m c) (ix2 (row t p) ⟨3584 + e.val, by omega⟩) := by
  refine ((pay5_at _ _ p e).trans (Finset.sum_congr rfl fun k _ => ?_)).trans (main_at m c t p _)
  exact congrArg (fun a : EReal => _ * a) (ld_a (iblk m c 1 t) 3584 _ k e (by omega))

theorem small_at (e : Fin 128) : k0_pay6 (F := Ideal) (iblk m c 0 t) (iblk m c 2 t) (ix2 p e) = refSmall (PR m c) (ix2 (row t p) e) := by
  refine (pay6_at _ _ p e).trans ?_
  rw [refSmall_at]
  by_cases h : e.val < 8
  · rw [dif_pos h]
    unfold PR
    rw [refP_at]
    refine Finset.sum_congr rfl fun k _ => congrArg₂ (fun a b : EReal => a * b) (blk_x m c t p k) ((blk_s m c t k e).trans ?_)
    rw [hS_at, dif_pos h]
  · rw [dif_neg h]
    refine Finset.sum_eq_zero fun k _ => ?_
    have z : iblk m c 2 t (ix2 k e) = (0 : EReal) := (blk_s m c t k e).trans (by rw [hS_at, dif_neg h])
    exact (congrArg (fun a : EReal => _ * a) z).trans (mul_zero _)

theorem vals_at (l : Fin 1024) : Cert.InpIdeal.Gen.k0_pay2 (F := Ideal) (AB m c t) (ix2 p l) = refV (PR m c) (ix2 (row t p) l) := by
  rw [pay2_at, refV_at]
  by_cases h : l.val % 256 < 128
  · rw [dif_pos h, dif_pos h]
    exact AB_at m c t p _
  · rw [dif_neg h, dif_neg h]

variable (l : Fin 512)

theorem C_at : Cert.InpIdeal.Gen.k0_pay8 (F := Ideal) (iblk m c 3 t) (ix2 p l) = if l.val % 64 < 16 then Ideal.cos (angs m c (row t p) ⟨l.val % 8, by omega⟩) else 1 := by
  refine (tile_at (iblk m c 3 t) p l).trans ((blk_cos m c t p _).trans ((cos_at _ _ _).trans ?_))
  dsimp only
  rw [show l.val % 128 % 64 = l.val % 64 by omega, show l.val % 128 % 8 = l.val % 8 by omega]

theorem S_at : Cert.InpIdeal.Gen.k0_pay9 (F := Ideal) (iblk m c 4 t) (ix2 p l) = if l.val % 64 < 8 then -Ideal.sin (angs m c (row t p) ⟨l.val % 8, by omega⟩) else 0 := by
  refine (Cert.InpIdeal.Hand.pay9_at (iblk m c 4 t) p l).trans ((blk_s1 m c t p _).trans ((s1_at _ _ _).trans ?_))
  dsimp only
  rw [show l.val % 128 % 64 = l.val % 64 by omega, show l.val % 128 % 8 = l.val % 8 by omega]

theorem T_at : Cert.InpIdeal.Gen.k0_pay10 (F := Ideal) (iblk m c 5 t) (ix2 p l) = if 8 ≤ l.val % 64 ∧ l.val % 64 < 16 then Ideal.sin (angs m c (row t p) ⟨l.val % 8, by omega⟩) else 0 := by
  refine (Cert.InpIdeal.Hand.pay10_at (iblk m c 5 t) p l).trans ((blk_s2 m c t p _).trans ((s2_at _ _ _).trans ?_))
  dsimp only
  rw [show l.val % 128 % 64 = l.val % 64 by omega, show l.val % 128 % 8 = l.val % 8 by omega]

/-- The queries' lanes of a point's rows, normed, turned and scaled. -/
abbrev QB : FVec Ideal S512x512 .f32 :=
  Cert.InpIdeal.Gen.k0_pay11 (F := Ideal) (AB m c t) (iblk m c 3 t) (iblk m c 4 t) (iblk m c 5 t) (iblk m c 6 t) (iblk m c 8 t)

theorem QB_at (H : Reals m c) : QB m c t (ix2 p l) = rope (norm64 (grp (fun k => PR m c (ix2 (row t p) ⟨k.val, by omega⟩)) l) (fun j => (show FVec Ideal S64 .f32 from m ((c : Thread nD τ).loc main_arg3)) (ix1 j))) (angs m c (row t p)) ⟨l.val % 64, by omega⟩ * Ideal.ofBits .f32 0x3E38AA3B#32 := by
  refine (pay11_at _ _ _ _ _ _ p l).trans (congrArg (fun a : EReal => a * _) ?_)
  have e : (fun k : Fin 512 => AB m c t (ix2 p ⟨k.val, by omega⟩)) = fun k : Fin 512 => PR m c (ix2 (row t p) ⟨k.val, by omega⟩) := funext fun k => AB_at m c t p _
  refine (turned (fun k : Fin 512 => AB m c t (ix2 p ⟨k.val, by omega⟩)) _ _ (fun j => (show FVec Ideal S64 .f32 from m ((c : Thread nD τ).loc main_arg3)) (ix1 j)) (angs m c (row t p)) _ _ _ l
    (fun k => ?_) (fun k l => (blk_m m c t k l).trans (hM_at k l)) (fun l => (blk_qn m c t l).trans (hN_at _ l)) (C_at m c t p l) (S_at m c t p l) (T_at m c t p l)).trans ?_
  · have := PR_real m c H (row t p) ⟨k.val, by omega⟩
    rw [← AB_at m c t p ⟨k.val, by omega⟩] at this
    exact this
  · rw [e]

theorem KB_at (H : Reals m c) : Cert.InpIdeal.Gen.k0_pay1 (F := Ideal) (Cert.InpIdeal.Gen.k0_pay8 (F := Ideal) (iblk m c 3 t)) (Cert.InpIdeal.Gen.k0_pay9 (F := Ideal) (iblk m c 4 t)) (Cert.InpIdeal.Gen.k0_pay10 (F := Ideal) (iblk m c 5 t)) (Cert.InpIdeal.Gen.k0_pay15 (F := Ideal) (AB m c t)) (Cert.InpIdeal.Gen.k0_pay16 (F := Ideal) (iblk m c 7 t))
      (Cert.InpIdeal.Gen.k0_pay18 (F := Ideal) (AB m c t)) (Cert.InpIdeal.Gen.k0_pay19 (F := Ideal) (AB m c t)) (iblk m c 8 t) (ix2 p l)
    = rope (norm64 (grp (fun k => PR m c (ix2 (row t p) ⟨512 + k.val, by omega⟩)) l) (fun j => (show FVec Ideal S64 .f32 from m ((c : Thread nD τ).loc main_arg4)) (ix1 j))) (angs m c (row t p)) ⟨l.val % 64, by omega⟩ := by
  refine (pay1_at _ _ _ _ _ _ _ _ p l).trans ?_
  have e : ∀ k : Fin 512, AB m c t (ix2 p ⟨512 + k.val, by omega⟩) = PR m c (ix2 (row t p) ⟨512 + k.val, by omega⟩) := fun k => AB_at m c t p _
  have e1 : (fun k : Fin 512 => Cert.InpIdeal.Gen.k0_pay15 (F := Ideal) (AB m c t) (ix2 p k)) = fun k : Fin 512 => PR m c (ix2 (row t p) ⟨512 + k.val, by omega⟩) := funext fun k => (pay15_at _ p k).trans (e k)
  have e2 : (fun k : Fin 512 => Cert.InpIdeal.Gen.k0_pay18 (F := Ideal) (AB m c t) (ix2 p k)) = fun k : Fin 512 => PR m c (ix2 (row t p) ⟨512 + k.val, by omega⟩) * PR m c (ix2 (row t p) ⟨512 + k.val, by omega⟩) :=
    funext fun k => (pay18_at _ p k).trans (by rw [e k])
  have e3 : (fun k : Fin 512 => Cert.InpIdeal.Gen.k0_pay19 (F := Ideal) (AB m c t) (ix2 p k)) = fun k : Fin 512 => PR m c (ix2 (row t p) ⟨512 + k.val, by omega⟩) * PR m c (ix2 (row t p) ⟨512 + k.val, by omega⟩) - PR m c (ix2 (row t p) ⟨512 + k.val, by omega⟩) * PR m c (ix2 (row t p) ⟨512 + k.val, by omega⟩) :=
    funext fun k => (pay19_at _ p k).trans (by rw [e k])
  rw [e1, e2, e3]
  exact turned (fun k : Fin 512 => PR m c (ix2 (row t p) ⟨512 + k.val, by omega⟩)) _ _ (fun j => (show FVec Ideal S64 .f32 from m ((c : Thread nD τ).loc main_arg4)) (ix1 j)) (angs m c (row t p)) _ _ _ l
    (fun k => PR_real m c H _ _) (fun k l => (blk_m m c t k l).trans (hM_at k l)) (fun l => (pay16_at _ l).trans ((blk_kn m c t l).trans (hN_at _ l))) (C_at m c t p l) (S_at m c t p l) (T_at m c t p l)

end Blocks

end Cert.InpNextIdeal.Hand
-- ==== Proof.InpNextFin.lean ====
/- The second layer's input projection's grid ends with the reference's five arrays. -/
module

public import proofs.«01_k».proof.Proof.InpNextVal

@[expose] public section

set_option maxRecDepth 16384
set_option maxHeartbeats 2000000

noncomputable section

namespace Cert.InpNextIdeal.Hand

open Cert.InpNextIdeal Cert.InpNextIdeal.Gen
open Idealize.ShloMosaic Idealize.ShloMosaic.TcCoe Idealize.SL.Sem
open Idealize.ShloMosaic.Pipeline (Dat)
open Cert.InpMath
open Cert.InpIdeal.Hand (pay13_at pay14_at)
open Cert.InpReferenceIdeal.Hand (refS refMain refSmall refM0 refM1 refB refMaps refK refV refS_at refM0_at refM1_at refB_at refMaps_at refK_at)

variable (m : (ℓ : Loc nD τ sig) → Buf (Elt Ideal) ℓ) (c : Dev nD)

section Points

variable (t : Fin cfg0.N) (p : Fin 512)

theorem emb9 (e : Fin 5632) : (((cfg0.win 9).blk t).view.emb (ix2 p e) : S32768x5632.Idx) = ix2 (row t p) e := by
  blk_ext [idx t]

theorem emb10 (e : Fin 128) : (((cfg0.win 10).blk t).view.emb (ix2 p e) : S32768x128.Idx) = ix2 (row t p) e := by
  blk_ext [idx t]

theorem emb11 (ν : Fin 2) (e : Fin 512) : (((cfg0.win 11).blk t).view.emb (ix3 ν p e) : S2x32768x512.Idx) = ix3 ν (row t p) e := by
  blk_ext [idx t]

theorem emb12 (e : Fin 512) : (((cfg0.win 12).blk t).view.emb (ix2 p e) : S32768x512.Idx) = ix2 (row t p) e := by
  blk_ext [idx t]

theorem emb13 (e : Fin 1024) : (((cfg0.win 13).blk t).view.emb (ix2 p e) : S32768x1024.Idx) = ix2 (row t p) e := by
  blk_ext [idx t]

/-- Both maps' queries over the arguments. -/
abbrev MR : FVec Ideal Cert.InpReferenceIdeal.S2x32768x512 .bf16 := refMaps (refB (refM0 (refS (QR m c))) (refM1 (refS (QR m c))))

/-- A point's lanes of both maps. -/
theorem maps_at (H : Reals m c) (ν : Fin 2) (l : Fin 512) :
    MR m c (ix3 ν (row t p) l) = if ν.val < 1 then (if l.val % 128 < 64 then QB m c t (ix2 p l) else (0 : EReal)) else if l.val % 128 < 64 then (0 : EReal) else QB m c t (ix2 p l) := by
  unfold MR
  rw [refMaps_at, refB_at]
  by_cases hν : ν.val < 1
  · rw [dif_pos hν, if_pos hν]
    refine (refM0_at _ _ _ _).trans ?_
    by_cases h : l.val % 128 < 64
    · rw [dif_pos h, if_pos h, refS_at, QB_at m c t p l H]
      exact congrArg (fun a : EReal => a * _) (QR_at m c (row t p) l _ _ _ (by show l.val = l.val / 128 * 128 + 0 * 64 + l.val % 128; omega))
    · rw [dif_neg h, if_neg h]
  · rw [dif_neg hν, if_neg hν]
    refine (refM1_at _ _ _ _).trans ?_
    by_cases h : l.val % 128 < 64
    · rw [dif_pos h, if_pos h]
    · rw [dif_neg h, if_neg h, refS_at, QB_at m c t p l H]
      exact congrArg (fun a : EReal => a * _) (QR_at m c (row t p) l _ _ _ (by show l.val = l.val / 128 * 128 + 1 * 64 + (l.val % 128 - 64); omega))

/-- The projection without the small columns, over a point's rows. -/
def G9 (y : S512x5632.Idx) : EReal := refMain (PR m c) (ix2 (row t (y 0)) (y 1))

/-- Both maps' queries, over a point's rows. -/
def G11 (y : S2x512x512.Idx) : EReal := MR m c (ix3 (y 0) (row t (y 1)) (y 2))

end Points

theorem final9 : (dats m 0 c).arrAt 9 cfg0.N = refMain (PR m c) := by
  refine (dats m 0 c).arrAt_eq_of_covers 9 _ (by decide +kernel) fun t _ y => ?_
  blk_simp
  rw [after0_9]
  unfold outsAt0
  frame_out
  obtain ⟨p, e, rfl⟩ : ∃ (p : Fin 512) (e : Fin 5632), y = ix2 p e := ⟨y 0, y 1, by funext a; match a with | 0 => rfl | 1 => rfl⟩
  refine (View.canon_apply_of_pieces (S := S512x5632) (Val := Elt Ideal) (e := .f32) (G9 m c t) _ ?_ (ix2 p e) ?_).trans (congrArg (refMain (PR m c)) (emb9 t p e).symm)
  · intro q hq
    simp only [List.mem_cons, List.not_mem_nil, or_false] at hq
    rcases hq with rfl | rfl | rfl
    · intro x
      obtain ⟨p, e, rfl⟩ : ∃ (p : Fin 512) (e : Fin 2048), x = ix2 p e := ⟨x 0, x 1, by funext a; match a with | 0 => rfl | 1 => rfl⟩
      refine (last_at m c t p e).trans (congrArg (refMain (PR m c)) (congrArg₂ (fun a b => ix2 (row t a) b) (Fin.ext ?_) (Fin.ext ?_)))
      · show p.val = 0 + 1 * p.val; omega
      · show 3584 + e.val = 3584 + 1 * e.val; omega
    · intro x
      obtain ⟨p, e, rfl⟩ : ∃ (p : Fin 512) (e : Fin 1536), x = ix2 p e := ⟨x 0, x 1, by funext a; match a with | 0 => rfl | 1 => rfl⟩
      refine (AB_main m c t p e).trans (congrArg (refMain (PR m c)) (congrArg₂ (fun a b => ix2 (row t a) b) (Fin.ext ?_) (Fin.ext ?_)))
      · show p.val = 0 + 1 * p.val; omega
      · show 2048 + e.val = 2048 + 1 * e.val; omega
    · intro x
      obtain ⟨p, e, rfl⟩ : ∃ (p : Fin 512) (e : Fin 2048), x = ix2 p e := ⟨x 0, x 1, by funext a; match a with | 0 => rfl | 1 => rfl⟩
      refine (first_at m c t p e).trans (congrArg (refMain (PR m c)) (congrArg₂ (fun a b => ix2 (row t a) b) (Fin.ext ?_) (Fin.ext ?_)))
      · show p.val = 0 + 1 * p.val; omega
      · show 0 + e.val = 0 + 1 * e.val; omega
  · by_cases h1 : e.val < 2048
    · refine ⟨_, List.mem_cons_of_mem _ (List.mem_cons_of_mem _ (List.mem_cons_self ..)), (Rect.mem_set_unit (inb := inb_S512x5632_S512x2048_0_0)).2 fun a => ?_⟩
      match a with
      | 0 => exact ⟨Nat.zero_le _, by show p.val < 0 + 512; omega⟩
      | 1 => exact ⟨Nat.zero_le _, by show e.val < 0 + 2048; omega⟩
    by_cases h2 : e.val < 3584
    · refine ⟨_, List.mem_cons_of_mem _ (List.mem_cons_self ..), (Rect.mem_set_unit (inb := inb_S512x5632_S512x1536_0_2048)).2 fun a => ?_⟩
      match a with
      | 0 => exact ⟨Nat.zero_le _, by show p.val < 0 + 512; omega⟩
      | 1 => exact ⟨by show 2048 ≤ e.val; omega, by show e.val < 2048 + 1536; omega⟩
    · refine ⟨_, List.mem_cons_self .., (Rect.mem_set_unit (inb := inb_S512x5632_S512x2048_0_3584)).2 fun a => ?_⟩
      match a with
      | 0 => exact ⟨Nat.zero_le _, by show p.val < 0 + 512; omega⟩
      | 1 => exact ⟨by show 3584 ≤ e.val; omega, by show e.val < 3584 + 2048; omega⟩

theorem final10 : (dats m 0 c).arrAt 10 cfg0.N = refSmall (PR m c) := by
  refine (dats m 0 c).arrAt_eq_of_covers 10 _ (by decide +kernel) fun t _ y => ?_
  blk_simp
  rw [after0_10]
  unfold outsAt0
  frame_out
  obtain ⟨p, e, rfl⟩ : ∃ (p : Fin 512) (e : Fin 128), y = ix2 p e := ⟨y 0, y 1, by funext a; match a with | 0 => rfl | 1 => rfl⟩
  exact (small_at m c t p e).trans (congrArg (refSmall (PR m c)) (emb10 t p e).symm)

theorem final11 (H : Reals m c) : (dats m 0 c).arrAt 11 cfg0.N = MR m c := by
  refine (dats m 0 c).arrAt_eq_of_covers 11 _ (by decide +kernel) fun t _ y => ?_
  blk_simp
  rw [after0_11]
  unfold outsAt0
  frame_out
  obtain ⟨ν, p, e, rfl⟩ : ∃ (ν : Fin 2) (p : Fin 512) (e : Fin 512), y = ix3 ν p e := ⟨y 0, y 1, y 2, by funext a; match a with | 0 => rfl | 1 => rfl | 2 => rfl⟩
  refine (View.canon_apply_of_pieces (S := S2x512x512) (Val := Elt Ideal) (e := .bf16) (G11 m c t) _ ?_ (ix3 ν p e) ?_).trans (congrArg (MR m c) (emb11 t p ν e).symm)
  · intro q hq
    simp only [List.mem_cons, List.not_mem_nil, or_false] at hq
    rcases hq with rfl | rfl
    · intro x
      obtain ⟨ν, p, e, rfl⟩ : ∃ (ν : Fin 1) (p : Fin 512) (e : Fin 512), x = ix3 ν p e := ⟨x 0, x 1, x 2, by funext a; match a with | 0 => rfl | 1 => rfl | 2 => rfl⟩
      obtain rfl : ν = 0 := Subsingleton.elim _ _
      refine ((pay14_at (QB m c t) p e).trans (maps_at m c t p H 1 e).symm).trans (congrArg (MR m c) (congrArg₂ (fun a b => ix3 1 (row t a) b) (Fin.ext ?_) (Fin.ext ?_)))
      · show p.val = 0 + 1 * p.val; omega
      · show e.val = 0 + 1 * e.val; omega
    · intro x
      obtain ⟨ν, p, e, rfl⟩ : ∃ (ν : Fin 1) (p : Fin 512) (e : Fin 512), x = ix3 ν p e := ⟨x 0, x 1, x 2, by funext a; match a with | 0 => rfl | 1 => rfl | 2 => rfl⟩
      obtain rfl : ν = 0 := Subsingleton.elim _ _
      refine ((pay13_at (QB m c t) p e).trans (maps_at m c t p H 0 e).symm).trans (congrArg (MR m c) (congrArg₂ (fun a b => ix3 0 (row t a) b) (Fin.ext ?_) (Fin.ext ?_)))
      · show p.val = 0 + 1 * p.val; omega
      · show e.val = 0 + 1 * e.val; omega
  · match ν with
    | 0 =>
      refine ⟨_, List.mem_cons_of_mem _ (List.mem_cons_self ..), (Rect.mem_set_unit (inb := inb_S2x512x512_S1x512x512_0_0_0)).2 fun a => ?_⟩
      match a with
      | 0 => exact ⟨Nat.zero_le _, by show 0 < 0 + 1; omega⟩
      | 1 => exact ⟨Nat.zero_le _, by show p.val < 0 + 512; omega⟩
      | 2 => exact ⟨Nat.zero_le _, by show e.val < 0 + 512; omega⟩
    | 1 =>
      refine ⟨_, List.mem_cons_self .., (Rect.mem_set_unit (inb := inb_S2x512x512_S1x512x512_1_0_0)).2 fun a => ?_⟩
      match a with
      | 0 => exact ⟨by show 1 ≤ 1; omega, by show 1 < 1 + 1; omega⟩
      | 1 => exact ⟨Nat.zero_le _, by show p.val < 0 + 512; omega⟩
      | 2 => exact ⟨Nat.zero_le _, by show e.val < 0 + 512; omega⟩

theorem final12 (H : Reals m c) : (dats m 0 c).arrAt 12 cfg0.N = refK (KR m c) := by
  refine (dats m 0 c).arrAt_eq_of_covers 12 _ (by decide +kernel) fun t _ y => ?_
  blk_simp
  rw [after0_12]
  unfold outsAt0
  frame_out
  obtain ⟨p, e, rfl⟩ : ∃ (p : Fin 512) (e : Fin 512), y = ix2 p e := ⟨y 0, y 1, by funext a; match a with | 0 => rfl | 1 => rfl⟩
  refine (KB_at m c t p e H).trans (Eq.trans ?_ (congrArg (refK (KR m c)) (emb12 t p e).symm))
  rw [refK_at]
  exact (KR_at m c (row t p) e _ _ _ (by show e.val = e.val / 128 * 128 + e.val / 64 % 2 * 64 + e.val % 64; omega)).symm

theorem final13 : (dats m 0 c).arrAt 13 cfg0.N = refV (PR m c) := by
  refine (dats m 0 c).arrAt_eq_of_covers 13 _ (by decide +kernel) fun t _ y => ?_
  blk_simp
  rw [after0_13]
  unfold outsAt0
  frame_out
  obtain ⟨p, e, rfl⟩ : ∃ (p : Fin 512) (e : Fin 1024), y = ix2 p e := ⟨y 0, y 1, by funext a; match a with | 0 => rfl | 1 => rfl⟩
  exact (vals_at m c t p e).trans (congrArg (refV (PR m c)) (emb13 t p e).symm)

end Cert.InpNextIdeal.Hand
-- ==== Proof.lean ====
/- The proof of the certificate's claims: of each call the two kernel programs and the reference run, leave their arguments
   as they were and every semaphore at zero, and the kernel computes the reference's results over the extended reals. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.KKept
public import proofs.«01_k».proof.Proof.KIRun
public import proofs.«01_k».proof.Proof.Gen.NextKernel
public import proofs.«01_k».proof.Proof.Gen.NextKernelIdeal
public import proofs.«01_k».proof.Proof.Gen.NextKernelIdeal.Skeleton
public import proofs.«01_k».proof.Proof.Gen.NextKernelIdeal.Loops
public import proofs.«01_k».proof.Proof.Gen.NextKernelIdeal.Launch
public import proofs.«01_k».proof.Proof.Gen.NextKernelIdeal.Flash
public import proofs.«01_k».proof.Proof.Gen.NextReferenceIdeal
public import proofs.«01_k».proof.Proof.Gen.NextReferenceIdeal.Run
public import proofs.«01_k».proof.Proof.NextKKept
public import proofs.«01_k».proof.Proof.NextKIRun
public import proofs.«01_k».proof.Proof.Gen.Pre_finite
public import proofs.«01_k».proof.Proof.Gen.FfnIdeal.Value
public import proofs.«01_k».proof.Proof.Gen.FfnReferenceIdeal.Run
public import proofs.«01_k».proof.Proof.Gen.MixIdeal.Value
public import proofs.«01_k».proof.Proof.Gen.MixReferenceIdeal.Run
public import proofs.«01_k».proof.Proof.Gen.Ffn
public import proofs.«01_k».proof.Proof.Gen.Ffn.Frame
public import proofs.«01_k».proof.Proof.Gen.Mix
public import proofs.«01_k».proof.Proof.Gen.Mix.Frame
public import proofs.«01_k».proof.Proof.Gen.Inp
public import proofs.«01_k».proof.Proof.Gen.Inp.Frame
public import proofs.«01_k».proof.Proof.Gen.InpIdeal.Value
public import proofs.«01_k».proof.Proof.Gen.InpReferenceIdeal.Run
public import proofs.«01_k».proof.Proof.Gen.Pre_inp_finite
public import proofs.«01_k».proof.Proof.Gen.InpNext
public import proofs.«01_k».proof.Proof.Gen.InpNext.Frame
public import proofs.«01_k».proof.Proof.Gen.InpNextIdeal.Value
public import proofs.«01_k».proof.Proof.Gen.InpNextReferenceIdeal.Run
public import proofs.«01_k».proof.Proof.Gen.Pre_inp_next_finite
public import proofs.«01_k».proof.Proof.Gen.MixNext
public import proofs.«01_k».proof.Proof.Gen.MixNext.Frame
public import proofs.«01_k».proof.Proof.Gen.MixNextIdeal.Value
public import proofs.«01_k».proof.Proof.Gen.MixNextReferenceIdeal.Run
public import proofs.«01_k».proof.Proof.VPre
public import proofs.«01_k».proof.Proof.VSame
public import proofs.«01_k».proof.Proof.NextVSame
public import proofs.«01_k».proof.Proof.FfnVal
public import proofs.«01_k».proof.Proof.MixVal
public import proofs.«01_k».proof.Proof.MixNextVal
public import proofs.«01_k».proof.Proof.InpPre
public import proofs.«01_k».proof.Proof.InpFin
public import proofs.«01_k».proof.Proof.InpNextPre
public import proofs.«01_k».proof.Proof.InpNextFin
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and leaves its arguments as they were; it has no semaphores. -/
theorem reference_kept : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- From real queries, keys, values and vectors of the factor both programs end with the same result. -/
theorem same_result : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hargs
  obtain ⟨⟨qr, hq⟩, ⟨kr, hk⟩, ⟨vr, hv⟩, ⟨lr, hl⟩⟩ := Cert.Hand.pre_real _ _ _ _ _ _ _ (hpre 0)
  obtain ⟨e0, e1, e2, e3, e4, e5, e6⟩ := hargs 0
  refine ⟨fun _ => Cert.ReferenceIdeal.Value.res_main_v70 m' 0, ?_, ?_⟩
  · refine (θ_run _ _ _).mono (fun r h c => ?_) (Cert.KernelIdeal.Hand.run m g)
    obtain rfl : c = 0 := Subsingleton.elim _ _
    exact ⟨((h.1 0).1 6).trans ((Cert.KernelIdeal.Hand.out_eq qr kr vr m hq hk hv).trans (Cert.KernelIdeal.Hand.same m m' qr kr vr lr hq hk hv hl e0 e1 e2 e5 e6).symm), Cert.KernelIdeal.Hand.args_kept m r h.1 0⟩
  · refine (θ_run _ _ _).mono (fun r h c => ?_) (Cert.ReferenceIdeal.Value.run m' g')
    obtain rfl : c = 0 := Subsingleton.elim _ _
    exact h 0

/-- The second layer's reference of the attention runs and leaves its arguments as they were; it has no semaphores. -/
theorem next_reference_kept : Cert.quiescent_NextReferenceIdeal (hNextReferenceIdeal := Cert.NextReferenceIdeal.Gen.facts) := fun m g _ =>
  (θ_run _ _ _).mono (fun r h => ⟨fun c => (h c).2, sem_eq_zero_of_no_sems (by decide) r.2⟩) (Cert.NextReferenceIdeal.Value.run m g)

/-- From real queries, keys, values and vectors of the factor the second layer's two programs of the attention end with the same result. -/
theorem next_same_result : Cert.algebraic_NextKernelIdeal_NextReferenceIdeal_pre_finite (hNextKernelIdeal := Cert.NextKernelIdeal.Gen.facts) (hNextReferenceIdeal := Cert.NextReferenceIdeal.Gen.facts) (hPre_finite := Cert.Pre_finite.Gen.facts) := by
  intro m g m' g' hpre hargs
  obtain ⟨⟨qr, hq⟩, ⟨kr, hk⟩, ⟨vr, hv⟩, ⟨lr, hl⟩⟩ := Cert.Hand.pre_real _ _ _ _ _ _ _ (hpre 0)
  obtain ⟨e0, e1, e2, e3, e4, e5, e6⟩ := hargs 0
  refine ⟨fun _ => Cert.NextReferenceIdeal.Value.res_main_v70 m' 0, ?_, ?_⟩
  · refine (θ_run _ _ _).mono (fun r h c => ?_) (Cert.NextKernelIdeal.Hand.run m g)
    obtain rfl : c = 0 := Subsingleton.elim _ _
    exact ⟨((h.1 0).1 6).trans ((Cert.NextKernelIdeal.Hand.out_eq qr kr vr m hq hk hv).trans (Cert.NextKernelIdeal.Hand.same m m' qr kr vr lr hq hk hv hl e0 e1 e2 e5 e6).symm), Cert.NextKernelIdeal.Hand.args_kept m r h.1 0⟩
  · refine (θ_run _ _ _).mono (fun r h c => ?_) (Cert.NextReferenceIdeal.Value.run m' g')
    obtain rfl : c = 0 := Subsingleton.elim _ _
    exact h 0

/-- The dense layer's plain program ends with its arguments unchanged. -/
theorem ffn_reference_kept : Cert.quiescent_FfnReferenceIdeal (hFfnReferenceIdeal := Cert.FfnReferenceIdeal.Gen.facts) := fun m g _ =>
  (θ_run _ _ _).mono (fun r h => ⟨fun c => (h c).2.2, sem_eq_zero_of_no_sems (by decide) r.2⟩) (Cert.FfnReferenceIdeal.Value.run m g)

/-- The dense layer's two programs end with the same two results. -/
theorem ffn_same_result : Cert.algebraic_FfnIdeal_FfnReferenceIdeal (hFfnIdeal := Cert.FfnIdeal.Gen.facts) (hFfnReferenceIdeal := Cert.FfnReferenceIdeal.Gen.facts) := by
  intro m g m' g' _ hargs
  refine ⟨fun c => Cert.FfnIdeal.Hand.XR m c, fun c => Cert.FfnReferenceIdeal.Hand.refN (Cert.FfnIdeal.Hand.XR m c) (m ((c.tc : Thread Cert.FfnIdeal.nD Cert.FfnIdeal.τ).loc Cert.FfnIdeal.main_arg4)), ?_, ?_⟩
  · exact (θ_run _ _ _).mono (fun r h c => ⟨(h c).1.trans (Cert.FfnIdeal.Hand.final5 m c), (h c).2.1.trans (Cert.FfnIdeal.Hand.final6 m c), (h c).2.2⟩) (Cert.FfnIdeal.Value.run_blocks m g)
  · refine (θ_run _ _ _).mono (fun r h c => ?_) (Cert.FfnReferenceIdeal.Value.run m' g')
    obtain ⟨e0, e1, e2, e3, e4⟩ := hargs c
    have hx : Cert.FfnReferenceIdeal.Hand.refX (m' ((c.tc : Thread Cert.FfnReferenceIdeal.nD Cert.FfnReferenceIdeal.τ).loc Cert.FfnReferenceIdeal.main_arg1)) (Cert.FfnReferenceIdeal.Hand.refA (Cert.FfnReferenceIdeal.Hand.refH (m' ((c.tc : Thread Cert.FfnReferenceIdeal.nD Cert.FfnReferenceIdeal.τ).loc Cert.FfnReferenceIdeal.main_arg0)) (m' ((c.tc : Thread Cert.FfnReferenceIdeal.nD Cert.FfnReferenceIdeal.τ).loc Cert.FfnReferenceIdeal.main_arg2)))) (m' ((c.tc : Thread Cert.FfnReferenceIdeal.nD Cert.FfnReferenceIdeal.τ).loc Cert.FfnReferenceIdeal.main_arg3)) = Cert.FfnIdeal.Hand.XR m c := by
      unfold Cert.FfnIdeal.Hand.XR
      rw [e0, e1, e2, e3]
    refine ⟨(h c).1.trans hx, (h c).2.1.trans ((Cert.FfnReferenceIdeal.Hand.res_eq m' c).trans ?_), (h c).2.2⟩
    rw [hx, e4]

/-- The mixer's output's plain program ends with its arguments unchanged. -/
theorem mix_reference_kept : Cert.quiescent_MixReferenceIdeal (hMixReferenceIdeal := Cert.MixReferenceIdeal.Gen.facts) := fun m g _ =>
  (θ_run _ _ _).mono (fun r h => ⟨fun c => (h c).2.2, sem_eq_zero_of_no_sems (by decide) r.2⟩) (Cert.MixReferenceIdeal.Value.run m g)

/-- The mixer's output's two programs end with the same two results. -/
theorem mix_same_result : Cert.algebraic_MixIdeal_MixReferenceIdeal (hMixIdeal := Cert.MixIdeal.Gen.facts) (hMixReferenceIdeal := Cert.MixReferenceIdeal.Gen.facts) := by
  intro m g m' g' _ hargs
  refine ⟨fun c => Cert.MixIdeal.Hand.XR m c, fun c => Cert.MixReferenceIdeal.Hand.refN (Cert.MixIdeal.Hand.XR m c) (m ((c.tc : Thread Cert.MixIdeal.nD Cert.MixIdeal.τ).loc Cert.MixIdeal.main_arg7)), ?_, ?_⟩
  · exact (θ_run _ _ _).mono (fun r h c => ⟨(h c).1.trans (Cert.MixIdeal.Hand.final9 m c), (h c).2.1.trans (Cert.MixIdeal.Hand.final10 m c), (h c).2.2⟩) (Cert.MixIdeal.Value.run_blocks m g)
  · refine (θ_run _ _ _).mono (fun r h c => ?_) (Cert.MixReferenceIdeal.Value.run m' g')
    obtain ⟨e0, e1, e2, e3, e4, e5, e6, e7⟩ := hargs c
    have hx : Cert.MixReferenceIdeal.Hand.refX (m' ((c.tc : Thread Cert.MixReferenceIdeal.nD Cert.MixReferenceIdeal.τ).loc Cert.MixReferenceIdeal.main_arg3)) (Cert.MixReferenceIdeal.Hand.refM (m' ((c.tc : Thread Cert.MixReferenceIdeal.nD Cert.MixReferenceIdeal.τ).loc Cert.MixReferenceIdeal.main_arg0)) (m' ((c.tc : Thread Cert.MixReferenceIdeal.nD Cert.MixReferenceIdeal.τ).loc Cert.MixReferenceIdeal.main_arg1)) (m' ((c.tc : Thread Cert.MixReferenceIdeal.nD Cert.MixReferenceIdeal.τ).loc Cert.MixReferenceIdeal.main_arg2)) (m' ((c.tc : Thread Cert.MixReferenceIdeal.nD Cert.MixReferenceIdeal.τ).loc Cert.MixReferenceIdeal.main_arg4)) (m' ((c.tc : Thread Cert.MixReferenceIdeal.nD Cert.MixReferenceIdeal.τ).loc Cert.MixReferenceIdeal.main_arg5))) (m' ((c.tc : Thread Cert.MixReferenceIdeal.nD Cert.MixReferenceIdeal.τ).loc Cert.MixReferenceIdeal.main_arg6)) = Cert.MixIdeal.Hand.XR m c := by
      unfold Cert.MixIdeal.Hand.XR
      rw [e0, e1, e2, e3, e4, e5, e6]
    refine ⟨(h c).1.trans hx, (h c).2.1.trans ((Cert.MixReferenceIdeal.Hand.res_eq m' c).trans ?_), (h c).2.2⟩
    rw [hx, e7]

/-- The second layer's mixer's output's plain program ends with its arguments unchanged. -/
theorem mix_next_reference_kept : Cert.quiescent_MixNextReferenceIdeal (hMixNextReferenceIdeal := Cert.MixNextReferenceIdeal.Gen.facts) := fun m g _ =>
  (θ_run _ _ _).mono (fun r h => ⟨fun c => (h c).2.2, sem_eq_zero_of_no_sems (by decide) r.2⟩) (Cert.MixNextReferenceIdeal.Value.run m g)

/-- The second layer's mixer's output's two programs end with the same two results. -/
theorem mix_next_same_result : Cert.algebraic_MixNextIdeal_MixNextReferenceIdeal (hMixNextIdeal := Cert.MixNextIdeal.Gen.facts) (hMixNextReferenceIdeal := Cert.MixNextReferenceIdeal.Gen.facts) := by
  intro m g m' g' _ hargs
  refine ⟨fun c => Cert.MixNextIdeal.Hand.XR m c, fun c => Cert.MixReferenceIdeal.Hand.refN (Cert.MixNextIdeal.Hand.XR m c) (m ((c.tc : Thread Cert.MixNextIdeal.nD Cert.MixNextIdeal.τ).loc Cert.MixNextIdeal.main_arg7)), ?_, ?_⟩
  · exact (θ_run _ _ _).mono (fun r h c => ⟨(h c).1.trans (Cert.MixNextIdeal.Hand.final12 m c), (h c).2.1.trans (Cert.MixNextIdeal.Hand.final13 m c), (h c).2.2.2⟩) (Cert.MixNextIdeal.Value.run_blocks m g)
  · refine (θ_run _ _ _).mono (fun r h c => ?_) (Cert.MixNextReferenceIdeal.Value.run m' g')
    obtain ⟨e0, e1, e2, e3, e4, e5, e6, e7, -, -⟩ := hargs c
    have hx : Cert.MixReferenceIdeal.Hand.refX (m' ((c.tc : Thread Cert.MixNextReferenceIdeal.nD Cert.MixNextReferenceIdeal.τ).loc Cert.MixNextReferenceIdeal.main_arg3)) (Cert.MixReferenceIdeal.Hand.refM (m' ((c.tc : Thread Cert.MixNextReferenceIdeal.nD Cert.MixNextReferenceIdeal.τ).loc Cert.MixNextReferenceIdeal.main_arg0)) (m' ((c.tc : Thread Cert.MixNextReferenceIdeal.nD Cert.MixNextReferenceIdeal.τ).loc Cert.MixNextReferenceIdeal.main_arg1)) (m' ((c.tc : Thread Cert.MixNextReferenceIdeal.nD Cert.MixNextReferenceIdeal.τ).loc Cert.MixNextReferenceIdeal.main_arg2)) (m' ((c.tc : Thread Cert.MixNextReferenceIdeal.nD Cert.MixNextReferenceIdeal.τ).loc Cert.MixNextReferenceIdeal.main_arg4)) (m' ((c.tc : Thread Cert.MixNextReferenceIdeal.nD Cert.MixNextReferenceIdeal.τ).loc Cert.MixNextReferenceIdeal.main_arg5))) (m' ((c.tc : Thread Cert.MixNextReferenceIdeal.nD Cert.MixNextReferenceIdeal.τ).loc Cert.MixNextReferenceIdeal.main_arg6)) = Cert.MixNextIdeal.Hand.XR m c := by
      unfold Cert.MixNextIdeal.Hand.XR
      rw [e0, e1, e2, e3, e4, e5, e6]
    refine ⟨(h c).1.trans hx, (h c).2.1.trans ((Cert.MixNextReferenceIdeal.Hand.res_eq m' c).trans ?_), (h c).2.2⟩
    rw [hx, e7]

/-- The input projection's reference leaves its arguments as they were and every semaphore at zero. -/
theorem inp_reference_kept : Cert.quiescent_InpReferenceIdeal (hInpReferenceIdeal := Cert.InpReferenceIdeal.Gen.facts) := fun m g _ =>
  (θ_run _ _ _).mono (fun r h => ⟨fun c => (h c).2.2.2.2.2, sem_eq_zero_of_no_sems (by decide) r.2⟩) (Cert.InpReferenceIdeal.Value.run m g)

/-- The input projection's two programs end with the same five results. -/
theorem inp_same_result : Cert.algebraic_InpIdeal_InpReferenceIdeal_pre_inp_finite (hInpIdeal := Cert.InpIdeal.Gen.facts) (hInpReferenceIdeal := Cert.InpReferenceIdeal.Gen.facts)
    (hPre_inp_finite := Cert.Pre_inp_finite.Gen.facts) := by
  intro m g m' g' hpre hargs
  haveI := Cert.Pre_inp_finite.Gen.facts
  have H : ∀ c, Cert.InpIdeal.Hand.Reals m c := fun c => by
    obtain ⟨hx, hw, hn⟩ := Cert.InpMath.pre_real _ _ _ _ _ _ (hpre c)
    exact ⟨hx, hw, hn⟩
  refine ⟨fun c => Cert.InpReferenceIdeal.Hand.refMain (Cert.InpIdeal.Hand.PR m c), fun c => Cert.InpReferenceIdeal.Hand.refSmall (Cert.InpIdeal.Hand.PR m c), fun c => Cert.InpIdeal.Hand.MR m c, fun c => Cert.InpReferenceIdeal.Hand.refK (Cert.InpIdeal.Hand.KR m c), fun c => Cert.InpReferenceIdeal.Hand.refV (Cert.InpIdeal.Hand.PR m c), ?_, ?_⟩
  · exact (θ_run _ _ _).mono (fun r h c => ⟨(h c).1.trans (Cert.InpIdeal.Hand.final10 m c), (h c).2.1.trans (Cert.InpIdeal.Hand.final11 m c), (h c).2.2.1.trans (Cert.InpIdeal.Hand.final12 m c (H c)),
      (h c).2.2.2.1.trans (Cert.InpIdeal.Hand.final13 m c (H c)), (h c).2.2.2.2.1.trans (Cert.InpIdeal.Hand.final14 m c), (h c).2.2.2.2.2⟩) (Cert.InpIdeal.Value.run_blocks m g)
  · refine (θ_run _ _ _).mono (fun r h c => ?_) (Cert.InpReferenceIdeal.Value.run m' g')
    obtain ⟨e0, e1, e2, e3, e4, e5⟩ := hargs c
    have hP : (Cert.InpReferenceIdeal.Hand.refP (Cert.InpReferenceIdeal.Hand.refU (m' ((c.tc : Thread Cert.InpReferenceIdeal.nD Cert.InpReferenceIdeal.τ).loc Cert.InpReferenceIdeal.main_arg0)) (m' ((c.tc : Thread Cert.InpReferenceIdeal.nD Cert.InpReferenceIdeal.τ).loc Cert.InpReferenceIdeal.main_arg5))) (m' ((c.tc : Thread Cert.InpReferenceIdeal.nD Cert.InpReferenceIdeal.τ).loc Cert.InpReferenceIdeal.main_arg2))) = Cert.InpIdeal.Hand.PR m c := by
      unfold Cert.InpIdeal.Hand.PR
      rw [e0, e2, e5]
    have hQ : (Cert.InpReferenceIdeal.Hand.refR (Cert.InpReferenceIdeal.Hand.refN (Cert.InpReferenceIdeal.Hand.refHq (Cert.InpReferenceIdeal.Hand.refP (Cert.InpReferenceIdeal.Hand.refU (m' ((c.tc : Thread Cert.InpReferenceIdeal.nD Cert.InpReferenceIdeal.τ).loc Cert.InpReferenceIdeal.main_arg0)) (m' ((c.tc : Thread Cert.InpReferenceIdeal.nD Cert.InpReferenceIdeal.τ).loc Cert.InpReferenceIdeal.main_arg5))) (m' ((c.tc : Thread Cert.InpReferenceIdeal.nD Cert.InpReferenceIdeal.τ).loc Cert.InpReferenceIdeal.main_arg2)))) (m' ((c.tc : Thread Cert.InpReferenceIdeal.nD Cert.InpReferenceIdeal.τ).loc Cert.InpReferenceIdeal.main_arg3))) (Cert.InpReferenceIdeal.Hand.refA (m' ((c.tc : Thread Cert.InpReferenceIdeal.nD Cert.InpReferenceIdeal.τ).loc Cert.InpReferenceIdeal.main_arg1)))) = Cert.InpIdeal.Hand.QR m c := by
      rw [hP, e1, e3]
    have hK : (Cert.InpReferenceIdeal.Hand.refR (Cert.InpReferenceIdeal.Hand.refN (Cert.InpReferenceIdeal.Hand.refHk (Cert.InpReferenceIdeal.Hand.refP (Cert.InpReferenceIdeal.Hand.refU (m' ((c.tc : Thread Cert.InpReferenceIdeal.nD Cert.InpReferenceIdeal.τ).loc Cert.InpReferenceIdeal.main_arg0)) (m' ((c.tc : Thread Cert.InpReferenceIdeal.nD Cert.InpReferenceIdeal.τ).loc Cert.InpReferenceIdeal.main_arg5))) (m' ((c.tc : Thread Cert.InpReferenceIdeal.nD Cert.InpReferenceIdeal.τ).loc Cert.InpReferenceIdeal.main_arg2)))) (m' ((c.tc : Thread Cert.InpReferenceIdeal.nD Cert.InpReferenceIdeal.τ).loc Cert.InpReferenceIdeal.main_arg4))) (Cert.InpReferenceIdeal.Hand.refA (m' ((c.tc : Thread Cert.InpReferenceIdeal.nD Cert.InpReferenceIdeal.τ).loc Cert.InpReferenceIdeal.main_arg1)))) = Cert.InpIdeal.Hand.KR m c := by
      rw [hP, e1, e4]
    have r0 : r.2.mem ((c.tc : Thread Cert.InpReferenceIdeal.nD Cert.InpReferenceIdeal.τ).loc Cert.InpReferenceIdeal.main_v100) = Cert.InpReferenceIdeal.Hand.refMain (F := Ideal) (Cert.InpReferenceIdeal.Hand.refP (Cert.InpReferenceIdeal.Hand.refU (m' ((c.tc : Thread Cert.InpReferenceIdeal.nD Cert.InpReferenceIdeal.τ).loc Cert.InpReferenceIdeal.main_arg0)) (m' ((c.tc : Thread Cert.InpReferenceIdeal.nD Cert.InpReferenceIdeal.τ).loc Cert.InpReferenceIdeal.main_arg5))) (m' ((c.tc : Thread Cert.InpReferenceIdeal.nD Cert.InpReferenceIdeal.τ).loc Cert.InpReferenceIdeal.main_arg2))) := (h c).1
    have r1 : r.2.mem ((c.tc : Thread Cert.InpReferenceIdeal.nD Cert.InpReferenceIdeal.τ).loc Cert.InpReferenceIdeal.main_v103) = Cert.InpReferenceIdeal.Hand.refSmall (F := Ideal) (Cert.InpReferenceIdeal.Hand.refP (Cert.InpReferenceIdeal.Hand.refU (m' ((c.tc : Thread Cert.InpReferenceIdeal.nD Cert.InpReferenceIdeal.τ).loc Cert.InpReferenceIdeal.main_arg0)) (m' ((c.tc : Thread Cert.InpReferenceIdeal.nD Cert.InpReferenceIdeal.τ).loc Cert.InpReferenceIdeal.main_arg5))) (m' ((c.tc : Thread Cert.InpReferenceIdeal.nD Cert.InpReferenceIdeal.τ).loc Cert.InpReferenceIdeal.main_arg2))) := (h c).2.1
    have r2 : r.2.mem ((c.tc : Thread Cert.InpReferenceIdeal.nD Cert.InpReferenceIdeal.τ).loc Cert.InpReferenceIdeal.main_v117) = Cert.InpReferenceIdeal.Hand.refMaps (F := Ideal) (Cert.InpReferenceIdeal.Hand.refB (Cert.InpReferenceIdeal.Hand.refM0 (Cert.InpReferenceIdeal.Hand.refS (Cert.InpReferenceIdeal.Hand.refR (Cert.InpReferenceIdeal.Hand.refN (Cert.InpReferenceIdeal.Hand.refHq (Cert.InpReferenceIdeal.Hand.refP (Cert.InpReferenceIdeal.Hand.refU (m' ((c.tc : Thread Cert.InpReferenceIdeal.nD Cert.InpReferenceIdeal.τ).loc Cert.InpReferenceIdeal.main_arg0)) (m' ((c.tc : Thread Cert.InpReferenceIdeal.nD Cert.InpReferenceIdeal.τ).loc Cert.InpReferenceIdeal.main_arg5))) (m' ((c.tc : Thread Cert.InpReferenceIdeal.nD Cert.InpReferenceIdeal.τ).loc Cert.InpReferenceIdeal.main_arg2)))) (m' ((c.tc : Thread Cert.InpReferenceIdeal.nD Cert.InpReferenceIdeal.τ).loc Cert.InpReferenceIdeal.main_arg3))) (Cert.InpReferenceIdeal.Hand.refA (m' ((c.tc : Thread Cert.InpReferenceIdeal.nD Cert.InpReferenceIdeal.τ).loc Cert.InpReferenceIdeal.main_arg1)))))) (Cert.InpReferenceIdeal.Hand.refM1 (Cert.InpReferenceIdeal.Hand.refS (Cert.InpReferenceIdeal.Hand.refR (Cert.InpReferenceIdeal.Hand.refN (Cert.InpReferenceIdeal.Hand.refHq (Cert.InpReferenceIdeal.Hand.refP (Cert.InpReferenceIdeal.Hand.refU (m' ((c.tc : Thread Cert.InpReferenceIdeal.nD Cert.InpReferenceIdeal.τ).loc Cert.InpReferenceIdeal.main_arg0)) (m' ((c.tc : Thread Cert.InpReferenceIdeal.nD Cert.InpReferenceIdeal.τ).loc Cert.InpReferenceIdeal.main_arg5))) (m' ((c.tc : Thread Cert.InpReferenceIdeal.nD Cert.InpReferenceIdeal.τ).loc Cert.InpReferenceIdeal.main_arg2)))) (m' ((c.tc : Thread Cert.InpReferenceIdeal.nD Cert.InpReferenceIdeal.τ).loc Cert.InpReferenceIdeal.main_arg3))) (Cert.InpReferenceIdeal.Hand.refA (m' ((c.tc : Thread Cert.InpReferenceIdeal.nD Cert.InpReferenceIdeal.τ).loc Cert.InpReferenceIdeal.main_arg1))))))) :=
      (h c).2.2.1.trans (Cert.InpReferenceIdeal.Hand.res_maps m' c)
    have r3 : r.2.mem ((c.tc : Thread Cert.InpReferenceIdeal.nD Cert.InpReferenceIdeal.τ).loc Cert.InpReferenceIdeal.main_v119) = Cert.InpReferenceIdeal.Hand.refK (F := Ideal) (Cert.InpReferenceIdeal.Hand.refR (Cert.InpReferenceIdeal.Hand.refN (Cert.InpReferenceIdeal.Hand.refHk (Cert.InpReferenceIdeal.Hand.refP (Cert.InpReferenceIdeal.Hand.refU (m' ((c.tc : Thread Cert.InpReferenceIdeal.nD Cert.InpReferenceIdeal.τ).loc Cert.InpReferenceIdeal.main_arg0)) (m' ((c.tc : Thread Cert.InpReferenceIdeal.nD Cert.InpReferenceIdeal.τ).loc Cert.InpReferenceIdeal.main_arg5))) (m' ((c.tc : Thread Cert.InpReferenceIdeal.nD Cert.InpReferenceIdeal.τ).loc Cert.InpReferenceIdeal.main_arg2)))) (m' ((c.tc : Thread Cert.InpReferenceIdeal.nD Cert.InpReferenceIdeal.τ).loc Cert.InpReferenceIdeal.main_arg4))) (Cert.InpReferenceIdeal.Hand.refA (m' ((c.tc : Thread Cert.InpReferenceIdeal.nD Cert.InpReferenceIdeal.τ).loc Cert.InpReferenceIdeal.main_arg1)))) := (h c).2.2.2.1.trans (Cert.InpReferenceIdeal.Hand.res_k m' c)
    have r4 : r.2.mem ((c.tc : Thread Cert.InpReferenceIdeal.nD Cert.InpReferenceIdeal.τ).loc Cert.InpReferenceIdeal.main_v121) = Cert.InpReferenceIdeal.Hand.refV (F := Ideal) (Cert.InpReferenceIdeal.Hand.refP (Cert.InpReferenceIdeal.Hand.refU (m' ((c.tc : Thread Cert.InpReferenceIdeal.nD Cert.InpReferenceIdeal.τ).loc Cert.InpReferenceIdeal.main_arg0)) (m' ((c.tc : Thread Cert.InpReferenceIdeal.nD Cert.InpReferenceIdeal.τ).loc Cert.InpReferenceIdeal.main_arg5))) (m' ((c.tc : Thread Cert.InpReferenceIdeal.nD Cert.InpReferenceIdeal.τ).loc Cert.InpReferenceIdeal.main_arg2))) := (h c).2.2.2.2.1
    rw [hP] at r0 r1 r4
    rw [hQ] at r2
    rw [hK] at r3
    exact ⟨r0, r1, r2, r3, r4, (h c).2.2.2.2.2⟩

/-- The second layer's reference of the input projection leaves its arguments as they were and every semaphore at zero. -/
theorem inp_next_reference_kept : Cert.quiescent_InpNextReferenceIdeal (hInpNextReferenceIdeal := Cert.InpNextReferenceIdeal.Gen.facts) := fun m g _ =>
  (θ_run _ _ _).mono (fun r h => ⟨fun c => (h c).2.2.2.2.2, sem_eq_zero_of_no_sems (by decide) r.2⟩) (Cert.InpNextReferenceIdeal.Value.run m g)

/-- The second layer's two programs of the input projection end with the same five results. -/
theorem inp_next_same_result : Cert.algebraic_InpNextIdeal_InpNextReferenceIdeal_pre_inp_next_finite (hInpNextIdeal := Cert.InpNextIdeal.Gen.facts) (hInpNextReferenceIdeal := Cert.InpNextReferenceIdeal.Gen.facts)
    (hPre_inp_next_finite := Cert.Pre_inp_next_finite.Gen.facts) := by
  intro m g m' g' hpre hargs
  haveI := Cert.Pre_inp_next_finite.Gen.facts
  have H : ∀ c, Cert.InpNextIdeal.Hand.Reals m c := fun c => by
    obtain ⟨hx, hw⟩ := Cert.InpMath.next_real _ _ _ _ _ (hpre c)
    exact ⟨hx, hw⟩
  refine ⟨fun c => Cert.InpReferenceIdeal.Hand.refMain (Cert.InpNextIdeal.Hand.PR m c), fun c => Cert.InpReferenceIdeal.Hand.refSmall (Cert.InpNextIdeal.Hand.PR m c), fun c => Cert.InpNextIdeal.Hand.MR m c, fun c => Cert.InpReferenceIdeal.Hand.refK (Cert.InpNextIdeal.Hand.KR m c), fun c => Cert.InpReferenceIdeal.Hand.refV (Cert.InpNextIdeal.Hand.PR m c), ?_, ?_⟩
  · exact (θ_run _ _ _).mono (fun r h c => ⟨(h c).1.trans (Cert.InpNextIdeal.Hand.final9 m c), (h c).2.1.trans (Cert.InpNextIdeal.Hand.final10 m c), (h c).2.2.1.trans (Cert.InpNextIdeal.Hand.final11 m c (H c)),
      (h c).2.2.2.1.trans (Cert.InpNextIdeal.Hand.final12 m c (H c)), (h c).2.2.2.2.1.trans (Cert.InpNextIdeal.Hand.final13 m c), (h c).2.2.2.2.2⟩) (Cert.InpNextIdeal.Value.run_blocks m g)
  · refine (θ_run _ _ _).mono (fun r h c => ?_) (Cert.InpNextReferenceIdeal.Value.run m' g')
    obtain ⟨e0, e1, e2, e3, e4⟩ := hargs c
    have hP : (Cert.InpReferenceIdeal.Hand.refP (m' ((c.tc : Thread Cert.InpNextReferenceIdeal.nD Cert.InpNextReferenceIdeal.τ).loc Cert.InpNextReferenceIdeal.main_arg0)) (m' ((c.tc : Thread Cert.InpNextReferenceIdeal.nD Cert.InpNextReferenceIdeal.τ).loc Cert.InpNextReferenceIdeal.main_arg2))) = Cert.InpNextIdeal.Hand.PR m c := by
      unfold Cert.InpNextIdeal.Hand.PR
      rw [e0, e2]
    have hQ : (Cert.InpReferenceIdeal.Hand.refR (Cert.InpReferenceIdeal.Hand.refN (Cert.InpReferenceIdeal.Hand.refHq (Cert.InpReferenceIdeal.Hand.refP (m' ((c.tc : Thread Cert.InpNextReferenceIdeal.nD Cert.InpNextReferenceIdeal.τ).loc Cert.InpNextReferenceIdeal.main_arg0)) (m' ((c.tc : Thread Cert.InpNextReferenceIdeal.nD Cert.InpNextReferenceIdeal.τ).loc Cert.InpNextReferenceIdeal.main_arg2)))) (m' ((c.tc : Thread Cert.InpNextReferenceIdeal.nD Cert.InpNextReferenceIdeal.τ).loc Cert.InpNextReferenceIdeal.main_arg3))) (Cert.InpReferenceIdeal.Hand.refA (m' ((c.tc : Thread Cert.InpNextReferenceIdeal.nD Cert.InpNextReferenceIdeal.τ).loc Cert.InpNextReferenceIdeal.main_arg1)))) = Cert.InpNextIdeal.Hand.QR m c := by
      rw [hP, e1, e3]
    have hK : (Cert.InpReferenceIdeal.Hand.refR (Cert.InpReferenceIdeal.Hand.refN (Cert.InpReferenceIdeal.Hand.refHk (Cert.InpReferenceIdeal.Hand.refP (m' ((c.tc : Thread Cert.InpNextReferenceIdeal.nD Cert.InpNextReferenceIdeal.τ).loc Cert.InpNextReferenceIdeal.main_arg0)) (m' ((c.tc : Thread Cert.InpNextReferenceIdeal.nD Cert.InpNextReferenceIdeal.τ).loc Cert.InpNextReferenceIdeal.main_arg2)))) (m' ((c.tc : Thread Cert.InpNextReferenceIdeal.nD Cert.InpNextReferenceIdeal.τ).loc Cert.InpNextReferenceIdeal.main_arg4))) (Cert.InpReferenceIdeal.Hand.refA (m' ((c.tc : Thread Cert.InpNextReferenceIdeal.nD Cert.InpNextReferenceIdeal.τ).loc Cert.InpNextReferenceIdeal.main_arg1)))) = Cert.InpNextIdeal.Hand.KR m c := by
      rw [hP, e1, e4]
    have r0 : r.2.mem ((c.tc : Thread Cert.InpNextReferenceIdeal.nD Cert.InpNextReferenceIdeal.τ).loc Cert.InpNextReferenceIdeal.main_v86) = Cert.InpReferenceIdeal.Hand.refMain (F := Ideal) (Cert.InpReferenceIdeal.Hand.refP (m' ((c.tc : Thread Cert.InpNextReferenceIdeal.nD Cert.InpNextReferenceIdeal.τ).loc Cert.InpNextReferenceIdeal.main_arg0)) (m' ((c.tc : Thread Cert.InpNextReferenceIdeal.nD Cert.InpNextReferenceIdeal.τ).loc Cert.InpNextReferenceIdeal.main_arg2))) := (h c).1
    have r1 : r.2.mem ((c.tc : Thread Cert.InpNextReferenceIdeal.nD Cert.InpNextReferenceIdeal.τ).loc Cert.InpNextReferenceIdeal.main_v89) = Cert.InpReferenceIdeal.Hand.refSmall (F := Ideal) (Cert.InpReferenceIdeal.Hand.refP (m' ((c.tc : Thread Cert.InpNextReferenceIdeal.nD Cert.InpNextReferenceIdeal.τ).loc Cert.InpNextReferenceIdeal.main_arg0)) (m' ((c.tc : Thread Cert.InpNextReferenceIdeal.nD Cert.InpNextReferenceIdeal.τ).loc Cert.InpNextReferenceIdeal.main_arg2))) := (h c).2.1
    have r2 : r.2.mem ((c.tc : Thread Cert.InpNextReferenceIdeal.nD Cert.InpNextReferenceIdeal.τ).loc Cert.InpNextReferenceIdeal.main_v103) = Cert.InpReferenceIdeal.Hand.refMaps (F := Ideal) (Cert.InpReferenceIdeal.Hand.refB (Cert.InpReferenceIdeal.Hand.refM0 (Cert.InpReferenceIdeal.Hand.refS (Cert.InpReferenceIdeal.Hand.refR (Cert.InpReferenceIdeal.Hand.refN (Cert.InpReferenceIdeal.Hand.refHq (Cert.InpReferenceIdeal.Hand.refP (m' ((c.tc : Thread Cert.InpNextReferenceIdeal.nD Cert.InpNextReferenceIdeal.τ).loc Cert.InpNextReferenceIdeal.main_arg0)) (m' ((c.tc : Thread Cert.InpNextReferenceIdeal.nD Cert.InpNextReferenceIdeal.τ).loc Cert.InpNextReferenceIdeal.main_arg2)))) (m' ((c.tc : Thread Cert.InpNextReferenceIdeal.nD Cert.InpNextReferenceIdeal.τ).loc Cert.InpNextReferenceIdeal.main_arg3))) (Cert.InpReferenceIdeal.Hand.refA (m' ((c.tc : Thread Cert.InpNextReferenceIdeal.nD Cert.InpNextReferenceIdeal.τ).loc Cert.InpNextReferenceIdeal.main_arg1)))))) (Cert.InpReferenceIdeal.Hand.refM1 (Cert.InpReferenceIdeal.Hand.refS (Cert.InpReferenceIdeal.Hand.refR (Cert.InpReferenceIdeal.Hand.refN (Cert.InpReferenceIdeal.Hand.refHq (Cert.InpReferenceIdeal.Hand.refP (m' ((c.tc : Thread Cert.InpNextReferenceIdeal.nD Cert.InpNextReferenceIdeal.τ).loc Cert.InpNextReferenceIdeal.main_arg0)) (m' ((c.tc : Thread Cert.InpNextReferenceIdeal.nD Cert.InpNextReferenceIdeal.τ).loc Cert.InpNextReferenceIdeal.main_arg2)))) (m' ((c.tc : Thread Cert.InpNextReferenceIdeal.nD Cert.InpNextReferenceIdeal.τ).loc Cert.InpNextReferenceIdeal.main_arg3))) (Cert.InpReferenceIdeal.Hand.refA (m' ((c.tc : Thread Cert.InpNextReferenceIdeal.nD Cert.InpNextReferenceIdeal.τ).loc Cert.InpNextReferenceIdeal.main_arg1))))))) := (h c).2.2.1
    have r3 : r.2.mem ((c.tc : Thread Cert.InpNextReferenceIdeal.nD Cert.InpNextReferenceIdeal.τ).loc Cert.InpNextReferenceIdeal.main_v105) = Cert.InpReferenceIdeal.Hand.refK (F := Ideal) (Cert.InpReferenceIdeal.Hand.refR (Cert.InpReferenceIdeal.Hand.refN (Cert.InpReferenceIdeal.Hand.refHk (Cert.InpReferenceIdeal.Hand.refP (m' ((c.tc : Thread Cert.InpNextReferenceIdeal.nD Cert.InpNextReferenceIdeal.τ).loc Cert.InpNextReferenceIdeal.main_arg0)) (m' ((c.tc : Thread Cert.InpNextReferenceIdeal.nD Cert.InpNextReferenceIdeal.τ).loc Cert.InpNextReferenceIdeal.main_arg2)))) (m' ((c.tc : Thread Cert.InpNextReferenceIdeal.nD Cert.InpNextReferenceIdeal.τ).loc Cert.InpNextReferenceIdeal.main_arg4))) (Cert.InpReferenceIdeal.Hand.refA (m' ((c.tc : Thread Cert.InpNextReferenceIdeal.nD Cert.InpNextReferenceIdeal.τ).loc Cert.InpNextReferenceIdeal.main_arg1)))) := (h c).2.2.2.1
    have r4 : r.2.mem ((c.tc : Thread Cert.InpNextReferenceIdeal.nD Cert.InpNextReferenceIdeal.τ).loc Cert.InpNextReferenceIdeal.main_v107) = Cert.InpReferenceIdeal.Hand.refV (F := Ideal) (Cert.InpReferenceIdeal.Hand.refP (m' ((c.tc : Thread Cert.InpNextReferenceIdeal.nD Cert.InpNextReferenceIdeal.τ).loc Cert.InpNextReferenceIdeal.main_arg0)) (m' ((c.tc : Thread Cert.InpNextReferenceIdeal.nD Cert.InpNextReferenceIdeal.τ).loc Cert.InpNextReferenceIdeal.main_arg2))) := (h c).2.2.2.2.1
    rw [hP] at r0 r1 r4
    rw [hQ] at r2
    rw [hK] at r3
    exact ⟨r0, r1, r2, r3, r4, (h c).2.2.2.2.2⟩

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts,
  Cert.Mix.Gen.facts, Cert.MixIdeal.Gen.facts, Cert.MixReferenceIdeal.Gen.facts, Cert.Inp.Gen.facts, Cert.InpIdeal.Gen.facts, Cert.InpReferenceIdeal.Gen.facts, Cert.InpNext.Gen.facts, Cert.InpNextIdeal.Gen.facts, Cert.InpNextReferenceIdeal.Gen.facts, Cert.NextKernel.Gen.facts, Cert.NextKernelIdeal.Gen.facts, Cert.NextReferenceIdeal.Gen.facts, Cert.MixNext.Gen.facts, Cert.MixNextIdeal.Gen.facts, Cert.MixNextReferenceIdeal.Gen.facts, Cert.Pre_finite.Gen.facts, Cert.Pre_inp_finite.Gen.facts, Cert.Pre_inp_next_finite.Gen.facts,
  Cert.Kernel.Hand.kept, fun m g _ => Cert.KernelIdeal.Hand.kept m g, fun m g _ => Cert.KernelIdeal.Hand.kept m g,
  reference_kept, fun m g _ => reference_kept m g trivial,
  fun m g _ => Cert.Ffn.Gen.frame m g, fun m g _ => Cert.FfnIdeal.Gen.frame m g, ffn_reference_kept,
  fun m g _ => Cert.Mix.Gen.frame m g, fun m g _ => Cert.MixIdeal.Gen.frame m g, mix_reference_kept,
  fun m g _ => Cert.Inp.Gen.frame m g, fun m g _ => Cert.InpIdeal.Gen.frame m g, fun m g _ => Cert.InpIdeal.Gen.frame m g, inp_reference_kept, fun m g _ => inp_reference_kept m g trivial,
  fun m g _ => Cert.InpNext.Gen.frame m g, fun m g _ => Cert.InpNextIdeal.Gen.frame m g, fun m g _ => Cert.InpNextIdeal.Gen.frame m g, inp_next_reference_kept, fun m g _ => inp_next_reference_kept m g trivial,
  Cert.NextKernel.Hand.kept, fun m g _ => Cert.NextKernelIdeal.Hand.kept m g, fun m g _ => Cert.NextKernelIdeal.Hand.kept m g, next_reference_kept, fun m g _ => next_reference_kept m g trivial,
  fun m g _ => Cert.MixNext.Gen.frame m g, fun m g _ => Cert.MixNextIdeal.Gen.frame m g, mix_next_reference_kept,
  trivial, same_result, trivial, ffn_same_result, trivial, mix_same_result, trivial, inp_same_result, trivial, inp_next_same_result, trivial, next_same_result, trivial, mix_next_same_result⟩

end Cert.Proof

end
